-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_SguMix (m : (ℓ : Loc Cert.SguMix.nD Cert.SguMix.τ Cert.SguMix.sig) → Buf (Elt Bits) ℓ) : Prop :=
  True

def Pre_SguMixIdeal (m : (ℓ : Loc Cert.SguMixIdeal.nD Cert.SguMixIdeal.τ Cert.SguMixIdeal.sig) → Buf (Elt Ideal) ℓ) : Prop :=
  True

def Pre_SguMixIdeal_sgu_finite [hPre_sgu_finite : Cert.Pre_sgu_finite.Facts] (m : (ℓ : Loc Cert.SguMixIdeal.nD Cert.SguMixIdeal.τ Cert.SguMixIdeal.sig) → Buf (Elt Ideal) ℓ) : Prop :=
  ∀ c : Dev Cert.SguMixIdeal.nD,
    (Cert.Pre_sgu_finite.fn (F := Ideal) (m ((c.tc : Thread Cert.SguMixIdeal.nD Cert.SguMixIdeal.τ).loc Cert.SguMixIdeal.main_arg0)) (m ((c.tc : Thread Cert.SguMixIdeal.nD Cert.SguMixIdeal.τ).loc Cert.SguMixIdeal.main_arg1)) (m ((c.tc : Thread Cert.SguMixIdeal.nD Cert.SguMixIdeal.τ).loc Cert.SguMixIdeal.main_arg2)) (m ((c.tc : Thread Cert.SguMixIdeal.nD Cert.SguMixIdeal.τ).loc Cert.SguMixIdeal.main_arg3)) (m ((c.tc : Thread Cert.SguMixIdeal.nD Cert.SguMixIdeal.τ).loc Cert.SguMixIdeal.main_arg4)) (m ((c.tc : Thread Cert.SguMixIdeal.nD Cert.SguMixIdeal.τ).loc Cert.SguMixIdeal.main_arg5)) (m ((c.tc : Thread Cert.SguMixIdeal.nD Cert.SguMixIdeal.τ).loc Cert.SguMixIdeal.main_arg6)) (m ((c.tc : Thread Cert.SguMixIdeal.nD Cert.SguMixIdeal.τ).loc Cert.SguMixIdeal.main_arg7))).1 = (fun _ => 1#1)
    ∧ (Cert.Pre_sgu_finite.fn (F := Ideal) (m ((c.tc : Thread Cert.SguMixIdeal.nD Cert.SguMixIdeal.τ).loc Cert.SguMixIdeal.main_arg0)) (m ((c.tc : Thread Cert.SguMixIdeal.nD Cert.SguMixIdeal.τ).loc Cert.SguMixIdeal.main_arg1)) (m ((c.tc : Thread Cert.SguMixIdeal.nD Cert.SguMixIdeal.τ).loc Cert.SguMixIdeal.main_arg2)) (m ((c.tc : Thread Cert.SguMixIdeal.nD Cert.SguMixIdeal.τ).loc Cert.SguMixIdeal.main_arg3)) (m ((c.tc : Thread Cert.SguMixIdeal.nD Cert.SguMixIdeal.τ).loc Cert.SguMixIdeal.main_arg4)) (m ((c.tc : Thread Cert.SguMixIdeal.nD Cert.SguMixIdeal.τ).loc Cert.SguMixIdeal.main_arg5)) (m ((c.tc : Thread Cert.SguMixIdeal.nD Cert.SguMixIdeal.τ).loc Cert.SguMixIdeal.main_arg6)) (m ((c.tc : Thread Cert.SguMixIdeal.nD Cert.SguMixIdeal.τ).loc Cert.SguMixIdeal.main_arg7))).2.1 = (fun _ => 1#1)
    ∧ (Cert.Pre_sgu_finite.fn (F := Ideal) (m ((c.tc : Thread Cert.SguMixIdeal.nD Cert.SguMixIdeal.τ).loc Cert.SguMixIdeal.main_arg0)) (m ((c.tc : Thread Cert.SguMixIdeal.nD Cert.SguMixIdeal.τ).loc Cert.SguMixIdeal.main_arg1)) (m ((c.tc : Thread Cert.SguMixIdeal.nD Cert.SguMixIdeal.τ).loc Cert.SguMixIdeal.main_arg2)) (m ((c.tc : Thread Cert.SguMixIdeal.nD Cert.SguMixIdeal.τ).loc Cert.SguMixIdeal.main_arg3)) (m ((c.tc : Thread Cert.SguMixIdeal.nD Cert.SguMixIdeal.τ).loc Cert.SguMixIdeal.main_arg4)) (m ((c.tc : Thread Cert.SguMixIdeal.nD Cert.SguMixIdeal.τ).loc Cert.SguMixIdeal.main_arg5)) (m ((c.tc : Thread Cert.SguMixIdeal.nD Cert.SguMixIdeal.τ).loc Cert.SguMixIdeal.main_arg6)) (m ((c.tc : Thread Cert.SguMixIdeal.nD Cert.SguMixIdeal.τ).loc Cert.SguMixIdeal.main_arg7))).2.2.1 = (fun _ => 1#1)
    ∧ (Cert.Pre_sgu_finite.fn (F := Ideal) (m ((c.tc : Thread Cert.SguMixIdeal.nD Cert.SguMixIdeal.τ).loc Cert.SguMixIdeal.main_arg0)) (m ((c.tc : Thread Cert.SguMixIdeal.nD Cert.SguMixIdeal.τ).loc Cert.SguMixIdeal.main_arg1)) (m ((c.tc : Thread Cert.SguMixIdeal.nD Cert.SguMixIdeal.τ).loc Cert.SguMixIdeal.main_arg2)) (m ((c.tc : Thread Cert.SguMixIdeal.nD Cert.SguMixIdeal.τ).loc Cert.SguMixIdeal.main_arg3)) (m ((c.tc : Thread Cert.SguMixIdeal.nD Cert.SguMixIdeal.τ).loc Cert.SguMixIdeal.main_arg4)) (m ((c.tc : Thread Cert.SguMixIdeal.nD Cert.SguMixIdeal.τ).loc Cert.SguMixIdeal.main_arg5)) (m ((c.tc : Thread Cert.SguMixIdeal.nD Cert.SguMixIdeal.τ).loc Cert.SguMixIdeal.main_arg6)) (m ((c.tc : Thread Cert.SguMixIdeal.nD Cert.SguMixIdeal.τ).loc Cert.SguMixIdeal.main_arg7))).2.2.2.1 = (fun _ => 1#1)
    ∧ (Cert.Pre_sgu_finite.fn (F := Ideal) (m ((c.tc : Thread Cert.SguMixIdeal.nD Cert.SguMixIdeal.τ).loc Cert.SguMixIdeal.main_arg0)) (m ((c.tc : Thread Cert.SguMixIdeal.nD Cert.SguMixIdeal.τ).loc Cert.SguMixIdeal.main_arg1)) (m ((c.tc : Thread Cert.SguMixIdeal.nD Cert.SguMixIdeal.τ).loc Cert.SguMixIdeal.main_arg2)) (m ((c.tc : Thread Cert.SguMixIdeal.nD Cert.SguMixIdeal.τ).loc Cert.SguMixIdeal.main_arg3)) (m ((c.tc : Thread Cert.SguMixIdeal.nD Cert.SguMixIdeal.τ).loc Cert.SguMixIdeal.main_arg4)) (m ((c.tc : Thread Cert.SguMixIdeal.nD Cert.SguMixIdeal.τ).loc Cert.SguMixIdeal.main_arg5)) (m ((c.tc : Thread Cert.SguMixIdeal.nD Cert.SguMixIdeal.τ).loc Cert.SguMixIdeal.main_arg6)) (m ((c.tc : Thread Cert.SguMixIdeal.nD Cert.SguMixIdeal.τ).loc Cert.SguMixIdeal.main_arg7))).2.2.2.2.1 = (fun _ => 1#1)
    ∧ (Cert.Pre_sgu_finite.fn (F := Ideal) (m ((c.tc : Thread Cert.SguMixIdeal.nD Cert.SguMixIdeal.τ).loc Cert.SguMixIdeal.main_arg0)) (m ((c.tc : Thread Cert.SguMixIdeal.nD Cert.SguMixIdeal.τ).loc Cert.SguMixIdeal.main_arg1)) (m ((c.tc : Thread Cert.SguMixIdeal.nD Cert.SguMixIdeal.τ).loc Cert.SguMixIdeal.main_arg2)) (m ((c.tc : Thread Cert.SguMixIdeal.nD Cert.SguMixIdeal.τ).loc Cert.SguMixIdeal.main_arg3)) (m ((c.tc : Thread Cert.SguMixIdeal.nD Cert.SguMixIdeal.τ).loc Cert.SguMixIdeal.main_arg4)) (m ((c.tc : Thread Cert.SguMixIdeal.nD Cert.SguMixIdeal.τ).loc Cert.SguMixIdeal.main_arg5)) (m ((c.tc : Thread Cert.SguMixIdeal.nD Cert.SguMixIdeal.τ).loc Cert.SguMixIdeal.main_arg6)) (m ((c.tc : Thread Cert.SguMixIdeal.nD Cert.SguMixIdeal.τ).loc Cert.SguMixIdeal.main_arg7))).2.2.2.2.2.1 = (fun _ => 1#1)
    ∧ (Cert.Pre_sgu_finite.fn (F := Ideal) (m ((c.tc : Thread Cert.SguMixIdeal.nD Cert.SguMixIdeal.τ).loc Cert.SguMixIdeal.main_arg0)) (m ((c.tc : Thread Cert.SguMixIdeal.nD Cert.SguMixIdeal.τ).loc Cert.SguMixIdeal.main_arg1)) (m ((c.tc : Thread Cert.SguMixIdeal.nD Cert.SguMixIdeal.τ).loc Cert.SguMixIdeal.main_arg2)) (m ((c.tc : Thread Cert.SguMixIdeal.nD Cert.SguMixIdeal.τ).loc Cert.SguMixIdeal.main_arg3)) (m ((c.tc : Thread Cert.SguMixIdeal.nD Cert.SguMixIdeal.τ).loc Cert.SguMixIdeal.main_arg4)) (m ((c.tc : Thread Cert.SguMixIdeal.nD Cert.SguMixIdeal.τ).loc Cert.SguMixIdeal.main_arg5)) (m ((c.tc : Thread Cert.SguMixIdeal.nD Cert.SguMixIdeal.τ).loc Cert.SguMixIdeal.main_arg6)) (m ((c.tc : Thread Cert.SguMixIdeal.nD Cert.SguMixIdeal.τ).loc Cert.SguMixIdeal.main_arg7))).2.2.2.2.2.2.1 = (fun _ => 1#1)
    ∧ (Cert.Pre_sgu_finite.fn (F := Ideal) (m ((c.tc : Thread Cert.SguMixIdeal.nD Cert.SguMixIdeal.τ).loc Cert.SguMixIdeal.main_arg0)) (m ((c.tc : Thread Cert.SguMixIdeal.nD Cert.SguMixIdeal.τ).loc Cert.SguMixIdeal.main_arg1)) (m ((c.tc : Thread Cert.SguMixIdeal.nD Cert.SguMixIdeal.τ).loc Cert.SguMixIdeal.main_arg2)) (m ((c.tc : Thread Cert.SguMixIdeal.nD Cert.SguMixIdeal.τ).loc Cert.SguMixIdeal.main_arg3)) (m ((c.tc : Thread Cert.SguMixIdeal.nD Cert.SguMixIdeal.τ).loc Cert.SguMixIdeal.main_arg4)) (m ((c.tc : Thread Cert.SguMixIdeal.nD Cert.SguMixIdeal.τ).loc Cert.SguMixIdeal.main_arg5)) (m ((c.tc : Thread Cert.SguMixIdeal.nD Cert.SguMixIdeal.τ).loc Cert.SguMixIdeal.main_arg6)) (m ((c.tc : Thread Cert.SguMixIdeal.nD Cert.SguMixIdeal.τ).loc Cert.SguMixIdeal.main_arg7))).2.2.2.2.2.2.2 = (fun _ => 1#1)

def Pre_SguMixReferenceIdeal (m : (ℓ : Loc Cert.SguMixReferenceIdeal.nD Cert.SguMixReferenceIdeal.τ Cert.SguMixReferenceIdeal.sig) → Buf (Elt Ideal) ℓ) : Prop :=
  True

def Pre_SguMixReferenceIdeal_sgu_finite [hPre_sgu_finite : Cert.Pre_sgu_finite.Facts] (m : (ℓ : Loc Cert.SguMixReferenceIdeal.nD Cert.SguMixReferenceIdeal.τ Cert.SguMixReferenceIdeal.sig) → Buf (Elt Ideal) ℓ) : Prop :=
  ∀ c : Dev Cert.SguMixReferenceIdeal.nD,
    (Cert.Pre_sgu_finite.fn (F := Ideal) (m ((c.tc : Thread Cert.SguMixReferenceIdeal.nD Cert.SguMixReferenceIdeal.τ).loc Cert.SguMixReferenceIdeal.main_arg0)) (m ((c.tc : Thread Cert.SguMixReferenceIdeal.nD Cert.SguMixReferenceIdeal.τ).loc Cert.SguMixReferenceIdeal.main_arg1)) (m ((c.tc : Thread Cert.SguMixReferenceIdeal.nD Cert.SguMixReferenceIdeal.τ).loc Cert.SguMixReferenceIdeal.main_arg2)) (m ((c.tc : Thread Cert.SguMixReferenceIdeal.nD Cert.SguMixReferenceIdeal.τ).loc Cert.SguMixReferenceIdeal.main_arg3)) (m ((c.tc : Thread Cert.SguMixReferenceIdeal.nD Cert.SguMixReferenceIdeal.τ).loc Cert.SguMixReferenceIdeal.main_arg4)) (m ((c.tc : Thread Cert.SguMixReferenceIdeal.nD Cert.SguMixReferenceIdeal.τ).loc Cert.SguMixReferenceIdeal.main_arg5)) (m ((c.tc : Thread Cert.SguMixReferenceIdeal.nD Cert.SguMixReferenceIdeal.τ).loc Cert.SguMixReferenceIdeal.main_arg6)) (m ((c.tc : Thread Cert.SguMixReferenceIdeal.nD Cert.SguMixReferenceIdeal.τ).loc Cert.SguMixReferenceIdeal.main_arg7))).1 = (fun _ => 1#1)
    ∧ (Cert.Pre_sgu_finite.fn (F := Ideal) (m ((c.tc : Thread Cert.SguMixReferenceIdeal.nD Cert.SguMixReferenceIdeal.τ).loc Cert.SguMixReferenceIdeal.main_arg0)) (m ((c.tc : Thread Cert.SguMixReferenceIdeal.nD Cert.SguMixReferenceIdeal.τ).loc Cert.SguMixReferenceIdeal.main_arg1)) (m ((c.tc : Thread Cert.SguMixReferenceIdeal.nD Cert.SguMixReferenceIdeal.τ).loc Cert.SguMixReferenceIdeal.main_arg2)) (m ((c.tc : Thread Cert.SguMixReferenceIdeal.nD Cert.SguMixReferenceIdeal.τ).loc Cert.SguMixReferenceIdeal.main_arg3)) (m ((c.tc : Thread Cert.SguMixReferenceIdeal.nD Cert.SguMixReferenceIdeal.τ).loc Cert.SguMixReferenceIdeal.main_arg4)) (m ((c.tc : Thread Cert.SguMixReferenceIdeal.nD Cert.SguMixReferenceIdeal.τ).loc Cert.SguMixReferenceIdeal.main_arg5)) (m ((c.tc : Thread Cert.SguMixReferenceIdeal.nD Cert.SguMixReferenceIdeal.τ).loc Cert.SguMixReferenceIdeal.main_arg6)) (m ((c.tc : Thread Cert.SguMixReferenceIdeal.nD Cert.SguMixReferenceIdeal.τ).loc Cert.SguMixReferenceIdeal.main_arg7))).2.1 = (fun _ => 1#1)
    ∧ (Cert.Pre_sgu_finite.fn (F := Ideal) (m ((c.tc : Thread Cert.SguMixReferenceIdeal.nD Cert.SguMixReferenceIdeal.τ).loc Cert.SguMixReferenceIdeal.main_arg0)) (m ((c.tc : Thread Cert.SguMixReferenceIdeal.nD Cert.SguMixReferenceIdeal.τ).loc Cert.SguMixReferenceIdeal.main_arg1)) (m ((c.tc : Thread Cert.SguMixReferenceIdeal.nD Cert.SguMixReferenceIdeal.τ).loc Cert.SguMixReferenceIdeal.main_arg2)) (m ((c.tc : Thread Cert.SguMixReferenceIdeal.nD Cert.SguMixReferenceIdeal.τ).loc Cert.SguMixReferenceIdeal.main_arg3)) (m ((c.tc : Thread Cert.SguMixReferenceIdeal.nD Cert.SguMixReferenceIdeal.τ).loc Cert.SguMixReferenceIdeal.main_arg4)) (m ((c.tc : Thread Cert.SguMixReferenceIdeal.nD Cert.SguMixReferenceIdeal.τ).loc Cert.SguMixReferenceIdeal.main_arg5)) (m ((c.tc : Thread Cert.SguMixReferenceIdeal.nD Cert.SguMixReferenceIdeal.τ).loc Cert.SguMixReferenceIdeal.main_arg6)) (m ((c.tc : Thread Cert.SguMixReferenceIdeal.nD Cert.SguMixReferenceIdeal.τ).loc Cert.SguMixReferenceIdeal.main_arg7))).2.2.1 = (fun _ => 1#1)
    ∧ (Cert.Pre_sgu_finite.fn (F := Ideal) (m ((c.tc : Thread Cert.SguMixReferenceIdeal.nD Cert.SguMixReferenceIdeal.τ).loc Cert.SguMixReferenceIdeal.main_arg0)) (m ((c.tc : Thread Cert.SguMixReferenceIdeal.nD Cert.SguMixReferenceIdeal.τ).loc Cert.SguMixReferenceIdeal.main_arg1)) (m ((c.tc : Thread Cert.SguMixReferenceIdeal.nD Cert.SguMixReferenceIdeal.τ).loc Cert.SguMixReferenceIdeal.main_arg2)) (m ((c.tc : Thread Cert.SguMixReferenceIdeal.nD Cert.SguMixReferenceIdeal.τ).loc Cert.SguMixReferenceIdeal.main_arg3)) (m ((c.tc : Thread Cert.SguMixReferenceIdeal.nD Cert.SguMixReferenceIdeal.τ).loc Cert.SguMixReferenceIdeal.main_arg4)) (m ((c.tc : Thread Cert.SguMixReferenceIdeal.nD Cert.SguMixReferenceIdeal.τ).loc Cert.SguMixReferenceIdeal.main_arg5)) (m ((c.tc : Thread Cert.SguMixReferenceIdeal.nD Cert.SguMixReferenceIdeal.τ).loc Cert.SguMixReferenceIdeal.main_arg6)) (m ((c.tc : Thread Cert.SguMixReferenceIdeal.nD Cert.SguMixReferenceIdeal.τ).loc Cert.SguMixReferenceIdeal.main_arg7))).2.2.2.1 = (fun _ => 1#1)
    ∧ (Cert.Pre_sgu_finite.fn (F := Ideal) (m ((c.tc : Thread Cert.SguMixReferenceIdeal.nD Cert.SguMixReferenceIdeal.τ).loc Cert.SguMixReferenceIdeal.main_arg0)) (m ((c.tc : Thread Cert.SguMixReferenceIdeal.nD Cert.SguMixReferenceIdeal.τ).loc Cert.SguMixReferenceIdeal.main_arg1)) (m ((c.tc : Thread Cert.SguMixReferenceIdeal.nD Cert.SguMixReferenceIdeal.τ).loc Cert.SguMixReferenceIdeal.main_arg2)) (m ((c.tc : Thread Cert.SguMixReferenceIdeal.nD Cert.SguMixReferenceIdeal.τ).loc Cert.SguMixReferenceIdeal.main_arg3)) (m ((c.tc : Thread Cert.SguMixReferenceIdeal.nD Cert.SguMixReferenceIdeal.τ).loc Cert.SguMixReferenceIdeal.main_arg4)) (m ((c.tc : Thread Cert.SguMixReferenceIdeal.nD Cert.SguMixReferenceIdeal.τ).loc Cert.SguMixReferenceIdeal.main_arg5)) (m ((c.tc : Thread Cert.SguMixReferenceIdeal.nD Cert.SguMixReferenceIdeal.τ).loc Cert.SguMixReferenceIdeal.main_arg6)) (m ((c.tc : Thread Cert.SguMixReferenceIdeal.nD Cert.SguMixReferenceIdeal.τ).loc Cert.SguMixReferenceIdeal.main_arg7))).2.2.2.2.1 = (fun _ => 1#1)
    ∧ (Cert.Pre_sgu_finite.fn (F := Ideal) (m ((c.tc : Thread Cert.SguMixReferenceIdeal.nD Cert.SguMixReferenceIdeal.τ).loc Cert.SguMixReferenceIdeal.main_arg0)) (m ((c.tc : Thread Cert.SguMixReferenceIdeal.nD Cert.SguMixReferenceIdeal.τ).loc Cert.SguMixReferenceIdeal.main_arg1)) (m ((c.tc : Thread Cert.SguMixReferenceIdeal.nD Cert.SguMixReferenceIdeal.τ).loc Cert.SguMixReferenceIdeal.main_arg2)) (m ((c.tc : Thread Cert.SguMixReferenceIdeal.nD Cert.SguMixReferenceIdeal.τ).loc Cert.SguMixReferenceIdeal.main_arg3)) (m ((c.tc : Thread Cert.SguMixReferenceIdeal.nD Cert.SguMixReferenceIdeal.τ).loc Cert.SguMixReferenceIdeal.main_arg4)) (m ((c.tc : Thread Cert.SguMixReferenceIdeal.nD Cert.SguMixReferenceIdeal.τ).loc Cert.SguMixReferenceIdeal.main_arg5)) (m ((c.tc : Thread Cert.SguMixReferenceIdeal.nD Cert.SguMixReferenceIdeal.τ).loc Cert.SguMixReferenceIdeal.main_arg6)) (m ((c.tc : Thread Cert.SguMixReferenceIdeal.nD Cert.SguMixReferenceIdeal.τ).loc Cert.SguMixReferenceIdeal.main_arg7))).2.2.2.2.2.1 = (fun _ => 1#1)
    ∧ (Cert.Pre_sgu_finite.fn (F := Ideal) (m ((c.tc : Thread Cert.SguMixReferenceIdeal.nD Cert.SguMixReferenceIdeal.τ).loc Cert.SguMixReferenceIdeal.main_arg0)) (m ((c.tc : Thread Cert.SguMixReferenceIdeal.nD Cert.SguMixReferenceIdeal.τ).loc Cert.SguMixReferenceIdeal.main_arg1)) (m ((c.tc : Thread Cert.SguMixReferenceIdeal.nD Cert.SguMixReferenceIdeal.τ).loc Cert.SguMixReferenceIdeal.main_arg2)) (m ((c.tc : Thread Cert.SguMixReferenceIdeal.nD Cert.SguMixReferenceIdeal.τ).loc Cert.SguMixReferenceIdeal.main_arg3)) (m ((c.tc : Thread Cert.SguMixReferenceIdeal.nD Cert.SguMixReferenceIdeal.τ).loc Cert.SguMixReferenceIdeal.main_arg4)) (m ((c.tc : Thread Cert.SguMixReferenceIdeal.nD Cert.SguMixReferenceIdeal.τ).loc Cert.SguMixReferenceIdeal.main_arg5)) (m ((c.tc : Thread Cert.SguMixReferenceIdeal.nD Cert.SguMixReferenceIdeal.τ).loc Cert.SguMixReferenceIdeal.main_arg6)) (m ((c.tc : Thread Cert.SguMixReferenceIdeal.nD Cert.SguMixReferenceIdeal.τ).loc Cert.SguMixReferenceIdeal.main_arg7))).2.2.2.2.2.2.1 = (fun _ => 1#1)
    ∧ (Cert.Pre_sgu_finite.fn (F := Ideal) (m ((c.tc : Thread Cert.SguMixReferenceIdeal.nD Cert.SguMixReferenceIdeal.τ).loc Cert.SguMixReferenceIdeal.main_arg0)) (m ((c.tc : Thread Cert.SguMixReferenceIdeal.nD Cert.SguMixReferenceIdeal.τ).loc Cert.SguMixReferenceIdeal.main_arg1)) (m ((c.tc : Thread Cert.SguMixReferenceIdeal.nD Cert.SguMixReferenceIdeal.τ).loc Cert.SguMixReferenceIdeal.main_arg2)) (m ((c.tc : Thread Cert.SguMixReferenceIdeal.nD Cert.SguMixReferenceIdeal.τ).loc Cert.SguMixReferenceIdeal.main_arg3)) (m ((c.tc : Thread Cert.SguMixReferenceIdeal.nD Cert.SguMixReferenceIdeal.τ).loc Cert.SguMixReferenceIdeal.main_arg4)) (m ((c.tc : Thread Cert.SguMixReferenceIdeal.nD Cert.SguMixReferenceIdeal.τ).loc Cert.SguMixReferenceIdeal.main_arg5)) (m ((c.tc : Thread Cert.SguMixReferenceIdeal.nD Cert.SguMixReferenceIdeal.τ).loc Cert.SguMixReferenceIdeal.main_arg6)) (m ((c.tc : Thread Cert.SguMixReferenceIdeal.nD Cert.SguMixReferenceIdeal.τ).loc Cert.SguMixReferenceIdeal.main_arg7))).2.2.2.2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.2.2 = (fun _ => 1#1)

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutIdeal_attn_out_finite [hPre_attn_out_finite : Cert.Pre_attn_out_finite.Facts] (m : (ℓ : Loc Cert.AttnOutIdeal.nD Cert.AttnOutIdeal.τ Cert.AttnOutIdeal.sig) → Buf (Elt Ideal) ℓ) : Prop :=
  ∀ c : Dev Cert.AttnOutIdeal.nD,
    (Cert.Pre_attn_out_finite.fn (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3)) (m ((c.tc : Thread Cert.AttnOutIdeal.nD Cert.AttnOutIdeal.τ).loc Cert.AttnOutIdeal.main_arg4))).1 = (fun _ => 1#1)
    ∧ (Cert.Pre_attn_out_finite.fn (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3)) (m ((c.tc : Thread Cert.AttnOutIdeal.nD Cert.AttnOutIdeal.τ).loc Cert.AttnOutIdeal.main_arg4))).2.1 = (fun _ => 1#1)
    ∧ (Cert.Pre_attn_out_finite.fn (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3)) (m ((c.tc : Thread Cert.AttnOutIdeal.nD Cert.AttnOutIdeal.τ).loc Cert.AttnOutIdeal.main_arg4))).2.2.1 = (fun _ => 1#1)
    ∧ (Cert.Pre_attn_out_finite.fn (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3)) (m ((c.tc : Thread Cert.AttnOutIdeal.nD Cert.AttnOutIdeal.τ).loc Cert.AttnOutIdeal.main_arg4))).2.2.2.1 = (fun _ => 1#1)
    ∧ (Cert.Pre_attn_out_finite.fn (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3)) (m ((c.tc : Thread Cert.AttnOutIdeal.nD Cert.AttnOutIdeal.τ).loc Cert.AttnOutIdeal.main_arg4))).2.2.2.2 = (fun _ => 1#1)

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_AttnOutReferenceIdeal_attn_out_finite [hPre_attn_out_finite : Cert.Pre_attn_out_finite.Facts] (m : (ℓ : Loc Cert.AttnOutReferenceIdeal.nD Cert.AttnOutReferenceIdeal.τ Cert.AttnOutReferenceIdeal.sig) → Buf (Elt Ideal) ℓ) : Prop :=
  ∀ c : Dev Cert.AttnOutReferenceIdeal.nD,
    (Cert.Pre_attn_out_finite.fn (F := Ideal) (m ((c.tc : Thread Cert.AttnOutReferenceIdeal.nD Cert.AttnOutReferenceIdeal.τ).loc Cert.AttnOutReferenceIdeal.main_arg0)) (m ((c.tc : Thread Cert.AttnOutReferenceIdeal.nD Cert.AttnOutReferenceIdeal.τ).loc Cert.AttnOutReferenceIdeal.main_arg1)) (m ((c.tc : Thread Cert.AttnOutReferenceIdeal.nD Cert.AttnOutReferenceIdeal.τ).loc Cert.AttnOutReferenceIdeal.main_arg2)) (m ((c.tc : Thread Cert.AttnOutReferenceIdeal.nD Cert.AttnOutReferenceIdeal.τ).loc Cert.AttnOutReferenceIdeal.main_arg3)) (m ((c.tc : Thread Cert.AttnOutReferenceIdeal.nD Cert.AttnOutReferenceIdeal.τ).loc Cert.AttnOutReferenceIdeal.main_arg4))).1 = (fun _ => 1#1)
    ∧ (Cert.Pre_attn_out_finite.fn (F := Ideal) (m ((c.tc : Thread Cert.AttnOutReferenceIdeal.nD Cert.AttnOutReferenceIdeal.τ).loc Cert.AttnOutReferenceIdeal.main_arg0)) (m ((c.tc : Thread Cert.AttnOutReferenceIdeal.nD Cert.AttnOutReferenceIdeal.τ).loc Cert.AttnOutReferenceIdeal.main_arg1)) (m ((c.tc : Thread Cert.AttnOutReferenceIdeal.nD Cert.AttnOutReferenceIdeal.τ).loc Cert.AttnOutReferenceIdeal.main_arg2)) (m ((c.tc : Thread Cert.AttnOutReferenceIdeal.nD Cert.AttnOutReferenceIdeal.τ).loc Cert.AttnOutReferenceIdeal.main_arg3)) (m ((c.tc : Thread Cert.AttnOutReferenceIdeal.nD Cert.AttnOutReferenceIdeal.τ).loc Cert.AttnOutReferenceIdeal.main_arg4))).2.1 = (fun _ => 1#1)
    ∧ (Cert.Pre_attn_out_finite.fn (F := Ideal) (m ((c.tc : Thread Cert.AttnOutReferenceIdeal.nD Cert.AttnOutReferenceIdeal.τ).loc Cert.AttnOutReferenceIdeal.main_arg0)) (m ((c.tc : Thread Cert.AttnOutReferenceIdeal.nD Cert.AttnOutReferenceIdeal.τ).loc Cert.AttnOutReferenceIdeal.main_arg1)) (m ((c.tc : Thread Cert.AttnOutReferenceIdeal.nD Cert.AttnOutReferenceIdeal.τ).loc Cert.AttnOutReferenceIdeal.main_arg2)) (m ((c.tc : Thread Cert.AttnOutReferenceIdeal.nD Cert.AttnOutReferenceIdeal.τ).loc Cert.AttnOutReferenceIdeal.main_arg3)) (m ((c.tc : Thread Cert.AttnOutReferenceIdeal.nD Cert.AttnOutReferenceIdeal.τ).loc Cert.AttnOutReferenceIdeal.main_arg4))).2.2.1 = (fun _ => 1#1)
    ∧ (Cert.Pre_attn_out_finite.fn (F := Ideal) (m ((c.tc : Thread Cert.AttnOutReferenceIdeal.nD Cert.AttnOutReferenceIdeal.τ).loc Cert.AttnOutReferenceIdeal.main_arg0)) (m ((c.tc : Thread Cert.AttnOutReferenceIdeal.nD Cert.AttnOutReferenceIdeal.τ).loc Cert.AttnOutReferenceIdeal.main_arg1)) (m ((c.tc : Thread Cert.AttnOutReferenceIdeal.nD Cert.AttnOutReferenceIdeal.τ).loc Cert.AttnOutReferenceIdeal.main_arg2)) (m ((c.tc : Thread Cert.AttnOutReferenceIdeal.nD Cert.AttnOutReferenceIdeal.τ).loc Cert.AttnOutReferenceIdeal.main_arg3)) (m ((c.tc : Thread Cert.AttnOutReferenceIdeal.nD Cert.AttnOutReferenceIdeal.τ).loc Cert.AttnOutReferenceIdeal.main_arg4))).2.2.2.1 = (fun _ => 1#1)
    ∧ (Cert.Pre_attn_out_finite.fn (F := Ideal) (m ((c.tc : Thread Cert.AttnOutReferenceIdeal.nD Cert.AttnOutReferenceIdeal.τ).loc Cert.AttnOutReferenceIdeal.main_arg0)) (m ((c.tc : Thread Cert.AttnOutReferenceIdeal.nD Cert.AttnOutReferenceIdeal.τ).loc Cert.AttnOutReferenceIdeal.main_arg1)) (m ((c.tc : Thread Cert.AttnOutReferenceIdeal.nD Cert.AttnOutReferenceIdeal.τ).loc Cert.AttnOutReferenceIdeal.main_arg2)) (m ((c.tc : Thread Cert.AttnOutReferenceIdeal.nD Cert.AttnOutReferenceIdeal.τ).loc Cert.AttnOutReferenceIdeal.main_arg3)) (m ((c.tc : Thread Cert.AttnOutReferenceIdeal.nD Cert.AttnOutReferenceIdeal.τ).loc Cert.AttnOutReferenceIdeal.main_arg4))).2.2.2.2 = (fun _ => 1#1)

def Pre_SguOut (m : (ℓ : Loc Cert.SguOut.nD Cert.SguOut.τ Cert.SguOut.sig) → Buf (Elt Bits) ℓ) : Prop :=
  True

def Pre_SguOutIdeal (m : (ℓ : Loc Cert.SguOutIdeal.nD Cert.SguOutIdeal.τ Cert.SguOutIdeal.sig) → Buf (Elt Ideal) ℓ) : Prop :=
  True

def Pre_SguOutIdeal_sgu_out_finite [hPre_sgu_out_finite : Cert.Pre_sgu_out_finite.Facts] (m : (ℓ : Loc Cert.SguOutIdeal.nD Cert.SguOutIdeal.τ Cert.SguOutIdeal.sig) → Buf (Elt Ideal) ℓ) : Prop :=
  ∀ c : Dev Cert.SguOutIdeal.nD,
    (Cert.Pre_sgu_out_finite.fn (F := Ideal) (m ((c.tc : Thread Cert.SguOutIdeal.nD Cert.SguOutIdeal.τ).loc Cert.SguOutIdeal.main_arg0)) (m ((c.tc : Thread Cert.SguOutIdeal.nD Cert.SguOutIdeal.τ).loc Cert.SguOutIdeal.main_arg1)) (m ((c.tc : Thread Cert.SguOutIdeal.nD Cert.SguOutIdeal.τ).loc Cert.SguOutIdeal.main_arg2)) (m ((c.tc : Thread Cert.SguOutIdeal.nD Cert.SguOutIdeal.τ).loc Cert.SguOutIdeal.main_arg3))).1 = (fun _ => 1#1)
    ∧ (Cert.Pre_sgu_out_finite.fn (F := Ideal) (m ((c.tc : Thread Cert.SguOutIdeal.nD Cert.SguOutIdeal.τ).loc Cert.SguOutIdeal.main_arg0)) (m ((c.tc : Thread Cert.SguOutIdeal.nD Cert.SguOutIdeal.τ).loc Cert.SguOutIdeal.main_arg1)) (m ((c.tc : Thread Cert.SguOutIdeal.nD Cert.SguOutIdeal.τ).loc Cert.SguOutIdeal.main_arg2)) (m ((c.tc : Thread Cert.SguOutIdeal.nD Cert.SguOutIdeal.τ).loc Cert.SguOutIdeal.main_arg3))).2.1 = (fun _ => 1#1)
    ∧ (Cert.Pre_sgu_out_finite.fn (F := Ideal) (m ((c.tc : Thread Cert.SguOutIdeal.nD Cert.SguOutIdeal.τ).loc Cert.SguOutIdeal.main_arg0)) (m ((c.tc : Thread Cert.SguOutIdeal.nD Cert.SguOutIdeal.τ).loc Cert.SguOutIdeal.main_arg1)) (m ((c.tc : Thread Cert.SguOutIdeal.nD Cert.SguOutIdeal.τ).loc Cert.SguOutIdeal.main_arg2)) (m ((c.tc : Thread Cert.SguOutIdeal.nD Cert.SguOutIdeal.τ).loc Cert.SguOutIdeal.main_arg3))).2.2.1 = (fun _ => 1#1)
    ∧ (Cert.Pre_sgu_out_finite.fn (F := Ideal) (m ((c.tc : Thread Cert.SguOutIdeal.nD Cert.SguOutIdeal.τ).loc Cert.SguOutIdeal.main_arg0)) (m ((c.tc : Thread Cert.SguOutIdeal.nD Cert.SguOutIdeal.τ).loc Cert.SguOutIdeal.main_arg1)) (m ((c.tc : Thread Cert.SguOutIdeal.nD Cert.SguOutIdeal.τ).loc Cert.SguOutIdeal.main_arg2)) (m ((c.tc : Thread Cert.SguOutIdeal.nD Cert.SguOutIdeal.τ).loc Cert.SguOutIdeal.main_arg3))).2.2.2 = (fun _ => 1#1)

def Pre_SguOutReferenceIdeal (m : (ℓ : Loc Cert.SguOutReferenceIdeal.nD Cert.SguOutReferenceIdeal.τ Cert.SguOutReferenceIdeal.sig) → Buf (Elt Ideal) ℓ) : Prop :=
  True

def Pre_SguOutReferenceIdeal_sgu_out_finite [hPre_sgu_out_finite : Cert.Pre_sgu_out_finite.Facts] (m : (ℓ : Loc Cert.SguOutReferenceIdeal.nD Cert.SguOutReferenceIdeal.τ Cert.SguOutReferenceIdeal.sig) → Buf (Elt Ideal) ℓ) : Prop :=
  ∀ c : Dev Cert.SguOutReferenceIdeal.nD,
    (Cert.Pre_sgu_out_finite.fn (F := Ideal) (m ((c.tc : Thread Cert.SguOutReferenceIdeal.nD Cert.SguOutReferenceIdeal.τ).loc Cert.SguOutReferenceIdeal.main_arg0)) (m ((c.tc : Thread Cert.SguOutReferenceIdeal.nD Cert.SguOutReferenceIdeal.τ).loc Cert.SguOutReferenceIdeal.main_arg1)) (m ((c.tc : Thread Cert.SguOutReferenceIdeal.nD Cert.SguOutReferenceIdeal.τ).loc Cert.SguOutReferenceIdeal.main_arg2)) (m ((c.tc : Thread Cert.SguOutReferenceIdeal.nD Cert.SguOutReferenceIdeal.τ).loc Cert.SguOutReferenceIdeal.main_arg3))).1 = (fun _ => 1#1)
    ∧ (Cert.Pre_sgu_out_finite.fn (F := Ideal) (m ((c.tc : Thread Cert.SguOutReferenceIdeal.nD Cert.SguOutReferenceIdeal.τ).loc Cert.SguOutReferenceIdeal.main_arg0)) (m ((c.tc : Thread Cert.SguOutReferenceIdeal.nD Cert.SguOutReferenceIdeal.τ).loc Cert.SguOutReferenceIdeal.main_arg1)) (m ((c.tc : Thread Cert.SguOutReferenceIdeal.nD Cert.SguOutReferenceIdeal.τ).loc Cert.SguOutReferenceIdeal.main_arg2)) (m ((c.tc : Thread Cert.SguOutReferenceIdeal.nD Cert.SguOutReferenceIdeal.τ).loc Cert.SguOutReferenceIdeal.main_arg3))).2.1 = (fun _ => 1#1)
    ∧ (Cert.Pre_sgu_out_finite.fn (F := Ideal) (m ((c.tc : Thread Cert.SguOutReferenceIdeal.nD Cert.SguOutReferenceIdeal.τ).loc Cert.SguOutReferenceIdeal.main_arg0)) (m ((c.tc : Thread Cert.SguOutReferenceIdeal.nD Cert.SguOutReferenceIdeal.τ).loc Cert.SguOutReferenceIdeal.main_arg1)) (m ((c.tc : Thread Cert.SguOutReferenceIdeal.nD Cert.SguOutReferenceIdeal.τ).loc Cert.SguOutReferenceIdeal.main_arg2)) (m ((c.tc : Thread Cert.SguOutReferenceIdeal.nD Cert.SguOutReferenceIdeal.τ).loc Cert.SguOutReferenceIdeal.main_arg3))).2.2.1 = (fun _ => 1#1)
    ∧ (Cert.Pre_sgu_out_finite.fn (F := Ideal) (m ((c.tc : Thread Cert.SguOutReferenceIdeal.nD Cert.SguOutReferenceIdeal.τ).loc Cert.SguOutReferenceIdeal.main_arg0)) (m ((c.tc : Thread Cert.SguOutReferenceIdeal.nD Cert.SguOutReferenceIdeal.τ).loc Cert.SguOutReferenceIdeal.main_arg1)) (m ((c.tc : Thread Cert.SguOutReferenceIdeal.nD Cert.SguOutReferenceIdeal.τ).loc Cert.SguOutReferenceIdeal.main_arg2)) (m ((c.tc : Thread Cert.SguOutReferenceIdeal.nD Cert.SguOutReferenceIdeal.τ).loc Cert.SguOutReferenceIdeal.main_arg3))).2.2.2 = (fun _ => 1#1)

def Pre_SguIn (m : (ℓ : Loc Cert.SguIn.nD Cert.SguIn.τ Cert.SguIn.sig) → Buf (Elt Bits) ℓ) : Prop :=
  True

def Pre_SguInIdeal (m : (ℓ : Loc Cert.SguInIdeal.nD Cert.SguInIdeal.τ Cert.SguInIdeal.sig) → Buf (Elt Ideal) ℓ) : Prop :=
  True

def Pre_SguInIdeal_sgu_in_finite [hPre_sgu_in_finite : Cert.Pre_sgu_in_finite.Facts] (m : (ℓ : Loc Cert.SguInIdeal.nD Cert.SguInIdeal.τ Cert.SguInIdeal.sig) → Buf (Elt Ideal) ℓ) : Prop :=
  ∀ c : Dev Cert.SguInIdeal.nD,
    (Cert.Pre_sgu_in_finite.fn (F := Ideal) (m ((c.tc : Thread Cert.SguInIdeal.nD Cert.SguInIdeal.τ).loc Cert.SguInIdeal.main_arg0)) (m ((c.tc : Thread Cert.SguInIdeal.nD Cert.SguInIdeal.τ).loc Cert.SguInIdeal.main_arg1)) (m ((c.tc : Thread Cert.SguInIdeal.nD Cert.SguInIdeal.τ).loc Cert.SguInIdeal.main_arg2)) (m ((c.tc : Thread Cert.SguInIdeal.nD Cert.SguInIdeal.τ).loc Cert.SguInIdeal.main_arg3)) (m ((c.tc : Thread Cert.SguInIdeal.nD Cert.SguInIdeal.τ).loc Cert.SguInIdeal.main_arg4))).1 = (fun _ => 1#1)
    ∧ (Cert.Pre_sgu_in_finite.fn (F := Ideal) (m ((c.tc : Thread Cert.SguInIdeal.nD Cert.SguInIdeal.τ).loc Cert.SguInIdeal.main_arg0)) (m ((c.tc : Thread Cert.SguInIdeal.nD Cert.SguInIdeal.τ).loc Cert.SguInIdeal.main_arg1)) (m ((c.tc : Thread Cert.SguInIdeal.nD Cert.SguInIdeal.τ).loc Cert.SguInIdeal.main_arg2)) (m ((c.tc : Thread Cert.SguInIdeal.nD Cert.SguInIdeal.τ).loc Cert.SguInIdeal.main_arg3)) (m ((c.tc : Thread Cert.SguInIdeal.nD Cert.SguInIdeal.τ).loc Cert.SguInIdeal.main_arg4))).2.1 = (fun _ => 1#1)
    ∧ (Cert.Pre_sgu_in_finite.fn (F := Ideal) (m ((c.tc : Thread Cert.SguInIdeal.nD Cert.SguInIdeal.τ).loc Cert.SguInIdeal.main_arg0)) (m ((c.tc : Thread Cert.SguInIdeal.nD Cert.SguInIdeal.τ).loc Cert.SguInIdeal.main_arg1)) (m ((c.tc : Thread Cert.SguInIdeal.nD Cert.SguInIdeal.τ).loc Cert.SguInIdeal.main_arg2)) (m ((c.tc : Thread Cert.SguInIdeal.nD Cert.SguInIdeal.τ).loc Cert.SguInIdeal.main_arg3)) (m ((c.tc : Thread Cert.SguInIdeal.nD Cert.SguInIdeal.τ).loc Cert.SguInIdeal.main_arg4))).2.2.1 = (fun _ => 1#1)
    ∧ (Cert.Pre_sgu_in_finite.fn (F := Ideal) (m ((c.tc : Thread Cert.SguInIdeal.nD Cert.SguInIdeal.τ).loc Cert.SguInIdeal.main_arg0)) (m ((c.tc : Thread Cert.SguInIdeal.nD Cert.SguInIdeal.τ).loc Cert.SguInIdeal.main_arg1)) (m ((c.tc : Thread Cert.SguInIdeal.nD Cert.SguInIdeal.τ).loc Cert.SguInIdeal.main_arg2)) (m ((c.tc : Thread Cert.SguInIdeal.nD Cert.SguInIdeal.τ).loc Cert.SguInIdeal.main_arg3)) (m ((c.tc : Thread Cert.SguInIdeal.nD Cert.SguInIdeal.τ).loc Cert.SguInIdeal.main_arg4))).2.2.2 = (fun _ => 1#1)

def Pre_SguInReferenceIdeal (m : (ℓ : Loc Cert.SguInReferenceIdeal.nD Cert.SguInReferenceIdeal.τ Cert.SguInReferenceIdeal.sig) → Buf (Elt Ideal) ℓ) : Prop :=
  True

def Pre_SguInReferenceIdeal_sgu_in_finite [hPre_sgu_in_finite : Cert.Pre_sgu_in_finite.Facts] (m : (ℓ : Loc Cert.SguInReferenceIdeal.nD Cert.SguInReferenceIdeal.τ Cert.SguInReferenceIdeal.sig) → Buf (Elt Ideal) ℓ) : Prop :=
  ∀ c : Dev Cert.SguInReferenceIdeal.nD,
    (Cert.Pre_sgu_in_finite.fn (F := Ideal) (m ((c.tc : Thread Cert.SguInReferenceIdeal.nD Cert.SguInReferenceIdeal.τ).loc Cert.SguInReferenceIdeal.main_arg0)) (m ((c.tc : Thread Cert.SguInReferenceIdeal.nD Cert.SguInReferenceIdeal.τ).loc Cert.SguInReferenceIdeal.main_arg1)) (m ((c.tc : Thread Cert.SguInReferenceIdeal.nD Cert.SguInReferenceIdeal.τ).loc Cert.SguInReferenceIdeal.main_arg2)) (m ((c.tc : Thread Cert.SguInReferenceIdeal.nD Cert.SguInReferenceIdeal.τ).loc Cert.SguInReferenceIdeal.main_arg3)) (m ((c.tc : Thread Cert.SguInReferenceIdeal.nD Cert.SguInReferenceIdeal.τ).loc Cert.SguInReferenceIdeal.main_arg4))).1 = (fun _ => 1#1)
    ∧ (Cert.Pre_sgu_in_finite.fn (F := Ideal) (m ((c.tc : Thread Cert.SguInReferenceIdeal.nD Cert.SguInReferenceIdeal.τ).loc Cert.SguInReferenceIdeal.main_arg0)) (m ((c.tc : Thread Cert.SguInReferenceIdeal.nD Cert.SguInReferenceIdeal.τ).loc Cert.SguInReferenceIdeal.main_arg1)) (m ((c.tc : Thread Cert.SguInReferenceIdeal.nD Cert.SguInReferenceIdeal.τ).loc Cert.SguInReferenceIdeal.main_arg2)) (m ((c.tc : Thread Cert.SguInReferenceIdeal.nD Cert.SguInReferenceIdeal.τ).loc Cert.SguInReferenceIdeal.main_arg3)) (m ((c.tc : Thread Cert.SguInReferenceIdeal.nD Cert.SguInReferenceIdeal.τ).loc Cert.SguInReferenceIdeal.main_arg4))).2.1 = (fun _ => 1#1)
    ∧ (Cert.Pre_sgu_in_finite.fn (F := Ideal) (m ((c.tc : Thread Cert.SguInReferenceIdeal.nD Cert.SguInReferenceIdeal.τ).loc Cert.SguInReferenceIdeal.main_arg0)) (m ((c.tc : Thread Cert.SguInReferenceIdeal.nD Cert.SguInReferenceIdeal.τ).loc Cert.SguInReferenceIdeal.main_arg1)) (m ((c.tc : Thread Cert.SguInReferenceIdeal.nD Cert.SguInReferenceIdeal.τ).loc Cert.SguInReferenceIdeal.main_arg2)) (m ((c.tc : Thread Cert.SguInReferenceIdeal.nD Cert.SguInReferenceIdeal.τ).loc Cert.SguInReferenceIdeal.main_arg3)) (m ((c.tc : Thread Cert.SguInReferenceIdeal.nD Cert.SguInReferenceIdeal.τ).loc Cert.SguInReferenceIdeal.main_arg4))).2.2.1 = (fun _ => 1#1)
    ∧ (Cert.Pre_sgu_in_finite.fn (F := Ideal) (m ((c.tc : Thread Cert.SguInReferenceIdeal.nD Cert.SguInReferenceIdeal.τ).loc Cert.SguInReferenceIdeal.main_arg0)) (m ((c.tc : Thread Cert.SguInReferenceIdeal.nD Cert.SguInReferenceIdeal.τ).loc Cert.SguInReferenceIdeal.main_arg1)) (m ((c.tc : Thread Cert.SguInReferenceIdeal.nD Cert.SguInReferenceIdeal.τ).loc Cert.SguInReferenceIdeal.main_arg2)) (m ((c.tc : Thread Cert.SguInReferenceIdeal.nD Cert.SguInReferenceIdeal.τ).loc Cert.SguInReferenceIdeal.main_arg3)) (m ((c.tc : Thread Cert.SguInReferenceIdeal.nD Cert.SguInReferenceIdeal.τ).loc Cert.SguInReferenceIdeal.main_arg4))).2.2.2 = (fun _ => 1#1)

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastIdeal_ffn_last_finite [hPre_ffn_last_finite : Cert.Pre_ffn_last_finite.Facts] (m : (ℓ : Loc Cert.FfnLastIdeal.nD Cert.FfnLastIdeal.τ Cert.FfnLastIdeal.sig) → Buf (Elt Ideal) ℓ) : Prop :=
  ∀ c : Dev Cert.FfnLastIdeal.nD,
    (Cert.Pre_ffn_last_finite.fn (F := Ideal) (m ((c.tc : Thread Cert.FfnLastIdeal.nD Cert.FfnLastIdeal.τ).loc Cert.FfnLastIdeal.main_arg0)) (m ((c.tc : Thread Cert.FfnLastIdeal.nD Cert.FfnLastIdeal.τ).loc Cert.FfnLastIdeal.main_arg1)) (m ((c.tc : Thread Cert.FfnLastIdeal.nD Cert.FfnLastIdeal.τ).loc Cert.FfnLastIdeal.main_arg2)) (m ((c.tc : Thread Cert.FfnLastIdeal.nD Cert.FfnLastIdeal.τ).loc Cert.FfnLastIdeal.main_arg3)) (m ((c.tc : Thread Cert.FfnLastIdeal.nD Cert.FfnLastIdeal.τ).loc Cert.FfnLastIdeal.main_arg4)) (m ((c.tc : Thread Cert.FfnLastIdeal.nD Cert.FfnLastIdeal.τ).loc Cert.FfnLastIdeal.main_arg5))).1 = (fun _ => 1#1)
    ∧ (Cert.Pre_ffn_last_finite.fn (F := Ideal) (m ((c.tc : Thread Cert.FfnLastIdeal.nD Cert.FfnLastIdeal.τ).loc Cert.FfnLastIdeal.main_arg0)) (m ((c.tc : Thread Cert.FfnLastIdeal.nD Cert.FfnLastIdeal.τ).loc Cert.FfnLastIdeal.main_arg1)) (m ((c.tc : Thread Cert.FfnLastIdeal.nD Cert.FfnLastIdeal.τ).loc Cert.FfnLastIdeal.main_arg2)) (m ((c.tc : Thread Cert.FfnLastIdeal.nD Cert.FfnLastIdeal.τ).loc Cert.FfnLastIdeal.main_arg3)) (m ((c.tc : Thread Cert.FfnLastIdeal.nD Cert.FfnLastIdeal.τ).loc Cert.FfnLastIdeal.main_arg4)) (m ((c.tc : Thread Cert.FfnLastIdeal.nD Cert.FfnLastIdeal.τ).loc Cert.FfnLastIdeal.main_arg5))).2.1 = (fun _ => 1#1)
    ∧ (Cert.Pre_ffn_last_finite.fn (F := Ideal) (m ((c.tc : Thread Cert.FfnLastIdeal.nD Cert.FfnLastIdeal.τ).loc Cert.FfnLastIdeal.main_arg0)) (m ((c.tc : Thread Cert.FfnLastIdeal.nD Cert.FfnLastIdeal.τ).loc Cert.FfnLastIdeal.main_arg1)) (m ((c.tc : Thread Cert.FfnLastIdeal.nD Cert.FfnLastIdeal.τ).loc Cert.FfnLastIdeal.main_arg2)) (m ((c.tc : Thread Cert.FfnLastIdeal.nD Cert.FfnLastIdeal.τ).loc Cert.FfnLastIdeal.main_arg3)) (m ((c.tc : Thread Cert.FfnLastIdeal.nD Cert.FfnLastIdeal.τ).loc Cert.FfnLastIdeal.main_arg4)) (m ((c.tc : Thread Cert.FfnLastIdeal.nD Cert.FfnLastIdeal.τ).loc Cert.FfnLastIdeal.main_arg5))).2.2.1 = (fun _ => 1#1)
    ∧ (Cert.Pre_ffn_last_finite.fn (F := Ideal) (m ((c.tc : Thread Cert.FfnLastIdeal.nD Cert.FfnLastIdeal.τ).loc Cert.FfnLastIdeal.main_arg0)) (m ((c.tc : Thread Cert.FfnLastIdeal.nD Cert.FfnLastIdeal.τ).loc Cert.FfnLastIdeal.main_arg1)) (m ((c.tc : Thread Cert.FfnLastIdeal.nD Cert.FfnLastIdeal.τ).loc Cert.FfnLastIdeal.main_arg2)) (m ((c.tc : Thread Cert.FfnLastIdeal.nD Cert.FfnLastIdeal.τ).loc Cert.FfnLastIdeal.main_arg3)) (m ((c.tc : Thread Cert.FfnLastIdeal.nD Cert.FfnLastIdeal.τ).loc Cert.FfnLastIdeal.main_arg4)) (m ((c.tc : Thread Cert.FfnLastIdeal.nD Cert.FfnLastIdeal.τ).loc Cert.FfnLastIdeal.main_arg5))).2.2.2.1 = (fun _ => 1#1)
    ∧ (Cert.Pre_ffn_last_finite.fn (F := Ideal) (m ((c.tc : Thread Cert.FfnLastIdeal.nD Cert.FfnLastIdeal.τ).loc Cert.FfnLastIdeal.main_arg0)) (m ((c.tc : Thread Cert.FfnLastIdeal.nD Cert.FfnLastIdeal.τ).loc Cert.FfnLastIdeal.main_arg1)) (m ((c.tc : Thread Cert.FfnLastIdeal.nD Cert.FfnLastIdeal.τ).loc Cert.FfnLastIdeal.main_arg2)) (m ((c.tc : Thread Cert.FfnLastIdeal.nD Cert.FfnLastIdeal.τ).loc Cert.FfnLastIdeal.main_arg3)) (m ((c.tc : Thread Cert.FfnLastIdeal.nD Cert.FfnLastIdeal.τ).loc Cert.FfnLastIdeal.main_arg4)) (m ((c.tc : Thread Cert.FfnLastIdeal.nD Cert.FfnLastIdeal.τ).loc Cert.FfnLastIdeal.main_arg5))).2.2.2.2.1 = (fun _ => 1#1)
    ∧ (Cert.Pre_ffn_last_finite.fn (F := Ideal) (m ((c.tc : Thread Cert.FfnLastIdeal.nD Cert.FfnLastIdeal.τ).loc Cert.FfnLastIdeal.main_arg0)) (m ((c.tc : Thread Cert.FfnLastIdeal.nD Cert.FfnLastIdeal.τ).loc Cert.FfnLastIdeal.main_arg1)) (m ((c.tc : Thread Cert.FfnLastIdeal.nD Cert.FfnLastIdeal.τ).loc Cert.FfnLastIdeal.main_arg2)) (m ((c.tc : Thread Cert.FfnLastIdeal.nD Cert.FfnLastIdeal.τ).loc Cert.FfnLastIdeal.main_arg3)) (m ((c.tc : Thread Cert.FfnLastIdeal.nD Cert.FfnLastIdeal.τ).loc Cert.FfnLastIdeal.main_arg4)) (m ((c.tc : Thread Cert.FfnLastIdeal.nD Cert.FfnLastIdeal.τ).loc Cert.FfnLastIdeal.main_arg5))).2.2.2.2.2 = (fun _ => 1#1)

def Pre_FfnLastReferenceIdeal (m : (ℓ : Loc Cert.FfnLastReferenceIdeal.nD Cert.FfnLastReferenceIdeal.τ Cert.FfnLastReferenceIdeal.sig) → Buf (Elt Ideal) ℓ) : Prop :=
  True

def Pre_FfnLastReferenceIdeal_ffn_last_finite [hPre_ffn_last_finite : Cert.Pre_ffn_last_finite.Facts] (m : (ℓ : Loc Cert.FfnLastReferenceIdeal.nD Cert.FfnLastReferenceIdeal.τ Cert.FfnLastReferenceIdeal.sig) → Buf (Elt Ideal) ℓ) : Prop :=
  ∀ c : Dev Cert.FfnLastReferenceIdeal.nD,
    (Cert.Pre_ffn_last_finite.fn (F := Ideal) (m ((c.tc : Thread Cert.FfnLastReferenceIdeal.nD Cert.FfnLastReferenceIdeal.τ).loc Cert.FfnLastReferenceIdeal.main_arg0)) (m ((c.tc : Thread Cert.FfnLastReferenceIdeal.nD Cert.FfnLastReferenceIdeal.τ).loc Cert.FfnLastReferenceIdeal.main_arg1)) (m ((c.tc : Thread Cert.FfnLastReferenceIdeal.nD Cert.FfnLastReferenceIdeal.τ).loc Cert.FfnLastReferenceIdeal.main_arg2)) (m ((c.tc : Thread Cert.FfnLastReferenceIdeal.nD Cert.FfnLastReferenceIdeal.τ).loc Cert.FfnLastReferenceIdeal.main_arg3)) (m ((c.tc : Thread Cert.FfnLastReferenceIdeal.nD Cert.FfnLastReferenceIdeal.τ).loc Cert.FfnLastReferenceIdeal.main_arg4)) (m ((c.tc : Thread Cert.FfnLastReferenceIdeal.nD Cert.FfnLastReferenceIdeal.τ).loc Cert.FfnLastReferenceIdeal.main_arg5))).1 = (fun _ => 1#1)
    ∧ (Cert.Pre_ffn_last_finite.fn (F := Ideal) (m ((c.tc : Thread Cert.FfnLastReferenceIdeal.nD Cert.FfnLastReferenceIdeal.τ).loc Cert.FfnLastReferenceIdeal.main_arg0)) (m ((c.tc : Thread Cert.FfnLastReferenceIdeal.nD Cert.FfnLastReferenceIdeal.τ).loc Cert.FfnLastReferenceIdeal.main_arg1)) (m ((c.tc : Thread Cert.FfnLastReferenceIdeal.nD Cert.FfnLastReferenceIdeal.τ).loc Cert.FfnLastReferenceIdeal.main_arg2)) (m ((c.tc : Thread Cert.FfnLastReferenceIdeal.nD Cert.FfnLastReferenceIdeal.τ).loc Cert.FfnLastReferenceIdeal.main_arg3)) (m ((c.tc : Thread Cert.FfnLastReferenceIdeal.nD Cert.FfnLastReferenceIdeal.τ).loc Cert.FfnLastReferenceIdeal.main_arg4)) (m ((c.tc : Thread Cert.FfnLastReferenceIdeal.nD Cert.FfnLastReferenceIdeal.τ).loc Cert.FfnLastReferenceIdeal.main_arg5))).2.1 = (fun _ => 1#1)
    ∧ (Cert.Pre_ffn_last_finite.fn (F := Ideal) (m ((c.tc : Thread Cert.FfnLastReferenceIdeal.nD Cert.FfnLastReferenceIdeal.τ).loc Cert.FfnLastReferenceIdeal.main_arg0)) (m ((c.tc : Thread Cert.FfnLastReferenceIdeal.nD Cert.FfnLastReferenceIdeal.τ).loc Cert.FfnLastReferenceIdeal.main_arg1)) (m ((c.tc : Thread Cert.FfnLastReferenceIdeal.nD Cert.FfnLastReferenceIdeal.τ).loc Cert.FfnLastReferenceIdeal.main_arg2)) (m ((c.tc : Thread Cert.FfnLastReferenceIdeal.nD Cert.FfnLastReferenceIdeal.τ).loc Cert.FfnLastReferenceIdeal.main_arg3)) (m ((c.tc : Thread Cert.FfnLastReferenceIdeal.nD Cert.FfnLastReferenceIdeal.τ).loc Cert.FfnLastReferenceIdeal.main_arg4)) (m ((c.tc : Thread Cert.FfnLastReferenceIdeal.nD Cert.FfnLastReferenceIdeal.τ).loc Cert.FfnLastReferenceIdeal.main_arg5))).2.2.1 = (fun _ => 1#1)
    ∧ (Cert.Pre_ffn_last_finite.fn (F := Ideal) (m ((c.tc : Thread Cert.FfnLastReferenceIdeal.nD Cert.FfnLastReferenceIdeal.τ).loc Cert.FfnLastReferenceIdeal.main_arg0)) (m ((c.tc : Thread Cert.FfnLastReferenceIdeal.nD Cert.FfnLastReferenceIdeal.τ).loc Cert.FfnLastReferenceIdeal.main_arg1)) (m ((c.tc : Thread Cert.FfnLastReferenceIdeal.nD Cert.FfnLastReferenceIdeal.τ).loc Cert.FfnLastReferenceIdeal.main_arg2)) (m ((c.tc : Thread Cert.FfnLastReferenceIdeal.nD Cert.FfnLastReferenceIdeal.τ).loc Cert.FfnLastReferenceIdeal.main_arg3)) (m ((c.tc : Thread Cert.FfnLastReferenceIdeal.nD Cert.FfnLastReferenceIdeal.τ).loc Cert.FfnLastReferenceIdeal.main_arg4)) (m ((c.tc : Thread Cert.FfnLastReferenceIdeal.nD Cert.FfnLastReferenceIdeal.τ).loc Cert.FfnLastReferenceIdeal.main_arg5))).2.2.2.1 = (fun _ => 1#1)
    ∧ (Cert.Pre_ffn_last_finite.fn (F := Ideal) (m ((c.tc : Thread Cert.FfnLastReferenceIdeal.nD Cert.FfnLastReferenceIdeal.τ).loc Cert.FfnLastReferenceIdeal.main_arg0)) (m ((c.tc : Thread Cert.FfnLastReferenceIdeal.nD Cert.FfnLastReferenceIdeal.τ).loc Cert.FfnLastReferenceIdeal.main_arg1)) (m ((c.tc : Thread Cert.FfnLastReferenceIdeal.nD Cert.FfnLastReferenceIdeal.τ).loc Cert.FfnLastReferenceIdeal.main_arg2)) (m ((c.tc : Thread Cert.FfnLastReferenceIdeal.nD Cert.FfnLastReferenceIdeal.τ).loc Cert.FfnLastReferenceIdeal.main_arg3)) (m ((c.tc : Thread Cert.FfnLastReferenceIdeal.nD Cert.FfnLastReferenceIdeal.τ).loc Cert.FfnLastReferenceIdeal.main_arg4)) (m ((c.tc : Thread Cert.FfnLastReferenceIdeal.nD Cert.FfnLastReferenceIdeal.τ).loc Cert.FfnLastReferenceIdeal.main_arg5))).2.2.2.2.1 = (fun _ => 1#1)
    ∧ (Cert.Pre_ffn_last_finite.fn (F := Ideal) (m ((c.tc : Thread Cert.FfnLastReferenceIdeal.nD Cert.FfnLastReferenceIdeal.τ).loc Cert.FfnLastReferenceIdeal.main_arg0)) (m ((c.tc : Thread Cert.FfnLastReferenceIdeal.nD Cert.FfnLastReferenceIdeal.τ).loc Cert.FfnLastReferenceIdeal.main_arg1)) (m ((c.tc : Thread Cert.FfnLastReferenceIdeal.nD Cert.FfnLastReferenceIdeal.τ).loc Cert.FfnLastReferenceIdeal.main_arg2)) (m ((c.tc : Thread Cert.FfnLastReferenceIdeal.nD Cert.FfnLastReferenceIdeal.τ).loc Cert.FfnLastReferenceIdeal.main_arg3)) (m ((c.tc : Thread Cert.FfnLastReferenceIdeal.nD Cert.FfnLastReferenceIdeal.τ).loc Cert.FfnLastReferenceIdeal.main_arg4)) (m ((c.tc : Thread Cert.FfnLastReferenceIdeal.nD Cert.FfnLastReferenceIdeal.τ).loc Cert.FfnLastReferenceIdeal.main_arg5))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2.1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2.2.1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2.2.2 = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_attn_fwd_finite [hPre_attn_fwd_finite : Cert.Pre_attn_fwd_finite.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_attn_fwd_finite.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2)) (m ((c.tc : Thread Cert.AttnFwdReferenceIdeal.nD Cert.AttnFwdReferenceIdeal.τ).loc Cert.AttnFwdReferenceIdeal.main_arg3)) (m ((c.tc : Thread Cert.AttnFwdReferenceIdeal.nD Cert.AttnFwdReferenceIdeal.τ).loc Cert.AttnFwdReferenceIdeal.main_arg4))).1 = (fun _ => 1#1)
    ∧ (Cert.Pre_attn_fwd_finite.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2)) (m ((c.tc : Thread Cert.AttnFwdReferenceIdeal.nD Cert.AttnFwdReferenceIdeal.τ).loc Cert.AttnFwdReferenceIdeal.main_arg3)) (m ((c.tc : Thread Cert.AttnFwdReferenceIdeal.nD Cert.AttnFwdReferenceIdeal.τ).loc Cert.AttnFwdReferenceIdeal.main_arg4))).2.1 = (fun _ => 1#1)
    ∧ (Cert.Pre_attn_fwd_finite.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2)) (m ((c.tc : Thread Cert.AttnFwdReferenceIdeal.nD Cert.AttnFwdReferenceIdeal.τ).loc Cert.AttnFwdReferenceIdeal.main_arg3)) (m ((c.tc : Thread Cert.AttnFwdReferenceIdeal.nD Cert.AttnFwdReferenceIdeal.τ).loc Cert.AttnFwdReferenceIdeal.main_arg4))).2.2.1 = (fun _ => 1#1)
    ∧ (Cert.Pre_attn_fwd_finite.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2)) (m ((c.tc : Thread Cert.AttnFwdReferenceIdeal.nD Cert.AttnFwdReferenceIdeal.τ).loc Cert.AttnFwdReferenceIdeal.main_arg3)) (m ((c.tc : Thread Cert.AttnFwdReferenceIdeal.nD Cert.AttnFwdReferenceIdeal.τ).loc Cert.AttnFwdReferenceIdeal.main_arg4))).2.2.2.1 = (fun _ => 1#1)
    ∧ (Cert.Pre_attn_fwd_finite.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2)) (m ((c.tc : Thread Cert.AttnFwdReferenceIdeal.nD Cert.AttnFwdReferenceIdeal.τ).loc Cert.AttnFwdReferenceIdeal.main_arg3)) (m ((c.tc : Thread Cert.AttnFwdReferenceIdeal.nD Cert.AttnFwdReferenceIdeal.τ).loc Cert.AttnFwdReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_SguMix [hSguMix : Cert.SguMix.Facts] : Prop :=
  ∀ (m : (ℓ : Loc Cert.SguMix.nD Cert.SguMix.τ Cert.SguMix.sig) → Buf (Elt Bits) ℓ) (g : Dev Cert.SguMix.nD → PrngReg), Pre_SguMix m →
    θ_run (Cert.SguMix.defs (F := Bits)) (onTc (τ := Cert.SguMix.τ) (Cert.SguMix.main (F := Bits))) ⟨m, fun _ => 0, g⟩ (fun r => (∀ c : Dev Cert.SguMix.nD,
      r.2.mem ((c.tc : Thread Cert.SguMix.nD Cert.SguMix.τ).loc Cert.SguMix.main_arg0) = m ((c.tc : Thread Cert.SguMix.nD Cert.SguMix.τ).loc Cert.SguMix.main_arg0)
      ∧ r.2.mem ((c.tc : Thread Cert.SguMix.nD Cert.SguMix.τ).loc Cert.SguMix.main_arg1) = m ((c.tc : Thread Cert.SguMix.nD Cert.SguMix.τ).loc Cert.SguMix.main_arg1)
      ∧ r.2.mem ((c.tc : Thread Cert.SguMix.nD Cert.SguMix.τ).loc Cert.SguMix.main_arg2) = m ((c.tc : Thread Cert.SguMix.nD Cert.SguMix.τ).loc Cert.SguMix.main_arg2)
      ∧ r.2.mem ((c.tc : Thread Cert.SguMix.nD Cert.SguMix.τ).loc Cert.SguMix.main_arg3) = m ((c.tc : Thread Cert.SguMix.nD Cert.SguMix.τ).loc Cert.SguMix.main_arg3)
      ∧ r.2.mem ((c.tc : Thread Cert.SguMix.nD Cert.SguMix.τ).loc Cert.SguMix.main_arg4) = m ((c.tc : Thread Cert.SguMix.nD Cert.SguMix.τ).loc Cert.SguMix.main_arg4)
      ∧ r.2.mem ((c.tc : Thread Cert.SguMix.nD Cert.SguMix.τ).loc Cert.SguMix.main_arg5) = m ((c.tc : Thread Cert.SguMix.nD Cert.SguMix.τ).loc Cert.SguMix.main_arg5)
      ∧ r.2.mem ((c.tc : Thread Cert.SguMix.nD Cert.SguMix.τ).loc Cert.SguMix.main_arg6) = m ((c.tc : Thread Cert.SguMix.nD Cert.SguMix.τ).loc Cert.SguMix.main_arg6)
      ∧ r.2.mem ((c.tc : Thread Cert.SguMix.nD Cert.SguMix.τ).loc Cert.SguMix.main_arg7) = m ((c.tc : Thread Cert.SguMix.nD Cert.SguMix.τ).loc Cert.SguMix.main_arg7))
      ∧ r.2.sem = fun _ => 0)

def quiescent_SguMixIdeal [hSguMixIdeal : Cert.SguMixIdeal.Facts] : Prop :=
  ∀ (m : (ℓ : Loc Cert.SguMixIdeal.nD Cert.SguMixIdeal.τ Cert.SguMixIdeal.sig) → Buf (Elt Ideal) ℓ) (g : Dev Cert.SguMixIdeal.nD → PrngReg), Pre_SguMixIdeal m →
    θ_run (Cert.SguMixIdeal.defs (F := Ideal)) (onTc (τ := Cert.SguMixIdeal.τ) (Cert.SguMixIdeal.main (F := Ideal))) ⟨m, fun _ => 0, g⟩ (fun r => (∀ c : Dev Cert.SguMixIdeal.nD,
      r.2.mem ((c.tc : Thread Cert.SguMixIdeal.nD Cert.SguMixIdeal.τ).loc Cert.SguMixIdeal.main_arg0) = m ((c.tc : Thread Cert.SguMixIdeal.nD Cert.SguMixIdeal.τ).loc Cert.SguMixIdeal.main_arg0)
      ∧ r.2.mem ((c.tc : Thread Cert.SguMixIdeal.nD Cert.SguMixIdeal.τ).loc Cert.SguMixIdeal.main_arg1) = m ((c.tc : Thread Cert.SguMixIdeal.nD Cert.SguMixIdeal.τ).loc Cert.SguMixIdeal.main_arg1)
      ∧ r.2.mem ((c.tc : Thread Cert.SguMixIdeal.nD Cert.SguMixIdeal.τ).loc Cert.SguMixIdeal.main_arg2) = m ((c.tc : Thread Cert.SguMixIdeal.nD Cert.SguMixIdeal.τ).loc Cert.SguMixIdeal.main_arg2)
      ∧ r.2.mem ((c.tc : Thread Cert.SguMixIdeal.nD Cert.SguMixIdeal.τ).loc Cert.SguMixIdeal.main_arg3) = m ((c.tc : Thread Cert.SguMixIdeal.nD Cert.SguMixIdeal.τ).loc Cert.SguMixIdeal.main_arg3)
      ∧ r.2.mem ((c.tc : Thread Cert.SguMixIdeal.nD Cert.SguMixIdeal.τ).loc Cert.SguMixIdeal.main_arg4) = m ((c.tc : Thread Cert.SguMixIdeal.nD Cert.SguMixIdeal.τ).loc Cert.SguMixIdeal.main_arg4)
      ∧ r.2.mem ((c.tc : Thread Cert.SguMixIdeal.nD Cert.SguMixIdeal.τ).loc Cert.SguMixIdeal.main_arg5) = m ((c.tc : Thread Cert.SguMixIdeal.nD Cert.SguMixIdeal.τ).loc Cert.SguMixIdeal.main_arg5)
      ∧ r.2.mem ((c.tc : Thread Cert.SguMixIdeal.nD Cert.SguMixIdeal.τ).loc Cert.SguMixIdeal.main_arg6) = m ((c.tc : Thread Cert.SguMixIdeal.nD Cert.SguMixIdeal.τ).loc Cert.SguMixIdeal.main_arg6)
      ∧ r.2.mem ((c.tc : Thread Cert.SguMixIdeal.nD Cert.SguMixIdeal.τ).loc Cert.SguMixIdeal.main_arg7) = m ((c.tc : Thread Cert.SguMixIdeal.nD Cert.SguMixIdeal.τ).loc Cert.SguMixIdeal.main_arg7))
      ∧ r.2.sem = fun _ => 0)

def quiescent_SguMixIdeal_pre_sgu_finite [hSguMixIdeal : Cert.SguMixIdeal.Facts] [hPre_sgu_finite : Cert.Pre_sgu_finite.Facts] : Prop :=
  ∀ (m : (ℓ : Loc Cert.SguMixIdeal.nD Cert.SguMixIdeal.τ Cert.SguMixIdeal.sig) → Buf (Elt Ideal) ℓ) (g : Dev Cert.SguMixIdeal.nD → PrngReg), Pre_SguMixIdeal_sgu_finite m →
    θ_run (Cert.SguMixIdeal.defs (F := Ideal)) (onTc (τ := Cert.SguMixIdeal.τ) (Cert.SguMixIdeal.main (F := Ideal))) ⟨m, fun _ => 0, g⟩ (fun r => (∀ c : Dev Cert.SguMixIdeal.nD,
      r.2.mem ((c.tc : Thread Cert.SguMixIdeal.nD Cert.SguMixIdeal.τ).loc Cert.SguMixIdeal.main_arg0) = m ((c.tc : Thread Cert.SguMixIdeal.nD Cert.SguMixIdeal.τ).loc Cert.SguMixIdeal.main_arg0)
      ∧ r.2.mem ((c.tc : Thread Cert.SguMixIdeal.nD Cert.SguMixIdeal.τ).loc Cert.SguMixIdeal.main_arg1) = m ((c.tc : Thread Cert.SguMixIdeal.nD Cert.SguMixIdeal.τ).loc Cert.SguMixIdeal.main_arg1)
      ∧ r.2.mem ((c.tc : Thread Cert.SguMixIdeal.nD Cert.SguMixIdeal.τ).loc Cert.SguMixIdeal.main_arg2) = m ((c.tc : Thread Cert.SguMixIdeal.nD Cert.SguMixIdeal.τ).loc Cert.SguMixIdeal.main_arg2)
      ∧ r.2.mem ((c.tc : Thread Cert.SguMixIdeal.nD Cert.SguMixIdeal.τ).loc Cert.SguMixIdeal.main_arg3) = m ((c.tc : Thread Cert.SguMixIdeal.nD Cert.SguMixIdeal.τ).loc Cert.SguMixIdeal.main_arg3)
      ∧ r.2.mem ((c.tc : Thread Cert.SguMixIdeal.nD Cert.SguMixIdeal.τ).loc Cert.SguMixIdeal.main_arg4) = m ((c.tc : Thread Cert.SguMixIdeal.nD Cert.SguMixIdeal.τ).loc Cert.SguMixIdeal.main_arg4)
      ∧ r.2.mem ((c.tc : Thread Cert.SguMixIdeal.nD Cert.SguMixIdeal.τ).loc Cert.SguMixIdeal.main_arg5) = m ((c.tc : Thread Cert.SguMixIdeal.nD Cert.SguMixIdeal.τ).loc Cert.SguMixIdeal.main_arg5)
      ∧ r.2.mem ((c.tc : Thread Cert.SguMixIdeal.nD Cert.SguMixIdeal.τ).loc Cert.SguMixIdeal.main_arg6) = m ((c.tc : Thread Cert.SguMixIdeal.nD Cert.SguMixIdeal.τ).loc Cert.SguMixIdeal.main_arg6)
      ∧ r.2.mem ((c.tc : Thread Cert.SguMixIdeal.nD Cert.SguMixIdeal.τ).loc Cert.SguMixIdeal.main_arg7) = m ((c.tc : Thread Cert.SguMixIdeal.nD Cert.SguMixIdeal.τ).loc Cert.SguMixIdeal.main_arg7))
      ∧ r.2.sem = fun _ => 0)

def quiescent_SguMixReferenceIdeal [hSguMixReferenceIdeal : Cert.SguMixReferenceIdeal.Facts] : Prop :=
  ∀ (m : (ℓ : Loc Cert.SguMixReferenceIdeal.nD Cert.SguMixReferenceIdeal.τ Cert.SguMixReferenceIdeal.sig) → Buf (Elt Ideal) ℓ) (g : Dev Cert.SguMixReferenceIdeal.nD → PrngReg), Pre_SguMixReferenceIdeal m →
    θ_run (Cert.SguMixReferenceIdeal.defs (F := Ideal)) (onTc (τ := Cert.SguMixReferenceIdeal.τ) (Cert.SguMixReferenceIdeal.main (F := Ideal))) ⟨m, fun _ => 0, g⟩ (fun r => (∀ c : Dev Cert.SguMixReferenceIdeal.nD,
      r.2.mem ((c.tc : Thread Cert.SguMixReferenceIdeal.nD Cert.SguMixReferenceIdeal.τ).loc Cert.SguMixReferenceIdeal.main_arg0) = m ((c.tc : Thread Cert.SguMixReferenceIdeal.nD Cert.SguMixReferenceIdeal.τ).loc Cert.SguMixReferenceIdeal.main_arg0)
      ∧ r.2.mem ((c.tc : Thread Cert.SguMixReferenceIdeal.nD Cert.SguMixReferenceIdeal.τ).loc Cert.SguMixReferenceIdeal.main_arg1) = m ((c.tc : Thread Cert.SguMixReferenceIdeal.nD Cert.SguMixReferenceIdeal.τ).loc Cert.SguMixReferenceIdeal.main_arg1)
      ∧ r.2.mem ((c.tc : Thread Cert.SguMixReferenceIdeal.nD Cert.SguMixReferenceIdeal.τ).loc Cert.SguMixReferenceIdeal.main_arg2) = m ((c.tc : Thread Cert.SguMixReferenceIdeal.nD Cert.SguMixReferenceIdeal.τ).loc Cert.SguMixReferenceIdeal.main_arg2)
      ∧ r.2.mem ((c.tc : Thread Cert.SguMixReferenceIdeal.nD Cert.SguMixReferenceIdeal.τ).loc Cert.SguMixReferenceIdeal.main_arg3) = m ((c.tc : Thread Cert.SguMixReferenceIdeal.nD Cert.SguMixReferenceIdeal.τ).loc Cert.SguMixReferenceIdeal.main_arg3)
      ∧ r.2.mem ((c.tc : Thread Cert.SguMixReferenceIdeal.nD Cert.SguMixReferenceIdeal.τ).loc Cert.SguMixReferenceIdeal.main_arg4) = m ((c.tc : Thread Cert.SguMixReferenceIdeal.nD Cert.SguMixReferenceIdeal.τ).loc Cert.SguMixReferenceIdeal.main_arg4)
      ∧ r.2.mem ((c.tc : Thread Cert.SguMixReferenceIdeal.nD Cert.SguMixReferenceIdeal.τ).loc Cert.SguMixReferenceIdeal.main_arg5) = m ((c.tc : Thread Cert.SguMixReferenceIdeal.nD Cert.SguMixReferenceIdeal.τ).loc Cert.SguMixReferenceIdeal.main_arg5)
      ∧ r.2.mem ((c.tc : Thread Cert.SguMixReferenceIdeal.nD Cert.SguMixReferenceIdeal.τ).loc Cert.SguMixReferenceIdeal.main_arg6) = m ((c.tc : Thread Cert.SguMixReferenceIdeal.nD Cert.SguMixReferenceIdeal.τ).loc Cert.SguMixReferenceIdeal.main_arg6)
      ∧ r.2.mem ((c.tc : Thread Cert.SguMixReferenceIdeal.nD Cert.SguMixReferenceIdeal.τ).loc Cert.SguMixReferenceIdeal.main_arg7) = m ((c.tc : Thread Cert.SguMixReferenceIdeal.nD Cert.SguMixReferenceIdeal.τ).loc Cert.SguMixReferenceIdeal.main_arg7))
      ∧ r.2.sem = fun _ => 0)

def quiescent_SguMixReferenceIdeal_pre_sgu_finite [hSguMixReferenceIdeal : Cert.SguMixReferenceIdeal.Facts] [hPre_sgu_finite : Cert.Pre_sgu_finite.Facts] : Prop :=
  ∀ (m : (ℓ : Loc Cert.SguMixReferenceIdeal.nD Cert.SguMixReferenceIdeal.τ Cert.SguMixReferenceIdeal.sig) → Buf (Elt Ideal) ℓ) (g : Dev Cert.SguMixReferenceIdeal.nD → PrngReg), Pre_SguMixReferenceIdeal_sgu_finite m →
    θ_run (Cert.SguMixReferenceIdeal.defs (F := Ideal)) (onTc (τ := Cert.SguMixReferenceIdeal.τ) (Cert.SguMixReferenceIdeal.main (F := Ideal))) ⟨m, fun _ => 0, g⟩ (fun r => (∀ c : Dev Cert.SguMixReferenceIdeal.nD,
      r.2.mem ((c.tc : Thread Cert.SguMixReferenceIdeal.nD Cert.SguMixReferenceIdeal.τ).loc Cert.SguMixReferenceIdeal.main_arg0) = m ((c.tc : Thread Cert.SguMixReferenceIdeal.nD Cert.SguMixReferenceIdeal.τ).loc Cert.SguMixReferenceIdeal.main_arg0)
      ∧ r.2.mem ((c.tc : Thread Cert.SguMixReferenceIdeal.nD Cert.SguMixReferenceIdeal.τ).loc Cert.SguMixReferenceIdeal.main_arg1) = m ((c.tc : Thread Cert.SguMixReferenceIdeal.nD Cert.SguMixReferenceIdeal.τ).loc Cert.SguMixReferenceIdeal.main_arg1)
      ∧ r.2.mem ((c.tc : Thread Cert.SguMixReferenceIdeal.nD Cert.SguMixReferenceIdeal.τ).loc Cert.SguMixReferenceIdeal.main_arg2) = m ((c.tc : Thread Cert.SguMixReferenceIdeal.nD Cert.SguMixReferenceIdeal.τ).loc Cert.SguMixReferenceIdeal.main_arg2)
      ∧ r.2.mem ((c.tc : Thread Cert.SguMixReferenceIdeal.nD Cert.SguMixReferenceIdeal.τ).loc Cert.SguMixReferenceIdeal.main_arg3) = m ((c.tc : Thread Cert.SguMixReferenceIdeal.nD Cert.SguMixReferenceIdeal.τ).loc Cert.SguMixReferenceIdeal.main_arg3)
      ∧ r.2.mem ((c.tc : Thread Cert.SguMixReferenceIdeal.nD Cert.SguMixReferenceIdeal.τ).loc Cert.SguMixReferenceIdeal.main_arg4) = m ((c.tc : Thread Cert.SguMixReferenceIdeal.nD Cert.SguMixReferenceIdeal.τ).loc Cert.SguMixReferenceIdeal.main_arg4)
      ∧ r.2.mem ((c.tc : Thread Cert.SguMixReferenceIdeal.nD Cert.SguMixReferenceIdeal.τ).loc Cert.SguMixReferenceIdeal.main_arg5) = m ((c.tc : Thread Cert.SguMixReferenceIdeal.nD Cert.SguMixReferenceIdeal.τ).loc Cert.SguMixReferenceIdeal.main_arg5)
      ∧ r.2.mem ((c.tc : Thread Cert.SguMixReferenceIdeal.nD Cert.SguMixReferenceIdeal.τ).loc Cert.SguMixReferenceIdeal.main_arg6) = m ((c.tc : Thread Cert.SguMixReferenceIdeal.nD Cert.SguMixReferenceIdeal.τ).loc Cert.SguMixReferenceIdeal.main_arg6)
      ∧ r.2.mem ((c.tc : Thread Cert.SguMixReferenceIdeal.nD Cert.SguMixReferenceIdeal.τ).loc Cert.SguMixReferenceIdeal.main_arg7) = m ((c.tc : Thread Cert.SguMixReferenceIdeal.nD Cert.SguMixReferenceIdeal.τ).loc Cert.SguMixReferenceIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ r.2.sem = fun _ => 0)

def quiescent_AttnOutIdeal_pre_attn_out_finite [hAttnOutIdeal : Cert.AttnOutIdeal.Facts] [hPre_attn_out_finite : Cert.Pre_attn_out_finite.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal_attn_out_finite m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3)
      ∧ r.2.mem ((c.tc : Thread Cert.AttnOutReferenceIdeal.nD Cert.AttnOutReferenceIdeal.τ).loc Cert.AttnOutReferenceIdeal.main_arg4) = m ((c.tc : Thread Cert.AttnOutReferenceIdeal.nD Cert.AttnOutReferenceIdeal.τ).loc Cert.AttnOutReferenceIdeal.main_arg4))
      ∧ r.2.sem = fun _ => 0)

def quiescent_AttnOutReferenceIdeal_pre_attn_out_finite [hAttnOutReferenceIdeal : Cert.AttnOutReferenceIdeal.Facts] [hPre_attn_out_finite : Cert.Pre_attn_out_finite.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal_attn_out_finite m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3)
      ∧ r.2.mem ((c.tc : Thread Cert.AttnOutReferenceIdeal.nD Cert.AttnOutReferenceIdeal.τ).loc Cert.AttnOutReferenceIdeal.main_arg4) = m ((c.tc : Thread Cert.AttnOutReferenceIdeal.nD Cert.AttnOutReferenceIdeal.τ).loc Cert.AttnOutReferenceIdeal.main_arg4))
      ∧ r.2.sem = fun _ => 0)

def quiescent_SguOut [hSguOut : Cert.SguOut.Facts] : Prop :=
  ∀ (m : (ℓ : Loc Cert.SguOut.nD Cert.SguOut.τ Cert.SguOut.sig) → Buf (Elt Bits) ℓ) (g : Dev Cert.SguOut.nD → PrngReg), Pre_SguOut m →
    θ_run (Cert.SguOut.defs (F := Bits)) (onTc (τ := Cert.SguOut.τ) (Cert.SguOut.main (F := Bits))) ⟨m, fun _ => 0, g⟩ (fun r => (∀ c : Dev Cert.SguOut.nD,
      r.2.mem ((c.tc : Thread Cert.SguOut.nD Cert.SguOut.τ).loc Cert.SguOut.main_arg0) = m ((c.tc : Thread Cert.SguOut.nD Cert.SguOut.τ).loc Cert.SguOut.main_arg0)
      ∧ r.2.mem ((c.tc : Thread Cert.SguOut.nD Cert.SguOut.τ).loc Cert.SguOut.main_arg1) = m ((c.tc : Thread Cert.SguOut.nD Cert.SguOut.τ).loc Cert.SguOut.main_arg1)
      ∧ r.2.mem ((c.tc : Thread Cert.SguOut.nD Cert.SguOut.τ).loc Cert.SguOut.main_arg2) = m ((c.tc : Thread Cert.SguOut.nD Cert.SguOut.τ).loc Cert.SguOut.main_arg2)
      ∧ r.2.mem ((c.tc : Thread Cert.SguOut.nD Cert.SguOut.τ).loc Cert.SguOut.main_arg3) = m ((c.tc : Thread Cert.SguOut.nD Cert.SguOut.τ).loc Cert.SguOut.main_arg3))
      ∧ r.2.sem = fun _ => 0)

def quiescent_SguOutIdeal [hSguOutIdeal : Cert.SguOutIdeal.Facts] : Prop :=
  ∀ (m : (ℓ : Loc Cert.SguOutIdeal.nD Cert.SguOutIdeal.τ Cert.SguOutIdeal.sig) → Buf (Elt Ideal) ℓ) (g : Dev Cert.SguOutIdeal.nD → PrngReg), Pre_SguOutIdeal m →
    θ_run (Cert.SguOutIdeal.defs (F := Ideal)) (onTc (τ := Cert.SguOutIdeal.τ) (Cert.SguOutIdeal.main (F := Ideal))) ⟨m, fun _ => 0, g⟩ (fun r => (∀ c : Dev Cert.SguOutIdeal.nD,
      r.2.mem ((c.tc : Thread Cert.SguOutIdeal.nD Cert.SguOutIdeal.τ).loc Cert.SguOutIdeal.main_arg0) = m ((c.tc : Thread Cert.SguOutIdeal.nD Cert.SguOutIdeal.τ).loc Cert.SguOutIdeal.main_arg0)
      ∧ r.2.mem ((c.tc : Thread Cert.SguOutIdeal.nD Cert.SguOutIdeal.τ).loc Cert.SguOutIdeal.main_arg1) = m ((c.tc : Thread Cert.SguOutIdeal.nD Cert.SguOutIdeal.τ).loc Cert.SguOutIdeal.main_arg1)
      ∧ r.2.mem ((c.tc : Thread Cert.SguOutIdeal.nD Cert.SguOutIdeal.τ).loc Cert.SguOutIdeal.main_arg2) = m ((c.tc : Thread Cert.SguOutIdeal.nD Cert.SguOutIdeal.τ).loc Cert.SguOutIdeal.main_arg2)
      ∧ r.2.mem ((c.tc : Thread Cert.SguOutIdeal.nD Cert.SguOutIdeal.τ).loc Cert.SguOutIdeal.main_arg3) = m ((c.tc : Thread Cert.SguOutIdeal.nD Cert.SguOutIdeal.τ).loc Cert.SguOutIdeal.main_arg3))
      ∧ r.2.sem = fun _ => 0)

def quiescent_SguOutIdeal_pre_sgu_out_finite [hSguOutIdeal : Cert.SguOutIdeal.Facts] [hPre_sgu_out_finite : Cert.Pre_sgu_out_finite.Facts] : Prop :=
  ∀ (m : (ℓ : Loc Cert.SguOutIdeal.nD Cert.SguOutIdeal.τ Cert.SguOutIdeal.sig) → Buf (Elt Ideal) ℓ) (g : Dev Cert.SguOutIdeal.nD → PrngReg), Pre_SguOutIdeal_sgu_out_finite m →
    θ_run (Cert.SguOutIdeal.defs (F := Ideal)) (onTc (τ := Cert.SguOutIdeal.τ) (Cert.SguOutIdeal.main (F := Ideal))) ⟨m, fun _ => 0, g⟩ (fun r => (∀ c : Dev Cert.SguOutIdeal.nD,
      r.2.mem ((c.tc : Thread Cert.SguOutIdeal.nD Cert.SguOutIdeal.τ).loc Cert.SguOutIdeal.main_arg0) = m ((c.tc : Thread Cert.SguOutIdeal.nD Cert.SguOutIdeal.τ).loc Cert.SguOutIdeal.main_arg0)
      ∧ r.2.mem ((c.tc : Thread Cert.SguOutIdeal.nD Cert.SguOutIdeal.τ).loc Cert.SguOutIdeal.main_arg1) = m ((c.tc : Thread Cert.SguOutIdeal.nD Cert.SguOutIdeal.τ).loc Cert.SguOutIdeal.main_arg1)
      ∧ r.2.mem ((c.tc : Thread Cert.SguOutIdeal.nD Cert.SguOutIdeal.τ).loc Cert.SguOutIdeal.main_arg2) = m ((c.tc : Thread Cert.SguOutIdeal.nD Cert.SguOutIdeal.τ).loc Cert.SguOutIdeal.main_arg2)
      ∧ r.2.mem ((c.tc : Thread Cert.SguOutIdeal.nD Cert.SguOutIdeal.τ).loc Cert.SguOutIdeal.main_arg3) = m ((c.tc : Thread Cert.SguOutIdeal.nD Cert.SguOutIdeal.τ).loc Cert.SguOutIdeal.main_arg3))
      ∧ r.2.sem = fun _ => 0)

def quiescent_SguOutReferenceIdeal [hSguOutReferenceIdeal : Cert.SguOutReferenceIdeal.Facts] : Prop :=
  ∀ (m : (ℓ : Loc Cert.SguOutReferenceIdeal.nD Cert.SguOutReferenceIdeal.τ Cert.SguOutReferenceIdeal.sig) → Buf (Elt Ideal) ℓ) (g : Dev Cert.SguOutReferenceIdeal.nD → PrngReg), Pre_SguOutReferenceIdeal m →
    θ_run (Cert.SguOutReferenceIdeal.defs (F := Ideal)) (onTc (τ := Cert.SguOutReferenceIdeal.τ) (Cert.SguOutReferenceIdeal.main (F := Ideal))) ⟨m, fun _ => 0, g⟩ (fun r => (∀ c : Dev Cert.SguOutReferenceIdeal.nD,
      r.2.mem ((c.tc : Thread Cert.SguOutReferenceIdeal.nD Cert.SguOutReferenceIdeal.τ).loc Cert.SguOutReferenceIdeal.main_arg0) = m ((c.tc : Thread Cert.SguOutReferenceIdeal.nD Cert.SguOutReferenceIdeal.τ).loc Cert.SguOutReferenceIdeal.main_arg0)
      ∧ r.2.mem ((c.tc : Thread Cert.SguOutReferenceIdeal.nD Cert.SguOutReferenceIdeal.τ).loc Cert.SguOutReferenceIdeal.main_arg1) = m ((c.tc : Thread Cert.SguOutReferenceIdeal.nD Cert.SguOutReferenceIdeal.τ).loc Cert.SguOutReferenceIdeal.main_arg1)
      ∧ r.2.mem ((c.tc : Thread Cert.SguOutReferenceIdeal.nD Cert.SguOutReferenceIdeal.τ).loc Cert.SguOutReferenceIdeal.main_arg2) = m ((c.tc : Thread Cert.SguOutReferenceIdeal.nD Cert.SguOutReferenceIdeal.τ).loc Cert.SguOutReferenceIdeal.main_arg2)
      ∧ r.2.mem ((c.tc : Thread Cert.SguOutReferenceIdeal.nD Cert.SguOutReferenceIdeal.τ).loc Cert.SguOutReferenceIdeal.main_arg3) = m ((c.tc : Thread Cert.SguOutReferenceIdeal.nD Cert.SguOutReferenceIdeal.τ).loc Cert.SguOutReferenceIdeal.main_arg3))
      ∧ r.2.sem = fun _ => 0)

def quiescent_SguOutReferenceIdeal_pre_sgu_out_finite [hSguOutReferenceIdeal : Cert.SguOutReferenceIdeal.Facts] [hPre_sgu_out_finite : Cert.Pre_sgu_out_finite.Facts] : Prop :=
  ∀ (m : (ℓ : Loc Cert.SguOutReferenceIdeal.nD Cert.SguOutReferenceIdeal.τ Cert.SguOutReferenceIdeal.sig) → Buf (Elt Ideal) ℓ) (g : Dev Cert.SguOutReferenceIdeal.nD → PrngReg), Pre_SguOutReferenceIdeal_sgu_out_finite m →
    θ_run (Cert.SguOutReferenceIdeal.defs (F := Ideal)) (onTc (τ := Cert.SguOutReferenceIdeal.τ) (Cert.SguOutReferenceIdeal.main (F := Ideal))) ⟨m, fun _ => 0, g⟩ (fun r => (∀ c : Dev Cert.SguOutReferenceIdeal.nD,
      r.2.mem ((c.tc : Thread Cert.SguOutReferenceIdeal.nD Cert.SguOutReferenceIdeal.τ).loc Cert.SguOutReferenceIdeal.main_arg0) = m ((c.tc : Thread Cert.SguOutReferenceIdeal.nD Cert.SguOutReferenceIdeal.τ).loc Cert.SguOutReferenceIdeal.main_arg0)
      ∧ r.2.mem ((c.tc : Thread Cert.SguOutReferenceIdeal.nD Cert.SguOutReferenceIdeal.τ).loc Cert.SguOutReferenceIdeal.main_arg1) = m ((c.tc : Thread Cert.SguOutReferenceIdeal.nD Cert.SguOutReferenceIdeal.τ).loc Cert.SguOutReferenceIdeal.main_arg1)
      ∧ r.2.mem ((c.tc : Thread Cert.SguOutReferenceIdeal.nD Cert.SguOutReferenceIdeal.τ).loc Cert.SguOutReferenceIdeal.main_arg2) = m ((c.tc : Thread Cert.SguOutReferenceIdeal.nD Cert.SguOutReferenceIdeal.τ).loc Cert.SguOutReferenceIdeal.main_arg2)
      ∧ r.2.mem ((c.tc : Thread Cert.SguOutReferenceIdeal.nD Cert.SguOutReferenceIdeal.τ).loc Cert.SguOutReferenceIdeal.main_arg3) = m ((c.tc : Thread Cert.SguOutReferenceIdeal.nD Cert.SguOutReferenceIdeal.τ).loc Cert.SguOutReferenceIdeal.main_arg3))
      ∧ r.2.sem = fun _ => 0)

def quiescent_SguIn [hSguIn : Cert.SguIn.Facts] : Prop :=
  ∀ (m : (ℓ : Loc Cert.SguIn.nD Cert.SguIn.τ Cert.SguIn.sig) → Buf (Elt Bits) ℓ) (g : Dev Cert.SguIn.nD → PrngReg), Pre_SguIn m →
    θ_run (Cert.SguIn.defs (F := Bits)) (onTc (τ := Cert.SguIn.τ) (Cert.SguIn.main (F := Bits))) ⟨m, fun _ => 0, g⟩ (fun r => (∀ c : Dev Cert.SguIn.nD,
      r.2.mem ((c.tc : Thread Cert.SguIn.nD Cert.SguIn.τ).loc Cert.SguIn.main_arg0) = m ((c.tc : Thread Cert.SguIn.nD Cert.SguIn.τ).loc Cert.SguIn.main_arg0)
      ∧ r.2.mem ((c.tc : Thread Cert.SguIn.nD Cert.SguIn.τ).loc Cert.SguIn.main_arg1) = m ((c.tc : Thread Cert.SguIn.nD Cert.SguIn.τ).loc Cert.SguIn.main_arg1)
      ∧ r.2.mem ((c.tc : Thread Cert.SguIn.nD Cert.SguIn.τ).loc Cert.SguIn.main_arg2) = m ((c.tc : Thread Cert.SguIn.nD Cert.SguIn.τ).loc Cert.SguIn.main_arg2)
      ∧ r.2.mem ((c.tc : Thread Cert.SguIn.nD Cert.SguIn.τ).loc Cert.SguIn.main_arg3) = m ((c.tc : Thread Cert.SguIn.nD Cert.SguIn.τ).loc Cert.SguIn.main_arg3)
      ∧ r.2.mem ((c.tc : Thread Cert.SguIn.nD Cert.SguIn.τ).loc Cert.SguIn.main_arg4) = m ((c.tc : Thread Cert.SguIn.nD Cert.SguIn.τ).loc Cert.SguIn.main_arg4))
      ∧ r.2.sem = fun _ => 0)

def quiescent_SguInIdeal [hSguInIdeal : Cert.SguInIdeal.Facts] : Prop :=
  ∀ (m : (ℓ : Loc Cert.SguInIdeal.nD Cert.SguInIdeal.τ Cert.SguInIdeal.sig) → Buf (Elt Ideal) ℓ) (g : Dev Cert.SguInIdeal.nD → PrngReg), Pre_SguInIdeal m →
    θ_run (Cert.SguInIdeal.defs (F := Ideal)) (onTc (τ := Cert.SguInIdeal.τ) (Cert.SguInIdeal.main (F := Ideal))) ⟨m, fun _ => 0, g⟩ (fun r => (∀ c : Dev Cert.SguInIdeal.nD,
      r.2.mem ((c.tc : Thread Cert.SguInIdeal.nD Cert.SguInIdeal.τ).loc Cert.SguInIdeal.main_arg0) = m ((c.tc : Thread Cert.SguInIdeal.nD Cert.SguInIdeal.τ).loc Cert.SguInIdeal.main_arg0)
      ∧ r.2.mem ((c.tc : Thread Cert.SguInIdeal.nD Cert.SguInIdeal.τ).loc Cert.SguInIdeal.main_arg1) = m ((c.tc : Thread Cert.SguInIdeal.nD Cert.SguInIdeal.τ).loc Cert.SguInIdeal.main_arg1)
      ∧ r.2.mem ((c.tc : Thread Cert.SguInIdeal.nD Cert.SguInIdeal.τ).loc Cert.SguInIdeal.main_arg2) = m ((c.tc : Thread Cert.SguInIdeal.nD Cert.SguInIdeal.τ).loc Cert.SguInIdeal.main_arg2)
      ∧ r.2.mem ((c.tc : Thread Cert.SguInIdeal.nD Cert.SguInIdeal.τ).loc Cert.SguInIdeal.main_arg3) = m ((c.tc : Thread Cert.SguInIdeal.nD Cert.SguInIdeal.τ).loc Cert.SguInIdeal.main_arg3)
      ∧ r.2.mem ((c.tc : Thread Cert.SguInIdeal.nD Cert.SguInIdeal.τ).loc Cert.SguInIdeal.main_arg4) = m ((c.tc : Thread Cert.SguInIdeal.nD Cert.SguInIdeal.τ).loc Cert.SguInIdeal.main_arg4))
      ∧ r.2.sem = fun _ => 0)

def quiescent_SguInIdeal_pre_sgu_in_finite [hSguInIdeal : Cert.SguInIdeal.Facts] [hPre_sgu_in_finite : Cert.Pre_sgu_in_finite.Facts] : Prop :=
  ∀ (m : (ℓ : Loc Cert.SguInIdeal.nD Cert.SguInIdeal.τ Cert.SguInIdeal.sig) → Buf (Elt Ideal) ℓ) (g : Dev Cert.SguInIdeal.nD → PrngReg), Pre_SguInIdeal_sgu_in_finite m →
    θ_run (Cert.SguInIdeal.defs (F := Ideal)) (onTc (τ := Cert.SguInIdeal.τ) (Cert.SguInIdeal.main (F := Ideal))) ⟨m, fun _ => 0, g⟩ (fun r => (∀ c : Dev Cert.SguInIdeal.nD,
      r.2.mem ((c.tc : Thread Cert.SguInIdeal.nD Cert.SguInIdeal.τ).loc Cert.SguInIdeal.main_arg0) = m ((c.tc : Thread Cert.SguInIdeal.nD Cert.SguInIdeal.τ).loc Cert.SguInIdeal.main_arg0)
      ∧ r.2.mem ((c.tc : Thread Cert.SguInIdeal.nD Cert.SguInIdeal.τ).loc Cert.SguInIdeal.main_arg1) = m ((c.tc : Thread Cert.SguInIdeal.nD Cert.SguInIdeal.τ).loc Cert.SguInIdeal.main_arg1)
      ∧ r.2.mem ((c.tc : Thread Cert.SguInIdeal.nD Cert.SguInIdeal.τ).loc Cert.SguInIdeal.main_arg2) = m ((c.tc : Thread Cert.SguInIdeal.nD Cert.SguInIdeal.τ).loc Cert.SguInIdeal.main_arg2)
      ∧ r.2.mem ((c.tc : Thread Cert.SguInIdeal.nD Cert.SguInIdeal.τ).loc Cert.SguInIdeal.main_arg3) = m ((c.tc : Thread Cert.SguInIdeal.nD Cert.SguInIdeal.τ).loc Cert.SguInIdeal.main_arg3)
      ∧ r.2.mem ((c.tc : Thread Cert.SguInIdeal.nD Cert.SguInIdeal.τ).loc Cert.SguInIdeal.main_arg4) = m ((c.tc : Thread Cert.SguInIdeal.nD Cert.SguInIdeal.τ).loc Cert.SguInIdeal.main_arg4))
      ∧ r.2.sem = fun _ => 0)

def quiescent_SguInReferenceIdeal [hSguInReferenceIdeal : Cert.SguInReferenceIdeal.Facts] : Prop :=
  ∀ (m : (ℓ : Loc Cert.SguInReferenceIdeal.nD Cert.SguInReferenceIdeal.τ Cert.SguInReferenceIdeal.sig) → Buf (Elt Ideal) ℓ) (g : Dev Cert.SguInReferenceIdeal.nD → PrngReg), Pre_SguInReferenceIdeal m →
    θ_run (Cert.SguInReferenceIdeal.defs (F := Ideal)) (onTc (τ := Cert.SguInReferenceIdeal.τ) (Cert.SguInReferenceIdeal.main (F := Ideal))) ⟨m, fun _ => 0, g⟩ (fun r => (∀ c : Dev Cert.SguInReferenceIdeal.nD,
      r.2.mem ((c.tc : Thread Cert.SguInReferenceIdeal.nD Cert.SguInReferenceIdeal.τ).loc Cert.SguInReferenceIdeal.main_arg0) = m ((c.tc : Thread Cert.SguInReferenceIdeal.nD Cert.SguInReferenceIdeal.τ).loc Cert.SguInReferenceIdeal.main_arg0)
      ∧ r.2.mem ((c.tc : Thread Cert.SguInReferenceIdeal.nD Cert.SguInReferenceIdeal.τ).loc Cert.SguInReferenceIdeal.main_arg1) = m ((c.tc : Thread Cert.SguInReferenceIdeal.nD Cert.SguInReferenceIdeal.τ).loc Cert.SguInReferenceIdeal.main_arg1)
      ∧ r.2.mem ((c.tc : Thread Cert.SguInReferenceIdeal.nD Cert.SguInReferenceIdeal.τ).loc Cert.SguInReferenceIdeal.main_arg2) = m ((c.tc : Thread Cert.SguInReferenceIdeal.nD Cert.SguInReferenceIdeal.τ).loc Cert.SguInReferenceIdeal.main_arg2)
      ∧ r.2.mem ((c.tc : Thread Cert.SguInReferenceIdeal.nD Cert.SguInReferenceIdeal.τ).loc Cert.SguInReferenceIdeal.main_arg3) = m ((c.tc : Thread Cert.SguInReferenceIdeal.nD Cert.SguInReferenceIdeal.τ).loc Cert.SguInReferenceIdeal.main_arg3)
      ∧ r.2.mem ((c.tc : Thread Cert.SguInReferenceIdeal.nD Cert.SguInReferenceIdeal.τ).loc Cert.SguInReferenceIdeal.main_arg4) = m ((c.tc : Thread Cert.SguInReferenceIdeal.nD Cert.SguInReferenceIdeal.τ).loc Cert.SguInReferenceIdeal.main_arg4))
      ∧ r.2.sem = fun _ => 0)

def quiescent_SguInReferenceIdeal_pre_sgu_in_finite [hSguInReferenceIdeal : Cert.SguInReferenceIdeal.Facts] [hPre_sgu_in_finite : Cert.Pre_sgu_in_finite.Facts] : Prop :=
  ∀ (m : (ℓ : Loc Cert.SguInReferenceIdeal.nD Cert.SguInReferenceIdeal.τ Cert.SguInReferenceIdeal.sig) → Buf (Elt Ideal) ℓ) (g : Dev Cert.SguInReferenceIdeal.nD → PrngReg), Pre_SguInReferenceIdeal_sgu_in_finite m →
    θ_run (Cert.SguInReferenceIdeal.defs (F := Ideal)) (onTc (τ := Cert.SguInReferenceIdeal.τ) (Cert.SguInReferenceIdeal.main (F := Ideal))) ⟨m, fun _ => 0, g⟩ (fun r => (∀ c : Dev Cert.SguInReferenceIdeal.nD,
      r.2.mem ((c.tc : Thread Cert.SguInReferenceIdeal.nD Cert.SguInReferenceIdeal.τ).loc Cert.SguInReferenceIdeal.main_arg0) = m ((c.tc : Thread Cert.SguInReferenceIdeal.nD Cert.SguInReferenceIdeal.τ).loc Cert.SguInReferenceIdeal.main_arg0)
      ∧ r.2.mem ((c.tc : Thread Cert.SguInReferenceIdeal.nD Cert.SguInReferenceIdeal.τ).loc Cert.SguInReferenceIdeal.main_arg1) = m ((c.tc : Thread Cert.SguInReferenceIdeal.nD Cert.SguInReferenceIdeal.τ).loc Cert.SguInReferenceIdeal.main_arg1)
      ∧ r.2.mem ((c.tc : Thread Cert.SguInReferenceIdeal.nD Cert.SguInReferenceIdeal.τ).loc Cert.SguInReferenceIdeal.main_arg2) = m ((c.tc : Thread Cert.SguInReferenceIdeal.nD Cert.SguInReferenceIdeal.τ).loc Cert.SguInReferenceIdeal.main_arg2)
      ∧ r.2.mem ((c.tc : Thread Cert.SguInReferenceIdeal.nD Cert.SguInReferenceIdeal.τ).loc Cert.SguInReferenceIdeal.main_arg3) = m ((c.tc : Thread Cert.SguInReferenceIdeal.nD Cert.SguInReferenceIdeal.τ).loc Cert.SguInReferenceIdeal.main_arg3)
      ∧ r.2.mem ((c.tc : Thread Cert.SguInReferenceIdeal.nD Cert.SguInReferenceIdeal.τ).loc Cert.SguInReferenceIdeal.main_arg4) = m ((c.tc : Thread Cert.SguInReferenceIdeal.nD Cert.SguInReferenceIdeal.τ).loc Cert.SguInReferenceIdeal.main_arg4))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastIdeal_pre_ffn_last_finite [hFfnLastIdeal : Cert.FfnLastIdeal.Facts] [hPre_ffn_last_finite : Cert.Pre_ffn_last_finite.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal_ffn_last_finite m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastReferenceIdeal [hFfnLastReferenceIdeal : Cert.FfnLastReferenceIdeal.Facts] : Prop :=
  ∀ (m : (ℓ : Loc Cert.FfnLastReferenceIdeal.nD Cert.FfnLastReferenceIdeal.τ Cert.FfnLastReferenceIdeal.sig) → Buf (Elt Ideal) ℓ) (g : Dev Cert.FfnLastReferenceIdeal.nD → PrngReg), Pre_FfnLastReferenceIdeal m →
    θ_run (Cert.FfnLastReferenceIdeal.defs (F := Ideal)) (onTc (τ := Cert.FfnLastReferenceIdeal.τ) (Cert.FfnLastReferenceIdeal.main (F := Ideal))) ⟨m, fun _ => 0, g⟩ (fun r => (∀ c : Dev Cert.FfnLastReferenceIdeal.nD,
      r.2.mem ((c.tc : Thread Cert.FfnLastReferenceIdeal.nD Cert.FfnLastReferenceIdeal.τ).loc Cert.FfnLastReferenceIdeal.main_arg0) = m ((c.tc : Thread Cert.FfnLastReferenceIdeal.nD Cert.FfnLastReferenceIdeal.τ).loc Cert.FfnLastReferenceIdeal.main_arg0)
      ∧ r.2.mem ((c.tc : Thread Cert.FfnLastReferenceIdeal.nD Cert.FfnLastReferenceIdeal.τ).loc Cert.FfnLastReferenceIdeal.main_arg1) = m ((c.tc : Thread Cert.FfnLastReferenceIdeal.nD Cert.FfnLastReferenceIdeal.τ).loc Cert.FfnLastReferenceIdeal.main_arg1)
      ∧ r.2.mem ((c.tc : Thread Cert.FfnLastReferenceIdeal.nD Cert.FfnLastReferenceIdeal.τ).loc Cert.FfnLastReferenceIdeal.main_arg2) = m ((c.tc : Thread Cert.FfnLastReferenceIdeal.nD Cert.FfnLastReferenceIdeal.τ).loc Cert.FfnLastReferenceIdeal.main_arg2)
      ∧ r.2.mem ((c.tc : Thread Cert.FfnLastReferenceIdeal.nD Cert.FfnLastReferenceIdeal.τ).loc Cert.FfnLastReferenceIdeal.main_arg3) = m ((c.tc : Thread Cert.FfnLastReferenceIdeal.nD Cert.FfnLastReferenceIdeal.τ).loc Cert.FfnLastReferenceIdeal.main_arg3)
      ∧ r.2.mem ((c.tc : Thread Cert.FfnLastReferenceIdeal.nD Cert.FfnLastReferenceIdeal.τ).loc Cert.FfnLastReferenceIdeal.main_arg4) = m ((c.tc : Thread Cert.FfnLastReferenceIdeal.nD Cert.FfnLastReferenceIdeal.τ).loc Cert.FfnLastReferenceIdeal.main_arg4)
      ∧ r.2.mem ((c.tc : Thread Cert.FfnLastReferenceIdeal.nD Cert.FfnLastReferenceIdeal.τ).loc Cert.FfnLastReferenceIdeal.main_arg5) = m ((c.tc : Thread Cert.FfnLastReferenceIdeal.nD Cert.FfnLastReferenceIdeal.τ).loc Cert.FfnLastReferenceIdeal.main_arg5))
      ∧ r.2.sem = fun _ => 0)

def quiescent_FfnLastReferenceIdeal_pre_ffn_last_finite [hFfnLastReferenceIdeal : Cert.FfnLastReferenceIdeal.Facts] [hPre_ffn_last_finite : Cert.Pre_ffn_last_finite.Facts] : Prop :=
  ∀ (m : (ℓ : Loc Cert.FfnLastReferenceIdeal.nD Cert.FfnLastReferenceIdeal.τ Cert.FfnLastReferenceIdeal.sig) → Buf (Elt Ideal) ℓ) (g : Dev Cert.FfnLastReferenceIdeal.nD → PrngReg), Pre_FfnLastReferenceIdeal_ffn_last_finite m →
    θ_run (Cert.FfnLastReferenceIdeal.defs (F := Ideal)) (onTc (τ := Cert.FfnLastReferenceIdeal.τ) (Cert.FfnLastReferenceIdeal.main (F := Ideal))) ⟨m, fun _ => 0, g⟩ (fun r => (∀ c : Dev Cert.FfnLastReferenceIdeal.nD,
      r.2.mem ((c.tc : Thread Cert.FfnLastReferenceIdeal.nD Cert.FfnLastReferenceIdeal.τ).loc Cert.FfnLastReferenceIdeal.main_arg0) = m ((c.tc : Thread Cert.FfnLastReferenceIdeal.nD Cert.FfnLastReferenceIdeal.τ).loc Cert.FfnLastReferenceIdeal.main_arg0)
      ∧ r.2.mem ((c.tc : Thread Cert.FfnLastReferenceIdeal.nD Cert.FfnLastReferenceIdeal.τ).loc Cert.FfnLastReferenceIdeal.main_arg1) = m ((c.tc : Thread Cert.FfnLastReferenceIdeal.nD Cert.FfnLastReferenceIdeal.τ).loc Cert.FfnLastReferenceIdeal.main_arg1)
      ∧ r.2.mem ((c.tc : Thread Cert.FfnLastReferenceIdeal.nD Cert.FfnLastReferenceIdeal.τ).loc Cert.FfnLastReferenceIdeal.main_arg2) = m ((c.tc : Thread Cert.FfnLastReferenceIdeal.nD Cert.FfnLastReferenceIdeal.τ).loc Cert.FfnLastReferenceIdeal.main_arg2)
      ∧ r.2.mem ((c.tc : Thread Cert.FfnLastReferenceIdeal.nD Cert.FfnLastReferenceIdeal.τ).loc Cert.FfnLastReferenceIdeal.main_arg3) = m ((c.tc : Thread Cert.FfnLastReferenceIdeal.nD Cert.FfnLastReferenceIdeal.τ).loc Cert.FfnLastReferenceIdeal.main_arg3)
      ∧ r.2.mem ((c.tc : Thread Cert.FfnLastReferenceIdeal.nD Cert.FfnLastReferenceIdeal.τ).loc Cert.FfnLastReferenceIdeal.main_arg4) = m ((c.tc : Thread Cert.FfnLastReferenceIdeal.nD Cert.FfnLastReferenceIdeal.τ).loc Cert.FfnLastReferenceIdeal.main_arg4)
      ∧ r.2.mem ((c.tc : Thread Cert.FfnLastReferenceIdeal.nD Cert.FfnLastReferenceIdeal.τ).loc Cert.FfnLastReferenceIdeal.main_arg5) = m ((c.tc : Thread Cert.FfnLastReferenceIdeal.nD Cert.FfnLastReferenceIdeal.τ).loc Cert.FfnLastReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2)
      ∧ r.2.mem ((c.tc : Thread Cert.AttnFwdReferenceIdeal.nD Cert.AttnFwdReferenceIdeal.τ).loc Cert.AttnFwdReferenceIdeal.main_arg3) = m ((c.tc : Thread Cert.AttnFwdReferenceIdeal.nD Cert.AttnFwdReferenceIdeal.τ).loc Cert.AttnFwdReferenceIdeal.main_arg3)
      ∧ r.2.mem ((c.tc : Thread Cert.AttnFwdReferenceIdeal.nD Cert.AttnFwdReferenceIdeal.τ).loc Cert.AttnFwdReferenceIdeal.main_arg4) = m ((c.tc : Thread Cert.AttnFwdReferenceIdeal.nD Cert.AttnFwdReferenceIdeal.τ).loc Cert.AttnFwdReferenceIdeal.main_arg4))
      ∧ r.2.sem = fun _ => 0)

def quiescent_AttnFwdReferenceIdeal_pre_attn_fwd_finite [hAttnFwdReferenceIdeal : Cert.AttnFwdReferenceIdeal.Facts] [hPre_attn_fwd_finite : Cert.Pre_attn_fwd_finite.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_attn_fwd_finite m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2)
      ∧ r.2.mem ((c.tc : Thread Cert.AttnFwdReferenceIdeal.nD Cert.AttnFwdReferenceIdeal.τ).loc Cert.AttnFwdReferenceIdeal.main_arg3) = m ((c.tc : Thread Cert.AttnFwdReferenceIdeal.nD Cert.AttnFwdReferenceIdeal.τ).loc Cert.AttnFwdReferenceIdeal.main_arg3)
      ∧ r.2.mem ((c.tc : Thread Cert.AttnFwdReferenceIdeal.nD Cert.AttnFwdReferenceIdeal.τ).loc Cert.AttnFwdReferenceIdeal.main_arg4) = m ((c.tc : Thread Cert.AttnFwdReferenceIdeal.nD Cert.AttnFwdReferenceIdeal.τ).loc Cert.AttnFwdReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_SguMix_SguMixIdeal : Prop :=
  IdealRules.named_const.Statement Cert.SguMixIdeal.κ "gelu_cubic" .f32 0x3D372713#32 ((8943 / 200000 : ℝ) : EReal)
  ∧ IdealRules.named_const.Statement Cert.SguMixIdeal.κ "gelu_slope" .f32 0x3E095D4F#32 ((26829 / 200000 : ℝ) : EReal)

def algebraic_SguMixIdeal_SguMixReferenceIdeal_pre_sgu_finite [hSguMixIdeal : Cert.SguMixIdeal.Facts] [hSguMixReferenceIdeal : Cert.SguMixReferenceIdeal.Facts] [hPre_sgu_finite : Cert.Pre_sgu_finite.Facts] : Prop :=
  ∀ (m : (ℓ : Loc Cert.SguMixIdeal.nD Cert.SguMixIdeal.τ Cert.SguMixIdeal.sig) → Buf (Elt Ideal) ℓ) (g : Dev Cert.SguMixIdeal.nD → PrngReg)
    (m' : (ℓ : Loc Cert.SguMixReferenceIdeal.nD Cert.SguMixReferenceIdeal.τ Cert.SguMixReferenceIdeal.sig) → Buf (Elt Ideal) ℓ) (g' : Dev Cert.SguMixReferenceIdeal.nD → PrngReg), Pre_SguMixIdeal_sgu_finite m →
    (∀ c : Dev Cert.SguMixIdeal.nD,
      m' ((c.tc : Thread Cert.SguMixReferenceIdeal.nD Cert.SguMixReferenceIdeal.τ).loc Cert.SguMixReferenceIdeal.main_arg0) = m ((c.tc : Thread Cert.SguMixIdeal.nD Cert.SguMixIdeal.τ).loc Cert.SguMixIdeal.main_arg0)
      ∧ m' ((c.tc : Thread Cert.SguMixReferenceIdeal.nD Cert.SguMixReferenceIdeal.τ).loc Cert.SguMixReferenceIdeal.main_arg1) = m ((c.tc : Thread Cert.SguMixIdeal.nD Cert.SguMixIdeal.τ).loc Cert.SguMixIdeal.main_arg1)
      ∧ m' ((c.tc : Thread Cert.SguMixReferenceIdeal.nD Cert.SguMixReferenceIdeal.τ).loc Cert.SguMixReferenceIdeal.main_arg2) = m ((c.tc : Thread Cert.SguMixIdeal.nD Cert.SguMixIdeal.τ).loc Cert.SguMixIdeal.main_arg2)
      ∧ m' ((c.tc : Thread Cert.SguMixReferenceIdeal.nD Cert.SguMixReferenceIdeal.τ).loc Cert.SguMixReferenceIdeal.main_arg3) = m ((c.tc : Thread Cert.SguMixIdeal.nD Cert.SguMixIdeal.τ).loc Cert.SguMixIdeal.main_arg3)
      ∧ m' ((c.tc : Thread Cert.SguMixReferenceIdeal.nD Cert.SguMixReferenceIdeal.τ).loc Cert.SguMixReferenceIdeal.main_arg4) = m ((c.tc : Thread Cert.SguMixIdeal.nD Cert.SguMixIdeal.τ).loc Cert.SguMixIdeal.main_arg4)
      ∧ m' ((c.tc : Thread Cert.SguMixReferenceIdeal.nD Cert.SguMixReferenceIdeal.τ).loc Cert.SguMixReferenceIdeal.main_arg5) = m ((c.tc : Thread Cert.SguMixIdeal.nD Cert.SguMixIdeal.τ).loc Cert.SguMixIdeal.main_arg5)
      ∧ m' ((c.tc : Thread Cert.SguMixReferenceIdeal.nD Cert.SguMixReferenceIdeal.τ).loc Cert.SguMixReferenceIdeal.main_arg6) = m ((c.tc : Thread Cert.SguMixIdeal.nD Cert.SguMixIdeal.τ).loc Cert.SguMixIdeal.main_arg6)
      ∧ m' ((c.tc : Thread Cert.SguMixReferenceIdeal.nD Cert.SguMixReferenceIdeal.τ).loc Cert.SguMixReferenceIdeal.main_arg7) = m ((c.tc : Thread Cert.SguMixIdeal.nD Cert.SguMixIdeal.τ).loc Cert.SguMixIdeal.main_arg7)) →
    ∃ (v0 : (c : Dev Cert.SguMixIdeal.nD) → Buf (Elt Ideal) ((c.tc : Thread Cert.SguMixIdeal.nD Cert.SguMixIdeal.τ).loc Cert.SguMixIdeal.main_v26_0)) (v1 : (c : Dev Cert.SguMixIdeal.nD) → Buf (Elt Ideal) ((c.tc : Thread Cert.SguMixIdeal.nD Cert.SguMixIdeal.τ).loc Cert.SguMixIdeal.main_v26_1)) (v2 : (c : Dev Cert.SguMixIdeal.nD) → Buf (Elt Ideal) ((c.tc : Thread Cert.SguMixIdeal.nD Cert.SguMixIdeal.τ).loc Cert.SguMixIdeal.main_v26_2)) (v3 : (c : Dev Cert.SguMixIdeal.nD) → Buf (Elt Ideal) ((c.tc : Thread Cert.SguMixIdeal.nD Cert.SguMixIdeal.τ).loc Cert.SguMixIdeal.main_v26_3)) (v4 : (c : Dev Cert.SguMixIdeal.nD) → Buf (Elt Ideal) ((c.tc : Thread Cert.SguMixIdeal.nD Cert.SguMixIdeal.τ).loc Cert.SguMixIdeal.main_v26_4)),
      θ_run (Cert.SguMixIdeal.defs (F := Ideal)) (onTc (τ := Cert.SguMixIdeal.τ) (Cert.SguMixIdeal.main (F := Ideal))) ⟨m, fun _ => 0, g⟩ (fun r => ∀ c : Dev Cert.SguMixIdeal.nD,
          r.2.mem ((c.tc : Thread Cert.SguMixIdeal.nD Cert.SguMixIdeal.τ).loc Cert.SguMixIdeal.main_v26_0) = v0 c
          ∧ r.2.mem ((c.tc : Thread Cert.SguMixIdeal.nD Cert.SguMixIdeal.τ).loc Cert.SguMixIdeal.main_v26_1) = v1 c
          ∧ r.2.mem ((c.tc : Thread Cert.SguMixIdeal.nD Cert.SguMixIdeal.τ).loc Cert.SguMixIdeal.main_v26_2) = v2 c
          ∧ r.2.mem ((c.tc : Thread Cert.SguMixIdeal.nD Cert.SguMixIdeal.τ).loc Cert.SguMixIdeal.main_v26_3) = v3 c
          ∧ r.2.mem ((c.tc : Thread Cert.SguMixIdeal.nD Cert.SguMixIdeal.τ).loc Cert.SguMixIdeal.main_v26_4) = v4 c
          ∧ r.2.mem ((c.tc : Thread Cert.SguMixIdeal.nD Cert.SguMixIdeal.τ).loc Cert.SguMixIdeal.main_arg0) = m ((c.tc : Thread Cert.SguMixIdeal.nD Cert.SguMixIdeal.τ).loc Cert.SguMixIdeal.main_arg0)
          ∧ r.2.mem ((c.tc : Thread Cert.SguMixIdeal.nD Cert.SguMixIdeal.τ).loc Cert.SguMixIdeal.main_arg1) = m ((c.tc : Thread Cert.SguMixIdeal.nD Cert.SguMixIdeal.τ).loc Cert.SguMixIdeal.main_arg1)
          ∧ r.2.mem ((c.tc : Thread Cert.SguMixIdeal.nD Cert.SguMixIdeal.τ).loc Cert.SguMixIdeal.main_arg2) = m ((c.tc : Thread Cert.SguMixIdeal.nD Cert.SguMixIdeal.τ).loc Cert.SguMixIdeal.main_arg2)
          ∧ r.2.mem ((c.tc : Thread Cert.SguMixIdeal.nD Cert.SguMixIdeal.τ).loc Cert.SguMixIdeal.main_arg3) = m ((c.tc : Thread Cert.SguMixIdeal.nD Cert.SguMixIdeal.τ).loc Cert.SguMixIdeal.main_arg3)
          ∧ r.2.mem ((c.tc : Thread Cert.SguMixIdeal.nD Cert.SguMixIdeal.τ).loc Cert.SguMixIdeal.main_arg4) = m ((c.tc : Thread Cert.SguMixIdeal.nD Cert.SguMixIdeal.τ).loc Cert.SguMixIdeal.main_arg4)
          ∧ r.2.mem ((c.tc : Thread Cert.SguMixIdeal.nD Cert.SguMixIdeal.τ).loc Cert.SguMixIdeal.main_arg5) = m ((c.tc : Thread Cert.SguMixIdeal.nD Cert.SguMixIdeal.τ).loc Cert.SguMixIdeal.main_arg5)
          ∧ r.2.mem ((c.tc : Thread Cert.SguMixIdeal.nD Cert.SguMixIdeal.τ).loc Cert.SguMixIdeal.main_arg6) = m ((c.tc : Thread Cert.SguMixIdeal.nD Cert.SguMixIdeal.τ).loc Cert.SguMixIdeal.main_arg6)
          ∧ r.2.mem ((c.tc : Thread Cert.SguMixIdeal.nD Cert.SguMixIdeal.τ).loc Cert.SguMixIdeal.main_arg7) = m ((c.tc : Thread Cert.SguMixIdeal.nD Cert.SguMixIdeal.τ).loc Cert.SguMixIdeal.main_arg7))
      ∧ θ_run (Cert.SguMixReferenceIdeal.defs (F := Ideal)) (onTc (τ := Cert.SguMixReferenceIdeal.τ) (Cert.SguMixReferenceIdeal.main (F := Ideal))) ⟨m', fun _ => 0, g'⟩ (fun r => ∀ c : Dev Cert.SguMixReferenceIdeal.nD,
          r.2.mem ((c.tc : Thread Cert.SguMixReferenceIdeal.nD Cert.SguMixReferenceIdeal.τ).loc Cert.SguMixReferenceIdeal.main_v156) = v0 c
          ∧ r.2.mem ((c.tc : Thread Cert.SguMixReferenceIdeal.nD Cert.SguMixReferenceIdeal.τ).loc Cert.SguMixReferenceIdeal.main_v157) = v1 c
          ∧ r.2.mem ((c.tc : Thread Cert.SguMixReferenceIdeal.nD Cert.SguMixReferenceIdeal.τ).loc Cert.SguMixReferenceIdeal.main_v158) = v2 c
          ∧ r.2.mem ((c.tc : Thread Cert.SguMixReferenceIdeal.nD Cert.SguMixReferenceIdeal.τ).loc Cert.SguMixReferenceIdeal.main_v160) = v3 c
          ∧ r.2.mem ((c.tc : Thread Cert.SguMixReferenceIdeal.nD Cert.SguMixReferenceIdeal.τ).loc Cert.SguMixReferenceIdeal.main_v161) = v4 c
          ∧ r.2.mem ((c.tc : Thread Cert.SguMixReferenceIdeal.nD Cert.SguMixReferenceIdeal.τ).loc Cert.SguMixReferenceIdeal.main_arg0) = m' ((c.tc : Thread Cert.SguMixReferenceIdeal.nD Cert.SguMixReferenceIdeal.τ).loc Cert.SguMixReferenceIdeal.main_arg0)
          ∧ r.2.mem ((c.tc : Thread Cert.SguMixReferenceIdeal.nD Cert.SguMixReferenceIdeal.τ).loc Cert.SguMixReferenceIdeal.main_arg1) = m' ((c.tc : Thread Cert.SguMixReferenceIdeal.nD Cert.SguMixReferenceIdeal.τ).loc Cert.SguMixReferenceIdeal.main_arg1)
          ∧ r.2.mem ((c.tc : Thread Cert.SguMixReferenceIdeal.nD Cert.SguMixReferenceIdeal.τ).loc Cert.SguMixReferenceIdeal.main_arg2) = m' ((c.tc : Thread Cert.SguMixReferenceIdeal.nD Cert.SguMixReferenceIdeal.τ).loc Cert.SguMixReferenceIdeal.main_arg2)
          ∧ r.2.mem ((c.tc : Thread Cert.SguMixReferenceIdeal.nD Cert.SguMixReferenceIdeal.τ).loc Cert.SguMixReferenceIdeal.main_arg3) = m' ((c.tc : Thread Cert.SguMixReferenceIdeal.nD Cert.SguMixReferenceIdeal.τ).loc Cert.SguMixReferenceIdeal.main_arg3)
          ∧ r.2.mem ((c.tc : Thread Cert.SguMixReferenceIdeal.nD Cert.SguMixReferenceIdeal.τ).loc Cert.SguMixReferenceIdeal.main_arg4) = m' ((c.tc : Thread Cert.SguMixReferenceIdeal.nD Cert.SguMixReferenceIdeal.τ).loc Cert.SguMixReferenceIdeal.main_arg4)
          ∧ r.2.mem ((c.tc : Thread Cert.SguMixReferenceIdeal.nD Cert.SguMixReferenceIdeal.τ).loc Cert.SguMixReferenceIdeal.main_arg5) = m' ((c.tc : Thread Cert.SguMixReferenceIdeal.nD Cert.SguMixReferenceIdeal.τ).loc Cert.SguMixReferenceIdeal.main_arg5)
          ∧ r.2.mem ((c.tc : Thread Cert.SguMixReferenceIdeal.nD Cert.SguMixReferenceIdeal.τ).loc Cert.SguMixReferenceIdeal.main_arg6) = m' ((c.tc : Thread Cert.SguMixReferenceIdeal.nD Cert.SguMixReferenceIdeal.τ).loc Cert.SguMixReferenceIdeal.main_arg6)
          ∧ r.2.mem ((c.tc : Thread Cert.SguMixReferenceIdeal.nD Cert.SguMixReferenceIdeal.τ).loc Cert.SguMixReferenceIdeal.main_arg7) = m' ((c.tc : Thread Cert.SguMixReferenceIdeal.nD Cert.SguMixReferenceIdeal.τ).loc Cert.SguMixReferenceIdeal.main_arg7))

def preserves_Attn_AttnIdeal : Prop :=
  IdealRules.named_const.Statement Cert.AttnIdeal.κ "mask" .f32 0xF149F2CA#32 ⊥

def algebraic_AttnIdeal_AttnReferenceIdeal_pre_attn_finite [hAttnIdeal : Cert.AttnIdeal.Facts] [hAttnReferenceIdeal : Cert.AttnReferenceIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_attn_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v132_0)) (v1 : (c : Dev Cert.AttnIdeal.nD) → Buf (Elt Ideal) ((c.tc : Thread Cert.AttnIdeal.nD Cert.AttnIdeal.τ).loc Cert.AttnIdeal.main_v132_1)) (v2 : (c : Dev Cert.AttnIdeal.nD) → Buf (Elt Ideal) ((c.tc : Thread Cert.AttnIdeal.nD Cert.AttnIdeal.τ).loc Cert.AttnIdeal.main_v132_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v132_0) = v0 c
          ∧ r.2.mem ((c.tc : Thread Cert.AttnIdeal.nD Cert.AttnIdeal.τ).loc Cert.AttnIdeal.main_v132_1) = v1 c
          ∧ r.2.mem ((c.tc : Thread Cert.AttnIdeal.nD Cert.AttnIdeal.τ).loc Cert.AttnIdeal.main_v132_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v290) = v0 c
          ∧ r.2.mem ((c.tc : Thread Cert.AttnReferenceIdeal.nD Cert.AttnReferenceIdeal.τ).loc Cert.AttnReferenceIdeal.main_v293) = v1 c
          ∧ r.2.mem ((c.tc : Thread Cert.AttnReferenceIdeal.nD Cert.AttnReferenceIdeal.τ).loc Cert.AttnReferenceIdeal.main_v295) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5))

def preserves_AttnOut_AttnOutIdeal : Prop :=
  True

def algebraic_AttnOutIdeal_AttnOutReferenceIdeal_pre_attn_out_finite [hAttnOutIdeal : Cert.AttnOutIdeal.Facts] [hAttnOutReferenceIdeal : Cert.AttnOutReferenceIdeal.Facts] [hPre_attn_out_finite : Cert.Pre_attn_out_finite.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal_attn_out_finite m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)
      ∧ m' ((c.tc : Thread Cert.AttnOutReferenceIdeal.nD Cert.AttnOutReferenceIdeal.τ).loc Cert.AttnOutReferenceIdeal.main_arg3) = m ((c.tc : Thread Cert.AttnOutIdeal.nD Cert.AttnOutIdeal.τ).loc Cert.AttnOutIdeal.main_arg3)
      ∧ m' ((c.tc : Thread Cert.AttnOutReferenceIdeal.nD Cert.AttnOutReferenceIdeal.τ).loc Cert.AttnOutReferenceIdeal.main_arg4) = m ((c.tc : Thread Cert.AttnOutIdeal.nD Cert.AttnOutIdeal.τ).loc Cert.AttnOutIdeal.main_arg4)) →
    ∃ (v0 : (c : Dev Cert.AttnOutIdeal.nD) → Buf (Elt Ideal) ((c.tc : Thread Cert.AttnOutIdeal.nD Cert.AttnOutIdeal.τ).loc Cert.AttnOutIdeal.main_v12_0)) (v1 : (c : Dev Cert.AttnOutIdeal.nD) → Buf (Elt Ideal) ((c.tc : Thread Cert.AttnOutIdeal.nD Cert.AttnOutIdeal.τ).loc Cert.AttnOutIdeal.main_v12_1)) (v2 : (c : Dev Cert.AttnOutIdeal.nD) → Buf (Elt Ideal) ((c.tc : Thread Cert.AttnOutIdeal.nD Cert.AttnOutIdeal.τ).loc Cert.AttnOutIdeal.main_v12_2)) (v3 : (c : Dev Cert.AttnOutIdeal.nD) → Buf (Elt Ideal) ((c.tc : Thread Cert.AttnOutIdeal.nD Cert.AttnOutIdeal.τ).loc Cert.AttnOutIdeal.main_v12_3)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v12_0) = v0 c
          ∧ r.2.mem ((c.tc : Thread Cert.AttnOutIdeal.nD Cert.AttnOutIdeal.τ).loc Cert.AttnOutIdeal.main_v12_1) = v1 c
          ∧ r.2.mem ((c.tc : Thread Cert.AttnOutIdeal.nD Cert.AttnOutIdeal.τ).loc Cert.AttnOutIdeal.main_v12_2) = v2 c
          ∧ r.2.mem ((c.tc : Thread Cert.AttnOutIdeal.nD Cert.AttnOutIdeal.τ).loc Cert.AttnOutIdeal.main_v12_3) = v3 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v52) = v0 c
          ∧ r.2.mem ((c.tc : Thread Cert.AttnOutReferenceIdeal.nD Cert.AttnOutReferenceIdeal.τ).loc Cert.AttnOutReferenceIdeal.main_v53) = v1 c
          ∧ r.2.mem ((c.tc : Thread Cert.AttnOutReferenceIdeal.nD Cert.AttnOutReferenceIdeal.τ).loc Cert.AttnOutReferenceIdeal.main_v54) = v2 c
          ∧ r.2.mem ((c.tc : Thread Cert.AttnOutReferenceIdeal.nD Cert.AttnOutReferenceIdeal.τ).loc Cert.AttnOutReferenceIdeal.main_v55) = v3 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2)
          ∧ r.2.mem ((c.tc : Thread Cert.AttnOutReferenceIdeal.nD Cert.AttnOutReferenceIdeal.τ).loc Cert.AttnOutReferenceIdeal.main_arg3) = m' ((c.tc : Thread Cert.AttnOutReferenceIdeal.nD Cert.AttnOutReferenceIdeal.τ).loc Cert.AttnOutReferenceIdeal.main_arg3)
          ∧ r.2.mem ((c.tc : Thread Cert.AttnOutReferenceIdeal.nD Cert.AttnOutReferenceIdeal.τ).loc Cert.AttnOutReferenceIdeal.main_arg4) = m' ((c.tc : Thread Cert.AttnOutReferenceIdeal.nD Cert.AttnOutReferenceIdeal.τ).loc Cert.AttnOutReferenceIdeal.main_arg4))

def preserves_SguOut_SguOutIdeal : Prop :=
  True

def algebraic_SguOutIdeal_SguOutReferenceIdeal_pre_sgu_out_finite [hSguOutIdeal : Cert.SguOutIdeal.Facts] [hSguOutReferenceIdeal : Cert.SguOutReferenceIdeal.Facts] [hPre_sgu_out_finite : Cert.Pre_sgu_out_finite.Facts] : Prop :=
  ∀ (m : (ℓ : Loc Cert.SguOutIdeal.nD Cert.SguOutIdeal.τ Cert.SguOutIdeal.sig) → Buf (Elt Ideal) ℓ) (g : Dev Cert.SguOutIdeal.nD → PrngReg)
    (m' : (ℓ : Loc Cert.SguOutReferenceIdeal.nD Cert.SguOutReferenceIdeal.τ Cert.SguOutReferenceIdeal.sig) → Buf (Elt Ideal) ℓ) (g' : Dev Cert.SguOutReferenceIdeal.nD → PrngReg), Pre_SguOutIdeal_sgu_out_finite m →
    (∀ c : Dev Cert.SguOutIdeal.nD,
      m' ((c.tc : Thread Cert.SguOutReferenceIdeal.nD Cert.SguOutReferenceIdeal.τ).loc Cert.SguOutReferenceIdeal.main_arg0) = m ((c.tc : Thread Cert.SguOutIdeal.nD Cert.SguOutIdeal.τ).loc Cert.SguOutIdeal.main_arg0)
      ∧ m' ((c.tc : Thread Cert.SguOutReferenceIdeal.nD Cert.SguOutReferenceIdeal.τ).loc Cert.SguOutReferenceIdeal.main_arg1) = m ((c.tc : Thread Cert.SguOutIdeal.nD Cert.SguOutIdeal.τ).loc Cert.SguOutIdeal.main_arg1)
      ∧ m' ((c.tc : Thread Cert.SguOutReferenceIdeal.nD Cert.SguOutReferenceIdeal.τ).loc Cert.SguOutReferenceIdeal.main_arg2) = m ((c.tc : Thread Cert.SguOutIdeal.nD Cert.SguOutIdeal.τ).loc Cert.SguOutIdeal.main_arg2)
      ∧ m' ((c.tc : Thread Cert.SguOutReferenceIdeal.nD Cert.SguOutReferenceIdeal.τ).loc Cert.SguOutReferenceIdeal.main_arg3) = m ((c.tc : Thread Cert.SguOutIdeal.nD Cert.SguOutIdeal.τ).loc Cert.SguOutIdeal.main_arg3)) →
    ∃ (v0 : (c : Dev Cert.SguOutIdeal.nD) → Buf (Elt Ideal) ((c.tc : Thread Cert.SguOutIdeal.nD Cert.SguOutIdeal.τ).loc Cert.SguOutIdeal.main_v10_0)) (v1 : (c : Dev Cert.SguOutIdeal.nD) → Buf (Elt Ideal) ((c.tc : Thread Cert.SguOutIdeal.nD Cert.SguOutIdeal.τ).loc Cert.SguOutIdeal.main_v10_1)) (v2 : (c : Dev Cert.SguOutIdeal.nD) → Buf (Elt Ideal) ((c.tc : Thread Cert.SguOutIdeal.nD Cert.SguOutIdeal.τ).loc Cert.SguOutIdeal.main_v10_2)),
      θ_run (Cert.SguOutIdeal.defs (F := Ideal)) (onTc (τ := Cert.SguOutIdeal.τ) (Cert.SguOutIdeal.main (F := Ideal))) ⟨m, fun _ => 0, g⟩ (fun r => ∀ c : Dev Cert.SguOutIdeal.nD,
          r.2.mem ((c.tc : Thread Cert.SguOutIdeal.nD Cert.SguOutIdeal.τ).loc Cert.SguOutIdeal.main_v10_0) = v0 c
          ∧ r.2.mem ((c.tc : Thread Cert.SguOutIdeal.nD Cert.SguOutIdeal.τ).loc Cert.SguOutIdeal.main_v10_1) = v1 c
          ∧ r.2.mem ((c.tc : Thread Cert.SguOutIdeal.nD Cert.SguOutIdeal.τ).loc Cert.SguOutIdeal.main_v10_2) = v2 c
          ∧ r.2.mem ((c.tc : Thread Cert.SguOutIdeal.nD Cert.SguOutIdeal.τ).loc Cert.SguOutIdeal.main_arg0) = m ((c.tc : Thread Cert.SguOutIdeal.nD Cert.SguOutIdeal.τ).loc Cert.SguOutIdeal.main_arg0)
          ∧ r.2.mem ((c.tc : Thread Cert.SguOutIdeal.nD Cert.SguOutIdeal.τ).loc Cert.SguOutIdeal.main_arg1) = m ((c.tc : Thread Cert.SguOutIdeal.nD Cert.SguOutIdeal.τ).loc Cert.SguOutIdeal.main_arg1)
          ∧ r.2.mem ((c.tc : Thread Cert.SguOutIdeal.nD Cert.SguOutIdeal.τ).loc Cert.SguOutIdeal.main_arg2) = m ((c.tc : Thread Cert.SguOutIdeal.nD Cert.SguOutIdeal.τ).loc Cert.SguOutIdeal.main_arg2)
          ∧ r.2.mem ((c.tc : Thread Cert.SguOutIdeal.nD Cert.SguOutIdeal.τ).loc Cert.SguOutIdeal.main_arg3) = m ((c.tc : Thread Cert.SguOutIdeal.nD Cert.SguOutIdeal.τ).loc Cert.SguOutIdeal.main_arg3))
      ∧ θ_run (Cert.SguOutReferenceIdeal.defs (F := Ideal)) (onTc (τ := Cert.SguOutReferenceIdeal.τ) (Cert.SguOutReferenceIdeal.main (F := Ideal))) ⟨m', fun _ => 0, g'⟩ (fun r => ∀ c : Dev Cert.SguOutReferenceIdeal.nD,
          r.2.mem ((c.tc : Thread Cert.SguOutReferenceIdeal.nD Cert.SguOutReferenceIdeal.τ).loc Cert.SguOutReferenceIdeal.main_v45) = v0 c
          ∧ r.2.mem ((c.tc : Thread Cert.SguOutReferenceIdeal.nD Cert.SguOutReferenceIdeal.τ).loc Cert.SguOutReferenceIdeal.main_v46) = v1 c
          ∧ r.2.mem ((c.tc : Thread Cert.SguOutReferenceIdeal.nD Cert.SguOutReferenceIdeal.τ).loc Cert.SguOutReferenceIdeal.main_v47) = v2 c
          ∧ r.2.mem ((c.tc : Thread Cert.SguOutReferenceIdeal.nD Cert.SguOutReferenceIdeal.τ).loc Cert.SguOutReferenceIdeal.main_arg0) = m' ((c.tc : Thread Cert.SguOutReferenceIdeal.nD Cert.SguOutReferenceIdeal.τ).loc Cert.SguOutReferenceIdeal.main_arg0)
          ∧ r.2.mem ((c.tc : Thread Cert.SguOutReferenceIdeal.nD Cert.SguOutReferenceIdeal.τ).loc Cert.SguOutReferenceIdeal.main_arg1) = m' ((c.tc : Thread Cert.SguOutReferenceIdeal.nD Cert.SguOutReferenceIdeal.τ).loc Cert.SguOutReferenceIdeal.main_arg1)
          ∧ r.2.mem ((c.tc : Thread Cert.SguOutReferenceIdeal.nD Cert.SguOutReferenceIdeal.τ).loc Cert.SguOutReferenceIdeal.main_arg2) = m' ((c.tc : Thread Cert.SguOutReferenceIdeal.nD Cert.SguOutReferenceIdeal.τ).loc Cert.SguOutReferenceIdeal.main_arg2)
          ∧ r.2.mem ((c.tc : Thread Cert.SguOutReferenceIdeal.nD Cert.SguOutReferenceIdeal.τ).loc Cert.SguOutReferenceIdeal.main_arg3) = m' ((c.tc : Thread Cert.SguOutReferenceIdeal.nD Cert.SguOutReferenceIdeal.τ).loc Cert.SguOutReferenceIdeal.main_arg3))

def preserves_SguIn_SguInIdeal : Prop :=
  True

def algebraic_SguInIdeal_SguInReferenceIdeal_pre_sgu_in_finite [hSguInIdeal : Cert.SguInIdeal.Facts] [hSguInReferenceIdeal : Cert.SguInReferenceIdeal.Facts] [hPre_sgu_in_finite : Cert.Pre_sgu_in_finite.Facts] : Prop :=
  ∀ (m : (ℓ : Loc Cert.SguInIdeal.nD Cert.SguInIdeal.τ Cert.SguInIdeal.sig) → Buf (Elt Ideal) ℓ) (g : Dev Cert.SguInIdeal.nD → PrngReg)
    (m' : (ℓ : Loc Cert.SguInReferenceIdeal.nD Cert.SguInReferenceIdeal.τ Cert.SguInReferenceIdeal.sig) → Buf (Elt Ideal) ℓ) (g' : Dev Cert.SguInReferenceIdeal.nD → PrngReg), Pre_SguInIdeal_sgu_in_finite m →
    (∀ c : Dev Cert.SguInIdeal.nD,
      m' ((c.tc : Thread Cert.SguInReferenceIdeal.nD Cert.SguInReferenceIdeal.τ).loc Cert.SguInReferenceIdeal.main_arg0) = m ((c.tc : Thread Cert.SguInIdeal.nD Cert.SguInIdeal.τ).loc Cert.SguInIdeal.main_arg0)
      ∧ m' ((c.tc : Thread Cert.SguInReferenceIdeal.nD Cert.SguInReferenceIdeal.τ).loc Cert.SguInReferenceIdeal.main_arg1) = m ((c.tc : Thread Cert.SguInIdeal.nD Cert.SguInIdeal.τ).loc Cert.SguInIdeal.main_arg1)
      ∧ m' ((c.tc : Thread Cert.SguInReferenceIdeal.nD Cert.SguInReferenceIdeal.τ).loc Cert.SguInReferenceIdeal.main_arg2) = m ((c.tc : Thread Cert.SguInIdeal.nD Cert.SguInIdeal.τ).loc Cert.SguInIdeal.main_arg2)
      ∧ m' ((c.tc : Thread Cert.SguInReferenceIdeal.nD Cert.SguInReferenceIdeal.τ).loc Cert.SguInReferenceIdeal.main_arg3) = m ((c.tc : Thread Cert.SguInIdeal.nD Cert.SguInIdeal.τ).loc Cert.SguInIdeal.main_arg3)
      ∧ m' ((c.tc : Thread Cert.SguInReferenceIdeal.nD Cert.SguInReferenceIdeal.τ).loc Cert.SguInReferenceIdeal.main_arg4) = m ((c.tc : Thread Cert.SguInIdeal.nD Cert.SguInIdeal.τ).loc Cert.SguInIdeal.main_arg4)) →
    ∃ (v0 : (c : Dev Cert.SguInIdeal.nD) → Buf (Elt Ideal) ((c.tc : Thread Cert.SguInIdeal.nD Cert.SguInIdeal.τ).loc Cert.SguInIdeal.main_v24_0)) (v1 : (c : Dev Cert.SguInIdeal.nD) → Buf (Elt Ideal) ((c.tc : Thread Cert.SguInIdeal.nD Cert.SguInIdeal.τ).loc Cert.SguInIdeal.main_v24_1)) (v2 : (c : Dev Cert.SguInIdeal.nD) → Buf (Elt Ideal) ((c.tc : Thread Cert.SguInIdeal.nD Cert.SguInIdeal.τ).loc Cert.SguInIdeal.main_v24_2)),
      θ_run (Cert.SguInIdeal.defs (F := Ideal)) (onTc (τ := Cert.SguInIdeal.τ) (Cert.SguInIdeal.main (F := Ideal))) ⟨m, fun _ => 0, g⟩ (fun r => ∀ c : Dev Cert.SguInIdeal.nD,
          r.2.mem ((c.tc : Thread Cert.SguInIdeal.nD Cert.SguInIdeal.τ).loc Cert.SguInIdeal.main_v24_0) = v0 c
          ∧ r.2.mem ((c.tc : Thread Cert.SguInIdeal.nD Cert.SguInIdeal.τ).loc Cert.SguInIdeal.main_v24_1) = v1 c
          ∧ r.2.mem ((c.tc : Thread Cert.SguInIdeal.nD Cert.SguInIdeal.τ).loc Cert.SguInIdeal.main_v24_2) = v2 c
          ∧ r.2.mem ((c.tc : Thread Cert.SguInIdeal.nD Cert.SguInIdeal.τ).loc Cert.SguInIdeal.main_arg0) = m ((c.tc : Thread Cert.SguInIdeal.nD Cert.SguInIdeal.τ).loc Cert.SguInIdeal.main_arg0)
          ∧ r.2.mem ((c.tc : Thread Cert.SguInIdeal.nD Cert.SguInIdeal.τ).loc Cert.SguInIdeal.main_arg1) = m ((c.tc : Thread Cert.SguInIdeal.nD Cert.SguInIdeal.τ).loc Cert.SguInIdeal.main_arg1)
          ∧ r.2.mem ((c.tc : Thread Cert.SguInIdeal.nD Cert.SguInIdeal.τ).loc Cert.SguInIdeal.main_arg2) = m ((c.tc : Thread Cert.SguInIdeal.nD Cert.SguInIdeal.τ).loc Cert.SguInIdeal.main_arg2)
          ∧ r.2.mem ((c.tc : Thread Cert.SguInIdeal.nD Cert.SguInIdeal.τ).loc Cert.SguInIdeal.main_arg3) = m ((c.tc : Thread Cert.SguInIdeal.nD Cert.SguInIdeal.τ).loc Cert.SguInIdeal.main_arg3)
          ∧ r.2.mem ((c.tc : Thread Cert.SguInIdeal.nD Cert.SguInIdeal.τ).loc Cert.SguInIdeal.main_arg4) = m ((c.tc : Thread Cert.SguInIdeal.nD Cert.SguInIdeal.τ).loc Cert.SguInIdeal.main_arg4))
      ∧ θ_run (Cert.SguInReferenceIdeal.defs (F := Ideal)) (onTc (τ := Cert.SguInReferenceIdeal.τ) (Cert.SguInReferenceIdeal.main (F := Ideal))) ⟨m', fun _ => 0, g'⟩ (fun r => ∀ c : Dev Cert.SguInReferenceIdeal.nD,
          r.2.mem ((c.tc : Thread Cert.SguInReferenceIdeal.nD Cert.SguInReferenceIdeal.τ).loc Cert.SguInReferenceIdeal.main_v45) = v0 c
          ∧ r.2.mem ((c.tc : Thread Cert.SguInReferenceIdeal.nD Cert.SguInReferenceIdeal.τ).loc Cert.SguInReferenceIdeal.main_v46) = v1 c
          ∧ r.2.mem ((c.tc : Thread Cert.SguInReferenceIdeal.nD Cert.SguInReferenceIdeal.τ).loc Cert.SguInReferenceIdeal.main_v49) = v2 c
          ∧ r.2.mem ((c.tc : Thread Cert.SguInReferenceIdeal.nD Cert.SguInReferenceIdeal.τ).loc Cert.SguInReferenceIdeal.main_arg0) = m' ((c.tc : Thread Cert.SguInReferenceIdeal.nD Cert.SguInReferenceIdeal.τ).loc Cert.SguInReferenceIdeal.main_arg0)
          ∧ r.2.mem ((c.tc : Thread Cert.SguInReferenceIdeal.nD Cert.SguInReferenceIdeal.τ).loc Cert.SguInReferenceIdeal.main_arg1) = m' ((c.tc : Thread Cert.SguInReferenceIdeal.nD Cert.SguInReferenceIdeal.τ).loc Cert.SguInReferenceIdeal.main_arg1)
          ∧ r.2.mem ((c.tc : Thread Cert.SguInReferenceIdeal.nD Cert.SguInReferenceIdeal.τ).loc Cert.SguInReferenceIdeal.main_arg2) = m' ((c.tc : Thread Cert.SguInReferenceIdeal.nD Cert.SguInReferenceIdeal.τ).loc Cert.SguInReferenceIdeal.main_arg2)
          ∧ r.2.mem ((c.tc : Thread Cert.SguInReferenceIdeal.nD Cert.SguInReferenceIdeal.τ).loc Cert.SguInReferenceIdeal.main_arg3) = m' ((c.tc : Thread Cert.SguInReferenceIdeal.nD Cert.SguInReferenceIdeal.τ).loc Cert.SguInReferenceIdeal.main_arg3)
          ∧ r.2.mem ((c.tc : Thread Cert.SguInReferenceIdeal.nD Cert.SguInReferenceIdeal.τ).loc Cert.SguInReferenceIdeal.main_arg4) = m' ((c.tc : Thread Cert.SguInReferenceIdeal.nD Cert.SguInReferenceIdeal.τ).loc Cert.SguInReferenceIdeal.main_arg4))

def preserves_FfnLast_FfnLastIdeal : Prop :=
  True

def algebraic_FfnLastIdeal_FfnLastReferenceIdeal_pre_ffn_last_finite [hFfnLastIdeal : Cert.FfnLastIdeal.Facts] [hFfnLastReferenceIdeal : Cert.FfnLastReferenceIdeal.Facts] [hPre_ffn_last_finite : Cert.Pre_ffn_last_finite.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastReferenceIdeal.nD Cert.FfnLastReferenceIdeal.τ Cert.FfnLastReferenceIdeal.sig) → Buf (Elt Ideal) ℓ) (g' : Dev Cert.FfnLastReferenceIdeal.nD → PrngReg), Pre_FfnLastIdeal_ffn_last_finite m →
    (∀ c : Dev Cert.FfnLastIdeal.nD,
      m' ((c.tc : Thread Cert.FfnLastReferenceIdeal.nD Cert.FfnLastReferenceIdeal.τ).loc Cert.FfnLastReferenceIdeal.main_arg0) = m ((c.tc : Thread Cert.FfnLastIdeal.nD Cert.FfnLastIdeal.τ).loc Cert.FfnLastIdeal.main_arg0)
      ∧ m' ((c.tc : Thread Cert.FfnLastReferenceIdeal.nD Cert.FfnLastReferenceIdeal.τ).loc Cert.FfnLastReferenceIdeal.main_arg1) = m ((c.tc : Thread Cert.FfnLastIdeal.nD Cert.FfnLastIdeal.τ).loc Cert.FfnLastIdeal.main_arg1)
      ∧ m' ((c.tc : Thread Cert.FfnLastReferenceIdeal.nD Cert.FfnLastReferenceIdeal.τ).loc Cert.FfnLastReferenceIdeal.main_arg2) = m ((c.tc : Thread Cert.FfnLastIdeal.nD Cert.FfnLastIdeal.τ).loc Cert.FfnLastIdeal.main_arg2)
      ∧ m' ((c.tc : Thread Cert.FfnLastReferenceIdeal.nD Cert.FfnLastReferenceIdeal.τ).loc Cert.FfnLastReferenceIdeal.main_arg3) = m ((c.tc : Thread Cert.FfnLastIdeal.nD Cert.FfnLastIdeal.τ).loc Cert.FfnLastIdeal.main_arg3)
      ∧ m' ((c.tc : Thread Cert.FfnLastReferenceIdeal.nD Cert.FfnLastReferenceIdeal.τ).loc Cert.FfnLastReferenceIdeal.main_arg4) = m ((c.tc : Thread Cert.FfnLastIdeal.nD Cert.FfnLastIdeal.τ).loc Cert.FfnLastIdeal.main_arg4)
      ∧ m' ((c.tc : Thread Cert.FfnLastReferenceIdeal.nD Cert.FfnLastReferenceIdeal.τ).loc Cert.FfnLastReferenceIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v15_0)) (v1 : (c : Dev Cert.FfnLastIdeal.nD) → Buf (Elt Ideal) ((c.tc : Thread Cert.FfnLastIdeal.nD Cert.FfnLastIdeal.τ).loc Cert.FfnLastIdeal.main_v15_1)) (v2 : (c : Dev Cert.FfnLastIdeal.nD) → Buf (Elt Ideal) ((c.tc : Thread Cert.FfnLastIdeal.nD Cert.FfnLastIdeal.τ).loc Cert.FfnLastIdeal.main_v15_2)) (v3 : (c : Dev Cert.FfnLastIdeal.nD) → Buf (Elt Ideal) ((c.tc : Thread Cert.FfnLastIdeal.nD Cert.FfnLastIdeal.τ).loc Cert.FfnLastIdeal.main_v15_3)) (v4 : (c : Dev Cert.FfnLastIdeal.nD) → Buf (Elt Ideal) ((c.tc : Thread Cert.FfnLastIdeal.nD Cert.FfnLastIdeal.τ).loc Cert.FfnLastIdeal.main_v15_4)) (v5 : (c : Dev Cert.FfnLastIdeal.nD) → Buf (Elt Ideal) ((c.tc : Thread Cert.FfnLastIdeal.nD Cert.FfnLastIdeal.τ).loc Cert.FfnLastIdeal.main_v15_5)) (v6 : (c : Dev Cert.FfnLastIdeal.nD) → Buf (Elt Ideal) ((c.tc : Thread Cert.FfnLastIdeal.nD Cert.FfnLastIdeal.τ).loc Cert.FfnLastIdeal.main_v15_6)) (v7 : (c : Dev Cert.FfnLastIdeal.nD) → Buf (Elt Ideal) ((c.tc : Thread Cert.FfnLastIdeal.nD Cert.FfnLastIdeal.τ).loc Cert.FfnLastIdeal.main_v15_7)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v15_0) = v0 c
          ∧ r.2.mem ((c.tc : Thread Cert.FfnLastIdeal.nD Cert.FfnLastIdeal.τ).loc Cert.FfnLastIdeal.main_v15_1) = v1 c
          ∧ r.2.mem ((c.tc : Thread Cert.FfnLastIdeal.nD Cert.FfnLastIdeal.τ).loc Cert.FfnLastIdeal.main_v15_2) = v2 c
          ∧ r.2.mem ((c.tc : Thread Cert.FfnLastIdeal.nD Cert.FfnLastIdeal.τ).loc Cert.FfnLastIdeal.main_v15_3) = v3 c
          ∧ r.2.mem ((c.tc : Thread Cert.FfnLastIdeal.nD Cert.FfnLastIdeal.τ).loc Cert.FfnLastIdeal.main_v15_4) = v4 c
          ∧ r.2.mem ((c.tc : Thread Cert.FfnLastIdeal.nD Cert.FfnLastIdeal.τ).loc Cert.FfnLastIdeal.main_v15_5) = v5 c
          ∧ r.2.mem ((c.tc : Thread Cert.FfnLastIdeal.nD Cert.FfnLastIdeal.τ).loc Cert.FfnLastIdeal.main_v15_6) = v6 c
          ∧ r.2.mem ((c.tc : Thread Cert.FfnLastIdeal.nD Cert.FfnLastIdeal.τ).loc Cert.FfnLastIdeal.main_v15_7) = v7 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastReferenceIdeal.defs (F := Ideal)) (onTc (τ := Cert.FfnLastReferenceIdeal.τ) (Cert.FfnLastReferenceIdeal.main (F := Ideal))) ⟨m', fun _ => 0, g'⟩ (fun r => ∀ c : Dev Cert.FfnLastReferenceIdeal.nD,
          r.2.mem ((c.tc : Thread Cert.FfnLastReferenceIdeal.nD Cert.FfnLastReferenceIdeal.τ).loc Cert.FfnLastReferenceIdeal.main_v118) = v0 c
          ∧ r.2.mem ((c.tc : Thread Cert.FfnLastReferenceIdeal.nD Cert.FfnLastReferenceIdeal.τ).loc Cert.FfnLastReferenceIdeal.main_v120) = v1 c
          ∧ r.2.mem ((c.tc : Thread Cert.FfnLastReferenceIdeal.nD Cert.FfnLastReferenceIdeal.τ).loc Cert.FfnLastReferenceIdeal.main_v121) = v2 c
          ∧ r.2.mem ((c.tc : Thread Cert.FfnLastReferenceIdeal.nD Cert.FfnLastReferenceIdeal.τ).loc Cert.FfnLastReferenceIdeal.main_v122) = v3 c
          ∧ r.2.mem ((c.tc : Thread Cert.FfnLastReferenceIdeal.nD Cert.FfnLastReferenceIdeal.τ).loc Cert.FfnLastReferenceIdeal.main_v123) = v4 c
          ∧ r.2.mem ((c.tc : Thread Cert.FfnLastReferenceIdeal.nD Cert.FfnLastReferenceIdeal.τ).loc Cert.FfnLastReferenceIdeal.main_v124) = v5 c
          ∧ r.2.mem ((c.tc : Thread Cert.FfnLastReferenceIdeal.nD Cert.FfnLastReferenceIdeal.τ).loc Cert.FfnLastReferenceIdeal.main_v126) = v6 c
          ∧ r.2.mem ((c.tc : Thread Cert.FfnLastReferenceIdeal.nD Cert.FfnLastReferenceIdeal.τ).loc Cert.FfnLastReferenceIdeal.main_v128) = v7 c
          ∧ r.2.mem ((c.tc : Thread Cert.FfnLastReferenceIdeal.nD Cert.FfnLastReferenceIdeal.τ).loc Cert.FfnLastReferenceIdeal.main_arg0) = m' ((c.tc : Thread Cert.FfnLastReferenceIdeal.nD Cert.FfnLastReferenceIdeal.τ).loc Cert.FfnLastReferenceIdeal.main_arg0)
          ∧ r.2.mem ((c.tc : Thread Cert.FfnLastReferenceIdeal.nD Cert.FfnLastReferenceIdeal.τ).loc Cert.FfnLastReferenceIdeal.main_arg1) = m' ((c.tc : Thread Cert.FfnLastReferenceIdeal.nD Cert.FfnLastReferenceIdeal.τ).loc Cert.FfnLastReferenceIdeal.main_arg1)
          ∧ r.2.mem ((c.tc : Thread Cert.FfnLastReferenceIdeal.nD Cert.FfnLastReferenceIdeal.τ).loc Cert.FfnLastReferenceIdeal.main_arg2) = m' ((c.tc : Thread Cert.FfnLastReferenceIdeal.nD Cert.FfnLastReferenceIdeal.τ).loc Cert.FfnLastReferenceIdeal.main_arg2)
          ∧ r.2.mem ((c.tc : Thread Cert.FfnLastReferenceIdeal.nD Cert.FfnLastReferenceIdeal.τ).loc Cert.FfnLastReferenceIdeal.main_arg3) = m' ((c.tc : Thread Cert.FfnLastReferenceIdeal.nD Cert.FfnLastReferenceIdeal.τ).loc Cert.FfnLastReferenceIdeal.main_arg3)
          ∧ r.2.mem ((c.tc : Thread Cert.FfnLastReferenceIdeal.nD Cert.FfnLastReferenceIdeal.τ).loc Cert.FfnLastReferenceIdeal.main_arg4) = m' ((c.tc : Thread Cert.FfnLastReferenceIdeal.nD Cert.FfnLastReferenceIdeal.τ).loc Cert.FfnLastReferenceIdeal.main_arg4)
          ∧ r.2.mem ((c.tc : Thread Cert.FfnLastReferenceIdeal.nD Cert.FfnLastReferenceIdeal.τ).loc Cert.FfnLastReferenceIdeal.main_arg5) = m' ((c.tc : Thread Cert.FfnLastReferenceIdeal.nD Cert.FfnLastReferenceIdeal.τ).loc Cert.FfnLastReferenceIdeal.main_arg5))

def preserves_Ffn_FfnIdeal : Prop :=
  True

def algebraic_FfnIdeal_FfnReferenceIdeal_pre_ffn_finite [hFfnIdeal : Cert.FfnIdeal.Facts] [hFfnReferenceIdeal : Cert.FfnReferenceIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_ffn_finite m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v47_0)) (v1 : (c : Dev Cert.FfnIdeal.nD) → Buf (Elt Ideal) ((c.tc : Thread Cert.FfnIdeal.nD Cert.FfnIdeal.τ).loc Cert.FfnIdeal.main_v47_1)) (v2 : (c : Dev Cert.FfnIdeal.nD) → Buf (Elt Ideal) ((c.tc : Thread Cert.FfnIdeal.nD Cert.FfnIdeal.τ).loc Cert.FfnIdeal.main_v47_2)) (v3 : (c : Dev Cert.FfnIdeal.nD) → Buf (Elt Ideal) ((c.tc : Thread Cert.FfnIdeal.nD Cert.FfnIdeal.τ).loc Cert.FfnIdeal.main_v47_3)) (v4 : (c : Dev Cert.FfnIdeal.nD) → Buf (Elt Ideal) ((c.tc : Thread Cert.FfnIdeal.nD Cert.FfnIdeal.τ).loc Cert.FfnIdeal.main_v47_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v47_0) = v0 c
          ∧ r.2.mem ((c.tc : Thread Cert.FfnIdeal.nD Cert.FfnIdeal.τ).loc Cert.FfnIdeal.main_v47_1) = v1 c
          ∧ r.2.mem ((c.tc : Thread Cert.FfnIdeal.nD Cert.FfnIdeal.τ).loc Cert.FfnIdeal.main_v47_2) = v2 c
          ∧ r.2.mem ((c.tc : Thread Cert.FfnIdeal.nD Cert.FfnIdeal.τ).loc Cert.FfnIdeal.main_v47_3) = v3 c
          ∧ r.2.mem ((c.tc : Thread Cert.FfnIdeal.nD Cert.FfnIdeal.τ).loc Cert.FfnIdeal.main_v47_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v104) = v0 c
          ∧ r.2.mem ((c.tc : Thread Cert.FfnReferenceIdeal.nD Cert.FfnReferenceIdeal.τ).loc Cert.FfnReferenceIdeal.main_v106) = v1 c
          ∧ r.2.mem ((c.tc : Thread Cert.FfnReferenceIdeal.nD Cert.FfnReferenceIdeal.τ).loc Cert.FfnReferenceIdeal.main_v107) = v2 c
          ∧ r.2.mem ((c.tc : Thread Cert.FfnReferenceIdeal.nD Cert.FfnReferenceIdeal.τ).loc Cert.FfnReferenceIdeal.main_v108) = v3 c
          ∧ r.2.mem ((c.tc : Thread Cert.FfnReferenceIdeal.nD Cert.FfnReferenceIdeal.τ).loc Cert.FfnReferenceIdeal.main_v109) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_AttnFwd_AttnFwdIdeal : Prop :=
  IdealRules.named_const.Statement Cert.AttnFwdIdeal.κ "mask" .f32 0xF149F2CA#32 ⊥

def algebraic_AttnFwdIdeal_AttnFwdReferenceIdeal_pre_attn_fwd_finite [hAttnFwdIdeal : Cert.AttnFwdIdeal.Facts] [hAttnFwdReferenceIdeal : Cert.AttnFwdReferenceIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal_attn_fwd_finite m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)
      ∧ m' ((c.tc : Thread Cert.AttnFwdReferenceIdeal.nD Cert.AttnFwdReferenceIdeal.τ).loc Cert.AttnFwdReferenceIdeal.main_arg2) = m ((c.tc : Thread Cert.AttnFwdIdeal.nD Cert.AttnFwdIdeal.τ).loc Cert.AttnFwdIdeal.main_arg2)
      ∧ m' ((c.tc : Thread Cert.AttnFwdReferenceIdeal.nD Cert.AttnFwdReferenceIdeal.τ).loc Cert.AttnFwdReferenceIdeal.main_arg3) = m ((c.tc : Thread Cert.AttnFwdIdeal.nD Cert.AttnFwdIdeal.τ).loc Cert.AttnFwdIdeal.main_arg3)
      ∧ m' ((c.tc : Thread Cert.AttnFwdReferenceIdeal.nD Cert.AttnFwdReferenceIdeal.τ).loc Cert.AttnFwdReferenceIdeal.main_arg4) = m ((c.tc : Thread Cert.AttnFwdIdeal.nD Cert.AttnFwdIdeal.τ).loc Cert.AttnFwdIdeal.main_arg4)) →
    ∃ (v0 : (c : Dev Cert.AttnFwdIdeal.nD) → Buf (Elt Ideal) ((c.tc : Thread Cert.AttnFwdIdeal.nD Cert.AttnFwdIdeal.τ).loc Cert.AttnFwdIdeal.main_v104)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v104) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v161) = v0 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1)
          ∧ r.2.mem ((c.tc : Thread Cert.AttnFwdReferenceIdeal.nD Cert.AttnFwdReferenceIdeal.τ).loc Cert.AttnFwdReferenceIdeal.main_arg2) = m' ((c.tc : Thread Cert.AttnFwdReferenceIdeal.nD Cert.AttnFwdReferenceIdeal.τ).loc Cert.AttnFwdReferenceIdeal.main_arg2)
          ∧ r.2.mem ((c.tc : Thread Cert.AttnFwdReferenceIdeal.nD Cert.AttnFwdReferenceIdeal.τ).loc Cert.AttnFwdReferenceIdeal.main_arg3) = m' ((c.tc : Thread Cert.AttnFwdReferenceIdeal.nD Cert.AttnFwdReferenceIdeal.τ).loc Cert.AttnFwdReferenceIdeal.main_arg3)
          ∧ r.2.mem ((c.tc : Thread Cert.AttnFwdReferenceIdeal.nD Cert.AttnFwdReferenceIdeal.τ).loc Cert.AttnFwdReferenceIdeal.main_arg4) = m' ((c.tc : Thread Cert.AttnFwdReferenceIdeal.nD Cert.AttnFwdReferenceIdeal.τ).loc Cert.AttnFwdReferenceIdeal.main_arg4))

def Claim : Prop :=
  ∃ (hKernel : Cert.Kernel.Facts) (hKernelIdeal : Cert.KernelIdeal.Facts) (hReferenceIdeal : Cert.ReferenceIdeal.Facts) (hSguMix : Cert.SguMix.Facts) (hSguMixIdeal : Cert.SguMixIdeal.Facts) (hSguMixReferenceIdeal : Cert.SguMixReferenceIdeal.Facts) (hAttn : Cert.Attn.Facts) (hAttnIdeal : Cert.AttnIdeal.Facts) (hAttnReferenceIdeal : Cert.AttnReferenceIdeal.Facts) (hAttnOut : Cert.AttnOut.Facts) (hAttnOutIdeal : Cert.AttnOutIdeal.Facts) (hAttnOutReferenceIdeal : Cert.AttnOutReferenceIdeal.Facts) (hSguOut : Cert.SguOut.Facts) (hSguOutIdeal : Cert.SguOutIdeal.Facts) (hSguOutReferenceIdeal : Cert.SguOutReferenceIdeal.Facts) (hSguIn : Cert.SguIn.Facts) (hSguInIdeal : Cert.SguInIdeal.Facts) (hSguInReferenceIdeal : Cert.SguInReferenceIdeal.Facts) (hFfnLast : Cert.FfnLast.Facts) (hFfnLastIdeal : Cert.FfnLastIdeal.Facts) (hFfnLastReferenceIdeal : Cert.FfnLastReferenceIdeal.Facts) (hFfn : Cert.Ffn.Facts) (hFfnIdeal : Cert.FfnIdeal.Facts) (hFfnReferenceIdeal : Cert.FfnReferenceIdeal.Facts) (hAttnFwd : Cert.AttnFwd.Facts) (hAttnFwdIdeal : Cert.AttnFwdIdeal.Facts) (hAttnFwdReferenceIdeal : Cert.AttnFwdReferenceIdeal.Facts) (hPre_finite : Cert.Pre_finite.Facts) (hPre_sgu_finite : Cert.Pre_sgu_finite.Facts) (hPre_attn_finite : Cert.Pre_attn_finite.Facts) (hPre_attn_out_finite : Cert.Pre_attn_out_finite.Facts) (hPre_sgu_out_finite : Cert.Pre_sgu_out_finite.Facts) (hPre_sgu_in_finite : Cert.Pre_sgu_in_finite.Facts) (hPre_ffn_last_finite : Cert.Pre_ffn_last_finite.Facts) (hPre_ffn_finite : Cert.Pre_ffn_finite.Facts) (hPre_attn_fwd_finite : Cert.Pre_attn_fwd_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_SguMix (hSguMix := hSguMix)
    ∧ quiescent_SguMixIdeal (hSguMixIdeal := hSguMixIdeal)
    ∧ quiescent_SguMixIdeal_pre_sgu_finite (hSguMixIdeal := hSguMixIdeal) (hPre_sgu_finite := hPre_sgu_finite)
    ∧ quiescent_SguMixReferenceIdeal (hSguMixReferenceIdeal := hSguMixReferenceIdeal)
    ∧ quiescent_SguMixReferenceIdeal_pre_sgu_finite (hSguMixReferenceIdeal := hSguMixReferenceIdeal) (hPre_sgu_finite := hPre_sgu_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_AttnOut (hAttnOut := hAttnOut)
    ∧ quiescent_AttnOutIdeal (hAttnOutIdeal := hAttnOutIdeal)
    ∧ quiescent_AttnOutIdeal_pre_attn_out_finite (hAttnOutIdeal := hAttnOutIdeal) (hPre_attn_out_finite := hPre_attn_out_finite)
    ∧ quiescent_AttnOutReferenceIdeal (hAttnOutReferenceIdeal := hAttnOutReferenceIdeal)
    ∧ quiescent_AttnOutReferenceIdeal_pre_attn_out_finite (hAttnOutReferenceIdeal := hAttnOutReferenceIdeal) (hPre_attn_out_finite := hPre_attn_out_finite)
    ∧ quiescent_SguOut (hSguOut := hSguOut)
    ∧ quiescent_SguOutIdeal (hSguOutIdeal := hSguOutIdeal)
    ∧ quiescent_SguOutIdeal_pre_sgu_out_finite (hSguOutIdeal := hSguOutIdeal) (hPre_sgu_out_finite := hPre_sgu_out_finite)
    ∧ quiescent_SguOutReferenceIdeal (hSguOutReferenceIdeal := hSguOutReferenceIdeal)
    ∧ quiescent_SguOutReferenceIdeal_pre_sgu_out_finite (hSguOutReferenceIdeal := hSguOutReferenceIdeal) (hPre_sgu_out_finite := hPre_sgu_out_finite)
    ∧ quiescent_SguIn (hSguIn := hSguIn)
    ∧ quiescent_SguInIdeal (hSguInIdeal := hSguInIdeal)
    ∧ quiescent_SguInIdeal_pre_sgu_in_finite (hSguInIdeal := hSguInIdeal) (hPre_sgu_in_finite := hPre_sgu_in_finite)
    ∧ quiescent_SguInReferenceIdeal (hSguInReferenceIdeal := hSguInReferenceIdeal)
    ∧ quiescent_SguInReferenceIdeal_pre_sgu_in_finite (hSguInReferenceIdeal := hSguInReferenceIdeal) (hPre_sgu_in_finite := hPre_sgu_in_finite)
    ∧ quiescent_FfnLast (hFfnLast := hFfnLast)
    ∧ quiescent_FfnLastIdeal (hFfnLastIdeal := hFfnLastIdeal)
    ∧ quiescent_FfnLastIdeal_pre_ffn_last_finite (hFfnLastIdeal := hFfnLastIdeal) (hPre_ffn_last_finite := hPre_ffn_last_finite)
    ∧ quiescent_FfnLastReferenceIdeal (hFfnLastReferenceIdeal := hFfnLastReferenceIdeal)
    ∧ quiescent_FfnLastReferenceIdeal_pre_ffn_last_finite (hFfnLastReferenceIdeal := hFfnLastReferenceIdeal) (hPre_ffn_last_finite := hPre_ffn_last_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdReferenceIdeal (hAttnFwdReferenceIdeal := hAttnFwdReferenceIdeal)
    ∧ quiescent_AttnFwdReferenceIdeal_pre_attn_fwd_finite (hAttnFwdReferenceIdeal := hAttnFwdReferenceIdeal) (hPre_attn_fwd_finite := hPre_attn_fwd_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_SguMix_SguMixIdeal
    ∧ algebraic_SguMixIdeal_SguMixReferenceIdeal_pre_sgu_finite (hSguMixIdeal := hSguMixIdeal) (hSguMixReferenceIdeal := hSguMixReferenceIdeal) (hPre_sgu_finite := hPre_sgu_finite)
    ∧ preserves_Attn_AttnIdeal
    ∧ algebraic_AttnIdeal_AttnReferenceIdeal_pre_attn_finite (hAttnIdeal := hAttnIdeal) (hAttnReferenceIdeal := hAttnReferenceIdeal) (hPre_attn_finite := hPre_attn_finite)
    ∧ preserves_AttnOut_AttnOutIdeal
    ∧ algebraic_AttnOutIdeal_AttnOutReferenceIdeal_pre_attn_out_finite (hAttnOutIdeal := hAttnOutIdeal) (hAttnOutReferenceIdeal := hAttnOutReferenceIdeal) (hPre_attn_out_finite := hPre_attn_out_finite)
    ∧ preserves_SguOut_SguOutIdeal
    ∧ algebraic_SguOutIdeal_SguOutReferenceIdeal_pre_sgu_out_finite (hSguOutIdeal := hSguOutIdeal) (hSguOutReferenceIdeal := hSguOutReferenceIdeal) (hPre_sgu_out_finite := hPre_sgu_out_finite)
    ∧ preserves_SguIn_SguInIdeal
    ∧ algebraic_SguInIdeal_SguInReferenceIdeal_pre_sgu_in_finite (hSguInIdeal := hSguInIdeal) (hSguInReferenceIdeal := hSguInReferenceIdeal) (hPre_sgu_in_finite := hPre_sgu_in_finite)
    ∧ preserves_FfnLast_FfnLastIdeal
    ∧ algebraic_FfnLastIdeal_FfnLastReferenceIdeal_pre_ffn_last_finite (hFfnLastIdeal := hFfnLastIdeal) (hFfnLastReferenceIdeal := hFfnLastReferenceIdeal) (hPre_ffn_last_finite := hPre_ffn_last_finite)
    ∧ preserves_Ffn_FfnIdeal
    ∧ algebraic_FfnIdeal_FfnReferenceIdeal_pre_ffn_finite (hFfnIdeal := hFfnIdeal) (hFfnReferenceIdeal := hFfnReferenceIdeal) (hPre_ffn_finite := hPre_ffn_finite)
    ∧ preserves_AttnFwd_AttnFwdIdeal
    ∧ algebraic_AttnFwdIdeal_AttnFwdReferenceIdeal_pre_attn_fwd_finite (hAttnFwdIdeal := hAttnFwdIdeal) (hAttnFwdReferenceIdeal := hAttnFwdReferenceIdeal) (hPre_attn_fwd_finite := hPre_attn_fwd_finite)
-- ==== Pre_attn_finite.lean ====
abbrev S1x4096x1024 : Shape := ⟨3, ![1, 4096, 1024]⟩
abbrev S2x1024 : Shape := ⟨2, ![2, 1024]⟩
abbrev S1x1024x1536 : Shape := ⟨3, ![1, 1024, 1536]⟩
abbrev S1x1536 : Shape := ⟨2, ![1, 1536]⟩
abbrev S1x16 : Shape := ⟨2, ![1, 16]⟩
abbrev S_ : Shape := ⟨0, ![]⟩

class Facts : Prop where
  bcast_S_S1x4096x1024 : S_.BroadcastsInDim S1x4096x1024 (![] : Fin 0 → Fin S1x4096x1024.rank)
  bcast_S_S2x1024 : S_.BroadcastsInDim S2x1024 (![] : Fin 0 → Fin S2x1024.rank)
  bcast_S_S1x1024x1536 : S_.BroadcastsInDim S1x1024x1536 (![] : Fin 0 → Fin S1x1024x1536.rank)
  bcast_S_S1x1536 : S_.BroadcastsInDim S1x1536 (![] : Fin 0 → Fin S1x1536.rank)
  bcast_S_S1x16 : S_.BroadcastsInDim S1x16 (![] : Fin 0 → Fin S1x16.rank)

variable [Facts]

def fn {F : FTy → Type} [FloatOps F] (main_arg0 : FVec F S1x4096x1024 .f32) (main_arg1 : FVec F S1x4096x1024 .f32) (main_arg2 : FVec F S2x1024 .f32) (main_arg3 : FVec F S1x1024x1536 .f32) (main_arg4 : FVec F S1x1536 .f32) (main_arg5 : FVec F S1x16 .f32) : IVec S1x4096x1024 1 × IVec S1x4096x1024 1 × IVec S2x1024 1 × IVec S1x1024x1536 1 × IVec S1x1536 1 × IVec S1x16 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S1x1024x1536 .f32 := Host.absf main_arg3
  let main_cst_2 : FVec F S_ .f32 := constant S_ .f32 0x7F800000#32
  let main_v10 : FVec F S1x1024x1536 .f32 := broadcastInDim S1x1024x1536 ![] bcast_S_S1x1024x1536 main_cst_2
  let main_v11 : IVec S1x1024x1536 1 := cmpf .olt main_v9 main_v10
  let main_v12 : FVec F S1x1536 .f32 := Host.absf main_arg4
  let main_cst_3 : FVec F S_ .f32 := constant S_ .f32 0x7F800000#32
  let main_v13 : FVec F S1x1536 .f32 := broadcastInDim S1x1536 ![] bcast_S_S1x1536 main_cst_3
  let main_v14 : IVec S1x1536 1 := cmpf .olt main_v12 main_v13
  let main_v15 : FVec F S1x16 .f32 := Host.absf main_arg5
  let main_cst_4 : FVec F S_ .f32 := constant S_ .f32 0x7F800000#32
  let main_v16 : FVec F S1x16 .f32 := broadcastInDim S1x16 ![] bcast_S_S1x16 main_cst_4
  let main_v17 : IVec S1x16 1 := cmpf .olt main_v15 main_v16
  (main_v2, main_v5, main_v8, main_v11, main_v14, main_v17)
-- ==== Pre_attn_fwd_finite.lean ====
abbrev S1x4096x1024 : Shape := ⟨3, ![1, 4096, 1024]⟩
abbrev S2x1024 : Shape := ⟨2, ![2, 1024]⟩
abbrev S1x1024x1536 : Shape := ⟨3, ![1, 1024, 1536]⟩
abbrev S1x1536 : Shape := ⟨2, ![1, 1536]⟩
abbrev S1x16 : Shape := ⟨2, ![1, 16]⟩
abbrev S_ : Shape := ⟨0, ![]⟩

class Facts : Prop where
  bcast_S_S1x4096x1024 : S_.BroadcastsInDim S1x4096x1024 (![] : Fin 0 → Fin S1x4096x1024.rank)
  bcast_S_S2x1024 : S_.BroadcastsInDim S2x1024 (![] : Fin 0 → Fin S2x1024.rank)
  bcast_S_S1x1024x1536 : S_.BroadcastsInDim S1x1024x1536 (![] : Fin 0 → Fin S1x1024x1536.rank)
  bcast_S_S1x1536 : S_.BroadcastsInDim S1x1536 (![] : Fin 0 → Fin S1x1536.rank)
  bcast_S_S1x16 : S_.BroadcastsInDim S1x16 (![] : Fin 0 → Fin S1x16.rank)

variable [Facts]

def fn {F : FTy → Type} [FloatOps F] (main_arg0 : FVec F S1x4096x1024 .f32) (main_arg1 : FVec F S2x1024 .f32) (main_arg2 : FVec F S1x1024x1536 .f32) (main_arg3 : FVec F S1x1536 .f32) (main_arg4 : FVec F S1x16 .f32) : IVec S1x4096x1024 1 × IVec S2x1024 1 × IVec S1x1024x1536 1 × IVec S1x1536 1 × IVec S1x16 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1x1024x1536 .f32 := Host.absf main_arg2
  let main_cst_1 : FVec F S_ .f32 := constant S_ .f32 0x7F800000#32
  let main_v7 : FVec F S1x1024x1536 .f32 := broadcastInDim S1x1024x1536 ![] bcast_S_S1x1024x1536 main_cst_1
  let main_v8 : IVec S1x1024x1536 1 := cmpf .olt main_v6 main_v7
  let main_v9 : FVec F S1x1536 .f32 := Host.absf main_arg3
  let main_cst_2 : FVec F S_ .f32 := constant S_ .f32 0x7F800000#32
  let main_v10 : FVec F S1x1536 .f32 := broadcastInDim S1x1536 ![] bcast_S_S1x1536 main_cst_2
  let main_v11 : IVec S1x1536 1 := cmpf .olt main_v9 main_v10
  let main_v12 : FVec F S1x16 .f32 := Host.absf main_arg4
  let main_cst_3 : FVec F S_ .f32 := constant S_ .f32 0x7F800000#32
  let main_v13 : FVec F S1x16 .f32 := broadcastInDim S1x16 ![] bcast_S_S1x16 main_cst_3
  let main_v14 : IVec S1x16 1 := cmpf .olt main_v12 main_v13
  (main_v2, main_v5, main_v8, main_v11, main_v14)
-- ==== Pre_attn_out_finite.lean ====
abbrev S1x4096x1024 : Shape := ⟨3, ![1, 4096, 1024]⟩
abbrev S1x1024x1024 : Shape := ⟨3, ![1, 1024, 1024]⟩
abbrev S1x1024 : Shape := ⟨2, ![1, 1024]⟩
abbrev S2x1024 : Shape := ⟨2, ![2, 1024]⟩
abbrev S_ : Shape := ⟨0, ![]⟩

class Facts : Prop where
  bcast_S_S1x4096x1024 : S_.BroadcastsInDim S1x4096x1024 (![] : Fin 0 → Fin S1x4096x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S_S2x1024 : S_.BroadcastsInDim S2x1024 (![] : Fin 0 → Fin S2x1024.rank)

variable [Facts]

def fn {F : FTy → Type} [FloatOps F] (main_arg0 : FVec F S1x4096x1024 .f32) (main_arg1 : FVec F S1x1024x1024 .f32) (main_arg2 : FVec F S1x1024 .f32) (main_arg3 : FVec F S2x1024 .f32) (main_arg4 : FVec F S1x4096x1024 .f32) : IVec S1x4096x1024 1 × IVec S1x1024x1024 1 × IVec S1x1024 1 × IVec S2x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024x1024 .f32 := Host.absf main_arg1
  let main_cst_0 : FVec F S_ .f32 := constant S_ .f32 0x7F800000#32
  let main_v4 : FVec F S1x1024x1024 .f32 := broadcastInDim S1x1024x1024 ![] bcast_S_S1x1024x1024 main_cst_0
  let main_v5 : IVec S1x1024x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_v12 : FVec F S1x4096x1024 .f32 := Host.absf main_arg4
  let main_cst_3 : FVec F S_ .f32 := constant S_ .f32 0x7F800000#32
  let main_v13 : FVec F S1x4096x1024 .f32 := broadcastInDim S1x4096x1024 ![] bcast_S_S1x4096x1024 main_cst_3
  let main_v14 : IVec S1x4096x1024 1 := cmpf .olt main_v12 main_v13
  (main_v2, main_v5, main_v8, main_v11, main_v14)
-- ==== Pre_ffn_finite.lean ====
abbrev S1x4096x1024 : Shape := ⟨3, ![1, 4096, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S_ : Shape := ⟨0, ![]⟩

class Facts : Prop where
  bcast_S_S1x4096x1024 : S_.BroadcastsInDim S1x4096x1024 (![] : Fin 0 → Fin S1x4096x1024.rank)
  bcast_S_S2x1024 : S_.BroadcastsInDim S2x1024 (![] : Fin 0 → Fin S2x1024.rank)
  bcast_S_S2x1024x5632 : S_.BroadcastsInDim S2x1024x5632 (![] : Fin 0 → Fin S2x1024x5632.rank)
  bcast_S_S2x2816x1024 : S_.BroadcastsInDim S2x2816x1024 (![] : Fin 0 → Fin S2x2816x1024.rank)

variable [Facts]

def fn {F : FTy → Type} [FloatOps F] (main_arg0 : FVec F S1x4096x1024 .f32) (main_arg1 : FVec F S2x1024 .f32) (main_arg2 : FVec F S2x1024 .f32) (main_arg3 : FVec F S2x1024x5632 .f32) (main_arg4 : FVec F S2x2816x1024 .f32) (main_arg5 : FVec F S1x4096x1024 .f32) : IVec S1x4096x1024 1 × IVec S2x1024 1 × IVec S2x1024 1 × IVec S2x1024x5632 1 × IVec S2x2816x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x1024x5632 .f32 := Host.absf main_arg3
  let main_cst_2 : FVec F S_ .f32 := constant S_ .f32 0x7F800000#32
  let main_v10 : FVec F S2x1024x5632 .f32 := broadcastInDim S2x1024x5632 ![] bcast_S_S2x1024x5632 main_cst_2
  let main_v11 : IVec S2x1024x5632 1 := cmpf .olt main_v9 main_v10
  let main_v12 : FVec F S2x2816x1024 .f32 := Host.absf main_arg4
  let main_cst_3 : FVec F S_ .f32 := constant S_ .f32 0x7F800000#32
  let main_v13 : FVec F S2x2816x1024 .f32 := broadcastInDim S2x2816x1024 ![] bcast_S_S2x2816x1024 main_cst_3
  let main_v14 : IVec S2x2816x1024 1 := cmpf .olt main_v12 main_v13
  let main_v15 : FVec F S1x4096x1024 .f32 := Host.absf main_arg5
  let main_cst_4 : FVec F S_ .f32 := constant S_ .f32 0x7F800000#32
  let main_v16 : FVec F S1x4096x1024 .f32 := broadcastInDim S1x4096x1024 ![] bcast_S_S1x4096x1024 main_cst_4
  let main_v17 : IVec S1x4096x1024 1 := cmpf .olt main_v15 main_v16
  (main_v2, main_v5, main_v8, main_v11, main_v14, main_v17)
-- ==== Pre_ffn_last_finite.lean ====
abbrev S1x4096x1024 : Shape := ⟨3, ![1, 4096, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S_ : Shape := ⟨0, ![]⟩

class Facts : Prop where
  bcast_S_S1x4096x1024 : S_.BroadcastsInDim S1x4096x1024 (![] : Fin 0 → Fin S1x4096x1024.rank)
  bcast_S_S2x1024 : S_.BroadcastsInDim S2x1024 (![] : Fin 0 → Fin S2x1024.rank)
  bcast_S_S2x1024x5632 : S_.BroadcastsInDim S2x1024x5632 (![] : Fin 0 → Fin S2x1024x5632.rank)
  bcast_S_S2x2816x1024 : S_.BroadcastsInDim S2x2816x1024 (![] : Fin 0 → Fin S2x2816x1024.rank)

variable [Facts]

def fn {F : FTy → Type} [FloatOps F] (main_arg0 : FVec F S1x4096x1024 .f32) (main_arg1 : FVec F S2x1024 .f32) (main_arg2 : FVec F S2x1024 .f32) (main_arg3 : FVec F S2x1024x5632 .f32) (main_arg4 : FVec F S2x2816x1024 .f32) (main_arg5 : FVec F S1x4096x1024 .f32) : IVec S1x4096x1024 1 × IVec S2x1024 1 × IVec S2x1024 1 × IVec S2x1024x5632 1 × IVec S2x2816x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x1024x5632 .f32 := Host.absf main_arg3
  let main_cst_2 : FVec F S_ .f32 := constant S_ .f32 0x7F800000#32
  let main_v10 : FVec F S2x1024x5632 .f32 := broadcastInDim S2x1024x5632 ![] bcast_S_S2x1024x5632 main_cst_2
  let main_v11 : IVec S2x1024x5632 1 := cmpf .olt main_v9 main_v10
  let main_v12 : FVec F S2x2816x1024 .f32 := Host.absf main_arg4
  let main_cst_3 : FVec F S_ .f32 := constant S_ .f32 0x7F800000#32
  let main_v13 : FVec F S2x2816x1024 .f32 := broadcastInDim S2x2816x1024 ![] bcast_S_S2x2816x1024 main_cst_3
  let main_v14 : IVec S2x2816x1024 1 := cmpf .olt main_v12 main_v13
  let main_v15 : FVec F S1x4096x1024 .f32 := Host.absf main_arg5
  let main_cst_4 : FVec F S_ .f32 := constant S_ .f32 0x7F800000#32
  let main_v16 : FVec F S1x4096x1024 .f32 := broadcastInDim S1x4096x1024 ![] bcast_S_S1x4096x1024 main_cst_4
  let main_v17 : IVec S1x4096x1024 1 := cmpf .olt main_v15 main_v16
  (main_v2, main_v5, main_v8, main_v11, main_v14, main_v17)
-- ==== Pre_finite.lean ====
abbrev S1x4096x1536 : Shape := ⟨3, ![1, 4096, 1536]⟩
abbrev S1x1024x1536 : Shape := ⟨3, ![1, 1024, 1536]⟩
abbrev S1x4096x1024 : Shape := ⟨3, ![1, 4096, 1024]⟩
abbrev S2x1024 : Shape := ⟨2, ![2, 1024]⟩
abbrev S_ : Shape := ⟨0, ![]⟩

class Facts : Prop where
  bcast_S_S1x4096x1536 : S_.BroadcastsInDim S1x4096x1536 (![] : Fin 0 → Fin S1x4096x1536.rank)
  bcast_S_S1x1024x1536 : S_.BroadcastsInDim S1x1024x1536 (![] : Fin 0 → Fin S1x1024x1536.rank)
  bcast_S_S1x4096x1024 : S_.BroadcastsInDim S1x4096x1024 (![] : Fin 0 → Fin S1x4096x1024.rank)
  bcast_S_S2x1024 : S_.BroadcastsInDim S2x1024 (![] : Fin 0 → Fin S2x1024.rank)

variable [Facts]

def fn {F : FTy → Type} [FloatOps F] (main_arg0 : FVec F S1x4096x1536 .f32) (main_arg1 : FVec F S1x1024x1536 .f32) (main_arg2 : FVec F S1x4096x1024 .f32) (main_arg3 : FVec F S2x1024 .f32) (main_arg4 : FVec F S1x4096x1024 .f32) : IVec S1x4096x1536 1 × IVec S1x1024x1536 1 × IVec S1x4096x1024 1 × IVec S2x1024 1 :=
  let main_v0 : FVec F S1x4096x1536 .f32 := Host.absf main_arg0
  let main_cst : FVec F S_ .f32 := constant S_ .f32 0x7F800000#32
  let main_v1 : FVec F S1x4096x1536 .f32 := broadcastInDim S1x4096x1536 ![] bcast_S_S1x4096x1536 main_cst
  let main_v2 : IVec S1x4096x1536 1 := cmpf .olt main_v0 main_v1
  let main_v3 : FVec F S1x1024x1536 .f32 := Host.absf main_arg1
  let main_cst_0 : FVec F S_ .f32 := constant S_ .f32 0x7F800000#32
  let main_v4 : FVec F S1x1024x1536 .f32 := broadcastInDim S1x1024x1536 ![] bcast_S_S1x1024x1536 main_cst_0
  let main_v5 : IVec S1x1024x1536 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  (main_v2, main_v5, main_v8, main_v11)
-- ==== Pre_sgu_finite.lean ====
abbrev S1x4096x1024 : Shape := ⟨3, ![1, 4096, 1024]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S1x4096x1024 : S_.BroadcastsInDim S1x4096x1024 (![] : Fin 0 → Fin S1x4096x1024.rank)
  bcast_S_S2x1024 : S_.BroadcastsInDim S2x1024 (![] : Fin 0 → Fin S2x1024.rank)
  bcast_S_S1x1024x2048 : S_.BroadcastsInDim S1x1024x2048 (![] : Fin 0 → Fin S1x1024x2048.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn_part1 {F : FTy → Type} [FloatOps F] (main_arg6 : FVec F S1x8x128x128 .f32) (main_arg7 : FVec F S1x8x128 .f32) (main_v2 : IVec S1x4096x1024 1) (main_v5 : IVec S1x4096x1024 1) (main_v8 : IVec S2x1024 1) (main_v11 : IVec S1x1024x2048 1) (main_v14 : IVec S1x1024 1) (main_v17 : IVec S1x1024 1) : IVec S1x4096x1024 1 × IVec S1x4096x1024 1 × IVec S2x1024 1 × IVec S1x1024x2048 1 × IVec S1x1024 1 × IVec S1x1024 1 × IVec S1x8x128x128 1 × IVec S1x8x128 1 :=
  let main_v18 : FVec F S1x8x128x128 .f32 := Host.absf main_arg6
  let main_cst_5 : FVec F S_ .f32 := constant S_ .f32 0x7F800000#32
  let main_v19 : FVec F S1x8x128x128 .f32 := broadcastInDim S1x8x128x128 ![] bcast_S_S1x8x128x128 main_cst_5
  let main_v20 : IVec S1x8x128x128 1 := cmpf .olt main_v18 main_v19
  let main_v21 : FVec F S1x8x128 .f32 := Host.absf main_arg7
  let main_cst_6 : FVec F S_ .f32 := constant S_ .f32 0x7F800000#32
  let main_v22 : FVec F S1x8x128 .f32 := broadcastInDim S1x8x128 ![] bcast_S_S1x8x128 main_cst_6
  let main_v23 : IVec S1x8x128 1 := cmpf .olt main_v21 main_v22
  (main_v2, main_v5, main_v8, main_v11, main_v14, main_v17, main_v20, main_v23)

def fn {F : FTy → Type} [FloatOps F] (main_arg0 : FVec F S1x4096x1024 .f32) (main_arg1 : FVec F S1x4096x1024 .f32) (main_arg2 : FVec F S2x1024 .f32) (main_arg3 : FVec F S1x1024x2048 .f32) (main_arg4 : FVec F S1x1024 .f32) (main_arg5 : FVec F S1x1024 .f32) (main_arg6 : FVec F S1x8x128x128 .f32) (main_arg7 : FVec F S1x8x128 .f32) : IVec S1x4096x1024 1 × IVec S1x4096x1024 1 × IVec S2x1024 1 × IVec S1x1024x2048 1 × IVec S1x1024 1 × IVec S1x1024 1 × IVec S1x8x128x128 1 × IVec S1x8x128 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S1x1024x2048 .f32 := Host.absf main_arg3
  let main_cst_2 : FVec F S_ .f32 := constant S_ .f32 0x7F800000#32
  let main_v10 : FVec F S1x1024x2048 .f32 := broadcastInDim S1x1024x2048 ![] bcast_S_S1x1024x2048 main_cst_2
  let main_v11 : IVec S1x1024x2048 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_v2 main_v5 main_v8 main_v11 main_v14 main_v17
-- ==== Pre_sgu_in_finite.lean ====
abbrev S1x4096x2048 : Shape := ⟨3, ![1, 4096, 2048]⟩
abbrev S1x1024x2048 : Shape := ⟨3, ![1, 1024, 2048]⟩
abbrev S1x4096x1024 : Shape := ⟨3, ![1, 4096, 1024]⟩
abbrev S2x1024 : Shape := ⟨2, ![2, 1024]⟩
abbrev S_ : Shape := ⟨0, ![]⟩

class Facts : Prop where
  bcast_S_S1x4096x2048 : S_.BroadcastsInDim S1x4096x2048 (![] : Fin 0 → Fin S1x4096x2048.rank)
  bcast_S_S1x1024x2048 : S_.BroadcastsInDim S1x1024x2048 (![] : Fin 0 → Fin S1x1024x2048.rank)
  bcast_S_S1x4096x1024 : S_.BroadcastsInDim S1x4096x1024 (![] : Fin 0 → Fin S1x4096x1024.rank)
  bcast_S_S2x1024 : S_.BroadcastsInDim S2x1024 (![] : Fin 0 → Fin S2x1024.rank)

variable [Facts]

def fn {F : FTy → Type} [FloatOps F] (main_arg0 : FVec F S1x4096x2048 .f32) (main_arg1 : FVec F S1x1024x2048 .f32) (main_arg2 : FVec F S1x4096x1024 .f32) (main_arg3 : FVec F S2x1024 .f32) (main_arg4 : FVec F S1x4096x1024 .f32) : IVec S1x4096x2048 1 × IVec S1x1024x2048 1 × IVec S1x4096x1024 1 × IVec S2x1024 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_v3 : FVec F S1x1024x2048 .f32 := Host.absf main_arg1
  let main_cst_0 : FVec F S_ .f32 := constant S_ .f32 0x7F800000#32
  let main_v4 : FVec F S1x1024x2048 .f32 := broadcastInDim S1x1024x2048 ![] bcast_S_S1x1024x2048 main_cst_0
  let main_v5 : IVec S1x1024x2048 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  (main_v2, main_v5, main_v8, main_v11)
-- ==== Pre_sgu_out_finite.lean ====
abbrev S1x4096x1024 : Shape := ⟨3, ![1, 4096, 1024]⟩
abbrev S1x1024x1024 : Shape := ⟨3, ![1, 1024, 1024]⟩
abbrev S2x1024 : Shape := ⟨2, ![2, 1024]⟩
abbrev S_ : Shape := ⟨0, ![]⟩

class Facts : Prop where
  bcast_S_S1x4096x1024 : S_.BroadcastsInDim S1x4096x1024 (![] : Fin 0 → Fin S1x4096x1024.rank)
  bcast_S_S1x1024x1024 : S_.BroadcastsInDim S1x1024x1024 (![] : Fin 0 → Fin S1x1024x1024.rank)
  bcast_S_S2x1024 : S_.BroadcastsInDim S2x1024 (![] : Fin 0 → Fin S2x1024.rank)

variable [Facts]

def fn {F : FTy → Type} [FloatOps F] (main_arg0 : FVec F S1x4096x1024 .f32) (main_arg1 : FVec F S1x1024x1024 .f32) (main_arg2 : FVec F S2x1024 .f32) (main_arg3 : FVec F S1x4096x1024 .f32) : IVec S1x4096x1024 1 × IVec S1x1024x1024 1 × IVec S2x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024x1024 .f32 := Host.absf main_arg1
  let main_cst_0 : FVec F S_ .f32 := constant S_ .f32 0x7F800000#32
  let main_v4 : FVec F S1x1024x1024 .f32 := broadcastInDim S1x1024x1024 ![] bcast_S_S1x1024x1024 main_cst_0
  let main_v5 : IVec S1x1024x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  (main_v2, main_v5, main_v8, main_v11)
-- ==== Kernel.lean ====
abbrev S1x4096x1536 : Shape := ⟨3, ![1, 4096, 1536]⟩
abbrev S1x1024x1536 : Shape := ⟨3, ![1, 1024, 1536]⟩
abbrev S1x4096x1024 : Shape := ⟨3, ![1, 4096, 1024]⟩
abbrev S2x1024 : Shape := ⟨2, ![2, 1024]⟩
abbrev S1x1536x1024 : Shape := ⟨3, ![1, 1536, 1024]⟩
abbrev S1536x1024 : Shape := ⟨2, ![1536, 1024]⟩
abbrev S4096x1536 : Shape := ⟨2, ![4096, 1536]⟩
abbrev S4096x1024 : Shape := ⟨2, ![4096, 1024]⟩
abbrev S1x1024 : Shape := ⟨2, ![1, 1024]⟩
abbrev S1024 : Shape := ⟨1, ![1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S1x4096x1536, .f32⟩
  | .hbm, ⟨1, _⟩ => ⟨S1x1024x1536, .f32⟩
  | .hbm, ⟨2, _⟩ => ⟨S1x4096x1024, .f32⟩
  | .hbm, ⟨3, _⟩ => ⟨S2x1024, .f32⟩
  | .hbm, ⟨4, _⟩ => ⟨S1x4096x1024, .f32⟩
  | .hbm, ⟨5, _⟩ => ⟨S1x1536x1024, .f32⟩
  | .hbm, ⟨6, _⟩ => ⟨S1536x1024, .f32⟩
  | .hbm, ⟨7, _⟩ => ⟨S1536x1024, .bf16⟩
  | .hbm, ⟨8, _⟩ => ⟨S4096x1536, .f32⟩
  | .hbm, ⟨9, _⟩ => ⟨S4096x1536, .bf16⟩
  | .hbm, ⟨10, _⟩ => ⟨S4096x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S1x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x4096x1536 : Shape := ⟨3, ![1, 4096, 1536]⟩
abbrev S1x1024x1536 : Shape := ⟨3, ![1, 1024, 1536]⟩
abbrev S1x4096x1024 : Shape := ⟨3, ![1, 4096, 1024]⟩
abbrev S2x1024 : Shape := ⟨2, ![2, 1024]⟩
abbrev S1024x1536 : Shape := ⟨2, ![1024, 1536]⟩
abbrev S1x1024 : Shape := ⟨2, ![1, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1536x1024 : Shape := ⟨2, ![1536, 1024]⟩
abbrev S4096 : Shape := ⟨1, ![4096]⟩
abbrev S4096x1024 : Shape := ⟨2, ![4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x4096x1536, .f32⟩
  | .hbm, ⟨1, _⟩ => ⟨S1x1024x1536, .f32⟩
  | .hbm, ⟨2, _⟩ => ⟨S1x4096x1024, .f32⟩
  | .hbm, ⟨3, _⟩ => ⟨S2x1024, .f32⟩
  | .hbm, ⟨4, _⟩ => ⟨S1x4096x1024, .f32⟩
  | .hbm, ⟨5, _⟩ => ⟨S1024x1536, .f32⟩
  | .hbm, ⟨6, _⟩ => ⟨S1x1024, .f32⟩
  | .hbm, ⟨7, _⟩ => ⟨S1024, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S_, .f32⟩
  | .hbm, ⟨21, _⟩ => ⟨S1x4096x1, .f32⟩
  | .hbm, ⟨22, _⟩ => ⟨S1x4096x1, .f32⟩
  | .hbm, ⟨23, _⟩ => ⟨S1x4096x1024, .f32⟩
  | .hbm, ⟨24, _⟩ => ⟨S1x4096x1024, .f32⟩
  | .hbm, ⟨25, _⟩ => ⟨S1x1x1024, .f32⟩
  | .hbm, ⟨26, _⟩ => ⟨S1x4096x1024, .f32⟩
  | .hbm, ⟨27, _⟩ => ⟨S1x4096x1024, .f32⟩
  | .hbm, ⟨28, _⟩ => ⟨S1x4096x1536, .f32⟩
  | .hbm, ⟨29, _⟩ => ⟨S1536x1024, .f32⟩
  | .hbm, ⟨30, _⟩ => ⟨S1024x1536, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1x1024, .f32⟩
  | .hbm, ⟨35, _⟩ => ⟨S1x1x1024, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1024, .f32⟩
  | .hbm, ⟨40, _⟩ => ⟨S1x4096x1024, .f32⟩
  | .hbm, ⟨41, _⟩ => ⟨S_, .f32⟩
  | .hbm, ⟨42, _⟩ => ⟨S1x4096, .f32⟩
  | .hbm, ⟨43, _⟩ => ⟨S1x4096x1, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S1x4096x1, .f32⟩
  | .hbm, ⟨48, _⟩ => ⟨S_, .f32⟩
  | .hbm, ⟨49, _⟩ => ⟨S1x4096x1, .f32⟩
  | .hbm, ⟨50, _⟩ => ⟨S1x4096x1, .f32⟩
  | .hbm, ⟨51, _⟩ => ⟨S_, .f32⟩
  | .hbm, ⟨52, _⟩ => ⟨S4096, .f32⟩
  | .hbm, ⟨53, _⟩ => ⟨S1x4096, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S4096x1024, .f32⟩
  | .hbm, ⟨60, _⟩ => ⟨S1x1024, .f32⟩
  | _, _ => ⟨S1x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== SguMix.lean ====
abbrev S1x4096x1024 : Shape := ⟨3, ![1, 4096, 1024]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩
abbrev S4096x2048 : Shape := ⟨2, ![4096, 2048]⟩
abbrev S8x128x128 : Shape := ⟨3, ![8, 128, 128]⟩
abbrev S8x128 : Shape := ⟨2, ![8, 128]⟩
abbrev S128x8 : Shape := ⟨2, ![128, 8]⟩
abbrev S128x1024 : Shape := ⟨2, ![128, 1024]⟩
abbrev S512x2048 : Shape := ⟨2, ![512, 2048]⟩
abbrev S512x1024 : Shape := ⟨2, ![512, 1024]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩

abbrev nBuf : Space → Nat
  | .hbm => 42
  | .vmem => 14
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S2x1024, .f32⟩
  | .hbm, ⟨3, _⟩ => ⟨S1x1024x2048, .f32⟩
  | .hbm, ⟨4, _⟩ => ⟨S1x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S4096x1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S1024x2048, .f32⟩
  | .hbm, ⟨29, _⟩ => ⟨S1024x2048, .bf16⟩
  | .hbm, ⟨30, _⟩ => ⟨S4096x2048, .f32⟩
  | .hbm, ⟨31, _⟩ => ⟨S4096x2048, .bf16⟩
  | .hbm, ⟨32, _⟩ => ⟨S8x128x128, .f32⟩
  | .hbm, ⟨33, _⟩ => ⟨S8x128, .f32⟩
  | .hbm, ⟨34, _⟩ => ⟨S128x8, .f32⟩
  | .hbm, ⟨35, _⟩ => ⟨S4096x1024, .f32⟩
  | .hbm, ⟨36, _⟩ => ⟨S4096x1024, .bf16⟩
  | .hbm, ⟨37, _⟩ => ⟨S4096x2048, .bf16⟩
  | .hbm, ⟨38, _⟩ => ⟨S1x1024, .f32⟩
  | .hbm, ⟨39, _⟩ => ⟨S1x1024, .f32⟩
  | .hbm, ⟨40, _⟩ => ⟨S128x1024, .f32⟩
  | .hbm, ⟨41, _⟩ => ⟨S128x8, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S512x2048, .bf16⟩
  | .local _ .vmem, ⟨9, _⟩ => ⟨S512x2048, .bf16⟩
  | .local _ .vmem, ⟨10, _⟩ => ⟨S1x1024, .f32⟩
  | .local _ .vmem, ⟨11, _⟩ => ⟨S1x1024, .f32⟩
  | .local _ .vmem, ⟨12, _⟩ => ⟨S128x1024, .f32⟩
  | .local _ .vmem, ⟨13, _⟩ => ⟨S128x8, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev main_v26_3 : Ref sig .tc := ⟨.hbm, 40, rfl⟩
abbrev main_v26_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguMixIdeal.lean ====
variable {F : FTy → Type} [FloatOps F] [Named F]
def κ : String → Option EReal := fun
  | "gelu_cubic" => some ((8943 / 200000 : ℝ) : EReal)
  | "gelu_slope" => some ((26829 / 200000 : ℝ) : EReal)
  | _ => none
-- ==== SguMixReferenceIdeal.lean ====
abbrev S1x4096x1024 : Shape := ⟨3, ![1, 4096, 1024]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x2048 : Shape := ⟨2, ![1024, 2048]⟩
abbrev S1x4096x2048 : Shape := ⟨3, ![1, 4096, 2048]⟩
abbrev S8x128x128 : Shape := ⟨3, ![8, 128, 128]⟩
abbrev S8x128 : Shape := ⟨2, ![8, 128]⟩
abbrev S1x32x128x8x128 : Shape := ⟨5, ![1, 32, 128, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S4096 : Shape := ⟨1, ![4096]⟩
abbrev S4096x2048 : Shape := ⟨2, ![4096, 2048]⟩
abbrev S128x8x128 : Shape := ⟨3, ![128, 8, 128]⟩
abbrev S128x1024 : Shape := ⟨2, ![128, 1024]⟩

abbrev nBuf : Space → Nat
  | .hbm => 216
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S2x1024, .f32⟩
  | 3 => ⟨S1x1024x2048, .f32⟩
  | 4 => ⟨S1x1024, .f32⟩
  | 5 => ⟨S1x1024, .f32⟩
  | 6 => ⟨S1x8x128x128, .f32⟩
  | 7 => ⟨S1x8x128, .f32⟩
  | 8 => ⟨S1x1024, .f32⟩
  | 9 => ⟨S1024, .f32⟩
  | 10 => ⟨S1x4096x1024, .f32⟩
  | 11 => ⟨S_, .f32⟩
  | 12 => ⟨S1x4096, .f32⟩
  | 13 => ⟨S1x4096x1, .f32⟩
  | 14 => ⟨S_, .f32⟩
  | 15 => ⟨S1x4096x1, .f32⟩
  | 16 => ⟨S1x4096x1, .f32⟩
  | 17 => ⟨S_, .f32⟩
  | 18 => ⟨S1x4096x1, .f32⟩
  | 19 => ⟨S1x4096x1, .f32⟩
  | 20 => ⟨S1x4096x1, .f32⟩
  | 21 => ⟨S1x4096x1024, .f32⟩
  | 22 => ⟨S1x4096x1024, .f32⟩
  | 23 => ⟨S1x1x1024, .f32⟩
  | 24 => ⟨S1x4096x1024, .f32⟩
  | 25 => ⟨S1x4096x1024, .f32⟩
  | 26 => ⟨S1024x2048, .f32⟩
  | 27 => ⟨S1x4096x2048, .f32⟩
  | 28 => ⟨S1024, .f32⟩
  | 29 => ⟨S1024, .f32⟩
  | 30 => ⟨S8x128x128, .f32⟩
  | 31 => ⟨S8x128, .f32⟩
  | 32 => ⟨S1x4096x2048, .f32⟩
  | 33 => ⟨S1x4096x2048, .f32⟩
  | 34 => ⟨S1x4096x2048, .f32⟩
  | 35 => ⟨S_, .f32⟩
  | 36 => ⟨S1x4096x2048, .f32⟩
  | 37 => ⟨S1x4096x2048, .f32⟩
  | 38 => ⟨S_, .f32⟩
  | 39 => ⟨S1x4096x2048, .f32⟩
  | 40 => ⟨S1x4096x2048, .f32⟩
  | 41 => ⟨S_, .f32⟩
  | 42 => ⟨S1x4096x2048, .f32⟩
  | 43 => ⟨S1x4096x2048, .f32⟩
  | 44 => ⟨S1x4096x2048, .f32⟩
  | 45 => ⟨S_, .f32⟩
  | 46 => ⟨S1x4096x2048, .f32⟩
  | 47 => ⟨S1x4096x2048, .f32⟩
  | 48 => ⟨S1x4096x2048, .f32⟩
  | 49 => ⟨S_, .f32⟩
  | 50 => ⟨S1x4096x2048, .f32⟩
  | 51 => ⟨S1x4096x2048, .f32⟩
  | 52 => ⟨S_, .f32⟩
  | 53 => ⟨S1x4096x2048, .f32⟩
  | 54 => ⟨S1x4096x2048, .f32⟩
  | 55 => ⟨S1x4096x2048, .f32⟩
  | 56 => ⟨S_, .f32⟩
  | 57 => ⟨S1x4096x2048, .f32⟩
  | 58 => ⟨S1x4096x2048, .f32⟩
  | 59 => ⟨S_, .f32⟩
  | 60 => ⟨S1x4096x2048, .f32⟩
  | 61 => ⟨S1x4096x2048, .f32⟩
  | 62 => ⟨S1x4096x2048, .f32⟩
  | 63 => ⟨S1x4096x1024, .f32⟩
  | 64 => ⟨S1x4096x1024, .f32⟩
  | 65 => ⟨S_, .f32⟩
  | 66 => ⟨S1x4096, .f32⟩
  | 67 => ⟨S1x4096x1, .f32⟩
  | 68 => ⟨S_, .f32⟩
  | 69 => ⟨S1x4096x1, .f32⟩
  | 70 => ⟨S1x4096x1, .f32⟩
  | 71 => ⟨S1x4096x1024, .f32⟩
  | 72 => ⟨S1x4096x1024, .f32⟩
  | 73 => ⟨S1x4096x1024, .f32⟩
  | 74 => ⟨S_, .f32⟩
  | 75 => ⟨S1x4096x1024, .f32⟩
  | 76 => ⟨S1x4096x1024, .f32⟩
  | 77 => ⟨S_, .f32⟩
  | 78 => ⟨S1x4096, .f32⟩
  | 79 => ⟨S1x4096x1, .f32⟩
  | 80 => ⟨S_, .f32⟩
  | 81 => ⟨S1x4096x1, .f32⟩
  | 82 => ⟨S1x4096x1, .f32⟩
  | 83 => ⟨S1x4096x1024, .f32⟩
  | 84 => ⟨S1x4096x1024, .f32⟩
  | 85 => ⟨S_, .f32⟩
  | 86 => ⟨S1x4096x1, .f32⟩
  | 87 => ⟨S1x4096x1, .f32⟩
  | 88 => ⟨S1x4096x1, .f32⟩
  | 89 => ⟨S1x4096x1, .f32⟩
  | 90 => ⟨S_, .f32⟩
  | 91 => ⟨S1x4096x1, .f32⟩
  | 92 => ⟨S1x4096x1, .f32⟩
  | 93 => ⟨S1x4096x1024, .f32⟩
  | 94 => ⟨S1x4096x1024, .f32⟩
  | 95 => ⟨S1x1x1024, .f32⟩
  | 96 => ⟨S1x4096x1024, .f32⟩
  | 97 => ⟨S1x4096x1024, .f32⟩
  | 98 => ⟨S1x1x1024, .f32⟩
  | 99 => ⟨S1x4096x1024, .f32⟩
  | 100 => ⟨S1x4096x1024, .f32⟩
  | 101 => ⟨S1x32x128x8x128, .f32⟩
  | 102 => ⟨S_, .f32⟩
  | 103 => ⟨S128x128, .f32⟩
  | 104 => ⟨S128x128, .i32⟩
  | 105 => ⟨S_, .i32⟩
  | 106 => ⟨S128x128, .i32⟩
  | 107 => ⟨S128x128, .i32⟩
  | 108 => ⟨S128x128, .i32⟩
  | 109 => ⟨S128x128, .i1⟩
  | 110 => ⟨S_, .f32⟩
  | 111 => ⟨S128x128, .f32⟩
  | 112 => ⟨S128x128, .f32⟩
  | 113 => ⟨S1x128x128, .f32⟩
  | 114 => ⟨S8x128x128, .f32⟩
  | 115 => ⟨S8x128x128, .f32⟩
  | 116 => ⟨S8x1x32x128x128, .f32⟩
  | 117 => ⟨S1x32x128x8x128, .f32⟩
  | 118 => ⟨S128x8, .f32⟩
  | 119 => ⟨S1x1x128x8x1, .f32⟩
  | 120 => ⟨S1x32x128x8x128, .f32⟩
  | 121 => ⟨S1x32x128x8x128, .f32⟩
  | 122 => ⟨S1x4096x1024, .f32⟩
  | 123 => ⟨S1x4096x1024, .f32⟩
  | 124 => ⟨S1x4096x1024, .f32⟩
  | 125 => ⟨S1x4096x1024, .f32⟩
  | 126 => ⟨S1x32x128x8x128, .f32⟩
  | 127 => ⟨S_, .f32⟩
  | _ => ⟨S1x4096x1024, .f32⟩

abbrev hbmTy0_1 (i : Nat) : BufTy := match i % 128 with
  | 0 => ⟨S1x128x8, .f32⟩
  | 1 => ⟨S1x1x128x8x1, .f32⟩
  | 2 => ⟨S_, .f32⟩
  | 3 => ⟨S128x8, .f32⟩
  | 4 => ⟨S8x128, .f32⟩
  | 5 => ⟨S8x1x32x128x128, .f32⟩
  | 6 => ⟨S8x128x128, .f32⟩
  | 7 => ⟨S8x1x32x128x128, .f32⟩
  | 8 => ⟨S1x32x128x8x128, .f32⟩
  | 9 => ⟨S8x128x128, .f32⟩
  | 10 => ⟨S8x128x128, .f32⟩
  | 11 => ⟨S1x4096x1024, .f32⟩
  | 12 => ⟨S_, .f32⟩
  | 13 => ⟨S1x1024, .f32⟩
  | 14 => ⟨S1x1x1024, .f32⟩
  | 15 => ⟨S_, .f32⟩
  | 16 => ⟨S1024, .f32⟩
  | 17 => ⟨S1x4096x1024, .f32⟩
  | 18 => ⟨S_, .f32⟩
  | 19 => ⟨S1x1024, .f32⟩
  | 20 => ⟨S1x1x1024, .f32⟩
  | 21 => ⟨S1x4096x1024, .f32⟩
  | 22 => ⟨S1x4096x1024, .f32⟩
  | 23 => ⟨S_, .f32⟩
  | 24 => ⟨S1024, .f32⟩
  | 25 => ⟨S1x4096x1024, .f32⟩
  | 26 => ⟨S_, .f32⟩
  | 27 => ⟨S1x4096, .f32⟩
  | 28 => ⟨S1x4096x1, .f32⟩
  | 29 => ⟨S1x4096x1024, .f32⟩
  | 30 => ⟨S1x4096x1024, .f32⟩
  | 31 => ⟨S1x4096x1, .f32⟩
  | 32 => ⟨S1x4096x1024, .f32⟩
  | 33 => ⟨S_, .f32⟩
  | 34 => ⟨S1x4096, .f32⟩
  | 35 => ⟨S1x4096x1, .f32⟩
  | 36 => ⟨S_, .f32⟩
  | 37 => ⟨S1x4096x1, .f32⟩
  | 38 => ⟨S1x4096x1, .f32⟩
  | 39 => ⟨S_, .f32⟩
  | 40 => ⟨S4096, .f32⟩
  | 41 => ⟨S1x4096, .f32⟩
  | 42 => ⟨S1x4096x1024, .f32⟩
  | 43 => ⟨S1x4096x1024, .f32⟩
  | 44 => ⟨S1x4096x1024, .f32⟩
  | 45 => ⟨S_, .f32⟩
  | 46 => ⟨S1x4096, .f32⟩
  | 47 => ⟨S1x4096x1, .f32⟩
  | 48 => ⟨S1x4096x1024, .f32⟩
  | 49 => ⟨S1x4096x1, .f32⟩
  | 50 => ⟨S_, .f32⟩
  | 51 => ⟨S1x4096x1, .f32⟩
  | 52 => ⟨S1x4096x1, .f32⟩
  | 53 => ⟨S_, .f32⟩
  | 54 => ⟨S4096, .f32⟩
  | 55 => ⟨S1x4096, .f32⟩
  | 56 => ⟨S1x4096x1024, .f32⟩
  | 57 => ⟨S1x4096x1024, .f32⟩
  | 58 => ⟨S_, .f32⟩
  | 59 => ⟨S1x4096x2048, .f32⟩
  | 60 => ⟨S_, .f32⟩
  | 61 => ⟨S1x4096x2048, .f32⟩
  | 62 => ⟨S1x4096x2048, .f32⟩
  | 63 => ⟨S1x4096x2048, .f32⟩
  | 64 => ⟨S1x4096x2048, .f32⟩
  | 65 => ⟨S_, .f32⟩
  | 66 => ⟨S1x4096x2048, .f32⟩
  | 67 => ⟨S1x4096x2048, .f32⟩
  | 68 => ⟨S1x4096x2048, .f32⟩
  | 69 => ⟨S_, .f32⟩
  | 70 => ⟨S1x4096x2048, .f32⟩
  | 71 => ⟨S1x4096x2048, .f32⟩
  | 72 => ⟨S1x4096x2048, .f32⟩
  | 73 => ⟨S_, .f32⟩
  | 74 => ⟨S1x4096x2048, .f32⟩
  | 75 => ⟨S1x4096x2048, .f32⟩
  | 76 => ⟨S_, .f32⟩
  | 77 => ⟨S1x4096x2048, .f32⟩
  | 78 => ⟨S1x4096x2048, .f32⟩
  | 79 => ⟨S1x4096x2048, .f32⟩
  | 80 => ⟨S1x4096x2048, .f32⟩
  | 81 => ⟨S4096x2048, .f32⟩
  | 82 => ⟨S4096x2048, .bf16⟩
  | 83 => ⟨S1x1024, .f32⟩
  | 84 => ⟨S1x1024, .f32⟩
  | 85 => ⟨S128x8x128, .f32⟩
  | 86 => ⟨S128x1024, .f32⟩
  | 87 => ⟨S128x8, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_17 : Ref sig .tc := ⟨.hbm, 102, rfl⟩
abbrev main_v76 : Ref sig .tc := ⟨.hbm, 103, rfl⟩
abbrev main_call0_v0 : Ref sig .tc := ⟨.hbm, 104, rfl⟩
abbrev main_call0_c : Ref sig .tc := ⟨.hbm, 105, rfl⟩
abbrev main_call0_v1 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_call0_cst : Ref sig .tc := ⟨.hbm, 110, rfl⟩
abbrev main_call0_v5 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_18 : Ref sig .tc := ⟨.hbm, 127, rfl⟩
abbrev main_v92 : Ref sig .tc := ⟨.hbm, 128, rfl⟩
abbrev main_v93 : Ref sig .tc := ⟨.hbm, 129, rfl⟩
abbrev main_cst_19 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_20 : Ref sig .tc := ⟨.hbm, 140, rfl⟩
abbrev main_v103 : Ref sig .tc := ⟨.hbm, 141, rfl⟩
abbrev main_v104 : Ref sig .tc := ⟨.hbm, 142, rfl⟩
abbrev main_cst_21 : Ref sig .tc := ⟨.hbm, 143, rfl⟩
abbrev main_v105 : Ref sig .tc := ⟨.hbm, 144, rfl⟩
abbrev main_v106 : Ref sig .tc := ⟨.hbm, 145, rfl⟩
abbrev main_cst_22 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_23 : Ref sig .tc := ⟨.hbm, 151, rfl⟩
abbrev main_v111 : Ref sig .tc := ⟨.hbm, 152, rfl⟩
abbrev main_v112 : Ref sig .tc := ⟨.hbm, 153, rfl⟩
abbrev main_cst_24 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_25 : Ref sig .tc := ⟨.hbm, 161, rfl⟩
abbrev main_v119 : Ref sig .tc := ⟨.hbm, 162, rfl⟩
abbrev main_v120 : Ref sig .tc := ⟨.hbm, 163, rfl⟩
abbrev main_cst_26 : Ref sig .tc := ⟨.hbm, 164, rfl⟩
abbrev main_v121 : Ref sig .tc := ⟨.hbm, 165, rfl⟩
abbrev main_v122 : Ref sig .tc := ⟨.hbm, 166, rfl⟩
abbrev main_cst_27 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_28 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_29 : Ref sig .tc := ⟨.hbm, 178, rfl⟩
abbrev main_v132 : Ref sig .tc := ⟨.hbm, 179, rfl⟩
abbrev main_v133 : Ref sig .tc := ⟨.hbm, 180, rfl⟩
abbrev main_cst_30 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_cst_31 : Ref sig .tc := ⟨.hbm, 186, rfl⟩
abbrev main_v138 : Ref sig .tc := ⟨.hbm, 187, rfl⟩
abbrev main_cst_32 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_33 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_34 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_cst_35 : Ref sig .tc := ⟨.hbm, 201, rfl⟩
abbrev main_v149 : Ref sig .tc := ⟨.hbm, 202, rfl⟩
abbrev main_v150 : Ref sig .tc := ⟨.hbm, 203, rfl⟩
abbrev main_cst_36 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩

abbrev nD : Nat := 1
abbrev τ : Topo := Topo.v7x

variable {F : FTy → Type} [FloatOps F]
-- ==== Attn.lean ====
abbrev S1x4096x1024 : Shape := ⟨3, ![1, 4096, 1024]⟩
abbrev S2x1024 : Shape := ⟨2, ![2, 1024]⟩
abbrev S1x1024x1536 : Shape := ⟨3, ![1, 1024, 1536]⟩
abbrev S1x1536 : Shape := ⟨2, ![1, 1536]⟩
abbrev S1x16 : Shape := ⟨2, ![1, 16]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1536 : Shape := ⟨2, ![1024, 1536]⟩
abbrev S4096x1536 : Shape := ⟨2, ![4096, 1536]⟩
abbrev S1x4096x16x64 : Shape := ⟨4, ![1, 4096, 16, 64]⟩
abbrev S32 : Shape := ⟨1, ![32]⟩
abbrev S1x32 : Shape := ⟨2, ![1, 32]⟩
abbrev S4096x32 : Shape := ⟨2, ![4096, 32]⟩
abbrev S1x4096x1x32 : Shape := ⟨4, ![1, 4096, 1, 32]⟩
abbrev S1x4096x16x32 : Shape := ⟨4, ![1, 4096, 16, 32]⟩
abbrev S4096x256 : Shape := ⟨2, ![4096, 256]⟩
abbrev S1x4096x256 : Shape := ⟨3, ![1, 4096, 256]⟩
abbrev S1x4096x4x64 : Shape := ⟨4, ![1, 4096, 4, 64]⟩
abbrev S1x4096x4x32 : Shape := ⟨4, ![1, 4096, 4, 32]⟩
abbrev S4096x4x64 : Shape := ⟨3, ![4096, 4, 64]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4096x4x128 : Shape := ⟨3, ![4096, 4, 128]⟩
abbrev S4096x512 : Shape := ⟨2, ![4096, 512]⟩
abbrev S8x128 : Shape := ⟨2, ![8, 128]⟩
abbrev S128x1024 : Shape := ⟨2, ![128, 1024]⟩
abbrev S128x512 : Shape := ⟨2, ![128, 512]⟩
abbrev S128x128 : Shape := ⟨2, ![128, 128]⟩
abbrev S128x1536 : Shape := ⟨2, ![128, 1536]⟩
abbrev S512x256 : Shape := ⟨2, ![512, 256]⟩
abbrev S1x128 : Shape := ⟨2, ![1, 128]⟩
abbrev S256x128 : Shape := ⟨2, ![256, 128]⟩
abbrev S512x128 : Shape := ⟨2, ![512, 128]⟩
abbrev S512x1 : Shape := ⟨2, ![512, 1]⟩
abbrev S1x1 : Shape := ⟨2, ![1, 1]⟩
abbrev S512 : Shape := ⟨1, ![512]⟩
abbrev S128x1 : Shape := ⟨2, ![128, 1]⟩
abbrev S1 : Shape := ⟨1, ![1]⟩
abbrev S128 : Shape := ⟨1, ![128]⟩

abbrev nBuf : Space → Nat
  | .hbm => 154
  | .vmem => 23
  | .smem => 1
  | _ => 0

abbrev hbmTy0_0 (i : Nat) : BufTy := match i % 128 with
  | 0 => ⟨S1x4096x1024, .f32⟩
  | 1 => ⟨S1x4096x1024, .f32⟩
  | 2 => ⟨S2x1024, .f32⟩
  | 3 => ⟨S1x1024x1536, .f32⟩
  | 4 => ⟨S1x1536, .f32⟩
  | 5 => ⟨S1x16, .f32⟩
  | 6 => ⟨S4096x1024, .f32⟩
  | 7 => ⟨S1x1024, .f32⟩
  | 8 => ⟨S1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1024, .f32⟩
  | 21 => ⟨S4096x1024, .f32⟩
  | 22 => ⟨S1x1024, .f32⟩
  | 23 => ⟨S4096x1024, .f32⟩
  | 24 => ⟨S4096x1024, .f32⟩
  | 25 => ⟨S4096x1024, .bf16⟩
  | 26 => ⟨S1024x1536, .f32⟩
  | 27 => ⟨S1024x1536, .bf16⟩
  | 28 => ⟨S4096x1536, .f32⟩
  | 29 => ⟨S4096x1536, .f32⟩
  | 30 => ⟨S4096x1536, .f32⟩
  | 31 => ⟨S4096, .i32⟩
  | 32 => ⟨S4096x1024, .f32⟩
  | 33 => ⟨S1x4096x1024, .f32⟩
  | 34 => ⟨S1x4096x16x64, .f32⟩
  | 35 => ⟨S32, .f32⟩
  | 36 => ⟨S_, .f32⟩
  | 37 => ⟨S32, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S4096, .f32⟩
  | 47 => ⟨S4096x1, .f32⟩
  | 48 => ⟨S1x32, .f32⟩
  | 49 => ⟨S4096x32, .f32⟩
  | 50 => ⟨S4096x32, .f32⟩
  | 51 => ⟨S4096x32, .f32⟩
  | 52 => ⟨S4096x32, .f32⟩
  | 53 => ⟨S1x4096x1x32, .f32⟩
  | 54 => ⟨S4096x32, .f32⟩
  | 55 => ⟨S1x4096x1x32, .f32⟩
  | 56 => ⟨S1x4096x16x32, .f32⟩
  | 57 => ⟨S1x4096x16x32, .f32⟩
  | 58 => ⟨S1x4096x16x32, .f32⟩
  | 59 => ⟨S1x4096x16x32, .f32⟩
  | 60 => ⟨S1x4096x16x32, .f32⟩
  | 61 => ⟨S1x4096x16x32, .f32⟩
  | 62 => ⟨S1x4096x16x32, .f32⟩
  | 63 => ⟨S1x4096x16x32, .f32⟩
  | 64 => ⟨S1x4096x16x32, .f32⟩
  | 65 => ⟨S1x4096x16x32, .f32⟩
  | 66 => ⟨S1x4096x16x32, .f32⟩
  | 67 => ⟨S1x4096x16x32, .f32⟩
  | 68 => ⟨S1x4096x16x64, .f32⟩
  | 69 => ⟨S_, .f32⟩
  | 70 => ⟨S1x4096x16x64, .f32⟩
  | 71 => ⟨S1x4096x16x64, .f32⟩
  | 72 => ⟨S4096x1024, .f32⟩
  | 73 => ⟨S4096x1024, .bf16⟩
  | 74 => ⟨S4096x256, .f32⟩
  | 75 => ⟨S1x4096x256, .f32⟩
  | 76 => ⟨S1x4096x4x64, .f32⟩
  | 77 => ⟨S32, .f32⟩
  | 78 => ⟨S_, .f32⟩
  | 79 => ⟨S32, .f32⟩
  | 80 => ⟨S32, .f32⟩
  | 81 => ⟨S32, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S4096, .f32⟩
  | 89 => ⟨S4096x1, .f32⟩
  | 90 => ⟨S1x32, .f32⟩
  | 91 => ⟨S4096x32, .f32⟩
  | 92 => ⟨S4096x32, .f32⟩
  | 93 => ⟨S4096x32, .f32⟩
  | 94 => ⟨S4096x32, .f32⟩
  | 95 => ⟨S1x4096x1x32, .f32⟩
  | 96 => ⟨S4096x32, .f32⟩
  | 97 => ⟨S1x4096x1x32, .f32⟩
  | 98 => ⟨S1x4096x4x32, .f32⟩
  | 99 => ⟨S1x4096x4x32, .f32⟩
  | 100 => ⟨S1x4096x4x32, .f32⟩
  | 101 => ⟨S1x4096x4x32, .f32⟩
  | 102 => ⟨S1x4096x4x32, .f32⟩
  | 103 => ⟨S1x4096x4x32, .f32⟩
  | 104 => ⟨S1x4096x4x32, .f32⟩
  | 105 => ⟨S1x4096x4x32, .f32⟩
  | 106 => ⟨S1x4096x4x32, .f32⟩
  | 107 => ⟨S1x4096x4x32, .f32⟩
  | 108 => ⟨S1x4096x4x32, .f32⟩
  | 109 => ⟨S1x4096x4x32, .f32⟩
  | 110 => ⟨S1x4096x4x64, .f32⟩
  | 111 => ⟨S4096x4x64, .f32⟩
  | 112 => ⟨S4096x256, .f32⟩
  | 113 => ⟨S4096x4x64, .f32⟩
  | 114 => ⟨S32, .f32⟩
  | 115 => ⟨S_, .f32⟩
  | 116 => ⟨S32, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S4096, .i32⟩
  | 126 => ⟨S4096, .f32⟩
  | 127 => ⟨S4096x1, .f32⟩
  | _ => ⟨S1x4096x1024, .f32⟩

abbrev hbmTy0_1 (i : Nat) : BufTy := match i % 128 with
  | 0 => ⟨S1x32, .f32⟩
  | 1 => ⟨S4096x32, .f32⟩
  | 2 => ⟨S4096x32, .f32⟩
  | 3 => ⟨S4096x32, .f32⟩
  | 4 => ⟨S4096x32, .f32⟩
  | 5 => ⟨S4096x32, .f32⟩
  | 6 => ⟨S4096x64, .f32⟩
  | 7 => ⟨S1x4096x1x64, .f32⟩
  | 8 => ⟨S1x4096x2x64, .f32⟩
  | 9 => ⟨S4096x128, .f32⟩
  | 10 => ⟨S4096x32, .f32⟩
  | 11 => ⟨S4096x64, .f32⟩
  | 12 => ⟨S1x4096x1x64, .f32⟩
  | 13 => ⟨S1x4096x2x64, .f32⟩
  | 14 => ⟨S4096x128, .f32⟩
  | 15 => ⟨S4096x4x128, .f32⟩
  | 16 => ⟨S4096x512, .f32⟩
  | 17 => ⟨S4096x512, .bf16⟩
  | 18 => ⟨S4096x4x128, .f32⟩
  | 19 => ⟨S4096x512, .f32⟩
  | 20 => ⟨S4096x512, .bf16⟩
  | 21 => ⟨S4096x1024, .f32⟩
  | 22 => ⟨S4096x1024, .bf16⟩
  | 23 => ⟨S4096x1536, .bf16⟩
  | 24 => ⟨S1x1536, .f32⟩
  | 25 => ⟨S8x128, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x1024, .bf16⟩
  | .local _ .vmem, ⟨7, _⟩ => ⟨S128x1024, .bf16⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x1536, .bf16⟩
  | .local _ .vmem, ⟨13, _⟩ => ⟨S128x1536, .bf16⟩
  | .local _ .vmem, ⟨14, _⟩ => ⟨S1x1536, .f32⟩
  | .local _ .vmem, ⟨15, _⟩ => ⟨S8x128, .f32⟩
  | .local _ .vmem, ⟨16, _⟩ => ⟨S128x1024, .bf16⟩
  | .local _ .vmem, ⟨17, _⟩ => ⟨S128x512, .f32⟩
  | .local _ .vmem, ⟨18, _⟩ => ⟨S128x512, .f32⟩
  | .local _ .vmem, ⟨19, _⟩ => ⟨S128x512, .bf16⟩
  | .local _ .vmem, ⟨20, _⟩ => ⟨S128x512, .bf16⟩
  | .local _ .vmem, ⟨21, _⟩ => ⟨S128x128, .f32⟩
  | .local _ .vmem, ⟨22, _⟩ => ⟨S128x128, .f32⟩
  | .local _ .smem, ⟨0, _⟩ => ⟨S1x16, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_6 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_7 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_cst_9 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_10 : Ref sig .tc := ⟨.hbm, 119, rfl⟩
abbrev main_v102 : Ref sig .tc := ⟨.hbm, 120, rfl⟩
abbrev main_v103 : Ref sig .tc := ⟨.hbm, 121, rfl⟩
abbrev main_cst_11 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132_0 : Ref sig .tc := ⟨.hbm, 151, rfl⟩
abbrev main_v132_1 : Ref sig .tc := ⟨.hbm, 152, rfl⟩
abbrev main_v132_2 : Ref sig .tc := ⟨.hbm, 153, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnIdeal.lean ====
variable {F : FTy → Type} [FloatOps F] [Named F]
def κ : String → Option EReal := fun
  | "mask" => some ⊥
  | _ => none
-- ==== AttnReferenceIdeal.lean ====
abbrev S1x4096x1024 : Shape := ⟨3, ![1, 4096, 1024]⟩
abbrev S2x1024 : Shape := ⟨2, ![2, 1024]⟩
abbrev S1x1024x1536 : Shape := ⟨3, ![1, 1024, 1536]⟩
abbrev S1x1536 : Shape := ⟨2, ![1, 1536]⟩
abbrev S1x16 : Shape := ⟨2, ![1, 16]⟩
abbrev S1x1024 : Shape := ⟨2, ![1, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x1536 : Shape := ⟨2, ![1024, 1536]⟩
abbrev S1x4096x1536 : Shape := ⟨3, ![1, 4096, 1536]⟩
abbrev S1536 : Shape := ⟨1, ![1536]⟩
abbrev S1x1x1536 : Shape := ⟨3, ![1, 1, 1536]⟩
abbrev S16 : Shape := ⟨1, ![16]⟩
abbrev S1x4096x16x64 : Shape := ⟨4, ![1, 4096, 16, 64]⟩
abbrev S1x4096x256 : Shape := ⟨3, ![1, 4096, 256]⟩
abbrev S1x4096x4x64 : Shape := ⟨4, ![1, 4096, 4, 64]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x16x32 : Shape := ⟨4, ![1, 4096, 16, 32]⟩
abbrev S1x4096x4x32 : Shape := ⟨4, ![1, 4096, 4, 32]⟩
abbrev S1x32x128x4x4x64 : Shape := ⟨6, ![1, 32, 128, 4, 4, 64]⟩
abbrev S1x32x128x4x64 : Shape := ⟨5, ![1, 32, 128, 4, 64]⟩
abbrev S1x1x128x4x64 : Shape := ⟨5, ![1, 1, 128, 4, 64]⟩
abbrev S1x31x128x4x64 : Shape := ⟨5, ![1, 31, 128, 4, 64]⟩
abbrev S1x32x256x4x64 : Shape := ⟨5, ![1, 32, 256, 4, 64]⟩
abbrev S1x32x4x256x128x4 : Shape := ⟨6, ![1, 32, 4, 256, 128, 4]⟩
abbrev S1x32x4x4x128x256 : Shape := ⟨6, ![1, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S1x1x4x4x1x1 : Shape := ⟨6, ![1, 1, 4, 4, 1, 1]⟩
abbrev S1x32x4x4x128 : Shape := ⟨5, ![1, 32, 4, 4, 128]⟩
abbrev S1x32x4x4x128x1 : Shape := ⟨6, ![1, 32, 4, 4, 128, 1]⟩
abbrev S1x32x4x64x4x128 : Shape := ⟨6, ![1, 32, 4, 64, 4, 128]⟩
abbrev S1x32x4x64x256 : Shape := ⟨5, ![1, 32, 4, 64, 256]⟩
abbrev S1x4x4x1 : Shape := ⟨4, ![1, 4, 4, 1]⟩
abbrev S32x4x4x128 : Shape := ⟨4, ![32, 4, 4, 128]⟩
abbrev S1x32x4x128x4x64 : Shape := ⟨6, ![1, 32, 4, 128, 4, 64]⟩
abbrev S1x32x4x256x64 : Shape := ⟨5, ![1, 32, 4, 256, 64]⟩
abbrev S4096x1536 : Shape := ⟨2, ![4096, 1536]⟩
abbrev S8x128 : Shape := ⟨2, ![8, 128]⟩

abbrev nBuf : Space → Nat
  | .hbm => 358
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S2x1024, .f32⟩
  | 3 => ⟨S1x1024x1536, .f32⟩
  | 4 => ⟨S1x1536, .f32⟩
  | 5 => ⟨S1x16, .f32⟩
  | 6 => ⟨S1x1024, .f32⟩
  | 7 => ⟨S1024, .f32⟩
  | 8 => ⟨S1x4096x1024, .f32⟩
  | 9 => ⟨S_, .f32⟩
  | 10 => ⟨S1x4096, .f32⟩
  | 11 => ⟨S1x4096x1, .f32⟩
  | 12 => ⟨S_, .f32⟩
  | 13 => ⟨S1x4096x1, .f32⟩
  | 14 => ⟨S1x4096x1, .f32⟩
  | 15 => ⟨S_, .f32⟩
  | 16 => ⟨S1x4096x1, .f32⟩
  | 17 => ⟨S1x4096x1, .f32⟩
  | 18 => ⟨S1x4096x1, .f32⟩
  | 19 => ⟨S1x4096x1024, .f32⟩
  | 20 => ⟨S1x4096x1024, .f32⟩
  | 21 => ⟨S1x1x1024, .f32⟩
  | 22 => ⟨S1x4096x1024, .f32⟩
  | 23 => ⟨S1x4096x1024, .f32⟩
  | 24 => ⟨S1024x1536, .f32⟩
  | 25 => ⟨S1x4096x1536, .f32⟩
  | 26 => ⟨S1536, .f32⟩
  | 27 => ⟨S1x1x1536, .f32⟩
  | 28 => ⟨S1x4096x1536, .f32⟩
  | 29 => ⟨S1x4096x1536, .f32⟩
  | 30 => ⟨S16, .f32⟩
  | 31 => ⟨S1x4096x1024, .f32⟩
  | 32 => ⟨S1x4096x16x64, .f32⟩
  | 33 => ⟨S1x4096x256, .f32⟩
  | 34 => ⟨S1x4096x4x64, .f32⟩
  | 35 => ⟨S1x4096x256, .f32⟩
  | 36 => ⟨S1x4096x4x64, .f32⟩
  | 37 => ⟨S4096, .i32⟩
  | 38 => ⟨S32, .f32⟩
  | 39 => ⟨S_, .f32⟩
  | 40 => ⟨S32, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S4096, .f32⟩
  | 50 => ⟨S4096x1, .f32⟩
  | 51 => ⟨S1x32, .f32⟩
  | 52 => ⟨S4096x32, .f32⟩
  | 53 => ⟨S4096x32, .f32⟩
  | 54 => ⟨S4096x32, .f32⟩
  | 55 => ⟨S4096x32, .f32⟩
  | 56 => ⟨S1x4096x1x32, .f32⟩
  | 57 => ⟨S4096x32, .f32⟩
  | 58 => ⟨S1x4096x1x32, .f32⟩
  | 59 => ⟨S1x4096x16x32, .f32⟩
  | 60 => ⟨S1x4096x16x32, .f32⟩
  | 61 => ⟨S1x4096x16x32, .f32⟩
  | 62 => ⟨S1x4096x16x32, .f32⟩
  | 63 => ⟨S1x4096x16x32, .f32⟩
  | 64 => ⟨S1x4096x16x32, .f32⟩
  | 65 => ⟨S1x4096x16x32, .f32⟩
  | 66 => ⟨S1x4096x16x32, .f32⟩
  | 67 => ⟨S1x4096x16x32, .f32⟩
  | 68 => ⟨S1x4096x16x32, .f32⟩
  | 69 => ⟨S1x4096x16x32, .f32⟩
  | 70 => ⟨S1x4096x16x32, .f32⟩
  | 71 => ⟨S1x4096x16x64, .f32⟩
  | 72 => ⟨S32, .f32⟩
  | 73 => ⟨S_, .f32⟩
  | 74 => ⟨S32, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S4096, .f32⟩
  | 84 => ⟨S4096x1, .f32⟩
  | 85 => ⟨S1x32, .f32⟩
  | 86 => ⟨S4096x32, .f32⟩
  | 87 => ⟨S4096x32, .f32⟩
  | 88 => ⟨S4096x32, .f32⟩
  | 89 => ⟨S4096x32, .f32⟩
  | 90 => ⟨S1x4096x1x32, .f32⟩
  | 91 => ⟨S4096x32, .f32⟩
  | 92 => ⟨S1x4096x1x32, .f32⟩
  | 93 => ⟨S1x4096x4x32, .f32⟩
  | 94 => ⟨S1x4096x4x32, .f32⟩
  | 95 => ⟨S1x4096x4x32, .f32⟩
  | 96 => ⟨S1x4096x4x32, .f32⟩
  | 97 => ⟨S1x4096x4x32, .f32⟩
  | 98 => ⟨S1x4096x4x32, .f32⟩
  | 99 => ⟨S1x4096x4x32, .f32⟩
  | 100 => ⟨S1x4096x4x32, .f32⟩
  | 101 => ⟨S1x4096x4x32, .f32⟩
  | 102 => ⟨S1x4096x4x32, .f32⟩
  | 103 => ⟨S1x4096x4x32, .f32⟩
  | 104 => ⟨S1x4096x4x32, .f32⟩
  | 105 => ⟨S1x4096x4x64, .f32⟩
  | 106 => ⟨S1x32x128x4x4x64, .f32⟩
  | 107 => ⟨S1x32x128x4x64, .f32⟩
  | 108 => ⟨S1x32x128x4x64, .f32⟩
  | 109 => ⟨S1x1x128x4x64, .f32⟩
  | 110 => ⟨S_, .f32⟩
  | 111 => ⟨S1x1x128x4x64, .f32⟩
  | 112 => ⟨S1x31x128x4x64, .f32⟩
  | 113 => ⟨S1x32x128x4x64, .f32⟩
  | 114 => ⟨S_, .f32⟩
  | 115 => ⟨S1x1x128x4x64, .f32⟩
  | 116 => ⟨S1x32x256x4x64, .f32⟩
  | 117 => ⟨S1x1x128x4x64, .f32⟩
  | 118 => ⟨S_, .f32⟩
  | 119 => ⟨S1x1x128x4x64, .f32⟩
  | 120 => ⟨S1x31x128x4x64, .f32⟩
  | 121 => ⟨S1x32x128x4x64, .f32⟩
  | 122 => ⟨S_, .f32⟩
  | 123 => ⟨S1x1x128x4x64, .f32⟩
  | 124 => ⟨S1x32x256x4x64, .f32⟩
  | 125 => ⟨S1x32x4x256x128x4, .f32⟩
  | 126 => ⟨S1x32x4x4x128x256, .f32⟩
  | 127 => ⟨S_, .f32⟩
  | _ => ⟨S1x4096x1024, .f32⟩

abbrev hbmTy0_1 (i : Nat) : BufTy := match i % 128 with
  | 0 => ⟨S1x32x4x4x128x256, .f32⟩
  | 1 => ⟨S1x32x4x4x128x256, .f32⟩
  | 2 => ⟨S128, .i32⟩
  | 3 => ⟨S128x1, .i32⟩
  | 4 => ⟨S_, .i32⟩
  | 5 => ⟨S128x1, .i32⟩
  | 6 => ⟨S128x1, .i32⟩
  | 7 => ⟨S256, .i32⟩
  | 8 => ⟨S1x256, .i32⟩
  | 9 => ⟨S128x256, .i32⟩
  | 10 => ⟨S128x256, .i32⟩
  | 11 => ⟨S128x256, .i1⟩
  | 12 => ⟨S128x256, .i32⟩
  | 13 => ⟨S128x256, .i32⟩
  | 14 => ⟨S128x256, .i32⟩
  | 15 => ⟨S_, .i32⟩
  | 16 => ⟨S128x256, .i32⟩
  | 17 => ⟨S128x256, .i1⟩
  | 18 => ⟨S128x256, .i1⟩
  | 19 => ⟨S32, .i32⟩
  | 20 => ⟨S32x1x1, .i32⟩
  | 21 => ⟨S1x128x256, .i1⟩
  | 22 => ⟨S_, .i32⟩
  | 23 => ⟨S32x1x1, .i32⟩
  | 24 => ⟨S32x1x1, .i32⟩
  | 25 => ⟨S1x1x256, .i32⟩
  | 26 => ⟨S32x1x256, .i32⟩
  | 27 => ⟨S32x1x256, .i32⟩
  | 28 => ⟨S32x1x256, .i32⟩
  | 29 => ⟨S_, .i32⟩
  | 30 => ⟨S32x1x256, .i32⟩
  | 31 => ⟨S32x1x256, .i32⟩
  | 32 => ⟨S_, .i32⟩
  | 33 => ⟨S32x1x256, .i32⟩
  | 34 => ⟨S32x1x256, .i1⟩
  | 35 => ⟨S32x128x256, .i1⟩
  | 36 => ⟨S32x128x256, .i1⟩
  | 37 => ⟨S32x128x256, .i1⟩
  | 38 => ⟨S1x32x1x1x128x256, .i1⟩
  | 39 => ⟨S_, .f32⟩
  | 40 => ⟨S_, .f32⟩
  | 41 => ⟨S1x32x4x4x128x256, .i1⟩
  | 42 => ⟨S1x32x4x4x128x256, .f32⟩
  | 43 => ⟨S1x32x4x4x128x256, .f32⟩
  | 44 => ⟨S_, .f32⟩
  | 45 => ⟨S1x32x4x4x128x256, .f32⟩
  | 46 => ⟨S1x1x4x4x1x1, .f32⟩
  | 47 => ⟨S_, .f32⟩
  | 48 => ⟨S1x32x4x4x128, .f32⟩
  | 49 => ⟨S1x32x4x4x128x1, .f32⟩
  | 50 => ⟨S1x32x4x4x128x256, .f32⟩
  | 51 => ⟨S1x32x4x4x128x256, .i1⟩
  | 52 => ⟨S1x32x4x4x128x256, .f32⟩
  | 53 => ⟨S_, .f32⟩
  | 54 => ⟨S1x32x4x4x128, .f32⟩
  | 55 => ⟨S1x32x4x4x128x1, .f32⟩
  | 56 => ⟨S1x32x4x4x128x1, .f32⟩
  | 57 => ⟨S1x32x4x4x128x1, .f32⟩
  | 58 => ⟨S1x32x4x4x128x1, .f32⟩
  | 59 => ⟨S1x32x4x4x128x1, .i1⟩
  | 60 => ⟨S1x32x4x4x128x1, .f32⟩
  | 61 => ⟨S1x32x4x4x128x1, .i1⟩
  | 62 => ⟨S_, .f32⟩
  | 63 => ⟨S1x32x4x4x128x1, .f32⟩
  | 64 => ⟨S_, .f32⟩
  | 65 => ⟨S1x32x4x4x128x1, .f32⟩
  | 66 => ⟨S_, .f32⟩
  | 67 => ⟨S1x32x4x4x128x1, .f32⟩
  | 68 => ⟨S1x32x4x4x128x1, .f32⟩
  | 69 => ⟨S1x32x4x4x128x1, .f32⟩
  | 70 => ⟨S1x32x4x4x128x1, .f32⟩
  | 71 => ⟨S1x32x4x4x128x1, .i1⟩
  | 72 => ⟨S1x32x4x4x128x1, .f32⟩
  | 73 => ⟨S1x32x4x4x128x1, .i1⟩
  | 74 => ⟨S_, .f32⟩
  | 75 => ⟨S1x32x4x4x128x1, .f32⟩
  | 76 => ⟨S_, .f32⟩
  | 77 => ⟨S1x32x4x4x128x1, .f32⟩
  | 78 => ⟨S_, .f32⟩
  | 79 => ⟨S1x32x4x4x128x1, .f32⟩
  | 80 => ⟨S1x32x4x4x128x1, .f32⟩
  | 81 => ⟨S1x32x4x4x128x1, .f32⟩
  | 82 => ⟨S1x32x4x4x128x256, .f32⟩
  | 83 => ⟨S1x32x4x4x128x256, .f32⟩
  | 84 => ⟨S1x32x4x4x128x256, .f32⟩
  | 85 => ⟨S_, .f32⟩
  | 86 => ⟨S1x32x4x4x128, .f32⟩
  | 87 => ⟨S1x32x4x4x128x1, .f32⟩
  | 88 => ⟨S1x32x4x4x128x1, .f32⟩
  | 89 => ⟨S1x32x4x4x128x1, .f32⟩
  | 90 => ⟨S1x32x4x4x128x1, .f32⟩
  | 91 => ⟨S1x32x4x4x128x1, .f32⟩
  | 92 => ⟨S1x32x4x4x128x256, .f32⟩
  | 93 => ⟨S1x32x4x4x128x256, .f32⟩
  | 94 => ⟨S1x32x4x4x128x1, .f32⟩
  | 95 => ⟨S_, .f32⟩
  | 96 => ⟨S1x32x4x4x128x1, .f32⟩
  | 97 => ⟨S1x32x4x4x128x1, .f32⟩
  | 98 => ⟨S1x32x4x64x4x128, .f32⟩
  | 99 => ⟨S1x32x128x4x4x64, .f32⟩
  | 100 => ⟨S1x4096x1024, .f32⟩
  | 101 => ⟨S1x32x128x4x4x64, .f32⟩
  | 102 => ⟨S1x32x4x64x4x128, .f32⟩
  | 103 => ⟨S1x32x4x4x128x256, .f32⟩
  | 104 => ⟨S1x32x4x64x256, .f32⟩
  | 105 => ⟨S1x32x256x4x64, .f32⟩
  | 106 => ⟨S1x32x4x4x128x256, .f32⟩
  | 107 => ⟨S1x32x4x4x128x256, .f32⟩
  | 108 => ⟨S1x32x4x4x128x256, .f32⟩
  | 109 => ⟨S_, .f32⟩
  | 110 => ⟨S1x32x4x4x128, .f32⟩
  | 111 => ⟨S1x32x4x4x128x1, .f32⟩
  | 112 => ⟨S1x32x4x4x128x1, .f32⟩
  | 113 => ⟨S1x32x4x4x128x256, .f32⟩
  | 114 => ⟨S1x32x4x4x128x256, .f32⟩
  | 115 => ⟨S1x32x4x4x128x1, .f32⟩
  | 116 => ⟨S_, .f32⟩
  | 117 => ⟨S1x4x4x1, .f32⟩
  | 118 => ⟨S1x1x4x4x1x1, .f32⟩
  | 119 => ⟨S1x32x4x4x128x1, .f32⟩
  | 120 => ⟨S_, .f32⟩
  | 121 => ⟨S32x4x4x128, .f32⟩
  | 122 => ⟨S1x32x4x4x128, .f32⟩
  | 123 => ⟨S1x32x4x4x128x256, .f32⟩
  | 124 => ⟨S1x32x4x4x128x256, .f32⟩
  | 125 => ⟨S1x32x4x4x128x256, .f32⟩
  | 126 => ⟨S1x32x4x4x128x256, .f32⟩
  | 127 => ⟨S_, .f32⟩
  | _ => ⟨S1x4096x1024, .f32⟩

abbrev hbmTy0_2 (i : Nat) : BufTy := match i % 128 with
  | 0 => ⟨S1x32x4x4x128, .f32⟩
  | 1 => ⟨S1x32x4x4x128x1, .f32⟩
  | 2 => ⟨S1x32x4x4x128x1, .f32⟩
  | 3 => ⟨S1x32x4x4x128x1, .f32⟩
  | 4 => ⟨S_, .f32⟩
  | 5 => ⟨S1x4x4x1, .f32⟩
  | 6 => ⟨S1x1x4x4x1x1, .f32⟩
  | 7 => ⟨S1x1x4x4x1x1, .f32⟩
  | 8 => ⟨S1x32x4x4x128x1, .f32⟩
  | 9 => ⟨S_, .f32⟩
  | 10 => ⟨S32x4x4x128, .f32⟩
  | 11 => ⟨S1x32x4x4x128, .f32⟩
  | 12 => ⟨S1x32x4x4x128, .f32⟩
  | 13 => ⟨S1x32x4x4x128x256, .f32⟩
  | 14 => ⟨S1x32x4x4x128x256, .f32⟩
  | 15 => ⟨S1x32x4x4x128x256, .f32⟩
  | 16 => ⟨S16, .f32⟩
  | 17 => ⟨S_, .f32⟩
  | 18 => ⟨S1x32x4x4x128x256, .f32⟩
  | 19 => ⟨S1x32x4x4x128x256, .f32⟩
  | 20 => ⟨S_, .f32⟩
  | 21 => ⟨S1x32x4x4x128x256, .f32⟩
  | 22 => ⟨S1x32x4x4x128x256, .f32⟩
  | 23 => ⟨S1x32x4x256x128x4, .f32⟩
  | 24 => ⟨S1x32x4x128x4x64, .f32⟩
  | 25 => ⟨S1x32x128x4x4x64, .f32⟩
  | 26 => ⟨S1x32x4x256x64, .f32⟩
  | 27 => ⟨S1x32x256x4x64, .f32⟩
  | 28 => ⟨S1x32x128x4x64, .f32⟩
  | 29 => ⟨S1x32x128x4x64, .f32⟩
  | 30 => ⟨S1x1x128x4x64, .f32⟩
  | 31 => ⟨S1x31x128x4x64, .f32⟩
  | 32 => ⟨S_, .f32⟩
  | 33 => ⟨S1x32x128x4x64, .f32⟩
  | 34 => ⟨S1x32x128x4x64, .f32⟩
  | 35 => ⟨S1x32x128x4x64, .f32⟩
  | 36 => ⟨S1x32x128x4x64, .f32⟩
  | 37 => ⟨S1x1x128x4x64, .f32⟩
  | 38 => ⟨S1x31x128x4x64, .f32⟩
  | 39 => ⟨S_, .f32⟩
  | 40 => ⟨S1x32x128x4x64, .f32⟩
  | 41 => ⟨S1x32x128x4x64, .f32⟩
  | 42 => ⟨S1x4096x4x64, .f32⟩
  | 43 => ⟨S1x4096x4x64, .f32⟩
  | 44 => ⟨S1x4096x16x64, .f32⟩
  | 45 => ⟨S1x4096x4x32, .f32⟩
  | 46 => ⟨S1x4096x4x32, .f32⟩
  | 47 => ⟨S1x4096x4x32, .f32⟩
  | 48 => ⟨S1x4096x4x32, .f32⟩
  | 49 => ⟨S1x4096x4x32, .f32⟩
  | 50 => ⟨S1x4096x4x32, .f32⟩
  | 51 => ⟨S1x4096x4x32, .f32⟩
  | 52 => ⟨S1x4096x4x32, .f32⟩
  | 53 => ⟨S1x4096x4x32, .f32⟩
  | 54 => ⟨S1x4096x4x32, .f32⟩
  | 55 => ⟨S1x4096x4x32, .f32⟩
  | 56 => ⟨S1x4096x4x32, .f32⟩
  | 57 => ⟨S1x4096x4x32, .f32⟩
  | 58 => ⟨S_, .f32⟩
  | 59 => ⟨S1x4096x4x64, .f32⟩
  | 60 => ⟨S_, .f32⟩
  | 61 => ⟨S1x4096x4x64, .f32⟩
  | 62 => ⟨S1x4096x4x64, .f32⟩
  | 63 => ⟨S1x4096x16x32, .f32⟩
  | 64 => ⟨S1x4096x16x32, .f32⟩
  | 65 => ⟨S1x4096x16x32, .f32⟩
  | 66 => ⟨S1x4096x16x32, .f32⟩
  | 67 => ⟨S1x4096x16x32, .f32⟩
  | 68 => ⟨S1x4096x16x32, .f32⟩
  | 69 => ⟨S1x4096x16x32, .f32⟩
  | 70 => ⟨S1x4096x16x32, .f32⟩
  | 71 => ⟨S1x4096x16x32, .f32⟩
  | 72 => ⟨S1x4096x16x32, .f32⟩
  | 73 => ⟨S1x4096x16x32, .f32⟩
  | 74 => ⟨S1x4096x16x32, .f32⟩
  | 75 => ⟨S1x4096x16x32, .f32⟩
  | 76 => ⟨S_, .f32⟩
  | 77 => ⟨S1x4096x16x64, .f32⟩
  | 78 => ⟨S_, .f32⟩
  | 79 => ⟨S1x4096x16x64, .f32⟩
  | 80 => ⟨S1x4096x16x64, .f32⟩
  | 81 => ⟨S1x4096x256, .f32⟩
  | 82 => ⟨S_, .f32⟩
  | 83 => ⟨S1x4096x1536, .f32⟩
  | 84 => ⟨S1x4096x256, .f32⟩
  | 85 => ⟨S_, .f32⟩
  | 86 => ⟨S1x4096x1536, .f32⟩
  | 87 => ⟨S1x4096x1536, .f32⟩
  | 88 => ⟨S1x4096x1024, .f32⟩
  | 89 => ⟨S_, .f32⟩
  | 90 => ⟨S1x4096x1536, .f32⟩
  | 91 => ⟨S1x4096x1536, .f32⟩
  | 92 => ⟨S4096x1536, .f32⟩
  | 93 => ⟨S4096x1536, .bf16⟩
  | 94 => ⟨S4096x1536, .f32⟩
  | 95 => ⟨S_, .f32⟩
  | 96 => ⟨S1536, .f32⟩
  | 97 => ⟨S1x1536, .f32⟩
  | 98 => ⟨S1x16, .f32⟩
  | 99 => ⟨S_, .i32⟩
  | 100 => ⟨S_, .f32⟩
  | 101 => ⟨S8x128, .f32⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_5 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_6 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_8 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_cst_9 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_10 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_cst_11 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_12 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_c : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_c_13 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_c_14 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_c_15 : Ref sig .tc := ⟨.hbm, 157, rfl⟩
abbrev main_v134 : Ref sig .tc := ⟨.hbm, 158, rfl⟩
abbrev main_v135 : Ref sig .tc := ⟨.hbm, 159, rfl⟩
abbrev main_c_16 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_cst_17 : Ref sig .tc := ⟨.hbm, 167, rfl⟩
abbrev main_call0_v0 : Ref sig .tc := ⟨.hbm, 168, rfl⟩
abbrev main_v142_1 : Ref sig .tc := ⟨.hbm, 169, rfl⟩
abbrev main_call0_v2 : Ref sig .tc := ⟨.hbm, 170, rfl⟩
abbrev main_v142_0 : Ref sig .tc := ⟨.hbm, 171, rfl⟩
abbrev main_call0_cst : Ref sig .tc := ⟨.hbm, 172, rfl⟩
abbrev main_v142_2 : Ref sig .tc := ⟨.hbm, 173, rfl⟩
abbrev main_v143 : Ref sig .tc := ⟨.hbm, 174, rfl⟩
abbrev main_cst_18 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_cst_19 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_cst_20 : Ref sig .tc := ⟨.hbm, 190, rfl⟩
abbrev main_v157 : Ref sig .tc := ⟨.hbm, 191, rfl⟩
abbrev main_cst_21 : Ref sig .tc := ⟨.hbm, 192, rfl⟩
abbrev main_v158 : Ref sig .tc := ⟨.hbm, 193, rfl⟩
abbrev main_cst_22 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_cst_23 : Ref sig .tc := ⟨.hbm, 202, rfl⟩
abbrev main_v166 : Ref sig .tc := ⟨.hbm, 203, rfl⟩
abbrev main_cst_24 : Ref sig .tc := ⟨.hbm, 204, rfl⟩
abbrev main_v167 : Ref sig .tc := ⟨.hbm, 205, rfl⟩
abbrev main_cst_25 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_cst_26 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_cst_27 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_cst_28 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_cst_29 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_cst_30 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_cst_31 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_cst_32 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_cst_33 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_call1_cst : Ref sig .tc := ⟨.hbm, 273, rfl⟩
abbrev main_call1_v0 : Ref sig .tc := ⟨.hbm, 274, rfl⟩
abbrev main_v226 : Ref sig .tc := ⟨.hbm, 275, rfl⟩
abbrev main_cst_34 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_cst_35 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_cst_36 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_v260 : Ref sig .tc := ⟨.hbm, 312, rfl⟩
abbrev main_v261 : Ref sig .tc := ⟨.hbm, 313, rfl⟩
abbrev main_cst_37 : Ref sig .tc := ⟨.hbm, 314, rfl⟩
abbrev main_v262 : Ref sig .tc := ⟨.hbm, 315, rfl⟩
abbrev main_cst_38 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_cst_39 : Ref sig .tc := ⟨.hbm, 332, rfl⟩
abbrev main_v278 : Ref sig .tc := ⟨.hbm, 333, rfl⟩
abbrev main_cst_40 : Ref sig .tc := ⟨.hbm, 334, rfl⟩
abbrev main_v279 : Ref sig .tc := ⟨.hbm, 335, rfl⟩
abbrev main_v280 : Ref sig .tc := ⟨.hbm, 336, rfl⟩
abbrev main_v281 : Ref sig .tc := ⟨.hbm, 337, rfl⟩
abbrev main_cst_41 : Ref sig .tc := ⟨.hbm, 338, rfl⟩
abbrev main_v282 : Ref sig .tc := ⟨.hbm, 339, rfl⟩
abbrev main_v283 : Ref sig .tc := ⟨.hbm, 340, rfl⟩
abbrev main_cst_42 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_cst_43 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩
abbrev main_cst_44 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_c_45 : Ref sig .tc := ⟨.hbm, 355, rfl⟩
abbrev main_call2_v0 : Ref sig .tc := ⟨.hbm, 356, rfl⟩
abbrev main_v295 : Ref sig .tc := ⟨.hbm, 357, rfl⟩

abbrev nD : Nat := 1
abbrev τ : Topo := Topo.v7x

variable {F : FTy → Type} [FloatOps F]
-- ==== AttnOut.lean ====
abbrev S1x4096x1024 : Shape := ⟨3, ![1, 4096, 1024]⟩
abbrev S1x1024x1024 : Shape := ⟨3, ![1, 1024, 1024]⟩
abbrev S1x1024 : Shape := ⟨2, ![1, 1024]⟩
abbrev S2x1024 : Shape := ⟨2, ![2, 1024]⟩
abbrev S4096x1024 : Shape := ⟨2, ![4096, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 14
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1024, .f32⟩
  | .hbm, ⟨2, _⟩ => ⟨S1x1024, .f32⟩
  | .hbm, ⟨3, _⟩ => ⟨S2x1024, .f32⟩
  | .hbm, ⟨4, _⟩ => ⟨S1x4096x1024, .f32⟩
  | .hbm, ⟨5, _⟩ => ⟨S4096x1024, .f32⟩
  | .hbm, ⟨6, _⟩ => ⟨S4096x1024, .bf16⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S4096x1024, .bf16⟩
  | .hbm, ⟨18, _⟩ => ⟨S1024x1024, .bf16⟩
  | .hbm, ⟨19, _⟩ => ⟨S1x1024, .f32⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v59 : BitVec 1 := Scalar.cmpi .eq arg0 c7_i32
  let v60 : BitVec 32 := Scalar.extui v59
  let c0_i32_32 : BitVec 32 := 0#32
  let v61 : BitVec 1 := Scalar.cmpi .ne v60 c0_i32_32
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AttnOutReferenceIdeal.lean ====
abbrev S1x4096x1024 : Shape := ⟨3, ![1, 4096, 1024]⟩
abbrev S1x1024x1024 : Shape := ⟨3, ![1, 1024, 1024]⟩
abbrev S1x1024 : Shape := ⟨2, ![1, 1024]⟩
abbrev S2x1024 : Shape := ⟨2, ![2, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S1x4096 : Shape := ⟨2, ![1, 4096]⟩
abbrev S1x4096x1 : Shape := ⟨3, ![1, 4096, 1]⟩
abbrev S4096 : Shape := ⟨1, ![4096]⟩
abbrev S4096x1024 : Shape := ⟨2, ![4096, 1024]⟩

abbrev nBuf : Space → Nat
  | .hbm => 72
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1024, .f32⟩
  | .hbm, ⟨2, _⟩ => ⟨S1x1024, .f32⟩
  | .hbm, ⟨3, _⟩ => ⟨S2x1024, .f32⟩
  | .hbm, ⟨4, _⟩ => ⟨S1x4096x1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x4096x1024, .f32⟩
  | .hbm, ⟨10, _⟩ => ⟨S1x1x1024, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S_, .f32⟩
  | .hbm, ⟨15, _⟩ => ⟨S1x4096, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S_, .f32⟩
  | .hbm, ⟨21, _⟩ => ⟨S1x4096x1, .f32⟩
  | .hbm, ⟨22, _⟩ => ⟨S1x4096x1, .f32⟩
  | .hbm, ⟨23, _⟩ => ⟨S1x4096x1, .f32⟩
  | .hbm, ⟨24, _⟩ => ⟨S1x4096x1, .f32⟩
  | .hbm, ⟨25, _⟩ => ⟨S_, .f32⟩
  | .hbm, ⟨26, _⟩ => ⟨S1x4096x1, .f32⟩
  | .hbm, ⟨27, _⟩ => ⟨S1x4096x1, .f32⟩
  | .hbm, ⟨28, _⟩ => ⟨S1x4096x1024, .f32⟩
  | .hbm, ⟨29, _⟩ => ⟨S1x4096x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S_, .f32⟩
  | .hbm, ⟨35, _⟩ => ⟨S1x1024, .f32⟩
  | .hbm, ⟨36, _⟩ => ⟨S1x1x1024, .f32⟩
  | .hbm, ⟨37, _⟩ => ⟨S1x4096x1024, .f32⟩
  | .hbm, ⟨38, _⟩ => ⟨S1x4096x1024, .f32⟩
  | .hbm, ⟨39, _⟩ => ⟨S_, .f32⟩
  | .hbm, ⟨40, _⟩ => ⟨S1024, .f32⟩
  | .hbm, ⟨41, _⟩ => ⟨S1x4096x1024, .f32⟩
  | .hbm, ⟨42, _⟩ => ⟨S_, .f32⟩
  | .hbm, ⟨43, _⟩ => ⟨S1x4096, .f32⟩
  | .hbm, ⟨44, _⟩ => ⟨S1x4096x1, .f32⟩
  | .hbm, ⟨45, _⟩ => ⟨S1x4096x1024, .f32⟩
  | .hbm, ⟨46, _⟩ => ⟨S1x4096x1024, .f32⟩
  | .hbm, ⟨47, _⟩ => ⟨S1x4096x1, .f32⟩
  | .hbm, ⟨48, _⟩ => ⟨S_, .f32⟩
  | .hbm, ⟨49, _⟩ => ⟨S1x4096x1, .f32⟩
  | .hbm, ⟨50, _⟩ => ⟨S1x4096x1, .f32⟩
  | .hbm, ⟨51, _⟩ => ⟨S_, .f32⟩
  | .hbm, ⟨52, _⟩ => ⟨S4096, .f32⟩
  | .hbm, ⟨53, _⟩ => ⟨S1x4096, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S_, .f32⟩
  | .hbm, ⟨60, _⟩ => ⟨S1x1024, .f32⟩
  | .hbm, ⟨61, _⟩ => ⟨S1x1x1024, .f32⟩
  | .hbm, ⟨62, _⟩ => ⟨S_, .f32⟩
  | .hbm, ⟨63, _⟩ => ⟨S1024, .f32⟩
  | .hbm, ⟨64, _⟩ => ⟨S1024x1024, .f32⟩
  | .hbm, ⟨65, _⟩ => ⟨S1024x1024, .f32⟩
  | .hbm, ⟨66, _⟩ => ⟨S1x4096x1024, .f32⟩
  | .hbm, ⟨67, _⟩ => ⟨S4096x1024, .f32⟩
  | .hbm, ⟨68, _⟩ => ⟨S4096x1024, .bf16⟩
  | .hbm, ⟨69, _⟩ => ⟨S1024x1024, .bf16⟩
  | .hbm, ⟨70, _⟩ => ⟨S1x1024, .f32⟩
  | .hbm, ⟨71, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== SguOut.lean ====
abbrev S1x4096x1024 : Shape := ⟨3, ![1, 4096, 1024]⟩
abbrev S1x1024x1024 : Shape := ⟨3, ![1, 1024, 1024]⟩
abbrev S2x1024 : Shape := ⟨2, ![2, 1024]⟩
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1024, .f32⟩
  | .hbm, ⟨2, _⟩ => ⟨S2x1024, .f32⟩
  | .hbm, ⟨3, _⟩ => ⟨S1x4096x1024, .f32⟩
  | .hbm, ⟨4, _⟩ => ⟨S4096x1024, .f32⟩
  | .hbm, ⟨5, _⟩ => ⟨S4096x1024, .bf16⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .bf16⟩
  | .hbm, ⟨15, _⟩ => ⟨S1024x1024, .bf16⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v53 : BitVec 1 := Scalar.cmpi .eq arg0 c7_i32
  let v54 : BitVec 32 := Scalar.extui v53
  let c0_i32_27 : BitVec 32 := 0#32
  let v55 : BitVec 1 := Scalar.cmpi .ne v54 c0_i32_27
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SguOutReferenceIdeal.lean ====
abbrev S1x4096x1024 : Shape := ⟨3, ![1, 4096, 1024]⟩
abbrev S1x1024x1024 : Shape := ⟨3, ![1, 1024, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096 : Shape := ⟨1, ![4096]⟩
abbrev S4096x1024 : Shape := ⟨2, ![4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1024, .f32⟩
  | .hbm, ⟨2, _⟩ => ⟨S2x1024, .f32⟩
  | .hbm, ⟨3, _⟩ => ⟨S1x4096x1024, .f32⟩
  | .hbm, ⟨4, _⟩ => ⟨S1024x1024, .f32⟩
  | .hbm, ⟨5, _⟩ => ⟨S1x1024, .f32⟩
  | .hbm, ⟨6, _⟩ => ⟨S1024, .f32⟩
  | .hbm, ⟨7, _⟩ => ⟨S1x4096x1024, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S_, .f32⟩
  | .hbm, ⟨21, _⟩ => ⟨S1x4096x1, .f32⟩
  | .hbm, ⟨22, _⟩ => ⟨S1x4096x1, .f32⟩
  | .hbm, ⟨23, _⟩ => ⟨S1x4096x1024, .f32⟩
  | .hbm, ⟨24, _⟩ => ⟨S1x4096x1024, .f32⟩
  | .hbm, ⟨25, _⟩ => ⟨S1x1x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S_, .f32⟩
  | .hbm, ⟨30, _⟩ => ⟨S1x1024, .f32⟩
  | .hbm, ⟨31, _⟩ => ⟨S1x1x1024, .f32⟩
  | .hbm, ⟨32, _⟩ => ⟨S1x4096x1024, .f32⟩
  | .hbm, ⟨33, _⟩ => ⟨S1x4096x1024, .f32⟩
  | .hbm, ⟨34, _⟩ => ⟨S_, .f32⟩
  | .hbm, ⟨35, _⟩ => ⟨S1024, .f32⟩
  | .hbm, ⟨36, _⟩ => ⟨S1x4096x1024, .f32⟩
  | .hbm, ⟨37, _⟩ => ⟨S_, .f32⟩
  | .hbm, ⟨38, _⟩ => ⟨S1x4096, .f32⟩
  | .hbm, ⟨39, _⟩ => ⟨S1x4096x1, .f32⟩
  | .hbm, ⟨40, _⟩ => ⟨S1x4096x1024, .f32⟩
  | .hbm, ⟨41, _⟩ => ⟨S1x4096x1024, .f32⟩
  | .hbm, ⟨42, _⟩ => ⟨S1x4096x1, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1024x1024, .f32⟩
  | .hbm, ⟨55, _⟩ => ⟨S1024x1024, .f32⟩
  | .hbm, ⟨56, _⟩ => ⟨S1x4096x1024, .f32⟩
  | .hbm, ⟨57, _⟩ => ⟨S4096x1024, .f32⟩
  | .hbm, ⟨58, _⟩ => ⟨S4096x1024, .bf16⟩
  | .hbm, ⟨59, _⟩ => ⟨S1024x1024, .bf16⟩
  | .hbm, ⟨60, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== SguIn.lean ====
abbrev S1x4096x2048 : Shape := ⟨3, ![1, 4096, 2048]⟩
abbrev S1x1024x2048 : Shape := ⟨3, ![1, 1024, 2048]⟩
abbrev S1x4096x1024 : Shape := ⟨3, ![1, 4096, 1024]⟩
abbrev S2x1024 : Shape := ⟨2, ![2, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S512x2048 : Shape := ⟨2, ![512, 2048]⟩
abbrev S512x1024 : Shape := ⟨2, ![512, 1024]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩

abbrev nBuf : Space → Nat
  | .hbm => 35
  | .vmem => 15
  | .smem => 0
  | _ => 0

abbrev bufTy : (tb : Table) → Fin (tcTables nBuf tb) → BufTy
  | .hbm, ⟨0, _⟩ => ⟨S1x4096x2048, .f32⟩
  | .hbm, ⟨1, _⟩ => ⟨S1x1024x2048, .f32⟩
  | .hbm, ⟨2, _⟩ => ⟨S1x4096x1024, .f32⟩
  | .hbm, ⟨3, _⟩ => ⟨S2x1024, .f32⟩
  | .hbm, ⟨4, _⟩ => ⟨S1x4096x1024, .f32⟩
  | .hbm, ⟨5, _⟩ => ⟨S1024x2048, .f32⟩
  | .hbm, ⟨6, _⟩ => ⟨S1024x8x256, .f32⟩
  | .hbm, ⟨7, _⟩ => ⟨S8x1024x256, .f32⟩
  | .hbm, ⟨8, _⟩ => ⟨S8x1024x256, .bf16⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S4096x2048, .f32⟩
  | .hbm, ⟨30, _⟩ => ⟨S4096x2048, .bf16⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S8x1024x256, .bf16⟩
  | .local _ .vmem, ⟨0, _⟩ => ⟨S512x2048, .bf16⟩
  | .local _ .vmem, ⟨1, _⟩ => ⟨S512x2048, .bf16⟩
  | .local _ .vmem, ⟨2, _⟩ => ⟨S8x1024x256, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S8x1024x256, .bf16⟩
  | .local _ .vmem, ⟨14, _⟩ => ⟨S1024x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v99 : BitVec 1 := Scalar.cmpi .eq arg0 c7_i32
  let v100 : BitVec 32 := Scalar.extui v99
  let c0_i32_61 : BitVec 32 := 0#32
  let v101 : BitVec 1 := Scalar.cmpi .ne v100 c0_i32_61
  v101

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== SguInReferenceIdeal.lean ====
abbrev S1x4096x2048 : Shape := ⟨3, ![1, 4096, 2048]⟩
abbrev S1x1024x2048 : Shape := ⟨3, ![1, 1024, 2048]⟩
abbrev S1x4096x1024 : Shape := ⟨3, ![1, 4096, 1024]⟩
abbrev S2x1024 : Shape := ⟨2, ![2, 1024]⟩
abbrev S1024x2048 : Shape := ⟨2, ![1024, 2048]⟩
abbrev S1x1024 : Shape := ⟨2, ![1, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S2048x1024 : Shape := ⟨2, ![2048, 1024]⟩
abbrev S4096 : Shape := ⟨1, ![4096]⟩
abbrev S4096x1024 : Shape := ⟨2, ![4096, 1024]⟩
abbrev S1024x8x256 : Shape := ⟨3, ![1024, 8, 256]⟩
abbrev S8x1024x256 : Shape := ⟨3, ![8, 1024, 256]⟩

abbrev nBuf : Space → Nat
  | .hbm => 64
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x1024x2048, .f32⟩
  | .hbm, ⟨2, _⟩ => ⟨S1x4096x1024, .f32⟩
  | .hbm, ⟨3, _⟩ => ⟨S2x1024, .f32⟩
  | .hbm, ⟨4, _⟩ => ⟨S1x4096x1024, .f32⟩
  | .hbm, ⟨5, _⟩ => ⟨S1024x2048, .f32⟩
  | .hbm, ⟨6, _⟩ => ⟨S1x1024, .f32⟩
  | .hbm, ⟨7, _⟩ => ⟨S1024, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S_, .f32⟩
  | .hbm, ⟨21, _⟩ => ⟨S1x4096x1, .f32⟩
  | .hbm, ⟨22, _⟩ => ⟨S1x4096x1, .f32⟩
  | .hbm, ⟨23, _⟩ => ⟨S1x4096x1024, .f32⟩
  | .hbm, ⟨24, _⟩ => ⟨S1x4096x1024, .f32⟩
  | .hbm, ⟨25, _⟩ => ⟨S1x1x1024, .f32⟩
  | .hbm, ⟨26, _⟩ => ⟨S1x4096x1024, .f32⟩
  | .hbm, ⟨27, _⟩ => ⟨S1x4096x1024, .f32⟩
  | .hbm, ⟨28, _⟩ => ⟨S1x4096x2048, .f32⟩
  | .hbm, ⟨29, _⟩ => ⟨S2048x1024, .f32⟩
  | .hbm, ⟨30, _⟩ => ⟨S1024x2048, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1x1024, .f32⟩
  | .hbm, ⟨35, _⟩ => ⟨S1x1x1024, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1024, .f32⟩
  | .hbm, ⟨40, _⟩ => ⟨S1x4096x1024, .f32⟩
  | .hbm, ⟨41, _⟩ => ⟨S_, .f32⟩
  | .hbm, ⟨42, _⟩ => ⟨S1x4096, .f32⟩
  | .hbm, ⟨43, _⟩ => ⟨S1x4096x1, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S1x4096x1, .f32⟩
  | .hbm, ⟨48, _⟩ => ⟨S_, .f32⟩
  | .hbm, ⟨49, _⟩ => ⟨S1x4096x1, .f32⟩
  | .hbm, ⟨50, _⟩ => ⟨S1x4096x1, .f32⟩
  | .hbm, ⟨51, _⟩ => ⟨S_, .f32⟩
  | .hbm, ⟨52, _⟩ => ⟨S4096, .f32⟩
  | .hbm, ⟨53, _⟩ => ⟨S1x4096, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S4096x1024, .f32⟩
  | .hbm, ⟨60, _⟩ => ⟨S1x1024, .f32⟩
  | .hbm, ⟨61, _⟩ => ⟨S1024x8x256, .f32⟩
  | .hbm, ⟨62, _⟩ => ⟨S8x1024x256, .f32⟩
  | .hbm, ⟨63, _⟩ => ⟨S8x1024x256, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== FfnLast.lean ====
abbrev S1x4096x1024 : Shape := ⟨3, ![1, 4096, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x5632x1024 : Shape := ⟨3, ![2, 5632, 1024]⟩
abbrev S1x5632x1024 : Shape := ⟨3, ![1, 5632, 1024]⟩
abbrev S5632x1024 : Shape := ⟨2, ![5632, 1024]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S4096x1024 : Shape := ⟨2, ![4096, 1024]⟩
abbrev S4096x5632 : Shape := ⟨2, ![4096, 5632]⟩
abbrev S8x128 : Shape := ⟨2, ![8, 128]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1024x1024 : Shape := ⟨2, ![1024, 1024]⟩
abbrev S768x1024 : Shape := ⟨2, ![768, 1024]⟩
abbrev S256x768 : Shape := ⟨2, ![256, 768]⟩
abbrev S1 : Shape := ⟨1, ![1]⟩
abbrev S1x1 : Shape := ⟨2, ![1, 1]⟩

abbrev nBuf : Space → Nat
  | .hbm => 29
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S2x1024, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1x4096x1024, .f32⟩
  | .hbm, ⟨6, _⟩ => ⟨S2x5632x1024, .f32⟩
  | .hbm, ⟨7, _⟩ => ⟨S1x5632x1024, .f32⟩
  | .hbm, ⟨8, _⟩ => ⟨S5632x1024, .f32⟩
  | .hbm, ⟨9, _⟩ => ⟨S5632x1024, .bf16⟩
  | .hbm, ⟨10, _⟩ => ⟨S1x2816x1024, .f32⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S4096x1024, .f32⟩
  | .hbm, ⟨21, _⟩ => ⟨S4096x1024, .bf16⟩
  | .hbm, ⟨22, _⟩ => ⟨S4096x5632, .bf16⟩
  | .hbm, ⟨23, _⟩ => ⟨S4096x1024, .f32⟩
  | .hbm, ⟨24, _⟩ => ⟨S1x1024, .f32⟩
  | .hbm, ⟨25, _⟩ => ⟨S1x1024, .f32⟩
  | .hbm, ⟨26, _⟩ => ⟨S8x128, .f32⟩
  | .hbm, ⟨27, _⟩ => ⟨S4096x1024, .bf16⟩
  | .hbm, ⟨28, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S5632x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S256x5632, .bf16⟩
  | .local _ .vmem, ⟨11, _⟩ => ⟨S256x5632, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S8x128, .f32⟩
  | .local _ .vmem, ⟨17, _⟩ => ⟨S256x1024, .bf16⟩
  | .local _ .vmem, ⟨18, _⟩ => ⟨S256x1024, .bf16⟩
  | .local _ .vmem, ⟨19, _⟩ => ⟨S256x2816, .bf16⟩
  | .local _ .vmem, ⟨20, _⟩ => ⟨S256x2816, .bf16⟩
  | .local _ .vmem, ⟨21, _⟩ => ⟨S256x5632, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v15_3 : Ref sig .tc := ⟨.hbm, 24, rfl⟩
abbrev main_v15_4 : Ref sig .tc := ⟨.hbm, 25, rfl⟩
abbrev main_v15_5 : Ref sig .tc := ⟨.hbm, 26, rfl⟩
abbrev main_v15_6 : Ref sig .tc := ⟨.hbm, 27, rfl⟩
abbrev main_v15_7 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5632x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnLastReferenceIdeal.lean ====
abbrev S1x4096x1024 : Shape := ⟨3, ![1, 4096, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S_ : Shape := ⟨0, ![]⟩
abbrev S1x4096x5632 : Shape := ⟨3, ![1, 4096, 5632]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2816 : Shape := ⟨3, ![1, 4096, 2816]⟩
abbrev S4096 : Shape := ⟨1, ![4096]⟩
abbrev S4096x1024 : Shape := ⟨2, ![4096, 1024]⟩
abbrev S4096x5632 : Shape := ⟨2, ![4096, 5632]⟩
abbrev S8x128 : Shape := ⟨2, ![8, 128]⟩
abbrev S4096x2816 : Shape := ⟨2, ![4096, 2816]⟩

abbrev nBuf : Space → Nat
  | .hbm => 180
  | .vmem => 0
  | .smem => 0
  | _ => 0

abbrev hbmTy0_0 (i : Nat) : BufTy := match i % 128 with
  | 0 => ⟨S1x4096x1024, .f32⟩
  | 1 => ⟨S2x1024, .f32⟩
  | 2 => ⟨S2x1024, .f32⟩
  | 3 => ⟨S2x1024x5632, .f32⟩
  | 4 => ⟨S2x2816x1024, .f32⟩
  | 5 => ⟨S1x4096x1024, .f32⟩
  | 6 => ⟨S_, .f32⟩
  | 7 => ⟨S1x4096x5632, .f32⟩
  | 8 => ⟨S_, .f32⟩
  | 9 => ⟨S1x4096x1024, .f32⟩
  | 10 => ⟨S1x1024, .f32⟩
  | 11 => ⟨S1024, .f32⟩
  | 12 => ⟨S1x1024, .f32⟩
  | 13 => ⟨S1024, .f32⟩
  | 14 => ⟨S1x1024x5632, .f32⟩
  | 15 => ⟨S1024x5632, .f32⟩
  | 16 => ⟨S1x2816x1024, .f32⟩
  | 17 => ⟨S2816x1024, .f32⟩
  | 18 => ⟨S1x4096x1024, .f32⟩
  | 19 => ⟨S_, .f32⟩
  | 20 => ⟨S1x4096, .f32⟩
  | 21 => ⟨S1x4096x1, .f32⟩
  | 22 => ⟨S_, .f32⟩
  | 23 => ⟨S1x4096x1, .f32⟩
  | 24 => ⟨S1x4096x1, .f32⟩
  | 25 => ⟨S_, .f32⟩
  | 26 => ⟨S1x4096x1, .f32⟩
  | 27 => ⟨S1x4096x1, .f32⟩
  | 28 => ⟨S1x4096x1, .f32⟩
  | 29 => ⟨S1x4096x1, .f32⟩
  | 30 => ⟨S_, .f32⟩
  | 31 => ⟨S1x4096x1, .f32⟩
  | 32 => ⟨S1x4096x1, .f32⟩
  | 33 => ⟨S1x4096x1024, .f32⟩
  | 34 => ⟨S1x4096x1024, .f32⟩
  | 35 => ⟨S1x1x1024, .f32⟩
  | 36 => ⟨S1x4096x1024, .f32⟩
  | 37 => ⟨S1x4096x1024, .f32⟩
  | 38 => ⟨S1x4096x5632, .f32⟩
  | 39 => ⟨S1x4096x5632, .f32⟩
  | 40 => ⟨S1x4096x2816, .f32⟩
  | 41 => ⟨S1x4096x2816, .f32⟩
  | 42 => ⟨S1x4096x2816, .f32⟩
  | 43 => ⟨S_, .f32⟩
  | 44 => ⟨S1x4096x2816, .f32⟩
  | 45 => ⟨S1x4096x2816, .f32⟩
  | 46 => ⟨S_, .f32⟩
  | 47 => ⟨S1x4096x2816, .f32⟩
  | 48 => ⟨S1x4096x2816, .f32⟩
  | 49 => ⟨S_, .f32⟩
  | 50 => ⟨S1x4096x2816, .f32⟩
  | 51 => ⟨S1x4096x2816, .f32⟩
  | 52 => ⟨S1x4096x2816, .f32⟩
  | 53 => ⟨S1x4096x2816, .f32⟩
  | 54 => ⟨S1x4096x2816, .f32⟩
  | 55 => ⟨S1x4096x2816, .f32⟩
  | 56 => ⟨S1x4096x1024, .f32⟩
  | 57 => ⟨S1x4096x1024, .f32⟩
  | 58 => ⟨S1x4096x1024, .f32⟩
  | 59 => ⟨S_, .f32⟩
  | 60 => ⟨S1x4096, .f32⟩
  | 61 => ⟨S1x4096x1, .f32⟩
  | 62 => ⟨S_, .f32⟩
  | 63 => ⟨S1x4096x1, .f32⟩
  | 64 => ⟨S1x4096x1, .f32⟩
  | 65 => ⟨S_, .f32⟩
  | 66 => ⟨S1x4096x1, .f32⟩
  | 67 => ⟨S1x4096x1, .f32⟩
  | 68 => ⟨S1x4096x1, .f32⟩
  | 69 => ⟨S1x4096x1, .f32⟩
  | 70 => ⟨S_, .f32⟩
  | 71 => ⟨S1x4096x1, .f32⟩
  | 72 => ⟨S1x4096x1, .f32⟩
  | 73 => ⟨S1x4096x1024, .f32⟩
  | 74 => ⟨S1x4096x1024, .f32⟩
  | 75 => ⟨S1x1x1024, .f32⟩
  | 76 => ⟨S1x4096x1024, .f32⟩
  | 77 => ⟨S1x4096x1024, .f32⟩
  | 78 => ⟨S1x4096x1024, .f32⟩
  | 79 => ⟨S1x4096x1024, .f32⟩
  | 80 => ⟨S1x4096x1024, .f32⟩
  | 81 => ⟨S_, .f32⟩
  | 82 => ⟨S1x4096x1024, .f32⟩
  | 83 => ⟨S1x4096x1024, .f32⟩
  | 84 => ⟨S_, .f32⟩
  | 85 => ⟨S1x4096, .f32⟩
  | 86 => ⟨S_, .f32⟩
  | 87 => ⟨S1x4096, .f32⟩
  | 88 => ⟨S1x4096, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S1x4096, .f32⟩
  | 97 => ⟨S_, .f32⟩
  | 98 => ⟨S1x4096, .f32⟩
  | 99 => ⟨S1x4096, .f32⟩
  | 100 => ⟨S1x4096x1024, .f32⟩
  | 101 => ⟨S1x4096x1024, .f32⟩
  | 102 => ⟨S1x4096x1024, .f32⟩
  | 103 => ⟨S_, .f32⟩
  | 104 => ⟨S1x1024, .f32⟩
  | 105 => ⟨S1x1x1024, .f32⟩
  | 106 => ⟨S1x4096x1024, .f32⟩
  | 107 => ⟨S1x4096x1024, .f32⟩
  | 108 => ⟨S_, .f32⟩
  | 109 => ⟨S1024, .f32⟩
  | 110 => ⟨S1x4096x1024, .f32⟩
  | 111 => ⟨S_, .f32⟩
  | 112 => ⟨S1x4096, .f32⟩
  | 113 => ⟨S1x4096x1, .f32⟩
  | 114 => ⟨S1x4096x1024, .f32⟩
  | 115 => ⟨S1x4096x1024, .f32⟩
  | 116 => ⟨S1x4096x1, .f32⟩
  | 117 => ⟨S_, .f32⟩
  | 118 => ⟨S1x4096x1, .f32⟩
  | 119 => ⟨S1x4096x1, .f32⟩
  | 120 => ⟨S_, .f32⟩
  | 121 => ⟨S4096, .f32⟩
  | 122 => ⟨S1x4096, .f32⟩
  | 123 => ⟨S1x4096x1024, .f32⟩
  | 124 => ⟨S1x4096x1024, .f32⟩
  | 125 => ⟨S1x4096x1024, .f32⟩
  | 126 => ⟨S1x4096x1024, .f32⟩
  | 127 => ⟨S1x4096x1024, .f32⟩
  | _ => ⟨S1x4096x1024, .f32⟩

abbrev hbmTy0_1 (i : Nat) : BufTy := match i % 128 with
  | 0 => ⟨S1x4096x2816, .f32⟩
  | 1 => ⟨S1x4096x2816, .f32⟩
  | 2 => ⟨S1x4096x2816, .f32⟩
  | 3 => ⟨S_, .f32⟩
  | 4 => ⟨S1x4096x5632, .f32⟩
  | 5 => ⟨S1x4096x2816, .f32⟩
  | 6 => ⟨S1x4096x2816, .f32⟩
  | 7 => ⟨S1x4096x2816, .f32⟩
  | 8 => ⟨S1x4096x2816, .f32⟩
  | 9 => ⟨S_, .f32⟩
  | 10 => ⟨S1x4096x5632, .f32⟩
  | 11 => ⟨S1x4096x5632, .f32⟩
  | 12 => ⟨S1x4096x1024, .f32⟩
  | 13 => ⟨S1x4096x1024, .f32⟩
  | 14 => ⟨S_, .f32⟩
  | 15 => ⟨S1x1024, .f32⟩
  | 16 => ⟨S1x1x1024, .f32⟩
  | 17 => ⟨S1x4096x1024, .f32⟩
  | 18 => ⟨S1x4096x1024, .f32⟩
  | 19 => ⟨S_, .f32⟩
  | 20 => ⟨S1024, .f32⟩
  | 21 => ⟨S1x4096x1024, .f32⟩
  | 22 => ⟨S_, .f32⟩
  | 23 => ⟨S1x4096, .f32⟩
  | 24 => ⟨S1x4096x1, .f32⟩
  | 25 => ⟨S1x4096x1024, .f32⟩
  | 26 => ⟨S1x4096x1024, .f32⟩
  | 27 => ⟨S1x4096x1024, .f32⟩
  | 28 => ⟨S1x4096x1, .f32⟩
  | 29 => ⟨S_, .f32⟩
  | 30 => ⟨S1x4096x1, .f32⟩
  | 31 => ⟨S1x4096x1, .f32⟩
  | 32 => ⟨S_, .f32⟩
  | 33 => ⟨S4096, .f32⟩
  | 34 => ⟨S1x4096, .f32⟩
  | 35 => ⟨S1x4096x1024, .f32⟩
  | 36 => ⟨S1x4096x1024, .f32⟩
  | 37 => ⟨S1x4096x1024, .f32⟩
  | 38 => ⟨S1x4096x1024, .f32⟩
  | 39 => ⟨S1x4096x1024, .f32⟩
  | 40 => ⟨S4096x1024, .f32⟩
  | 41 => ⟨S4096x1024, .bf16⟩
  | 42 => ⟨S4096x5632, .f32⟩
  | 43 => ⟨S4096x5632, .bf16⟩
  | 44 => ⟨S4096x1024, .f32⟩
  | 45 => ⟨S1x1024, .f32⟩
  | 46 => ⟨S1x1024, .f32⟩
  | 47 => ⟨S8x128, .f32⟩
  | 48 => ⟨S4096x1024, .f32⟩
  | 49 => ⟨S4096x1024, .bf16⟩
  | 50 => ⟨S4096x2816, .f32⟩
  | 51 => ⟨S4096x2816, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v29_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v29_1 : Ref sig .tc := ⟨.hbm, 52, rfl⟩
abbrev main_v29_0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_cst_14 : Ref sig .tc := ⟨.hbm, 93, rfl⟩
abbrev main_cst_15 : Ref sig .tc := ⟨.hbm, 94, rfl⟩
abbrev main_v60 : Ref sig .tc := ⟨.hbm, 95, rfl⟩
abbrev main_v61 : Ref sig .tc := ⟨.hbm, 96, rfl⟩
abbrev main_cst_16 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_17 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_18 : Ref sig .tc := ⟨.hbm, 108, rfl⟩
abbrev main_v71 : Ref sig .tc := ⟨.hbm, 109, rfl⟩
abbrev main_v72 : Ref sig .tc := ⟨.hbm, 110, rfl⟩
abbrev main_cst_19 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_20 : Ref sig .tc := ⟨.hbm, 117, rfl⟩
abbrev main_v78 : Ref sig .tc := ⟨.hbm, 118, rfl⟩
abbrev main_v79 : Ref sig .tc := ⟨.hbm, 119, rfl⟩
abbrev main_cst_21 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_22 : Ref sig .tc := ⟨.hbm, 131, rfl⟩
abbrev main_v90 : Ref sig .tc := ⟨.hbm, 132, rfl⟩
abbrev main_call1_v0 : Ref sig .tc := ⟨.hbm, 133, rfl⟩
abbrev main_call1_v1 : Ref sig .tc := ⟨.hbm, 134, rfl⟩
abbrev main_call1_v2 : Ref sig .tc := ⟨.hbm, 135, rfl⟩
abbrev main_v91 : Ref sig .tc := ⟨.hbm, 136, rfl⟩
abbrev main_cst_23 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_24 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_25 : Ref sig .tc := ⟨.hbm, 147, rfl⟩
abbrev main_v100 : Ref sig .tc := ⟨.hbm, 148, rfl⟩
abbrev main_v101 : Ref sig .tc := ⟨.hbm, 149, rfl⟩
abbrev main_cst_26 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_27 : Ref sig .tc := ⟨.hbm, 157, rfl⟩
abbrev main_v108 : Ref sig .tc := ⟨.hbm, 158, rfl⟩
abbrev main_v109 : Ref sig .tc := ⟨.hbm, 159, rfl⟩
abbrev main_cst_28 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩

abbrev nD : Nat := 1
abbrev τ : Topo := Topo.v7x

variable {F : FTy → Type} [FloatOps F]
-- ==== Ffn.lean ====
abbrev S1x4096x1024 : Shape := ⟨3, ![1, 4096, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x5632x1024 : Shape := ⟨3, ![2, 5632, 1024]⟩
abbrev S1x5632x1024 : Shape := ⟨3, ![1, 5632, 1024]⟩
abbrev S5632x1024 : Shape := ⟨2, ![5632, 1024]⟩
abbrev S1x2816x1024 : Shape := ⟨3, ![1, 2816, 1024]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S1024x1024 : Shape := ⟨2, ![1024, 1024]⟩
abbrev S768x1024 : Shape := ⟨2, ![768, 1024]⟩
abbrev S256x768 : Shape := ⟨2, ![256, 768]⟩

abbrev nBuf : Space → Nat
  | .hbm => 63
  | .vmem => 20
  | .smem => 0
  | _ => 0

abbrev bufTy : (tb : Table) → Fin (tcTables nBuf tb) → BufTy
  | .hbm, ⟨0, _⟩ => ⟨S1x4096x1024, .f32⟩
  | .hbm, ⟨1, _⟩ => ⟨S2x1024, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1x4096x1024, .f32⟩
  | .hbm, ⟨6, _⟩ => ⟨S2x5632x1024, .f32⟩
  | .hbm, ⟨7, _⟩ => ⟨S1x5632x1024, .f32⟩
  | .hbm, ⟨8, _⟩ => ⟨S5632x1024, .f32⟩
  | .hbm, ⟨9, _⟩ => ⟨S5632x1024, .bf16⟩
  | .hbm, ⟨10, _⟩ => ⟨S1x2816x1024, .f32⟩
  | .hbm, ⟨11, _⟩ => ⟨S2816x1024, .f32⟩
  | .hbm, ⟨12, _⟩ => ⟨S2816x1024, .bf16⟩
  | .hbm, ⟨13, _⟩ => ⟨S4096x1024, .f32⟩
  | .hbm, ⟨14, _⟩ => ⟨S1x1024, .f32⟩
  | .hbm, ⟨15, _⟩ => ⟨S1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x5632, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .bf16⟩
  | .hbm, ⟨47, _⟩ => ⟨S4096x1024, .f32⟩
  | .hbm, ⟨48, _⟩ => ⟨S4096x1024, .bf16⟩
  | .hbm, ⟨49, _⟩ => ⟨S4096x1024, .f32⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S4096x5632, .bf16⟩
  | .hbm, ⟨54, _⟩ => ⟨S4096x1024, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S4096x1024, .bf16⟩
  | .hbm, ⟨59, _⟩ => ⟨S4096x5632, .bf16⟩
  | .hbm, ⟨60, _⟩ => ⟨S4096x1024, .f32⟩
  | .hbm, ⟨61, _⟩ => ⟨S1x1024, .f32⟩
  | .hbm, ⟨62, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S2816x1024, .bf16⟩
  | .local _ .vmem, ⟨6, _⟩ => ⟨S256x5632, .bf16⟩
  | .local _ .vmem, ⟨7, _⟩ => ⟨S256x5632, .bf16⟩
  | .local _ .vmem, ⟨8, _⟩ => ⟨S5632x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x5632, .bf16⟩
  | .local _ .vmem, ⟨15, _⟩ => ⟨S256x5632, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47_0 : Ref sig .tc := ⟨.hbm, 58, rfl⟩
abbrev main_v47_1 : Ref sig .tc := ⟨.hbm, 59, rfl⟩
abbrev main_v47_2 : Ref sig .tc := ⟨.hbm, 60, rfl⟩
abbrev main_v47_3 : Ref sig .tc := ⟨.hbm, 61, rfl⟩
abbrev main_v47_4 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnReferenceIdeal.lean ====
abbrev S1x4096x1024 : Shape := ⟨3, ![1, 4096, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S_ : Shape := ⟨0, ![]⟩
abbrev S1x4096x5632 : Shape := ⟨3, ![1, 4096, 5632]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2816 : Shape := ⟨3, ![1, 4096, 2816]⟩
abbrev S4096 : Shape := ⟨1, ![4096]⟩
abbrev S4096x1024 : Shape := ⟨2, ![4096, 1024]⟩
abbrev S4096x5632 : Shape := ⟨2, ![4096, 5632]⟩

abbrev nBuf : Space → Nat
  | .hbm => 153
  | .vmem => 0
  | .smem => 0
  | _ => 0

abbrev hbmTy0_0 (i : Nat) : BufTy := match i % 128 with
  | 0 => ⟨S1x4096x1024, .f32⟩
  | 1 => ⟨S2x1024, .f32⟩
  | 2 => ⟨S2x1024, .f32⟩
  | 3 => ⟨S2x1024x5632, .f32⟩
  | 4 => ⟨S2x2816x1024, .f32⟩
  | 5 => ⟨S1x4096x1024, .f32⟩
  | 6 => ⟨S_, .f32⟩
  | 7 => ⟨S1x4096x5632, .f32⟩
  | 8 => ⟨S_, .f32⟩
  | 9 => ⟨S1x4096x1024, .f32⟩
  | 10 => ⟨S1x1024, .f32⟩
  | 11 => ⟨S1024, .f32⟩
  | 12 => ⟨S1x1024, .f32⟩
  | 13 => ⟨S1024, .f32⟩
  | 14 => ⟨S1x1024x5632, .f32⟩
  | 15 => ⟨S1024x5632, .f32⟩
  | 16 => ⟨S1x2816x1024, .f32⟩
  | 17 => ⟨S2816x1024, .f32⟩
  | 18 => ⟨S1x4096x1024, .f32⟩
  | 19 => ⟨S_, .f32⟩
  | 20 => ⟨S1x4096, .f32⟩
  | 21 => ⟨S1x4096x1, .f32⟩
  | 22 => ⟨S_, .f32⟩
  | 23 => ⟨S1x4096x1, .f32⟩
  | 24 => ⟨S1x4096x1, .f32⟩
  | 25 => ⟨S_, .f32⟩
  | 26 => ⟨S1x4096x1, .f32⟩
  | 27 => ⟨S1x4096x1, .f32⟩
  | 28 => ⟨S1x4096x1, .f32⟩
  | 29 => ⟨S1x4096x1, .f32⟩
  | 30 => ⟨S_, .f32⟩
  | 31 => ⟨S1x4096x1, .f32⟩
  | 32 => ⟨S1x4096x1, .f32⟩
  | 33 => ⟨S1x4096x1024, .f32⟩
  | 34 => ⟨S1x4096x1024, .f32⟩
  | 35 => ⟨S1x1x1024, .f32⟩
  | 36 => ⟨S1x4096x1024, .f32⟩
  | 37 => ⟨S1x4096x1024, .f32⟩
  | 38 => ⟨S1x4096x5632, .f32⟩
  | 39 => ⟨S1x4096x5632, .f32⟩
  | 40 => ⟨S1x4096x2816, .f32⟩
  | 41 => ⟨S1x4096x2816, .f32⟩
  | 42 => ⟨S1x4096x2816, .f32⟩
  | 43 => ⟨S_, .f32⟩
  | 44 => ⟨S1x4096x2816, .f32⟩
  | 45 => ⟨S1x4096x2816, .f32⟩
  | 46 => ⟨S_, .f32⟩
  | 47 => ⟨S1x4096x2816, .f32⟩
  | 48 => ⟨S1x4096x2816, .f32⟩
  | 49 => ⟨S_, .f32⟩
  | 50 => ⟨S1x4096x2816, .f32⟩
  | 51 => ⟨S1x4096x2816, .f32⟩
  | 52 => ⟨S1x4096x2816, .f32⟩
  | 53 => ⟨S1x4096x2816, .f32⟩
  | 54 => ⟨S1x4096x2816, .f32⟩
  | 55 => ⟨S1x4096x2816, .f32⟩
  | 56 => ⟨S1x4096x1024, .f32⟩
  | 57 => ⟨S1x4096x1024, .f32⟩
  | 58 => ⟨S1x4096x1024, .f32⟩
  | 59 => ⟨S_, .f32⟩
  | 60 => ⟨S1x4096, .f32⟩
  | 61 => ⟨S1x4096x1, .f32⟩
  | 62 => ⟨S_, .f32⟩
  | 63 => ⟨S1x4096x1, .f32⟩
  | 64 => ⟨S1x4096x1, .f32⟩
  | 65 => ⟨S_, .f32⟩
  | 66 => ⟨S1x4096x1, .f32⟩
  | 67 => ⟨S1x4096x1, .f32⟩
  | 68 => ⟨S1x4096x1, .f32⟩
  | 69 => ⟨S1x4096x1, .f32⟩
  | 70 => ⟨S_, .f32⟩
  | 71 => ⟨S1x4096x1, .f32⟩
  | 72 => ⟨S1x4096x1, .f32⟩
  | 73 => ⟨S1x4096x1024, .f32⟩
  | 74 => ⟨S1x4096x1024, .f32⟩
  | 75 => ⟨S1x1x1024, .f32⟩
  | 76 => ⟨S1x4096x1024, .f32⟩
  | 77 => ⟨S1x4096x1024, .f32⟩
  | 78 => ⟨S1x4096x1024, .f32⟩
  | 79 => ⟨S1x4096x1024, .f32⟩
  | 80 => ⟨S1x4096x1024, .f32⟩
  | 81 => ⟨S_, .f32⟩
  | 82 => ⟨S1x1024, .f32⟩
  | 83 => ⟨S1x1x1024, .f32⟩
  | 84 => ⟨S1x4096x1024, .f32⟩
  | 85 => ⟨S1x4096x1024, .f32⟩
  | 86 => ⟨S_, .f32⟩
  | 87 => ⟨S1024, .f32⟩
  | 88 => ⟨S1x4096x1024, .f32⟩
  | 89 => ⟨S_, .f32⟩
  | 90 => ⟨S1x4096, .f32⟩
  | 91 => ⟨S1x4096x1, .f32⟩
  | 92 => ⟨S1x4096x1024, .f32⟩
  | 93 => ⟨S1x4096x1024, .f32⟩
  | 94 => ⟨S1x4096x1, .f32⟩
  | 95 => ⟨S_, .f32⟩
  | 96 => ⟨S1x4096x1, .f32⟩
  | 97 => ⟨S1x4096x1, .f32⟩
  | 98 => ⟨S_, .f32⟩
  | 99 => ⟨S4096, .f32⟩
  | 100 => ⟨S1x4096, .f32⟩
  | 101 => ⟨S1x4096x1024, .f32⟩
  | 102 => ⟨S1x4096x1024, .f32⟩
  | 103 => ⟨S1x4096x1024, .f32⟩
  | 104 => ⟨S1x4096x1024, .f32⟩
  | 105 => ⟨S1x4096x1024, .f32⟩
  | 106 => ⟨S1x4096x2816, .f32⟩
  | 107 => ⟨S1x4096x2816, .f32⟩
  | 108 => ⟨S1x4096x2816, .f32⟩
  | 109 => ⟨S_, .f32⟩
  | 110 => ⟨S1x4096x5632, .f32⟩
  | 111 => ⟨S1x4096x2816, .f32⟩
  | 112 => ⟨S1x4096x2816, .f32⟩
  | 113 => ⟨S1x4096x2816, .f32⟩
  | 114 => ⟨S1x4096x2816, .f32⟩
  | 115 => ⟨S_, .f32⟩
  | 116 => ⟨S1x4096x5632, .f32⟩
  | 117 => ⟨S1x4096x5632, .f32⟩
  | 118 => ⟨S1x4096x1024, .f32⟩
  | 119 => ⟨S1x4096x1024, .f32⟩
  | 120 => ⟨S_, .f32⟩
  | 121 => ⟨S1x1024, .f32⟩
  | 122 => ⟨S1x1x1024, .f32⟩
  | 123 => ⟨S1x4096x1024, .f32⟩
  | 124 => ⟨S1x4096x1024, .f32⟩
  | 125 => ⟨S_, .f32⟩
  | 126 => ⟨S1024, .f32⟩
  | 127 => ⟨S1x4096x1024, .f32⟩
  | _ => ⟨S1x4096x1024, .f32⟩

abbrev hbmTy0_1 (i : Nat) : BufTy := match i % 128 with
  | 0 => ⟨S_, .f32⟩
  | 1 => ⟨S1x4096, .f32⟩
  | 2 => ⟨S1x4096x1, .f32⟩
  | 3 => ⟨S1x4096x1024, .f32⟩
  | 4 => ⟨S1x4096x1024, .f32⟩
  | 5 => ⟨S1x4096x1024, .f32⟩
  | 6 => ⟨S1x4096x1, .f32⟩
  | 7 => ⟨S_, .f32⟩
  | 8 => ⟨S1x4096x1, .f32⟩
  | 9 => ⟨S1x4096x1, .f32⟩
  | 10 => ⟨S_, .f32⟩
  | 11 => ⟨S4096, .f32⟩
  | 12 => ⟨S1x4096, .f32⟩
  | 13 => ⟨S1x4096x1024, .f32⟩
  | 14 => ⟨S1x4096x1024, .f32⟩
  | 15 => ⟨S1x4096x1024, .f32⟩
  | 16 => ⟨S1x4096x1024, .f32⟩
  | 17 => ⟨S1x4096x1024, .f32⟩
  | 18 => ⟨S4096x1024, .f32⟩
  | 19 => ⟨S4096x1024, .bf16⟩
  | 20 => ⟨S4096x5632, .f32⟩
  | 21 => ⟨S4096x5632, .bf16⟩
  | 22 => ⟨S4096x1024, .f32⟩
  | 23 => ⟨S1x1024, .f32⟩
  | 24 => ⟨S1x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v29_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v29_1 : Ref sig .tc := ⟨.hbm, 52, rfl⟩
abbrev main_v29_0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_14 : Ref sig .tc := ⟨.hbm, 109, rfl⟩
abbrev main_v76 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_17 : Ref sig .tc := ⟨.hbm, 125, rfl⟩
abbrev main_v86 : Ref sig .tc := ⟨.hbm, 126, rfl⟩
abbrev main_v87 : Ref sig .tc := ⟨.hbm, 127, rfl⟩
abbrev main_cst_18 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_19 : Ref sig .tc := ⟨.hbm, 135, rfl⟩
abbrev main_v94 : Ref sig .tc := ⟨.hbm, 136, rfl⟩
abbrev main_v95 : Ref sig .tc := ⟨.hbm, 137, rfl⟩
abbrev main_cst_20 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩

abbrev nD : Nat := 1
abbrev τ : Topo := Topo.v7x

variable {F : FTy → Type} [FloatOps F]
-- ==== AttnFwd.lean ====
abbrev S1x4096x1024 : Shape := ⟨3, ![1, 4096, 1024]⟩
abbrev S2x1024 : Shape := ⟨2, ![2, 1024]⟩
abbrev S1x1024x1536 : Shape := ⟨3, ![1, 1024, 1536]⟩
abbrev S1x1536 : Shape := ⟨2, ![1, 1536]⟩
abbrev S1x16 : Shape := ⟨2, ![1, 16]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1536 : Shape := ⟨2, ![1024, 1536]⟩
abbrev S4096x1536 : Shape := ⟨2, ![4096, 1536]⟩
abbrev S1x4096x16x64 : Shape := ⟨4, ![1, 4096, 16, 64]⟩
abbrev S32 : Shape := ⟨1, ![32]⟩
abbrev S1x32 : Shape := ⟨2, ![1, 32]⟩
abbrev S4096x32 : Shape := ⟨2, ![4096, 32]⟩
abbrev S1x4096x1x32 : Shape := ⟨4, ![1, 4096, 1, 32]⟩
abbrev S1x4096x16x32 : Shape := ⟨4, ![1, 4096, 16, 32]⟩
abbrev S4096x256 : Shape := ⟨2, ![4096, 256]⟩
abbrev S1x4096x256 : Shape := ⟨3, ![1, 4096, 256]⟩
abbrev S1x4096x4x64 : Shape := ⟨4, ![1, 4096, 4, 64]⟩
abbrev S1x4096x4x32 : Shape := ⟨4, ![1, 4096, 4, 32]⟩
abbrev S4096x4x64 : Shape := ⟨3, ![4096, 4, 64]⟩
abbrev S4096x4x128 : Shape := ⟨3, ![4096, 4, 128]⟩
abbrev S4096x512 : Shape := ⟨2, ![4096, 512]⟩
abbrev S128x1024 : Shape := ⟨2, ![128, 1024]⟩
abbrev S128x512 : Shape := ⟨2, ![128, 512]⟩
abbrev S512x256 : Shape := ⟨2, ![512, 256]⟩
abbrev S1x128 : Shape := ⟨2, ![1, 128]⟩
abbrev S128x128 : Shape := ⟨2, ![128, 128]⟩
abbrev S512x128 : Shape := ⟨2, ![512, 128]⟩
abbrev S256x128 : Shape := ⟨2, ![256, 128]⟩
abbrev S512x1 : Shape := ⟨2, ![512, 1]⟩
abbrev S1x1 : Shape := ⟨2, ![1, 1]⟩
abbrev S512 : Shape := ⟨1, ![512]⟩
abbrev S128x256 : Shape := ⟨2, ![128, 256]⟩

abbrev nBuf : Space → Nat
  | .hbm => 120
  | .vmem => 12
  | .smem => 1
  | _ => 0

abbrev bufTy : (tb : Table) → Fin (tcTables nBuf tb) → BufTy
  | .hbm, ⟨0, _⟩ => ⟨S1x4096x1024, .f32⟩
  | .hbm, ⟨1, _⟩ => ⟨S2x1024, .f32⟩
  | .hbm, ⟨2, _⟩ => ⟨S1x1024x1536, .f32⟩
  | .hbm, ⟨3, _⟩ => ⟨S1x1536, .f32⟩
  | .hbm, ⟨4, _⟩ => ⟨S1x16, .f32⟩
  | .hbm, ⟨5, _⟩ => ⟨S4096x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S1024x1536, .f32⟩
  | .hbm, ⟨26, _⟩ => ⟨S1024x1536, .bf16⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S4096, .i32⟩
  | .hbm, ⟨31, _⟩ => ⟨S4096x1024, .f32⟩
  | .hbm, ⟨32, _⟩ => ⟨S1x4096x1024, .f32⟩
  | .hbm, ⟨33, _⟩ => ⟨S1x4096x16x64, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S4096, .f32⟩
  | .hbm, ⟨46, _⟩ => ⟨S4096x1, .f32⟩
  | .hbm, ⟨47, _⟩ => ⟨S1x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S1x4096x1x32, .f32⟩
  | .hbm, ⟨53, _⟩ => ⟨S4096x32, .f32⟩
  | .hbm, ⟨54, _⟩ => ⟨S1x4096x1x32, .f32⟩
  | .hbm, ⟨55, _⟩ => ⟨S1x4096x16x32, .f32⟩
  | .hbm, ⟨56, _⟩ => ⟨S1x4096x16x32, .f32⟩
  | .hbm, ⟨57, _⟩ => ⟨S1x4096x16x32, .f32⟩
  | .hbm, ⟨58, _⟩ => ⟨S1x4096x16x32, .f32⟩
  | .hbm, ⟨59, _⟩ => ⟨S1x4096x16x32, .f32⟩
  | .hbm, ⟨60, _⟩ => ⟨S1x4096x16x32, .f32⟩
  | .hbm, ⟨61, _⟩ => ⟨S1x4096x16x32, .f32⟩
  | .hbm, ⟨62, _⟩ => ⟨S1x4096x16x32, .f32⟩
  | .hbm, ⟨63, _⟩ => ⟨S1x4096x16x32, .f32⟩
  | .hbm, ⟨64, _⟩ => ⟨S1x4096x16x32, .f32⟩
  | .hbm, ⟨65, _⟩ => ⟨S1x4096x16x32, .f32⟩
  | .hbm, ⟨66, _⟩ => ⟨S1x4096x16x32, .f32⟩
  | .hbm, ⟨67, _⟩ => ⟨S1x4096x16x64, .f32⟩
  | .hbm, ⟨68, _⟩ => ⟨S_, .f32⟩
  | .hbm, ⟨69, _⟩ => ⟨S1x4096x16x64, .f32⟩
  | .hbm, ⟨70, _⟩ => ⟨S1x4096x16x64, .f32⟩
  | .hbm, ⟨71, _⟩ => ⟨S4096x1024, .f32⟩
  | .hbm, ⟨72, _⟩ => ⟨S4096x1024, .bf16⟩
  | .hbm, ⟨73, _⟩ => ⟨S4096x256, .f32⟩
  | .hbm, ⟨74, _⟩ => ⟨S1x4096x256, .f32⟩
  | .hbm, ⟨75, _⟩ => ⟨S1x4096x4x64, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S4096, .f32⟩
  | .hbm, ⟨88, _⟩ => ⟨S4096x1, .f32⟩
  | .hbm, ⟨89, _⟩ => ⟨S1x32, .f32⟩
  | .hbm, ⟨90, _⟩ => ⟨S4096x32, .f32⟩
  | .hbm, ⟨91, _⟩ => ⟨S4096x32, .f32⟩
  | .hbm, ⟨92, _⟩ => ⟨S4096x32, .f32⟩
  | .hbm, ⟨93, _⟩ => ⟨S4096x32, .f32⟩
  | .hbm, ⟨94, _⟩ => ⟨S1x4096x1x32, .f32⟩
  | .hbm, ⟨95, _⟩ => ⟨S4096x32, .f32⟩
  | .hbm, ⟨96, _⟩ => ⟨S1x4096x1x32, .f32⟩
  | .hbm, ⟨97, _⟩ => ⟨S1x4096x4x32, .f32⟩
  | .hbm, ⟨98, _⟩ => ⟨S1x4096x4x32, .f32⟩
  | .hbm, ⟨99, _⟩ => ⟨S1x4096x4x32, .f32⟩
  | .hbm, ⟨100, _⟩ => ⟨S1x4096x4x32, .f32⟩
  | .hbm, ⟨101, _⟩ => ⟨S1x4096x4x32, .f32⟩
  | .hbm, ⟨102, _⟩ => ⟨S1x4096x4x32, .f32⟩
  | .hbm, ⟨103, _⟩ => ⟨S1x4096x4x32, .f32⟩
  | .hbm, ⟨104, _⟩ => ⟨S1x4096x4x32, .f32⟩
  | .hbm, ⟨105, _⟩ => ⟨S1x4096x4x32, .f32⟩
  | .hbm, ⟨106, _⟩ => ⟨S1x4096x4x32, .f32⟩
  | .hbm, ⟨107, _⟩ => ⟨S1x4096x4x32, .f32⟩
  | .hbm, ⟨108, _⟩ => ⟨S1x4096x4x32, .f32⟩
  | .hbm, ⟨109, _⟩ => ⟨S1x4096x4x64, .f32⟩
  | .hbm, ⟨110, _⟩ => ⟨S4096x4x64, .f32⟩
  | .hbm, ⟨111, _⟩ => ⟨S4096x256, .f32⟩
  | .hbm, ⟨112, _⟩ => ⟨S4096x4x64, .f32⟩
  | .hbm, ⟨113, _⟩ => ⟨S4096x4x128, .f32⟩
  | .hbm, ⟨114, _⟩ => ⟨S4096x512, .f32⟩
  | .hbm, ⟨115, _⟩ => ⟨S4096x512, .bf16⟩
  | .hbm, ⟨116, _⟩ => ⟨S4096x4x128, .f32⟩
  | .hbm, ⟨117, _⟩ => ⟨S4096x512, .f32⟩
  | .hbm, ⟨118, _⟩ => ⟨S4096x512, .bf16⟩
  | .hbm, ⟨119, _⟩ => ⟨S4096x1024, .bf16⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x1024, .bf16⟩
  | .local _ .vmem, ⟨11, _⟩ => ⟨S128x1024, .bf16⟩
  | .local _ .smem, ⟨0, _⟩ => ⟨S1x16, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_6 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_7 : Ref sig .tc := ⟨.hbm, 81, rfl⟩
abbrev main_v68 : Ref sig .tc := ⟨.hbm, 82, rfl⟩
abbrev main_v69 : Ref sig .tc := ⟨.hbm, 83, rfl⟩
abbrev main_cst_8 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnFwdIdeal.lean ====
variable {F : FTy → Type} [FloatOps F] [Named F]
def κ : String → Option EReal := fun
  | "mask" => some ⊥
  | _ => none
-- ==== AttnFwdReferenceIdeal.lean ====
abbrev S1x4096x1024 : Shape := ⟨3, ![1, 4096, 1024]⟩
abbrev S2x1024 : Shape := ⟨2, ![2, 1024]⟩
abbrev S1x1024x1536 : Shape := ⟨3, ![1, 1024, 1536]⟩
abbrev S1x1536 : Shape := ⟨2, ![1, 1536]⟩
abbrev S1x16 : Shape := ⟨2, ![1, 16]⟩
abbrev S1x1024 : Shape := ⟨2, ![1, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x1536 : Shape := ⟨2, ![1024, 1536]⟩
abbrev S1x4096x1536 : Shape := ⟨3, ![1, 4096, 1536]⟩
abbrev S1536 : Shape := ⟨1, ![1536]⟩
abbrev S1x1x1536 : Shape := ⟨3, ![1, 1, 1536]⟩
abbrev S16 : Shape := ⟨1, ![16]⟩
abbrev S1x4096x16x64 : Shape := ⟨4, ![1, 4096, 16, 64]⟩
abbrev S1x4096x256 : Shape := ⟨3, ![1, 4096, 256]⟩
abbrev S1x4096x4x64 : Shape := ⟨4, ![1, 4096, 4, 64]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x16x32 : Shape := ⟨4, ![1, 4096, 16, 32]⟩
abbrev S1x4096x4x32 : Shape := ⟨4, ![1, 4096, 4, 32]⟩
abbrev S1x32x128x4x4x64 : Shape := ⟨6, ![1, 32, 128, 4, 4, 64]⟩
abbrev S1x32x128x4x64 : Shape := ⟨5, ![1, 32, 128, 4, 64]⟩
abbrev S1x1x128x4x64 : Shape := ⟨5, ![1, 1, 128, 4, 64]⟩
abbrev S1x31x128x4x64 : Shape := ⟨5, ![1, 31, 128, 4, 64]⟩
abbrev S1x32x256x4x64 : Shape := ⟨5, ![1, 32, 256, 4, 64]⟩
abbrev S1x32x4x256x128x4 : Shape := ⟨6, ![1, 32, 4, 256, 128, 4]⟩
abbrev S1x32x4x4x128x256 : Shape := ⟨6, ![1, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S1x1x4x4x1x1 : Shape := ⟨6, ![1, 1, 4, 4, 1, 1]⟩
abbrev S1x32x4x4x128 : Shape := ⟨5, ![1, 32, 4, 4, 128]⟩
abbrev S1x32x4x4x128x1 : Shape := ⟨6, ![1, 32, 4, 4, 128, 1]⟩
abbrev S1x32x4x64x4x128 : Shape := ⟨6, ![1, 32, 4, 64, 4, 128]⟩
abbrev S4096x1024 : Shape := ⟨2, ![4096, 1024]⟩

abbrev nBuf : Space → Nat
  | .hbm => 190
  | .vmem => 0
  | .smem => 0
  | _ => 0

abbrev hbmTy0_0 (i : Nat) : BufTy := match i % 128 with
  | 0 => ⟨S1x4096x1024, .f32⟩
  | 1 => ⟨S2x1024, .f32⟩
  | 2 => ⟨S1x1024x1536, .f32⟩
  | 3 => ⟨S1x1536, .f32⟩
  | 4 => ⟨S1x16, .f32⟩
  | 5 => ⟨S1x1024, .f32⟩
  | 6 => ⟨S1024, .f32⟩
  | 7 => ⟨S1x4096x1024, .f32⟩
  | 8 => ⟨S_, .f32⟩
  | 9 => ⟨S1x4096, .f32⟩
  | 10 => ⟨S1x4096x1, .f32⟩
  | 11 => ⟨S_, .f32⟩
  | 12 => ⟨S1x4096x1, .f32⟩
  | 13 => ⟨S1x4096x1, .f32⟩
  | 14 => ⟨S_, .f32⟩
  | 15 => ⟨S1x4096x1, .f32⟩
  | 16 => ⟨S1x4096x1, .f32⟩
  | 17 => ⟨S1x4096x1, .f32⟩
  | 18 => ⟨S1x4096x1024, .f32⟩
  | 19 => ⟨S1x4096x1024, .f32⟩
  | 20 => ⟨S1x1x1024, .f32⟩
  | 21 => ⟨S1x4096x1024, .f32⟩
  | 22 => ⟨S1x4096x1024, .f32⟩
  | 23 => ⟨S1024x1536, .f32⟩
  | 24 => ⟨S1x4096x1536, .f32⟩
  | 25 => ⟨S1536, .f32⟩
  | 26 => ⟨S1x1x1536, .f32⟩
  | 27 => ⟨S1x4096x1536, .f32⟩
  | 28 => ⟨S1x4096x1536, .f32⟩
  | 29 => ⟨S16, .f32⟩
  | 30 => ⟨S1x4096x1024, .f32⟩
  | 31 => ⟨S1x4096x16x64, .f32⟩
  | 32 => ⟨S1x4096x256, .f32⟩
  | 33 => ⟨S1x4096x4x64, .f32⟩
  | 34 => ⟨S1x4096x256, .f32⟩
  | 35 => ⟨S1x4096x4x64, .f32⟩
  | 36 => ⟨S4096, .i32⟩
  | 37 => ⟨S32, .f32⟩
  | 38 => ⟨S_, .f32⟩
  | 39 => ⟨S32, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S4096, .f32⟩
  | 49 => ⟨S4096x1, .f32⟩
  | 50 => ⟨S1x32, .f32⟩
  | 51 => ⟨S4096x32, .f32⟩
  | 52 => ⟨S4096x32, .f32⟩
  | 53 => ⟨S4096x32, .f32⟩
  | 54 => ⟨S4096x32, .f32⟩
  | 55 => ⟨S1x4096x1x32, .f32⟩
  | 56 => ⟨S4096x32, .f32⟩
  | 57 => ⟨S1x4096x1x32, .f32⟩
  | 58 => ⟨S1x4096x16x32, .f32⟩
  | 59 => ⟨S1x4096x16x32, .f32⟩
  | 60 => ⟨S1x4096x16x32, .f32⟩
  | 61 => ⟨S1x4096x16x32, .f32⟩
  | 62 => ⟨S1x4096x16x32, .f32⟩
  | 63 => ⟨S1x4096x16x32, .f32⟩
  | 64 => ⟨S1x4096x16x32, .f32⟩
  | 65 => ⟨S1x4096x16x32, .f32⟩
  | 66 => ⟨S1x4096x16x32, .f32⟩
  | 67 => ⟨S1x4096x16x32, .f32⟩
  | 68 => ⟨S1x4096x16x32, .f32⟩
  | 69 => ⟨S1x4096x16x32, .f32⟩
  | 70 => ⟨S1x4096x16x64, .f32⟩
  | 71 => ⟨S32, .f32⟩
  | 72 => ⟨S_, .f32⟩
  | 73 => ⟨S32, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S4096, .f32⟩
  | 83 => ⟨S4096x1, .f32⟩
  | 84 => ⟨S1x32, .f32⟩
  | 85 => ⟨S4096x32, .f32⟩
  | 86 => ⟨S4096x32, .f32⟩
  | 87 => ⟨S4096x32, .f32⟩
  | 88 => ⟨S4096x32, .f32⟩
  | 89 => ⟨S1x4096x1x32, .f32⟩
  | 90 => ⟨S4096x32, .f32⟩
  | 91 => ⟨S1x4096x1x32, .f32⟩
  | 92 => ⟨S1x4096x4x32, .f32⟩
  | 93 => ⟨S1x4096x4x32, .f32⟩
  | 94 => ⟨S1x4096x4x32, .f32⟩
  | 95 => ⟨S1x4096x4x32, .f32⟩
  | 96 => ⟨S1x4096x4x32, .f32⟩
  | 97 => ⟨S1x4096x4x32, .f32⟩
  | 98 => ⟨S1x4096x4x32, .f32⟩
  | 99 => ⟨S1x4096x4x32, .f32⟩
  | 100 => ⟨S1x4096x4x32, .f32⟩
  | 101 => ⟨S1x4096x4x32, .f32⟩
  | 102 => ⟨S1x4096x4x32, .f32⟩
  | 103 => ⟨S1x4096x4x32, .f32⟩
  | 104 => ⟨S1x4096x4x64, .f32⟩
  | 105 => ⟨S1x32x128x4x4x64, .f32⟩
  | 106 => ⟨S1x32x128x4x64, .f32⟩
  | 107 => ⟨S1x32x128x4x64, .f32⟩
  | 108 => ⟨S1x1x128x4x64, .f32⟩
  | 109 => ⟨S_, .f32⟩
  | 110 => ⟨S1x1x128x4x64, .f32⟩
  | 111 => ⟨S1x31x128x4x64, .f32⟩
  | 112 => ⟨S1x32x128x4x64, .f32⟩
  | 113 => ⟨S1x32x256x4x64, .f32⟩
  | 114 => ⟨S1x1x128x4x64, .f32⟩
  | 115 => ⟨S_, .f32⟩
  | 116 => ⟨S1x1x128x4x64, .f32⟩
  | 117 => ⟨S1x31x128x4x64, .f32⟩
  | 118 => ⟨S1x32x128x4x64, .f32⟩
  | 119 => ⟨S1x32x256x4x64, .f32⟩
  | 120 => ⟨S1x32x4x256x128x4, .f32⟩
  | 121 => ⟨S1x32x4x4x128x256, .f32⟩
  | 122 => ⟨S_, .f32⟩
  | 123 => ⟨S1x32x4x4x128x256, .f32⟩
  | 124 => ⟨S1x32x4x4x128x256, .f32⟩
  | 125 => ⟨S128, .i32⟩
  | 126 => ⟨S128x1, .i32⟩
  | 127 => ⟨S_, .i32⟩
  | _ => ⟨S1x4096x1024, .f32⟩

abbrev hbmTy0_1 (i : Nat) : BufTy := match i % 128 with
  | 0 => ⟨S128x1, .i32⟩
  | 1 => ⟨S128x1, .i32⟩
  | 2 => ⟨S256, .i32⟩
  | 3 => ⟨S1x256, .i32⟩
  | 4 => ⟨S128x256, .i32⟩
  | 5 => ⟨S128x256, .i32⟩
  | 6 => ⟨S128x256, .i1⟩
  | 7 => ⟨S128x256, .i32⟩
  | 8 => ⟨S128x256, .i32⟩
  | 9 => ⟨S128x256, .i32⟩
  | 10 => ⟨S_, .i32⟩
  | 11 => ⟨S128x256, .i32⟩
  | 12 => ⟨S128x256, .i1⟩
  | 13 => ⟨S128x256, .i1⟩
  | 14 => ⟨S32, .i32⟩
  | 15 => ⟨S32x1x1, .i32⟩
  | 16 => ⟨S1x128x256, .i1⟩
  | 17 => ⟨S_, .i32⟩
  | 18 => ⟨S32x1x1, .i32⟩
  | 19 => ⟨S32x1x1, .i32⟩
  | 20 => ⟨S1x1x256, .i32⟩
  | 21 => ⟨S32x1x256, .i32⟩
  | 22 => ⟨S32x1x256, .i32⟩
  | 23 => ⟨S32x1x256, .i32⟩
  | 24 => ⟨S_, .i32⟩
  | 25 => ⟨S32x1x256, .i32⟩
  | 26 => ⟨S32x1x256, .i32⟩
  | 27 => ⟨S_, .i32⟩
  | 28 => ⟨S32x1x256, .i32⟩
  | 29 => ⟨S32x1x256, .i1⟩
  | 30 => ⟨S32x128x256, .i1⟩
  | 31 => ⟨S32x128x256, .i1⟩
  | 32 => ⟨S32x128x256, .i1⟩
  | 33 => ⟨S1x32x1x1x128x256, .i1⟩
  | 34 => ⟨S_, .f32⟩
  | 35 => ⟨S_, .f32⟩
  | 36 => ⟨S1x32x4x4x128x256, .i1⟩
  | 37 => ⟨S1x32x4x4x128x256, .f32⟩
  | 38 => ⟨S1x32x4x4x128x256, .f32⟩
  | 39 => ⟨S1x1x4x4x1x1, .f32⟩
  | 40 => ⟨S_, .f32⟩
  | 41 => ⟨S1x32x4x4x128, .f32⟩
  | 42 => ⟨S1x32x4x4x128x1, .f32⟩
  | 43 => ⟨S1x32x4x4x128x1, .f32⟩
  | 44 => ⟨S1x32x4x4x128x1, .f32⟩
  | 45 => ⟨S1x32x4x4x128x256, .f32⟩
  | 46 => ⟨S1x32x4x4x128x256, .f32⟩
  | 47 => ⟨S1x32x4x4x128x256, .f32⟩
  | 48 => ⟨S_, .f32⟩
  | 49 => ⟨S1x32x4x4x128, .f32⟩
  | 50 => ⟨S1x32x4x4x128x1, .f32⟩
  | 51 => ⟨S1x32x4x4x128x1, .f32⟩
  | 52 => ⟨S1x32x4x4x128x1, .f32⟩
  | 53 => ⟨S1x32x4x4x128x1, .f32⟩
  | 54 => ⟨S1x32x4x4x128x1, .f32⟩
  | 55 => ⟨S1x32x4x4x128x256, .f32⟩
  | 56 => ⟨S1x32x4x4x128x256, .f32⟩
  | 57 => ⟨S1x32x4x64x4x128, .f32⟩
  | 58 => ⟨S1x32x128x4x4x64, .f32⟩
  | 59 => ⟨S1x4096x1024, .f32⟩
  | 60 => ⟨S4096x1024, .f32⟩
  | 61 => ⟨S4096x1024, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_5 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_6 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_8 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_cst_9 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_10 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_c : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_c_11 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_c_12 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_c_13 : Ref sig .tc := ⟨.hbm, 152, rfl⟩
abbrev main_v132 : Ref sig .tc := ⟨.hbm, 153, rfl⟩
abbrev main_v133 : Ref sig .tc := ⟨.hbm, 154, rfl⟩
abbrev main_c_14 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_cst_15 : Ref sig .tc := ⟨.hbm, 162, rfl⟩
abbrev main_call0_v0 : Ref sig .tc := ⟨.hbm, 163, rfl⟩
abbrev main_call0_v1 : Ref sig .tc := ⟨.hbm, 164, rfl⟩
abbrev main_call0_v2 : Ref sig .tc := ⟨.hbm, 165, rfl⟩
abbrev main_v140 : Ref sig .tc := ⟨.hbm, 166, rfl⟩
abbrev main_v141 : Ref sig .tc := ⟨.hbm, 167, rfl⟩
abbrev main_cst_16 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_cst_17 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩

abbrev nD : Nat := 1
abbrev τ : Topo := Topo.v7x

variable {F : FTy → Type} [FloatOps F]
-- ==== Proof.Reals.lean ====
/- Extended reals that are real numbers: the operations of the ideal instance on them, read as the operations of `ℝ`. -/
module

public import Idealize.ShloMosaic.Lib.Pointwise
public import Idealize.ShloMosaic.Lib.ValueIdx
public import Idealize.ShloMosaic.PureOps.Ideal

@[expose] public section

noncomputable section

namespace Cert.Reals

open Idealize.ShloMosaic

/-- A finite sum of real numbers is the same sum in the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem mul_coe (a b : ℝ) : (a : EReal) * (b : EReal) = ((a * b : ℝ) : EReal) := (EReal.coe_mul a b).symm
theorem add_coe (a b : ℝ) : (a : EReal) + (b : EReal) = ((a + b : ℝ) : EReal) := (EReal.coe_add a b).symm
theorem sub_coe (a b : ℝ) : (a : EReal) - (b : EReal) = ((a - b : ℝ) : EReal) := (EReal.coe_sub a b).symm
theorem neg_coe (a : ℝ) : -(a : EReal) = ((-a : ℝ) : EReal) := (EReal.coe_neg a).symm

theorem div_coe {b : ℝ} (hb : b ≠ 0) (a : ℝ) : Ideal.div (a : EReal) (b : EReal) = ((a / b : ℝ) : EReal) := by
  rw [Ideal.div_coe hb, mul_coe]
  congr 1
  field_simp

theorem rsqrt_coe {a : ℝ} (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr ha.le), if_neg ha.ne']

/-- `1024.0` as a word. -/
theorem word_1024 : Ideal.ofBits .f32 0x44800000#32 = ((1024 : ℝ) : EReal) := by
  simp [Ideal.ofBits, Ideal.ieee, -EReal.coe_mul]; norm_num

/-- The number `1e-6`'s word stands for. -/
def eps : ℝ := 8796093 / 2 ^ 43

theorem eps_pos : 0 < eps := by unfold eps; positivity

theorem word_eps : Ideal.ofBits .f32 0x358637BD#32 = ((eps : ℝ) : EReal) := by
  unfold eps
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_zero : Ideal.ofBits .f32 0x00000000#32 = ((0 : ℝ) : EReal) := by
  simp [Ideal.ofBits, Ideal.ieee]

/-- What the printed test `|x| < ∞` says: every element is a real number. -/
theorem real_of_lt {s : Shape} {x : FVec Ideal s .f32} {hb : (⟨0, ![]⟩ : Shape).BroadcastsInDim s ![]}
    (h : cmpf .olt (Host.absf x) (broadcastInDim s ![] hb (constant (F := Ideal) ⟨0, ![]⟩ .f32 0x7F800000#32)) = fun _ => 1#1) (i : s.Idx) :
    ((EReal.toReal (x i) : ℝ) : EReal) = x i := by
  have h1 := congrFun h i
  pointwise at h1
  have h2 : FloatOps.absf (x i : Ideal .f32) < (⊤ : EReal) := by
    have w : Ideal.ofBits FTy.f32 2139095040#32 = (⊤ : EReal) := by simp [Ideal.ofBits, Ideal.ieee]
    rw [w] at h1
    by_contra hn
    rw [decide_eq_false hn] at h1
    exact absurd h1 (by decide)
  apply EReal.coe_toReal
  · intro e
    rw [e] at h2
    exact absurd h2 (by simp [FloatOps.absf])
  · intro e
    rw [e] at h2
    exact absurd h2 (by simp [FloatOps.absf])

/-- The real values of an array. -/
def re {s : Shape} (a : FVec Ideal s .f32) (i : s.Idx) : ℝ := EReal.toReal (a i)

/-- An array the printed test `|x| < ∞` holds of is the array of its real values. -/
theorem eq_re {s : Shape} {a : FVec Ideal s .f32} {hb : (⟨0, ![]⟩ : Shape).BroadcastsInDim s ![]}
    (h : cmpf .olt (Host.absf a) (broadcastInDim s ![] hb (constant (F := Ideal) ⟨0, ![]⟩ .f32 0x7F800000#32)) = fun _ => 1#1) :
    a = fun i => ((re a i : ℝ) : EReal) := funext fun i => (real_of_lt h i).symm

/-- The host's sum over two axes of one element each is the element. -/
theorem hostReduceAdd_ends {n : Nat} (h : (⟨3, ![1, n, 1]⟩ : Shape).ReducesTo [0, 2] ⟨1, ![n]⟩) (x : (⟨3, ![1, n, 1]⟩ : Shape).Idx → EReal)
    (init : EReal) (i : Fin n) : Ideal.hostReduceAdd h x init (ix1 i) = init + x (ix3 0 i 0) := by
  unfold Ideal.hostReduceAdd
  congr 1
  have hf : ∀ k : (⟨3, ![1, n, 1]⟩ : Shape).Idx, h.drop k = ix1 i ↔ k = ix3 0 i 0 := by
    intro k
    constructor
    · intro e
      funext a
      match a with
      | ⟨0, _⟩ => exact Subsingleton.elim (α := Fin 1) _ _
      | ⟨1, _⟩ => exact Fin.ext (congrArg Fin.val (congrFun e 0))
      | ⟨2, _⟩ => exact Subsingleton.elim (α := Fin 1) _ _
    · rintro rfl
      funext b
      match b with
      | ⟨0, _⟩ => rfl
  simp [hf, Finset.sum_filter]

/-- The host's sum over a leading axis of one element and the axis after it. -/
theorem hostReduceAdd_front {m n : Nat} (h : (⟨3, ![1, m, n]⟩ : Shape).ReducesTo [0, 1] ⟨1, ![n]⟩) (x : (⟨3, ![1, m, n]⟩ : Shape).Idx → EReal)
    (init : EReal) (i : Fin n) : Ideal.hostReduceAdd h x init (ix1 i) = init + ∑ k : Fin m, x (ix3 0 k i) := by
  unfold Ideal.hostReduceAdd
  congr 1
  refine Finset.sum_filter_eq_sum_of_fiber _ (fun k : Fin m => ix3 (0 : Fin 1) k i) (fun _ _ e => congrFun e (1 : Fin 3)) (fun k => ?_) x
  constructor
  · intro e
    refine ⟨k 1, ?_⟩
    funext a
    match a with
    | ⟨0, _⟩ => exact Subsingleton.elim (α := Fin 1) _ _
    | ⟨1, _⟩ => rfl
    | ⟨2, _⟩ => exact (Fin.ext (congrArg Fin.val (congrFun e 0))).symm
  · rintro ⟨k, rfl⟩
    funext b
    match b with
    | ⟨0, _⟩ => rfl

/-- The mean over 1024 elements divides by the word `1024.0`. -/
theorem div_1024 (a : ℝ) : Ideal.div (a : EReal) ((1024 : ℝ) : EReal) = ((a / 1024 : ℝ) : EReal) := div_coe (by norm_num) a

end Cert.Reals

end
-- ==== Proof.Norm.lean ====
/- The gradient of the root-mean-square norm of one row of 1024 real numbers. -/
module

public import proofs.«01_k».proof.Proof.Reals

@[expose] public section

noncomputable section

namespace Cert.Norm

open Idealize.ShloMosaic Cert.Reals

/-- The mean square of a row, with the norm's small constant. -/
def ms (x : Fin 1024 → ℝ) : ℝ := (∑ k, x k * x k) / 1024 + eps

/-- The factor the norm multiplies its row by. -/
def rstd (x : Fin 1024 → ℝ) : ℝ := (Real.sqrt (ms x))⁻¹

/-- The gradient in the row, from the gradient `dh` in the norm's result: the part along the row is taken out. -/
def rmsBwd (x g dh : Fin 1024 → ℝ) (j : Fin 1024) : ℝ :=
  rstd x * (dh j * g j - x j * rstd x * ((∑ k, dh k * g k * (x k * rstd x)) / 1024))

theorem ms_pos (x : Fin 1024 → ℝ) : 0 < ms x :=
  add_pos_of_nonneg_of_pos (div_nonneg (Finset.sum_nonneg fun k _ => mul_self_nonneg (x k)) (by norm_num)) eps_pos

theorem rstd_mul_self (x : Fin 1024 → ℝ) : rstd x * rstd x = (ms x)⁻¹ := by
  rw [rstd, ← mul_inv, Real.mul_self_sqrt (ms_pos x).le]

/-- The inverse root of a row's mean square. -/
theorem rsqrt_ms (x : Fin 1024 → ℝ) :
    Ideal.rsqrt (((∑ k, x k * x k) / 1024 + eps : ℝ) : EReal) = ((rstd x : ℝ) : EReal) := rsqrt_coe (ms_pos x)

/-- The quotient of the inverse root by the mean square, which the derivative of the inverse root is made of. -/
theorem div_ms (x : Fin 1024 → ℝ) (a : ℝ) :
    Ideal.div (a : EReal) (((∑ k, x k * x k) / 1024 + eps : ℝ) : EReal) = ((a * (rstd x * rstd x) : ℝ) : EReal) := by
  have h := div_coe (ms_pos x).ne' a
  rw [div_eq_mul_inv, ← rstd_mul_self] at h
  exact h

/-- The same gradient written as the chain rule gives it: once through the row, and twice through the two factors of its square. -/
theorem rmsBwd_eq_chain (x g dh : Fin 1024 → ℝ) (j : Fin 1024) :
    rmsBwd x g dh j = dh j * g j * rstd x
      + x j * ((∑ k, x k * (dh k * g k)) * (-(1 / 2) * (rstd x * (rstd x * rstd x))) / 1024)
      + (∑ k, x k * (dh k * g k)) * (-(1 / 2) * (rstd x * (rstd x * rstd x))) / 1024 * x j := by
  have h : (∑ k, dh k * g k * (x k * rstd x)) = (∑ k, x k * (dh k * g k)) * rstd x := by
    rw [Finset.sum_mul]
    exact Finset.sum_congr rfl fun k _ => by ring
  rw [rmsBwd, h]
  ring

end Cert.Norm

end
-- ==== Proof.QkvBwd.Spec.lean ====
/- What the attention's first product sends back: the gradient in the layer's input and in the norm's gain, as functions of the argument arrays. -/
module

public import proofs.«01_k».proof.Proof.Norm

@[expose] public section

noncomputable section

namespace Cert.QkvBwd

open Idealize.ShloMosaic Cert.Reals Cert.Norm

abbrev SQ : Shape := ⟨3, ![1, 4096, 1536]⟩
abbrev SW : Shape := ⟨3, ![1, 1024, 1536]⟩
abbrev SX : Shape := ⟨3, ![1, 4096, 1024]⟩
abbrev SG : Shape := ⟨2, ![2, 1024]⟩

/-- The gradient in the norm's result: one row of `dqkv` times the transposed weight. -/
def dh (q : SQ.Idx → ℝ) (w : SW.Idx → ℝ) (i : Fin 4096) (k : Fin 1024) : ℝ := ∑ e, q (ix3 0 i e) * w (ix3 0 k e)

/-- Row `i` of the layer's input. -/
def xrow (x : SX.Idx → ℝ) (i : Fin 4096) (k : Fin 1024) : ℝ := x (ix3 0 i k)

/-- The first layer's gain. -/
def gain (g : SG.Idx → ℝ) (k : Fin 1024) : ℝ := g (ix2 0 k)

/-- The gradient in the layer's input: what the residual brings, and the norm's gradient. -/
def dx (q : SQ.Idx → ℝ) (w : SW.Idx → ℝ) (x : SX.Idx → ℝ) (g : SG.Idx → ℝ) (r : SX.Idx → EReal) (i : Fin 4096) (j : Fin 1024) : EReal :=
  r (ix3 0 i j) + ((rmsBwd (xrow x i) (gain g) (dh q w i) j : ℝ) : EReal)

/-- The gradient in the gain: over the rows, the gradient in the norm's result times the row over its root mean square. -/
def dg (q : SQ.Idx → ℝ) (w : SW.Idx → ℝ) (x : SX.Idx → ℝ) (j : Fin 1024) : EReal :=
  ∑ i, ((dh q w i j * (xrow x i j * rstd (xrow x i)) : ℝ) : EReal)

end Cert.QkvBwd

end
-- ==== Proof.QkvBwd.Blocks.lean ====
/- What each grid point of the call reads: the rows of its block, and the whole weight and gain. -/
module

public import proofs.«01_k».proof.Proof.QkvBwd.Spec
public import proofs.«01_k».proof.Proof.Gen.KernelIdeal.Value
public import Idealize.ShloMosaic.Lib.Pipeline.ValueKit
public import Idealize.ShloMosaic.Lib.StableHlo.ReadAt
public import Idealize.ShloMosaic.Lib.Claim

@[expose] public section

set_option maxRecDepth 16384

noncomputable section

namespace Cert.QkvBwd.Kernel

open Idealize.ShloMosaic Idealize.ShloMosaic.TcCoe Cert.KernelIdeal Cert.KernelIdeal.Gen Cert.Reals Cert.Norm

variable (m : (ℓ : Loc nD τ sig) → Buf (Elt Ideal) ℓ)

/-- The row of the array that row `r` of block `t` is. -/
def row (t : Fin cfg0.N) (r : Fin 512) : Fin 4096 :=
  ⟨t.val * 512 + r.val, by have h : t.val < 8 := lt_of_lt_of_eq t.isLt (show cfg0.N = 8 from N_0); omega⟩

/-- Where each window's block stands at point `t`: the row windows at block row `t`, the others at the origin. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0])

variable {m} {c : Dev nD} {q : SQ.Idx → ℝ} {w : SW.Idx → ℝ} {x : SX.Idx → ℝ} {g : SG.Idx → ℝ}

/-- The arguments a device starts from are these real arrays (the residual's gradient stays any array). -/
structure Args (m : (ℓ : Loc nD τ sig) → Buf (Elt Ideal) ℓ) (c : Dev nD) (q : SQ.Idx → ℝ) (w : SW.Idx → ℝ) (x : SX.Idx → ℝ)
    (g : SG.Idx → ℝ) : Prop where
  dqkv : (m ((c : Thread nD τ).loc main_arg0) : FVec Ideal S1x4096x1536 .f32) = fun i => ((q i : ℝ) : EReal)
  weight : (m ((c : Thread nD τ).loc main_arg1) : FVec Ideal S1x1024x1536 .f32) = fun i => ((w i : ℝ) : EReal)
  input : (m ((c : Thread nD τ).loc main_arg2) : FVec Ideal S1x4096x1024 .f32) = fun i => ((x i : ℝ) : EReal)
  gain : (m ((c : Thread nD τ).loc main_arg3) : FVec Ideal S2x1024 .f32) = fun i => ((g i : ℝ) : EReal)

theorem block_dqkv (h : Args m c q w x g) (t : Fin cfg0.N) (i : Fin 512) (k : Fin 1536) :
    (iblk m c 0 t : Vec Ideal S512x1536 .bf16) (ix2 i k) = ((q (ix3 0 (row t i) k) : ℝ) : EReal) := by
  refine Eq.trans ?_ (congrFun h.dqkv (ix3 0 (row t i) k))
  blk_simp [iblk, V, idx t]
  entry_read
  pointwise
  blk_ext [iblk, V, idx t, row]

theorem block_weight (h : Args m c q w x g) (t : Fin cfg0.N) (k : Fin 1536) (j : Fin 1024) :
    (iblk m c 1 t : Vec Ideal S1536x1024 .bf16) (ix2 k j) = ((w (ix3 0 j k) : ℝ) : EReal) := by
  refine Eq.trans ?_ (congrFun h.weight (ix3 0 j k))
  blk_simp [iblk, V, idx t]
  entry_read
  pointwise
  blk_ext [iblk, V, idx t, row]

theorem block_input (h : Args m c q w x g) (t : Fin cfg0.N) (i : Fin 512) (k : Fin 1024) :
    (iblk m c 2 t : Vec Ideal S512x1024 .f32) (ix2 i k) = ((xrow x (row t i) k : ℝ) : EReal) := by
  refine Eq.trans ?_ (congrFun h.input (ix3 0 (row t i) k))
  blk_simp [iblk, V, idx t]
  entry_read
  pointwise
  blk_ext [iblk, V, idx t, row]

theorem block_gain (h : Args m c q w x g) (t : Fin cfg0.N) (k : Fin 1024) :
    (iblk m c 3 t : Vec Ideal S1x1024 .f32) (ix2 0 k) = ((QkvBwd.gain g k : ℝ) : EReal) := by
  refine Eq.trans ?_ (congrFun h.gain (ix2 0 k))
  blk_simp [iblk, V, idx t]
  entry_read
  pointwise
  blk_ext [iblk, V, idx t, row]

theorem block_res (t : Fin cfg0.N) (i : Fin 512) (k : Fin 1024) :
    (iblk m c 4 t : Vec Ideal S512x1024 .f32) (ix2 i k) = (m ((c : Thread nD τ).loc main_arg4) : FVec Ideal S1x4096x1024 .f32) (ix3 0 (row t i) k) := by
  blk_simp [iblk, V, idx t]
  entry_read
  pointwise
  blk_ext [iblk, V, idx t, row]

end Cert.QkvBwd.Kernel

end
-- ==== Proof.QkvBwd.Kernel.lean ====
/- What the call's two output arrays hold after its grid: every row's gradient, and the gain's gradient summed over all rows. -/
module

public import proofs.«01_k».proof.Proof.QkvBwd.Blocks

@[expose] public section

set_option maxRecDepth 16384

noncomputable section

namespace Cert.QkvBwd.Kernel

open Idealize.ShloMosaic Idealize.ShloMosaic.TcCoe Cert.KernelIdeal Cert.KernelIdeal.Gen Cert.KernelIdeal.Facts Cert.Reals Cert.Norm

variable {m : (ℓ : Loc nD τ sig) → Buf (Elt Ideal) ℓ} {c : Dev nD} {q : SQ.Idx → ℝ} {w : SW.Idx → ℝ} {x : SX.Idx → ℝ} {g : SG.Idx → ℝ}

/-- The array of input gradients. -/
def dxArr (m : (ℓ : Loc nD τ sig) → Buf (Elt Ideal) ℓ) (c : Dev nD) (q : SQ.Idx → ℝ) (w : SW.Idx → ℝ) (x : SX.Idx → ℝ) (g : SG.Idx → ℝ) :
    FVec Ideal S4096x1024 .f32 :=
  fun i => dx q w x g (m ((c : Thread nD τ).loc main_arg4) : FVec Ideal S1x4096x1024 .f32) (i 0) (i 1)

/-- The array of gain gradients. -/
def dgArr (q : SQ.Idx → ℝ) (w : SW.Idx → ℝ) (x : SX.Idx → ℝ) : FVec Ideal S1x1024 .f32 := fun i => dg q w x (i 1)

theorem dx_final (h : Args m c q w x g) : (dats m 0 c).arrAt 5 cfg0.N = dxArr m c q w x g := by
  refine (dats m 0 c).arrAt_eq_of_covers 5 _ (by decide +kernel) fun t hf y => ?_
  have key : ∀ (i : Fin 512) (j : Fin 1024), k0_pay1 (k0_pay5 (iblk m c 2 t)) (k0_pay6 (iblk m c 2 t)) (k0_pay8 (iblk m c 4 t))
      (k0_pay9 (iblk m c 0 t) (iblk m c 1 t) (iblk m c 3 t))
      (k0_pay10 (iblk m c 0 t) (iblk m c 1 t) (iblk m c 2 t) (iblk m c 3 t)) (ix2 i j) = dx q w x g (m ((c : Thread nD τ).loc main_arg4) : FVec Ideal S1x4096x1024 .f32) (row t i) j := by
    intro i j
    unfold_payloads
    pointwise [dot_S512x1536_S1536x1024_S512x1024_1_0_0_1_n_n]
    simp only [block_dqkv h, block_weight h, block_input h, block_gain h, block_res]
    simp only [mul_coe, coe_sum, word_1024, div_1024, word_eps, add_coe, sub_coe, rsqrt_ms]
    rfl
  blk_simp
  rw [after0_5]
  by_cases h0 : t.val % 8 = 0
  · rw [outsAt0_A m c t h0]
    frame_out
    idx_vars y
    rw [key]
    have e : ((View.whole main_v10_0).slice (win0_5.rect t)).emb (ix2 y0 y1) = ix2 (row t y0) y1 := by blk_ext [idx t, row]
    rw [e]
    rfl
  · rw [outsAt0_B m c t h0]
    frame_out
    idx_vars y
    rw [key]
    have e : ((View.whole main_v10_0).slice (win0_5.rect t)).emb (ix2 y0 y1) = ix2 (row t y0) y1 := by blk_ext [idx t, row]
    rw [e]
    rfl

/-- What one grid point adds to the gain's gradient. -/
def part (q : SQ.Idx → ℝ) (w : SW.Idx → ℝ) (x : SX.Idx → ℝ) (t : Fin cfg0.N) (j : S1x1024.Idx) : EReal :=
  ∑ i : Fin 512, ((dh q w (row t i) (j 1) * (xrow x (row t i) (j 1) * rstd (xrow x (row t i))) : ℝ) : EReal)

theorem dg_final (h : Args m c q w x g) : (dats m 0 c).arrAt 6 cfg0.N = dgArr q w x := by
  refine (dats m 0 c).arrAt_eq_of_after_last 6 t0_7 (by decide +kernel) _ fun j => ?_
  blk_simp
  rw [after0_6]
  have key : ∀ (t : Fin cfg0.N) (prev : Vec Ideal S1x1024 .f32) (j : S1x1024.Idx),
      k0_pay7 (iblk m c 0 t) (iblk m c 1 t) (iblk m c 2 t) prev j = prev j + part q w x t j := by
    intro t prev j
    unfold_payloads
    idx_vars j
    pointwise [dot_S512x1536_S1536x1024_S512x1024_1_0_0_1_n_n]
    simp only [block_dqkv h, block_weight h, block_input h]
    simp only [mul_coe, coe_sum, word_1024, div_1024, word_eps, add_coe, sub_coe, rsqrt_ms]
    rw [part, coe_sum]
    rfl
  refine (Pipeline.eq_sum_fin_of_reset_step_apply_last (fun n hn => (outsAt0 m c n hn).2) 8 (fun _ => 0) (part q w x)
    (fun t h0 j => ?_) (fun t h0 j => ?_) (show cfg0.N = 8 from N_0).le t0_7 rfl j).trans ?_
  · rw [outsAt0_A m c t h0]
    frame_out
    rw [key]
    unfold_payloads
    pointwise
  · rw [outsAt0_B m c t h0]
    frame_out
    rw [key]
  · rw [zero_add]
    unfold part dgArr dg
    exact Fin.sum_mul_add_congr (fun s k hl => rfl)

end Cert.QkvBwd.Kernel

end
-- ==== Proof.QkvBwd.Reference.lean ====
/- What the reference's two results hold, read off its printed operations. -/
module

public import proofs.«01_k».proof.Proof.QkvBwd.Spec
public import proofs.«01_k».proof.Proof.Gen.ReferenceIdeal.Read

@[expose] public section

set_option maxRecDepth 16384

noncomputable section

namespace Cert.QkvBwd.Reference

open Idealize.ShloMosaic Idealize.ShloMosaic.TcCoe Cert.ReferenceIdeal Cert.ReferenceIdeal.Gen Cert.ReferenceIdeal.Read Cert.Reals Cert.Norm

variable (q : SQ.Idx → ℝ) (w : SW.Idx → ℝ) (x : SX.Idx → ℝ) (g : SG.Idx → ℝ) (r : SX.Idx → EReal)

theorem dx_eq (i : Fin 4096) (j : Fin 1024) :
    (val_main_v45 (F := Ideal) (fun i => (q i : EReal)) (fun i => (w i : EReal)) (fun i => (x i : EReal)) (fun i => (g i : EReal)) r) (ix2 i j)
      = dx q w x g r i j := by
  pointwise [hostReduceAdd_ends, val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_v21, val_main_v22, val_main_v23, val_main_cst_3, val_main_v24, val_main_v25, val_main_v26, val_main_v27, val_main_cst_4, val_main_v28, val_main_v29, val_main_cst_5, val_main_v30, val_main_v31, val_main_v32, val_main_v33, val_main_v34, val_main_v35, val_main_cst_6, val_main_v36, val_main_v37, val_main_cst_7, val_main_v38, val_main_v39, val_main_v40, val_main_v41, val_main_v42, val_main_v43, val_main_v44, val_main_v45, dot_S1x4096x1024_S1024x1536_S1x4096x1536_2_0_01_1_n_n, dot_S1x4096x1536_S1024x1536_S1x4096x1024_2_1_01_0_n_n, dot_S1x4096x1536_S1x4096x1024_S1536x1024_01_01_2_2_n_n]
  simp only [mul_coe, coe_sum, word_1024, div_1024, word_eps, word_neg_half, add_coe, rsqrt_ms, div_ms]
  rw [add_assoc, add_assoc, add_coe, add_coe]
  unfold dx
  congr 2
  rw [rmsBwd_eq_chain, add_assoc]
  rfl

theorem dg_eq (j : Fin 1024) :
    (val_main_v46 (F := Ideal) (fun i => (q i : EReal)) (fun i => (w i : EReal)) (fun i => (x i : EReal))) (ix2 0 j) = dg q w x j := by
  pointwise [hostReduceAdd_front, val_main_v0, val_main_v1, val_main_v3, val_main_cst, val_main_v4, val_main_v5, val_main_cst_0, val_main_v6, val_main_v7, val_main_cst_1, val_main_v8, val_main_v9, val_main_v10, val_main_v14, val_main_v15, val_main_v22, val_main_v23, val_main_v26, val_main_cst_3, val_main_v24, val_main_v25, val_main_v27, val_main_cst_4, val_main_v28, val_main_v46, dot_S1x4096x1536_S1024x1536_S1x4096x1024_2_1_01_0_n_n]
  simp only [mul_coe, coe_sum, word_1024, div_1024, word_eps, add_coe, rsqrt_ms]
  rw [Finset.sum_const, Finset.card_univ, Fintype.card_fin, one_smul, dg, coe_sum]
  refine congrArg (fun a : ℝ => (a : EReal)) (Finset.sum_congr rfl fun i _ => ?_)
  unfold dh xrow
  ring

variable {q w x g r}

/-- The first result, of arguments that are these real arrays. -/
theorem dx_arr {a0 : FVec Ideal SQ .f32} {a1 : FVec Ideal SW .f32} {a2 a4 : FVec Ideal SX .f32} {a3 : FVec Ideal SG .f32}
    (h0 : a0 = fun i => ((q i : ℝ) : EReal)) (h1 : a1 = fun i => ((w i : ℝ) : EReal)) (h2 : a2 = fun i => ((x i : ℝ) : EReal))
    (h3 : a3 = fun i => ((g i : ℝ) : EReal)) (h4 : a4 = r) :
    val_main_v45 (F := Ideal) a0 a1 a2 a3 a4 = fun i => dx q w x g r (i 0) (i 1) := by
  subst h0 h1 h2 h3 h4
  funext i
  idx_vars i
  exact dx_eq q w x g _ i0 i1

/-- The second. -/
theorem dg_arr {a0 : FVec Ideal SQ .f32} {a1 : FVec Ideal SW .f32} {a2 : FVec Ideal SX .f32}
    (h0 : a0 = fun i => ((q i : ℝ) : EReal)) (h1 : a1 = fun i => ((w i : ℝ) : EReal)) (h2 : a2 = fun i => ((x i : ℝ) : EReal)) :
    val_main_v46 (F := Ideal) a0 a1 a2 = fun i => dg q w x (i 1) := by
  subst h0 h1 h2
  funext i
  idx_vars i
  obtain rfl : i0 = 0 := Subsingleton.elim _ _
  exact dg_eq q w x i1

end Cert.QkvBwd.Reference

end
-- ==== Proof.QkvBwd.Claim.lean ====
/- The call and its reference end with the same two arrays. -/
module

public import proofs.«01_k».proof.Defs
public import proofs.«01_k».proof.Proof.QkvBwd.Kernel
public import proofs.«01_k».proof.Proof.QkvBwd.Reference
public import proofs.«01_k».proof.Proof.Gen.ReferenceIdeal.Run
public import proofs.«01_k».proof.Proof.Gen.Pre_finite
public import proofs.«01_k».proof.Proof.Gen.Kernel

@[expose] public section

set_option maxRecDepth 16384

noncomputable section

namespace Cert.QkvBwd

open Idealize.ShloMosaic Idealize.ShloMosaic.TcCoe Idealize.SL.Sem Cert.Reals

variable (m : (ℓ : Loc KernelIdeal.nD KernelIdeal.τ KernelIdeal.sig) → Buf (Elt Ideal) ℓ) (c : Dev KernelIdeal.nD)

/-- The four arguments that enter products, as real arrays. -/
def argQ : SQ.Idx → ℝ := re (s := SQ) (m ((c.tc : Thread KernelIdeal.nD KernelIdeal.τ).loc KernelIdeal.main_arg0))
def argW : SW.Idx → ℝ := re (s := SW) (m ((c.tc : Thread KernelIdeal.nD KernelIdeal.τ).loc KernelIdeal.main_arg1))
def argX : SX.Idx → ℝ := re (s := SX) (m ((c.tc : Thread KernelIdeal.nD KernelIdeal.τ).loc KernelIdeal.main_arg2))
def argG : SG.Idx → ℝ := re (s := SG) (m ((c.tc : Thread KernelIdeal.nD KernelIdeal.τ).loc KernelIdeal.main_arg3))

attribute [local instance] Cert.KernelIdeal.Gen.facts Cert.ReferenceIdeal.Gen.facts Cert.Pre_finite.Gen.facts in
theorem algebraic : Cert.algebraic_KernelIdeal_ReferenceIdeal_pre_finite := by
  intro m g m' g' hpre hargs
  have hA : ∀ c, Kernel.Args m c (argQ m c) (argW m c) (argX m c) (argG m c) := fun c =>
    ⟨eq_re (hpre c).1, eq_re (hpre c).2.1, eq_re (hpre c).2.2.1, eq_re (hpre c).2.2.2⟩
  refine ⟨fun c => Kernel.dxArr m c (argQ m c) (argW m c) (argX m c) (argG m c), fun c => Kernel.dgArr (argQ m c) (argW m c) (argX m c),
    (θ_run _ _ _).mono (fun r h c => ⟨(h c).1.trans (Kernel.dx_final (hA c)), (h c).2.1.trans (Kernel.dg_final (hA c)), (h c).2.2⟩)
      (Cert.KernelIdeal.Value.run_blocks m g),
    (θ_run _ _ _).mono (fun r h c => ⟨(h c).1.trans ((ReferenceIdeal.Read.val_main_v45_eq m' c).trans ?_),
      (h c).2.1.trans ((ReferenceIdeal.Read.val_main_v46_eq _ _ _).trans ?_), (h c).2.2⟩) (Cert.ReferenceIdeal.Value.run m' g')⟩
  · obtain ⟨a0, a1, a2, a3, a4⟩ := hargs c
    exact Reference.dx_arr (a0.trans (hA c).dqkv) (a1.trans (hA c).weight) (a2.trans (hA c).input) (a3.trans (hA c).gain) a4
  · obtain ⟨a0, a1, a2, a3, a4⟩ := hargs c
    exact Reference.dg_arr (a0.trans (hA c).dqkv) (a1.trans (hA c).weight) (a2.trans (hA c).input)

/-- The reference ends with its arguments as they were and, having no semaphores, with every counter at zero. -/
theorem reference_frame (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4))
      ∧ r.2.sem = fun _ => 0 :=
  (θ_run _ _ _).mono (fun r h => ⟨fun c => (h c).2.2, sem_eq_zero_of_no_sems rfl r.2⟩) (Cert.ReferenceIdeal.Value.run m ρ)

end Cert.QkvBwd

end
-- ==== Proof.SguBwd.Spec.lean ====
/- The gradient of the spatial gating unit's mixing, chunk by chunk of 128 rows, as functions of real arrays. -/
module

public import proofs.«01_k».proof.Proof.Norm

@[expose] public section

noncomputable section

namespace Cert.SguBwd

open Idealize.ShloMosaic Cert.Reals Cert.Norm

/-- The word of `√(2/π)`. -/
def gk : ℝ := 13386282 / 2 ^ 24

/-- The hyperbolic tangent inside the activation. -/
def gtanh (v : ℝ) : ℝ := Real.tanh (gk * (v + 8943 / 200000 * (v * v * v)))

/-- The activation (GELU in its tanh form). -/
def gelu (v : ℝ) : ℝ := v * (1 / 2 * (1 + gtanh v))

/-- Its derivative. -/
def geluGrad (v : ℝ) : ℝ :=
  1 / 2 * (1 + gtanh v) + 1 / 2 * v * (1 - gtanh v * gtanh v) * (gk * (1 + 26829 / 200000 * (v * v)))

/-- A row's mean. -/
def mean (v : Fin 1024 → ℝ) : ℝ := (∑ k, v k) / 1024

/-- The row less its mean. -/
def cent (v : Fin 1024 → ℝ) (j : Fin 1024) : ℝ := v j - mean v

/-- The normalised row. -/
def norm (v : Fin 1024 → ℝ) (j : Fin 1024) : ℝ := cent v j * rstd (cent v)

/-- The layer norm's gradient in its row, from the gradient `d` in the normalised row. -/
def lnBwd (v d : Fin 1024 → ℝ) (j : Fin 1024) : ℝ :=
  rstd (cent v) * (d j - (∑ k, d k) / 1024 - norm v j * ((∑ k, d k * norm v k) / 1024))

/-- Lane `l` of group `g`. -/
def col (g : Fin 8) (l : Fin 128) : Fin 1024 := ⟨128 * g.val + l.val, by omega⟩

/-- One chunk: 128 rows of both halves of the first product's result and of the gradient in the mixing's result. -/
structure Chunk where
  zu : Fin 128 → Fin 1024 → ℝ
  zv : Fin 128 → Fin 1024 → ℝ
  dy : Fin 128 → Fin 1024 → ℝ

/-- The weights of the mixing. -/
structure Weights where
  lg : Fin 1024 → ℝ
  lb : Fin 1024 → ℝ
  ws : Fin 8 → Fin 128 → Fin 128 → ℝ
  bs : Fin 8 → Fin 128 → ℝ

variable (W : Weights) (C : Chunk)

namespace Chunk

/-- A row of the gated half before its norm. -/
def gv (p : Fin 128) (j : Fin 1024) : ℝ := gelu (C.zv p j)

/-- The normed half. -/
def vn (p : Fin 128) (j : Fin 1024) : ℝ := norm (C.gv p) j * W.lg j + W.lb j

/-- The gradient in the mixed half. -/
def dmix (p : Fin 128) (j : Fin 1024) : ℝ := C.dy p j * gelu (C.zu p j)

/-- The mixed half: a row takes the rows of its chunk up to itself. -/
def mixed (g : Fin 8) (p l : Fin 128) : ℝ := ∑ s : Fin 128, if s.val ≤ p.val then W.ws g p s * C.vn W s (col g l) else 0

/-- The gradient in the first half. -/
def dzu (g : Fin 8) (p l : Fin 128) : ℝ := C.dy p (col g l) * (C.mixed W g p l + W.bs g p) * geluGrad (C.zu p (col g l))

/-- The gradient in the norm's result. -/
def dvn (g : Fin 8) (s l : Fin 128) : ℝ := ∑ t : Fin 128, if s.val ≤ t.val then W.ws g t s * C.dmix t (col g l) else 0

/-- The same over all lanes. -/
def dvnAll (s : Fin 128) (j : Fin 1024) : ℝ := C.dvn W ⟨j.val / 128, by omega⟩ s ⟨j.val % 128, by omega⟩

/-- The gradient in the second half. -/
def dzv (p : Fin 128) (j : Fin 1024) : ℝ := lnBwd (C.gv p) (fun k => C.dvnAll W p k * W.lg k) j * geluGrad (C.zv p j)

/-- The chunk's part of the gradient in the mixing matrix. -/
def dws (g : Fin 8) (t s : Fin 128) : ℝ := if s.val ≤ t.val then ∑ l, C.dmix t (col g l) * C.vn W s (col g l) else 0

/-- Its part of the gradient in the mixing's bias. -/
def dbs (g : Fin 8) (t : Fin 128) : ℝ := ∑ l, C.dmix t (col g l)

/-- Its part of the gradient in the norm's gain. -/
def dlg (j : Fin 1024) : ℝ := ∑ p, C.dvnAll W p j * norm (C.gv p) j

/-- Its part of the gradient in the norm's bias. -/
def dlb (j : Fin 1024) : ℝ := ∑ p, C.dvnAll W p j

end Chunk

abbrev SX : Shape := ⟨3, ![1, 4096, 1024]⟩
abbrev SG : Shape := ⟨2, ![2, 1024]⟩
abbrev SWin : Shape := ⟨3, ![1, 1024, 2048]⟩
abbrev SL : Shape := ⟨2, ![1, 1024]⟩
abbrev SWs : Shape := ⟨4, ![1, 8, 128, 128]⟩
abbrev SBs : Shape := ⟨3, ![1, 8, 128]⟩

/-- The real arrays the arguments hold. -/
structure Arrays where
  dy : SX.Idx → ℝ
  x : SX.Idx → ℝ
  g : SG.Idx → ℝ
  win : SWin.Idx → ℝ
  lg : SL.Idx → ℝ
  lb : SL.Idx → ℝ
  ws : SWs.Idx → ℝ
  bs : SBs.Idx → ℝ

namespace Arrays

variable (A : Arrays)

/-- A row of the layer's input. -/
def xrow (i : Fin 4096) (k : Fin 1024) : ℝ := A.x (ix3 0 i k)

/-- The first product: the normed input times the weight. -/
def z (i : Fin 4096) (e : Fin 2048) : ℝ := ∑ k, A.xrow i k * rstd (A.xrow i) * A.g (ix2 1 k) * A.win (ix3 0 k e)

/-- Row `p` of chunk `n`. -/
def row (n : Fin 32) (p : Fin 128) : Fin 4096 := ⟨n.val * 128 + p.val, by omega⟩

/-- Chunk `n` of the arrays. -/
def chunk (n : Fin 32) : Chunk where
  zu p j := A.z (row n p) ⟨j.val, by omega⟩
  zv p j := A.z (row n p) ⟨1024 + j.val, by omega⟩
  dy p j := A.dy (ix3 0 (row n p) j)

/-- The weights in the arrays. -/
def weights : Weights where
  lg j := A.lg (ix2 0 j)
  lb j := A.lb (ix2 0 j)
  ws g t s := A.ws (ix4 0 g t s)
  bs g t := A.bs (ix3 0 g t)

/-- The gradient in the first product's result. -/
def dz (i : Fin 4096) (e : Fin 2048) : ℝ :=
  if h : e.val < 1024 then
    (A.chunk ⟨i.val / 128, by omega⟩).dzu A.weights ⟨e.val / 128, by omega⟩ ⟨i.val % 128, by omega⟩ ⟨e.val % 128, by omega⟩
  else (A.chunk ⟨i.val / 128, by omega⟩).dzv A.weights ⟨i.val % 128, by omega⟩ ⟨e.val - 1024, by omega⟩

def dlg (j : Fin 1024) : ℝ := ∑ n, (A.chunk n).dlg A.weights j
def dlb (j : Fin 1024) : ℝ := ∑ n, (A.chunk n).dlb A.weights j
def dws (g : Fin 8) (t s : Fin 128) : ℝ := ∑ n, (A.chunk n).dws A.weights g t s
def dbs (g : Fin 8) (t : Fin 128) : ℝ := ∑ n, (A.chunk n).dbs g t

end Arrays

end Cert.SguBwd

end
-- ==== Proof.SguBwd.Blocks.lean ====
/- What each grid point of the call reads: the rows of its blocks, and the whole weights. -/
module

public import proofs.«01_k».proof.Proof.SguBwd.Spec
public import proofs.«01_k».proof.Proof.Gen.SguMixIdeal.Value
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

namespace Cert.SguBwd.Kernel

open Idealize.ShloMosaic Idealize.ShloMosaic.TcCoe Cert.SguMixIdeal Cert.SguMixIdeal.Gen Cert.SguMixIdeal.Facts Cert.Reals Cert.Norm

/-- The row of the array that row `r` of block `t` is. -/
def row (t : Fin cfg0.N) (r : Fin 512) : Fin 4096 :=
  ⟨t.val * 512 + r.val, by have h : t.val < 8 := lt_of_lt_of_eq t.isLt (show cfg0.N = 8 from N_0); omega⟩

/-- Where each window's block stands at point `t`. -/
theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0] ∧ win0_6.index t = ![t.val, 0]
    ∧ win0_7.index t = ![0, 0] ∧ win0_8.index t = ![0, 0] ∧ win0_9.index t = ![0, 0] ∧ win0_10.index t = ![0, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0, 0] ∧ win0_5.index t = ![0, 0] ∧ win0_6.index t = ![t.val, 0]
    ∧ win0_7.index t = ![0, 0] ∧ win0_8.index t = ![0, 0] ∧ win0_9.index t = ![0, 0] ∧ win0_10.index t = ![0, 0])

/-- The arguments a device starts from are these real arrays. -/
structure Args (m : (ℓ : Loc nD τ sig) → Buf (Elt Ideal) ℓ) (c : Dev nD) (A : Arrays) : Prop where
  dy : (m ((c : Thread nD τ).loc main_arg0) : FVec Ideal S1x4096x1024 .f32) = fun i => ((A.dy i : ℝ) : EReal)
  x : (m ((c : Thread nD τ).loc main_arg1) : FVec Ideal S1x4096x1024 .f32) = fun i => ((A.x i : ℝ) : EReal)
  g : (m ((c : Thread nD τ).loc main_arg2) : FVec Ideal S2x1024 .f32) = fun i => ((A.g i : ℝ) : EReal)
  win : (m ((c : Thread nD τ).loc main_arg3) : FVec Ideal S1x1024x2048 .f32) = fun i => ((A.win i : ℝ) : EReal)
  lg : (m ((c : Thread nD τ).loc main_arg4) : FVec Ideal S1x1024 .f32) = fun i => ((A.lg i : ℝ) : EReal)
  lb : (m ((c : Thread nD τ).loc main_arg5) : FVec Ideal S1x1024 .f32) = fun i => ((A.lb i : ℝ) : EReal)
  ws : (m ((c : Thread nD τ).loc main_arg6) : FVec Ideal S1x8x128x128 .f32) = fun i => ((A.ws i : ℝ) : EReal)
  bs : (m ((c : Thread nD τ).loc main_arg7) : FVec Ideal S1x8x128 .f32) = fun i => ((A.bs i : ℝ) : EReal)

variable {m : (ℓ : Loc nD τ sig) → Buf (Elt Ideal) ℓ} {c : Dev nD} {A : Arrays}

/-- The array the call is given for the first product's result. -/
theorem z_eq (h : Args m c A) (i : Fin 4096) (e : Fin 2048) :
    (V m c main_v20 : FVec Ideal S4096x2048 .bf16) (ix2 i e) = ((A.z i e : ℝ) : EReal) := by
  simp only [V]
  entry_read
  pointwise [dot_S4096x1024_S1024x2048_S4096x2048_1_0_0_1_n_n]
  simp only [h.x, h.g, h.win, mul_coe, coe_sum, word_1024, div_1024, word_eps, add_coe, rsqrt_ms]
  rfl

theorem block_z (h : Args m c A) (t : Fin cfg0.N) (i : Fin 512) (k : Fin 2048) :
    (iblk m c 0 t : Vec Ideal S512x2048 .bf16) (ix2 i k) = ((A.z (row t i) k : ℝ) : EReal) := by
  refine Eq.trans ?_ (z_eq h (row t i) k)
  blk_ext [iblk, idx t, row]

theorem block_dy (h : Args m c A) (t : Fin cfg0.N) (i : Fin 512) (k : Fin 1024) :
    (iblk m c 1 t : Vec Ideal S512x1024 .bf16) (ix2 i k) = ((A.dy (ix3 0 (row t i) k) : ℝ) : EReal) := by
  refine Eq.trans ?_ (congrFun h.dy (ix3 0 (row t i) k))
  blk_simp [iblk, V, idx t]
  entry_read
  pointwise
  blk_ext [iblk, V, idx t, row]

theorem block_lg (h : Args m c A) (t : Fin cfg0.N) (k : Fin 1024) :
    (iblk m c 2 t : Vec Ideal S1x1024 .f32) (ix2 0 k) = ((A.weights.lg k : ℝ) : EReal) := by
  refine Eq.trans ?_ (congrFun h.lg (ix2 0 k))
  blk_simp [iblk, V, idx t]
  entry_read
  blk_ext [iblk, V, idx t, row]

theorem block_lb (h : Args m c A) (t : Fin cfg0.N) (k : Fin 1024) :
    (iblk m c 3 t : Vec Ideal S1x1024 .f32) (ix2 0 k) = ((A.weights.lb k : ℝ) : EReal) := by
  refine Eq.trans ?_ (congrFun h.lb (ix2 0 k))
  blk_simp [iblk, V, idx t]
  entry_read
  blk_ext [iblk, V, idx t, row]

theorem block_ws (h : Args m c A) (t : Fin cfg0.N) (g : Fin 8) (i k : Fin 128) :
    (iblk m c 4 t : Vec Ideal S8x128x128 .f32) (ix3 g i k) = ((A.weights.ws g i k : ℝ) : EReal) := by
  refine Eq.trans ?_ (congrFun h.ws (ix4 0 g i k))
  blk_simp [iblk, V, idx t]
  entry_read
  pointwise
  blk_ext [iblk, V, idx t, row]

theorem block_bs (h : Args m c A) (t : Fin cfg0.N) (i : Fin 128) (g : Fin 8) :
    (iblk m c 5 t : Vec Ideal S128x8 .f32) (ix2 i g) = ((A.weights.bs g i : ℝ) : EReal) := by
  refine Eq.trans ?_ (congrFun h.bs (ix3 0 g i))
  blk_simp [iblk, V, idx t]
  entry_read
  pointwise
  blk_ext [iblk, V, idx t, row]

end Cert.SguBwd.Kernel

end
-- ==== Proof.SguBwd.Words.lean ====
/- The words the kernel computes with as real numbers, and how its chunks and groups lie in a block. -/
module

public import proofs.«01_k».proof.Proof.SguBwd.Blocks

@[expose] public section

set_option maxRecDepth 16384

noncomputable section

namespace Cert.SguBwd.Kernel

open Idealize.ShloMosaic Idealize.ShloMosaic.TcCoe Cert.SguMixIdeal Cert.SguMixIdeal.Gen Cert.SguMixIdeal.Facts Cert.Reals Cert.Norm

variable {m : (ℓ : Loc nD τ sig) → Buf (Elt Ideal) ℓ} {c : Dev nD} {A : Arrays}
/-- Chunk `q` of block `t`. -/
def chunkIx (t : Fin cfg0.N) (q : Fin 4) : Fin 32 :=
  ⟨t.val * 4 + q.val, by have h : t.val < 8 := lt_of_lt_of_eq t.isLt (show cfg0.N = 8 from N_0); omega⟩

theorem rows (t : Fin cfg0.N) (p : Fin 128) : row t ⟨p.val, by omega⟩ = Arrays.row (chunkIx t 0) p
    ∧ row t ⟨128 + p.val, by omega⟩ = Arrays.row (chunkIx t 1) p ∧ row t ⟨256 + p.val, by omega⟩ = Arrays.row (chunkIx t 2) p
    ∧ row t ⟨384 + p.val, by omega⟩ = Arrays.row (chunkIx t 3) p := by
  refine ⟨?_, ?_, ?_, ?_⟩ <;> (refine Fin.ext ?_; simp only [row, Arrays.row, chunkIx]; norm_num; omega)

/-- The mask that keeps a matrix on and below its diagonal. -/
theorem select_le (a b : Fin 128) (u : ℝ) :
    Scalar.select (IntOp.cmpi CmpIPredicate.sle (BitVec.ofNat 32 a.val) (BitVec.ofNat 32 b.val)) (u : EReal) ((0 : ℝ) : EReal)
      = ((if a.val ≤ b.val then u else 0 : ℝ) : EReal) := by
  have e : (BitVec.ofNat 32 a.val).sle (BitVec.ofNat 32 b.val) = decide (a.val ≤ b.val) := by
    have ha : (BitVec.ofNat 32 a.val).toInt = a.val := by
      rw [BitVec.toInt_eq_toNat_of_lt] <;> simp <;> omega
    have hb : (BitVec.ofNat 32 b.val).toInt = b.val := by
      rw [BitVec.toInt_eq_toNat_of_lt] <;> simp <;> omega
    rw [BitVec.sle, ha, hb]
    simp
  show (if BitVec.ofBool ((BitVec.ofNat 32 a.val).sle (BitVec.ofNat 32 b.val)) = 1#1 then _ else _) = _
  rw [e]
  by_cases h : a.val ≤ b.val <;> simp [h]

theorem named_cubic : Named.named (F := Ideal) κ "gelu_cubic" (φ := .f32) 0x3D372713#32 = ((8943 / 200000 : ℝ) : EReal) :=
  IdealRules.named_const.ideal_named_scalar _ _ _ _ rfl

theorem named_slope : Named.named (F := Ideal) κ "gelu_slope" (φ := .f32) 0x3E095D4F#32 = ((26829 / 200000 : ℝ) : EReal) :=
  IdealRules.named_const.ideal_named_scalar _ _ _ _ rfl

theorem word_half : Ideal.ofBits .f32 0x3F000000#32 = ((1 / 2 : ℝ) : EReal) := by
  simp [Ideal.ofBits, Ideal.ieee, -EReal.coe_mul]; norm_num

theorem word_gk : Ideal.ofBits .f32 0x3F4C422A#32 = ((gk : ℝ) : EReal) := by
  unfold gk
  simp [Ideal.ofBits, Ideal.ieee, -EReal.coe_mul]; norm_num

theorem one_coe : (1 : EReal) = ((1 : ℝ) : EReal) := rfl
theorem zero_coe : (0 : EReal) = ((0 : ℝ) : EReal) := rfl

theorem rsqrt_cent (v : Fin 1024 → ℝ) :
    Ideal.rsqrt (((∑ k, (v k - (∑ k, v k) / 1024) * (v k - (∑ k, v k) / 1024)) / 1024 + eps : ℝ) : EReal) = ((rstd (cent v) : ℝ) : EReal) := rsqrt_ms (cent v)

/-- The group of a column, and its lane in the group. -/
def grp (j : Fin 1024) : Fin 8 := ⟨j.val / 128, by omega⟩
def lane (j : Fin 1024) : Fin 128 := ⟨j.val % 128, by omega⟩

/-- Eight arrays of 128 lanes side by side. -/
theorem concat_groups {P0 P1 P2 P3 P4 P5 P6 P7 : FVec Ideal S128x128 .f32} {hc} (f : Fin 8 → Fin 128 → Fin 128 → ℝ)
    (h0 : P0 = fun i => ((f 0 (i 0) (i 1) : ℝ) : EReal)) (h1 : P1 = fun i => ((f 1 (i 0) (i 1) : ℝ) : EReal))
    (h2 : P2 = fun i => ((f 2 (i 0) (i 1) : ℝ) : EReal)) (h3 : P3 = fun i => ((f 3 (i 0) (i 1) : ℝ) : EReal))
    (h4 : P4 = fun i => ((f 4 (i 0) (i 1) : ℝ) : EReal)) (h5 : P5 = fun i => ((f 5 (i 0) (i 1) : ℝ) : EReal))
    (h6 : P6 = fun i => ((f 6 (i 0) (i 1) : ℝ) : EReal)) (h7 : P7 = fun i => ((f 7 (i 0) (i 1) : ℝ) : EReal)) :
    concatenate S128x1024 1 [⟨S128x128, P0⟩, ⟨S128x128, P1⟩, ⟨S128x128, P2⟩, ⟨S128x128, P3⟩, ⟨S128x128, P4⟩, ⟨S128x128, P5⟩, ⟨S128x128, P6⟩, ⟨S128x128, P7⟩] hc
      = (fun i => ((f (grp (i 1)) (i 0) (lane (i 1)) : ℝ) : EReal) : FVec Ideal S128x1024 .f32) := by
  subst h0 h1 h2 h3 h4 h5 h6 h7
  funext j
  idx_vars j
  exact concatenate_ofFn_apply (t := S128x1024) (s₁ := S128x128) 1 (N := 8) (fun g => fun i : S128x128.Idx => ((f g (i 0) (i 1) : ℝ) : EReal)) hc rfl 128 rfl
    (ix2 j0 j1) (grp j1) rfl (ix2 j0 (lane j1)) rfl (fun b hb => by
      match b, hb with
      | ⟨0, _⟩, _ => rfl
      | ⟨1, _⟩, hb => exact absurd rfl hb)

/-- The first group's columns. -/
theorem col_zero (l : Fin 128) (hl : l.val < 1024) : (⟨l.val, hl⟩ : Fin 1024) = col 0 l := Fin.ext (by simp [col])
theorem col_zero' (l : Fin 128) (hl : l.val < 2048) : (⟨l.val, hl⟩ : Fin 2048) = ⟨(col 0 l).val, by omega⟩ := Fin.ext (by simp [col])
theorem col_zero'' (l : Fin 128) (hl : 1024 + l.val < 2048) : (⟨1024 + l.val, hl⟩ : Fin 2048) = ⟨1024 + (col 0 l).val, by omega⟩ := Fin.ext (by simp [col])

end Cert.SguBwd.Kernel

end
-- ==== Proof.SguBwd.Sums.lean ====
/- What one block adds to the gradients that are summed over the rows. -/
module

public import proofs.«01_k».proof.Proof.SguBwd.Words
public import Idealize.ShloMosaic.Lib.Pipeline.ReadBack

@[expose] public section

set_option maxRecDepth 16384

noncomputable section

namespace Cert.SguBwd.Kernel

open Idealize.ShloMosaic Idealize.ShloMosaic.TcCoe Cert.SguMixIdeal Cert.SguMixIdeal.Gen Cert.SguMixIdeal.Facts Cert.Reals Cert.Norm

variable {m : (ℓ : Loc nD τ sig) → Buf (Elt Ideal) ℓ} {c : Dev nD} {A : Arrays}

/-- A block's four chunks, added one after another. -/
theorem chunks_add (p : EReal) (f : Fin 4 → ℝ) : p + (f 0 : ℝ) + (f 1 : ℝ) + (f 2 : ℝ) + (f 3 : ℝ) = p + ((∑ q, f q : ℝ) : EReal) := by
  rw [Fin.sum_univ_four, EReal.coe_add, EReal.coe_add, EReal.coe_add, ← add_assoc, ← add_assoc, ← add_assoc]

theorem chunks_zero (f : Fin 4 → ℝ) : ((f 0 + f 1 + f 2 + f 3 : ℝ) : EReal) = 0 + ((∑ q, f q : ℝ) : EReal) := by
  rw [Fin.sum_univ_four, zero_add]

/-- The gradient in the norm's gain at a block that starts it. -/
theorem dlg_A (t : Fin cfg0.N) (h0 : t.val % 8 = 0) (h : Args m c A) (y : S1x1024.Idx) :
    (outsAt0 m c t.val t.isLt).2.1 y
      = 0 + ((∑ q : Fin 4, (A.chunk (chunkIx t q)).dlg A.weights (y 1) : ℝ) : EReal) := by
  rw [outsAt0_A m c t h0]
  frame_open
  simp (disch := decide) only [↓ View.readCov_skip, ↓ View.readCov_cons_toLoadRect, ↓ View.readCov_fill]
  frame_out
  unfold_payloads
  rw [concat_groups ((A.chunk (chunkIx t 0)).dvn A.weights), concat_groups ((A.chunk (chunkIx t 1)).dvn A.weights), concat_groups ((A.chunk (chunkIx t 2)).dvn A.weights), concat_groups ((A.chunk (chunkIx t 3)).dvn A.weights)]
  all_goals try (funext x)
  on_goal 1 =>
    idx_vars y
    refine Eq.trans ?_ (chunks_zero (fun q => (A.chunk (chunkIx t q)).dlg A.weights y1))
    pointwise
    simp only [Memref.IsWhole.read_unread, block_z h, block_dy h, block_lg h, block_lb h, block_ws h, block_bs h, rows t, col_zero, col_zero', col_zero'', named_cubic, named_slope,
      word_half, word_gk, one_coe, zero_coe, word_1024, word_eps, mul_coe, add_coe, sub_coe, coe_sum, Ideal.tanh_coe, div_1024, select_le, rsqrt_cent]
    exact rfl
  all_goals
    idx_vars x
    pointwise [dot_S128x128_S128x128_S128x128_0_0_1_1_n_n]
    simp only [Memref.IsWhole.read_unread, block_z h, block_dy h, block_lg h, block_lb h, block_ws h, block_bs h, rows t, col_zero, col_zero', col_zero'', named_cubic, named_slope,
      word_half, word_gk, one_coe, zero_coe, word_1024, word_eps, mul_coe, add_coe, sub_coe, coe_sum, Ideal.tanh_coe, div_1024, select_le, rsqrt_cent]
    rfl

/-- The gradient in the norm's gain at a block that goes on with it. -/
theorem dlg_B (t : Fin cfg0.N) (h0 : ¬ t.val % 8 = 0) (h : Args m c A) (y : S1x1024.Idx) :
    (outsAt0 m c t.val t.isLt).2.1 y
      = (outsAt0 m c (t.val - 1) (lt_of_le_of_lt (Nat.sub_le _ _) t.isLt)).2.1 y + ((∑ q : Fin 4, (A.chunk (chunkIx t q)).dlg A.weights (y 1) : ℝ) : EReal) := by
  rw [outsAt0_B m c t h0]
  frame_open
  simp (disch := decide) only [↓ View.readCov_skip, ↓ View.readCov_cons_toLoadRect, ↓ View.readCov_fill]
  frame_out
  unfold_payloads
  rw [concat_groups ((A.chunk (chunkIx t 0)).dvn A.weights), concat_groups ((A.chunk (chunkIx t 1)).dvn A.weights), concat_groups ((A.chunk (chunkIx t 2)).dvn A.weights), concat_groups ((A.chunk (chunkIx t 3)).dvn A.weights)]
  all_goals try (funext x)
  on_goal 1 =>
    idx_vars y
    pointwise
    simp only [Memref.IsWhole.read_unread, block_z h, block_dy h, block_lg h, block_lb h, block_ws h, block_bs h, rows t, col_zero, col_zero', col_zero'', named_cubic, named_slope,
      word_half, word_gk, one_coe, zero_coe, word_1024, word_eps, mul_coe, add_coe, sub_coe, coe_sum, Ideal.tanh_coe, div_1024, select_le, rsqrt_cent]
    exact chunks_add _ (fun q => (A.chunk (chunkIx t q)).dlg A.weights y1)
  all_goals
    idx_vars x
    pointwise [dot_S128x128_S128x128_S128x128_0_0_1_1_n_n]
    simp only [Memref.IsWhole.read_unread, block_z h, block_dy h, block_lg h, block_lb h, block_ws h, block_bs h, rows t, col_zero, col_zero', col_zero'', named_cubic, named_slope,
      word_half, word_gk, one_coe, zero_coe, word_1024, word_eps, mul_coe, add_coe, sub_coe, coe_sum, Ideal.tanh_coe, div_1024, select_le, rsqrt_cent]
    rfl

/-- The gradient in the norm's bias at a block that starts it. -/
theorem dlb_A (t : Fin cfg0.N) (h0 : t.val % 8 = 0) (h : Args m c A) (y : S1x1024.Idx) :
    (outsAt0 m c t.val t.isLt).2.2.1 y
      = 0 + ((∑ q : Fin 4, (A.chunk (chunkIx t q)).dlb A.weights (y 1) : ℝ) : EReal) := by
  rw [outsAt0_A m c t h0]
  frame_open
  simp (disch := decide) only [↓ View.readCov_skip, ↓ View.readCov_cons_toLoadRect, ↓ View.readCov_fill]
  frame_out
  unfold_payloads
  rw [concat_groups ((A.chunk (chunkIx t 2)).dvn A.weights), concat_groups ((A.chunk (chunkIx t 0)).dvn A.weights), concat_groups ((A.chunk (chunkIx t 1)).dvn A.weights), concat_groups ((A.chunk (chunkIx t 3)).dvn A.weights)]
  all_goals try (funext x)
  on_goal 1 =>
    idx_vars y
    refine Eq.trans ?_ (chunks_zero (fun q => (A.chunk (chunkIx t q)).dlb A.weights y1))
    pointwise
    simp only [Memref.IsWhole.read_unread, block_z h, block_dy h, block_lg h, block_lb h, block_ws h, block_bs h, rows t, col_zero, col_zero', col_zero'', named_cubic, named_slope,
      word_half, word_gk, one_coe, zero_coe, word_1024, word_eps, mul_coe, add_coe, sub_coe, coe_sum, Ideal.tanh_coe, div_1024, select_le, rsqrt_cent]
    exact rfl
  all_goals
    idx_vars x
    pointwise [dot_S128x128_S128x128_S128x128_0_0_1_1_n_n]
    simp only [Memref.IsWhole.read_unread, block_z h, block_dy h, block_lg h, block_lb h, block_ws h, block_bs h, rows t, col_zero, col_zero', col_zero'', named_cubic, named_slope,
      word_half, word_gk, one_coe, zero_coe, word_1024, word_eps, mul_coe, add_coe, sub_coe, coe_sum, Ideal.tanh_coe, div_1024, select_le, rsqrt_cent]
    rfl

/-- The gradient in the norm's bias at a block that goes on with it. -/
theorem dlb_B (t : Fin cfg0.N) (h0 : ¬ t.val % 8 = 0) (h : Args m c A) (y : S1x1024.Idx) :
    (outsAt0 m c t.val t.isLt).2.2.1 y
      = (outsAt0 m c (t.val - 1) (lt_of_le_of_lt (Nat.sub_le _ _) t.isLt)).2.2.1 y + ((∑ q : Fin 4, (A.chunk (chunkIx t q)).dlb A.weights (y 1) : ℝ) : EReal) := by
  rw [outsAt0_B m c t h0]
  frame_open
  simp (disch := decide) only [↓ View.readCov_skip, ↓ View.readCov_cons_toLoadRect, ↓ View.readCov_fill]
  frame_out
  unfold_payloads
  rw [concat_groups ((A.chunk (chunkIx t 2)).dvn A.weights), concat_groups ((A.chunk (chunkIx t 0)).dvn A.weights), concat_groups ((A.chunk (chunkIx t 1)).dvn A.weights), concat_groups ((A.chunk (chunkIx t 3)).dvn A.weights)]
  all_goals try (funext x)
  on_goal 1 =>
    idx_vars y
    pointwise
    simp only [Memref.IsWhole.read_unread, block_z h, block_dy h, block_lg h, block_lb h, block_ws h, block_bs h, rows t, col_zero, col_zero', col_zero'', named_cubic, named_slope,
      word_half, word_gk, one_coe, zero_coe, word_1024, word_eps, mul_coe, add_coe, sub_coe, coe_sum, Ideal.tanh_coe, div_1024, select_le, rsqrt_cent]
    exact chunks_add _ (fun q => (A.chunk (chunkIx t q)).dlb A.weights y1)
  all_goals
    idx_vars x
    pointwise [dot_S128x128_S128x128_S128x128_0_0_1_1_n_n]
    simp only [Memref.IsWhole.read_unread, block_z h, block_dy h, block_lg h, block_lb h, block_ws h, block_bs h, rows t, col_zero, col_zero', col_zero'', named_cubic, named_slope,
      word_half, word_gk, one_coe, zero_coe, word_1024, word_eps, mul_coe, add_coe, sub_coe, coe_sum, Ideal.tanh_coe, div_1024, select_le, rsqrt_cent]
    rfl

/-- Where the last eight stores cover an index, the earlier ones are not seen there. -/
theorem canon_head8 (p0 p1 p2 p3 p4 p5 p6 p7 : View.Piece (Elt Ideal) S128x1024 .f32) (L : List (View.Piece (Elt Ideal) S128x1024 .f32)) (y : S128x1024.Idx)
    (hc : ∃ p ∈ [p0, p1, p2, p3, p4, p5, p6, p7], y ∈ p.1.set) :
    View.canon (p0 :: p1 :: p2 :: p3 :: p4 :: p5 :: p6 :: p7 :: L) y = View.canon [p0, p1, p2, p3, p4, p5, p6, p7] y := by
  have key : ∀ (K : List (View.Piece (Elt Ideal) S128x1024 .f32)), (∃ p ∈ K, y ∈ p.1.set) → View.canon (K ++ L) y = View.canon K y := by
    intro K
    induction K with
    | nil => rintro ⟨p, hp, _⟩; exact absurd hp List.not_mem_nil
    | cons p K ih =>
      intro h
      by_cases hm : y ∈ p.1.set
      · obtain ⟨x, rfl⟩ := p.1.exists_idx_of_mem hm
        rw [show p.1.idx x = p.1.emb x from rfl, List.cons_append, View.canon_cons_emb, View.canon_cons_emb]
      · rw [List.cons_append, View.canon_cons_of_not_mem _ _ hm, View.canon_cons_of_not_mem _ _ hm]
        refine ih ?_
        obtain ⟨q, hq, hyq⟩ := h
        rcases List.mem_cons.mp hq with rfl | hq
        · exact absurd hyq hm
        · exact ⟨q, hq, hyq⟩
  exact key _ hc

/-- One group's square of the gradient in the mixing matrix. -/
theorem dws_at (t : Fin cfg0.N) (R : S128x1024.Idx → EReal) {y : S128x1024.Idx} {o : Nat} {p l : Fin 128} (h0 : (y 0).val = p.val) (h1 : (y 1).val = o + l.val)
    (m1 : o % 128 = 0) (l1 : o / 128 < 8) :
    R y + ((∑ q : Fin 4, (A.chunk (chunkIx t q)).dws A.weights (grp (y 1)) (y 0) (lane (y 1)) : ℝ) : EReal)
      = R (ix2 p ⟨o + l.val, by omega⟩) + ((∑ q : Fin 4, (A.chunk (chunkIx t q)).dws A.weights ⟨o / 128, l1⟩ p l : ℝ) : EReal) := by
  idx_vars y
  obtain rfl : y0 = p := Fin.ext h0
  have e1 : R (ix2 y0 y1) = R (ix2 y0 ⟨o + l.val, by omega⟩) := congrArg (fun k => R (ix2 y0 k)) (Fin.ext h1)
  have e2 : grp y1 = ⟨o / 128, l1⟩ := by
    refine Fin.ext ?_; show y1.val / 128 = o / 128; have : y1.val = o + l.val := h1; omega
  have e3 : lane y1 = l := by
    refine Fin.ext ?_; show y1.val % 128 = l.val; have : y1.val = o + l.val := h1; omega
  show R (ix2 y0 y1) + ((∑ q : Fin 4, (A.chunk (chunkIx t q)).dws A.weights (grp y1) y0 (lane y1) : ℝ) : EReal) = _
  rw [e1, e2, e3]

/-- The gradient in the mixing matrix at a block that starts it. -/
theorem dws_A (t : Fin cfg0.N) (h0 : t.val % 8 = 0) (h : Args m c A) (y : S128x1024.Idx) :
    (outsAt0 m c t.val t.isLt).2.2.2.1 y
      = (fun _ => 0 : S128x1024.Idx → EReal) y + ((∑ q : Fin 4, (A.chunk (chunkIx t q)).dws A.weights (grp (y 1)) (y 0) (lane (y 1)) : ℝ) : EReal) := by
  rw [outsAt0_A m c t h0]
  frame_open
  simp (disch := decide) only [↓ View.readCov_skip, ↓ View.readCov_cons_toLoadRect, ↓ View.readCov_fill]
  frame_out
  refine (canon_head8 _ _ _ _ _ _ _ _ _ y (View.cover_of_tiledBy _ ![128, 128] (by sl_kernel_rfl) y)).trans ?_
  canon_tiles x hx using View.cover_of_tiledBy _ ![128,128] (by sl_kernel_rfl) _
  all_goals first
    | refine Eq.trans ?_ ((chunks_zero _).trans (dws_at t (fun _ => 0) hx0 hx1 rfl (by decide)).symm)
    | refine Eq.trans ?_ ((chunks_zero _).trans (dws_at t (fun _ => 0) hx0 (hx1.trans (Nat.zero_add _).symm) rfl (by decide)).symm)
  all_goals
    unfold_payloads
    idx_vars x
    pointwise [dot_S128x128_S128x128_S128x128_1_1_0_0_n_n]
    simp only [Memref.IsWhole.read_unread, block_z h, block_dy h, block_lg h, block_lb h, block_ws h, block_bs h, rows t, col_zero, col_zero', col_zero'', named_cubic, named_slope,
      word_half, word_gk, one_coe, zero_coe, word_1024, word_eps, mul_coe, add_coe, sub_coe, coe_sum, Ideal.tanh_coe, div_1024, select_le, rsqrt_cent]
    rfl

/-- The gradient in the mixing matrix at a block that goes on with it. -/
theorem dws_B (t : Fin cfg0.N) (h0 : ¬ t.val % 8 = 0) (h : Args m c A) (y : S128x1024.Idx) :
    (outsAt0 m c t.val t.isLt).2.2.2.1 y
      = (outsAt0 m c (t.val - 1) (lt_of_le_of_lt (Nat.sub_le _ _) t.isLt)).2.2.2.1 y + ((∑ q : Fin 4, (A.chunk (chunkIx t q)).dws A.weights (grp (y 1)) (y 0) (lane (y 1)) : ℝ) : EReal) := by
  rw [outsAt0_B m c t h0]
  frame_open
  simp (disch := decide) only [↓ View.readCov_skip, ↓ View.readCov_cons_toLoadRect, ↓ View.readCov_fill]
  frame_out
  refine (canon_head8 _ _ _ _ _ _ _ _ _ y (View.cover_of_tiledBy _ ![128, 128] (by sl_kernel_rfl) y)).trans ?_
  canon_tiles x hx using View.cover_of_tiledBy _ ![128,128] (by sl_kernel_rfl) _
  all_goals first
    | refine Eq.trans ?_ ((chunks_add _ _).trans (dws_at t (outsAt0 m c (t.val - 1) (lt_of_le_of_lt (Nat.sub_le _ _) t.isLt)).2.2.2.1 hx0 hx1 rfl (by decide)).symm)
    | refine Eq.trans ?_ ((chunks_add _ _).trans (dws_at t (outsAt0 m c (t.val - 1) (lt_of_le_of_lt (Nat.sub_le _ _) t.isLt)).2.2.2.1 hx0 (hx1.trans (Nat.zero_add _).symm) rfl (by decide)).symm)
  all_goals
    unfold_payloads
    idx_vars x
    pointwise [dot_S128x128_S128x128_S128x128_1_1_0_0_n_n]
    simp only [Memref.IsWhole.read_unread, block_z h, block_dy h, block_lg h, block_lb h, block_ws h, block_bs h, rows t, col_zero, col_zero', col_zero'', named_cubic, named_slope,
      word_half, word_gk, one_coe, zero_coe, word_1024, word_eps, mul_coe, add_coe, sub_coe, coe_sum, Ideal.tanh_coe, div_1024, select_le, rsqrt_cent]
    rfl

/-- The selection of one group's lane. -/
theorem select_eq (a : Fin 8) (w : BitVec 32) (u : ℝ) :
    Scalar.select (IntOp.cmpi CmpIPredicate.eq (BitVec.ofNat 32 a.val) w) (u : EReal) ((0 : ℝ) : EReal)
      = ((if a.val = w.toNat then u else 0 : ℝ) : EReal) := by
  have e : (BitVec.ofNat 32 a.val == w) = decide (a.val = w.toNat) := by
    have h : BitVec.ofNat 32 a.val = w ↔ a.val = w.toNat := by
      rw [← BitVec.toNat_inj, BitVec.toNat_ofNat, Nat.mod_eq_of_lt (by omega)]
    by_cases h' : a.val = w.toNat
    · simp [h.mpr h', h']
    · simp [mt h.mp h', h']
  show (if BitVec.ofBool (BitVec.ofNat 32 a.val == w) = 1#1 then _ else _) = _
  rw [e]
  by_cases h : a.val = w.toNat <;> simp [h]

/-- Eight groups, of which a lane selects its own. -/
def pick (f : Fin 8 → ℝ) (g : Fin 8) (k : Fin 8) : ℝ := if g.val = k.val then f k else 0

theorem groups_add (p : EReal) (f : Fin 8 → ℝ) (g : Fin 8) :
    p + (pick f g 0 : ℝ) + (pick f g 1 : ℝ) + (pick f g 2 : ℝ) + (pick f g 3 : ℝ) + (pick f g 4 : ℝ) + (pick f g 5 : ℝ) + (pick f g 6 : ℝ) + (pick f g 7 : ℝ)
      = p + (f g : ℝ) := by
  fin_cases g <;> simp [pick]

theorem groups_real (p : ℝ) (f : Fin 8 → ℝ) (g : Fin 8) :
    p + pick f g 0 + pick f g 1 + pick f g 2 + pick f g 3 + pick f g 4 + pick f g 5 + pick f g 6 + pick f g 7 = p + f g := by
  fin_cases g <;> simp [pick]

theorem groups_zero (f : Fin 8 → ℝ) (g : Fin 8) :
    pick f g 0 + pick f g 1 + pick f g 2 + pick f g 3 + pick f g 4 + pick f g 5 + pick f g 6 + pick f g 7 = f g := by
  fin_cases g <;> simp [pick]

/-- Four chunks of eight groups. -/
theorem all_add (p : EReal) (f : Fin 4 → Fin 8 → ℝ) (g : Fin 8) :
    p + (pick (f 0) g 0 : ℝ) + (pick (f 0) g 1 : ℝ) + (pick (f 0) g 2 : ℝ) + (pick (f 0) g 3 : ℝ) + (pick (f 0) g 4 : ℝ) + (pick (f 0) g 5 : ℝ) + (pick (f 0) g 6 : ℝ) + (pick (f 0) g 7 : ℝ)
      + (pick (f 1) g 0 : ℝ) + (pick (f 1) g 1 : ℝ) + (pick (f 1) g 2 : ℝ) + (pick (f 1) g 3 : ℝ) + (pick (f 1) g 4 : ℝ) + (pick (f 1) g 5 : ℝ) + (pick (f 1) g 6 : ℝ) + (pick (f 1) g 7 : ℝ)
      + (pick (f 2) g 0 : ℝ) + (pick (f 2) g 1 : ℝ) + (pick (f 2) g 2 : ℝ) + (pick (f 2) g 3 : ℝ) + (pick (f 2) g 4 : ℝ) + (pick (f 2) g 5 : ℝ) + (pick (f 2) g 6 : ℝ) + (pick (f 2) g 7 : ℝ)
      + (pick (f 3) g 0 : ℝ) + (pick (f 3) g 1 : ℝ) + (pick (f 3) g 2 : ℝ) + (pick (f 3) g 3 : ℝ) + (pick (f 3) g 4 : ℝ) + (pick (f 3) g 5 : ℝ) + (pick (f 3) g 6 : ℝ) + (pick (f 3) g 7 : ℝ)
      = p + ((∑ q, f q g : ℝ) : EReal) := by
  rw [groups_add, groups_add, groups_add, groups_add]
  exact chunks_add p fun q => f q g

theorem all_zero (f : Fin 4 → Fin 8 → ℝ) (g : Fin 8) :
    ((pick (f 0) g 0 + pick (f 0) g 1 + pick (f 0) g 2 + pick (f 0) g 3 + pick (f 0) g 4 + pick (f 0) g 5 + pick (f 0) g 6 + pick (f 0) g 7
      + pick (f 1) g 0 + pick (f 1) g 1 + pick (f 1) g 2 + pick (f 1) g 3 + pick (f 1) g 4 + pick (f 1) g 5 + pick (f 1) g 6 + pick (f 1) g 7
      + pick (f 2) g 0 + pick (f 2) g 1 + pick (f 2) g 2 + pick (f 2) g 3 + pick (f 2) g 4 + pick (f 2) g 5 + pick (f 2) g 6 + pick (f 2) g 7
      + pick (f 3) g 0 + pick (f 3) g 1 + pick (f 3) g 2 + pick (f 3) g 3 + pick (f 3) g 4 + pick (f 3) g 5 + pick (f 3) g 6 + pick (f 3) g 7 : ℝ) : EReal)
      = 0 + ((∑ q, f q g : ℝ) : EReal) := by
  rw [groups_zero, groups_real, groups_real, groups_real]
  exact chunks_zero fun q => f q g

/-- The gradient in the mixing's bias at a block that starts it. -/
theorem dbs_A (t : Fin cfg0.N) (h0 : t.val % 8 = 0) (h : Args m c A) (y : S128x8.Idx) :
    (outsAt0 m c t.val t.isLt).2.2.2.2 y
      = 0 + ((∑ q : Fin 4, (A.chunk (chunkIx t q)).dbs (y 1) (y 0) : ℝ) : EReal) := by
  rw [outsAt0_A m c t h0]
  frame_open
  simp (disch := decide) only [↓ View.readCov_skip, ↓ View.readCov_cons_toLoadRect, ↓ View.readCov_fill]
  frame_out
  unfold_payloads
  idx_vars y
  refine Eq.trans ?_ (all_zero (fun q g => (A.chunk (chunkIx t q)).dbs g y0) y1)
  pointwise
  simp only [Memref.IsWhole.read_unread, block_z h, block_dy h, block_lg h, block_lb h, block_ws h, block_bs h, rows t, col_zero, col_zero', col_zero'', named_cubic, named_slope,
      word_half, word_gk, one_coe, zero_coe, word_1024, word_eps, mul_coe, add_coe, sub_coe, coe_sum, Ideal.tanh_coe, div_1024, select_eq, rsqrt_cent]
  rfl

/-- The gradient in the mixing's bias at a block that goes on with it. -/
theorem dbs_B (t : Fin cfg0.N) (h0 : ¬ t.val % 8 = 0) (h : Args m c A) (y : S128x8.Idx) :
    (outsAt0 m c t.val t.isLt).2.2.2.2 y
      = (outsAt0 m c (t.val - 1) (lt_of_le_of_lt (Nat.sub_le _ _) t.isLt)).2.2.2.2 y + ((∑ q : Fin 4, (A.chunk (chunkIx t q)).dbs (y 1) (y 0) : ℝ) : EReal) := by
  rw [outsAt0_B m c t h0]
  frame_open
  simp (disch := decide) only [↓ View.readCov_skip, ↓ View.readCov_cons_toLoadRect, ↓ View.readCov_fill]
  frame_out
  unfold_payloads
  idx_vars y
  refine Eq.trans ?_ (all_add _ (fun q g => (A.chunk (chunkIx t q)).dbs g y0) y1)
  pointwise
  simp only [Memref.IsWhole.read_unread, block_z h, block_dy h, block_lg h, block_lb h, block_ws h, block_bs h, rows t, col_zero, col_zero', col_zero'', named_cubic, named_slope,
      word_half, word_gk, one_coe, zero_coe, word_1024, word_eps, mul_coe, add_coe, sub_coe, coe_sum, Ideal.tanh_coe, div_1024, select_eq, rsqrt_cent]
  rfl

end Cert.SguBwd.Kernel

end
-- ==== Proof.SguBwd.Dz.lean ====
/- What one block of the gradient in the first product's result holds. -/
module

public import proofs.«01_k».proof.Proof.SguBwd.Words

@[expose] public section

set_option maxRecDepth 16384

noncomputable section

namespace Cert.SguBwd.Kernel

open Idealize.ShloMosaic Idealize.ShloMosaic.TcCoe Cert.SguMixIdeal Cert.SguMixIdeal.Gen Cert.SguMixIdeal.Facts Cert.Reals Cert.Norm

variable {m : (ℓ : Loc nD τ sig) → Buf (Elt Ideal) ℓ} {c : Dev nD} {A : Arrays}
/-- A piece of the first half: its chunk and its group are read off its corner. -/
theorem dz_u (t : Fin cfg0.N) {a : Fin 512} {b : Fin 2048} {o0 o1 : Nat} {p l : Fin 128} (h0 : a.val = o0 + p.val) (h1 : b.val = o1 + l.val)
    (m0 : o0 % 128 = 0) (m1 : o1 % 128 = 0) (l0 : o0 / 128 < 4) (l1 : o1 / 128 < 8) :
    A.dz (row t a) b = (A.chunk (chunkIx t ⟨o0 / 128, l0⟩)).dzu A.weights ⟨o1 / 128, l1⟩ p l := by
  have e0 : (⟨(row t a).val / 128, by omega⟩ : Fin 32) = chunkIx t ⟨o0 / 128, l0⟩ := by
    refine Fin.ext ?_; simp only [row, chunkIx]; omega
  have e1 : (⟨(row t a).val % 128, by omega⟩ : Fin 128) = p := by
    refine Fin.ext ?_; simp only [row]; omega
  have e2 : (⟨b.val / 128, by omega⟩ : Fin 8) = ⟨o1 / 128, l1⟩ := by
    refine Fin.ext ?_; simp only; omega
  have e3 : (⟨b.val % 128, by omega⟩ : Fin 128) = l := by
    refine Fin.ext ?_; simp only; omega
  rw [Arrays.dz, dif_pos (by omega), e0, e1, e2, e3]

/-- A piece of the second half. -/
theorem dz_v (t : Fin cfg0.N) {a : Fin 512} {b : Fin 2048} {o0 : Nat} {p : Fin 128} {l : Fin 1024} (h0 : a.val = o0 + p.val) (h1 : b.val = 1024 + l.val)
    (m0 : o0 % 128 = 0) (l0 : o0 / 128 < 4) :
    A.dz (row t a) b = (A.chunk (chunkIx t ⟨o0 / 128, l0⟩)).dzv A.weights p l := by
  have e0 : (⟨(row t a).val / 128, by omega⟩ : Fin 32) = chunkIx t ⟨o0 / 128, l0⟩ := by
    refine Fin.ext ?_; simp only [row, chunkIx]; omega
  have e1 : (⟨(row t a).val % 128, by omega⟩ : Fin 128) = p := by
    refine Fin.ext ?_; simp only [row]; omega
  have e3 : (⟨b.val - 1024, by omega⟩ : Fin 1024) = l := by
    refine Fin.ext ?_; simp only; omega
  rw [Arrays.dz, dif_neg (by omega), e0, e1, e3]

set_option maxHeartbeats 4000000 in
theorem dz_blk (t : Fin cfg0.N) (h : Args m c A) (y : S512x2048.Idx) :
    (outsAt0 m c t.val t.isLt).1 y = ((A.dz (row t (y 0)) (y 1) : ℝ) : EReal) := by
  by_cases h0 : t.val % 8 = 0
  on_goal 1 => rw [outsAt0_A m c t h0]
  on_goal 2 => rw [outsAt0_B m c t h0]
  all_goals
    frame_out
    canon_tiles x hx using View.cover_of_tiledBy _ ![128,128] (by sl_kernel_rfl) _
  all_goals first
    | rw [dz_u t hx0 hx1 rfl rfl (by decide) (by decide)]
    | rw [dz_u t (hx0.trans (Nat.zero_add _).symm) hx1 rfl rfl (by decide) (by decide)]
    | rw [dz_u t hx0 (hx1.trans (Nat.zero_add _).symm) rfl rfl (by decide) (by decide)]
    | rw [dz_u t (hx0.trans (Nat.zero_add _).symm) (hx1.trans (Nat.zero_add _).symm) rfl rfl (by decide) (by decide)]
    | rw [dz_v t hx0 hx1 rfl (by decide)]
    | rw [dz_v t (hx0.trans (Nat.zero_add _).symm) hx1 rfl (by decide)]
  all_goals
    generalize hC : A.chunk _ = C
    unfold_payloads
    try rw [concat_groups (C.dvn A.weights)]
  all_goals try (funext x)
  all_goals
    subst hC
    idx_vars x
    pointwise [dot_S128x128_S128x128_S128x128_1_0_0_1_n_n, dot_S128x128_S128x128_S128x128_0_0_1_1_n_n]
    simp only [Memref.IsWhole.read_unread, block_z h, block_dy h, block_lg h, block_lb h, block_ws h, block_bs h, rows t, col_zero, col_zero', col_zero'', named_cubic, named_slope, word_half, word_gk, one_coe, zero_coe,
  word_1024, word_eps, mul_coe, add_coe, sub_coe, coe_sum, Ideal.tanh_coe, div_1024, select_le, rsqrt_cent]
    rfl

end Cert.SguBwd.Kernel

end
-- ==== Proof.SguBwd.Kernel.lean ====
/- What the five result arrays hold after the call. -/
module

public import proofs.«01_k».proof.Proof.SguBwd.Sums
public import proofs.«01_k».proof.Proof.SguBwd.Dz
public import proofs.«01_k».proof.Proof.Gen.SguMixIdeal.Value
public import Idealize.ShloMosaic.Lib.Pipeline.ReadBack

@[expose] public section

set_option maxRecDepth 16384

noncomputable section

namespace Cert.SguBwd.Kernel

open Idealize.ShloMosaic Idealize.ShloMosaic.TcCoe Cert.SguMixIdeal Cert.SguMixIdeal.Gen Cert.SguMixIdeal.Facts Cert.Reals Cert.Norm

variable {m : (ℓ : Loc nD τ sig) → Buf (Elt Ideal) ℓ} {c : Dev nD} {A : Arrays}

/-- The five result arrays. -/
def dzArr (A : Arrays) : S4096x2048.Idx → EReal := fun i => ((A.dz (i 0) (i 1) : ℝ) : EReal)
def dlgArr (A : Arrays) : S1x1024.Idx → EReal := fun i => ((A.dlg (i 1) : ℝ) : EReal)
def dlbArr (A : Arrays) : S1x1024.Idx → EReal := fun i => ((A.dlb (i 1) : ℝ) : EReal)
def dwsArr (A : Arrays) : S128x1024.Idx → EReal := fun i => ((A.dws (grp (i 1)) (i 0) (lane (i 1)) : ℝ) : EReal)
def dbsArr (A : Arrays) : S128x8.Idx → EReal := fun i => ((A.dbs (i 1) (i 0) : ℝ) : EReal)

theorem dz_final (h : Args m c A) : (dats m 0 c).arrAt 6 cfg0.N = dzArr A := by
  refine (dats m 0 c).arrAt_eq_of_covers 6 _ (by decide +kernel) fun t hf y => ?_
  blk_simp
  rw [after0_6, dz_blk t h y]
  idx_vars y
  have e : ((View.whole main_v26_0).slice (win0_6.rect t)).emb (ix2 y0 y1) = ix2 (row t y0) y1 := by blk_ext [idx t, row]
  rw [e]
  rfl

/-- Eight blocks of four chunks are the thirty-two chunks. -/
theorem chunks_all (f : Fin 32 → ℝ) : (∑ t : Fin 8, ((∑ q : Fin 4, f ⟨t.val * 4 + q.val, by omega⟩ : ℝ) : EReal)) = ((∑ n, f n : ℝ) : EReal) := by
  rw [coe_sum]
  exact congrArg (fun a : ℝ => (a : EReal)) (Fin.sum_mul_add_congr (fun s k hl => rfl))

theorem dlg_final (h : Args m c A) : (dats m 0 c).arrAt 7 cfg0.N = dlgArr A := by
  refine (dats m 0 c).arrAt_eq_of_after_last 7 t0_7 (by decide +kernel) _ fun j => ?_
  blk_simp
  rw [after0_7]
  refine (Pipeline.eq_sum_fin_of_reset_step_apply_last (fun n hn => (outsAt0 m c n hn).2.1) 8 (fun _ => 0)
    (fun t j => ((∑ q : Fin 4, (A.chunk (chunkIx t q)).dlg A.weights (j 1) : ℝ) : EReal)) (fun t h0 j => dlg_A t h0 h j) (fun t h0 j => dlg_B t h0 h j)
    (show cfg0.N = 8 from N_0).le t0_7 rfl j).trans ?_
  rw [zero_add]
  exact chunks_all fun n => (A.chunk n).dlg A.weights (j 1)

theorem dlb_final (h : Args m c A) : (dats m 0 c).arrAt 8 cfg0.N = dlbArr A := by
  refine (dats m 0 c).arrAt_eq_of_after_last 8 t0_7 (by decide +kernel) _ fun j => ?_
  blk_simp
  rw [after0_8]
  refine (Pipeline.eq_sum_fin_of_reset_step_apply_last (fun n hn => (outsAt0 m c n hn).2.2.1) 8 (fun _ => 0)
    (fun t j => ((∑ q : Fin 4, (A.chunk (chunkIx t q)).dlb A.weights (j 1) : ℝ) : EReal)) (fun t h0 j => dlb_A t h0 h j) (fun t h0 j => dlb_B t h0 h j)
    (show cfg0.N = 8 from N_0).le t0_7 rfl j).trans ?_
  rw [zero_add]
  exact chunks_all fun n => (A.chunk n).dlb A.weights (j 1)

theorem dws_final (h : Args m c A) : (dats m 0 c).arrAt 9 cfg0.N = dwsArr A := by
  refine (dats m 0 c).arrAt_eq_of_after_last 9 t0_7 (by decide +kernel) _ fun j => ?_
  blk_simp
  rw [after0_9]
  refine (Pipeline.eq_sum_fin_of_reset_step_apply_last (fun n hn => (outsAt0 m c n hn).2.2.2.1) 8 (fun _ => 0)
    (fun t j => ((∑ q : Fin 4, (A.chunk (chunkIx t q)).dws A.weights (grp (j 1)) (j 0) (lane (j 1)) : ℝ) : EReal)) (fun t h0 j => dws_A t h0 h j) (fun t h0 j => dws_B t h0 h j)
    (show cfg0.N = 8 from N_0).le t0_7 rfl j).trans ?_
  rw [zero_add]
  exact chunks_all fun n => (A.chunk n).dws A.weights (grp (j 1)) (j 0) (lane (j 1))

theorem dbs_final (h : Args m c A) : (dats m 0 c).arrAt 10 cfg0.N = dbsArr A := by
  refine (dats m 0 c).arrAt_eq_of_after_last 10 t0_7 (by decide +kernel) _ fun j => ?_
  blk_simp
  rw [after0_10]
  refine (Pipeline.eq_sum_fin_of_reset_step_apply_last (fun n hn => (outsAt0 m c n hn).2.2.2.2) 8 (fun _ => 0)
    (fun t j => ((∑ q : Fin 4, (A.chunk (chunkIx t q)).dbs (j 1) (j 0) : ℝ) : EReal)) (fun t h0 j => dbs_A t h0 h j) (fun t h0 j => dbs_B t h0 h j)
    (show cfg0.N = 8 from N_0).le t0_7 rfl j).trans ?_
  rw [zero_add]
  exact chunks_all fun n => (A.chunk n).dbs (j 1) (j 0)

end Cert.SguBwd.Kernel

end
-- ==== Proof.SguBwd.Reference.lean ====
/- What the reference's five results hold, read off its printed operations in stages. -/
module

public import proofs.«01_k».proof.Proof.SguBwd.Kernel
public import proofs.«01_k».proof.Proof.Gen.SguMixReferenceIdeal.Read

@[expose] public section

set_option maxRecDepth 16384

noncomputable section

namespace Cert.SguBwd.Reference

open Idealize.ShloMosaic Idealize.ShloMosaic.TcCoe Cert.SguMixReferenceIdeal Cert.SguMixReferenceIdeal.Gen Cert.SguMixReferenceIdeal.Read Cert.Reals Cert.Norm
open Cert.SguBwd.Kernel (grp lane word_half word_gk one_coe zero_coe rsqrt_cent)

/-- The arguments, as arrays of extended reals. -/
def dyA (A : Arrays) : FVec Ideal SX .f32 := fun i => ((A.dy i : ℝ) : EReal)
def xA (A : Arrays) : FVec Ideal SX .f32 := fun i => ((A.x i : ℝ) : EReal)
def gA (A : Arrays) : FVec Ideal SG .f32 := fun i => ((A.g i : ℝ) : EReal)
def winA (A : Arrays) : FVec Ideal SWin .f32 := fun i => ((A.win i : ℝ) : EReal)
def lgA (A : Arrays) : FVec Ideal SL .f32 := fun i => ((A.lg i : ℝ) : EReal)
def lbA (A : Arrays) : FVec Ideal SL .f32 := fun i => ((A.lb i : ℝ) : EReal)
def wsA (A : Arrays) : FVec Ideal SWs .f32 := fun i => ((A.ws i : ℝ) : EReal)
def bsA (A : Arrays) : FVec Ideal SBs .f32 := fun i => ((A.bs i : ℝ) : EReal)

variable (A : Arrays)

theorem word_three : Ideal.ofBits .f32 0x40400000#32 = ((3 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem word_num : Ideal.ofBits .f32 0x472EAB00#32 = ((44715 : ℝ) : EReal) := by
  simp [Ideal.ofBits, Ideal.ieee, -EReal.coe_mul]; norm_num

theorem word_den : Ideal.ofBits .f32 0x49742400#32 = ((1000000 : ℝ) : EReal) := by
  simp [Ideal.ofBits, Ideal.ieee, -EReal.coe_mul]; norm_num

theorem div_den (a : ℝ) : Ideal.div (a : EReal) ((1000000 : ℝ) : EReal) = ((a / 1000000 : ℝ) : EReal) := div_coe (by norm_num) a

theorem tanh_coe (a : ℝ) : Ideal.tanh (a : EReal) = ((Real.tanh a : ℝ) : EReal) := rfl

theorem row_split (i : Fin 4096) : Arrays.row ⟨i.val / 128, by omega⟩ ⟨i.val % 128, by omega⟩ = i := Fin.ext (by simp only [Arrays.row]; omega)
theorem col_split (j : Fin 1024) : col ⟨j.val / 128, by omega⟩ ⟨j.val % 128, by omega⟩ = j := Fin.ext (by simp only [col]; omega)
theorem row_val (n : Fin 32) (p : Fin 128) (h) : (⟨n.val * 128 + p.val, h⟩ : Fin 4096) = Arrays.row n p := rfl
theorem col_val (g : Fin 8) (l : Fin 128) (h) : (⟨g.val * 128 + l.val, h⟩ : Fin 1024) = col g l := Fin.ext (by simp only [col]; omega)

/-- The layer norm's gradient written as the chain rule gives it: through the row, its variance and its mean. -/
theorem lnBwd_eq_chain (v d : Fin 1024 → ℝ) (j : Fin 1024) :
    d j * rstd (cent v) + (∑ k, cent v k * d k) * (-(1 / 2) * (rstd (cent v) * (rstd (cent v) * rstd (cent v)))) / 1024 * (2 * cent v j)
      + (∑ k, -(d k * rstd (cent v)) + ∑ k, -((∑ k, cent v k * d k) * (-(1 / 2) * (rstd (cent v) * (rstd (cent v) * rstd (cent v)))) / 1024 * (2 * cent v k))) / 1024
      = lnBwd v d j := by
  have hc : ∑ k, cent v k = 0 := by
    simp only [cent, mean, Finset.sum_sub_distrib, Finset.sum_const, Finset.card_univ, Fintype.card_fin, nsmul_eq_mul]
    push_cast
    ring
  have hn : ∑ k, d k * norm v k = (∑ k, cent v k * d k) * rstd (cent v) := by
    rw [Finset.sum_mul]
    refine Finset.sum_congr rfl fun k _ => ?_
    unfold norm
    ring
  simp only [Finset.sum_neg_distrib, ← Finset.mul_sum, ← Finset.sum_mul, hc, lnBwd, hn]
  unfold norm
  ring

/-- The first product. -/
theorem z_eq (i : Fin 4096) (e : Fin 2048) : (val_main_v16 (F := Ideal) (xA A) (gA A) (winA A)) (ix3 0 i e) = ((A.z i e : ℝ) : EReal) := by
  pointwise [val_main_cst_0, val_main_cst, val_main_cst_1, val_main_v0, val_main_v1, val_main_v2, val_main_v3, val_main_v4, val_main_v5, val_main_v6, val_main_v7, val_main_v8, val_main_v9, val_main_v10, val_main_v11, val_main_v12, val_main_v13, val_main_v14, val_main_v15, val_main_v16, xA, gA, winA, dot_S1x4096x1024_S1024x2048_S1x4096x2048_2_0_01_1_n_n]
  simp only [mul_coe, coe_sum, word_1024, div_1024, word_eps, add_coe, rsqrt_ms]
  rfl

theorem tanh_eq (i : Fin 4096) (e : Fin 2048) : (val_main_v33 (F := Ideal) (xA A) (gA A) (winA A)) (ix3 0 i e) = ((gtanh (A.z i e) : ℝ) : EReal) := by
  pointwise [val_main_cst_3, val_main_cst_4, val_main_cst_5, val_main_v21, val_main_v22, val_main_v26, val_main_v27, val_main_v28, val_main_v29, val_main_v30, val_main_v31, val_main_v32, val_main_v33]
  simp only [z_eq, mul_coe, add_coe, word_num, word_den, div_den, word_gk, tanh_coe]
  exact congrArg (fun a : ℝ => ((Real.tanh a : ℝ) : EReal)) (by ring)

theorem half_eq (i : Fin 4096) (e : Fin 2048) : (val_main_v42 (F := Ideal) (xA A) (gA A) (winA A)) (ix3 0 i e) = ((1 / 2 * (1 + gtanh (A.z i e)) : ℝ) : EReal) := by
  pointwise [val_main_cst_8, val_main_cst_9, val_main_v39, val_main_v40, val_main_v41, val_main_v42]
  simp only [tanh_eq, mul_coe, add_coe, word_half, word_one, one_coe]

theorem gelu_eq (i : Fin 4096) (e : Fin 2048) : (val_main_v43 (F := Ideal) (xA A) (gA A) (winA A)) (ix3 0 i e) = ((gelu (A.z i e) : ℝ) : EReal) := by
  pointwise [val_main_v43]
  simp only [z_eq, half_eq, mul_coe]
  rfl

/-- A row of the gated half. -/
def gvr (i : Fin 4096) (j : Fin 1024) : ℝ := gelu (A.z i ⟨1024 + j.val, by omega⟩)

theorem u_eq (i : Fin 4096) (j : Fin 1024) : (val_main_v44 (F := Ideal) (xA A) (gA A) (winA A)) (ix3 0 i j) = ((gelu (A.z i ⟨j.val, by omega⟩) : ℝ) : EReal) := by
  pointwise [val_main_v44]
  simp only [gelu_eq]

theorem gv_eq (i : Fin 4096) (j : Fin 1024) : (val_main_v45 (F := Ideal) (xA A) (gA A) (winA A)) (ix3 0 i j) = ((gvr A i j : ℝ) : EReal) := by
  pointwise [val_main_v45]
  simp only [gelu_eq]
  rfl

theorem cent_eq (i : Fin 4096) (j : Fin 1024) : (val_main_v51 (F := Ideal) (xA A) (gA A) (winA A)) (ix3 0 i j) = ((cent (gvr A i) j : ℝ) : EReal) := by
  pointwise [val_main_cst_10, val_main_cst_11, val_main_v46, val_main_v47, val_main_v48, val_main_v49, val_main_v50, val_main_v51]
  simp only [gv_eq, coe_sum, word_1024, div_1024, sub_coe]
  rfl

theorem cent_eq' (i : Fin 4096) (j : Fin 1024) : (val_main_v60 (F := Ideal) (xA A) (gA A) (winA A)) (ix3 0 i j) = ((cent (gvr A i) j : ℝ) : EReal) := by
  pointwise [val_main_cst_10, val_main_cst_11, val_main_v46, val_main_v47, val_main_v48, val_main_v49, val_main_v59, val_main_v60]
  simp only [gv_eq, coe_sum, word_1024, div_1024, sub_coe]
  rfl

theorem rstd_eq (i : Fin 4096) : (val_main_v63 (F := Ideal) (xA A) (gA A) (winA A)) (ix3 0 i 0) = ((rstd (cent (gvr A i)) : ℝ) : EReal) := by
  pointwise [val_main_cst_13, val_main_cst_14, val_main_cst_15, val_main_v52, val_main_v55, val_main_v56, val_main_v57, val_main_v58, val_main_v61, val_main_v62, val_main_v63]
  simp only [cent_eq, coe_sum, mul_coe, add_coe, word_1024, word_eps, div_1024, rsqrt_ms]

theorem cube_eq (i : Fin 4096) : (val_main_v66 (F := Ideal) (xA A) (gA A) (winA A)) (ix3 0 i 0) = ((-(1 / 2) * (rstd (cent (gvr A i)) * (rstd (cent (gvr A i)) * rstd (cent (gvr A i)))) : ℝ) : EReal) := by
  pointwise [val_main_cst_13, val_main_cst_14, val_main_cst_15, val_main_cst_16, val_main_v52, val_main_v55, val_main_v56, val_main_v57, val_main_v58, val_main_v61, val_main_v62, val_main_v64, val_main_v65, val_main_v66]
  simp only [rstd_eq, cent_eq, coe_sum, mul_coe, add_coe, word_1024, word_eps, div_1024, word_neg_half, div_ms]

theorem norm_eq (i : Fin 4096) (j : Fin 1024) : (val_main_v68 (F := Ideal) (xA A) (gA A) (winA A)) (ix3 0 i j) = ((norm (gvr A i) j : ℝ) : EReal) := by
  pointwise [val_main_v67, val_main_v68]
  simp only [rstd_eq, cent_eq', mul_coe]
  rfl

/-- A row of the normed half. -/
def vnr (i : Fin 4096) (j : Fin 1024) : ℝ := norm (gvr A i) j * A.lg (ix2 0 j) + A.lb (ix2 0 j)

theorem vn_eq (i : Fin 4096) (j : Fin 1024) : (val_main_v74 (F := Ideal) (xA A) (gA A) (winA A) (lgA A) (lbA A)) (ix3 0 i j) = ((vnr A i j : ℝ) : EReal) := by
  pointwise [val_main_v17, val_main_v18, val_main_v69, val_main_v70, val_main_v71, val_main_v72, val_main_v73, val_main_v74, lgA, lbA]
  simp only [norm_eq, mul_coe, add_coe]
  rfl

theorem vn5_eq (n : Fin 32) (s : Fin 128) (g : Fin 8) (l : Fin 128) :
    (val_main_v75 (F := Ideal) (xA A) (gA A) (winA A) (lgA A) (lbA A)) (ix5 0 n s g l) = ((vnr A (Arrays.row n s) (col g l) : ℝ) : EReal) := by
  pointwise [val_main_v75]
  rw [row_val, col_val]
  exact vn_eq A _ _

theorem mask_eq (t s : Fin 128) : (val_main_v77 (F := Ideal)) (ix2 t s) = (((if s.val ≤ t.val then 1 else 0 : ℝ)) : EReal) := by
  pointwise [val_main_call0_cst, val_main_call0_c, val_main_call0_v0, val_main_call0_v1, val_main_call0_v2, val_main_call0_v3, val_main_call0_v4, val_main_call0_v5, val_main_cst_17, val_main_v76, val_main_v77]
  have e : (BitVec.ofNat 32 s.val).sle (BitVec.ofNat 32 t.val + 0#32) = decide (s.val ≤ t.val) := by
    have ha : (BitVec.ofNat 32 s.val).toInt = s.val := by
      rw [BitVec.toInt_eq_toNat_of_lt] <;> simp <;> omega
    have hb : (BitVec.ofNat 32 t.val).toInt = t.val := by
      rw [BitVec.toInt_eq_toNat_of_lt] <;> simp <;> omega
    rw [BitVec.add_zero, BitVec.sle, ha, hb]
    simp
  show (if BitVec.ofBool ((BitVec.ofNat 32 s.val).sle (BitVec.ofNat 32 t.val + 0#32)) = 1#1 then _ else _) = _
  rw [e]
  by_cases h : s.val ≤ t.val <;> simp [h]

theorem ws_eq (g : Fin 8) (t s : Fin 128) : (val_main_v80 (F := Ideal) (wsA A)) (ix3 g t s) = (((if s.val ≤ t.val then A.ws (ix4 0 g t s) else 0 : ℝ)) : EReal) := by
  pointwise [val_main_v19, val_main_v78, val_main_v79, val_main_v80, wsA]
  simp only [mask_eq, mul_coe]
  congr 1
  split <;> simp

/-- A row's mixing result and its bias. -/
def mixr (n : Fin 32) (g : Fin 8) (t l : Fin 128) : ℝ :=
  (∑ s : Fin 128, if s.val ≤ t.val then A.ws (ix4 0 g t s) * vnr A (Arrays.row n s) (col g l) else 0) + A.bs (ix3 0 g t)

theorem mix5_eq (n : Fin 32) (t : Fin 128) (g : Fin 8) (l : Fin 128) : (val_main_v86 (F := Ideal) (xA A) (gA A) (winA A) (lgA A) (lbA A) (wsA A) (bsA A)) (ix5 0 n t g l) = ((mixr A n g t l : ℝ) : EReal) := by
  pointwise [val_main_v20, val_main_v81, val_main_v82, val_main_v83, val_main_v84, val_main_v85, val_main_v86, bsA, dot_S1x32x128x8x128_S8x128x128_S8x1x32x128x128_2_2_014_1_3_0]
  simp only [vn5_eq, ws_eq, mul_coe, add_coe, coe_sum]
  refine congrArg (fun a : ℝ => ((a + A.bs (ix3 0 g t) : ℝ) : EReal)) (Finset.sum_congr rfl fun s _ => ?_)
  split <;> ring

theorem mix_eq (i : Fin 4096) (j : Fin 1024) : (val_main_v87 (F := Ideal) (xA A) (gA A) (winA A) (lgA A) (lbA A) (wsA A) (bsA A)) (ix3 0 i j)
    = ((mixr A ⟨i.val / 128, by omega⟩ ⟨j.val / 128, by omega⟩ ⟨i.val % 128, by omega⟩ ⟨j.val % 128, by omega⟩ : ℝ) : EReal) := by
  pointwise [val_main_v87]
  exact mix5_eq A _ _ _ _

theorem dmix_eq (i : Fin 4096) (j : Fin 1024) : (val_main_v89 (F := Ideal) (dyA A) (xA A) (gA A) (winA A)) (ix3 0 i j) = ((A.dy (ix3 0 i j) * gelu (A.z i ⟨j.val, by omega⟩) : ℝ) : EReal) := by
  pointwise [val_main_v89, dyA]
  simp only [u_eq, mul_coe, mul_comm]

theorem dmix5_eq (n : Fin 32) (t : Fin 128) (g : Fin 8) (l : Fin 128) :
    (val_main_v91 (F := Ideal) (dyA A) (xA A) (gA A) (winA A)) (ix5 0 n t g l) = (((A.chunk n).dmix t (col g l) : ℝ) : EReal) := by
  pointwise [val_main_v91]
  rw [row_val, col_val]
  exact dmix_eq A _ _

theorem reduce_nl (h : S1x32x128x8x128.ReducesTo [1, 4] S1x128x8) (x : S1x32x128x8x128.Idx → EReal) (init : EReal) (t : Fin 128) (g : Fin 8) :
    Ideal.hostReduceAdd h x init (ix3 0 t g) = init + ∑ n : Fin 32, ∑ l : Fin 128, x (ix5 0 n t g l) := by
  unfold Ideal.hostReduceAdd
  rw [← Fintype.sum_prod_type']
  congr 1
  refine Finset.sum_filter_eq_sum_of_fiber _ (fun k : Fin 32 × Fin 128 => ix5 (0 : Fin 1) k.1 t g k.2)
    (fun _ _ e => Prod.ext (congrFun e (1 : Fin 5)) (congrFun e (4 : Fin 5))) (fun k => ?_) x
  constructor
  · intro e
    refine ⟨(k 1, k 4), ?_⟩
    funext a
    match a with
    | ⟨0, _⟩ => exact Subsingleton.elim (α := Fin 1) _ _
    | ⟨1, _⟩ => rfl
    | ⟨2, _⟩ => exact (Fin.ext (congrArg Fin.val (congrFun e 1))).symm
    | ⟨3, _⟩ => exact (Fin.ext (congrArg Fin.val (congrFun e 2))).symm
    | ⟨4, _⟩ => rfl
  · rintro ⟨k, rfl⟩
    funext b
    match b with
    | ⟨0, _⟩ => rfl
    | ⟨1, _⟩ => rfl
    | ⟨2, _⟩ => rfl

theorem reduce_units (h : S1x1x128x8x1.ReducesTo [0, 1, 4] S128x8) (x : S1x1x128x8x1.Idx → EReal) (init : EReal) (t : Fin 128) (g : Fin 8) :
    Ideal.hostReduceAdd h x init (ix2 t g) = init + x (ix5 0 0 t g 0) := by
  unfold Ideal.hostReduceAdd
  congr 1
  have hf : ∀ k : S1x1x128x8x1.Idx, h.drop k = ix2 t g ↔ k = ix5 0 0 t g 0 := by
    intro k
    constructor
    · intro e
      funext a
      match a with
      | ⟨0, _⟩ => exact Subsingleton.elim (α := Fin 1) _ _
      | ⟨1, _⟩ => exact Subsingleton.elim (α := Fin 1) _ _
      | ⟨2, _⟩ => exact Fin.ext (congrArg Fin.val (congrFun e 0))
      | ⟨3, _⟩ => exact Fin.ext (congrArg Fin.val (congrFun e 1))
      | ⟨4, _⟩ => exact Subsingleton.elim (α := Fin 1) _ _
    · rintro rfl
      funext b
      match b with
      | ⟨0, _⟩ => rfl
      | ⟨1, _⟩ => rfl
  simp [hf, Finset.sum_filter]

theorem dbs_eq (t : Fin 128) (g : Fin 8) : (val_main_v161 (F := Ideal) (dyA A) (xA A) (gA A) (winA A)) (ix2 t g) = ((A.dbs g t : ℝ) : EReal) := by
  pointwise [val_main_cst_18, val_main_cst_19, val_main_v92, val_main_v93, val_main_v94, val_main_v95, val_main_v161, reduce_units, reduce_nl]
  simp only [dmix5_eq, coe_sum]
  rfl

/-- The products over two summed axes, at an index. -/
theorem dot_nl (x : S8x1x32x128x128.Idx → EReal) (y : S1x32x128x8x128.Idx → EReal) (acc : S8x128x128.Idx → EReal) (g : Fin 8) (t s : Fin 128) :
    Ideal.matmul dot_S8x1x32x128x128_S1x32x128x8x128_S8x128x128_123_014_4_2_0_3 x y acc (ix3 g t s)
      = acc (ix3 g t s) + ∑ n : Fin 32, ∑ l : Fin 128, x (ix5 g 0 n l t) * y (ix5 0 n s g l) := by
  unfold Ideal.matmul
  rw [← Fintype.sum_prod_type']
  congr 1
  refine (Fintype.sum_equiv (⟨fun k p => match p with
    | ⟨0, _⟩ => (0 : Fin 1)
    | ⟨1, _⟩ => k.1
    | ⟨2, _⟩ => k.2, fun k => (k ⟨1, by decide⟩, k ⟨2, by decide⟩), fun k => rfl, fun k => ?_⟩ :
    Fin 32 × Fin 128 ≃ (dot_S8x1x32x128x128_S1x32x128x8x128_S8x128x128_123_014_4_2_0_3).contr.Idx) _ _ fun k => ?_).symm
  · funext p
    match p with
    | ⟨0, _⟩ => exact Subsingleton.elim (α := Fin 1) _ _
    | ⟨1, _⟩ => rfl
    | ⟨2, _⟩ => rfl
  · refine congrArg₂ (fun a b : EReal => a * b) (congrArg x ?_) (congrArg y ?_)
    · funext a
      match a with
      | ⟨0, _⟩ => rfl
      | ⟨1, _⟩ => rfl
      | ⟨2, _⟩ => rfl
      | ⟨3, _⟩ => rfl
      | ⟨4, _⟩ => rfl
    · funext a
      match a with
      | ⟨0, _⟩ => rfl
      | ⟨1, _⟩ => rfl
      | ⟨2, _⟩ => rfl
      | ⟨3, _⟩ => rfl
      | ⟨4, _⟩ => rfl

theorem dwsAll_eq (g : Fin 8) (t s : Fin 128) : (val_main_v97 (F := Ideal) (dyA A) (xA A) (gA A) (winA A) (lgA A) (lbA A)) (ix3 g t s)
    = ((∑ n, ∑ l, (A.chunk n).dmix t (col g l) * vnr A (Arrays.row n s) (col g l) : ℝ) : EReal) := by
  unfold val_main_v97
  refine (dot_nl _ _ _ g t s).trans ?_
  pointwise [val_main_v96]
  simp only [dmix5_eq, vn5_eq, mul_coe, coe_sum]

theorem dws_eq (t : Fin 128) (j : Fin 1024) : (val_main_v160 (F := Ideal) (dyA A) (xA A) (gA A) (winA A) (lgA A) (lbA A)) (ix2 t j) = ((A.dws (grp j) t (lane j) : ℝ) : EReal) := by
  pointwise [val_main_v78, val_main_v100, val_main_v101, val_main_v159, val_main_v160]
  simp only [dwsAll_eq, mask_eq, mul_coe]
  refine congrArg (fun a : ℝ => (a : EReal)) ?_
  have hl : (lane j).val = j.val % 128 := rfl
  unfold Arrays.dws Chunk.dws
  rw [hl]
  split
  · rw [mul_one]
    rfl
  · rw [mul_zero, Finset.sum_const_zero]

theorem dvn5_eq (n : Fin 32) (s : Fin 128) (g : Fin 8) (l : Fin 128) : (val_main_v99 (F := Ideal) (dyA A) (xA A) (gA A) (winA A) (wsA A)) (ix5 0 n s g l) = (((A.chunk n).dvn A.weights g s l : ℝ) : EReal) := by
  pointwise [val_main_v99, val_main_v98, val_main_v96, dot_S8x1x32x128x128_S8x128x128_S8x1x32x128x128_4_1_123_2_0_0]
  simp only [dmix5_eq, ws_eq, mul_coe, coe_sum]
  refine congrArg (fun a : ℝ => (a : EReal)) (Finset.sum_congr rfl fun t _ => ?_)
  show _ = if s.val ≤ t.val then A.ws (ix4 0 g t s) * (A.chunk n).dmix t (col g l) else 0
  split <;> ring

/-- A row of the gradient in the norm's result. -/
def dvnr (i : Fin 4096) (j : Fin 1024) : ℝ := (A.chunk ⟨i.val / 128, by omega⟩).dvnAll A.weights ⟨i.val % 128, by omega⟩ j

theorem dvn_eq (i : Fin 4096) (j : Fin 1024) : (val_main_v102 (F := Ideal) (dyA A) (xA A) (gA A) (winA A) (wsA A)) (ix3 0 i j) = ((dvnr A i j : ℝ) : EReal) := by
  pointwise [val_main_v102]
  exact dvn5_eq A _ _ _ _

/-- The rows are the rows of the chunks. -/
theorem rows_sum (f : Fin 32 → Fin 128 → ℝ) : ∑ n, ∑ p, f n p = ∑ i : Fin 4096, f ⟨i.val / 128, by omega⟩ ⟨i.val % 128, by omega⟩ :=
  Fin.sum_mul_add_congr (fun n p hl => congrArg₂ f (Fin.ext (by simp only; omega)) (Fin.ext (by simp only; omega)))

theorem dlb_eq (j : Fin 1024) : (val_main_v158 (F := Ideal) (dyA A) (xA A) (gA A) (winA A) (wsA A)) (ix2 0 j) = ((A.dlb j : ℝ) : EReal) := by
  pointwise [val_main_cst_20, val_main_cst_21, val_main_v103, val_main_v104, val_main_v105, val_main_v158, hostReduceAdd_front]
  simp only [dvn_eq, coe_sum]
  rw [Finset.sum_const, Finset.card_univ, Fintype.card_fin, one_smul]
  exact congrArg (fun a : ℝ => (a : EReal)) (rows_sum fun n p => (A.chunk n).dvnAll A.weights p j).symm

theorem dlg_eq (j : Fin 1024) : (val_main_v157 (F := Ideal) (dyA A) (xA A) (gA A) (winA A) (wsA A)) (ix2 0 j) = ((A.dlg j : ℝ) : EReal) := by
  pointwise [val_main_cst_22, val_main_cst_23, val_main_v106, val_main_v107, val_main_v108, val_main_v111, val_main_v157, hostReduceAdd_front]
  simp only [dvn_eq, norm_eq, mul_coe, coe_sum]
  rw [Finset.sum_const, Finset.card_univ, Fintype.card_fin, one_smul]
  refine congrArg (fun a : ℝ => (a : EReal)) (((rows_sum fun n p => (A.chunk n).dvnAll A.weights p j * norm (gvr A (Arrays.row n p)) j).trans
    (Finset.sum_congr rfl fun i _ => ?_)).symm)
  rw [row_split, mul_comm]
  rfl

theorem dgv_eq (i : Fin 4096) (j : Fin 1024) : (val_main_v137 (F := Ideal) (dyA A) (xA A) (gA A) (winA A) (lgA A) (wsA A)) (ix3 0 i j) = ((lnBwd (gvr A i) (fun k => dvnr A i k * A.lg (ix2 0 k)) j : ℝ) : EReal) := by
  rw [← lnBwd_eq_chain]
  pointwise [val_main_cst_12, val_main_cst_24, val_main_cst_25, val_main_cst_26, val_main_cst_27, val_main_cst_28, val_main_cst_29, val_main_cst_30, val_main_v17, val_main_v53, val_main_v54, val_main_v69, val_main_v109, val_main_v110, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, hostReduceAdd_ends, lgA]
  simp only [dvn_eq, cent_eq, cent_eq', cube_eq, rstd_eq, mul_coe, coe_sum, neg_coe, add_coe, word_1024, div_1024, word_two]

theorem dpre_lo (i : Fin 4096) (j : Fin 1024) : (val_main_v140 (F := Ideal) (dyA A) (xA A) (gA A) (winA A) (lgA A) (lbA A) (wsA A) (bsA A)) (ix3 0 i ⟨j.val, by omega⟩)
    = ((A.dy (ix3 0 i j) * mixr A ⟨i.val / 128, by omega⟩ ⟨j.val / 128, by omega⟩ ⟨i.val % 128, by omega⟩ ⟨j.val % 128, by omega⟩ : ℝ) : EReal) := by
  pointwise [val_main_cst_31, val_main_cst_32, val_main_v90, val_main_v138, val_main_v139, val_main_v140, dyA]
  rw [dif_neg (fun h => h.1), zero_add, mix_eq, mul_coe]

theorem dpre_hi (i : Fin 4096) (j : Fin 1024) : (val_main_v140 (F := Ideal) (dyA A) (xA A) (gA A) (winA A) (lgA A) (lbA A) (wsA A) (bsA A)) (ix3 0 i ⟨1024 + j.val, by omega⟩)
    = ((lnBwd (gvr A i) (fun k => dvnr A i k * A.lg (ix2 0 k)) j : ℝ) : EReal) := by
  pointwise [val_main_cst_31, val_main_cst_32, val_main_v90, val_main_v138, val_main_v139, val_main_v140, dyA]
  exact dgv_eq A i j

theorem dz_of (i : Fin 4096) (e : Fin 2048) (d : ℝ) (h : (val_main_v140 (F := Ideal) (dyA A) (xA A) (gA A) (winA A) (lgA A) (lbA A) (wsA A) (bsA A)) (ix3 0 i e) = ((d : ℝ) : EReal)) :
    (val_main_v156 (F := Ideal) (dyA A) (xA A) (gA A) (winA A) (lgA A) (lbA A) (wsA A) (bsA A)) (ix2 i e) = ((d * geluGrad (A.z i e) : ℝ) : EReal) := by
  pointwise [val_main_cst_2, val_main_cst_6, val_main_cst_7, val_main_cst_33, val_main_cst_34, val_main_cst_35, val_main_cst_36, val_main_v23, val_main_v24, val_main_v25, val_main_v34, val_main_v35, val_main_v36, val_main_v37, val_main_v38, val_main_v141, val_main_v142, val_main_v143, val_main_v144, val_main_v145, val_main_v146, val_main_v147, val_main_v148, val_main_v149, val_main_v150, val_main_v151, val_main_v152, val_main_v153, val_main_v154, val_main_v155, val_main_v156]
  simp only [h, z_eq, tanh_eq, half_eq, mul_coe, add_coe, sub_coe, word_half, word_one, one_coe, word_gk, word_num, word_den, div_den, word_three]
  refine congrArg (fun a : ℝ => (a : EReal)) ?_
  unfold geluGrad
  ring

theorem dz_hi (i : Fin 4096) (j : Fin 1024) : (val_main_v156 (F := Ideal) (dyA A) (xA A) (gA A) (winA A) (lgA A) (lbA A) (wsA A) (bsA A)) (ix2 i ⟨1024 + j.val, by omega⟩) = ((A.dz i ⟨1024 + j.val, by omega⟩ : ℝ) : EReal) := by
  refine (dz_of A i _ _ (dpre_hi A i j)).trans (congrArg (fun a : ℝ => (a : EReal)) ?_)
  unfold Arrays.dz
  rw [dif_neg (show ¬ (1024 + j.val < 1024) by omega)]
  have hj : (⟨1024 + j.val - 1024, by omega⟩ : Fin 1024) = j := Fin.ext (by simp only; omega)
  have hr := row_split i
  simp only [hj, Chunk.dzv]
  have hg : (A.chunk ⟨i.val / 128, by omega⟩).gv ⟨i.val % 128, by omega⟩ = gvr A i := by
    funext k
    simp only [Chunk.gv, Arrays.chunk, hr]
    rfl
  rw [hg]
  simp only [Arrays.chunk, hr]
  rfl

theorem dz_eq (i : Fin 4096) (e : Fin 2048) : (val_main_v156 (F := Ideal) (dyA A) (xA A) (gA A) (winA A) (lgA A) (lbA A) (wsA A) (bsA A)) (ix2 i e) = ((A.dz i e : ℝ) : EReal) := by
  by_cases h : e.val < 1024
  · refine (dz_of A i e _ (dpre_lo A i ⟨e.val, h⟩)).trans (congrArg (fun a : ℝ => (a : EReal)) ?_)
    unfold Arrays.dz
    rw [dif_pos h]
    unfold Chunk.dzu
    have hr := row_split i
    have hc := col_split ⟨e.val, h⟩
    simp only [Arrays.chunk, hr, hc]
    rfl
  · have e1 := dz_hi A i ⟨e.val - 1024, by omega⟩
    have he : (⟨1024 + (e.val - 1024), by omega⟩ : Fin 2048) = e := Fin.ext (by simp only; omega)
    simp only [he] at e1
    exact e1

variable {A} {a0 a1 : FVec Ideal SX .f32} {a2 : FVec Ideal SG .f32} {a3 : FVec Ideal SWin .f32} {a4 a5 : FVec Ideal SL .f32}
  {a6 : FVec Ideal SWs .f32} {a7 : FVec Ideal SBs .f32}

/-- The five results, of arguments that are these real arrays. -/
theorem dz_arr (h0 : a0 = dyA A) (h1 : a1 = xA A) (h2 : a2 = gA A) (h3 : a3 = winA A) (h4 : a4 = lgA A) (h5 : a5 = lbA A)
    (h6 : a6 = wsA A) (h7 : a7 = bsA A) : val_main_v156 (F := Ideal) a0 a1 a2 a3 a4 a5 a6 a7 = Kernel.dzArr A := by
  subst h0 h1 h2 h3 h4 h5 h6 h7
  funext i
  idx_vars i
  exact dz_eq A i0 i1

theorem dlg_arr (h0 : a0 = dyA A) (h1 : a1 = xA A) (h2 : a2 = gA A) (h3 : a3 = winA A) (h6 : a6 = wsA A) :
    val_main_v157 (F := Ideal) a0 a1 a2 a3 a6 = Kernel.dlgArr A := by
  subst h0 h1 h2 h3 h6
  funext i
  idx_vars i
  obtain rfl : i0 = 0 := Subsingleton.elim _ _
  exact dlg_eq A i1

theorem dlb_arr (h0 : a0 = dyA A) (h1 : a1 = xA A) (h2 : a2 = gA A) (h3 : a3 = winA A) (h6 : a6 = wsA A) :
    val_main_v158 (F := Ideal) a0 a1 a2 a3 a6 = Kernel.dlbArr A := by
  subst h0 h1 h2 h3 h6
  funext i
  idx_vars i
  obtain rfl : i0 = 0 := Subsingleton.elim _ _
  exact dlb_eq A i1

theorem dws_arr (h0 : a0 = dyA A) (h1 : a1 = xA A) (h2 : a2 = gA A) (h3 : a3 = winA A) (h4 : a4 = lgA A) (h5 : a5 = lbA A) :
    val_main_v160 (F := Ideal) a0 a1 a2 a3 a4 a5 = Kernel.dwsArr A := by
  subst h0 h1 h2 h3 h4 h5
  funext i
  idx_vars i
  exact dws_eq A i0 i1

theorem dbs_arr (h0 : a0 = dyA A) (h1 : a1 = xA A) (h2 : a2 = gA A) (h3 : a3 = winA A) :
    val_main_v161 (F := Ideal) a0 a1 a2 a3 = Kernel.dbsArr A := by
  subst h0 h1 h2 h3
  funext i
  idx_vars i
  exact dbs_eq A i0 i1

end Cert.SguBwd.Reference

end
-- ==== Proof.SguBwd.Claim.lean ====
/- The call and its reference end with the same five arrays. -/
module

public import proofs.«01_k».proof.Defs
public import proofs.«01_k».proof.Proof.SguBwd.Kernel
public import proofs.«01_k».proof.Proof.SguBwd.Reference
public import proofs.«01_k».proof.Proof.Gen.SguMixReferenceIdeal.Run
public import proofs.«01_k».proof.Proof.Gen.Pre_sgu_finite
public import proofs.«01_k».proof.Proof.Gen.SguMix

@[expose] public section

set_option maxRecDepth 16384

noncomputable section

namespace Cert.SguBwd

open Idealize.ShloMosaic Idealize.ShloMosaic.TcCoe Idealize.SL.Sem Cert.Reals

/-- The real values of the eight arguments. -/
def args (m : (ℓ : Loc SguMixIdeal.nD SguMixIdeal.τ SguMixIdeal.sig) → Buf (Elt Ideal) ℓ) (c : Dev SguMixIdeal.nD) : Arrays where
  dy := re (s := SX) (m ((c.tc : Thread SguMixIdeal.nD SguMixIdeal.τ).loc SguMixIdeal.main_arg0))
  x := re (s := SX) (m ((c.tc : Thread SguMixIdeal.nD SguMixIdeal.τ).loc SguMixIdeal.main_arg1))
  g := re (s := SG) (m ((c.tc : Thread SguMixIdeal.nD SguMixIdeal.τ).loc SguMixIdeal.main_arg2))
  win := re (s := SWin) (m ((c.tc : Thread SguMixIdeal.nD SguMixIdeal.τ).loc SguMixIdeal.main_arg3))
  lg := re (s := SL) (m ((c.tc : Thread SguMixIdeal.nD SguMixIdeal.τ).loc SguMixIdeal.main_arg4))
  lb := re (s := SL) (m ((c.tc : Thread SguMixIdeal.nD SguMixIdeal.τ).loc SguMixIdeal.main_arg5))
  ws := re (s := SWs) (m ((c.tc : Thread SguMixIdeal.nD SguMixIdeal.τ).loc SguMixIdeal.main_arg6))
  bs := re (s := SBs) (m ((c.tc : Thread SguMixIdeal.nD SguMixIdeal.τ).loc SguMixIdeal.main_arg7))

attribute [local instance] Cert.SguMixIdeal.Gen.facts Cert.SguMixReferenceIdeal.Gen.facts Cert.Pre_sgu_finite.Gen.facts in
theorem algebraic : Cert.algebraic_SguMixIdeal_SguMixReferenceIdeal_pre_sgu_finite := by
  intro m g m' g' hpre hargs
  have hA : ∀ c, Kernel.Args m c (args m c) := fun c =>
    ⟨eq_re (hpre c).1, eq_re (hpre c).2.1, eq_re (hpre c).2.2.1, eq_re (hpre c).2.2.2.1, eq_re (hpre c).2.2.2.2.1,
      eq_re (hpre c).2.2.2.2.2.1, eq_re (hpre c).2.2.2.2.2.2.1, eq_re (hpre c).2.2.2.2.2.2.2⟩
  refine ⟨fun c => Kernel.dzArr (args m c), fun c => Kernel.dlgArr (args m c), fun c => Kernel.dlbArr (args m c),
    fun c => Kernel.dwsArr (args m c), fun c => Kernel.dbsArr (args m c),
    (θ_run _ _ _).mono (fun r h c => ⟨(h c).1.trans (Kernel.dz_final (hA c)), (h c).2.1.trans (Kernel.dlg_final (hA c)),
      (h c).2.2.1.trans (Kernel.dlb_final (hA c)), (h c).2.2.2.1.trans (Kernel.dws_final (hA c)),
      (h c).2.2.2.2.1.trans (Kernel.dbs_final (hA c)), (h c).2.2.2.2.2⟩) (Cert.SguMixIdeal.Value.run_blocks m g),
    (θ_run _ _ _).mono (fun r h c => ⟨(h c).1.trans ((SguMixReferenceIdeal.Read.val_main_v156_eq _).trans ?_),
      (h c).2.1.trans ((SguMixReferenceIdeal.Read.val_main_v157_eq _).trans ?_),
      (h c).2.2.1.trans ((SguMixReferenceIdeal.Read.val_main_v158_eq _).trans ?_),
      (h c).2.2.2.1.trans ((SguMixReferenceIdeal.Read.val_main_v160_eq _).trans ?_),
      (h c).2.2.2.2.1.trans ((SguMixReferenceIdeal.Read.val_main_v161_eq _).trans ?_), (h c).2.2.2.2.2⟩)
      (Cert.SguMixReferenceIdeal.Value.run m' g')⟩
  all_goals obtain ⟨a0, a1, a2, a3, a4, a5, a6, a7⟩ := hargs c
  · exact Reference.dz_arr (a0.trans (hA c).dy) (a1.trans (hA c).x) (a2.trans (hA c).g) (a3.trans (hA c).win) (a4.trans (hA c).lg)
      (a5.trans (hA c).lb) (a6.trans (hA c).ws) (a7.trans (hA c).bs)
  · exact Reference.dlg_arr (a0.trans (hA c).dy) (a1.trans (hA c).x) (a2.trans (hA c).g) (a3.trans (hA c).win) (a6.trans (hA c).ws)
  · exact Reference.dlb_arr (a0.trans (hA c).dy) (a1.trans (hA c).x) (a2.trans (hA c).g) (a3.trans (hA c).win) (a6.trans (hA c).ws)
  · exact Reference.dws_arr (a0.trans (hA c).dy) (a1.trans (hA c).x) (a2.trans (hA c).g) (a3.trans (hA c).win) (a4.trans (hA c).lg) (a5.trans (hA c).lb)
  · exact Reference.dbs_arr (a0.trans (hA c).dy) (a1.trans (hA c).x) (a2.trans (hA c).g) (a3.trans (hA c).win)

attribute [local instance] Cert.SguMixReferenceIdeal.Gen.facts in
/-- The reference ends with its arguments as they were and, having no semaphores, with every counter at zero. -/
theorem reference_frame : Cert.quiescent_SguMixReferenceIdeal := fun m ρ _ =>
  (θ_run _ _ _).mono (fun r h => ⟨fun c => (h c).2.2.2.2.2, sem_eq_zero_of_no_sems rfl r.2⟩) (Cert.SguMixReferenceIdeal.Value.run m ρ)

end Cert.SguBwd

end
-- ==== Proof.AttnBwd.Spec.lean ====
/- The gradient of banded attention with a sink, block by block of 128 rows, as functions of real arrays. -/
module

public import proofs.«01_k».proof.Proof.Norm

@[expose] public section

noncomputable section

namespace Cert.AttnBwd

open Idealize.ShloMosaic Cert.Reals Cert.Norm

section Soft

variable (v : Fin 256 → Bool) (S : Fin 256 → ℝ) (σ : ℝ) (dP : Fin 256 → ℝ)

/-- The weight of a key before it is divided by the total: none where the key is masked. -/
def wt (c : Fin 256) : ℝ := if v c then Real.exp (S c) else 0

/-- The total: the keys' weights and the sink's. -/
def tot : ℝ := ∑ c, wt v S c + Real.exp σ

/-- A key's probability, and the sink's. -/
def prob (c : Fin 256) : ℝ := wt v S c / tot v S σ
def psink : ℝ := Real.exp σ / tot v S σ

/-- The gradient in the probabilities along the probabilities. -/
def delta : ℝ := ∑ c, prob v S σ c * dP c

/-- The gradient in the scores. -/
def dscore (c : Fin 256) : ℝ := prob v S σ c * (dP c - delta v S σ dP)

theorem wt_nonneg (c : Fin 256) : 0 ≤ wt v S c := by unfold wt; split <;> positivity
theorem tot_pos : 0 < tot v S σ := add_pos_of_nonneg_of_pos (Finset.sum_nonneg fun c _ => wt_nonneg v S c) (Real.exp_pos σ)

/-- The weights a computation has that subtracts `M` from every score first. -/
def wtAt (M : ℝ) (c : Fin 256) : ℝ := if v c then Real.exp (S c - M) else 0

/-- Their total. -/
def totAt (M : ℝ) : ℝ := ∑ c, wtAt v S M c + Real.exp (σ - M)

theorem wtAt_eq (M : ℝ) (c : Fin 256) : wtAt v S M c = wt v S c * Real.exp (-M) := by
  unfold wtAt wt
  split
  · rw [sub_eq_add_neg, Real.exp_add]
  · rw [zero_mul]

theorem totAt_eq (M : ℝ) : totAt v S σ M = tot v S σ * Real.exp (-M) := by
  unfold totAt tot
  rw [add_mul, Finset.sum_mul, sub_eq_add_neg, Real.exp_add]
  exact congrArg (· + _) (Finset.sum_congr rfl fun c _ => wtAt_eq v S M c)

theorem totAt_pos (M : ℝ) : 0 < totAt v S σ M := by
  rw [totAt_eq]
  exact mul_pos (tot_pos v S σ) (Real.exp_pos _)

/-- The subtraction changes no probability. -/
theorem prob_at (M : ℝ) (c : Fin 256) : wtAt v S M c / totAt v S σ M = prob v S σ c := by
  rw [wtAt_eq, totAt_eq, prob, mul_div_mul_right _ _ (Real.exp_pos _).ne']

theorem psink_at (M : ℝ) : Real.exp (σ - M) / totAt v S σ M = psink v S σ := by
  rw [totAt_eq, psink, sub_eq_add_neg, Real.exp_add, mul_div_mul_right _ _ (Real.exp_pos _).ne']

end Soft

/-- The rotation's angle at a position. -/
def angle (i : Fin 4096) (d : Fin 32) : ℝ := (i.val : ℝ) * Real.rpow 10000 (-((d.val : ℝ) * 2) / 64)

def cosT (i : Fin 4096) (d : Fin 32) : ℝ := Real.cos (angle i d)
def sinT (i : Fin 4096) (d : Fin 32) : ℝ := Real.sin (angle i d)

/-- A head's 64 lanes turned by their position's angles. -/
def rot (f : Fin 64 → ℝ) (i : Fin 4096) (d : Fin 64) : ℝ :=
  if h : d.val < 32 then f ⟨d.val, by omega⟩ * cosT i ⟨d.val, h⟩ - f ⟨d.val + 32, by omega⟩ * sinT i ⟨d.val, h⟩
  else f d * cosT i ⟨d.val - 32, by omega⟩ + f ⟨d.val - 32, by omega⟩ * sinT i ⟨d.val - 32, by omega⟩

/-- Turned back. -/
def rotT (f : Fin 64 → ℝ) (i : Fin 4096) (d : Fin 64) : ℝ :=
  if h : d.val < 32 then f ⟨d.val, by omega⟩ * cosT i ⟨d.val, h⟩ + f ⟨d.val + 32, by omega⟩ * sinT i ⟨d.val, h⟩
  else f d * cosT i ⟨d.val - 32, by omega⟩ - f ⟨d.val - 32, by omega⟩ * sinT i ⟨d.val - 32, by omega⟩

theorem rotT_add (f g : Fin 64 → ℝ) (i : Fin 4096) (d : Fin 64) : rotT (fun e => f e + g e) i d = rotT f i d + rotT g i d := by
  unfold rotT
  split <;> ring

/-- Which key a row of block `n` sees: 128 keys of the block before and 128 of its own, those at most 127 rows back. -/
def valid (n : ℕ) (a : Fin 128) (c : Fin 256) : Bool :=
  decide (n < 32 ∧ ((c.val < 128 ∧ a.val < c.val ∧ 0 < n) ∨ (128 ≤ c.val ∧ c.val - 128 ≤ a.val)))

/-- Row `a` of block `n` of 32 blocks. -/
def row (n : ℕ) (a : Fin 128) : Fin 4096 := ⟨min n 31 * 128 + a.val, by omega⟩

/-- A key block's rows: the block before, zero before the first, then its own. -/
def keys (k : Fin 4096 → Fin 64 → ℝ) (n : ℕ) (c : Fin 256) (d : Fin 64) : ℝ :=
  if h : c.val < 128 then (if n = 0 then 0 else k (row (n - 1) ⟨c.val, h⟩) d) else k (row n ⟨c.val - 128, by omega⟩) d

abbrev SX : Shape := ⟨3, ![1, 4096, 1024]⟩
abbrev SG : Shape := ⟨2, ![2, 1024]⟩
abbrev SW : Shape := ⟨3, ![1, 1024, 1536]⟩
abbrev SB : Shape := ⟨2, ![1, 1536]⟩
abbrev SS : Shape := ⟨2, ![1, 16]⟩

/-- The real arrays the arguments hold. -/
structure Arrays where
  dy : SX.Idx → ℝ
  x : SX.Idx → ℝ
  g : SG.Idx → ℝ
  w : SW.Idx → ℝ
  b : SB.Idx → ℝ
  sink : SS.Idx → ℝ

namespace Arrays

variable (A : Arrays)

/-- A row of the layer's input. -/
def xrow (i : Fin 4096) (k : Fin 1024) : ℝ := A.x (ix3 0 i k)

/-- The first product: the normed input times the weight, and its bias. -/
def qkv (i : Fin 4096) (e : Fin 1536) : ℝ := ∑ k, A.xrow i k * rstd (A.xrow i) * A.g (ix2 0 k) * A.w (ix3 0 k e) + A.b (ix2 0 e)

/-- The turned queries and keys, the values, and the gradient in the attention's result, by heads. -/
def q (u : Fin 16) (i : Fin 4096) (d : Fin 64) : ℝ := rot (fun e => A.qkv i ⟨u.val * 64 + e.val, by omega⟩) i d
def k (h : Fin 4) (i : Fin 4096) (d : Fin 64) : ℝ := rot (fun e => A.qkv i ⟨1024 + (h.val * 64 + e.val), by omega⟩) i d
def v (h : Fin 4) (i : Fin 4096) (d : Fin 64) : ℝ := A.qkv i ⟨1280 + (h.val * 64 + d.val), by omega⟩
def dout (u : Fin 16) (i : Fin 4096) (d : Fin 64) : ℝ := A.dy (ix3 0 i ⟨u.val * 64 + d.val, by omega⟩)
def sinks (u : Fin 16) : ℝ := A.sink (ix2 0 u)

/-- Query head `g` of key head `h`. -/
def head (h g : Fin 4) : Fin 16 := ⟨h.val * 4 + g.val, by omega⟩

/-- The scores of block `n`. -/
def score (n : ℕ) (h g : Fin 4) (a : Fin 128) (c : Fin 256) : ℝ :=
  (∑ d, keys (A.k h) n c d * A.q (head h g) (row n a) d) * (1 / 8)

/-- The gradient in the probabilities. -/
def dprob (n : ℕ) (h g : Fin 4) (a : Fin 128) (c : Fin 256) : ℝ := ∑ d, A.dout (head h g) (row n a) d * keys (A.v h) n c d

/-- The probabilities, the sink's, and the gradient along them. -/
def P (n : ℕ) (h g : Fin 4) (a : Fin 128) (c : Fin 256) : ℝ := prob (valid n a) (A.score n h g a) (A.sinks (head h g)) c
def Ps (n : ℕ) (h g : Fin 4) (a : Fin 128) : ℝ := psink (valid n a) (A.score n h g a) (A.sinks (head h g))
def D (n : ℕ) (h g : Fin 4) (a : Fin 128) : ℝ := delta (valid n a) (A.score n h g a) (A.sinks (head h g)) (A.dprob n h g a)

/-- The gradient in the scores. -/
def dS (n : ℕ) (h g : Fin 4) (a : Fin 128) (c : Fin 256) : ℝ :=
  dscore (valid n a) (A.score n h g a) (A.sinks (head h g)) (A.dprob n h g a) c

/-- The gradients in the turned queries, in the turned keys and in the values that block `n` gives. -/
def dqb (n : ℕ) (h g : Fin 4) (a : Fin 128) (d : Fin 64) : ℝ := (∑ c, A.dS n h g a c * keys (A.k h) n c d) * (1 / 8)
def dkb (n : ℕ) (h : Fin 4) (c : Fin 256) (d : Fin 64) : ℝ := (∑ g, ∑ a, A.dS n h g a c * A.q (head h g) (row n a) d) * (1 / 8)
def dvb (n : ℕ) (h : Fin 4) (c : Fin 256) (d : Fin 64) : ℝ := ∑ g, ∑ a, A.P n h g a c * A.dout (head h g) (row n a) d

/-- A block's own keys, and the same keys as the next block sees them. -/
def own (c : Fin 128) : Fin 256 := ⟨128 + c.val, by omega⟩
def old (c : Fin 128) : Fin 256 := ⟨c.val, by omega⟩

/-- The three parts of the gradient in the first product, row by row of block `n`. -/
def dq (n : ℕ) (u : Fin 16) (a : Fin 128) (d : Fin 64) : ℝ :=
  rotT (A.dqb n ⟨u.val / 4, by omega⟩ ⟨u.val % 4, by omega⟩ a) (row n a) d
def dk (n : ℕ) (h : Fin 4) (c : Fin 128) (d : Fin 64) : ℝ :=
  rotT (fun e => A.dkb n h (own c) e + A.dkb (n + 1) h (old c) e) (row n c) d
def dv (n : ℕ) (h : Fin 4) (c : Fin 128) (d : Fin 64) : ℝ := A.dvb n h (own c) d + A.dvb (n + 1) h (old c) d

/-- The same as one row of 1536 columns. -/
def dz (n : ℕ) (a : Fin 128) (j : Fin 1536) : ℝ :=
  if h : j.val < 1024 then A.dq n ⟨j.val / 64, by omega⟩ a ⟨j.val % 64, by omega⟩
  else if h' : j.val < 1280 then A.dk n ⟨(j.val - 1024) / 64, by omega⟩ a ⟨(j.val - 1024) % 64, by omega⟩
  else A.dv n ⟨(j.val - 1280) / 64, by omega⟩ a ⟨(j.val - 1280) % 64, by omega⟩

/-- The gradient in the bias. -/
def db (j : Fin 1536) : ℝ := ∑ n : Fin 32, ∑ a, A.dz n.val a j

/-- The gradient in a sink. -/
def dsink (u : Fin 16) : ℝ :=
  -∑ n : Fin 32, ∑ a, A.Ps n.val ⟨u.val / 4, by omega⟩ ⟨u.val % 4, by omega⟩ a * A.D n.val ⟨u.val / 4, by omega⟩ ⟨u.val % 4, by omega⟩ a

/-- Past the last block nothing is seen. -/
theorem P_last (h g : Fin 4) (a : Fin 128) (c : Fin 256) : A.P 32 h g a c = 0 := by
  simp [P, prob, wt, valid]

theorem dS_last (h g : Fin 4) (a : Fin 128) (c : Fin 256) : A.dS 32 h g a c = 0 := by
  simp [dS, dscore, prob, wt, valid]

theorem D_last (h g : Fin 4) (a : Fin 128) : A.D 32 h g a = 0 := by
  simp [D, delta, prob, wt, valid]

theorem dkb_last (h : Fin 4) (c : Fin 256) (d : Fin 64) : A.dkb 32 h c d = 0 := by
  simp [dkb, dS_last]

theorem dvb_last (h : Fin 4) (c : Fin 256) (d : Fin 64) : A.dvb 32 h c d = 0 := by
  simp [dvb, P_last]

end Arrays

end Cert.AttnBwd

end
-- ==== Proof.AttnBwd.Soft.lean ====
/- One key head of the attention: masks, sinks and the softmax with its gradient, entry by entry. -/
module

public import proofs.«01_k».proof.Proof.AttnBwd.Spec
public import proofs.«01_k».proof.Proof.Gen.AttnIdeal.Value
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

namespace Cert.AttnBwd.Kernel

open Idealize.ShloMosaic Idealize.ShloMosaic.TcCoe Cert.AttnIdeal Cert.AttnIdeal.Gen Cert.AttnIdeal.Facts Cert.Reals Cert.Norm

open Idealize.ShloMosaic.WordCmp

def rw4 (g : Fin 4) (a : Fin 128) : Fin 512 := ⟨g.val * 128 + a.val, by omega⟩

theorem ideal_exp_coe (x : ℝ) : Ideal.exp (x : EReal) = ((Real.exp x : ℝ) : EReal) := rfl

theorem exp_bot : Ideal.exp ⊥ = ((0 : ℝ) : EReal) := rfl

theorem named_mask : Named.named (F := Ideal) κ "mask" (φ := .f32) 0xF149F2CA#32 = (⊥ : EReal) :=
  IdealRules.named_const.ideal_named_scalar _ _ _ _ rfl

theorem word_bot : Ideal.ofBits .f32 0xFF800000#32 = (⊥ : EReal) := by
  simp [Ideal.ofBits, Ideal.ieee]

theorem word_one : Ideal.ofBits .f32 0x3F800000#32 = ((1 : ℝ) : EReal) := by
  simp [Ideal.ofBits, Ideal.ieee, -EReal.coe_mul]; norm_num

/-- A row of the stack is row `a` of its head. -/
theorem rem_word : ∀ r : Fin 512, (Scalar.select
    (IntOp.andi
      (IntOp.xori (IntOp.cmpi CmpIPredicate.slt (IntOp.remsi ArithUnit.vector (BitVec.ofNat 32 r.val)
        (Scalar.select (Scalar.cmpi CmpIPredicate.eq 128#32 0#32) 1#32 128#32)) 0#32)
        (Scalar.cmpi CmpIPredicate.slt (Scalar.select (Scalar.cmpi CmpIPredicate.eq 128#32 0#32) 1#32 128#32) 0#32))
      (IntOp.cmpi CmpIPredicate.ne (IntOp.remsi ArithUnit.vector (BitVec.ofNat 32 r.val)
        (Scalar.select (Scalar.cmpi CmpIPredicate.eq 128#32 0#32) 1#32 128#32)) 0#32))
    (IntOp.addi (IntOp.remsi ArithUnit.vector (BitVec.ofNat 32 r.val) (Scalar.select (Scalar.cmpi CmpIPredicate.eq 128#32 0#32) 1#32 128#32))
      (Scalar.select (Scalar.cmpi CmpIPredicate.eq 128#32 0#32) 1#32 128#32))
    (IntOp.remsi ArithUnit.vector (BitVec.ofNat 32 r.val) (Scalar.select (Scalar.cmpi CmpIPredicate.eq 128#32 0#32) 1#32 128#32)))
    = BitVec.ofNat 32 (r.val % 128) := by
  decide +kernel

theorem rem_rw4 (g : Fin 4) (a : Fin 128) : (rw4 g a).val % 128 = a.val := by simp only [rw4]; omega

/-- Which rows and columns a head's block of scores keeps. -/
theorem mask_at (i : grid0.Coords) (hi : (i 0).val < 33) (g : Fin 4) (a : Fin 128) (q : Fin 256) :
    k0_pay14 i (ix2 (rw4 g a) q) = BitVec.ofBool (valid (i 0).val a q) := by
  generalize hn : (i 0).val = n at hi
  unfold_payloads
  pointwise
  rw [hn, rem_word, rem_rw4]
  have h1 : IntOp.cmpi CmpIPredicate.slt (BitVec.ofNat 32 q.val) 128#32 = BitVec.ofBool (decide (q.val < 128)) := by
    exact cmpi_slt_ofNat (by norm_num; omega) (by norm_num)
  have h2 : IntOp.cmpi CmpIPredicate.sgt (BitVec.ofNat 32 q.val) (BitVec.ofNat 32 a.val) = BitVec.ofBool (decide (a.val < q.val)) := by
    exact cmpi_sgt_ofNat (by norm_num; omega) (by norm_num; omega)
  have h3 : Scalar.cmpi CmpIPredicate.sgt (BitVec.ofNat 32 n) 0#32 = BitVec.ofBool (decide (0 < n)) := by
    interval_cases n <;> rfl
  have h4 : Scalar.cmpi CmpIPredicate.slt (BitVec.ofNat 32 n) 32#32 = BitVec.ofBool (decide (n < 32)) := by
    interval_cases n <;> rfl
  have h5 : IntOp.cmpi CmpIPredicate.sge (BitVec.ofNat 32 q.val) 128#32 = BitVec.ofBool (decide (128 ≤ q.val)) := by
    exact cmpi_sge_ofNat (by norm_num; omega) (by norm_num)
  rw [h1, h2, h3, h4, h5]
  by_cases hq : 128 ≤ q.val
  · have h6 : IntOp.cmpi CmpIPredicate.sle (IntOp.subi (BitVec.ofNat 32 q.val) 128#32) (BitVec.ofNat 32 a.val) = BitVec.ofBool (decide (q.val - 128 ≤ a.val)) := by
      have e : IntOp.subi (BitVec.ofNat 32 q.val) 128#32 = BitVec.ofNat 32 (q.val - 128) := by
        have all : ∀ q : Fin 256, 128 ≤ q.val → IntOp.subi (BitVec.ofNat 32 q.val) 128#32 = BitVec.ofNat 32 (q.val - 128) := by decide +kernel
        exact all q hq
      rw [e, cmpi_sle_ofNat (by norm_num; omega) (by norm_num; omega)]
    rw [h6]
    simp only [valid]
    by_cases p1 : a.val < q.val <;> by_cases p2 : 0 < n <;> by_cases p3 : n < 32 <;> by_cases p4 : q.val - 128 ≤ a.val <;> simp [p1, p2, p3, p4, hq, Nat.not_lt.mpr hq, IntOp.andi, IntOp.ori]
  · simp only [valid]
    by_cases p1 : a.val < q.val <;> by_cases p2 : 0 < n <;> by_cases p3 : n < 32 <;> simp [p1, p2, p3, hq, Nat.lt_of_not_le hq, IntOp.andi, IntOp.ori]

theorem lo_at (l : Fin 128) : k0_pay15 (ix2 0 l) = BitVec.ofBool (decide (l.val < 64)) := by
  unfold_payloads
  pointwise
  revert l
  decide +kernel

theorem hi_at (l : Fin 128) : k0_pay16 (ix2 0 l) = BitVec.ofBool (decide (64 ≤ l.val)) := by
  unfold_payloads
  pointwise
  revert l
  decide +kernel

theorem first_at (a l : Fin 128) : k0_pay17 (ix2 a l) = BitVec.ofBool (decide (l.val % 64 < 32)) := by
  unfold_payloads
  pointwise
  revert l
  decide +kernel

theorem top_at (a : Fin 8) (l : Fin 128) : k0_pay18 (ix2 a l) = BitVec.ofBool (decide (a.val = 0)) := by
  unfold_payloads
  pointwise
  revert a
  decide +kernel

/-- The sinks' column of a key head. -/
def sinkV (s : Fin 4 → Elt Ideal .f32) : FVec Ideal S512x1 .f32 :=
  k0_pay64 (F := Ideal) (iota .tc S512x1 32 [0] iota_S512x1_d0_w32) (k0_pay62 (s 3) (s 2)) k0_pay63 (s 1) (s 0)

theorem sink_at {s : Fin 4 → Elt Ideal .f32} {σ : Fin 4 → ℝ} (hs : ∀ g, s g = ((σ g : ℝ) : EReal)) (g : Fin 4) (a : Fin 128) :
    sinkV s (ix2 (rw4 g a) 0) = ((σ g : ℝ) : EReal) := by
  unfold sinkV
  unfold_payloads
  pointwise
  rw [hs, hs, hs, hs, cmpi_slt_ofNat (by norm_num; omega) (by norm_num), cmpi_slt_ofNat (by norm_num; omega) (by norm_num),
    cmpi_slt_ofNat (by norm_num; omega) (by norm_num), select_ofBool, select_ofBool, select_ofBool]
  simp only [decide_eq_true_eq]
  have hr : (rw4 g a).val = g.val * 128 + a.val := rfl
  generalize (rw4 g a).val = r at hr ⊢
  have ha := a.isLt
  fin_cases g <;> simp only [Fin.zero_eta, Fin.mk_one, Fin.val_zero, Fin.val_one, Fin.reduceFinMk, Fin.val_two] at hr ⊢ <;> (try dsimp at hr) <;> split_ifs <;> first | rfl | omega

section Soft

variable (w : IVec S512x256 1) (sc dp : FVec Ideal S512x256 .f32) (s : Fin 4 → Elt Ideal .f32)

/-- A key head's scores where they are kept, the largest of a row, the weights, the sink's, and one over the total. -/
def keptV : FVec Ideal S512x256 .f32 := k0_pay65 (F := Ideal) w sc
def maxV : FVec Ideal S512x1 .f32 :=
  k0_pay66 (F := Ideal) w sc (iota .tc S512x1 32 [0] iota_S512x1_d0_w32) (k0_pay62 (s 3) (s 2)) k0_pay63 (s 1) (s 0)
def wtV : FVec Ideal S512x256 .f32 :=
  k0_pay67 (F := Ideal) w sc (iota .tc S512x1 32 [0] iota_S512x1_d0_w32) (k0_pay62 (s 3) (s 2)) k0_pay63 (s 1) (s 0)
def wsV : FVec Ideal S512x1 .f32 :=
  k0_pay68 (F := Ideal) w sc (iota .tc S512x1 32 [0] iota_S512x1_d0_w32) (k0_pay62 (s 3) (s 2)) k0_pay63 (s 1) (s 0)
def invV : FVec Ideal S512x1 .f32 :=
  k0_pay69 (F := Ideal) w sc (iota .tc S512x1 32 [0] iota_S512x1_d0_w32) (k0_pay62 (s 3) (s 2)) k0_pay63 (s 1) (s 0)

/-- The probabilities, the gradient along them, the gradient in the scores, and the sink's part. -/
def probV : FVec Ideal S512x256 .f32 :=
  k0_pay70 (F := Ideal) w sc (iota .tc S512x1 32 [0] iota_S512x1_d0_w32) (k0_pay62 (s 3) (s 2)) k0_pay63 (s 1) (s 0)
def deltaV : FVec Ideal S512x1 .f32 :=
  k0_pay71 (F := Ideal) w sc dp (iota .tc S512x1 32 [0] iota_S512x1_d0_w32) (k0_pay62 (s 3) (s 2)) k0_pay63 (s 1) (s 0)
def dsV : FVec Ideal S512x256 .bf16 :=
  k0_pay72 (F := Ideal) w sc dp (iota .tc S512x1 32 [0] iota_S512x1_d0_w32) (k0_pay62 (s 3) (s 2)) k0_pay63 (s 1) (s 0)
def prV : FVec Ideal S512x256 .bf16 :=
  k0_pay73 (F := Ideal) w sc (iota .tc S512x1 32 [0] iota_S512x1_d0_w32) (k0_pay62 (s 3) (s 2)) k0_pay63 (s 1) (s 0)
def leakV : FVec Ideal S512x1 .f32 :=
  k0_pay74 (F := Ideal) w sc dp (iota .tc S512x1 32 [0] iota_S512x1_d0_w32) (k0_pay62 (s 3) (s 2)) k0_pay63 (s 1) (s 0)

variable {w sc dp s} {v : Fin 128 → Fin 256 → Bool} {S dP : Fin 4 → Fin 128 → Fin 256 → ℝ} {σ : Fin 4 → ℝ}

theorem kept_at (hw : ∀ g a q, w (ix2 (rw4 g a) q) = BitVec.ofBool (v a q)) (hsc : ∀ g a q, sc (ix2 (rw4 g a) q) = ((S g a q : ℝ) : EReal))
    (g : Fin 4) (a : Fin 128) (q : Fin 256) : keptV w sc (ix2 (rw4 g a) q) = if v a q then ((S g a q : ℝ) : EReal) else ⊥ := by
  unfold keptV
  unfold_payloads
  pointwise
  rw [hw, hsc, named_mask, select_ofBool]

/-- The largest of reals and −∞, and of one more real, is a real. -/
theorem max_real {ι : Type} (T : Finset ι) (f : ι → EReal) (hf : ∀ i, f i ≠ ⊤) (b : ℝ) : ∃ M : ℝ, max (T.fold max ⊥ f) (b : EReal) = (M : EReal) := by
  have h1 : T.fold max ⊥ f ≠ ⊤ := by
    classical
    induction T using Finset.induction_on with
    | empty => simp
    | insert i T hi ih =>
      rw [Finset.fold_insert hi]
      exact (max_lt (lt_top_iff_ne_top.mpr (hf i)) (lt_top_iff_ne_top.mpr ih)).ne
  have h2 : max (T.fold max ⊥ f) (b : EReal) ≠ ⊤ := (max_lt (lt_top_iff_ne_top.mpr h1) (EReal.coe_lt_top b)).ne
  have h3 : max (T.fold max ⊥ f) (b : EReal) ≠ ⊥ := (lt_of_lt_of_le (EReal.bot_lt_coe b) (le_max_right _ _)).ne'
  exact ⟨_, (EReal.coe_toReal h2 h3).symm⟩

theorem max_at (hw : ∀ g a q, w (ix2 (rw4 g a) q) = BitVec.ofBool (v a q)) (hsc : ∀ g a q, sc (ix2 (rw4 g a) q) = ((S g a q : ℝ) : EReal))
    (hs : ∀ g, s g = ((σ g : ℝ) : EReal)) (g : Fin 4) (a : Fin 128) : ∃ M : ℝ, maxV w sc s (ix2 (rw4 g a) 0) = (M : EReal) := by
  have e : maxV w sc s (ix2 (rw4 g a) 0) = max (Finset.fold max (⊥ : EReal) (fun x => keptV w sc (ix2 (rw4 g a) x)) Finset.univ) ((σ g : ℝ) : EReal) := by
    rw [← sink_at hs g a, ← word_bot]
    unfold maxV k0_pay66
    dsimp only
    pointwise
    rfl
  rw [e]
  refine max_real _ _ (fun q => ?_) _
  rw [kept_at hw hsc]
  split
  · exact EReal.coe_ne_top _
  · exact bot_ne_top

theorem wt_at (hw : ∀ g a q, w (ix2 (rw4 g a) q) = BitVec.ofBool (v a q)) (hsc : ∀ g a q, sc (ix2 (rw4 g a) q) = ((S g a q : ℝ) : EReal))
    {g : Fin 4} {a : Fin 128} {M : ℝ} (hM : maxV w sc s (ix2 (rw4 g a) 0) = (M : EReal)) (q : Fin 256) :
    wtV w sc s (ix2 (rw4 g a) q) = ((wtAt (v a) (S g a) M q : ℝ) : EReal) := by
  have e : wtV w sc s (ix2 (rw4 g a) q) = Ideal.exp (keptV w sc (ix2 (rw4 g a) q) - maxV w sc s (ix2 (rw4 g a) 0)) := by
    unfold wtV k0_pay67
    dsimp only
    pointwise
    rfl
  rw [e, hM, kept_at hw hsc, wtAt]
  split
  · rfl
  · rfl

theorem ws_at (hs : ∀ g, s g = ((σ g : ℝ) : EReal)) {g : Fin 4} {a : Fin 128} {M : ℝ} (hM : maxV w sc s (ix2 (rw4 g a) 0) = (M : EReal)) :
    wsV w sc s (ix2 (rw4 g a) 0) = ((Real.exp (σ g - M) : ℝ) : EReal) := by
  have e : wsV w sc s (ix2 (rw4 g a) 0) = Ideal.exp (sinkV s (ix2 (rw4 g a) 0) - maxV w sc s (ix2 (rw4 g a) 0)) := by
    unfold wsV k0_pay68
    dsimp only
    pointwise
    rfl
  rw [e, hM, sink_at hs]
  rfl

theorem inv_at (hw : ∀ g a q, w (ix2 (rw4 g a) q) = BitVec.ofBool (v a q)) (hsc : ∀ g a q, sc (ix2 (rw4 g a) q) = ((S g a q : ℝ) : EReal))
    (hs : ∀ g, s g = ((σ g : ℝ) : EReal)) {g : Fin 4} {a : Fin 128} {M : ℝ} (hM : maxV w sc s (ix2 (rw4 g a) 0) = (M : EReal)) :
    invV w sc s (ix2 (rw4 g a) 0) = ((1 / totAt (v a) (S g a) (σ g) M : ℝ) : EReal) := by
  have e : invV w sc s (ix2 (rw4 g a) 0) = Ideal.div (Ideal.ofBits .f32 0x3F800000#32) (∑ q, wtV w sc s (ix2 (rw4 g a) q) + wsV w sc s (ix2 (rw4 g a) 0)) := by
    unfold invV k0_pay69
    dsimp only
    pointwise
    rfl
  rw [e, ws_at hs hM, word_one]
  simp only [wt_at hw hsc hM, coe_sum, add_coe]
  exact div_coe (totAt_pos _ _ _ _).ne' _

theorem prob_entry (hw : ∀ g a q, w (ix2 (rw4 g a) q) = BitVec.ofBool (v a q)) (hsc : ∀ g a q, sc (ix2 (rw4 g a) q) = ((S g a q : ℝ) : EReal))
    (hs : ∀ g, s g = ((σ g : ℝ) : EReal)) (g : Fin 4) (a : Fin 128) (q : Fin 256) :
    probV w sc s (ix2 (rw4 g a) q) = ((prob (v a) (S g a) (σ g) q : ℝ) : EReal) := by
  obtain ⟨M, hM⟩ := max_at hw hsc hs g a
  have e : probV w sc s (ix2 (rw4 g a) q) = wtV w sc s (ix2 (rw4 g a) q) * invV w sc s (ix2 (rw4 g a) 0) := by
    unfold probV k0_pay70
    dsimp only
    pointwise
    rfl
  rw [e, wt_at hw hsc hM, inv_at hw hsc hs hM, mul_coe, mul_one_div, prob_at]

theorem pr_entry (hw : ∀ g a q, w (ix2 (rw4 g a) q) = BitVec.ofBool (v a q)) (hsc : ∀ g a q, sc (ix2 (rw4 g a) q) = ((S g a q : ℝ) : EReal))
    (hs : ∀ g, s g = ((σ g : ℝ) : EReal)) (g : Fin 4) (a : Fin 128) (q : Fin 256) :
    prV w sc s (ix2 (rw4 g a) q) = ((prob (v a) (S g a) (σ g) q : ℝ) : EReal) :=
  prob_entry hw hsc hs g a q

theorem delta_entry (hw : ∀ g a q, w (ix2 (rw4 g a) q) = BitVec.ofBool (v a q)) (hsc : ∀ g a q, sc (ix2 (rw4 g a) q) = ((S g a q : ℝ) : EReal))
    (hdp : ∀ g a q, dp (ix2 (rw4 g a) q) = ((dP g a q : ℝ) : EReal)) (hs : ∀ g, s g = ((σ g : ℝ) : EReal)) (g : Fin 4) (a : Fin 128) :
    deltaV w sc dp s (ix2 (rw4 g a) 0) = ((delta (v a) (S g a) (σ g) (dP g a) : ℝ) : EReal) := by
  have e : deltaV w sc dp s (ix2 (rw4 g a) 0) = ∑ q, probV w sc s (ix2 (rw4 g a) q) * dp (ix2 (rw4 g a) q) := by
    unfold deltaV k0_pay71
    dsimp only
    pointwise
    rfl
  rw [e]
  simp only [prob_entry hw hsc hs, hdp, mul_coe, coe_sum]
  rfl

theorem ds_entry (hw : ∀ g a q, w (ix2 (rw4 g a) q) = BitVec.ofBool (v a q)) (hsc : ∀ g a q, sc (ix2 (rw4 g a) q) = ((S g a q : ℝ) : EReal))
    (hdp : ∀ g a q, dp (ix2 (rw4 g a) q) = ((dP g a q : ℝ) : EReal)) (hs : ∀ g, s g = ((σ g : ℝ) : EReal)) (g : Fin 4) (a : Fin 128) (q : Fin 256) :
    dsV w sc dp s (ix2 (rw4 g a) q) = ((dscore (v a) (S g a) (σ g) (dP g a) q : ℝ) : EReal) := by
  have e : dsV w sc dp s (ix2 (rw4 g a) q) = probV w sc s (ix2 (rw4 g a) q) * (dp (ix2 (rw4 g a) q) - deltaV w sc dp s (ix2 (rw4 g a) 0)) := by
    unfold dsV k0_pay72
    dsimp only
    pointwise
    rfl
  rw [e, prob_entry hw hsc hs, hdp, delta_entry hw hsc hdp hs, sub_coe, mul_coe]
  rfl

theorem leak_entry (hw : ∀ g a q, w (ix2 (rw4 g a) q) = BitVec.ofBool (v a q)) (hsc : ∀ g a q, sc (ix2 (rw4 g a) q) = ((S g a q : ℝ) : EReal))
    (hdp : ∀ g a q, dp (ix2 (rw4 g a) q) = ((dP g a q : ℝ) : EReal)) (hs : ∀ g, s g = ((σ g : ℝ) : EReal)) (g : Fin 4) (a : Fin 128) :
    leakV w sc dp s (ix2 (rw4 g a) 0) = ((psink (v a) (S g a) (σ g) * delta (v a) (S g a) (σ g) (dP g a) : ℝ) : EReal) := by
  obtain ⟨M, hM⟩ := max_at hw hsc hs g a
  have e : leakV w sc dp s (ix2 (rw4 g a) 0)
      = wsV w sc s (ix2 (rw4 g a) 0) * invV w sc s (ix2 (rw4 g a) 0) * deltaV w sc dp s (ix2 (rw4 g a) 0) := by
    unfold leakV k0_pay74
    dsimp only
    pointwise
    rfl
  rw [e, ws_at hs hM, inv_at hw hsc hs hM, mul_coe, mul_one_div, psink_at, delta_entry hw hsc hdp hs, mul_coe]

end Soft

end Cert.AttnBwd.Kernel

end
-- ==== Proof.AttnBwd.Head.lean ====
/- The products of one key head, the turns and the column sums, entry by entry. -/
module

public import proofs.«01_k».proof.Proof.AttnBwd.Soft

@[expose] public section

set_option maxRecDepth 16384

noncomputable section

namespace Cert.AttnBwd.Kernel

open Idealize.ShloMosaic Idealize.ShloMosaic.TcCoe Cert.AttnIdeal Cert.AttnIdeal.Gen Cert.AttnIdeal.Facts Cert.Reals Cert.Norm Idealize.ShloMosaic.WordCmp

/-- The lane of a pair of heads: which of the two, and its place in the head. -/
def half (l : Fin 128) : Fin 2 := ⟨l.val / 64, by omega⟩
def place (l : Fin 128) : Fin 64 := ⟨l.val % 64, by omega⟩

/-- The keys a block sees, and the stack of a key head's four query heads. -/
def catV (p c : FVec Ideal S128x128 .bf16) : FVec Ideal S256x128 .bf16 := k0_pay20 (F := Ideal) p c
def stackV (a b : FVec Ideal S128x128 .bf16) : FVec Ideal S512x128 .bf16 := k0_pay34 (F := Ideal) k0_pay15 k0_pay16 a b
/-- A key head's products. -/
def scoreV (q : FVec Ideal S512x128 .bf16) (k : FVec Ideal S256x128 .bf16) : FVec Ideal S512x256 .f32 := k0_pay54 (F := Ideal) k q
def dqV (ds : FVec Ideal S512x256 .bf16) (k : FVec Ideal S256x128 .bf16) : FVec Ideal S512x128 .f32 := k0_pay126 (F := Ideal) k ds
def dkV (ds : FVec Ideal S512x256 .bf16) (q : FVec Ideal S512x128 .bf16) : FVec Ideal S256x128 .f32 := k0_pay130 (F := Ideal) q ds
/-- Two heads side by side out of the stack. -/
def pick0 (x : FVec Ideal S512x128 .f32) : FVec Ideal S128x128 .f32 := k0_pay146 (F := Ideal) k0_pay15 x
def pick1 (x : FVec Ideal S512x128 .f32) : FVec Ideal S128x128 .f32 := k0_pay143 (F := Ideal) k0_pay15 x
/-- The parts that are turned back, kept and added up. -/
def keepQ (v c s : FVec Ideal S128x128 .f32) : FVec Ideal S128x128 .bf16 := k0_pay145 (F := Ideal) k0_pay17 v c s
def keepK (x : FVec Ideal S256x128 .f32) (c s : FVec Ideal S128x128 .f32) : FVec Ideal S128x128 .f32 := k0_pay173 (F := Ideal) k0_pay17 x c s
def doneK (x : FVec Ideal S256x128 .f32) (k c s : FVec Ideal S128x128 .f32) : FVec Ideal S128x128 .f32 := k0_pay176 (F := Ideal) k0_pay17 x k c s
def keepW (x : FVec Ideal S256x128 .f32) : FVec Ideal S128x128 .f32 := k0_pay175 (F := Ideal) x
def doneW (x : FVec Ideal S256x128 .f32) (k : FVec Ideal S128x128 .f32) : FVec Ideal S128x128 .f32 := k0_pay174 (F := Ideal) x k
def pairV (x y : FVec Ideal S128x128 .f32) : FVec Ideal S128x128 .f32 := k0_pay195 (F := Ideal) k0_pay15 x y
/-- A column sum, added to what stands. -/
def sumV (x : FVec Ideal S128x128 .f32) (b : FVec Ideal S1x128 .f32) : FVec Ideal S1x128 .f32 := k0_pay200 (F := Ideal) x b

/-- The two query heads of a pair, and which of its pair a head is. -/
def gOf (p e : Fin 2) : Fin 4 := ⟨p.val * 2 + e.val, by omega⟩
def par (g : Fin 4) : Fin 2 := ⟨g.val % 2, by omega⟩

theorem cat_at {p c : FVec Ideal S128x128 .bf16} {K : Fin 256 → Fin 64 → ℝ} (hp : ∀ a l, p (ix2 a l) = ((K (Arrays.old a) (place l) : ℝ) : EReal))
    (hc : ∀ a l, c (ix2 a l) = ((K (Arrays.own a) (place l) : ℝ) : EReal)) (q : Fin 256) (l : Fin 128) :
    catV p c (ix2 q l) = ((K q (place l) : ℝ) : EReal) := by
  unfold catV
  unfold_payloads
  pointwise
  split
  · rw [hp]; rfl
  · rw [hc]
    have e : Arrays.own ⟨q.val - 128, by omega⟩ = q := Fin.ext (by simp only [Arrays.own]; omega)
    rw [e]

theorem lo_word (l : Fin 128) : IntOp.cmpi CmpIPredicate.slt (BitVec.ofNat 32 l.val) 64#32 = BitVec.ofBool (decide (l.val < 64)) :=
  cmpi_slt_ofNat (by norm_num; omega) (by norm_num)

theorem hi_word (l : Fin 128) : IntOp.cmpi CmpIPredicate.sge (BitVec.ofNat 32 l.val) 64#32 = BitVec.ofBool (decide (64 ≤ l.val)) :=
  cmpi_sge_ofNat (by norm_num; omega) (by norm_num)

theorem stack_at {x y : FVec Ideal S128x128 .bf16} {Q : Fin 4 → Fin 128 → Fin 64 → ℝ} (hx : ∀ a l, x (ix2 a l) = ((Q (gOf 0 (half l)) a (place l) : ℝ) : EReal))
    (hy : ∀ a l, y (ix2 a l) = ((Q (gOf 1 (half l)) a (place l) : ℝ) : EReal)) (g : Fin 4) (a : Fin 128) (l : Fin 128) :
    stackV x y (ix2 (rw4 g a) l) = ((if half l = par g then Q g a (place l) else 0 : ℝ) : EReal) := by
  unfold stackV
  unfold_payloads
  pointwise
  simp only [lo_word, hi_word, select_ofBool, decide_eq_true_eq]
  have ha := a.isLt
  have hg := g.isLt
  have hr : (rw4 g a).val = g.val * 128 + a.val := rfl
  have row0 : ∀ h : (rw4 g a).val < 128, (⟨(rw4 g a).val, h⟩ : Fin 128) = a := fun h => Fin.ext (show (rw4 g a).val = a.val by omega)
  have row1 : ∀ h : (rw4 g a).val - 128 < 128, ¬ (rw4 g a).val < 128 → (⟨(rw4 g a).val - 128, h⟩ : Fin 128) = a := fun h h' => Fin.ext (show (rw4 g a).val - 128 = a.val by omega)
  have row2 : ∀ h : (rw4 g a).val - 128 - 128 < 128, ¬ (rw4 g a).val - 128 < 128 → (⟨(rw4 g a).val - 128 - 128, h⟩ : Fin 128) = a :=
    fun h h' => Fin.ext (show (rw4 g a).val - 128 - 128 = a.val by omega)
  have row3 : ∀ h : (rw4 g a).val - 128 - 128 - 128 < 128, ¬ (rw4 g a).val - 128 - 128 < 128 → (⟨(rw4 g a).val - 128 - 128 - 128, h⟩ : Fin 128) = a :=
    fun h h' => Fin.ext (show (rw4 g a).val - 128 - 128 - 128 = a.val by omega)
  have pick : ∀ (z : FVec Ideal S128x128 .bf16) (r : Fin 128) (p : Fin 2) (P : Prop) [Decidable P], r = a → (∀ a l, z (ix2 a l) = ((Q (gOf p (half l)) a (place l) : ℝ) : EReal)) →
      (P ↔ half l = par g) → (half l = par g → gOf p (half l) = g) →
      (if P then z (ix2 r l) else 0) = ((if half l = par g then Q g a (place l) else 0 : ℝ) : EReal) := by
    intro z r p P _ hr hz hP hG
    subst hr
    by_cases h : half l = par g
    · rw [if_pos (hP.mpr h), if_pos h, hz, hG h]
    · rw [if_neg (mt hP.mp h), if_neg h]
      rfl
  have h2 : half l = par g ↔ l.val / 64 = g.val % 2 := ⟨fun h => congrArg Fin.val h, fun h => Fin.ext h⟩
  split
  · exact pick x _ 0 _ (row0 (by omega)) hx (by rw [h2]; omega) (fun h => Fin.ext (by rw [h2] at h; simp only [gOf, half]; omega))
  · split
    · exact pick x _ 0 _ (row1 _ (by omega)) hx (by rw [h2]; omega) (fun h => Fin.ext (by rw [h2] at h; simp only [gOf, half]; omega))
    · split
      · exact pick y _ 1 _ (row2 _ (by omega)) hy (by rw [h2]; omega) (fun h => Fin.ext (by rw [h2] at h; simp only [gOf, half]; omega))
      · exact pick y _ 1 _ (row3 (by omega) (by omega)) hy (by rw [h2]; omega) (fun h => Fin.ext (by rw [h2] at h; simp only [gOf, half]; omega))

/-- A sum over a pair's lanes that sees one head of the pair. -/
theorem sum_half (e : Fin 2) (f k : Fin 64 → ℝ) : ∑ l : Fin 128, (if half l = e then f (place l) else 0) * k (place l) = ∑ d, f d * k d := by
  refine (Fin.sum_mul_add_congr (S := 2) (n := 64) (F := fun s d => (if s = e then f d else 0) * k d) (fun s d hl => ?_)).symm.trans ?_
  rotate_left
  · rw [Finset.sum_eq_single e]
    · simp
    · intro b _ hb
      simp [hb]
    · intro h
      exact absurd (Finset.mem_univ e) h
  · have e1 : half ⟨s.val * 64 + d.val, hl⟩ = s := Fin.ext (by simp only [half]; omega)
    have e2 : place ⟨s.val * 64 + d.val, hl⟩ = d := Fin.ext (by simp only [place]; omega)
    show _ = (if half ⟨s.val * 64 + d.val, hl⟩ = e then _ else _) * _
    rw [e1, e2]

theorem score_at {q : FVec Ideal S512x128 .bf16} {k : FVec Ideal S256x128 .bf16} {Q : Fin 4 → Fin 128 → Fin 64 → ℝ} {K : Fin 256 → Fin 64 → ℝ}
    (hq : ∀ g a l, q (ix2 (rw4 g a) l) = ((if half l = par g then Q g a (place l) else 0 : ℝ) : EReal))
    (hk : ∀ j l, k (ix2 j l) = ((K j (place l) : ℝ) : EReal)) (g : Fin 4) (a : Fin 128) (j : Fin 256) :
    scoreV q k (ix2 (rw4 g a) j) = ((∑ d, Q g a d * K j d : ℝ) : EReal) := by
  unfold scoreV
  unfold_payloads
  pointwise [dot_S512x128_S256x128_S512x256_1_1_0_0_n_n]
  simp only [hq, hk, mul_coe, coe_sum, sum_half]

/-- Two heads' products, side by side. -/
theorem pick_at {ds : FVec Ideal S512x256 .bf16} {k : FVec Ideal S256x128 .bf16} {D : Fin 4 → Fin 128 → Fin 256 → ℝ} {K : Fin 256 → Fin 64 → ℝ}
    (hd : ∀ g a j, ds (ix2 (rw4 g a) j) = ((D g a j : ℝ) : EReal)) (hk : ∀ j l, k (ix2 j l) = ((K j (place l) : ℝ) : EReal)) (a : Fin 128) (l : Fin 128) :
    pick0 (dqV ds k) (ix2 a l) = ((∑ j, D (gOf 0 (half l)) a j * K j (place l) : ℝ) : EReal)
      ∧ pick1 (dqV ds k) (ix2 a l) = ((∑ j, D (gOf 1 (half l)) a j * K j (place l) : ℝ) : EReal) := by
  have r0 : ∀ h : a.val < 512, (⟨a.val, h⟩ : Fin 512) = rw4 0 a := fun h => Fin.ext (by simp [rw4])
  have r1 : ∀ h : 128 + a.val < 512, (⟨128 + a.val, h⟩ : Fin 512) = rw4 1 a := fun h => Fin.ext (by simp [rw4])
  have r2 : ∀ h : 256 + a.val < 512, (⟨256 + a.val, h⟩ : Fin 512) = rw4 2 a := fun h => Fin.ext (by simp [rw4])
  have r3 : ∀ h : 384 + a.val < 512, (⟨384 + a.val, h⟩ : Fin 512) = rw4 3 a := fun h => Fin.ext (by simp [rw4])
  constructor
  · unfold pick0 dqV
    unfold_payloads
    pointwise [dot_S512x256_S256x128_S512x128_1_0_0_1_n_n]
    simp only [r0, r1, hd, hk, mul_coe, coe_sum, lo_word, select_ofBool, decide_eq_true_eq]
    have hl := l.isLt
    split
    · rw [show gOf 0 (half l) = 0 from Fin.ext (by simp only [gOf, half, Fin.val_zero]; omega)]
    · rw [show gOf 0 (half l) = 1 from Fin.ext (by simp only [gOf, half, Fin.val_zero, Fin.val_one]; omega)]
  · unfold pick1 dqV
    unfold_payloads
    pointwise [dot_S512x256_S256x128_S512x128_1_0_0_1_n_n]
    simp only [r2, r3, hd, hk, mul_coe, coe_sum, lo_word, select_ofBool, decide_eq_true_eq]
    have hl := l.isLt
    split
    · rw [show gOf 1 (half l) = 2 from Fin.ext (by simp only [gOf, half, Fin.val_one, Fin.val_two]; omega)]
    · rw [show gOf 1 (half l) = 3 from Fin.ext (by show 1 * 2 + l.val / 64 = 3; omega)]

/-- What the two heads of a pair that stand at one half give a key, over all rows. -/
def halfSum (D : Fin 4 → Fin 128 → Fin 256 → ℝ) (Q : Fin 4 → Fin 128 → Fin 64 → ℝ) (j : Fin 256) (e : Fin 2) (d : Fin 64) : ℝ :=
  ∑ g, ∑ a, D g a j * (if e = par g then Q g a d else 0)

theorem halfSum_add (D : Fin 4 → Fin 128 → Fin 256 → ℝ) (Q : Fin 4 → Fin 128 → Fin 64 → ℝ) (j : Fin 256) (d : Fin 64) :
    halfSum D Q j 0 d + halfSum D Q j 1 d = ∑ g, ∑ a, D g a j * Q g a d := by
  unfold halfSum
  rw [← Finset.sum_add_distrib]
  refine Finset.sum_congr rfl fun g _ => ?_
  rw [← Finset.sum_add_distrib]
  refine Finset.sum_congr rfl fun a _ => ?_
  rw [← mul_add]
  fin_cases g <;> simp [par]

theorem dk_at {ds : FVec Ideal S512x256 .bf16} {q : FVec Ideal S512x128 .bf16} {D : Fin 4 → Fin 128 → Fin 256 → ℝ} {Q : Fin 4 → Fin 128 → Fin 64 → ℝ}
    (hd : ∀ g a j, ds (ix2 (rw4 g a) j) = ((D g a j : ℝ) : EReal))
    (hq : ∀ g a l, q (ix2 (rw4 g a) l) = ((if half l = par g then Q g a (place l) else 0 : ℝ) : EReal)) (j : Fin 256) (l : Fin 128) :
    dkV ds q (ix2 j l) = ((halfSum D Q j (half l) (place l) : ℝ) : EReal) := by
  unfold dkV
  unfold_payloads
  pointwise [dot_S512x256_S512x128_S256x128_0_0_1_1_n_n]
  refine (Fin.sum_mul_add_congr (S := 4) (n := 128) (F := fun g a => ((D g a j * (if half l = par g then Q g a (place l) else 0) : ℝ) : EReal)) (fun g a hl => ?_)).symm.trans ?_
  rotate_left
  · simp only [coe_sum]
    rfl
  · rw [← mul_coe, ← hd, ← hq]
    rfl

/-- A turn of a row's lanes by two tables. -/
def turnX (v c s : Fin 128 → EReal) (l : Fin 128) : EReal :=
  v l * c l + if l.val % 64 < 32 then v ⟨(l.val + 128 - 96) % 128, Nat.mod_lt _ (by norm_num)⟩ * s ⟨(l.val + 128 - 96) % 128, Nat.mod_lt _ (by norm_num)⟩
    else v ⟨(l.val + 128 - 32) % 128, Nat.mod_lt _ (by norm_num)⟩ * s ⟨(l.val + 128 - 32) % 128, Nat.mod_lt _ (by norm_num)⟩

/-- The tables' entry at a row and a lane: the cosine, and the sine with its sign. -/
def cosL (i : Fin 4096) (l : Fin 128) : ℝ := cosT i ⟨l.val % 64 % 32, by omega⟩
def sinL (i : Fin 4096) (l : Fin 128) : ℝ := if l.val % 64 < 32 then -sinT i ⟨l.val % 64 % 32, by omega⟩ else sinT i ⟨l.val % 64 % 32, by omega⟩

theorem turn_at {v c s : Fin 128 → EReal} {F : Fin 2 → Fin 64 → ℝ} {i : Fin 4096} (hv : ∀ l, v l = ((F (half l) (place l) : ℝ) : EReal))
    (hc : ∀ l, c l = ((cosL i l : ℝ) : EReal)) (hs : ∀ l, s l = ((sinL i l : ℝ) : EReal)) (l : Fin 128) :
    turnX v c s l = ((rotT (F (half l)) i (place l) : ℝ) : EReal) := by
  unfold turnX
  simp only [hv, hc, hs, mul_coe]
  have hl := l.isLt
  unfold rotT
  split
  · rename_i h
    rw [dif_pos (show (place l).val < 32 from h), add_coe]
    have e1 : half ⟨(l.val + 128 - 96) % 128, Nat.mod_lt _ (by norm_num)⟩ = half l := Fin.ext (by simp only [half]; omega)
    have e2 : place ⟨(l.val + 128 - 96) % 128, Nat.mod_lt _ (by norm_num)⟩ = ⟨(place l).val + 32, by simp only [place]; omega⟩ := Fin.ext (by simp only [place]; omega)
    have e3 : cosL i l = cosT i ⟨(place l).val, h⟩ := by
      unfold cosL
      exact congrArg (cosT i) (Fin.ext (by simp only [place]; omega))
    have e4 : sinL i ⟨(l.val + 128 - 96) % 128, Nat.mod_lt _ (by norm_num)⟩ = sinT i ⟨(place l).val, h⟩ := by
      unfold sinL
      rw [if_neg (by show ¬ (l.val + 128 - 96) % 128 % 64 < 32; omega)]
      exact congrArg (sinT i) (Fin.ext (by simp only [place]; omega))
    rw [e1, e2, e3, e4]
  · rename_i h
    rw [dif_neg (show ¬ (place l).val < 32 from h), add_coe]
    have e1 : half ⟨(l.val + 128 - 32) % 128, Nat.mod_lt _ (by norm_num)⟩ = half l := Fin.ext (by simp only [half]; omega)
    have e2 : place ⟨(l.val + 128 - 32) % 128, Nat.mod_lt _ (by norm_num)⟩ = ⟨(place l).val - 32, by simp only [place]; omega⟩ := Fin.ext (by simp only [place]; omega)
    have e3 : cosL i l = cosT i ⟨(place l).val - 32, by simp only [place]; omega⟩ := by
      unfold cosL
      exact congrArg (cosT i) (Fin.ext (by simp only [place]; omega))
    have e4 : sinL i ⟨(l.val + 128 - 32) % 128, Nat.mod_lt _ (by norm_num)⟩ = -sinT i ⟨(place l).val - 32, by simp only [place]; omega⟩ := by
      unfold sinL
      rw [if_pos (by show (l.val + 128 - 32) % 128 % 64 < 32; omega)]
      exact congrArg (fun z => -sinT i z) (Fin.ext (by simp only [place]; omega))
    rw [e1, e2, e3, e4, mul_neg, ← sub_eq_add_neg]

theorem turn_zero {v c s : Fin 128 → EReal} (hv : ∀ l, v l = 0) (l : Fin 128) : turnX v c s l = 0 := by
  unfold turnX
  simp only [hv, zero_mul, zero_add, ite_self]

theorem word_eighth : Ideal.ofBits .f32 0x3E000000#32 = ((1 / 8 : ℝ) : EReal) := by
  simp [Ideal.ofBits, Ideal.ieee, -EReal.coe_mul]; norm_num

theorem keepQ_eq (v c s : FVec Ideal S128x128 .f32) (a l : Fin 128) :
    keepQ v c s (ix2 a l) = turnX (fun l => v (ix2 a l)) (fun l => c (ix2 a l)) (fun l => s (ix2 a l)) l * ((1 / 8 : ℝ) : EReal) := by
  unfold keepQ k0_pay145
  dsimp only
  pointwise
  rw [first_at, select_ofBool, word_eighth]
  simp only [decide_eq_true_eq]
  rfl

theorem keepK_eq (x : FVec Ideal S256x128 .f32) (c s : FVec Ideal S128x128 .f32) (a l : Fin 128) :
    keepK x c s (ix2 a l) = turnX (fun l => x (ix2 (Arrays.own a) l)) (fun l => c (ix2 a l)) (fun l => s (ix2 a l)) l := by
  unfold keepK k0_pay173
  dsimp only
  pointwise
  rw [first_at, select_ofBool]
  simp only [decide_eq_true_eq]
  rfl

theorem doneK_eq (x : FVec Ideal S256x128 .f32) (k c s : FVec Ideal S128x128 .f32) (a l : Fin 128) :
    doneK x k c s (ix2 a l) = k (ix2 a l) + turnX (fun l => x (ix2 (Arrays.old a) l)) (fun l => c (ix2 a l)) (fun l => s (ix2 a l)) l := by
  unfold doneK k0_pay176
  dsimp only
  pointwise
  rw [first_at, select_ofBool]
  simp only [decide_eq_true_eq]
  rfl

theorem keepW_eq (x : FVec Ideal S256x128 .f32) (a l : Fin 128) : keepW x (ix2 a l) = x (ix2 (Arrays.own a) l) := by
  unfold keepW
  unfold_payloads
  pointwise
  rfl

theorem doneW_eq (x : FVec Ideal S256x128 .f32) (k : FVec Ideal S128x128 .f32) (a l : Fin 128) :
    doneW x k (ix2 a l) = k (ix2 a l) + x (ix2 (Arrays.old a) l) := by
  unfold doneW
  unfold_payloads
  pointwise
  rfl

/-- Two key heads' totals side by side: each head's two halves added up. -/
theorem pair_at {x y : FVec Ideal S128x128 .f32} {X : Fin 2 → Fin 128 → Fin 2 → Fin 64 → ℝ} (hx : ∀ a l, x (ix2 a l) = ((X 0 a (half l) (place l) : ℝ) : EReal))
    (hy : ∀ a l, y (ix2 a l) = ((X 1 a (half l) (place l) : ℝ) : EReal)) (a l : Fin 128) :
    pairV x y (ix2 a l) = ((X (half l) a 0 (place l) + X (half l) a 1 (place l) : ℝ) : EReal) := by
  unfold pairV
  unfold_payloads
  pointwise
  have hl := l.isLt
  have e1 : place ⟨(l.val + 128 - 64) % 128, Nat.mod_lt _ (by norm_num)⟩ = place l := Fin.ext (by simp only [place]; omega)
  simp only [hx, hy, e1, add_coe, lo_word, select_ofBool, decide_eq_true_eq]
  split
  · have e2 : half ⟨(l.val + 128 - 64) % 128, Nat.mod_lt _ (by norm_num)⟩ = 1 := Fin.ext (by show (l.val + 128 - 64) % 128 / 64 = 1; omega)
    have e3 : half l = 0 := Fin.ext (by show l.val / 64 = 0; omega)
    rw [e2, e3]
  · have e2 : half ⟨(l.val + 128 - 64) % 128, Nat.mod_lt _ (by norm_num)⟩ = 0 := Fin.ext (by show (l.val + 128 - 64) % 128 / 64 = 0; omega)
    have e3 : half l = 1 := Fin.ext (by show l.val / 64 = 1; omega)
    rw [e2, e3, add_comm (X 1 a 1 (place l))]

theorem sum_at (x : FVec Ideal S128x128 .f32) (b : FVec Ideal S1x128 .f32) (l : Fin 128) : sumV x b (ix2 0 l) = b (ix2 0 l) + ∑ a, x (ix2 a l) := by
  unfold sumV
  unfold_payloads
  pointwise

end Cert.AttnBwd.Kernel

end
-- ==== Proof.AttnBwd.Tiles.lean ====
/- What one grid point of the call computes for a key head, from the tiles it reads. -/
module

public import proofs.«01_k».proof.Proof.AttnBwd.Head

@[expose] public section

set_option maxRecDepth 16384

noncomputable section

namespace Cert.AttnBwd.Kernel

open Idealize.ShloMosaic Idealize.ShloMosaic.TcCoe Cert.AttnIdeal Cert.AttnIdeal.Gen Cert.AttnIdeal.Facts Cert.Reals Cert.Norm

variable {m : (ℓ : Loc nD τ sig) → Buf (Elt Ideal) ℓ} {c : Dev nD} {A : Arrays}

/-- What a point reads for one key head: two pairs of query heads and of their results' gradients, the keys and the values before and of the block,
the masks and the sinks. -/
structure Tiles where
  w : IVec S512x256 1
  s : Fin 4 → Elt Ideal .f32
  q0 : FVec Ideal S128x128 .bf16
  q1 : FVec Ideal S128x128 .bf16
  d0 : FVec Ideal S128x128 .bf16
  d1 : FVec Ideal S128x128 .bf16
  kp : FVec Ideal S128x128 .bf16
  kc : FVec Ideal S128x128 .bf16
  vp : FVec Ideal S128x128 .bf16
  vc : FVec Ideal S128x128 .bf16

namespace Tiles

variable (T : Tiles)

def q : FVec Ideal S512x128 .bf16 := stackV T.q0 T.q1
def d : FVec Ideal S512x128 .bf16 := stackV T.d0 T.d1
def k : FVec Ideal S256x128 .bf16 := catV T.kp T.kc
def v : FVec Ideal S256x128 .bf16 := catV T.vp T.vc
def ds : FVec Ideal S512x256 .bf16 := dsV T.w (scoreV T.q T.k) (scoreV T.d T.v) T.s
def pr : FVec Ideal S512x256 .bf16 := prV T.w (scoreV T.q T.k) T.s
def leak : FVec Ideal S512x1 .f32 := leakV T.w (scoreV T.q T.k) (scoreV T.d T.v) T.s
def dk : FVec Ideal S256x128 .f32 := dkV T.ds T.q
def dv : FVec Ideal S256x128 .f32 := dkV T.pr T.d
def dq : FVec Ideal S512x128 .f32 := dqV T.ds T.k

end Tiles

/-- The tiles hold key head `h` of block `n` of the real arrays. -/
structure Holds (T : Tiles) (A : Arrays) (n : ℕ) (h : Fin 4) : Prop where
  w : ∀ g a j, T.w (ix2 (rw4 g a) j) = BitVec.ofBool (valid n a j)
  s : ∀ g, T.s g = ((A.sinks (Arrays.head h g) : ℝ) : EReal)
  q0 : ∀ a l, T.q0 (ix2 a l) = ((A.q (Arrays.head h (gOf 0 (half l))) (row n a) (place l) * (1 / 8) : ℝ) : EReal)
  q1 : ∀ a l, T.q1 (ix2 a l) = ((A.q (Arrays.head h (gOf 1 (half l))) (row n a) (place l) * (1 / 8) : ℝ) : EReal)
  d0 : ∀ a l, T.d0 (ix2 a l) = ((A.dout (Arrays.head h (gOf 0 (half l))) (row n a) (place l) : ℝ) : EReal)
  d1 : ∀ a l, T.d1 (ix2 a l) = ((A.dout (Arrays.head h (gOf 1 (half l))) (row n a) (place l) : ℝ) : EReal)
  kp : ∀ a l, T.kp (ix2 a l) = ((keys (A.k h) n (Arrays.old a) (place l) : ℝ) : EReal)
  kc : ∀ a l, T.kc (ix2 a l) = ((keys (A.k h) n (Arrays.own a) (place l) : ℝ) : EReal)
  vp : ∀ a l, T.vp (ix2 a l) = ((keys (A.v h) n (Arrays.old a) (place l) : ℝ) : EReal)
  vc : ∀ a l, T.vc (ix2 a l) = ((keys (A.v h) n (Arrays.own a) (place l) : ℝ) : EReal)

/-- Block `n`'s queries as the call has them, already scaled, and its results' gradients. -/
def _root_.Cert.AttnBwd.Arrays.qs (A : Arrays) (n : ℕ) (h : Fin 4) (g : Fin 4) (a : Fin 128) (d : Fin 64) : ℝ := A.q (Arrays.head h g) (row n a) d * (1 / 8)
def _root_.Cert.AttnBwd.Arrays.os (A : Arrays) (n : ℕ) (h : Fin 4) (g : Fin 4) (a : Fin 128) (d : Fin 64) : ℝ := A.dout (Arrays.head h g) (row n a) d

theorem rotT_scale (f : Fin 64 → ℝ) (r : ℝ) (i : Fin 4096) (d : Fin 64) : rotT (fun e => f e * r) i d = rotT f i d * r := by
  unfold rotT
  split <;> ring

theorem rotT_zero (i : Fin 4096) (d : Fin 64) : rotT (fun _ => 0) i d = 0 := by
  unfold rotT
  split <;> ring

section Holds

variable {T : Tiles} {n : ℕ} {h : Fin 4} (H : Holds T A n h)
include H

theorem q_at (g : Fin 4) (a l : Fin 128) : T.q (ix2 (rw4 g a) l) = ((if half l = par g then A.qs n h g a (place l) else 0 : ℝ) : EReal) :=
  stack_at (Q := A.qs n h) H.q0 H.q1 g a l

theorem d_at (g : Fin 4) (a l : Fin 128) : T.d (ix2 (rw4 g a) l) = ((if half l = par g then A.os n h g a (place l) else 0 : ℝ) : EReal) :=
  stack_at (Q := A.os n h) H.d0 H.d1 g a l

theorem k_at (j : Fin 256) (l : Fin 128) : T.k (ix2 j l) = ((keys (A.k h) n j (place l) : ℝ) : EReal) := cat_at H.kp H.kc j l
theorem v_at (j : Fin 256) (l : Fin 128) : T.v (ix2 j l) = ((keys (A.v h) n j (place l) : ℝ) : EReal) := cat_at H.vp H.vc j l

theorem sc_at (g : Fin 4) (a : Fin 128) (j : Fin 256) : scoreV T.q T.k (ix2 (rw4 g a) j) = ((A.score n h g a j : ℝ) : EReal) := by
  rw [score_at (q_at H) (k_at H)]
  unfold Arrays.score
  rw [Finset.sum_mul]
  exact congrArg (fun r : ℝ => (r : EReal)) (Finset.sum_congr rfl fun d _ => by unfold Arrays.qs; ring)

theorem dp_at (g : Fin 4) (a : Fin 128) (j : Fin 256) : scoreV T.d T.v (ix2 (rw4 g a) j) = ((A.dprob n h g a j : ℝ) : EReal) :=
  score_at (d_at H) (v_at H) g a j

theorem ds_at (g : Fin 4) (a : Fin 128) (j : Fin 256) : T.ds (ix2 (rw4 g a) j) = ((A.dS n h g a j : ℝ) : EReal) :=
  ds_entry H.w (sc_at H) (dp_at H) H.s g a j

theorem pr_at (g : Fin 4) (a : Fin 128) (j : Fin 256) : T.pr (ix2 (rw4 g a) j) = ((A.P n h g a j : ℝ) : EReal) :=
  pr_entry H.w (sc_at H) H.s g a j

theorem leak_at (g : Fin 4) (a : Fin 128) : T.leak (ix2 (rw4 g a) 0) = ((A.Ps n h g a * A.D n h g a : ℝ) : EReal) :=
  leak_entry H.w (sc_at H) (dp_at H) H.s g a

theorem dk_entry (j : Fin 256) (l : Fin 128) : T.dk (ix2 j l) = ((halfSum (A.dS n h) (A.qs n h) j (half l) (place l) : ℝ) : EReal) :=
  dk_at (ds_at H) (q_at H) j l

theorem dv_entry (j : Fin 256) (l : Fin 128) : T.dv (ix2 j l) = ((halfSum (A.P n h) (A.os n h) j (half l) (place l) : ℝ) : EReal) :=
  dk_at (pr_at H) (d_at H) j l

variable {co si : FVec Ideal S128x128 .f32} (hc : ∀ a l, co (ix2 a l) = ((cosL (row n a) l : ℝ) : EReal))
  (hs : ∀ a l, si (ix2 a l) = ((sinL (row n a) l : ℝ) : EReal))
include hc hs

theorem keepQ_at (a l : Fin 128) :
    keepQ (pick0 T.dq) co si (ix2 a l) = ((A.dq n (Arrays.head h (gOf 0 (half l))) a (place l) : ℝ) : EReal)
    ∧ keepQ (pick1 T.dq) co si (ix2 a l) = ((A.dq n (Arrays.head h (gOf 1 (half l))) a (place l) : ℝ) : EReal) := by
  have e : ∀ g : Fin 4, rotT (fun d => ∑ j, A.dS n h g a j * keys (A.k h) n j d) (row n a) (place l) * (1 / 8) = A.dq n (Arrays.head h g) a (place l) := by
    intro g
    unfold Arrays.dq
    rw [← rotT_scale]
    have e1 : (⟨(Arrays.head h g).val / 4, by omega⟩ : Fin 4) = h := Fin.ext (by simp only [Arrays.head]; omega)
    have e2 : (⟨(Arrays.head h g).val % 4, by omega⟩ : Fin 4) = g := Fin.ext (by simp only [Arrays.head]; omega)
    rw [e1, e2]
    rfl
  unfold Tiles.dq
  constructor
  · rw [keepQ_eq, turn_at (F := fun b d => ∑ j, A.dS n h (gOf 0 b) a j * keys (A.k h) n j d) (fun l => (pick_at (ds_at H) (k_at H) a l).1) (hc a) (hs a), mul_coe, e]
  · rw [keepQ_eq, turn_at (F := fun b d => ∑ j, A.dS n h (gOf 1 b) a j * keys (A.k h) n j d) (fun l => (pick_at (ds_at H) (k_at H) a l).2) (hc a) (hs a), mul_coe, e]

theorem keepK_at (a l : Fin 128) : keepK T.dk co si (ix2 a l)
    = ((rotT (halfSum (A.dS n h) (A.qs n h) (Arrays.own a) (half l)) (row n a) (place l) : ℝ) : EReal) := by
  rw [keepK_eq, turn_at (F := fun b d => halfSum (A.dS n h) (A.qs n h) (Arrays.own a) b d) (fun l => dk_entry H (Arrays.own a) l) (hc a) (hs a)]

omit hc hs

theorem keepW_at (a l : Fin 128) : keepW T.dv (ix2 a l) = ((halfSum (A.P n h) (A.os n h) (Arrays.own a) (half l) (place l) : ℝ) : EReal) := by
  rw [keepW_eq, dv_entry H]

variable {kk kv cp sp : FVec Ideal S128x128 .f32}

/-- After a block's keys have been seen a second time, each half of their gradient is whole. -/
theorem doneK_at (hn : n ≠ 0) (hk : ∀ a l, kk (ix2 a l) = ((rotT (halfSum (A.dS (n - 1) h) (A.qs (n - 1) h) (Arrays.own a) (half l)) (row (n - 1) a) (place l) : ℝ) : EReal))
    (hc : ∀ a l, cp (ix2 a l) = ((cosL (row (n - 1) a) l : ℝ) : EReal)) (hs : ∀ a l, sp (ix2 a l) = ((sinL (row (n - 1) a) l : ℝ) : EReal)) (a l : Fin 128) :
    doneK T.dk kk cp sp (ix2 a l) = ((rotT (fun d => halfSum (A.dS (n - 1) h) (A.qs (n - 1) h) (Arrays.own a) (half l) d
      + halfSum (A.dS n h) (A.qs n h) (Arrays.old a) (half l) d) (row (n - 1) a) (place l) : ℝ) : EReal) := by
  rw [doneK_eq, turn_at (F := fun b d => halfSum (A.dS n h) (A.qs n h) (Arrays.old a) b d) (fun l => dk_entry H (Arrays.old a) l) (hc a) (hs a), hk, add_coe, rotT_add]

theorem doneW_at (hk : ∀ a l, kv (ix2 a l) = ((halfSum (A.P (n - 1) h) (A.os (n - 1) h) (Arrays.own a) (half l) (place l) : ℝ) : EReal)) (a l : Fin 128) :
    doneW T.dv kv (ix2 a l) = ((halfSum (A.P (n - 1) h) (A.os (n - 1) h) (Arrays.own a) (half l) (place l)
      + halfSum (A.P n h) (A.os n h) (Arrays.old a) (half l) (place l) : ℝ) : EReal) := by
  rw [doneW_eq, dv_entry H, hk, add_coe]

end Holds

theorem halfSum_scale (D : Fin 4 → Fin 128 → Fin 256 → ℝ) (n : ℕ) (h : Fin 4) (j : Fin 256) (d : Fin 64) (A : Arrays) :
    halfSum D (A.qs n h) j 0 d + halfSum D (A.qs n h) j 1 d = (∑ g, ∑ a, D g a j * A.q (Arrays.head h g) (row n a) d) * (1 / 8) := by
  rw [halfSum_add, Finset.sum_mul]
  refine Finset.sum_congr rfl fun g _ => ?_
  rw [Finset.sum_mul]
  exact Finset.sum_congr rfl fun a _ => by unfold Arrays.qs; ring

/-- The two key heads of a pair. -/
def hOf (p b : Fin 2) : Fin 4 := ⟨p.val * 2 + b.val, by omega⟩

/-- Two heads' finished gradients side by side. -/
theorem pairK_at {T T' : Tiles} {n : ℕ} (hn : n ≠ 0) {p : Fin 2} (H : Holds T A n (hOf p 0)) (H' : Holds T' A n (hOf p 1)) {kk kk' cp sp : FVec Ideal S128x128 .f32}
    (hk : ∀ a l, kk (ix2 a l) = ((rotT (halfSum (A.dS (n - 1) (hOf p 0)) (A.qs (n - 1) (hOf p 0)) (Arrays.own a) (half l)) (row (n - 1) a) (place l) : ℝ) : EReal))
    (hk' : ∀ a l, kk' (ix2 a l) = ((rotT (halfSum (A.dS (n - 1) (hOf p 1)) (A.qs (n - 1) (hOf p 1)) (Arrays.own a) (half l)) (row (n - 1) a) (place l) : ℝ) : EReal))
    (hc : ∀ a l, cp (ix2 a l) = ((cosL (row (n - 1) a) l : ℝ) : EReal)) (hs : ∀ a l, sp (ix2 a l) = ((sinL (row (n - 1) a) l : ℝ) : EReal)) (a l : Fin 128) :
    pairV (doneK T.dk kk cp sp) (doneK T'.dk kk' cp sp) (ix2 a l) = ((A.dk (n - 1) (hOf p (half l)) a (place l) : ℝ) : EReal) := by
  rw [pair_at (X := fun b a e d => rotT (fun d => halfSum (A.dS (n - 1) (hOf p b)) (A.qs (n - 1) (hOf p b)) (Arrays.own a) e d
      + halfSum (A.dS n (hOf p b)) (A.qs n (hOf p b)) (Arrays.old a) e d) (row (n - 1) a) d) (doneK_at H hn hk hc hs) (doneK_at H' hn hk' hc hs)]
  refine congrArg (fun r : ℝ => (r : EReal)) ?_
  rw [← rotT_add]
  unfold Arrays.dk Arrays.dkb
  have e : n - 1 + 1 = n := by omega
  rw [e]
  refine congrArg (fun f => rotT f (row (n - 1) a) (place l)) (funext fun d => ?_)
  rw [← halfSum_scale, ← halfSum_scale]
  ring

theorem pairW_at {T T' : Tiles} {n : ℕ} (hn : n ≠ 0) {p : Fin 2} (H : Holds T A n (hOf p 0)) (H' : Holds T' A n (hOf p 1)) {kv kv' : FVec Ideal S128x128 .f32}
    (hk : ∀ a l, kv (ix2 a l) = ((halfSum (A.P (n - 1) (hOf p 0)) (A.os (n - 1) (hOf p 0)) (Arrays.own a) (half l) (place l) : ℝ) : EReal))
    (hk' : ∀ a l, kv' (ix2 a l) = ((halfSum (A.P (n - 1) (hOf p 1)) (A.os (n - 1) (hOf p 1)) (Arrays.own a) (half l) (place l) : ℝ) : EReal)) (a l : Fin 128) :
    pairV (doneW T.dv kv) (doneW T'.dv kv') (ix2 a l) = ((A.dv (n - 1) (hOf p (half l)) a (place l) : ℝ) : EReal) := by
  rw [pair_at (X := fun b a e d => halfSum (A.P (n - 1) (hOf p b)) (A.os (n - 1) (hOf p b)) (Arrays.own a) e d
      + halfSum (A.P n (hOf p b)) (A.os n (hOf p b)) (Arrays.old a) e d) (doneW_at H hk) (doneW_at H' hk')]
  refine congrArg (fun r : ℝ => (r : EReal)) ?_
  unfold Arrays.dv Arrays.dvb
  have e : n - 1 + 1 = n := by omega
  rw [e]
  have h1 := halfSum_add (A.P (n - 1) (hOf p (half l))) (A.os (n - 1) (hOf p (half l))) (Arrays.own a) (place l)
  have h2 := halfSum_add (A.P n (hOf p (half l))) (A.os n (hOf p (half l))) (Arrays.old a) (place l)
  unfold Arrays.os at h1 h2 ⊢
  linarith

/-- At the first block nothing is seen of keys before it. -/
theorem halfSum_first_dS (h : Fin 4) (Q : Fin 4 → Fin 128 → Fin 64 → ℝ) (a : Fin 128) (e : Fin 2) (d : Fin 64) : halfSum (A.dS 0 h) Q (Arrays.old a) e d = 0 := by
  have ha := a.isLt
  have z : ∀ g b, A.dS 0 h g b (Arrays.old a) = 0 := fun g b => by
    simp [Arrays.dS, dscore, prob, wt, valid, Arrays.old, Nat.not_le.mpr ha]
  simp [halfSum, z]

theorem halfSum_first_P (h : Fin 4) (Q : Fin 4 → Fin 128 → Fin 64 → ℝ) (a : Fin 128) (e : Fin 2) (d : Fin 64) : halfSum (A.P 0 h) Q (Arrays.old a) e d = 0 := by
  have ha := a.isLt
  have z : ∀ g b, A.P 0 h g b (Arrays.old a) = 0 := fun g b => by
    simp [Arrays.P, prob, wt, valid, Arrays.old, Nat.not_le.mpr ha]
  simp [halfSum, z]

/-- So the first point's finished part is what the zeroed scratch holds. -/
theorem pairK_zero {T T' : Tiles} {h h' : Fin 4} (H : Holds T A 0 h) (H' : Holds T' A 0 h') {kk kk' : FVec Ideal S128x128 .f32} (cp sp : FVec Ideal S128x128 .f32)
    (hk : ∀ a l, kk (ix2 a l) = 0) (hk' : ∀ a l, kk' (ix2 a l) = 0) (a l : Fin 128) :
    pairV (doneK T.dk kk cp sp) (doneK T'.dk kk' cp sp) (ix2 a l) = 0 := by
  have z : ∀ {T : Tiles} {h : Fin 4} (H : Holds T A 0 h) {kk : FVec Ideal S128x128 .f32} (hk : ∀ a l, kk (ix2 a l) = 0) (a l : Fin 128), doneK T.dk kk cp sp (ix2 a l) = ((0 : ℝ) : EReal) := by
    intro T h H kk hk a l
    rw [doneK_eq, hk, turn_zero (fun l => by rw [dk_entry H, halfSum_first_dS]; rfl), add_zero]
    rfl
  rw [pair_at (X := fun _ _ _ _ => 0) (z H hk) (z H' hk'), add_zero]
  rfl

theorem pairW_zero {T T' : Tiles} {h h' : Fin 4} (H : Holds T A 0 h) (H' : Holds T' A 0 h') {kk kk' : FVec Ideal S128x128 .f32}
    (hk : ∀ a l, kk (ix2 a l) = 0) (hk' : ∀ a l, kk' (ix2 a l) = 0) (a l : Fin 128) :
    pairV (doneW T.dv kk) (doneW T'.dv kk') (ix2 a l) = 0 := by
  have z : ∀ {T : Tiles} {h : Fin 4} (H : Holds T A 0 h) {kk : FVec Ideal S128x128 .f32} (hk : ∀ a l, kk (ix2 a l) = 0) (a l : Fin 128), doneW T.dv kk (ix2 a l) = ((0 : ℝ) : EReal) := by
    intro T h H kk hk a l
    rw [doneW_eq, hk, dv_entry H, halfSum_first_P, zero_add]
  rw [pair_at (X := fun _ _ _ _ => 0) (z H hk) (z H' hk'), add_zero]
  rfl

end Cert.AttnBwd.Kernel

end
-- ==== Proof.AttnBwd.Points.lean ====
/- The tiles a point of the attention gradient reads, and what they hold. -/
module

public import proofs.«01_k».proof.Proof.AttnBwd.Tiles

@[expose] public section

set_option maxRecDepth 16384

noncomputable section

namespace Cert.AttnBwd.Kernel

open Idealize.ShloMosaic Idealize.ShloMosaic.TcCoe Cert.AttnIdeal Cert.AttnIdeal.Gen Cert.AttnIdeal.Facts Cert.Reals Cert.Norm

variable {m : (ℓ : Loc nD τ sig) → Buf (Elt Ideal) ℓ} {c : Dev nD} {A : Arrays}

theorem inb {R N o w : ℕ} (h : o + w ≤ N) : ∀ k : Fin 2, (![0, o] : Fin 2 → ℕ) k + (![R, w] : Fin 2 → ℕ) k ≤ (![R, N] : Fin 2 → ℕ) k := by
  intro k
  fin_cases k
  · simp
  · simpa using h

/-- The tiles a point reads for key head `h` out of its blocks and of the keys and values kept from the point before. -/
def tilesOf (i : grid0.Coords) (sk : Vec Ideal S1x16 .f32) (Q O : Vec Ideal S128x1024 .bf16) (K V K' V' : Vec Ideal S128x512 .bf16) (h : Fin 4) : Tiles where
  w := k0_pay14 i
  s := fun g => View.ld sk (Rect.unit ![0, h.val * 4 + g.val] ![1, 1] (inb (by omega))) (Shape.Idx.first (show 0 < (⟨2, ![1, 1]⟩ : Shape).numel by decide))
  q0 := View.ld Q (Rect.unit ![0, h.val * 256] ![128, 128] (inb (by omega)))
  q1 := View.ld Q (Rect.unit ![0, h.val * 256 + 128] ![128, 128] (inb (by omega)))
  d0 := View.ld O (Rect.unit ![0, h.val * 256] ![128, 128] (inb (by omega)))
  d1 := View.ld O (Rect.unit ![0, h.val * 256 + 128] ![128, 128] (inb (by omega)))
  kp := View.ld K' (Rect.unit ![0, h.val * 128] ![128, 128] (inb (by omega)))
  kc := View.ld K (Rect.unit ![0, h.val * 128] ![128, 128] (inb (by omega)))
  vp := View.ld V' (Rect.unit ![0, h.val * 128] ![128, 128] (inb (by omega)))
  vc := View.ld V (Rect.unit ![0, h.val * 128] ![128, 128] (inb (by omega)))

/-- The blocks hold block `n` of the real arrays, and the kept keys and values are the block's before. -/
structure Reads (A : Arrays) (n : ℕ) (i : grid0.Coords) (sk : Vec Ideal S1x16 .f32) (Q O : Vec Ideal S128x1024 .bf16) (K V K' V' : Vec Ideal S128x512 .bf16) : Prop where
  i : (i 0).val = n
  sk : ∀ u, sk (ix2 0 u) = ((A.sinks u : ℝ) : EReal)
  Q : ∀ (a : Fin 128) (l : Fin 1024), Q (ix2 a l) = ((A.q ⟨l.val / 64, by omega⟩ (row n a) ⟨l.val % 64, by omega⟩ * (1 / 8) : ℝ) : EReal)
  O : ∀ (a : Fin 128) (l : Fin 1024), O (ix2 a l) = ((A.dout ⟨l.val / 64, by omega⟩ (row n a) ⟨l.val % 64, by omega⟩ : ℝ) : EReal)
  K : ∀ (a : Fin 128) (l : Fin 512), K (ix2 a l) = ((A.k ⟨l.val / 128, by omega⟩ (row n a) ⟨l.val % 64, by omega⟩ : ℝ) : EReal)
  V : ∀ (a : Fin 128) (l : Fin 512), V (ix2 a l) = ((A.v ⟨l.val / 128, by omega⟩ (row n a) ⟨l.val % 64, by omega⟩ : ℝ) : EReal)
  K' : ∀ (a : Fin 128) (l : Fin 512), K' (ix2 a l) = ((keys (A.k ⟨l.val / 128, by omega⟩) n (Arrays.old a) ⟨l.val % 64, by omega⟩ : ℝ) : EReal)
  V' : ∀ (a : Fin 128) (l : Fin 512), V' (ix2 a l) = ((keys (A.v ⟨l.val / 128, by omega⟩) n (Arrays.old a) ⟨l.val % 64, by omega⟩ : ℝ) : EReal)

theorem ld_at {N o : ℕ} {φ : EltTy} (X : (⟨2, ![128, N]⟩ : Shape).Idx → Elt Ideal φ) (ho : o + 128 ≤ N) (a l : Fin 128) :
    View.ld X (Rect.unit ![0, o] ![128, 128] (inb ho)) (ix2 a l) = X (ix2 a ⟨o + l.val, by omega⟩) := by
  refine congrArg X (funext fun k => ?_)
  fin_cases k
  · exact Fin.ext (by show 0 + 1 * a.val = a.val; omega)
  · exact Fin.ext (by show o + 1 * l.val = o + l.val; omega)

theorem keys_own (k : Fin 4096 → Fin 64 → ℝ) (n : ℕ) (a : Fin 128) (d : Fin 64) : keys k n (Arrays.own a) d = k (row n a) d := by
  unfold keys
  rw [dif_neg (by simp only [Arrays.own]; omega)]
  exact congrArg (fun r => k (row n r) d) (Fin.ext (by simp only [Arrays.own]; omega))

theorem holds {n : ℕ} {i : grid0.Coords} {sk : Vec Ideal S1x16 .f32} {Q O : Vec Ideal S128x1024 .bf16} {K V K' V' : Vec Ideal S128x512 .bf16} (hn : n < 33)
    (R : Reads A n i sk Q O K V K' V') (h : Fin 4) : Holds (tilesOf i sk Q O K V K' V' h) A n h where
  w := fun g a j => by
    have := mask_at i (by rw [R.i]; exact hn) g a j
    rw [R.i] at this
    exact this
  s := fun g => by
    refine Eq.trans ?_ (R.sk (Arrays.head h g))
    refine congrArg sk (funext fun k => ?_)
    fin_cases k
    · exact Subsingleton.elim (α := Fin 1) _ _
    · exact Fin.ext (by show h.val * 4 + g.val + 1 * 0 = h.val * 4 + g.val; omega)
  q0 := fun a l => by
    refine ((ld_at Q (by omega) a l).trans (R.Q a _)).trans ?_
    have e1 : (⟨(h.val * 256 + l.val) / 64, by omega⟩ : Fin 16) = Arrays.head h (gOf 0 (half l)) := Fin.ext (by simp only [Arrays.head, gOf, half, Fin.val_zero]; omega)
    have e2 : (⟨(h.val * 256 + l.val) % 64, by omega⟩ : Fin 64) = place l := Fin.ext (by simp only [place]; omega)
    simp only [e1, e2]
  q1 := fun a l => by
    refine ((ld_at Q (by omega) a l).trans (R.Q a _)).trans ?_
    have e1 : (⟨(h.val * 256 + 128 + l.val) / 64, by omega⟩ : Fin 16) = Arrays.head h (gOf 1 (half l)) := Fin.ext (by simp only [Arrays.head, gOf, half, Fin.val_one]; omega)
    have e2 : (⟨(h.val * 256 + 128 + l.val) % 64, by omega⟩ : Fin 64) = place l := Fin.ext (by simp only [place]; omega)
    simp only [e1, e2]
  d0 := fun a l => by
    refine ((ld_at O (by omega) a l).trans (R.O a _)).trans ?_
    have e1 : (⟨(h.val * 256 + l.val) / 64, by omega⟩ : Fin 16) = Arrays.head h (gOf 0 (half l)) := Fin.ext (by simp only [Arrays.head, gOf, half, Fin.val_zero]; omega)
    have e2 : (⟨(h.val * 256 + l.val) % 64, by omega⟩ : Fin 64) = place l := Fin.ext (by simp only [place]; omega)
    simp only [e1, e2]
  d1 := fun a l => by
    refine ((ld_at O (by omega) a l).trans (R.O a _)).trans ?_
    have e1 : (⟨(h.val * 256 + 128 + l.val) / 64, by omega⟩ : Fin 16) = Arrays.head h (gOf 1 (half l)) := Fin.ext (by simp only [Arrays.head, gOf, half, Fin.val_one]; omega)
    have e2 : (⟨(h.val * 256 + 128 + l.val) % 64, by omega⟩ : Fin 64) = place l := Fin.ext (by simp only [place]; omega)
    simp only [e1, e2]
  kp := fun a l => by
    refine ((ld_at K' (by omega) a l).trans (R.K' a _)).trans ?_
    have e1 : (⟨(h.val * 128 + l.val) / 128, by omega⟩ : Fin 4) = h := Fin.ext (by dsimp only; omega)
    have e2 : (⟨(h.val * 128 + l.val) % 64, by omega⟩ : Fin 64) = place l := Fin.ext (by simp only [place]; omega)
    simp only [e1, e2]
  kc := fun a l => by
    refine ((ld_at K (by omega) a l).trans (R.K a _)).trans ?_
    have e1 : (⟨(h.val * 128 + l.val) / 128, by omega⟩ : Fin 4) = h := Fin.ext (by dsimp only; omega)
    have e2 : (⟨(h.val * 128 + l.val) % 64, by omega⟩ : Fin 64) = place l := Fin.ext (by simp only [place]; omega)
    simp only [e1, e2, keys_own]
  vp := fun a l => by
    refine ((ld_at V' (by omega) a l).trans (R.V' a _)).trans ?_
    have e1 : (⟨(h.val * 128 + l.val) / 128, by omega⟩ : Fin 4) = h := Fin.ext (by dsimp only; omega)
    have e2 : (⟨(h.val * 128 + l.val) % 64, by omega⟩ : Fin 64) = place l := Fin.ext (by simp only [place]; omega)
    simp only [e1, e2]
  vc := fun a l => by
    refine ((ld_at V (by omega) a l).trans (R.V a _)).trans ?_
    have e1 : (⟨(h.val * 128 + l.val) / 128, by omega⟩ : Fin 4) = h := Fin.ext (by dsimp only; omega)
    have e2 : (⟨(h.val * 128 + l.val) % 64, by omega⟩ : Fin 64) = place l := Fin.ext (by simp only [place]; omega)
    simp only [e1, e2, keys_own]

/-- A point's blocks as its body reads them. -/
def rd {sp : Space} {s : Shape} {e : EltTy} {r : Memref sig .tc sp s e} (h : r.IsWhole) (X : s.Idx → Elt Ideal e) : s.Idx → Elt Ideal e :=
  View.read (Elt Ideal) r.view (h.unread X)

theorem rd_eq {sp : Space} {s : Shape} {e : EltTy} {r : Memref sig .tc sp s e} (h : r.IsWhole) (X : s.Idx → Elt Ideal e) : rd h X = X := h.read_unread X

section Close

variable {T : Tiles} {n : ℕ} {h : Fin 4} {co si : FVec Ideal S128x128 .f32}

theorem dq_cols {y : S128x1024.Idx} {x : S128x128.Idx} {o : ℕ} {p : Fin 2} (h0 : (y 0).val = (x 0).val) (h1 : (y 1).val = o + (x 1).val)
    (ho : o = (h.val * 2 + p.val) * 128) : A.dq n ⟨(y 1).val / 64, by have := (y 1).isLt; simp at this; omega⟩ (y 0) ⟨(y 1).val % 64, by omega⟩
      = A.dq n (Arrays.head h (gOf p (half (x 1)))) (x 0) (place (x 1)) := by
  have e0 : y 0 = x 0 := Fin.ext h0
  have hx : (x 1).val < 128 := (x 1).isLt
  have hh := h.isLt
  have hp := p.isLt
  have e1 : ∀ hb, (⟨(y 1).val / 64, hb⟩ : Fin 16) = Arrays.head h (gOf p (half (x 1))) := fun _ => Fin.ext (by simp only [Arrays.head, gOf, half]; omega)
  have e2 : ∀ hb, (⟨(y 1).val % 64, hb⟩ : Fin 64) = place (x 1) := fun _ => Fin.ext (by simp only [place]; omega)
  rw [e0, e1, e2]

theorem dq_close0 (H : Holds T A n h) (hc : ∀ a l, co (ix2 a l) = ((cosL (row n a) l : ℝ) : EReal)) (hs : ∀ a l, si (ix2 a l) = ((sinL (row n a) l : ℝ) : EReal))
    {y : S128x1024.Idx} {x : S128x128.Idx} {o : ℕ} (h0 : (y 0).val = (x 0).val) (h1 : (y 1).val = o + (x 1).val) (ho : o = (h.val * 2 + 0) * 128)
    {X : EReal} (e : X = keepQ (pick0 T.dq) co si x) :
    X = ((A.dq n ⟨(y 1).val / 64, by have := (y 1).isLt; simp at this; omega⟩ (y 0) ⟨(y 1).val % 64, by omega⟩ : ℝ) : EReal) := by
  rw [e, dq_cols (p := 0) h0 h1 ho]
  idx_vars x
  exact (keepQ_at H hc hs x0 x1).1

theorem dq_close1 (H : Holds T A n h) (hc : ∀ a l, co (ix2 a l) = ((cosL (row n a) l : ℝ) : EReal)) (hs : ∀ a l, si (ix2 a l) = ((sinL (row n a) l : ℝ) : EReal))
    {y : S128x1024.Idx} {x : S128x128.Idx} {o : ℕ} (h0 : (y 0).val = (x 0).val) (h1 : (y 1).val = o + (x 1).val) (ho : o = (h.val * 2 + 1) * 128)
    {X : EReal} (e : X = keepQ (pick1 T.dq) co si x) :
    X = ((A.dq n ⟨(y 1).val / 64, by have := (y 1).isLt; simp at this; omega⟩ (y 0) ⟨(y 1).val % 64, by omega⟩ : ℝ) : EReal) := by
  rw [e, dq_cols (p := 1) h0 h1 ho]
  idx_vars x
  exact (keepQ_at H hc hs x0 x1).2

end Close

end Cert.AttnBwd.Kernel

end
-- ==== Proof.AttnBwd.Blocks.lean ====
/- What each grid point of the call reads: its 128 rows of the turned queries and keys, of the values, of the result's gradient and of the angles' tables. -/
module

public import proofs.«01_k».proof.Proof.AttnBwd.Head

@[expose] public section

set_option maxRecDepth 16384

noncomputable section

namespace Cert.AttnBwd.Kernel

open Idealize.ShloMosaic Idealize.ShloMosaic.TcCoe Cert.AttnIdeal Cert.AttnIdeal.Gen Cert.AttnIdeal.Facts Cert.Reals Cert.Norm

variable {m : (ℓ : Loc nD τ sig) → Buf (Elt Ideal) ℓ} {c : Dev nD} {A : Arrays}

theorem _root_.Cert.AttnBwd.Arrays.qkv_fold (A : Arrays) (i : Fin 4096) (e : Fin 1536) :
    (∑ k, (A.x (ix3 0 i k) * rstd fun k => A.x (ix3 0 i k)) * A.g (ix2 0 k) * A.w (ix3 0 k e) + A.b (ix2 0 e)) = A.qkv i e := rfl

theorem rot_lo (f : Fin 64 → ℝ) (i : Fin 4096) {d : ℕ} (h : d < 32) {h' : d < 64} :
    rot f i ⟨d, h'⟩ = f ⟨d, h'⟩ * cosT i ⟨d, h⟩ - f ⟨d + 32, by omega⟩ * sinT i ⟨d, h⟩ := dif_pos h

theorem rot_hi (f : Fin 64 → ℝ) (i : Fin 4096) (d : ℕ) (h : ¬ d < 32) {h' : d < 64} :
    rot f i ⟨d, h'⟩ = f ⟨d, h'⟩ * cosT i ⟨d - 32, by omega⟩ + f ⟨d - 32, by omega⟩ * sinT i ⟨d - 32, by omega⟩ := dif_neg h

/-- Where each window's block stands at point `t`: the inputs at block `t`, the last one again past the end, and the written rows one block behind. -/
theorem idx : ∀ t : Fin cfg0.N, win0_0.index t = ![0, 0] ∧ win0_1.index t = ![min t.val 31, 0] ∧ win0_2.index t = ![min t.val 31, 0]
    ∧ win0_3.index t = ![min t.val 31, 0] ∧ win0_4.index t = ![min t.val 31, 0] ∧ win0_5.index t = ![min t.val 31, 0]
    ∧ win0_6.index t = ![min t.val 31, 0] ∧ win0_7.index t = ![t.val - 1, 0] ∧ win0_8.index t = ![0, 0] ∧ win0_9.index t = ![0, 0] :=
  (by decide +kernel : ∀ t : Fin grid0.N, win0_0.index t = ![0, 0] ∧ win0_1.index t = ![min t.val 31, 0] ∧ win0_2.index t = ![min t.val 31, 0]
    ∧ win0_3.index t = ![min t.val 31, 0] ∧ win0_4.index t = ![min t.val 31, 0] ∧ win0_5.index t = ![min t.val 31, 0]
    ∧ win0_6.index t = ![min t.val 31, 0] ∧ win0_7.index t = ![t.val - 1, 0] ∧ win0_8.index t = ![0, 0] ∧ win0_9.index t = ![0, 0])

/-- The arguments a device starts from are these real arrays. -/
structure Args (m : (ℓ : Loc nD τ sig) → Buf (Elt Ideal) ℓ) (c : Dev nD) (A : Arrays) : Prop where
  dy : (m ((c : Thread nD τ).loc main_arg0) : FVec Ideal S1x4096x1024 .f32) = fun i => ((A.dy i : ℝ) : EReal)
  x : (m ((c : Thread nD τ).loc main_arg1) : FVec Ideal S1x4096x1024 .f32) = fun i => ((A.x i : ℝ) : EReal)
  g : (m ((c : Thread nD τ).loc main_arg2) : FVec Ideal S2x1024 .f32) = fun i => ((A.g i : ℝ) : EReal)
  w : (m ((c : Thread nD τ).loc main_arg3) : FVec Ideal S1x1024x1536 .f32) = fun i => ((A.w i : ℝ) : EReal)
  b : (m ((c : Thread nD τ).loc main_arg4) : FVec Ideal S1x1536 .f32) = fun i => ((A.b i : ℝ) : EReal)
  sink : (m ((c : Thread nD τ).loc main_arg5) : FVec Ideal S1x16 .f32) = fun i => ((A.sink i : ℝ) : EReal)

theorem word_10000 : Ideal.ofBits .f32 0x461C4000#32 = ((10000 : ℝ) : EReal) := by
  simp [Ideal.ofBits, Ideal.ieee, -EReal.coe_mul]; norm_num

theorem word_64 : Ideal.ofBits .f32 0x42800000#32 = ((64 : ℝ) : EReal) := by
  simp [Ideal.ofBits, Ideal.ieee, -EReal.coe_mul]; norm_num

theorem qkv_eq (h : Args m c A) (i : Fin 4096) (e : Fin 1536) :
    (V m c main_v21 : FVec Ideal S4096x1536 .f32) (ix2 i e) = ((A.qkv i e : ℝ) : EReal) := by
  simp only [V]
  entry_read
  pointwise [dot_S4096x1024_S1024x1536_S4096x1536_1_0_0_1_n_n]
  simp only [h.x, h.g, h.w, h.b, mul_coe, coe_sum, word_1024, div_1024, word_eps, add_coe, rsqrt_ms]
  rfl

theorem angle_eq (i : Fin 4096) (d : ℕ) (hd : d < 32) :
    FloatOps.sitofp (F := Ideal) FTy.f32 (BitVec.ofNat 32 i.val) * Ideal.pow (Ideal.ofBits FTy.f32 0x461C4000#32)
      (Ideal.div (-(FloatOps.sitofp (F := Ideal) FTy.f32 (BitVec.ofNat 32 d) * Ideal.ofBits FTy.f32 0x40000000#32)) (Ideal.ofBits FTy.f32 0x42800000#32))
    = ((angle i ⟨d, hd⟩ : ℝ) : EReal) := by
  have hn : ∀ n : ℕ, n < 4096 → FloatOps.sitofp (F := Ideal) FTy.f32 (BitVec.ofNat 32 n) = ((n : ℝ) : EReal) := fun n hlt => by
    show (((BitVec.ofNat 32 n).toInt : ℝ) : EReal) = _
    have : (BitVec.ofNat 32 n).toInt = (n : ℤ) := by
      rw [BitVec.toInt_eq_toNat_of_lt] <;> simp [BitVec.toNat_ofNat] <;> omega
    rw [this, Int.cast_natCast]
  rw [hn i.val i.isLt, hn d (by omega), word_two, word_10000, word_64, mul_coe, neg_coe, div_coe (by norm_num), Ideal.pow_coe_coe, mul_coe]
  rfl

theorem cos_at (i : Fin 4096) (d : ℕ) (hd : d < 32) :
    Ideal.cos (FloatOps.sitofp (F := Ideal) FTy.f32 (BitVec.ofNat 32 i.val) * Ideal.pow (Ideal.ofBits FTy.f32 0x461C4000#32)
      (Ideal.div (-(FloatOps.sitofp (F := Ideal) FTy.f32 (BitVec.ofNat 32 d) * Ideal.ofBits FTy.f32 0x40000000#32)) (Ideal.ofBits FTy.f32 0x42800000#32)))
    = ((cosT i ⟨d, hd⟩ : ℝ) : EReal) := by
  rw [angle_eq i d hd]
  rfl

theorem sin_at (i : Fin 4096) (d : ℕ) (hd : d < 32) :
    Ideal.sin (FloatOps.sitofp (F := Ideal) FTy.f32 (BitVec.ofNat 32 i.val) * Ideal.pow (Ideal.ofBits FTy.f32 0x461C4000#32)
      (Ideal.div (-(FloatOps.sitofp (F := Ideal) FTy.f32 (BitVec.ofNat 32 d) * Ideal.ofBits FTy.f32 0x40000000#32)) (Ideal.ofBits FTy.f32 0x42800000#32)))
    = ((sinT i ⟨d, hd⟩ : ℝ) : EReal) := by
  rw [angle_eq i d hd]
  rfl

theorem cos_eq (i : Fin 4096) (l : Fin 128) :
    (V m c main_v118 : FVec Ideal S4096x128 .f32) (ix2 i l) = ((cosL i l : ℝ) : EReal) := by
  simp only [V]
  entry_read
  pointwise
  by_cases h : l.val % 64 < 32
  · rw [dif_pos h, cos_at i _ h]
    unfold cosL
    simp only [Nat.mod_eq_of_lt h]
  · rw [dif_neg h, cos_at i _ (by omega)]
    unfold cosL
    simp only [show l.val % 64 % 32 = l.val % 64 - 32 by omega]

theorem sin_eq (i : Fin 4096) (l : Fin 128) :
    (V m c main_v123 : FVec Ideal S4096x128 .f32) (ix2 i l) = ((sinL i l : ℝ) : EReal) := by
  simp only [V]
  entry_read
  pointwise
  by_cases h : l.val % 64 < 32
  · rw [dif_pos h, sin_at i _ h]
    unfold sinL
    rw [if_pos h]
    simp only [Nat.mod_eq_of_lt h]
    rfl
  · rw [dif_neg h, sin_at i _ (by omega)]
    unfold sinL
    rw [if_neg h]
    simp only [show l.val % 64 % 32 = l.val % 64 - 32 by omega]

theorem word_eighth' : Ideal.ofBits .f32 0x3E000000#32 = ((1 / 8 : ℝ) : EReal) := by
  simp [Ideal.ofBits, Ideal.ieee, -EReal.coe_mul]; norm_num

theorem q_eq (h : Args m c A) (i : Fin 4096) (l : Fin 1024) :
    (V m c main_v60 : FVec Ideal S4096x1024 .bf16) (ix2 i l)
      = ((A.q ⟨l.val / 64, by omega⟩ i ⟨l.val % 64, by omega⟩ * (1 / 8) : ℝ) : EReal) := by
  simp only [V]
  entry_read
  pointwise [dot_S4096x1024_S1024x1536_S4096x1536_1_0_0_1_n_n]
  simp only [h.x, h.g, h.w, h.b, mul_coe, coe_sum, word_1024, div_1024, word_eps, add_coe, rsqrt_ms, word_eighth', A.qkv_fold]
  unfold Arrays.q
  by_cases hl : l.val % 64 < 32
  · simp only [dif_pos hl, cos_at i _ hl, sin_at i _ hl, mul_coe, sub_coe, add_coe, Nat.add_comm 32 (l.val % 64)]
    exact congrArg (fun z : ℝ => ((z * (1 / 8) : ℝ) : EReal)) (rot_lo (fun e : Fin 64 => A.qkv i ⟨l.val / 64 * 64 + e.val, by omega⟩) i hl).symm
  · simp only [dif_neg hl, cos_at i _ (show l.val % 64 - 32 < 32 by omega), sin_at i _ (show l.val % 64 - 32 < 32 by omega), mul_coe, sub_coe, add_coe, show 32 + (l.val % 64 - 32) = l.val % 64 by omega]
    exact congrArg (fun z : ℝ => ((z * (1 / 8) : ℝ) : EReal)) (rot_hi (fun e : Fin 64 => A.qkv i ⟨l.val / 64 * 64 + e.val, by omega⟩) i _ hl).symm

set_option maxHeartbeats 1000000 in
theorem k_eq (h : Args m c A) (i : Fin 4096) (l : Fin 512) :
    (V m c main_v126 : FVec Ideal S4096x512 .bf16) (ix2 i l)
      = ((A.k ⟨l.val / 128, by omega⟩ i ⟨l.val % 64, by omega⟩ : ℝ) : EReal) := by
  have key : ∀ d (hm : d < 64), (⟨d, hm⟩ : Fin 64) = ⟨l.val % 64, by omega⟩ →
      ((rot (fun e => A.qkv i ⟨1024 + (l.val / 128 * 64 + e.val), by omega⟩) i ⟨d, hm⟩ : ℝ) : EReal)
        = ((A.k ⟨l.val / 128, by omega⟩ i ⟨l.val % 64, by omega⟩ : ℝ) : EReal) := fun d hm he => by rw [he]; rfl
  simp only [V]
  entry_read
  pointwise [dot_S4096x1024_S1024x1536_S4096x1536_1_0_0_1_n_n]
  simp only [h.x, h.g, h.w, h.b, mul_coe, coe_sum, word_1024, div_1024, word_eps, add_coe, rsqrt_ms, A.qkv_fold]
  split
  · refine Eq.trans ?_ (key (l.val % 128) (by omega) (Fin.ext (by dsimp only; omega)))
    by_cases hl : l.val % 128 < 32
    · simp only [dif_pos hl, cos_at i _ hl, sin_at i _ hl, mul_coe, sub_coe, add_coe, Nat.add_comm 32 (l.val % 128)]
      exact congrArg (fun z : ℝ => (z : EReal)) (rot_lo (fun e : Fin 64 => A.qkv i ⟨1024 + (l.val / 128 * 64 + e.val), by omega⟩) i hl).symm
    · simp only [dif_neg hl, cos_at i _ (show l.val % 128 - 32 < 32 by omega), sin_at i _ (show l.val % 128 - 32 < 32 by omega), mul_coe, sub_coe, add_coe, show 32 + (l.val % 128 - 32) = l.val % 128 by omega]
      exact congrArg (fun z : ℝ => (z : EReal)) (rot_hi (fun e : Fin 64 => A.qkv i ⟨1024 + (l.val / 128 * 64 + e.val), by omega⟩) i _ hl).symm
  · refine Eq.trans ?_ (key (l.val % 128 - 64) (by omega) (Fin.ext (by dsimp only; omega)))
    by_cases hl : l.val % 128 - 64 < 32
    · simp only [dif_pos hl, cos_at i _ hl, sin_at i _ hl, mul_coe, sub_coe, add_coe, Nat.add_comm 32 (l.val % 128 - 64)]
      exact congrArg (fun z : ℝ => (z : EReal)) (rot_lo (fun e : Fin 64 => A.qkv i ⟨1024 + (l.val / 128 * 64 + e.val), by omega⟩) i hl).symm
    · simp only [dif_neg hl, cos_at i _ (show l.val % 128 - 64 - 32 < 32 by omega), sin_at i _ (show l.val % 128 - 64 - 32 < 32 by omega), mul_coe, sub_coe, add_coe, show 32 + (l.val % 128 - 64 - 32) = l.val % 128 - 64 by omega]
      exact congrArg (fun z : ℝ => (z : EReal)) (rot_hi (fun e : Fin 64 => A.qkv i ⟨1024 + (l.val / 128 * 64 + e.val), by omega⟩) i _ hl).symm

theorem v_eq (h : Args m c A) (i : Fin 4096) (l : Fin 512) :
    (V m c main_v129 : FVec Ideal S4096x512 .bf16) (ix2 i l)
      = ((A.v ⟨l.val / 128, by omega⟩ i ⟨l.val % 64, by omega⟩ : ℝ) : EReal) := by
  have hd : l.val / 128 < 4 := by omega
  have key : ∀ d (hm : d < 64), (⟨1280 + (l.val / 128 * 64 + d), by omega⟩ : Fin 1536) = ⟨1280 + (l.val / 128 * 64 + l.val % 64), by omega⟩ → ((A.qkv i ⟨1280 + (l.val / 128 * 64 + d), by omega⟩ : ℝ) : EReal)
      = ((A.v ⟨l.val / 128, by omega⟩ i ⟨l.val % 64, by omega⟩ : ℝ) : EReal) := fun d hm he => by
    rw [he]; rfl
  simp only [V]
  entry_read
  pointwise [dot_S4096x1024_S1024x1536_S4096x1536_1_0_0_1_n_n]
  simp only [h.x, h.g, h.w, h.b, mul_coe, coe_sum, word_1024, div_1024, word_eps, add_coe, rsqrt_ms]
  split
  · exact key _ (by omega) (Fin.ext (by dsimp only; omega))
  · exact key _ (by omega) (Fin.ext (by dsimp only; omega))

/-- The rows a block of the call holds, tile by tile of 128 lanes. -/
theorem block_sinks (h : Args m c A) (t : Fin cfg0.N) (u : Fin 16) :
    (iblk m c 0 t : Vec Ideal S1x16 .f32) (ix2 0 u) = ((A.sinks u : ℝ) : EReal) := by
  refine Eq.trans ?_ (congrFun h.sink (ix2 0 u))
  blk_simp [iblk, V, idx t]
  entry_read
  blk_ext [iblk, V, idx t, row]

theorem block_q (h : Args m c A) (t : Fin cfg0.N) (a : Fin 128) (l : Fin 1024) :
    (iblk m c 1 t : Vec Ideal S128x1024 .bf16) (ix2 a l)
      = ((A.q ⟨l.val / 64, by omega⟩ (row t.val a) ⟨l.val % 64, by omega⟩ * (1 / 8) : ℝ) : EReal) := by
  refine Eq.trans ?_ (q_eq h (row t.val a) l)
  blk_ext [iblk, idx t, row]

theorem block_k (h : Args m c A) (t : Fin cfg0.N) (a : Fin 128) (l : Fin 512) :
    (iblk m c 2 t : Vec Ideal S128x512 .bf16) (ix2 a l)
      = ((A.k ⟨l.val / 128, by omega⟩ (row t.val a) ⟨l.val % 64, by omega⟩ : ℝ) : EReal) := by
  refine Eq.trans ?_ (k_eq h (row t.val a) l)
  blk_ext [iblk, idx t, row]

theorem block_v (h : Args m c A) (t : Fin cfg0.N) (a : Fin 128) (l : Fin 512) :
    (iblk m c 3 t : Vec Ideal S128x512 .bf16) (ix2 a l)
      = ((A.v ⟨l.val / 128, by omega⟩ (row t.val a) ⟨l.val % 64, by omega⟩ : ℝ) : EReal) := by
  refine Eq.trans ?_ (v_eq h (row t.val a) l)
  blk_ext [iblk, idx t, row]

theorem block_dy (h : Args m c A) (t : Fin cfg0.N) (a : Fin 128) (l : Fin 1024) :
    (iblk m c 4 t : Vec Ideal S128x1024 .bf16) (ix2 a l)
      = ((A.dout ⟨l.val / 64, by omega⟩ (row t.val a) ⟨l.val % 64, by omega⟩ : ℝ) : EReal) := by
  have e : A.dout ⟨l.val / 64, by omega⟩ (row t.val a) ⟨l.val % 64, by omega⟩ = A.dy (ix3 0 (row t.val a) l) := by
    unfold Arrays.dout
    exact congrArg (fun j => A.dy (ix3 0 (row t.val a) j)) (Fin.ext (by dsimp only; omega))
  rw [e]
  refine Eq.trans ?_ (congrFun h.dy (ix3 0 (row t.val a) l))
  blk_simp [iblk, V, idx t]
  entry_read
  pointwise
  blk_ext [iblk, V, idx t, row]

theorem block_cos (t : Fin cfg0.N) (a l : Fin 128) :
    (iblk m c 5 t : Vec Ideal S128x128 .f32) (ix2 a l) = ((cosL (row t.val a) l : ℝ) : EReal) := by
  refine Eq.trans ?_ (cos_eq (m := m) (c := c) (row t.val a) l)
  blk_ext [iblk, idx t, row]

theorem block_sin (t : Fin cfg0.N) (a l : Fin 128) :
    (iblk m c 6 t : Vec Ideal S128x128 .f32) (ix2 a l) = ((sinL (row t.val a) l : ℝ) : EReal) := by
  refine Eq.trans ?_ (sin_eq (m := m) (c := c) (row t.val a) l)
  blk_ext [iblk, idx t, row]

end Cert.AttnBwd.Kernel

end
-- ==== Proof.AttnBwd.Scratch.lean ====
/- What a point of the attention gradient reads of the point before. -/
module

public import proofs.«01_k».proof.Proof.AttnBwd.Points
public import proofs.«01_k».proof.Proof.AttnBwd.Blocks

@[expose] public section

set_option maxRecDepth 16384

noncomputable section

namespace Cert.AttnBwd.Kernel

open Idealize.ShloMosaic Idealize.ShloMosaic.TcCoe Cert.AttnIdeal Cert.AttnIdeal.Gen Cert.AttnIdeal.Facts Cert.Reals Cert.Norm

variable {m : (ℓ : Loc nD τ sig) → Buf (Elt Ideal) ℓ} {c : Dev nD} {A : Arrays}

/-- Where the last stores cover an index, the earlier ones are not seen there. -/
theorem canon_head {s : Shape} {e : EltTy} (K L : List (View.Piece (Elt Ideal) s e)) (y : s.Idx) (hc : ∃ p ∈ K, y ∈ p.1.set) :
    View.canon (K ++ L) y = View.canon K y := by
  induction K with
  | nil => obtain ⟨p, hp, _⟩ := hc; exact absurd hp List.not_mem_nil
  | cons p K ih =>
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      obtain ⟨q, hq, hyq⟩ := hc
      rcases List.mem_cons.mp hq with rfl | hq
      · exact absurd hyq hm
      · exact ih ⟨q, hq, hyq⟩

/-- What the point before left. -/
abbrev before (m : (ℓ : Loc nD τ sig) → Buf (Elt Ideal) ℓ) (c : Dev nD) (t : Fin cfg0.N) := outsAt0 m c (t.val - 1) (lt_of_le_of_lt (Nat.sub_le _ _) t.isLt)

/-- The tiles of a point that goes on. -/
def tB (m : (ℓ : Loc nD τ sig) → Buf (Elt Ideal) ℓ) (c : Dev nD) (t : Fin cfg0.N) (h : Fin 4) : Tiles :=
  tilesOf (grid0.coords t) (iblk m c 0 t) (rd (hs0_1 t) (iblk m c 1 t)) (rd (hs0_4 t) (iblk m c 4 t)) (rd (hs0_2 t) (iblk m c 2 t)) (rd (hs0_3 t) (iblk m c 3 t))
    (rd (Memref.isWhole_whole cc0_scratch3) (before m c t).2.2.2.2.2.2.1) (rd (Memref.isWhole_whole cc0_scratch4) (before m c t).2.2.2.2.2.2.2.1) h

/-- A key head's columns. -/
def tile (h : Fin 4) : Rect S128x512 := Rect.unit ![0, h.val * 128] ![128, 128] (inb (by omega))

/-- A key head's tile of an array. -/
def tileAt (X : Vec Ideal S128x512 .bf16) (h : Fin 4) : FVec Ideal S128x128 .bf16 := View.ld X (tile h)

/-- What the first point reads back of the zeros it stored. -/
def first3 (h : Fin 4) : FVec Ideal S128x128 .bf16 :=
  (View.whole cc0_scratch3).readCov (Val := Elt Ideal) [⟨Rect.unit ![0, 0] ![128, 512] (inb (by omega)), k0_pay10 (F := Ideal)⟩] (tile h).toLoadRect
def first4 (h : Fin 4) : FVec Ideal S128x128 .bf16 :=
  (View.whole cc0_scratch4).readCov (Val := Elt Ideal) [⟨Rect.unit ![0, 0] ![128, 512] (inb (by omega)), k0_pay11 (F := Ideal)⟩] (tile h).toLoadRect

theorem first3_eq (h : Fin 4) : first3 h = tileAt (k0_pay10 (F := Ideal)) h :=
  View.readCov_fill (Val := Elt Ideal) (View.whole cc0_scratch3) (off := ![0, 0]) (inb (by omega)) (k0_pay10 (F := Ideal)) [] (tile h) (by decide)
theorem first4_eq (h : Fin 4) : first4 h = tileAt (k0_pay11 (F := Ideal)) h :=
  View.readCov_fill (Val := Elt Ideal) (View.whole cc0_scratch4) (off := ![0, 0]) (inb (by omega)) (k0_pay11 (F := Ideal)) [] (tile h) (by decide)

/-- The tiles of the first point, whose kept keys and values are the zeros just stored. -/
def tA (m : (ℓ : Loc nD τ sig) → Buf (Elt Ideal) ℓ) (c : Dev nD) (t : Fin cfg0.N) (h : Fin 4) : Tiles where
  w := k0_pay14 (grid0.coords t)
  s := (tilesOf (grid0.coords t) (iblk m c 0 t) (rd (hs0_1 t) (iblk m c 1 t)) (rd (hs0_4 t) (iblk m c 4 t)) (rd (hs0_2 t) (iblk m c 2 t)) (rd (hs0_3 t) (iblk m c 3 t))
    (k0_pay10 (F := Ideal)) (k0_pay11 (F := Ideal)) h).s
  q0 := View.ld (rd (hs0_1 t) (iblk m c 1 t)) (Rect.unit ![0, h.val * 256] ![128, 128] (inb (by omega)))
  q1 := View.ld (rd (hs0_1 t) (iblk m c 1 t)) (Rect.unit ![0, h.val * 256 + 128] ![128, 128] (inb (by omega)))
  d0 := View.ld (rd (hs0_4 t) (iblk m c 4 t)) (Rect.unit ![0, h.val * 256] ![128, 128] (inb (by omega)))
  d1 := View.ld (rd (hs0_4 t) (iblk m c 4 t)) (Rect.unit ![0, h.val * 256 + 128] ![128, 128] (inb (by omega)))
  kp := first3 h
  kc := View.ld (rd (hs0_2 t) (iblk m c 2 t)) (tile h)
  vp := first4 h
  vc := View.ld (rd (hs0_3 t) (iblk m c 3 t)) (tile h)

theorem tA_eq (t : Fin cfg0.N) (h : Fin 4) : tA m c t h
    = tilesOf (grid0.coords t) (iblk m c 0 t) (rd (hs0_1 t) (iblk m c 1 t)) (rd (hs0_4 t) (iblk m c 4 t)) (rd (hs0_2 t) (iblk m c 2 t)) (rd (hs0_3 t) (iblk m c 3 t))
      (k0_pay10 (F := Ideal)) (k0_pay11 (F := Ideal)) h := by
  unfold tA
  rw [first3_eq, first4_eq]
  rfl

theorem coord (t : Fin cfg0.N) : ((grid0.coords t) 0).val = t.val := (by decide +kernel : ∀ t : Fin grid0.N, ((grid0.coords t) 0).val = t.val) t

theorem count : cfg0.N = 33 := N_0

theorem zero_K (y : S128x512.Idx) : (k0_pay10 (F := Ideal)) y = ((0 : ℝ) : EReal) := by
  unfold_payloads
  pointwise
  exact EReal.coe_zero.symm

theorem zero_V (y : S128x512.Idx) : (k0_pay11 (F := Ideal)) y = ((0 : ℝ) : EReal) := by
  unfold_payloads
  pointwise
  exact EReal.coe_zero.symm

/-- The two copies. -/
theorem kp_eq (t : Fin cfg0.N) (y : S128x512.Idx) : (outsAt0 m c t.val t.isLt).2.2.2.2.2.2.1 y = (iblk m c 2 t : Vec Ideal S128x512 .bf16) y := by
  by_cases h0 : t.val % 33 = 0
  · rw [outsAt0_A m c t h0]
    frame_open
    frame_out
    unfold_payloads
    idx_vars y
    pointwise
  · rw [outsAt0_B m c t h0]
    frame_open
    frame_out
    unfold_payloads
    idx_vars y
    pointwise

theorem vp_eq (t : Fin cfg0.N) (y : S128x512.Idx) : (outsAt0 m c t.val t.isLt).2.2.2.2.2.2.2.1 y = (iblk m c 3 t : Vec Ideal S128x512 .bf16) y := by
  by_cases h0 : t.val % 33 = 0
  · rw [outsAt0_A m c t h0]
    frame_open
    frame_out
    unfold_payloads
    idx_vars y
    pointwise
  · rw [outsAt0_B m c t h0]
    frame_open
    frame_out
    unfold_payloads
    idx_vars y
    pointwise

theorem cos_kept (t : Fin cfg0.N) (y : S128x128.Idx) : (outsAt0 m c t.val t.isLt).2.2.2.2.2.2.2.2.1 y = (iblk m c 5 t : Vec Ideal S128x128 .f32) y := by
  by_cases h0 : t.val % 33 = 0
  · rw [outsAt0_A m c t h0]
    frame_open
    frame_out
    unfold_payloads
    idx_vars y
    pointwise
  · rw [outsAt0_B m c t h0]
    frame_open
    frame_out
    unfold_payloads
    idx_vars y
    pointwise

theorem sin_kept (t : Fin cfg0.N) (y : S128x128.Idx) : (outsAt0 m c t.val t.isLt).2.2.2.2.2.2.2.2.2 y = (iblk m c 6 t : Vec Ideal S128x128 .f32) y := by
  by_cases h0 : t.val % 33 = 0
  · rw [outsAt0_A m c t h0]
    frame_open
    frame_out
    unfold_payloads
    idx_vars y
    pointwise
  · rw [outsAt0_B m c t h0]
    frame_open
    frame_out
    unfold_payloads
    idx_vars y
    pointwise

/-- The point before, by its number. -/
abbrev back (t : Fin cfg0.N) : Fin cfg0.N := ⟨t.val - 1, lt_of_le_of_lt (Nat.sub_le _ _) t.isLt⟩

theorem keys_old (k : Fin 4096 → Fin 64 → ℝ) {n : ℕ} (hn : n ≠ 0) (a : Fin 128) (d : Fin 64) : keys k n (Arrays.old a) d = k (row (n - 1) a) d := by
  unfold keys
  rw [dif_pos (by simp only [Arrays.old]; omega), if_neg hn]
  rfl

theorem keys_first (k : Fin 4096 → Fin 64 → ℝ) (a : Fin 128) (d : Fin 64) : keys k 0 (Arrays.old a) d = 0 := by
  unfold keys
  rw [dif_pos (by simp only [Arrays.old]; omega), if_pos rfl]

theorem holdsA (ha : Args m c A) (t : Fin cfg0.N) (h0 : t.val = 0) (h : Fin 4) : Holds (tA m c t h) A t.val h := by
  rw [tA_eq]
  refine holds (by omega) ⟨coord t, block_sinks ha t, ?_, ?_, ?_, ?_, ?_, ?_⟩ h
  · intro a l; rw [rd_eq]; exact block_q ha t a l
  · intro a l; rw [rd_eq]; exact block_dy ha t a l
  · intro a l; rw [rd_eq]; exact block_k ha t a l
  · intro a l; rw [rd_eq]; exact block_v ha t a l
  · intro a l; rw [zero_K, h0, keys_first]
  · intro a l; rw [zero_V, h0, keys_first]

theorem holdsB (ha : Args m c A) (t : Fin cfg0.N) (h0 : t.val ≠ 0) (h : Fin 4) : Holds (tB m c t h) A t.val h := by
  have ht : t.val < 33 := lt_of_lt_of_eq t.isLt count
  refine holds ht ⟨coord t, block_sinks ha t, ?_, ?_, ?_, ?_, ?_, ?_⟩ h
  · intro a l; rw [rd_eq]; exact block_q ha t a l
  · intro a l; rw [rd_eq]; exact block_dy ha t a l
  · intro a l; rw [rd_eq]; exact block_k ha t a l
  · intro a l; rw [rd_eq]; exact block_v ha t a l
  · intro a l; rw [rd_eq, keys_old _ h0]; exact (kp_eq (back t) (ix2 a l)).trans (block_k ha (back t) a l)
  · intro a l; rw [rd_eq, keys_old _ h0]; exact (vp_eq (back t) (ix2 a l)).trans (block_v ha (back t) a l)

theorem hcos (t : Fin cfg0.N) (a l : Fin 128) : rd (hs0_5 t) (iblk m c 5 t) (ix2 a l) = ((cosL (row t.val a) l : ℝ) : EReal) := by
  rw [rd_eq]; exact block_cos t a l

theorem hsin (t : Fin cfg0.N) (a l : Fin 128) : rd (hs0_6 t) (iblk m c 6 t) (ix2 a l) = ((sinL (row t.val a) l : ℝ) : EReal) := by
  rw [rd_eq]; exact block_sin t a l

end Cert.AttnBwd.Kernel

end
-- ==== Proof.AttnBwd.Kept.lean ====
/- What the scratch of the attention gradient holds after every point. -/
module

public import proofs.«01_k».proof.Proof.AttnBwd.Scratch

@[expose] public section

set_option maxRecDepth 16384

noncomputable section

namespace Cert.AttnBwd.Kernel

open Idealize.ShloMosaic Idealize.ShloMosaic.TcCoe Cert.AttnIdeal Cert.AttnIdeal.Gen Cert.AttnIdeal.Facts Cert.Reals Cert.Norm

variable {m : (ℓ : Loc nD τ sig) → Buf (Elt Ideal) ℓ} {c : Dev nD} {A : Arrays}

/-- What is kept of the keys' and of the values' gradient. -/
def keptK (A : Arrays) (n : ℕ) (a : Fin 128) (l : Fin 512) : ℝ :=
  rotT (halfSum (A.dS n ⟨l.val / 128, by omega⟩) (A.qs n ⟨l.val / 128, by omega⟩) (Arrays.own a) (half ⟨l.val % 128, by omega⟩)) (row n a) (place ⟨l.val % 128, by omega⟩)
def keptW (A : Arrays) (n : ℕ) (a : Fin 128) (l : Fin 512) : ℝ :=
  halfSum (A.P n ⟨l.val / 128, by omega⟩) (A.os n ⟨l.val / 128, by omega⟩) (Arrays.own a) (half ⟨l.val % 128, by omega⟩) (place ⟨l.val % 128, by omega⟩)

theorem head_ix {o : ℕ} {h : Fin 4} (ho : o = h.val * 128) (l : Fin 128) (j : Fin 512) (hj : j.val = o + l.val) :
    (⟨j.val / 128, by omega⟩ : Fin 4) = h ∧ (⟨j.val % 128, by omega⟩ : Fin 128) = l :=
  ⟨Fin.ext (by dsimp only; omega), Fin.ext (by dsimp only; omega)⟩

theorem dk_close {T : Tiles} {n : ℕ} {h : Fin 4} {co si : FVec Ideal S128x128 .f32} (H : Holds T A n h)
    (hc : ∀ a l, co (ix2 a l) = ((cosL (row n a) l : ℝ) : EReal)) (hs : ∀ a l, si (ix2 a l) = ((sinL (row n a) l : ℝ) : EReal))
    {y : S128x512.Idx} {x : S128x128.Idx} {o : ℕ} (h0 : (y 0).val = (x 0).val) (h1 : (y 1).val = o + (x 1).val) (ho : o = h.val * 128)
    {X : EReal} (e : X = keepK T.dk co si x) : X = ((keptK A n (y 0) (y 1) : ℝ) : EReal) := by
  have e0 : y 0 = x 0 := Fin.ext h0
  obtain ⟨e1, e2⟩ := head_ix ho (x 1) (y 1) h1
  unfold keptK
  rw [e, e0, e1, e2]
  idx_vars x
  exact keepK_at H hc hs x0 x1

theorem dv_close {T : Tiles} {n : ℕ} {h : Fin 4} (H : Holds T A n h)
    {y : S128x512.Idx} {x : S128x128.Idx} {o : ℕ} (h0 : (y 0).val = (x 0).val) (h1 : (y 1).val = o + (x 1).val) (ho : o = h.val * 128)
    {X : EReal} (e : X = keepW T.dv x) : X = ((keptW A n (y 0) (y 1) : ℝ) : EReal) := by
  have e0 : y 0 = x 0 := Fin.ext h0
  obtain ⟨e1, e2⟩ := head_ix ho (x 1) (y 1) h1
  unfold keptW
  rw [e, e0, e1, e2]
  idx_vars x
  exact keepW_at H x0 x1

set_option maxHeartbeats 4000000 in
/-- The queries' gradient is kept for the next point. -/
theorem dq_kept (ha : Args m c A) (t : Fin cfg0.N) (y : S128x1024.Idx) : (outsAt0 m c t.val t.isLt).2.2.2.1 y
    = ((A.dq t.val ⟨(y 1).val / 64, by have := (y 1).isLt; simp at this; omega⟩ (y 0) ⟨(y 1).val % 64, by omega⟩ : ℝ) : EReal) := by
  have ht : t.val < 33 := lt_of_lt_of_eq t.isLt count
  by_cases h0 : t.val % 33 = 0
  · have H := holdsA ha t (by omega)
    rw [outsAt0_A m c t h0]
    frame_open
    simp (disch := decide) only [↓ View.readCov_skip, ↓ View.readCov_cons_toLoadRect, ↓ View.readCov_fill]
    frame_out
    refine (canon_head [_, _, _, _, _, _, _, _] _ y (View.cover_of_tiledBy _ ![128, 128] (by sl_kernel_rfl) y)).trans ?_
    canon_tiles x hx using View.cover_of_tiledBy _ ![128,128] (by sl_kernel_rfl) _
    case piece7 => exact dq_close0 (H 0) (block_cos (m := m) (c := c) t) (block_sin (m := m) (c := c) t) hx0 (hx1.trans (Nat.zero_add _).symm) rfl (by sl_kernel_rfl)
    case piece6 => exact dq_close1 (H 0) (block_cos (m := m) (c := c) t) (block_sin (m := m) (c := c) t) hx0 hx1 rfl (by sl_kernel_rfl)
    case piece5 => exact dq_close0 (H 1) (block_cos (m := m) (c := c) t) (block_sin (m := m) (c := c) t) hx0 hx1 rfl (by sl_kernel_rfl)
    case piece4 => exact dq_close1 (H 1) (block_cos (m := m) (c := c) t) (block_sin (m := m) (c := c) t) hx0 hx1 rfl (by sl_kernel_rfl)
    case piece3 => exact dq_close0 (H 2) (block_cos (m := m) (c := c) t) (block_sin (m := m) (c := c) t) hx0 hx1 rfl (by sl_kernel_rfl)
    case piece2 => exact dq_close1 (H 2) (block_cos (m := m) (c := c) t) (block_sin (m := m) (c := c) t) hx0 hx1 rfl (by sl_kernel_rfl)
    case piece1 => exact dq_close0 (H 3) (block_cos (m := m) (c := c) t) (block_sin (m := m) (c := c) t) hx0 hx1 rfl (by sl_kernel_rfl)
    case piece0 => exact dq_close1 (H 3) (block_cos (m := m) (c := c) t) (block_sin (m := m) (c := c) t) hx0 hx1 rfl (by sl_kernel_rfl)
  · have H := holdsB ha t (by omega)
    rw [outsAt0_B m c t h0]
    frame_open
    simp (disch := decide) only [↓ View.readCov_skip, ↓ View.readCov_cons_toLoadRect, ↓ View.readCov_fill]
    frame_out
    canon_tiles x hx using View.cover_of_tiledBy _ ![128,128] (by sl_kernel_rfl) _
    case piece7 => exact dq_close0 (H 0) (block_cos (m := m) (c := c) t) (block_sin (m := m) (c := c) t) hx0 (hx1.trans (Nat.zero_add _).symm) rfl (by sl_kernel_rfl)
    case piece6 => exact dq_close1 (H 0) (block_cos (m := m) (c := c) t) (block_sin (m := m) (c := c) t) hx0 hx1 rfl (by sl_kernel_rfl)
    case piece5 => exact dq_close0 (H 1) (block_cos (m := m) (c := c) t) (block_sin (m := m) (c := c) t) hx0 hx1 rfl (by sl_kernel_rfl)
    case piece4 => exact dq_close1 (H 1) (block_cos (m := m) (c := c) t) (block_sin (m := m) (c := c) t) hx0 hx1 rfl (by sl_kernel_rfl)
    case piece3 => exact dq_close0 (H 2) (block_cos (m := m) (c := c) t) (block_sin (m := m) (c := c) t) hx0 hx1 rfl (by sl_kernel_rfl)
    case piece2 => exact dq_close1 (H 2) (block_cos (m := m) (c := c) t) (block_sin (m := m) (c := c) t) hx0 hx1 rfl (by sl_kernel_rfl)
    case piece1 => exact dq_close0 (H 3) (block_cos (m := m) (c := c) t) (block_sin (m := m) (c := c) t) hx0 hx1 rfl (by sl_kernel_rfl)
    case piece0 => exact dq_close1 (H 3) (block_cos (m := m) (c := c) t) (block_sin (m := m) (c := c) t) hx0 hx1 rfl (by sl_kernel_rfl)

set_option maxHeartbeats 4000000 in
/-- So is the keys', as far as the block itself gives it. -/
theorem dk_kept (ha : Args m c A) (t : Fin cfg0.N) (y : S128x512.Idx) : (outsAt0 m c t.val t.isLt).2.2.2.2.1 y = ((keptK A t.val (y 0) (y 1) : ℝ) : EReal) := by
  have ht : t.val < 33 := lt_of_lt_of_eq t.isLt count
  by_cases h0 : t.val % 33 = 0
  · have H := holdsA ha t (by omega)
    rw [outsAt0_A m c t h0]
    frame_open
    simp (disch := decide) only [↓ View.readCov_skip, ↓ View.readCov_cons_toLoadRect, ↓ View.readCov_fill]
    frame_out
    refine (canon_head [_, _, _, _] _ y (View.cover_of_tiledBy _ ![128, 128] (by sl_kernel_rfl) y)).trans ?_
    canon_tiles x hx using View.cover_of_tiledBy _ ![128,128] (by sl_kernel_rfl) _
    case piece3 => exact dk_close (H 0) (block_cos (m := m) (c := c) t) (block_sin (m := m) (c := c) t) hx0 (hx1.trans (Nat.zero_add _).symm) rfl (by sl_kernel_rfl)
    case piece2 => exact dk_close (H 1) (block_cos (m := m) (c := c) t) (block_sin (m := m) (c := c) t) hx0 hx1 rfl (by sl_kernel_rfl)
    case piece1 => exact dk_close (H 2) (block_cos (m := m) (c := c) t) (block_sin (m := m) (c := c) t) hx0 hx1 rfl (by sl_kernel_rfl)
    case piece0 => exact dk_close (H 3) (block_cos (m := m) (c := c) t) (block_sin (m := m) (c := c) t) hx0 hx1 rfl (by sl_kernel_rfl)
  · have H := holdsB ha t (by omega)
    rw [outsAt0_B m c t h0]
    frame_open
    simp (disch := decide) only [↓ View.readCov_skip, ↓ View.readCov_cons_toLoadRect, ↓ View.readCov_fill]
    frame_out
    canon_tiles x hx using View.cover_of_tiledBy _ ![128,128] (by sl_kernel_rfl) _
    case piece3 => exact dk_close (H 0) (block_cos (m := m) (c := c) t) (block_sin (m := m) (c := c) t) hx0 (hx1.trans (Nat.zero_add _).symm) rfl (by sl_kernel_rfl)
    case piece2 => exact dk_close (H 1) (block_cos (m := m) (c := c) t) (block_sin (m := m) (c := c) t) hx0 hx1 rfl (by sl_kernel_rfl)
    case piece1 => exact dk_close (H 2) (block_cos (m := m) (c := c) t) (block_sin (m := m) (c := c) t) hx0 hx1 rfl (by sl_kernel_rfl)
    case piece0 => exact dk_close (H 3) (block_cos (m := m) (c := c) t) (block_sin (m := m) (c := c) t) hx0 hx1 rfl (by sl_kernel_rfl)

set_option maxHeartbeats 4000000 in
/-- And the values'. -/
theorem dv_kept (ha : Args m c A) (t : Fin cfg0.N) (y : S128x512.Idx) : (outsAt0 m c t.val t.isLt).2.2.2.2.2.1 y = ((keptW A t.val (y 0) (y 1) : ℝ) : EReal) := by
  have ht : t.val < 33 := lt_of_lt_of_eq t.isLt count
  by_cases h0 : t.val % 33 = 0
  · have H := holdsA ha t (by omega)
    rw [outsAt0_A m c t h0]
    frame_open
    simp (disch := decide) only [↓ View.readCov_skip, ↓ View.readCov_cons_toLoadRect, ↓ View.readCov_fill]
    frame_out
    refine (canon_head [_, _, _, _] _ y (View.cover_of_tiledBy _ ![128, 128] (by sl_kernel_rfl) y)).trans ?_
    canon_tiles x hx using View.cover_of_tiledBy _ ![128,128] (by sl_kernel_rfl) _
    case piece3 => exact dv_close (H 0) hx0 (hx1.trans (Nat.zero_add _).symm) rfl (by sl_kernel_rfl)
    case piece2 => exact dv_close (H 1) hx0 hx1 rfl (by sl_kernel_rfl)
    case piece1 => exact dv_close (H 2) hx0 hx1 rfl (by sl_kernel_rfl)
    case piece0 => exact dv_close (H 3) hx0 hx1 rfl (by sl_kernel_rfl)
  · have H := holdsB ha t (by omega)
    rw [outsAt0_B m c t h0]
    frame_open
    simp (disch := decide) only [↓ View.readCov_skip, ↓ View.readCov_cons_toLoadRect, ↓ View.readCov_fill]
    frame_out
    canon_tiles x hx using View.cover_of_tiledBy _ ![128,128] (by sl_kernel_rfl) _
    case piece3 => exact dv_close (H 0) hx0 (hx1.trans (Nat.zero_add _).symm) rfl (by sl_kernel_rfl)
    case piece2 => exact dv_close (H 1) hx0 hx1 rfl (by sl_kernel_rfl)
    case piece1 => exact dv_close (H 2) hx0 hx1 rfl (by sl_kernel_rfl)
    case piece0 => exact dv_close (H 3) hx0 hx1 rfl (by sl_kernel_rfl)

end Cert.AttnBwd.Kernel

end
-- ==== Proof.AttnBwd.Outs.lean ====
/- What a point of the attention gradient writes. -/
module

public import proofs.«01_k».proof.Proof.AttnBwd.Kept

@[expose] public section

set_option maxRecDepth 16384

noncomputable section

namespace Cert.AttnBwd.Kernel

open Idealize.ShloMosaic Idealize.ShloMosaic.TcCoe Cert.AttnIdeal Cert.AttnIdeal.Gen Cert.AttnIdeal.Facts Cert.Reals Cert.Norm

variable {m : (ℓ : Loc nD τ sig) → Buf (Elt Ideal) ℓ} {c : Dev nD} {A : Arrays}

/-- The tiles of the finished parts: of the queries as they were kept, and of two key heads side by side. -/
def keptQ (m : (ℓ : Loc nD τ sig) → Buf (Elt Ideal) ℓ) (c : Dev nD) (t : Fin cfg0.N) (k : Fin 8) : FVec Ideal S128x128 .bf16 :=
  View.ld (rd (Memref.isWhole_whole cc0_scratch0) (before m c t).2.2.2.1) (Rect.unit (s := S128x1024) ![0, k.val * 128] ![128, 128] (inb (by omega)))
def heldK (m : (ℓ : Loc nD τ sig) → Buf (Elt Ideal) ℓ) (c : Dev nD) (t : Fin cfg0.N) (h : Fin 4) : FVec Ideal S128x128 .f32 :=
  View.ld (rd (Memref.isWhole_whole cc0_scratch1) (before m c t).2.2.2.2.1) (tile h)
def heldW (m : (ℓ : Loc nD τ sig) → Buf (Elt Ideal) ℓ) (c : Dev nD) (t : Fin cfg0.N) (h : Fin 4) : FVec Ideal S128x128 .f32 :=
  View.ld (rd (Memref.isWhole_whole cc0_scratch2) (before m c t).2.2.2.2.2.1) (tile h)
def heldC (m : (ℓ : Loc nD τ sig) → Buf (Elt Ideal) ℓ) (c : Dev nD) (t : Fin cfg0.N) : FVec Ideal S128x128 .f32 :=
  rd (Memref.isWhole_whole cc0_scratch5) (before m c t).2.2.2.2.2.2.2.2.1
def heldS (m : (ℓ : Loc nD τ sig) → Buf (Elt Ideal) ℓ) (c : Dev nD) (t : Fin cfg0.N) : FVec Ideal S128x128 .f32 :=
  rd (Memref.isWhole_whole cc0_scratch6) (before m c t).2.2.2.2.2.2.2.2.2
def doneKs (m : (ℓ : Loc nD τ sig) → Buf (Elt Ideal) ℓ) (c : Dev nD) (t : Fin cfg0.N) (p : Fin 2) : FVec Ideal S128x128 .f32 :=
  pairV (doneK (tB m c t (hOf p 0)).dk (heldK m c t (hOf p 0)) (heldC m c t) (heldS m c t)) (doneK (tB m c t (hOf p 1)).dk (heldK m c t (hOf p 1)) (heldC m c t) (heldS m c t))
def doneWs (m : (ℓ : Loc nD τ sig) → Buf (Elt Ideal) ℓ) (c : Dev nD) (t : Fin cfg0.N) (p : Fin 2) : FVec Ideal S128x128 .f32 :=
  pairV (doneW (tB m c t (hOf p 0)).dv (heldW m c t (hOf p 0))) (doneW (tB m c t (hOf p 1)).dv (heldW m c t (hOf p 1)))

theorem tile_at {φ : EltTy} (X : S128x512.Idx → Elt Ideal φ) (h : Fin 4) (a l : Fin 128) : View.ld X (tile h) (ix2 a l) = X (ix2 a ⟨h.val * 128 + l.val, by omega⟩) :=
  ld_at X (by omega) a l

theorem keptQ_at (ha : Args m c A) (t : Fin cfg0.N) (k : Fin 8) (a l : Fin 128) :
    keptQ m c t k (ix2 a l) = ((A.dz (t.val - 1) a ⟨k.val * 128 + l.val, by omega⟩ : ℝ) : EReal) := by
  unfold keptQ
  rw [rd_eq]
  refine (ld_at (before m c t).2.2.2.1 (o := k.val * 128) (by omega) a l).trans ((dq_kept ha (back t) _).trans ?_)
  unfold Arrays.dz
  rw [dif_pos (by dsimp only; omega)]
  rfl

theorem heldK_at (ha : Args m c A) (t : Fin cfg0.N) (h : Fin 4) (a l : Fin 128) : heldK m c t h (ix2 a l)
    = ((rotT (halfSum (A.dS (t.val - 1) h) (A.qs (t.val - 1) h) (Arrays.own a) (half l)) (row (t.val - 1) a) (place l) : ℝ) : EReal) := by
  unfold heldK
  rw [rd_eq, tile_at]
  refine (dk_kept ha (back t) _).trans ?_
  obtain ⟨e1, e2⟩ := head_ix (h := h) rfl l ⟨h.val * 128 + l.val, by omega⟩ rfl
  show ((keptK A (t.val - 1) a ⟨h.val * 128 + l.val, _⟩ : ℝ) : EReal) = _
  unfold keptK
  rw [e1, e2]

theorem heldW_at (ha : Args m c A) (t : Fin cfg0.N) (h : Fin 4) (a l : Fin 128) : heldW m c t h (ix2 a l)
    = ((halfSum (A.P (t.val - 1) h) (A.os (t.val - 1) h) (Arrays.own a) (half l) (place l) : ℝ) : EReal) := by
  unfold heldW
  rw [rd_eq, tile_at]
  refine (dv_kept ha (back t) _).trans ?_
  obtain ⟨e1, e2⟩ := head_ix (h := h) rfl l ⟨h.val * 128 + l.val, by omega⟩ rfl
  show ((keptW A (t.val - 1) a ⟨h.val * 128 + l.val, _⟩ : ℝ) : EReal) = _
  unfold keptW
  rw [e1, e2]

theorem heldC_at (t : Fin cfg0.N) (a l : Fin 128) : heldC m c t (ix2 a l) = ((cosL (row (t.val - 1) a) l : ℝ) : EReal) := by
  unfold heldC
  rw [rd_eq]
  exact (cos_kept (back t) _).trans (block_cos (back t) a l)

theorem heldS_at (t : Fin cfg0.N) (a l : Fin 128) : heldS m c t (ix2 a l) = ((sinL (row (t.val - 1) a) l : ℝ) : EReal) := by
  unfold heldS
  rw [rd_eq]
  exact (sin_kept (back t) _).trans (block_sin (back t) a l)

theorem doneKs_at (ha : Args m c A) (t : Fin cfg0.N) (h0 : t.val ≠ 0) (p : Fin 2) (a l : Fin 128) :
    doneKs m c t p (ix2 a l) = ((A.dz (t.val - 1) a ⟨1024 + p.val * 128 + l.val, by omega⟩ : ℝ) : EReal) := by
  refine (pairK_at h0 (holdsB ha t h0 _) (holdsB ha t h0 _) (heldK_at ha t _) (heldK_at ha t _) (heldC_at t) (heldS_at t) a l).trans ?_
  unfold Arrays.dz
  rw [dif_neg (by dsimp only; omega), dif_pos (by dsimp only; omega)]
  refine congrArg (fun r : ℝ => (r : EReal)) (congrArg₂ (fun h d => A.dk (t.val - 1) h a d) (Fin.ext ?_) (Fin.ext ?_))
  · simp only [hOf, half]; omega
  · simp only [place]; omega

theorem doneWs_at (ha : Args m c A) (t : Fin cfg0.N) (h0 : t.val ≠ 0) (p : Fin 2) (a l : Fin 128) :
    doneWs m c t p (ix2 a l) = ((A.dz (t.val - 1) a ⟨1280 + p.val * 128 + l.val, by omega⟩ : ℝ) : EReal) := by
  refine (pairW_at h0 (holdsB ha t h0 _) (holdsB ha t h0 _) (heldW_at ha t _) (heldW_at ha t _) a l).trans ?_
  unfold Arrays.dz
  rw [dif_neg (by dsimp only; omega), dif_neg (by dsimp only; omega)]
  refine congrArg (fun r : ℝ => (r : EReal)) (congrArg₂ (fun h d => A.dv (t.val - 1) h a d) (Fin.ext ?_) (Fin.ext ?_))
  · simp only [hOf, half]; omega
  · simp only [place]; omega

theorem dz_close {n o : ℕ} (ho : o + 128 ≤ 1536) {Z : S128x128.Idx → EReal} (hz : ∀ a l : Fin 128, Z (ix2 a l) = ((A.dz n a ⟨o + l.val, by omega⟩ : ℝ) : EReal))
    {y : S128x1536.Idx} {x : S128x128.Idx} (h0 : (y 0).val = (x 0).val) (h1 : (y 1).val = o + (x 1).val) {X : EReal} (e : X = Z x) :
    X = ((A.dz n (y 0) (y 1) : ℝ) : EReal) := by
  have e0 : y 0 = x 0 := Fin.ext h0
  rw [e, e0]
  idx_vars x
  rw [hz]
  exact congrArg (fun j => ((A.dz n x0 j : ℝ) : EReal)) (Fin.ext h1.symm)

theorem db_close {n o : ℕ} (ho : o + 128 ≤ 1536) {Z : FVec Ideal S128x128 .f32} (hz : ∀ a l : Fin 128, Z (ix2 a l) = ((A.dz n a ⟨o + l.val, by omega⟩ : ℝ) : EReal))
    {Y : S1x1536.Idx → EReal} {y : S1x1536.Idx} {x : S1x128.Idx} (h1 : (y 1).val = o + (x 1).val) {X : EReal}
    (e : X = sumV Z (View.ld (S := S1x1536) (e' := .f32) (Val := Elt Ideal) Y (Rect.unit ![0, o] ![1, 128] (inb ho))) x) :
    X = Y y + ((∑ a, A.dz n a (y 1) : ℝ) : EReal) := by
  rw [e]
  idx_vars x
  obtain rfl : x0 = 0 := Subsingleton.elim _ _
  rw [sum_at]
  refine congrArg₂ (· + ·) (congrArg Y (funext fun k => ?_)) ?_
  · fin_cases k
    · exact Subsingleton.elim (α := Fin 1) _ _
    · exact Fin.ext (by show o + 1 * x1.val = (y 1).val; have : (y 1).val = o + x1.val := h1; omega)
  · rw [← coe_sum]
    refine Finset.sum_congr rfl fun a _ => ?_
    rw [hz]
    exact congrArg (fun j => ((A.dz n a j : ℝ) : EReal)) (Fin.ext h1.symm)

set_option maxHeartbeats 4000000 in
/-- A later point writes the whole gradient of the block before. -/
theorem out_B (ha : Args m c A) (t : Fin cfg0.N) (h0 : ¬ t.val % 33 = 0) (y : S128x1536.Idx) :
    (outsAt0 m c t.val t.isLt).1 y = ((A.dz (t.val - 1) (y 0) (y 1) : ℝ) : EReal) := by
  have hn : t.val ≠ 0 := by omega
  rw [outsAt0_B m c t h0]
  frame_open
  simp (disch := decide) only [↓ View.readCov_skip, ↓ View.readCov_cons_toLoadRect, ↓ View.readCov_fill]
  frame_out
  canon_tiles x hx using View.cover_of_tiledBy _ ![128,128] (by sl_kernel_rfl) _
  case piece0 => exact dz_close (by decide) (doneWs_at ha t hn 1) hx0 hx1 (by sl_kernel_rfl)
  case piece1 => exact dz_close (by decide) (doneKs_at ha t hn 1) hx0 hx1 (by sl_kernel_rfl)
  case piece2 => exact dz_close (by decide) (doneWs_at ha t hn 0) hx0 hx1 (by sl_kernel_rfl)
  case piece3 => exact dz_close (by decide) (doneKs_at ha t hn 0) hx0 hx1 (by sl_kernel_rfl)
  case piece11 => exact dz_close (by decide) (keptQ_at ha t 0) hx0 (hx1.trans (Nat.zero_add _).symm) (by sl_kernel_rfl)
  case piece10 => exact dz_close (by decide) (keptQ_at ha t 1) hx0 hx1 (by sl_kernel_rfl)
  case piece9 => exact dz_close (by decide) (keptQ_at ha t 2) hx0 hx1 (by sl_kernel_rfl)
  case piece8 => exact dz_close (by decide) (keptQ_at ha t 3) hx0 hx1 (by sl_kernel_rfl)
  case piece7 => exact dz_close (by decide) (keptQ_at ha t 4) hx0 hx1 (by sl_kernel_rfl)
  case piece6 => exact dz_close (by decide) (keptQ_at ha t 5) hx0 hx1 (by sl_kernel_rfl)
  case piece5 => exact dz_close (by decide) (keptQ_at ha t 6) hx0 hx1 (by sl_kernel_rfl)
  case piece4 => exact dz_close (by decide) (keptQ_at ha t 7) hx0 hx1 (by sl_kernel_rfl)

set_option maxHeartbeats 4000000 in
/-- And adds its column sums to the bias' gradient. -/
theorem db_B (ha : Args m c A) (t : Fin cfg0.N) (h0 : ¬ t.val % 33 = 0) (y : S1x1536.Idx) :
    (outsAt0 m c t.val t.isLt).2.1 y = (before m c t).2.1 y + ((∑ a, A.dz (t.val - 1) a (y 1) : ℝ) : EReal) := by
  have hn : t.val ≠ 0 := by omega
  rw [outsAt0_B m c t h0]
  frame_open
  simp (disch := decide) only [↓ View.readCov_skip, ↓ View.readCov_cons_toLoadRect, ↓ View.readCov_fill]
  frame_out
  canon_tiles x hx using View.cover_of_tiledBy _ ![1,128] (by sl_kernel_rfl) _
  case piece0 => exact db_close (by decide) (doneWs_at ha t hn 1) hx1 (by sl_kernel_rfl)
  case piece1 => exact db_close (by decide) (doneKs_at ha t hn 1) hx1 (by sl_kernel_rfl)
  case piece2 => exact db_close (by decide) (doneWs_at ha t hn 0) hx1 (by sl_kernel_rfl)
  case piece3 => exact db_close (by decide) (doneKs_at ha t hn 0) hx1 (by sl_kernel_rfl)
  case piece11 => exact db_close (by decide) (keptQ_at ha t 0) (hx1.trans (Nat.zero_add _).symm) (by sl_kernel_rfl)
  case piece10 => exact db_close (by decide) (keptQ_at ha t 1) hx1 (by sl_kernel_rfl)
  case piece9 => exact db_close (by decide) (keptQ_at ha t 2) hx1 (by sl_kernel_rfl)
  case piece8 => exact db_close (by decide) (keptQ_at ha t 3) hx1 (by sl_kernel_rfl)
  case piece7 => exact db_close (by decide) (keptQ_at ha t 4) hx1 (by sl_kernel_rfl)
  case piece6 => exact db_close (by decide) (keptQ_at ha t 5) hx1 (by sl_kernel_rfl)
  case piece5 => exact db_close (by decide) (keptQ_at ha t 6) hx1 (by sl_kernel_rfl)
  case piece4 => exact db_close (by decide) (keptQ_at ha t 7) hx1 (by sl_kernel_rfl)

/-- The first point's finished parts: the zeros just stored, and keys of which nothing is seen. -/
def zeroQ (k : Fin 8) : FVec Ideal S128x128 .bf16 :=
  View.ld (S := S128x1024) (e' := .bf16) (Val := Elt Ideal) (k0_pay7 (F := Ideal)) (Rect.unit (s := S128x1024) ![0, k.val * 128] ![128, 128] (inb (by omega)))
def zeroKs (m : (ℓ : Loc nD τ sig) → Buf (Elt Ideal) ℓ) (c : Dev nD) (t : Fin cfg0.N) (p : Fin 2) : FVec Ideal S128x128 .f32 :=
  pairV (doneK (tA m c t (hOf p 0)).dk (View.ld (S := S128x512) (e' := .f32) (Val := Elt Ideal) (k0_pay8 (F := Ideal)) (tile (hOf p 0))) (k0_pay12 (F := Ideal)) (k0_pay13 (F := Ideal)))
    (doneK (tA m c t (hOf p 1)).dk (View.ld (S := S128x512) (e' := .f32) (Val := Elt Ideal) (k0_pay8 (F := Ideal)) (tile (hOf p 1))) (k0_pay12 (F := Ideal)) (k0_pay13 (F := Ideal)))
def zeroWs (m : (ℓ : Loc nD τ sig) → Buf (Elt Ideal) ℓ) (c : Dev nD) (t : Fin cfg0.N) (p : Fin 2) : FVec Ideal S128x128 .f32 :=
  pairV (doneW (tA m c t (hOf p 0)).dv (View.ld (S := S128x512) (e' := .f32) (Val := Elt Ideal) (k0_pay9 (F := Ideal)) (tile (hOf p 0)))) (doneW (tA m c t (hOf p 1)).dv (View.ld (S := S128x512) (e' := .f32) (Val := Elt Ideal) (k0_pay9 (F := Ideal)) (tile (hOf p 1))))

theorem zero_1024 (y : S128x1024.Idx) : (k0_pay7 (F := Ideal)) y = 0 := by unfold_payloads; pointwise
theorem zero_512 (y : S128x512.Idx) : (k0_pay8 (F := Ideal)) y = 0 := by unfold_payloads; pointwise
theorem zero_512' (y : S128x512.Idx) : (k0_pay9 (F := Ideal)) y = 0 := by unfold_payloads; pointwise
theorem zero_1536 (y : S1x1536.Idx) : (k0_pay5 (F := Ideal)) y = 0 := by unfold_payloads; pointwise

theorem zeroQ_at (k : Fin 8) (a l : Fin 128) : zeroQ k (ix2 a l) = 0 := zero_1024 _

theorem zeroKs_at (ha : Args m c A) (t : Fin cfg0.N) (h0 : t.val = 0) (p : Fin 2) (a l : Fin 128) : zeroKs m c t p (ix2 a l) = 0 := by
  have H : ∀ h, Holds (tA m c t h) A 0 h := fun h => h0 ▸ holdsA ha t h0 h
  exact pairK_zero (H _) (H _) _ _ (fun a l => zero_512 _) (fun a l => zero_512 _) a l

theorem zeroWs_at (ha : Args m c A) (t : Fin cfg0.N) (h0 : t.val = 0) (p : Fin 2) (a l : Fin 128) : zeroWs m c t p (ix2 a l) = 0 := by
  have H : ∀ h, Holds (tA m c t h) A 0 h := fun h => h0 ▸ holdsA ha t h0 h
  exact pairW_zero (H _) (H _) (fun a l => zero_512' _) (fun a l => zero_512' _) a l

theorem db_first {o : ℕ} (ho : o + 128 ≤ 1536) {Z : FVec Ideal S128x128 .f32} (hz : ∀ a l : Fin 128, Z (ix2 a l) = 0) {x : S1x128.Idx} {X : EReal}
    (e : X = sumV Z (View.ld (S := S1x1536) (e' := .f32) (Val := Elt Ideal) (k0_pay5 (F := Ideal)) (Rect.unit ![0, o] ![1, 128] (inb ho))) x) : X = 0 := by
  rw [e]
  idx_vars x
  obtain rfl : x0 = 0 := Subsingleton.elim _ _
  rw [sum_at]
  have z : (View.ld (S := S1x1536) (e' := .f32) (Val := Elt Ideal) (k0_pay5 (F := Ideal)) (Rect.unit ![0, o] ![1, 128] (inb ho))) (ix2 0 x1) = 0 := zero_1536 _
  rw [z, zero_add]
  exact Finset.sum_eq_zero fun a _ => hz a x1

set_option maxHeartbeats 4000000 in
/-- The first point adds nothing to the bias' gradient. -/
theorem db_A (ha : Args m c A) (t : Fin cfg0.N) (h0 : t.val % 33 = 0) (y : S1x1536.Idx) : (outsAt0 m c t.val t.isLt).2.1 y = 0 := by
  have hn : t.val = 0 := by have := lt_of_lt_of_eq t.isLt count; omega
  rw [outsAt0_A m c t h0]
  frame_open
  simp (disch := decide) only [↓ View.readCov_skip, ↓ View.readCov_cons_toLoadRect, ↓ View.readCov_fill]
  frame_out
  refine (canon_head [_, _, _, _, _, _, _, _, _, _, _, _] _ y (View.cover_of_tiledBy _ ![1, 128] (by sl_kernel_rfl) y)).trans ?_
  canon_tiles x hx using View.cover_of_tiledBy _ ![1,128] (by sl_kernel_rfl) _
  case piece0 => exact db_first (x := x) (o := 1408) (by decide) (zeroWs_at ha t hn 1) (by sl_kernel_rfl)
  case piece1 => exact db_first (x := x) (o := 1152) (by decide) (zeroKs_at ha t hn 1) (by sl_kernel_rfl)
  case piece2 => exact db_first (x := x) (o := 1280) (by decide) (zeroWs_at ha t hn 0) (by sl_kernel_rfl)
  case piece3 => exact db_first (x := x) (o := 1024) (by decide) (zeroKs_at ha t hn 0) (by sl_kernel_rfl)
  case piece11 => exact db_first (x := x) (o := 0) (by decide) (zeroQ_at 0) (by sl_kernel_rfl)
  case piece10 => exact db_first (x := x) (o := 128) (by decide) (zeroQ_at 1) (by sl_kernel_rfl)
  case piece9 => exact db_first (x := x) (o := 256) (by decide) (zeroQ_at 2) (by sl_kernel_rfl)
  case piece8 => exact db_first (x := x) (o := 384) (by decide) (zeroQ_at 3) (by sl_kernel_rfl)
  case piece7 => exact db_first (x := x) (o := 512) (by decide) (zeroQ_at 4) (by sl_kernel_rfl)
  case piece6 => exact db_first (x := x) (o := 640) (by decide) (zeroQ_at 5) (by sl_kernel_rfl)
  case piece5 => exact db_first (x := x) (o := 768) (by decide) (zeroQ_at 6) (by sl_kernel_rfl)
  case piece4 => exact db_first (x := x) (o := 896) (by decide) (zeroQ_at 7) (by sl_kernel_rfl)

end Cert.AttnBwd.Kernel

end
-- ==== Proof.AttnBwd.Sinks.lean ====
/- The gradient in the sinks, point by point. -/
module

public import proofs.«01_k».proof.Proof.AttnBwd.Scratch

@[expose] public section

set_option maxRecDepth 16384

noncomputable section

namespace Cert.AttnBwd.Kernel

open Idealize.ShloMosaic Idealize.ShloMosaic.TcCoe Cert.AttnIdeal Cert.AttnIdeal.Gen Cert.AttnIdeal.Facts Cert.Reals Cert.Norm

variable {m : (ℓ : Loc nD τ sig) → Buf (Elt Ideal) ℓ} {c : Dev nD} {A : Arrays}

/-- One head's share, taken off one entry. -/
def subV (o : ℕ) (hs : S512x1.Slices ![o, 0] S128x1) (u : ℕ) (lk : FVec Ideal S512x1 .f32) (X : FVec Ideal S8x128 .f32) : FVec Ideal S8x128 .f32 :=
  subf X (select (andi k0_pay18 (cmpi .eq (iota .tc S8x128 32 [1] iota_S8x128_d1_w32) (broadcast S8x128 (BitVec.ofNat 32 u))))
    (broadcastTo S8x128 (shapeCast S1x1 (shapeCast S1x1 (multiReduction .add [0] S1 (extractStridedSlice S128x1 ![o, 0] lk hs) 0x00000000#32 reduces_S128x1_S1 (.inl rfl) rfl)
      shapeCasts_S1_S1x1) shapeCasts_S1x1_S1x1) broadcasts_S1x1_S8x128) (broadcast S8x128 (Scalar.ofBits (F := Ideal) .f32 0x00000000#32)))

/-- The four heads of a key head. -/
def subH (h : Fin 4) (T : Tiles) (X : FVec Ideal S8x128 .f32) : FVec Ideal S8x128 .f32 :=
  subV 384 slices_S512x1_o384_0_S128x1 (h.val * 4 + 3) T.leak (subV 256 slices_S512x1_o256_0_S128x1 (h.val * 4 + 2) T.leak
    (subV 128 slices_S512x1_o128_0_S128x1 (h.val * 4 + 1) T.leak (subV 0 slices_S512x1_o0_0_S128x1 (h.val * 4) T.leak X)))

/-- All sixteen, added to what stands. -/
def sinkAll (T : Fin 4 → Tiles) (Y : FVec Ideal S8x128 .f32) : FVec Ideal S8x128 .f32 :=
  k0_pay209 (F := Ideal) (subH 3 (T 3) (subH 2 (T 2) (subH 1 (T 1) (subH 0 (T 0) (k0_pay19 (F := Ideal)))))) Y

theorem sub_at {o u : ℕ} (hs : S512x1.Slices ![o, 0] S128x1) (hu : u < 16) (g : Fin 4) (ho : o = g.val * 128) {lk : FVec Ideal S512x1 .f32} {f : Fin 128 → ℝ}
    (hl : ∀ a, lk (ix2 (rw4 g a) 0) = ((f a : ℝ) : EReal)) {X : FVec Ideal S8x128 .f32} {r : Fin 8} {l : Fin 128} {v : ℝ} (hX : X (ix2 r l) = (v : EReal)) :
    subV o hs u lk X (ix2 r l) = ((v - (if r.val = 0 ∧ l.val = u then ∑ a, f a else 0) : ℝ) : EReal) := by
  subst ho
  unfold subV
  pointwise
  have hsum : (∑ x : Fin 128, lk (ix2 (⟨g.val * 128 + x.val, by omega⟩ : Fin 512) 0)) = ((∑ a, f a : ℝ) : EReal) := by
    rw [← coe_sum]
    refine Finset.sum_congr rfl fun a _ => ?_
    rw [← hl a]
    rfl
  have hb : IntOp.cmpi CmpIPredicate.eq (BitVec.ofNat 32 l.val) (BitVec.ofNat 32 u) = BitVec.ofBool (decide (l.val = u)) := by
    show BitVec.ofBool (BitVec.ofNat 32 l.val == BitVec.ofNat 32 u) = _
    congr 1
    have h : BitVec.ofNat 32 l.val = BitVec.ofNat 32 u ↔ l.val = u := by
      rw [← BitVec.toNat_inj, BitVec.toNat_ofNat, BitVec.toNat_ofNat, Nat.mod_eq_of_lt (by omega), Nat.mod_eq_of_lt (by omega)]
    by_cases h' : l.val = u
    · simp [h']
    · simp [h', mt h.mp h']
  rw [hsum, top_at, hb, hX]
  by_cases h1 : r.val = 0 <;> by_cases h2 : l.val = u <;> simp [h1, h2, IntOp.andi, Scalar.select]

/-- What a block takes off a sink's gradient. -/
def taken (A : Arrays) (n : ℕ) (h g : Fin 4) : ℝ := ∑ a, A.Ps n h g a * A.D n h g a

def share (A : Arrays) (n : ℕ) (r : Fin 8) (l : Fin 128) : ℝ :=
  if r.val = 0 then (if hl : l.val < 16 then -taken A n ⟨l.val / 4, by omega⟩ ⟨l.val % 4, by omega⟩ else 0) else 0

theorem sixteen (S : Fin 4 → Fin 4 → ℝ) (r l : ℕ) :
    0 - (if r = 0 ∧ l = (0 : Fin 4).val * 4 then S 0 0 else 0) - (if r = 0 ∧ l = (0 : Fin 4).val * 4 + 1 then S 0 1 else 0)
      - (if r = 0 ∧ l = (0 : Fin 4).val * 4 + 2 then S 0 2 else 0) - (if r = 0 ∧ l = (0 : Fin 4).val * 4 + 3 then S 0 3 else 0)
      - (if r = 0 ∧ l = (1 : Fin 4).val * 4 then S 1 0 else 0) - (if r = 0 ∧ l = (1 : Fin 4).val * 4 + 1 then S 1 1 else 0)
      - (if r = 0 ∧ l = (1 : Fin 4).val * 4 + 2 then S 1 2 else 0) - (if r = 0 ∧ l = (1 : Fin 4).val * 4 + 3 then S 1 3 else 0)
      - (if r = 0 ∧ l = (2 : Fin 4).val * 4 then S 2 0 else 0) - (if r = 0 ∧ l = (2 : Fin 4).val * 4 + 1 then S 2 1 else 0)
      - (if r = 0 ∧ l = (2 : Fin 4).val * 4 + 2 then S 2 2 else 0) - (if r = 0 ∧ l = (2 : Fin 4).val * 4 + 3 then S 2 3 else 0)
      - (if r = 0 ∧ l = (3 : Fin 4).val * 4 then S 3 0 else 0) - (if r = 0 ∧ l = (3 : Fin 4).val * 4 + 1 then S 3 1 else 0)
      - (if r = 0 ∧ l = (3 : Fin 4).val * 4 + 2 then S 3 2 else 0) - (if r = 0 ∧ l = (3 : Fin 4).val * 4 + 3 then S 3 3 else 0)
      = if r = 0 then (if hl : l < 16 then -S ⟨l / 4, by omega⟩ ⟨l % 4, by omega⟩ else 0) else 0 := by
  by_cases hr : r = 0
  · by_cases hl : l < 16
    · simp only [hr, hl, true_and, if_true, dif_pos]
      interval_cases l <;> simp <;> rfl
    · simp only [hr, hl, true_and, if_true, dif_neg, not_false_eq_true]
      have e : ∀ k, k < 16 → ¬ l = k := fun k hk => by omega
      simp [e]
  · simp [hr]

theorem subH_at {T : Tiles} {n : ℕ} {h : Fin 4} (H : Holds T A n h) {X : FVec Ideal S8x128 .f32} {r : Fin 8} {l : Fin 128} {v : ℝ} (hX : X (ix2 r l) = (v : EReal)) :
    subH h T X (ix2 r l) = ((v - (if r.val = 0 ∧ l.val = h.val * 4 then taken A n h 0 else 0) - (if r.val = 0 ∧ l.val = h.val * 4 + 1 then taken A n h 1 else 0)
      - (if r.val = 0 ∧ l.val = h.val * 4 + 2 then taken A n h 2 else 0) - (if r.val = 0 ∧ l.val = h.val * 4 + 3 then taken A n h 3 else 0) : ℝ) : EReal) := by
  have hh := h.isLt
  exact sub_at _ (by omega) 3 rfl (leak_at H 3) (sub_at _ (by omega) 2 rfl (leak_at H 2) (sub_at _ (by omega) 1 rfl (leak_at H 1) (sub_at _ (by omega) 0 rfl (leak_at H 0) hX)))

theorem sinkAll_at {T : Fin 4 → Tiles} {n : ℕ} (H : ∀ h, Holds (T h) A n h) (Y : FVec Ideal S8x128 .f32) (r : Fin 8) (l : Fin 128) :
    sinkAll T Y (ix2 r l) = Y (ix2 r l) + ((share A n r l : ℝ) : EReal) := by
  have z : (k0_pay19 (F := Ideal)) (ix2 r l) = ((0 : ℝ) : EReal) := by
    unfold_payloads
    pointwise
    exact EReal.coe_zero.symm
  have e := subH_at (H 3) (subH_at (H 2) (subH_at (H 1) (subH_at (H 0) z)))
  rw [sixteen (taken A n) r.val l.val] at e
  unfold sinkAll k0_pay209
  pointwise
  rw [e]
  rfl

set_option maxHeartbeats 4000000 in
theorem dsink_B (ha : Args m c A) (t : Fin cfg0.N) (h0 : ¬ t.val % 33 = 0) (y : S8x128.Idx) :
    (outsAt0 m c t.val t.isLt).2.2.1 y = (before m c t).2.2.1 y + ((share A t.val (y 0) (y 1) : ℝ) : EReal) := by
  rw [outsAt0_B m c t h0]
  frame_open
  simp (disch := decide) only [↓ View.readCov_skip, ↓ View.readCov_cons_toLoadRect, ↓ View.readCov_fill]
  frame_out
  refine Eq.trans (b := sinkAll (tB m c t) (before m c t).2.2.1 y) (by sl_kernel_rfl) ?_
  idx_vars y
  exact sinkAll_at (holdsB ha t (by omega)) _ y0 y1

set_option maxHeartbeats 4000000 in
theorem dsink_A (ha : Args m c A) (t : Fin cfg0.N) (h0 : t.val % 33 = 0) (y : S8x128.Idx) :
    (outsAt0 m c t.val t.isLt).2.2.1 y = 0 + ((share A t.val (y 0) (y 1) : ℝ) : EReal) := by
  have hn : t.val = 0 := by have := lt_of_lt_of_eq t.isLt count; omega
  rw [outsAt0_A m c t h0]
  frame_open
  simp (disch := decide) only [↓ View.readCov_skip, ↓ View.readCov_cons_toLoadRect, ↓ View.readCov_fill]
  frame_out
  refine Eq.trans (b := sinkAll (tA m c t) (k0_pay6 (F := Ideal)) y) (by sl_kernel_rfl) ?_
  idx_vars y
  have z : (k0_pay6 (F := Ideal)) (ix2 y0 y1) = 0 := by
    unfold_payloads
    pointwise
  exact (sinkAll_at (holdsA ha t hn) _ y0 y1).trans (by rw [z])

end Cert.AttnBwd.Kernel

end
-- ==== Proof.AttnBwd.Kernel.lean ====
/- What the three result arrays of the attention gradient hold after the call. -/
module

public import proofs.«01_k».proof.Proof.AttnBwd.Outs
public import proofs.«01_k».proof.Proof.AttnBwd.Sinks
public import proofs.«01_k».proof.Proof.Gen.AttnIdeal.Value
public import Idealize.ShloMosaic.Lib.Pipeline.ReadBack

@[expose] public section

set_option maxRecDepth 16384

noncomputable section

namespace Cert.AttnBwd.Kernel

open Idealize.ShloMosaic Idealize.ShloMosaic.TcCoe Cert.AttnIdeal Cert.AttnIdeal.Gen Cert.AttnIdeal.Facts Cert.Reals Cert.Norm

variable {m : (ℓ : Loc nD τ sig) → Buf (Elt Ideal) ℓ} {c : Dev nD} {A : Arrays}

/-- The three result arrays. -/
def dzArr (A : Arrays) : S4096x1536.Idx → EReal := fun i => ((A.dz ((i 0).val / 128) ⟨(i 0).val % 128, by omega⟩ (i 1) : ℝ) : EReal)
def dbArr (A : Arrays) : S1x1536.Idx → EReal := fun i => ((A.db (i 1) : ℝ) : EReal)
def dsinkArr (A : Arrays) : S8x128.Idx → EReal := fun i => ((if (i 0).val = 0 then (if h : (i 1).val < 16 then A.dsink ⟨(i 1).val, h⟩ else 0) else 0 : ℝ) : EReal)

/-- The first point's result is written over by the second's, so it is not sent. -/
theorem sent : ∀ t : Fin cfg0.N, win0_7.flush t = true → t.val ≠ 0 := (by decide +kernel : ∀ t : Fin grid0.N, win0_7.flush t = true → t.val ≠ 0)

theorem dz_final (ha : Args m c A) : (dats m 0 c).arrAt 7 cfg0.N = dzArr A := by
  refine (dats m 0 c).arrAt_eq_of_covers 7 _ (by decide +kernel) fun t hf y => ?_
  have ht : t.val < 33 := lt_of_lt_of_eq t.isLt count
  have h0 : t.val ≠ 0 := sent t hf
  have hn : ¬ t.val % 33 = 0 := by omega
  blk_simp
  rw [after0_7, out_B ha t hn y]
  idx_vars y
  have e : ((View.whole main_v132_0).slice (win0_7.rect t)).emb (ix2 y0 y1) = ix2 (row (t.val - 1) y0) y1 := by blk_ext [idx t, row]
  rw [e]
  have e1 : (row (t.val - 1) y0).val / 128 = t.val - 1 := by simp only [row]; omega
  have e2 : (⟨(row (t.val - 1) y0).val % 128, by omega⟩ : Fin 128) = y0 := Fin.ext (by simp only [row]; omega)
  show ((A.dz (t.val - 1) y0 y1 : ℝ) : EReal) = ((A.dz ((row (t.val - 1) y0).val / 128) ⟨(row (t.val - 1) y0).val % 128, _⟩ y1 : ℝ) : EReal)
  rw [e1, e2]

def last : Fin cfg0.N := ⟨32, by rw [count]; decide⟩

/-- What a point adds to the bias' gradient. -/
def dbPart (A : Arrays) (n : ℕ) (j : S1x1536.Idx) : EReal := ((if n = 0 then 0 else ∑ a, A.dz (n - 1) a (j 1) : ℝ) : EReal)

/-- All the points' parts together. -/
theorem db_sum (j : S1x1536.Idx) : ∑ n : Fin 33, dbPart A n j = dbArr A j := by
  rw [Fin.sum_univ_succ]
  simp only [dbPart, Fin.val_zero, if_true, Fin.val_succ, Nat.add_one_ne_zero, if_false, Nat.add_sub_cancel, EReal.coe_zero, zero_add]
  rw [coe_sum]
  rfl

theorem db_final (ha : Args m c A) : (dats m 0 c).arrAt 8 cfg0.N = dbArr A := by
  refine (dats m 0 c).arrAt_eq_of_after_last 8 last (by decide +kernel) _ fun j => ?_
  blk_simp
  rw [after0_8]
  refine (Pipeline.eq_sum_fin_of_reset_step_apply_last (fun n hn => (outsAt0 m c n hn).2.1) 33 (fun _ => 0)
    (fun t j => dbPart A t j) (fun t h0 j => ?_) (fun t h0 j => ?_) count.le last rfl j).trans ?_
  · have ht : t.val = 0 := by have := lt_of_lt_of_eq t.isLt count; omega
    rw [db_A ha t h0 j, dbPart, if_pos ht, EReal.coe_zero, add_zero]
  · rw [db_B ha t h0 j, dbPart, if_neg (by omega)]
  · rw [zero_add]
    exact db_sum j

theorem share_last (r : Fin 8) (l : Fin 128) : share A 32 r l = 0 := by
  simp [share, taken, A.D_last]

theorem dsink_sum (j : S8x128.Idx) : ∑ n : Fin 33, ((share A n (j 0) (j 1) : ℝ) : EReal) = dsinkArr A j := by
  rw [Fin.sum_univ_castSucc]
  simp only [Fin.val_last, Fin.val_castSucc, share_last, EReal.coe_zero, add_zero]
  rw [coe_sum]
  refine congrArg (fun r : ℝ => (r : EReal)) ?_
  unfold share Arrays.dsink taken
  by_cases h0 : (j 0).val = 0
  · by_cases h1 : (j 1).val < 16
    · simp only [h0, h1, if_true, dif_pos, A.D_last, mul_zero, Finset.sum_const_zero, neg_zero, add_zero, Finset.sum_neg_distrib]
    · simp [h0, h1]
  · simp [h0]

theorem dsink_final (ha : Args m c A) : (dats m 0 c).arrAt 9 cfg0.N = dsinkArr A := by
  refine (dats m 0 c).arrAt_eq_of_after_last 9 last (by decide +kernel) _ fun j => ?_
  blk_simp
  rw [after0_9]
  refine (Pipeline.eq_sum_fin_of_reset_step_apply_last (fun n hn => (outsAt0 m c n hn).2.2.1) 33 (fun _ => 0)
    (fun t j => ((share A t (j 0) (j 1) : ℝ) : EReal)) (fun t h0 j => dsink_A ha t h0 j) (fun t h0 j => dsink_B ha t h0 j) count.le last rfl j).trans ?_
  rw [zero_add]
  exact dsink_sum j

end Cert.AttnBwd.Kernel

end
-- ==== Proof.AttnBwd.RefScores.lean ====
/- The reference read in stages: its queries, keys and values, its scores, and the gradient in its probabilities. -/
module

public import proofs.«01_k».proof.Proof.AttnBwd.Kernel
public import proofs.«01_k».proof.Proof.Gen.AttnReferenceIdeal.Read

@[expose] public section

set_option maxRecDepth 16384

noncomputable section

namespace Cert.AttnBwd.Reference

open Idealize.ShloMosaic Idealize.ShloMosaic.TcCoe Cert.AttnReferenceIdeal Cert.AttnReferenceIdeal.Gen Cert.AttnReferenceIdeal.Read Cert.Reals Cert.Norm
open Idealize.ShloMosaic.WordCmp

/-- The arguments, as arrays of extended reals. -/
def dyA (A : Arrays) : FVec Ideal SX .f32 := fun i => ((A.dy i : ℝ) : EReal)
def xA (A : Arrays) : FVec Ideal SX .f32 := fun i => ((A.x i : ℝ) : EReal)
def gA (A : Arrays) : FVec Ideal SG .f32 := fun i => ((A.g i : ℝ) : EReal)
def wA (A : Arrays) : FVec Ideal SW .f32 := fun i => ((A.w i : ℝ) : EReal)
def bA (A : Arrays) : FVec Ideal SB .f32 := fun i => ((A.b i : ℝ) : EReal)
def sinkA (A : Arrays) : FVec Ideal SS .f32 := fun i => ((A.sink i : ℝ) : EReal)

variable (A : Arrays)

theorem qkv_eq (i : Fin 4096) (e : Fin 1536) : (val_main_v20 (F := Ideal) (xA A) (gA A) (wA A) (bA A)) (ix3 0 i e) = ((A.qkv i e : ℝ) : EReal) := by
  pointwise [val_main_cst_0, val_main_cst, val_main_cst_1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, xA, gA, wA, bA, dot_S1x4096x1024_S1024x1536_S1x4096x1536_2_0_01_1_n_n]
  simp only [mul_coe, coe_sum, word_1024, div_1024, word_eps, add_coe, rsqrt_ms]
  rfl

theorem cosq (i : Fin 4096) (d : Fin 32) : (val_main_v44 (F := Ideal) ) (ix4 0 i 0 d) = ((cosT i d : ℝ) : EReal) := by
  pointwise [val_main_cst_2, val_main_cst_3, val_main_cst_4, val_main_v28, val_main_v29, val_main_v30, val_main_v31, val_main_v32, val_main_v33, val_main_v34, val_main_v35, val_main_v36, val_main_v37, val_main_v38, val_main_v39, val_main_v40, val_main_v41, val_main_v42, val_main_v43, val_main_v44]
  exact Kernel.cos_at i d.val d.isLt

theorem sinq (i : Fin 4096) (d : Fin 32) : (val_main_v46 (F := Ideal) ) (ix4 0 i 0 d) = ((sinT i d : ℝ) : EReal) := by
  pointwise [val_main_cst_2, val_main_cst_3, val_main_cst_4, val_main_v28, val_main_v29, val_main_v30, val_main_v31, val_main_v32, val_main_v33, val_main_v34, val_main_v35, val_main_v36, val_main_v37, val_main_v38, val_main_v39, val_main_v40, val_main_v41, val_main_v42, val_main_v45, val_main_v46]
  exact Kernel.sin_at i d.val d.isLt

theorem cosk (i : Fin 4096) (d : Fin 32) : (val_main_v75 (F := Ideal) ) (ix4 0 i 0 d) = ((cosT i d : ℝ) : EReal) := by
  pointwise [val_main_cst_5, val_main_cst_6, val_main_cst_7, val_main_v28, val_main_v60, val_main_v61, val_main_v62, val_main_v63, val_main_v64, val_main_v65, val_main_v66, val_main_v67, val_main_v68, val_main_v69, val_main_v70, val_main_v71, val_main_v72, val_main_v73, val_main_v74, val_main_v75]
  exact Kernel.cos_at i d.val d.isLt

theorem sink_tab (i : Fin 4096) (d : Fin 32) : (val_main_v77 (F := Ideal) ) (ix4 0 i 0 d) = ((sinT i d : ℝ) : EReal) := by
  pointwise [val_main_cst_5, val_main_cst_6, val_main_cst_7, val_main_v28, val_main_v60, val_main_v61, val_main_v62, val_main_v63, val_main_v64, val_main_v65, val_main_v66, val_main_v67, val_main_v68, val_main_v69, val_main_v70, val_main_v71, val_main_v72, val_main_v73, val_main_v76, val_main_v77]
  exact Kernel.sin_at i d.val d.isLt

theorem q4_eq (i : Fin 4096) (u : Fin 16) (d : Fin 64) : (val_main_v23 (F := Ideal) (xA A) (gA A) (wA A) (bA A)) (ix4 0 i u d) = ((A.qkv i ⟨u.val * 64 + d.val, by omega⟩ : ℝ) : EReal) := by
  pointwise [val_main_v22, val_main_v23]
  exact qkv_eq A i _

theorem k4_eq (i : Fin 4096) (h : Fin 4) (d : Fin 64) : (val_main_v25 (F := Ideal) (xA A) (gA A) (wA A) (bA A)) (ix4 0 i h d) = ((A.qkv i ⟨1024 + (h.val * 64 + d.val), by omega⟩ : ℝ) : EReal) := by
  pointwise [val_main_v24, val_main_v25]
  exact qkv_eq A i _

theorem v4_eq (i : Fin 4096) (h : Fin 4) (d : Fin 64) : (val_main_v27 (F := Ideal) (xA A) (gA A) (wA A) (bA A)) (ix4 0 i h d) = ((A.v h i d : ℝ) : EReal) := by
  pointwise [val_main_v26, val_main_v27]
  exact qkv_eq A i _

theorem q_eq (i : Fin 4096) (u : Fin 16) (d : Fin 64) : (val_main_v59 (F := Ideal) (xA A) (gA A) (wA A) (bA A)) (ix4 0 i u d) = ((A.q u i d : ℝ) : EReal) := by
  pointwise [val_main_v47, val_main_v48, val_main_v49, val_main_v50, val_main_v51, val_main_v52, val_main_v53, val_main_v54, val_main_v55, val_main_v56, val_main_v57, val_main_v58, val_main_v59]
  unfold Arrays.q rot
  by_cases hd : d.val < 32
  · simp only [dif_pos hd, q4_eq, cosq, sinq, mul_coe, sub_coe, Nat.add_comm 32]
  · simp only [dif_neg hd, q4_eq, cosq, sinq, mul_coe, add_coe, show 32 + (d.val - 32) = d.val by omega]

theorem k_eq (i : Fin 4096) (h : Fin 4) (d : Fin 64) : (val_main_v90 (F := Ideal) (xA A) (gA A) (wA A) (bA A)) (ix4 0 i h d) = ((A.k h i d : ℝ) : EReal) := by
  pointwise [val_main_v78, val_main_v79, val_main_v80, val_main_v81, val_main_v82, val_main_v83, val_main_v84, val_main_v85, val_main_v86, val_main_v87, val_main_v88, val_main_v89, val_main_v90]
  unfold Arrays.k rot
  by_cases hd : d.val < 32
  · simp only [dif_pos hd, k4_eq, cosk, sink_tab, mul_coe, sub_coe, Nat.add_comm 32]
  · simp only [dif_neg hd, k4_eq, cosk, sink_tab, mul_coe, add_coe, show 32 + (d.val - 32) = d.val by omega]

/-- A block's row, of 32 blocks. -/
theorem row_val (n : Fin 32) (a : Fin 128) (h) : (⟨n.val * 128 + a.val, h⟩ : Fin 4096) = row n.val a := Fin.ext (by simp only [row]; omega)
theorem head_val (h g : Fin 4) (p) : (⟨h.val * 4 + g.val, p⟩ : Fin 16) = Arrays.head h g := rfl

theorem q6_eq (n : Fin 32) (a : Fin 128) (h g : Fin 4) (d : Fin 64) :
    (val_main_v91 (F := Ideal) (xA A) (gA A) (wA A) (bA A)) (ix6 0 n a h g d) = ((A.q (Arrays.head h g) (row n a) d : ℝ) : EReal) := by
  pointwise [val_main_v91]
  rw [row_val, head_val]
  exact q_eq A _ _ _

theorem k5_eq (n : Fin 32) (a : Fin 128) (h : Fin 4) (d : Fin 64) : (val_main_v92 (F := Ideal) (xA A) (gA A) (wA A) (bA A)) (ix5 0 n a h d) = ((A.k h (row n a) d : ℝ) : EReal) := by
  pointwise [val_main_v92]
  rw [row_val]
  exact k_eq A _ _ _

theorem v5_eq (n : Fin 32) (a : Fin 128) (h : Fin 4) (d : Fin 64) : (val_main_v93 (F := Ideal) (xA A) (gA A) (wA A) (bA A)) (ix5 0 n a h d) = ((A.v h (row n a) d : ℝ) : EReal) := by
  pointwise [val_main_v93]
  rw [row_val]
  exact v4_eq A _ _ _

theorem kk_eq (n : Fin 32) (c : Fin 256) (h : Fin 4) (d : Fin 64) : (val_main_v99 (F := Ideal) (xA A) (gA A) (wA A) (bA A)) (ix5 0 n c h d) = ((keys (A.k h) n c d : ℝ) : EReal) := by
  pointwise [val_main_cst_8, val_main_v95, val_main_v96, val_main_v97, val_main_v99]
  unfold keys
  by_cases hc : c.val < 128
  · by_cases hn : n.val = 0
    · simp only [dif_pos hc, if_pos hn, dif_pos (show n.val < 1 by omega), EReal.coe_zero]
    · simp only [dif_pos hc, if_neg hn, dif_neg (show ¬ n.val < 1 by omega), k5_eq]
  · simp only [dif_neg hc, k5_eq]

theorem vv_eq (n : Fin 32) (c : Fin 256) (h : Fin 4) (d : Fin 64) : (val_main_v105 (F := Ideal) (xA A) (gA A) (wA A) (bA A)) (ix5 0 n c h d) = ((keys (A.v h) n c d : ℝ) : EReal) := by
  pointwise [val_main_cst_10, val_main_v101, val_main_v102, val_main_v103, val_main_v105]
  unfold keys
  by_cases hc : c.val < 128
  · by_cases hn : n.val = 0
    · simp only [dif_pos hc, if_pos hn, dif_pos (show n.val < 1 by omega), EReal.coe_zero]
    · simp only [dif_pos hc, if_neg hn, dif_neg (show ¬ n.val < 1 by omega), v5_eq]
  · simp only [dif_neg hc, v5_eq]

theorem score_eq (n : Fin 32) (h g : Fin 4) (a : Fin 128) (c : Fin 256) :
    (val_main_v109 (F := Ideal) (xA A) (gA A) (wA A) (bA A)) (ix6 0 n h g a c) = ((A.score n h g a c : ℝ) : EReal) := by
  pointwise [val_main_cst_12, val_main_v106, val_main_v107, val_main_v108, val_main_v109, dot_S1x32x256x4x64_S1x32x128x4x4x64_S1x32x4x256x128x4_4_5_2_24_013_013]
  simp only [kk_eq, q6_eq, mul_coe, coe_sum, Kernel.word_eighth']
  rfl

theorem sub_int {a b : ℕ} (ha : a < 2 ^ 20) (hb : b < 2 ^ 20) : (BitVec.ofNat 32 a - BitVec.ofNat 32 b).toInt = (a : ℤ) - b := by
  rw [BitVec.toInt_sub, toInt_ofNat_of_lt (by norm_num; omega), toInt_ofNat_of_lt (by norm_num; omega)]
  exact Int.bmod_eq_of_le (by norm_num; omega) (by norm_num; omega)

theorem valid_eq (n : Fin 32) (h g : Fin 4) (a : Fin 128) (c : Fin 256) :
    (val_main_v142_1 (F := Ideal) ) (ix6 0 n h g a c) = BitVec.ofBool (valid n a c) := by
  pointwise [val_main_c, val_main_c_13, val_main_c_14, val_main_c_15, val_main_c_16, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142_1]
  have e1 : IntOp.addi (BitVec.ofNat 32 a.val) 128#32 = BitVec.ofNat 32 (a.val + 128) := (BitVec.ofNat_add _ _).symm
  have e2 : IntOp.muli (BitVec.ofNat 32 n.val) 128#32 = BitVec.ofNat 32 (n.val * 128) := by
    have all : ∀ n : Fin 32, IntOp.muli (BitVec.ofNat 32 n.val) 128#32 = BitVec.ofNat 32 (n.val * 128) := by decide +kernel
    exact all n
  have e3 : IntOp.addi (BitVec.ofNat 32 (n.val * 128)) (BitVec.ofNat 32 c.val) = BitVec.ofNat 32 (n.val * 128 + c.val) := (BitVec.ofNat_add _ _).symm
  rw [e1, e2, e3, cmpi_sle_ofNat (by norm_num; omega) (by norm_num; omega), cmpi_slt_eq, cmpi_sge_eq]
  have e4 : (IntOp.subi (BitVec.ofNat 32 (a.val + 128)) (BitVec.ofNat 32 c.val)).toInt = ((a.val + 128 : ℕ) : ℤ) - (c.val : ℕ) := sub_int (by omega) (by omega)
  have e5 : (IntOp.subi (BitVec.ofNat 32 (n.val * 128 + c.val)) 128#32).toInt = ((n.val * 128 + c.val : ℕ) : ℤ) - (128 : ℕ) := sub_int (by omega) (by omega)
  rw [e4, e5, andi_ofBool, andi_ofBool, show (128#32).toInt = 128 from rfl, show (0#32).toInt = 0 from rfl]
  unfold valid
  rw [← Bool.decide_and, ← Bool.decide_and]
  refine congrArg BitVec.ofBool (decide_eq_decide.mpr ?_)
  have hn := n.isLt
  omega

theorem kept_eq (n : Fin 32) (h g : Fin 4) (a : Fin 128) (c : Fin 256) :
    (val_main_v142_0 (F := Ideal) (xA A) (gA A) (wA A) (bA A)) (ix6 0 n h g a c) = if valid n a c then ((A.score n h g a c : ℝ) : EReal) else ⊥ := by
  pointwise [val_main_call0_v0, val_main_call0_v2, val_main_cst_17, val_main_v142_0]
  rw [valid_eq, score_eq, select_ofBool]
  exact congrArg (fun z : EReal => if valid n a c then ((A.score n h g a c : ℝ) : EReal) else z) Kernel.word_bot

theorem sinks_eq (h g : Fin 4) : (val_main_v143 (F := Ideal) (sinkA A)) (ix6 0 0 h g 0 0) = ((A.sinks (Arrays.head h g) : ℝ) : EReal) := by
  pointwise [val_main_v21, val_main_v143, sinkA]
  rfl

theorem dout_eq (n : Fin 32) (h g : Fin 4) (a : Fin 128) (d : Fin 64) :
    (val_main_v189 (F := Ideal) (dyA A)) (ix6 0 n h d g a) = ((A.dout (Arrays.head h g) (row n a) d : ℝ) : EReal) := by
  pointwise [val_main_v188, val_main_v189, dyA]
  rw [row_val]
  refine congrArg (fun z : Fin 1024 => ((A.dy (ix3 0 (row n a) z) : ℝ) : EReal)) (Fin.ext ?_)
  simp only [Arrays.head]
  omega

theorem dprob_eq (n : Fin 32) (h g : Fin 4) (a : Fin 128) (c : Fin 256) :
    (val_main_v190 (F := Ideal) (dyA A) (xA A) (gA A) (wA A) (bA A)) (ix6 0 n h g a c) = ((A.dprob n h g a c : ℝ) : EReal) := by
  pointwise [val_main_v190, dot_S1x32x4x64x4x128_S1x32x256x4x64_S1x32x4x4x128x256_3_4_45_2_012_013]
  simp only [vv_eq, dout_eq, mul_coe, coe_sum]
  rfl

end Cert.AttnBwd.Reference

end
-- ==== Proof.AttnBwd.RefSoft.lean ====
/- The reference read further: its softmax and the gradient in its scores and sinks. -/
module

public import proofs.«01_k».proof.Proof.AttnBwd.RefScores

@[expose] public section

set_option maxRecDepth 16384

noncomputable section

namespace Cert.AttnBwd.Reference

open Idealize.ShloMosaic Idealize.ShloMosaic.TcCoe Cert.AttnReferenceIdeal Cert.AttnReferenceIdeal.Gen Cert.AttnReferenceIdeal.Read Cert.Reals Cert.Norm
open Idealize.ShloMosaic.WordCmp

/-- Which entries a sum or a maximum over the keys runs over. -/
theorem drop_iff (hr : S1x32x4x4x128x256.ReducesTo [5] S1x32x4x4x128) (n : Fin 32) (h g : Fin 4) (a : Fin 128) (k : S1x32x4x4x128x256.Idx) :
    hr.drop k = ix5 0 n h g a ↔ ∃ c, ix6 0 n h g a c = k := by
  constructor
  · intro e
    refine ⟨k 5, ?_⟩
    funext b
    match b with
    | ⟨0, _⟩ => exact Subsingleton.elim (α := Fin 1) _ _
    | ⟨1, _⟩ => exact (Fin.ext (congrArg Fin.val (congrFun e 1))).symm
    | ⟨2, _⟩ => exact (Fin.ext (congrArg Fin.val (congrFun e 2))).symm
    | ⟨3, _⟩ => exact (Fin.ext (congrArg Fin.val (congrFun e 3))).symm
    | ⟨4, _⟩ => exact (Fin.ext (congrArg Fin.val (congrFun e 4))).symm
    | ⟨5, _⟩ => rfl
  · rintro ⟨c, rfl⟩
    funext b
    match b with
    | ⟨0, _⟩ => rfl
    | ⟨1, _⟩ => rfl
    | ⟨2, _⟩ => rfl
    | ⟨3, _⟩ => rfl
    | ⟨4, _⟩ => rfl

theorem sum_keys (hr : S1x32x4x4x128x256.ReducesTo [5] S1x32x4x4x128) (x : S1x32x4x4x128x256.Idx → EReal) (init : EReal) (n : Fin 32) (h g : Fin 4) (a : Fin 128) :
    Ideal.hostReduceAdd hr x init (ix5 0 n h g a) = init + ∑ c : Fin 256, x (ix6 0 n h g a c) := by
  unfold Ideal.hostReduceAdd
  congr 1
  exact Finset.sum_filter_eq_sum_of_fiber _ (fun c : Fin 256 => ix6 (0 : Fin 1) n h g a c) (fun _ _ e => congrFun e (5 : Fin 6))
    (fun k => (drop_iff hr n h g a k)) x

theorem max_keys (f : EReal → EReal → EReal) [Std.Commutative f] [Std.Associative f] {u : Shape} (x : S1x32x4x4x128x256.Idx → EReal) (init : u.Idx → EReal)
    (hr : S1x32x4x4x128x256.ReducesTo [5] S1x32x4x4x128) (hu : 0 < u.numel) (n : Fin 32) (h g : Fin 4) (a : Fin 128) :
    Host.reduce f x init hr hu (ix5 0 n h g a) = Finset.fold f (init (Shape.Idx.first hu)) (fun c : Fin 256 => x (ix6 0 n h g a c)) Finset.univ := by
  rw [Host.reduce_eq_fold]
  have e : (Finset.univ.filter fun i => hr.drop i = ix5 0 n h g a)
      = Finset.univ.map ⟨fun c : Fin 256 => (ix6 (0 : Fin 1) n h g a c : S1x32x4x4x128x256.Idx), fun _ _ e => congrFun e (5 : Fin 6)⟩ := by
    ext k
    simp only [Finset.mem_filter, Finset.mem_univ, true_and, Finset.mem_map, Function.Embedding.coeFn_mk]
    exact drop_iff hr n h g a k
  rw [e, Finset.fold_map]
  rfl

/-- The largest of 256 numbers as the ideal instance and as the order write it. -/
theorem fold_max (b : EReal) (f : Fin 256 → EReal) : Finset.fold (FloatOps.maximumf (F := Ideal) (φ := .f32)) b f Finset.univ = Finset.fold max b f Finset.univ := rfl

variable (A : Arrays)

/-- The largest of a row's scores. -/
theorem top_read (n : Fin 32) (h g : Fin 4) (a : Fin 128) : (val_main_v144 (F := Ideal) (xA A) (gA A) (wA A) (bA A)) (ix5 0 n h g a)
    = Finset.fold max (Ideal.ofBits .f32 0xFF800000#32) (fun c => (val_main_v142_0 (F := Ideal) (xA A) (gA A) (wA A) (bA A)) (ix6 0 n h g a c)) Finset.univ := by
  have k := max_keys (FloatOps.maximumf (F := Ideal) (φ := .f32)) (val_main_v142_0 (F := Ideal) (xA A) (gA A) (wA A) (bA A)) (val_main_cst_18 (F := Ideal))
    reducesTo_S1x32x4x4x128x256_S1x32x4x4x128_d5 h_S_ n h g a
  rw [fold_max] at k
  exact k

/-- The largest of a row's scores and its sink is a real. -/
theorem top_eq (n : Fin 32) (h g : Fin 4) (a : Fin 128) : ∃ M : ℝ, (val_main_v152 (F := Ideal) (xA A) (gA A) (wA A) (bA A) (sinkA A)) (ix6 0 n h g a 0) = (M : EReal) := by
  have e : (val_main_v152 (F := Ideal) (xA A) (gA A) (wA A) (bA A) (sinkA A)) (ix6 0 n h g a 0) = max ((val_main_v144 (F := Ideal) (xA A) (gA A) (wA A) (bA A)) (ix5 0 n h g a)) ((val_main_v143 (F := Ideal) (sinkA A)) (ix6 0 0 h g 0 0)) := by
    have e0 : ∀ (x y : FVec Ideal S1x32x4x4x128x1 .f32) i, maximumf x y i = max (x i) (y i) := fun x y i => rfl
    unfold val_main_v152
    rw [e0]
    unfold val_main_v150 val_main_v151
    pointwise
  rw [e, top_read, sinks_eq, Kernel.word_bot]
  refine Kernel.max_real _ _ (fun c => ?_) _
  rw [kept_eq]
  split
  · exact EReal.coe_ne_top _
  · exact bot_ne_top

variable {A}

theorem wt_eq {n : Fin 32} {h g : Fin 4} {a : Fin 128} {M : ℝ} (hM : (val_main_v152 (F := Ideal) (xA A) (gA A) (wA A) (bA A) (sinkA A)) (ix6 0 n h g a 0) = (M : EReal)) (c : Fin 256) :
    (val_main_v173 (F := Ideal) (xA A) (gA A) (wA A) (bA A) (sinkA A)) (ix6 0 n h g a c) = ((wtAt (valid n a) (A.score n h g a) M c : ℝ) : EReal) := by
  pointwise [val_main_v171, val_main_v172, val_main_v173]
  rw [hM, kept_eq, wtAt]
  split
  · exact Kernel.ideal_exp_coe _
  · exact Kernel.exp_bot

theorem host_exp_sub {s : Shape} (x y : FVec Ideal s .f32) (i : s.Idx) : Host.exp (subf x y) i = Ideal.exp (x i - y i) := rfl

theorem ws_eq {n : Fin 32} {h g : Fin 4} {a : Fin 128} {M : ℝ} (hM : (val_main_v152 (F := Ideal) (xA A) (gA A) (wA A) (bA A) (sinkA A)) (ix6 0 n h g a 0) = (M : EReal)) :
    (val_main_v178 (F := Ideal) (xA A) (gA A) (wA A) (bA A) (sinkA A)) (ix6 0 n h g a 0) = ((Real.exp (A.sinks (Arrays.head h g) - M) : ℝ) : EReal) := by
  have e : (val_main_v178 (F := Ideal) (xA A) (gA A) (wA A) (bA A) (sinkA A)) (ix6 0 n h g a 0) = Ideal.exp ((val_main_v176 (F := Ideal) (sinkA A)) (ix6 0 n h g a 0) - (val_main_v152 (F := Ideal) (xA A) (gA A) (wA A) (bA A) (sinkA A)) (ix6 0 n h g a 0)) := by
    unfold val_main_v178 val_main_v177
    exact host_exp_sub _ _ _
  have e' : (val_main_v176 (F := Ideal) (sinkA A)) (ix6 0 n h g a 0) = (val_main_v143 (F := Ideal) (sinkA A)) (ix6 0 0 h g 0 0) := by
    unfold val_main_v176
    pointwise
  rw [e, e', hM, sinks_eq, sub_coe]
  exact Kernel.ideal_exp_coe _

theorem tot_eq {n : Fin 32} {h g : Fin 4} {a : Fin 128} {M : ℝ} (hM : (val_main_v152 (F := Ideal) (xA A) (gA A) (wA A) (bA A) (sinkA A)) (ix6 0 n h g a 0) = (M : EReal)) :
    (val_main_v179 (F := Ideal) (xA A) (gA A) (wA A) (bA A) (sinkA A)) (ix6 0 n h g a 0) = ((totAt (valid n a) (A.score n h g a) (A.sinks (Arrays.head h g)) M : ℝ) : EReal) := by
  pointwise [val_main_cst_26, val_main_v174, val_main_v175, val_main_v179, sum_keys]
  simp only [wt_eq hM, ws_eq hM, coe_sum, add_coe]
  rfl

theorem inv_eq {n : Fin 32} {h g : Fin 4} {a : Fin 128} {M : ℝ} (hM : (val_main_v152 (F := Ideal) (xA A) (gA A) (wA A) (bA A) (sinkA A)) (ix6 0 n h g a 0) = (M : EReal)) :
    (val_main_v184 (F := Ideal) (xA A) (gA A) (wA A) (bA A) (sinkA A)) (ix6 0 n h g a 0) = ((1 / (totAt (valid n a) (A.score n h g a) (A.sinks (Arrays.head h g)) M * totAt (valid n a) (A.score n h g a) (A.sinks (Arrays.head h g)) M) : ℝ) : EReal) := by
  pointwise [val_main_cst_27, val_main_v182, val_main_v183, val_main_v184]
  rw [tot_eq hM, mul_coe, ← EReal.coe_one]
  exact div_coe (mul_pos (totAt_pos _ _ _ _) (totAt_pos _ _ _ _)).ne' _

theorem prob_eq (n : Fin 32) (h g : Fin 4) (a : Fin 128) (c : Fin 256) :
    (val_main_v181 (F := Ideal) (xA A) (gA A) (wA A) (bA A) (sinkA A)) (ix6 0 n h g a c) = ((A.P n h g a c : ℝ) : EReal) := by
  obtain ⟨M, hM⟩ := top_eq A n h g a
  pointwise [val_main_v180, val_main_v181]
  rw [tot_eq hM, wt_eq hM, div_coe (totAt_pos _ _ _ _).ne', prob_at]
  rfl

/-- The gradient along the probabilities, over the total, with its sign. -/
theorem along_eq {n : Fin 32} {h g : Fin 4} {a : Fin 128} {M : ℝ} (hM : (val_main_v152 (F := Ideal) (xA A) (gA A) (wA A) (bA A) (sinkA A)) (ix6 0 n h g a 0) = (M : EReal)) :
    (val_main_v198 (F := Ideal) (dyA A) (xA A) (gA A) (wA A) (bA A) (sinkA A)) (ix6 0 n h g a 0) = ((-(A.D n h g a / totAt (valid n a) (A.score n h g a) (A.sinks (Arrays.head h g)) M) : ℝ) : EReal) := by
  pointwise [val_main_cst_28, val_main_v193, val_main_v194, val_main_v195, val_main_v196, val_main_v197, val_main_v198, sum_keys]
  simp only [dprob_eq, inv_eq hM, wt_eq hM, mul_coe, coe_sum, neg_coe]
  refine congrArg (fun z : ℝ => ((-z : ℝ) : EReal)) ?_
  unfold Arrays.D delta
  simp only [← prob_at _ _ _ M]
  rw [Finset.sum_div]
  refine Finset.sum_congr rfl fun c _ => ?_
  have := (totAt_pos (valid n a) (A.score n h g a) (A.sinks (Arrays.head h g)) M).ne'
  field_simp

/-- The sink's part. -/
theorem leak_eq (n : Fin 32) (h g : Fin 4) (a : Fin 128) :
    (val_main_v201 (F := Ideal) (dyA A) (xA A) (gA A) (wA A) (bA A) (sinkA A)) (ix6 0 n h g a 0) = ((-(A.Ps n h g a * A.D n h g a) : ℝ) : EReal) := by
  obtain ⟨M, hM⟩ := top_eq A n h g a
  pointwise [val_main_v201]
  rw [along_eq hM, ws_eq hM, mul_coe]
  refine congrArg (fun z : ℝ => (z : EReal)) ?_
  rw [Arrays.Ps, ← psink_at _ _ _ M]
  ring

/-- The host's sum over two axes of one element each is the element. -/
theorem reduce_units (h : S1x32x4x4x128x1.ReducesTo [0, 5] S32x4x4x128) (x : S1x32x4x4x128x1.Idx → EReal) (init : EReal) (n : Fin 32) (p q : Fin 4) (a : Fin 128) :
    Ideal.hostReduceAdd h x init (ix4 n p q a) = init + x (ix6 0 n p q a 0) := by
  unfold Ideal.hostReduceAdd
  congr 1
  have hf : ∀ k : S1x32x4x4x128x1.Idx, h.drop k = ix4 n p q a ↔ k = ix6 0 n p q a 0 := by
    intro k
    constructor
    · intro e
      funext b
      match b with
      | ⟨0, _⟩ => exact Subsingleton.elim (α := Fin 1) _ _
      | ⟨1, _⟩ => exact Fin.ext (congrArg Fin.val (congrFun e 0))
      | ⟨2, _⟩ => exact Fin.ext (congrArg Fin.val (congrFun e 1))
      | ⟨3, _⟩ => exact Fin.ext (congrArg Fin.val (congrFun e 2))
      | ⟨4, _⟩ => exact Fin.ext (congrArg Fin.val (congrFun e 3))
      | ⟨5, _⟩ => exact Subsingleton.elim (α := Fin 1) _ _
    · rintro rfl
      funext b
      match b with
      | ⟨0, _⟩ => rfl
      | ⟨1, _⟩ => rfl
      | ⟨2, _⟩ => rfl
      | ⟨3, _⟩ => rfl
  simp [hf, Finset.sum_filter]

/-- The host's sum over the blocks and their rows. -/
theorem reduce_rows (h : S1x32x4x4x128x1.ReducesTo [1, 4] S1x4x4x1) (x : S1x32x4x4x128x1.Idx → EReal) (init : EReal) (p q : Fin 4) :
    Ideal.hostReduceAdd h x init (ix4 0 p q 0) = init + ∑ n : Fin 32, ∑ a : Fin 128, x (ix6 0 n p q a 0) := by
  unfold Ideal.hostReduceAdd
  rw [← Fintype.sum_prod_type']
  congr 1
  refine Finset.sum_filter_eq_sum_of_fiber _ (fun k : Fin 32 × Fin 128 => ix6 (0 : Fin 1) k.1 p q k.2 (0 : Fin 1))
    (fun _ _ e => Prod.ext (congrFun e (1 : Fin 6)) (congrFun e (4 : Fin 6))) (fun k => ?_) x
  constructor
  · intro e
    refine ⟨(k 1, k 4), ?_⟩
    funext b
    match b with
    | ⟨0, _⟩ => exact Subsingleton.elim (α := Fin 1) _ _
    | ⟨1, _⟩ => rfl
    | ⟨2, _⟩ => exact (Fin.ext (congrArg Fin.val (congrFun e 1))).symm
    | ⟨3, _⟩ => exact (Fin.ext (congrArg Fin.val (congrFun e 2))).symm
    | ⟨4, _⟩ => rfl
    | ⟨5, _⟩ => exact Subsingleton.elim (α := Fin 1) _ _
  · rintro ⟨k, rfl⟩
    funext b
    match b with
    | ⟨0, _⟩ => rfl
    | ⟨1, _⟩ => rfl
    | ⟨2, _⟩ => rfl
    | ⟨3, _⟩ => rfl

/-- The gradient in the scores, but for the part through the largest score. -/
theorem ds_eq (n : Fin 32) (h g : Fin 4) (a : Fin 128) (c : Fin 256) :
    (val_main_v209 (F := Ideal) (dyA A) (xA A) (gA A) (wA A) (bA A) (sinkA A)) (ix6 0 n h g a c) = ((A.dS n h g a c : ℝ) : EReal) := by
  obtain ⟨M, hM⟩ := top_eq A n h g a
  pointwise [val_main_cst_30, val_main_v199, val_main_v200, val_main_v205, val_main_v206, val_main_v207, val_main_v208, val_main_v209, reduce_units]
  rw [dprob_eq, along_eq hM, tot_eq hM, wt_eq hM, div_coe (totAt_pos _ _ _ _).ne', add_coe, mul_coe]
  refine congrArg (fun z : ℝ => (z : EReal)) ?_
  unfold Arrays.dS dscore
  rw [← prob_at _ _ _ M]
  show _ = _ * (_ - A.D n h g a)
  ring

/-- The probabilities and the sink's are one together. -/
theorem prob_sum (n : Fin 32) (h g : Fin 4) (a : Fin 128) : ∑ c, A.P n h g a c = 1 - A.Ps n h g a := by
  unfold Arrays.P Arrays.Ps prob psink
  rw [← Finset.sum_div, eq_sub_iff_add_eq, ← add_div]
  exact div_self (tot_pos _ _ _).ne'

/-- Nothing comes through the largest score. -/
theorem top_zero (n : Fin 32) (h g : Fin 4) (a : Fin 128) : (val_main_v213 (F := Ideal) (dyA A) (xA A) (gA A) (wA A) (bA A) (sinkA A)) (ix6 0 n h g a 0) = 0 := by
  pointwise [val_main_cst_31, val_main_v204, val_main_v210, val_main_v211, val_main_v212, val_main_v213, sum_keys]
  simp only [leak_eq, ds_eq, neg_coe, coe_sum, add_coe]
  refine (congrArg (fun z : ℝ => (z : EReal)) ?_).trans EReal.coe_zero
  have e : ∑ c, A.dS n h g a c = A.D n h g a * A.Ps n h g a := by
    have e1 : ∀ c, A.dS n h g a c = A.P n h g a c * A.dprob n h g a c - A.P n h g a c * A.D n h g a := fun c => mul_sub _ _ _
    simp only [e1, Finset.sum_sub_distrib, ← Finset.sum_mul, prob_sum]
    show A.D n h g a - _ = _
    ring
  rw [Finset.sum_neg_distrib, e]
  ring

theorem uitofp_one : FloatOps.uitofp (F := Ideal) FTy.f32 (BitVec.ofBool true) = ((1 : ℝ) : EReal) := by
  show (((1#1 : BitVec 1).toNat : ℝ) : EReal) = _
  rw [show (1#1 : BitVec 1).toNat = 1 from rfl, Nat.cast_one]

theorem uitofp_zero : FloatOps.uitofp (F := Ideal) FTy.f32 (BitVec.ofBool false) = ((0 : ℝ) : EReal) := by
  show (((0#1 : BitVec 1).toNat : ℝ) : EReal) = _
  rw [show (0#1 : BitVec 1).toNat = 0 from rfl, Nat.cast_zero]

/-- How many keys share the largest score is no zero. -/
theorem ties_eq (n : Fin 32) (h g : Fin 4) (a : Fin 128) : ∃ N : ℝ, N ≠ 0 ∧ (val_main_v149 (F := Ideal) (xA A) (gA A) (wA A) (bA A)) (ix5 0 n h g a) = (N : EReal) := by
  obtain ⟨c, -, hc⟩ := Finset.exists_mem_eq_sup (Finset.univ : Finset (Fin 256)) Finset.univ_nonempty (fun c => (val_main_v142_0 (F := Ideal) (xA A) (gA A) (wA A) (bA A)) (ix6 0 n h g a c))
  have e : (val_main_v144 (F := Ideal) (xA A) (gA A) (wA A) (bA A)) (ix5 0 n h g a) = Finset.univ.sup (fun c => (val_main_v142_0 (F := Ideal) (xA A) (gA A) (wA A) (bA A)) (ix6 0 n h g a c)) := by
    rw [top_read, Kernel.word_bot]
    rfl
  refine ⟨∑ q : Fin 256, if (val_main_v142_0 (F := Ideal) (xA A) (gA A) (wA A) (bA A)) (ix6 0 n h g a q) = (val_main_v144 (F := Ideal) (xA A) (gA A) (wA A) (bA A)) (ix5 0 n h g a) then 1 else 0, ?_, ?_⟩
  · refine (lt_of_lt_of_le zero_lt_one ?_).ne'
    refine le_trans ?_ (Finset.single_le_sum (fun q _ => ?_) (Finset.mem_univ c))
    · rw [if_pos (hc.symm.trans e.symm)]
    · split <;> norm_num
  · pointwise [val_main_cst_19, val_main_v145, val_main_v146, val_main_v147, val_main_v148, val_main_v149, sum_keys]
    rw [← coe_sum]
    refine Finset.sum_congr rfl fun q _ => ?_
    split <;> rename_i hq
    · rw [decide_eq_true hq]
      exact uitofp_one
    · rw [decide_eq_false hq]
      exact uitofp_zero

theorem dscore_eq (n : Fin 32) (h g : Fin 4) (a : Fin 128) (c : Fin 256) :
    (val_main_v228 (F := Ideal) (dyA A) (xA A) (gA A) (wA A) (bA A) (sinkA A)) (ix6 0 n h g a c) = ((A.dS n h g a c * (1 / 8) : ℝ) : EReal) := by
  obtain ⟨N, hN, hn⟩ := ties_eq (A := A) n h g a
  have z : Ideal.div (0 : EReal) ((N : ℝ) : EReal) = 0 := by
    rw [← EReal.coe_zero, div_coe hN, zero_div]
  pointwise [val_main_call1_cst, val_main_call1_v0, val_main_cst_33, val_main_cst_34, val_main_v218, val_main_v219, val_main_v220, val_main_v221, val_main_v222, val_main_v223, val_main_v224, val_main_v226, val_main_v227, val_main_v228, reduce_units]
  rw [top_zero, zero_mul, hn, z, zero_mul, add_zero, valid_eq, ds_eq, select_ofBool, Kernel.word_eighth']
  split
  · exact mul_coe _ _
  · rename_i hv
    have e : A.dS n h g a c = 0 := by
      simp only [Arrays.dS, dscore, prob, wt, if_neg hv, zero_div, zero_mul]
    rw [e, zero_mul, EReal.coe_zero]

theorem dsink_eq (r : Fin 8) (l : Fin 128) : (val_main_v295 (F := Ideal) (dyA A) (xA A) (gA A) (wA A) (bA A) (sinkA A)) (ix2 r l) = Kernel.dsinkArr A (ix2 r l) := by
  have e (h g : Fin 4) : (val_main_v217 (F := Ideal) (dyA A) (xA A) (gA A) (wA A) (bA A) (sinkA A)) (ix6 0 0 h g 0 0) = ((A.dsink (Arrays.head h g) : ℝ) : EReal) := by
    pointwise [val_main_cst_29, val_main_cst_32, val_main_v202, val_main_v203, val_main_v214, val_main_v215, val_main_v216, val_main_v217, reduce_rows]
    simp only [leak_eq, top_zero, zero_mul, coe_sum, Finset.sum_const_zero, add_zero, Finset.sum_neg_distrib]
    refine congrArg (fun z : ℝ => ((-z : ℝ) : EReal)) (Finset.sum_congr rfl fun n _ => Finset.sum_congr rfl fun a _ => ?_)
    have hh : (⟨(Arrays.head h g).val / 4, by omega⟩ : Fin 4) = h := Fin.ext (by simp only [Arrays.head]; omega)
    have hg : (⟨(Arrays.head h g).val % 4, by omega⟩ : Fin 4) = g := Fin.ext (by simp only [Arrays.head]; omega)
    rw [hh, hg]
  pointwise [val_main_call2_v0, val_main_c_45, val_main_v225, val_main_v294, val_main_v295]
  unfold Kernel.dsinkArr
  show _ = ((if r.val = 0 then (if h : l.val < 16 then A.dsink ⟨l.val, h⟩ else 0) else 0 : ℝ) : EReal)
  have z : FloatOps.sitofp (F := Ideal) FTy.f32 0#32 = ((0 : ℝ) : EReal) := by
    show (((0#32 : BitVec 32).toInt : ℝ) : EReal) = _
    rw [show (0#32 : BitVec 32).toInt = 0 from rfl, Int.cast_zero]
  by_cases hr : r.val = 0
  · by_cases hl : l.val < 16
    · rw [dif_pos ⟨by omega, hl⟩, e, if_pos hr, dif_pos hl]
      refine congrArg (fun u : Fin 16 => ((A.dsink u : ℝ) : EReal)) (Fin.ext ?_)
      simp only [Arrays.head]
      omega
    · rw [dif_neg (fun h => hl h.2), if_pos hr, dif_neg hl]
      exact z
  · rw [dif_neg (fun h => hr (by omega)), if_neg hr]
    exact z

end Cert.AttnBwd.Reference

end
-- ==== Proof.AttnBwd.Reference.lean ====
/- The reference read to its end: the gradients in its queries, keys and values, turned back, and its three results. -/
module

public import proofs.«01_k».proof.Proof.AttnBwd.RefSoft

@[expose] public section

set_option maxRecDepth 16384

noncomputable section

namespace Cert.AttnBwd.Reference

open Idealize.ShloMosaic Idealize.ShloMosaic.TcCoe Cert.AttnReferenceIdeal Cert.AttnReferenceIdeal.Gen Cert.AttnReferenceIdeal.Read Cert.Reals Cert.Norm
open Idealize.ShloMosaic.WordCmp

/-- The products over two summed axes, at an index. -/
theorem dot_ga (x : S1x32x4x64x4x128.Idx → EReal) (y : S1x32x4x4x128x256.Idx → EReal) (acc : S1x32x4x64x256.Idx → EReal) (n : Fin 32) (h : Fin 4) (d : Fin 64) (c : Fin 256) :
    Ideal.matmul dot_S1x32x4x64x4x128_S1x32x4x4x128x256_S1x32x4x64x256_45_34_3_5_012_012 x y acc (ix5 0 n h d c)
      = acc (ix5 0 n h d c) + ∑ g : Fin 4, ∑ a : Fin 128, x (ix6 0 n h d g a) * y (ix6 0 n h g a c) := by
  unfold Ideal.matmul
  rw [← Fintype.sum_prod_type']
  congr 1
  refine (Fintype.sum_equiv (⟨fun k p => match p with
    | ⟨0, _⟩ => k.1
    | ⟨1, _⟩ => k.2, fun k => (k ⟨0, by decide⟩, k ⟨1, by decide⟩), fun k => rfl, fun k => ?_⟩ :
    Fin 4 × Fin 128 ≃ (dot_S1x32x4x64x4x128_S1x32x4x4x128x256_S1x32x4x64x256_45_34_3_5_012_012).contr.Idx) _ _ fun k => ?_).symm
  · funext p
    match p with
    | ⟨0, _⟩ => rfl
    | ⟨1, _⟩ => rfl
  · refine congrArg₂ (fun a b : EReal => a * b) (congrArg x ?_) (congrArg y ?_)
    · funext a
      match a with
      | ⟨0, _⟩ => rfl
      | ⟨1, _⟩ => rfl
      | ⟨2, _⟩ => rfl
      | ⟨3, _⟩ => rfl
      | ⟨4, _⟩ => rfl
      | ⟨5, _⟩ => rfl
    · funext a
      match a with
      | ⟨0, _⟩ => rfl
      | ⟨1, _⟩ => rfl
      | ⟨2, _⟩ => rfl
      | ⟨3, _⟩ => rfl
      | ⟨4, _⟩ => rfl
      | ⟨5, _⟩ => rfl

theorem dot_ag (x : S1x32x4x256x128x4.Idx → EReal) (y : S1x32x128x4x4x64.Idx → EReal) (acc : S1x32x4x256x64.Idx → EReal) (n : Fin 32) (h : Fin 4) (c : Fin 256) (d : Fin 64) :
    Ideal.matmul dot_S1x32x4x256x128x4_S1x32x128x4x4x64_S1x32x4x256x64_45_24_3_5_012_013 x y acc (ix5 0 n h c d)
      = acc (ix5 0 n h c d) + ∑ a : Fin 128, ∑ g : Fin 4, x (ix6 0 n h c a g) * y (ix6 0 n a h g d) := by
  unfold Ideal.matmul
  rw [← Fintype.sum_prod_type']
  congr 1
  refine (Fintype.sum_equiv (⟨fun k p => match p with
    | ⟨0, _⟩ => k.1
    | ⟨1, _⟩ => k.2, fun k => (k ⟨0, by decide⟩, k ⟨1, by decide⟩), fun k => rfl, fun k => ?_⟩ :
    Fin 128 × Fin 4 ≃ (dot_S1x32x4x256x128x4_S1x32x128x4x4x64_S1x32x4x256x64_45_24_3_5_012_013).contr.Idx) _ _ fun k => ?_).symm
  · funext p
    match p with
    | ⟨0, _⟩ => rfl
    | ⟨1, _⟩ => rfl
  · refine congrArg₂ (fun a b : EReal => a * b) (congrArg x ?_) (congrArg y ?_)
    · funext a
      match a with
      | ⟨0, _⟩ => rfl
      | ⟨1, _⟩ => rfl
      | ⟨2, _⟩ => rfl
      | ⟨3, _⟩ => rfl
      | ⟨4, _⟩ => rfl
      | ⟨5, _⟩ => rfl
    · funext a
      match a with
      | ⟨0, _⟩ => rfl
      | ⟨1, _⟩ => rfl
      | ⟨2, _⟩ => rfl
      | ⟨3, _⟩ => rfl
      | ⟨4, _⟩ => rfl
      | ⟨5, _⟩ => rfl

variable (A : Arrays)

/-- The gradients of a block in its keys' values, in its queries and in its keys. -/
theorem dvb_eq (n : Fin 32) (c : Fin 256) (h : Fin 4) (d : Fin 64) : (val_main_v192 (F := Ideal) (dyA A) (xA A) (gA A) (wA A) (bA A) (sinkA A)) (ix5 0 n c h d) = ((A.dvb n h c d : ℝ) : EReal) := by
  have e : (val_main_v191 (F := Ideal) (dyA A) (xA A) (gA A) (wA A) (bA A) (sinkA A)) (ix5 0 n h d c) = ((A.dvb n h c d : ℝ) : EReal) := by
    unfold val_main_v191
    refine (dot_ga _ _ _ n h d c).trans ?_
    simp only [dout_eq, prob_eq, mul_coe, coe_sum]
    refine (zero_add _).trans (congrArg (fun z : ℝ => (z : EReal)) ?_)
    unfold Arrays.dvb
    exact Finset.sum_congr rfl fun g _ => Finset.sum_congr rfl fun a _ => mul_comm _ _
  rw [← e]
  unfold val_main_v192
  pointwise

theorem dqb_eq (n : Fin 32) (a : Fin 128) (h g : Fin 4) (d : Fin 64) : (val_main_v231 (F := Ideal) (dyA A) (xA A) (gA A) (wA A) (bA A) (sinkA A)) (ix6 0 n a h g d) = ((A.dqb n h g a d : ℝ) : EReal) := by
  pointwise [val_main_v229, val_main_v230, val_main_v231, dot_S1x32x4x256x128x4_S1x32x256x4x64_S1x32x4x128x4x64_3_2_45_4_012_013]
  simp only [kk_eq, dscore_eq, mul_coe, coe_sum]
  refine congrArg (fun z : ℝ => (z : EReal)) ?_
  unfold Arrays.dqb
  rw [Finset.sum_mul]
  exact Finset.sum_congr rfl fun c _ => by ring

theorem dkb_eq (n : Fin 32) (c : Fin 256) (h : Fin 4) (d : Fin 64) : (val_main_v233 (F := Ideal) (dyA A) (xA A) (gA A) (wA A) (bA A) (sinkA A)) (ix5 0 n c h d) = ((A.dkb n h c d : ℝ) : EReal) := by
  have e2 (a : Fin 128) (g : Fin 4) : (val_main_v229 (F := Ideal) (dyA A) (xA A) (gA A) (wA A) (bA A) (sinkA A)) (ix6 0 n h c a g) = ((A.dS n h g a c * (1 / 8) : ℝ) : EReal) := by
    rw [← dscore_eq]
    unfold val_main_v229
    pointwise
  have e : (val_main_v232 (F := Ideal) (dyA A) (xA A) (gA A) (wA A) (bA A) (sinkA A)) (ix5 0 n h c d) = ((A.dkb n h c d : ℝ) : EReal) := by
    unfold val_main_v232
    refine (dot_ag _ _ _ n h c d).trans ?_
    simp only [e2, q6_eq, mul_coe, coe_sum]
    refine (zero_add _).trans (congrArg (fun z : ℝ => (z : EReal)) ?_)
    unfold Arrays.dkb
    rw [Finset.sum_comm, Finset.sum_mul]
    refine Finset.sum_congr rfl fun g _ => ?_
    rw [Finset.sum_mul]
    exact Finset.sum_congr rfl fun a _ => by ring
  rw [← e]
  unfold val_main_v233
  pointwise

/-- A key is seen by its own block and by the next one. -/
theorem dvs_eq (n : Fin 32) (c : Fin 128) (h : Fin 4) (d : Fin 64) : (val_main_v239 (F := Ideal) (dyA A) (xA A) (gA A) (wA A) (bA A) (sinkA A)) (ix5 0 n c h d) = ((A.dv n h c d : ℝ) : EReal) := by
  pointwise [val_main_cst_35, val_main_v234, val_main_v235, val_main_v237, val_main_v238, val_main_v239]
  by_cases hn : n.val < 31
  · rw [dif_pos hn, dvb_eq, dvb_eq, add_coe]
    have e : (⟨1 + n.val, by omega⟩ : Fin 32).val = n.val + 1 := Nat.add_comm 1 n.val
    rw [e]
    rfl
  · rw [dif_neg hn, dvb_eq, add_zero]
    have e : n.val + 1 = 32 := by omega
    unfold Arrays.dv
    rw [e, A.dvb_last, add_zero]
    rfl

theorem dks_eq (n : Fin 32) (c : Fin 128) (h : Fin 4) (d : Fin 64) :
    (val_main_v245 (F := Ideal) (dyA A) (xA A) (gA A) (wA A) (bA A) (sinkA A)) (ix5 0 n c h d) = ((A.dkb n h (Arrays.own c) d + A.dkb (n + 1) h (Arrays.old c) d : ℝ) : EReal) := by
  pointwise [val_main_cst_36, val_main_v240, val_main_v241, val_main_v243, val_main_v244, val_main_v245]
  by_cases hn : n.val < 31
  · rw [dif_pos hn, dkb_eq, dkb_eq, add_coe]
    have e : (⟨1 + n.val, by omega⟩ : Fin 32).val = n.val + 1 := Nat.add_comm 1 n.val
    rw [e]
    rfl
  · rw [dif_neg hn, dkb_eq, add_zero]
    have e : n.val + 1 = 32 := by omega
    rw [e, A.dkb_last, add_zero]
    rfl

theorem dv4_eq (i : Fin 4096) (h : Fin 4) (d : Fin 64) :
    (val_main_v246 (F := Ideal) (dyA A) (xA A) (gA A) (wA A) (bA A) (sinkA A)) (ix4 0 i h d) = ((A.dv (i.val / 128) h ⟨i.val % 128, by omega⟩ d : ℝ) : EReal) := by
  unfold val_main_v246
  pointwise
  rw [dvs_eq]

theorem dk4_eq (i : Fin 4096) (h : Fin 4) (d : Fin 64) :
    (val_main_v247 (F := Ideal) (dyA A) (xA A) (gA A) (wA A) (bA A) (sinkA A)) (ix4 0 i h d) = ((A.dkb (i.val / 128) h (Arrays.own ⟨i.val % 128, by omega⟩) d + A.dkb (i.val / 128 + 1) h (Arrays.old ⟨i.val % 128, by omega⟩) d : ℝ) : EReal) := by
  unfold val_main_v247
  pointwise
  rw [dks_eq]

theorem dq4_eq (i : Fin 4096) (u : Fin 16) (d : Fin 64) :
    (val_main_v248 (F := Ideal) (dyA A) (xA A) (gA A) (wA A) (bA A) (sinkA A)) (ix4 0 i u d) = ((A.dqb (i.val / 128) ⟨u.val / 4, by omega⟩ ⟨u.val % 4, by omega⟩ ⟨i.val % 128, by omega⟩ d : ℝ) : EReal) := by
  unfold val_main_v248
  pointwise
  rw [dqb_eq]

theorem row_split (i : Fin 4096) (h) : row (i.val / 128) ⟨i.val % 128, h⟩ = i := Fin.ext (by simp only [row]; omega)

theorem dkr_eq (i : Fin 4096) (h : Fin 4) (d : Fin 64) :
    (val_main_v264 (F := Ideal) (dyA A) (xA A) (gA A) (wA A) (bA A) (sinkA A)) (ix4 0 i h d) = ((A.dk (i.val / 128) h ⟨i.val % 128, by omega⟩ d : ℝ) : EReal) := by
  pointwise [val_main_cst_37, val_main_cst_38, val_main_v249, val_main_v250, val_main_v251, val_main_v252, val_main_v253, val_main_v254, val_main_v255, val_main_v256, val_main_v257, val_main_v258, val_main_v259, val_main_v260, val_main_v261, val_main_v262, val_main_v263, val_main_v264]
  unfold Arrays.dk rotT
  rw [row_split]
  by_cases hd : d.val < 32
  · rw [dif_neg (fun h => absurd h.1 (by omega)), zero_add]
    simp only [dif_pos hd, dk4_eq, cosk, sink_tab, mul_coe, add_coe, Nat.add_comm 32]
    exact congrArg (fun z : ℝ => (z : EReal)) (add_comm _ _)
  · rw [dif_pos ⟨by omega, by omega⟩, dif_neg hd, dif_neg hd, add_zero]
    simp only [dk4_eq, cosk, sink_tab, mul_coe, neg_coe, add_coe, show 32 + (d.val - 32) = d.val by omega]
    refine congrArg (fun z : ℝ => (z : EReal)) ?_
    ring

theorem dqr_eq (i : Fin 4096) (u : Fin 16) (d : Fin 64) :
    (val_main_v280 (F := Ideal) (dyA A) (xA A) (gA A) (wA A) (bA A) (sinkA A)) (ix4 0 i u d) = ((A.dq (i.val / 128) u ⟨i.val % 128, by omega⟩ d : ℝ) : EReal) := by
  pointwise [val_main_cst_39, val_main_cst_40, val_main_v265, val_main_v266, val_main_v267, val_main_v268, val_main_v269, val_main_v270, val_main_v271, val_main_v272, val_main_v273, val_main_v274, val_main_v275, val_main_v276, val_main_v277, val_main_v278, val_main_v279, val_main_v280]
  unfold Arrays.dq rotT
  rw [row_split]
  by_cases hd : d.val < 32
  · rw [dif_neg (fun h => absurd h.1 (by omega)), zero_add]
    simp only [dif_pos hd, dq4_eq, cosq, sinq, mul_coe, add_coe, Nat.add_comm 32]
    exact congrArg (fun z : ℝ => (z : EReal)) (add_comm _ _)
  · rw [dif_pos ⟨by omega, by omega⟩, dif_neg hd, dif_neg hd, add_zero]
    simp only [dq4_eq, cosq, sinq, mul_coe, neg_coe, add_coe, show 32 + (d.val - 32) = d.val by omega]
    refine congrArg (fun z : ℝ => (z : EReal)) ?_
    ring

theorem dz_eq (i : Fin 4096) (j : Fin 1536) : (val_main_v288 (F := Ideal) (dyA A) (xA A) (gA A) (wA A) (bA A) (sinkA A)) (ix3 0 i j) = ((A.dz (i.val / 128) ⟨i.val % 128, by omega⟩ j : ℝ) : EReal) := by
  pointwise [val_main_cst_41, val_main_cst_42, val_main_cst_43, val_main_v281, val_main_v282, val_main_v283, val_main_v284, val_main_v285, val_main_v286, val_main_v287, val_main_v288]
  unfold Arrays.dz
  by_cases h1 : j.val < 1024
  · rw [dif_pos h1, dif_pos h1, dif_neg (fun h => absurd h.1 (by omega)), dif_neg (fun h => absurd h.1 (by omega)), zero_add, zero_add, dqr_eq]
  · by_cases h2 : j.val < 1280
    · rw [dif_neg h1, dif_neg h1, dif_pos h2, dif_neg (fun h => absurd h.1 (by omega)), dif_pos ⟨by omega, by omega⟩, zero_add, add_zero, dkr_eq]
    · rw [dif_neg h1, dif_neg h1, dif_neg h2, dif_pos ⟨by omega, by omega⟩, dif_neg (fun h => absurd h.2 (by omega)), add_zero, add_zero, dv4_eq]

theorem dzr_eq (i : Fin 4096) (j : Fin 1536) : (val_main_v290 (F := Ideal) (dyA A) (xA A) (gA A) (wA A) (bA A) (sinkA A)) (ix2 i j) = ((A.dz (i.val / 128) ⟨i.val % 128, by omega⟩ j : ℝ) : EReal) := by
  pointwise [val_main_v289, val_main_v290]
  exact dz_eq A i j

/-- The rows are the rows of the blocks. -/
theorem rows_sum (f : ℕ → Fin 128 → ℝ) : ∑ n : Fin 32, ∑ p, f n p = ∑ i : Fin 4096, f (i.val / 128) ⟨i.val % 128, by omega⟩ :=
  Fin.sum_mul_add_congr (fun n p hl => congrArg₂ f (by simp only; omega) (Fin.ext (by simp only; omega)))

theorem db_eq (j : Fin 1536) : (val_main_v293 (F := Ideal) (dyA A) (xA A) (gA A) (wA A) (bA A) (sinkA A)) (ix2 0 j) = ((A.db j : ℝ) : EReal) := by
  pointwise [val_main_cst_44, val_main_v291, val_main_v292, val_main_v293]
  simp only [dz_eq, coe_sum]
  exact congrArg (fun z : ℝ => (z : EReal)) (rows_sum fun n p => A.dz n p j).symm

variable {A} {a0 a1 : FVec Ideal SX .f32} {a2 : FVec Ideal SG .f32} {a3 : FVec Ideal SW .f32} {a4 : FVec Ideal SB .f32} {a5 : FVec Ideal SS .f32}

/-- The three results, of arguments that are these real arrays. -/
theorem dz_arr (h0 : a0 = dyA A) (h1 : a1 = xA A) (h2 : a2 = gA A) (h3 : a3 = wA A) (h4 : a4 = bA A) (h5 : a5 = sinkA A) :
    val_main_v290 (F := Ideal) a0 a1 a2 a3 a4 a5 = Kernel.dzArr A := by
  subst h0 h1 h2 h3 h4 h5
  funext i
  idx_vars i
  exact dzr_eq A i0 i1

theorem db_arr (h0 : a0 = dyA A) (h1 : a1 = xA A) (h2 : a2 = gA A) (h3 : a3 = wA A) (h4 : a4 = bA A) (h5 : a5 = sinkA A) :
    val_main_v293 (F := Ideal) a0 a1 a2 a3 a4 a5 = Kernel.dbArr A := by
  subst h0 h1 h2 h3 h4 h5
  funext i
  idx_vars i
  obtain rfl : i0 = 0 := Subsingleton.elim _ _
  exact db_eq A i1

theorem dsink_arr (h0 : a0 = dyA A) (h1 : a1 = xA A) (h2 : a2 = gA A) (h3 : a3 = wA A) (h4 : a4 = bA A) (h5 : a5 = sinkA A) :
    val_main_v295 (F := Ideal) a0 a1 a2 a3 a4 a5 = Kernel.dsinkArr A := by
  subst h0 h1 h2 h3 h4 h5
  funext i
  idx_vars i
  exact dsink_eq i0 i1

end Cert.AttnBwd.Reference

end
-- ==== Proof.AttnBwd.Claim.lean ====
/- The call and its reference end with the same three arrays. -/
module

public import proofs.«01_k».proof.Defs
public import proofs.«01_k».proof.Proof.AttnBwd.Kernel
public import proofs.«01_k».proof.Proof.AttnBwd.Reference
public import proofs.«01_k».proof.Proof.Gen.AttnReferenceIdeal.Run
public import proofs.«01_k».proof.Proof.Gen.Pre_attn_finite
public import proofs.«01_k».proof.Proof.Gen.Attn

@[expose] public section

set_option maxRecDepth 16384

noncomputable section

namespace Cert.AttnBwd

open Idealize.ShloMosaic Idealize.ShloMosaic.TcCoe Idealize.SL.Sem Cert.Reals

/-- The real values of the six arguments. -/
def args (m : (ℓ : Loc AttnIdeal.nD AttnIdeal.τ AttnIdeal.sig) → Buf (Elt Ideal) ℓ) (c : Dev AttnIdeal.nD) : Arrays where
  dy := re (s := SX) (m ((c.tc : Thread AttnIdeal.nD AttnIdeal.τ).loc AttnIdeal.main_arg0))
  x := re (s := SX) (m ((c.tc : Thread AttnIdeal.nD AttnIdeal.τ).loc AttnIdeal.main_arg1))
  g := re (s := SG) (m ((c.tc : Thread AttnIdeal.nD AttnIdeal.τ).loc AttnIdeal.main_arg2))
  w := re (s := SW) (m ((c.tc : Thread AttnIdeal.nD AttnIdeal.τ).loc AttnIdeal.main_arg3))
  b := re (s := SB) (m ((c.tc : Thread AttnIdeal.nD AttnIdeal.τ).loc AttnIdeal.main_arg4))
  sink := re (s := SS) (m ((c.tc : Thread AttnIdeal.nD AttnIdeal.τ).loc AttnIdeal.main_arg5))

attribute [local instance] Cert.AttnIdeal.Gen.facts Cert.AttnReferenceIdeal.Gen.facts Cert.Pre_attn_finite.Gen.facts in
theorem algebraic : Cert.algebraic_AttnIdeal_AttnReferenceIdeal_pre_attn_finite := by
  intro m g m' g' hpre hargs
  have hA : ∀ c, Kernel.Args m c (args m c) := fun c =>
    ⟨eq_re (hpre c).1, eq_re (hpre c).2.1, eq_re (hpre c).2.2.1, eq_re (hpre c).2.2.2.1, eq_re (hpre c).2.2.2.2.1, eq_re (hpre c).2.2.2.2.2⟩
  refine ⟨fun c => Kernel.dzArr (args m c), fun c => Kernel.dbArr (args m c), fun c => Kernel.dsinkArr (args m c),
    (θ_run _ _ _).mono (fun r h c => ⟨(h c).1.trans (Kernel.dz_final (hA c)), (h c).2.1.trans (Kernel.db_final (hA c)),
      (h c).2.2.1.trans (Kernel.dsink_final (hA c)), (h c).2.2.2⟩) (Cert.AttnIdeal.Value.run_blocks m g),
    (θ_run _ _ _).mono (fun r h c => ⟨(h c).1.trans ((AttnReferenceIdeal.Read.val_main_v290_eq _).trans ?_),
      (h c).2.1.trans ((AttnReferenceIdeal.Read.val_main_v293_eq _).trans ?_),
      (h c).2.2.1.trans ((AttnReferenceIdeal.Read.val_main_v295_eq _).trans ?_), (h c).2.2.2⟩)
      (Cert.AttnReferenceIdeal.Value.run m' g')⟩
  all_goals obtain ⟨a0, a1, a2, a3, a4, a5⟩ := hargs c
  · exact Reference.dz_arr (a0.trans (hA c).dy) (a1.trans (hA c).x) (a2.trans (hA c).g) (a3.trans (hA c).w) (a4.trans (hA c).b) (a5.trans (hA c).sink)
  · exact Reference.db_arr (a0.trans (hA c).dy) (a1.trans (hA c).x) (a2.trans (hA c).g) (a3.trans (hA c).w) (a4.trans (hA c).b) (a5.trans (hA c).sink)
  · exact Reference.dsink_arr (a0.trans (hA c).dy) (a1.trans (hA c).x) (a2.trans (hA c).g) (a3.trans (hA c).w) (a4.trans (hA c).b) (a5.trans (hA c).sink)

attribute [local instance] Cert.AttnReferenceIdeal.Gen.facts in
/-- The reference ends with its arguments as they were and, having no semaphores, with every counter at zero. -/
theorem reference_frame : Cert.quiescent_AttnReferenceIdeal := fun m ρ _ =>
  (θ_run _ _ _).mono (fun r h => ⟨fun c => (h c).2.2.2, sem_eq_zero_of_no_sems rfl r.2⟩) (Cert.AttnReferenceIdeal.Value.run m ρ)

end Cert.AttnBwd

end
-- ==== Proof.PostBwd.Spec.lean ====
/- What an output product and the norm after it send back: the gradients in the product's two factors, in its bias and in the norm's gain, as functions of real arrays. -/
module

public import proofs.«01_k».proof.Proof.Norm

@[expose] public section

noncomputable section

namespace Cert.PostBwd

open Idealize.ShloMosaic Cert.Reals Cert.Norm

abbrev SA : Shape := ⟨3, ![1, 4096, 1024]⟩
abbrev SW : Shape := ⟨3, ![1, 1024, 1024]⟩
abbrev SB : Shape := ⟨2, ![1, 1024]⟩
abbrev SG : Shape := ⟨2, ![2, 1024]⟩

/-- The product's factors `a` and `w`, its result `p`, the gain and the gradient `r` that comes in. -/
structure Rows where
  a : Fin 4096 → Fin 1024 → ℝ
  w : Fin 1024 → Fin 1024 → ℝ
  p : Fin 4096 → Fin 1024 → ℝ
  g : Fin 1024 → ℝ
  r : Fin 4096 → Fin 1024 → ℝ

/-- The gradient in the product's result: the norm's gradient, row by row. -/
def dp (R : Rows) (i : Fin 4096) (j : Fin 1024) : ℝ := rmsBwd (R.p i) R.g (R.r i) j

/-- The gradient in the left factor. -/
def da (R : Rows) (i : Fin 4096) (k : Fin 1024) : ℝ := ∑ j, dp R i j * R.w k j

/-- The gradient in the weight. -/
def dw (R : Rows) (k j : Fin 1024) : ℝ := ∑ i, R.a i k * dp R i j

/-- The gradient in the norm's gain. -/
def dg (R : Rows) (j : Fin 1024) : ℝ := ∑ i, R.r i j * (R.p i j * rstd (R.p i))

/-- The gradient in the bias. -/
def db (R : Rows) (j : Fin 1024) : ℝ := ∑ i, dp R i j

/-- The rows of a product without a bias, normed with the second gain. -/
def rows (a : SA.Idx → ℝ) (w : SW.Idx → ℝ) (g : SG.Idx → ℝ) (r : SA.Idx → ℝ) : Rows where
  a i k := a (ix3 0 i k)
  w k j := w (ix3 0 k j)
  p i j := ∑ k, a (ix3 0 i k) * w (ix3 0 k j)
  g j := g (ix2 1 j)
  r i j := r (ix3 0 i j)

/-- The rows of a product with a bias, normed with the first gain. -/
def rowsBias (a : SA.Idx → ℝ) (w : SW.Idx → ℝ) (b : SB.Idx → ℝ) (g : SG.Idx → ℝ) (r : SA.Idx → ℝ) : Rows where
  a i k := a (ix3 0 i k)
  w k j := w (ix3 0 k j)
  p i j := (∑ k, a (ix3 0 i k) * w (ix3 0 k j)) + b (ix2 0 j)
  g j := g (ix2 0 j)
  r i j := r (ix3 0 i j)

end Cert.PostBwd

end
-- ==== Proof.AttnOutBwd.Blocks.lean ====
/- What each grid point of the attention's output call reads: the rows of its block, and the whole weight and gain. -/
module

public import proofs.«01_k».proof.Proof.PostBwd.Spec
public import proofs.«01_k».proof.Proof.Gen.AttnOutIdeal.Value
public import Idealize.ShloMosaic.Lib.Pipeline.ValueKit
public import Idealize.ShloMosaic.Lib.StableHlo.ReadAt
public import Idealize.ShloMosaic.Lib.Claim

@[expose] public section

set_option maxRecDepth 16384

noncomputable section

namespace Cert.AttnOutBwd.Kernel

open Idealize.ShloMosaic Idealize.ShloMosaic.TcCoe Cert.AttnOutIdeal Cert.AttnOutIdeal.Gen Cert.Reals Cert.Norm Cert.PostBwd

/-- The row of the array that row `r` of block `t` is. -/
def row (t : Fin cfg0.N) (r : Fin 512) : Fin 4096 :=
  ⟨t.val * 512 + r.val, by have h : t.val < 8 := lt_of_lt_of_eq t.isLt (show cfg0.N = 8 from N_0); omega⟩

/-- Where each window's block stands at point `t`: the row windows at block row `t`, the others at the origin. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0] ∧ win0_8.index t = ![0, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0] ∧ win0_8.index t = ![0, 0])

/-- The arguments as real arrays. -/
structure Arrays where
  a : SA.Idx → ℝ
  w : SW.Idx → ℝ
  b : SB.Idx → ℝ
  g : SG.Idx → ℝ
  r : SA.Idx → ℝ

/-- Their rows. -/
def Arrays.rows (A : Arrays) : Rows := rowsBias A.a A.w A.b A.g A.r

/-- The arguments a device starts from are these real arrays. -/
structure Args (m : (ℓ : Loc nD τ sig) → Buf (Elt Ideal) ℓ) (c : Dev nD) (A : Arrays) : Prop where
  left : (m ((c : Thread nD τ).loc main_arg0) : FVec Ideal S1x4096x1024 .f32) = fun i => ((A.a i : ℝ) : EReal)
  weight : (m ((c : Thread nD τ).loc main_arg1) : FVec Ideal S1x1024x1024 .f32) = fun i => ((A.w i : ℝ) : EReal)
  bias : (m ((c : Thread nD τ).loc main_arg2) : FVec Ideal S1x1024 .f32) = fun i => ((A.b i : ℝ) : EReal)
  gain : (m ((c : Thread nD τ).loc main_arg3) : FVec Ideal S2x1024 .f32) = fun i => ((A.g i : ℝ) : EReal)
  res : (m ((c : Thread nD τ).loc main_arg4) : FVec Ideal S1x4096x1024 .f32) = fun i => ((A.r i : ℝ) : EReal)

variable {m : (ℓ : Loc nD τ sig) → Buf (Elt Ideal) ℓ} {c : Dev nD} {A : Arrays}

theorem block_res (h : Args m c A) (t : Fin cfg0.N) (i : Fin 512) (k : Fin 1024) :
    (iblk m c 0 t : Vec Ideal S512x1024 .f32) (ix2 i k) = ((A.rows.r (row t i) k : ℝ) : EReal) := by
  refine Eq.trans ?_ (congrFun h.res (ix3 0 (row t i) k))
  blk_simp [iblk, V, idx t]
  entry_read
  pointwise
  blk_ext [iblk, V, idx t, row]

theorem block_gain (h : Args m c A) (t : Fin cfg0.N) (k : Fin 1024) :
    (iblk m c 2 t : Vec Ideal S1x1024 .f32) (ix2 0 k) = ((A.rows.g k : ℝ) : EReal) := by
  refine Eq.trans ?_ (congrFun h.gain (ix2 0 k))
  blk_simp [iblk, V, idx t]
  entry_read
  pointwise
  blk_ext [iblk, V, idx t, row]

theorem block_weight (h : Args m c A) (t : Fin cfg0.N) (k : Fin 1024) (j : Fin 1024) :
    (iblk m c 3 t : Vec Ideal S1024x1024 .bf16) (ix2 k j) = ((A.rows.w k j : ℝ) : EReal) := by
  refine Eq.trans ?_ (congrFun h.weight (ix3 0 k j))
  blk_simp [iblk, V, idx t]
  entry_read
  pointwise
  blk_ext [iblk, V, idx t, row]

theorem block_left (h : Args m c A) (t : Fin cfg0.N) (i : Fin 512) (k : Fin 1024) :
    (iblk m c 4 t : Vec Ideal S512x1024 .bf16) (ix2 i k) = ((A.rows.a (row t i) k : ℝ) : EReal) := by
  refine Eq.trans ?_ (congrFun h.left (ix3 0 (row t i) k))
  blk_simp [iblk, V, idx t]
  entry_read
  pointwise
  blk_ext [iblk, V, idx t, row]

/-- The array the call is given for the product that the forward pass saved. -/
theorem product_eq (h : Args m c A) (i : Fin 4096) (k : Fin 1024) :
    (V m c main_v10 : FVec Ideal S4096x1024 .bf16) (ix2 i k) = ((A.rows.p i k : ℝ) : EReal) := by
  simp only [V]
  entry_read
  pointwise [dot_S4096x1024_S1024x1024_S4096x1024_1_0_0_1_n_n]
  simp only [h.left, h.weight, h.bias, mul_coe, coe_sum, add_coe]
  rfl

theorem block_product (h : Args m c A) (t : Fin cfg0.N) (i : Fin 512) (k : Fin 1024) :
    (iblk m c 1 t : Vec Ideal S512x1024 .bf16) (ix2 i k) = ((A.rows.p (row t i) k : ℝ) : EReal) := by
  refine Eq.trans ?_ (product_eq h (row t i) k)
  blk_ext [iblk, idx t, row]

end Cert.AttnOutBwd.Kernel

end
-- ==== Proof.AttnOutBwd.Kernel.lean ====
/- What the attention's output call leaves in its four output arrays: the left factor's gradient row by row, and the weight's, the gain's and the bias's gradient summed over all rows. -/
module

public import proofs.«01_k».proof.Proof.AttnOutBwd.Blocks

@[expose] public section

set_option maxRecDepth 16384

noncomputable section

namespace Cert.AttnOutBwd.Kernel

open Idealize.ShloMosaic Idealize.ShloMosaic.TcCoe Cert.AttnOutIdeal Cert.AttnOutIdeal.Gen Cert.AttnOutIdeal.Facts Cert.Reals Cert.Norm Cert.PostBwd

variable {m : (ℓ : Loc nD τ sig) → Buf (Elt Ideal) ℓ} {c : Dev nD} {A : Arrays}

/-- The gradient in the product's result, as a block. -/
def dpBlk (m : (ℓ : Loc nD τ sig) → Buf (Elt Ideal) ℓ) (c : Dev nD) (t : Fin cfg0.N) : FVec Ideal S512x1024 .f32 :=
  k0_pay14 (F := Ideal) (iblk m c 0 t) (iblk m c 1 t) (iblk m c 2 t)

theorem dp_at (h : Args m c A) (t : Fin cfg0.N) (i : Fin 512) (j : Fin 1024) :
    dpBlk m c t (ix2 i j) = ((dp A.rows (row t i) j : ℝ) : EReal) := by
  unfold dpBlk
  unfold_payloads
  pointwise
  simp only [block_res h, block_product h, block_gain h]
  simp only [mul_coe, coe_sum, word_1024, div_1024, word_eps, add_coe, sub_coe, rsqrt_ms]
  rfl

/-- The left factor's gradient. -/
def daArr (A : Arrays) : FVec Ideal S4096x1024 .bf16 := fun i => ((da A.rows (i 0) (i 1) : ℝ) : EReal)
/-- The weight's gradient. -/
def dwArr (A : Arrays) : FVec Ideal S1024x1024 .bf16 := fun i => ((dw A.rows (i 0) (i 1) : ℝ) : EReal)
/-- The gain's gradient. -/
def dgArr (A : Arrays) : FVec Ideal S1x1024 .f32 := fun i => ((dg A.rows (i 1) : ℝ) : EReal)
/-- The bias's gradient. -/
def dbArr (A : Arrays) : FVec Ideal S1x1024 .f32 := fun i => ((db A.rows (i 1) : ℝ) : EReal)

theorem da_at (h : Args m c A) (t : Fin cfg0.N) (i : Fin 512) (k : Fin 1024) :
    k0_pay3 (F := Ideal) (dpBlk m c t) (iblk m c 3 t) (ix2 i k) = ((da A.rows (row t i) k : ℝ) : EReal) := by
  unfold_payloads
  pointwise [dot_S512x1024_S1024x1024_S512x1024_1_1_0_0_n_n]
  simp only [dp_at h, block_weight h, mul_coe, coe_sum]
  rfl

theorem da_final (h : Args m c A) : (dats m 0 c).arrAt 5 cfg0.N = daArr A := by
  refine (dats m 0 c).arrAt_eq_of_covers 5 _ (by decide +kernel) fun t hf y => ?_
  blk_simp
  rw [after0_5]
  have e : ∀ y0 y1, ((View.whole main_v12_0).slice (win0_5.rect t)).emb (ix2 y0 y1) = ix2 (row t y0) y1 := fun y0 y1 => by blk_ext [idx t, row]
  by_cases h0 : t.val % 8 = 0
  · have h1 : ¬t.val % 8 = 7 := by omega
    rw [outsAt0_A m c t h0 h1]
    frame_out
    idx_vars y
    rw [e]
    exact da_at h t y0 y1
  · by_cases h1 : t.val % 8 = 7
    · rw [outsAt0_C m c t h0 h1]
      frame_out
      idx_vars y
      rw [e]
      exact da_at h t y0 y1
    · rw [outsAt0_B m c t h0 h1]
      frame_out
      idx_vars y
      rw [e]
      exact da_at h t y0 y1

/-- What one grid point adds to the weight's gradient. -/
def partW (A : Arrays) (t : Fin cfg0.N) (j : S1024x1024.Idx) : EReal :=
  ∑ i : Fin 512, ((A.rows.a (row t i) (j 0) * dp A.rows (row t i) (j 1) : ℝ) : EReal)

/-- What one grid point adds to the gain's gradient. -/
def partG (A : Arrays) (t : Fin cfg0.N) (j : S1x1024.Idx) : EReal :=
  ∑ i : Fin 512, ((A.rows.r (row t i) (j 1) * (A.rows.p (row t i) (j 1) * rstd (A.rows.p (row t i))) : ℝ) : EReal)

/-- What one grid point adds to the bias's gradient. -/
def partB (A : Arrays) (t : Fin cfg0.N) (j : S1x1024.Idx) : EReal := ∑ i : Fin 512, ((dp A.rows (row t i) (j 1) : ℝ) : EReal)

theorem add_w (h : Args m c A) (t : Fin cfg0.N) (prev : Vec Ideal S1024x1024 .f32) (j : S1024x1024.Idx) :
    k0_pay4 (F := Ideal) (dpBlk m c t) prev (iblk m c 4 t) j = prev j + partW A t j := by
  unfold_payloads
  idx_vars j
  pointwise [dot_S512x1024_S512x1024_S1024x1024_0_0_1_1_n_n]
  simp only [dp_at h, block_left h, mul_coe]
  rfl

theorem add_g (h : Args m c A) (t : Fin cfg0.N) (prev : Vec Ideal S1x1024 .f32) (j : S1x1024.Idx) :
    k0_pay13 (F := Ideal) (iblk m c 0 t) (iblk m c 1 t) prev j = prev j + partG A t j := by
  unfold_payloads
  idx_vars j
  pointwise
  simp only [block_res h, block_product h]
  simp only [mul_coe, coe_sum, word_1024, div_1024, word_eps, add_coe, sub_coe, rsqrt_ms]
  rw [partG, coe_sum]
  rfl

theorem add_b (h : Args m c A) (t : Fin cfg0.N) (prev : Vec Ideal S1x1024 .f32) (j : S1x1024.Idx) :
    k0_pay2 (F := Ideal) (dpBlk m c t) prev j = prev j + partB A t j := by
  unfold_payloads
  idx_vars j
  pointwise
  simp only [dp_at h]
  rfl

theorem dw_final (h : Args m c A) : (dats m 0 c).arrAt 6 cfg0.N = dwArr A := by
  refine (dats m 0 c).arrAt_eq_of_after_last 6 t0_7 (by decide +kernel) _ fun j => ?_
  blk_simp
  rw [after0_6]
  refine Eq.trans (b := (outsAt0 m c t0_7.val t0_7.isLt).2.2.2.2 j) ?_ ?_
  · rw [outsAt0_C m c t0_7 (by decide) (by decide)]
    frame_out
    unfold_payloads
    pointwise
  refine (Pipeline.eq_sum_fin_of_reset_step_apply_last (fun n hn => (outsAt0 m c n hn).2.2.2.2) 8 (fun _ => 0) (partW A)
    (fun t h0 j => ?_) (fun t h0 j => ?_) (show cfg0.N = 8 from N_0).le t0_7 rfl j).trans ?_
  · rw [outsAt0_A m c t h0 (by omega)]
    frame_out
    refine (add_w h t _ j).trans ?_
    unfold_payloads
    pointwise
  · by_cases h1 : t.val % 8 = 7
    · rw [outsAt0_C m c t h0 h1]
      frame_out
      erw [Memref.IsWhole.read_unread]
      exact add_w h t _ j
    · rw [outsAt0_B m c t h0 h1]
      frame_out
      erw [Memref.IsWhole.read_unread]
      exact add_w h t _ j
  · rw [zero_add]
    unfold partW dwArr dw
    rw [← coe_sum]
    exact Fin.sum_mul_add_congr (fun s k hl => rfl)

theorem dg_final (h : Args m c A) : (dats m 0 c).arrAt 7 cfg0.N = dgArr A := by
  refine (dats m 0 c).arrAt_eq_of_after_last 7 t0_7 (by decide +kernel) _ fun j => ?_
  blk_simp
  rw [after0_7]
  refine (Pipeline.eq_sum_fin_of_reset_step_apply_last (fun n hn => (outsAt0 m c n hn).2.2.1) 8 (fun _ => 0) (partG A)
    (fun t h0 j => ?_) (fun t h0 j => ?_) (show cfg0.N = 8 from N_0).le t0_7 rfl j).trans ?_
  · rw [outsAt0_A m c t h0 (by omega)]
    frame_out
    refine (add_g h t _ j).trans ?_
    unfold_payloads
    pointwise
  · by_cases h1 : t.val % 8 = 7
    · rw [outsAt0_C m c t h0 h1]
      frame_out
      exact add_g h t _ j
    · rw [outsAt0_B m c t h0 h1]
      frame_out
      exact add_g h t _ j
  · rw [zero_add]
    unfold partG dgArr dg
    rw [← coe_sum]
    exact Fin.sum_mul_add_congr (fun s k hl => rfl)

theorem db_final (h : Args m c A) : (dats m 0 c).arrAt 8 cfg0.N = dbArr A := by
  refine (dats m 0 c).arrAt_eq_of_after_last 8 t0_7 (by decide +kernel) _ fun j => ?_
  blk_simp
  rw [after0_8]
  refine (Pipeline.eq_sum_fin_of_reset_step_apply_last (fun n hn => (outsAt0 m c n hn).2.2.2.1) 8 (fun _ => 0) (partB A)
    (fun t h0 j => ?_) (fun t h0 j => ?_) (show cfg0.N = 8 from N_0).le t0_7 rfl j).trans ?_
  · rw [outsAt0_A m c t h0 (by omega)]
    frame_out
    refine (add_b h t _ j).trans ?_
    unfold_payloads
    pointwise
  · by_cases h1 : t.val % 8 = 7
    · rw [outsAt0_C m c t h0 h1]
      frame_out
      exact add_b h t _ j
    · rw [outsAt0_B m c t h0 h1]
      frame_out
      exact add_b h t _ j
  · rw [zero_add]
    unfold partB dbArr db
    rw [← coe_sum]
    exact Fin.sum_mul_add_congr (fun s k hl => rfl)

end Cert.AttnOutBwd.Kernel

end
-- ==== Proof.Dots.lean ====
/- Products that sum over two leading axes of which the first has one element. -/
module

public import proofs.«01_k».proof.Proof.Reals

@[expose] public section

noncomputable section

namespace Cert.Dots

open Idealize.ShloMosaic

/-- The product of two stacks of rows over their rows, at an index. -/
theorem matmul_front {n a b : Nat} (wf : DotDims.WF ⟨3, ![1, n, a]⟩ ⟨3, ![1, n, b]⟩ ⟨2, ![a, b]⟩ [0, 1] [0, 1] [2] [2] [] [])
    (x : (⟨3, ![1, n, a]⟩ : Shape).Idx → EReal) (y : (⟨3, ![1, n, b]⟩ : Shape).Idx → EReal) (acc : (⟨2, ![a, b]⟩ : Shape).Idx → EReal)
    (i : Fin a) (j : Fin b) :
    Ideal.matmul (⟨[0, 1], [0, 1], [2], [2], [], [], wf⟩ : DotDims ⟨3, ![1, n, a]⟩ ⟨3, ![1, n, b]⟩ ⟨2, ![a, b]⟩) x y acc (ix2 i j)
      = acc (ix2 i j) + ∑ k : Fin n, x (ix3 0 k i) * y (ix3 0 k j) := by
  unfold Ideal.matmul
  congr 1
  refine (Fintype.sum_equiv (⟨fun k p => match p with
    | ⟨0, _⟩ => (0 : Fin 1)
    | ⟨1, _⟩ => k, fun k => k ⟨1, Nat.lt_succ_self 1⟩, fun k => rfl, fun k => ?_⟩ :
    Fin n ≃ (⟨[0, 1], [0, 1], [2], [2], [], [], wf⟩ : DotDims ⟨3, ![1, n, a]⟩ ⟨3, ![1, n, b]⟩ ⟨2, ![a, b]⟩).contr.Idx) _ _ fun k => ?_).symm
  · funext p
    match p with
    | ⟨0, _⟩ => exact Subsingleton.elim (α := Fin 1) _ _
    | ⟨1, _⟩ => rfl
  · refine congrArg₂ (fun a b : EReal => a * b) (congrArg x ?_) (congrArg y ?_)
    · funext p
      match p with
      | ⟨0, _⟩ => rfl
      | ⟨1, _⟩ => rfl
      | ⟨2, _⟩ => rfl
    · funext p
      match p with
      | ⟨0, _⟩ => rfl
      | ⟨1, _⟩ => rfl
      | ⟨2, _⟩ => rfl

end Cert.Dots

end
-- ==== Proof.AttnOutBwd.Reference.lean ====
/- What the reference's four results hold, read off its printed operations. -/
module

public import proofs.«01_k».proof.Proof.AttnOutBwd.Blocks
public import proofs.«01_k».proof.Proof.Dots
public import proofs.«01_k».proof.Proof.Gen.AttnOutReferenceIdeal.Read

@[expose] public section

set_option maxRecDepth 16384

noncomputable section

namespace Cert.AttnOutBwd.Reference

open Idealize.ShloMosaic Idealize.ShloMosaic.TcCoe Cert.AttnOutReferenceIdeal Cert.AttnOutReferenceIdeal.Gen Cert.AttnOutReferenceIdeal.Read Cert.Reals Cert.Norm Cert.PostBwd
open Cert.AttnOutBwd.Kernel (Arrays)

/-- The arguments, as arrays of extended reals. -/
def aA (A : Arrays) : FVec Ideal SA .f32 := fun i => ((A.a i : ℝ) : EReal)
def wA (A : Arrays) : FVec Ideal SW .f32 := fun i => ((A.w i : ℝ) : EReal)
def bA (A : Arrays) : FVec Ideal SB .f32 := fun i => ((A.b i : ℝ) : EReal)
def gA (A : Arrays) : FVec Ideal SG .f32 := fun i => ((A.g i : ℝ) : EReal)
def rA (A : Arrays) : FVec Ideal SA .f32 := fun i => ((A.r i : ℝ) : EReal)

variable (A : Arrays)

theorem p_eq (i : Fin 4096) (j : Fin 1024) : (val_main_v7 (F := Ideal) (aA A) (wA A) (bA A)) (ix3 0 i j) = ((A.rows.p i j : ℝ) : EReal) := by
  pointwise [val_main_v0, val_main_v1, val_main_v4, val_main_v5, val_main_v6, val_main_v7, aA, wA, bA, gA, rA, dot_S1x4096x1024_S1024x1024_S1x4096x1024_2_0_01_1_n_n]
  simp only [mul_coe, coe_sum, add_coe]
  rfl

/-- The gradient in the product's result, from the chain rule through the inverse root. -/
theorem dp_eq (i : Fin 4096) (j : Fin 1024) : (val_main_v44 (F := Ideal) (aA A) (wA A) (bA A) (gA A) (rA A)) (ix3 0 i j) = ((dp A.rows i j : ℝ) : EReal) := by
  pointwise [hostReduceAdd_ends, val_main_cst_0, val_main_cst, val_main_cst_1, val_main_cst_2, val_main_cst_5, val_main_cst_6, val_main_cst_7, val_main_v2, val_main_v3, val_main_v8, val_main_v9, val_main_v10, val_main_v11, val_main_v12, val_main_v13, val_main_v14, val_main_v15, val_main_v16, val_main_v17, val_main_v18, val_main_v21, val_main_v27, val_main_v28, val_main_v30, val_main_v31, val_main_v32, val_main_v33, val_main_v34, val_main_v35, val_main_v36, val_main_v37, val_main_v38, val_main_v39, val_main_v40, val_main_v41, val_main_v42, val_main_v43, val_main_v44, gA, rA]
  simp only [p_eq, mul_coe, coe_sum, word_1024, div_1024, word_eps, word_neg_half, add_coe, rsqrt_ms, div_ms]
  refine congrArg (fun a : ℝ => (a : EReal)) ?_
  rw [dp, rmsBwd_eq_chain]
  rfl

theorem dg_eq (j : Fin 1024) : (val_main_v54 (F := Ideal) (aA A) (wA A) (bA A) (rA A)) (ix2 0 j) = ((dg A.rows j : ℝ) : EReal) := by
  pointwise [hostReduceAdd_front, val_main_cst_0, val_main_cst, val_main_cst_1, val_main_cst_3, val_main_cst_4, val_main_v8, val_main_v9, val_main_v10, val_main_v11, val_main_v12, val_main_v13, val_main_v14, val_main_v15, val_main_v19, val_main_v20, val_main_v24, val_main_v25, val_main_v26, val_main_v29, val_main_v54, rA]
  simp only [p_eq, mul_coe, coe_sum, word_1024, div_1024, word_eps, add_coe, rsqrt_ms]
  rw [Finset.sum_const, Finset.card_univ, Fintype.card_fin, one_smul, dg]
  refine congrArg (fun a : ℝ => (a : EReal)) (Finset.sum_congr rfl fun i _ => ?_)
  exact mul_comm _ _

theorem da_eq (i : Fin 4096) (k : Fin 1024) : (val_main_v52 (F := Ideal) (aA A) (wA A) (bA A) (gA A) (rA A)) (ix2 i k) = ((da A.rows i k : ℝ) : EReal) := by
  pointwise [val_main_v0, val_main_v50, val_main_v51, val_main_v52, wA, dot_S1x4096x1024_S1024x1024_S1x4096x1024_2_1_01_0_n_n]
  simp only [dp_eq, mul_coe, coe_sum]
  rfl

theorem dw_all (j k : Fin 1024) : (val_main_v48 (F := Ideal) (aA A) (wA A) (bA A) (gA A) (rA A)) (ix2 j k) = ((∑ i, dp A.rows i j * A.rows.a i k : ℝ) : EReal) := by
  unfold val_main_v48
  refine (Dots.matmul_front _ _ _ _ j k).trans ?_
  pointwise [aA]
  simp only [dp_eq, mul_coe, coe_sum]
  rfl

theorem dw_eq (k j : Fin 1024) : (val_main_v53 (F := Ideal) (aA A) (wA A) (bA A) (gA A) (rA A)) (ix2 k j) = ((dw A.rows k j : ℝ) : EReal) := by
  pointwise [val_main_v49, val_main_v53]
  simp only [dw_all]
  refine congrArg (fun a : ℝ => (a : EReal)) (Finset.sum_congr rfl fun i _ => ?_)
  exact mul_comm _ _

theorem db_eq (j : Fin 1024) : (val_main_v55 (F := Ideal) (aA A) (wA A) (bA A) (gA A) (rA A)) (ix2 0 j) = ((db A.rows j : ℝ) : EReal) := by
  pointwise [hostReduceAdd_front, val_main_cst_8, val_main_cst_9, val_main_v45, val_main_v46, val_main_v47, val_main_v55]
  simp only [dp_eq, coe_sum]
  rw [Finset.sum_const, Finset.card_univ, Fintype.card_fin, one_smul]
  rfl

end Cert.AttnOutBwd.Reference

end
-- ==== Proof.AttnOutBwd.Claim.lean ====
/- The call and its reference end with the same four arrays. -/
module

public import proofs.«01_k».proof.Defs
public import proofs.«01_k».proof.Proof.AttnOutBwd.Kernel
public import proofs.«01_k».proof.Proof.AttnOutBwd.Reference
public import proofs.«01_k».proof.Proof.Gen.AttnOutReferenceIdeal.Run
public import proofs.«01_k».proof.Proof.Gen.Pre_attn_out_finite
public import proofs.«01_k».proof.Proof.Gen.AttnOut

@[expose] public section

set_option maxRecDepth 16384

noncomputable section

namespace Cert.AttnOutBwd

open Idealize.ShloMosaic Idealize.ShloMosaic.TcCoe Idealize.SL.Sem Cert.Reals

variable {A : Kernel.Arrays}

variable {a0 : FVec Ideal AttnOutReferenceIdeal.S1x4096x1024 .f32}
variable {a1 : FVec Ideal AttnOutReferenceIdeal.S1x1024x1024 .f32}
variable {a2 : FVec Ideal AttnOutReferenceIdeal.S1x1024 .f32}
variable {a3 : FVec Ideal AttnOutReferenceIdeal.S2x1024 .f32}
variable {a4 : FVec Ideal AttnOutReferenceIdeal.S1x4096x1024 .f32}

theorem daArr_eq (h0 : a0 = Reference.aA A) (h1 : a1 = Reference.wA A) (h2 : a2 = Reference.bA A) (h3 : a3 = Reference.gA A) (h4 : a4 = Reference.rA A) :
    AttnOutReferenceIdeal.Read.val_main_v52 (F := Ideal) a0 a1 a2 a3 a4 = Kernel.daArr A := by
  subst h0 h1 h2 h3 h4
  funext i
  idx_vars i
  exact Reference.da_eq A i0 i1

theorem dwArr_eq (h0 : a0 = Reference.aA A) (h1 : a1 = Reference.wA A) (h2 : a2 = Reference.bA A) (h3 : a3 = Reference.gA A) (h4 : a4 = Reference.rA A) :
    AttnOutReferenceIdeal.Read.val_main_v53 (F := Ideal) a0 a1 a2 a3 a4 = Kernel.dwArr A := by
  subst h0 h1 h2 h3 h4
  funext i
  idx_vars i
  exact Reference.dw_eq A i0 i1

theorem dgArr_eq (h0 : a0 = Reference.aA A) (h1 : a1 = Reference.wA A) (h2 : a2 = Reference.bA A) (h4 : a4 = Reference.rA A) :
    AttnOutReferenceIdeal.Read.val_main_v54 (F := Ideal) a0 a1 a2 a4 = Kernel.dgArr A := by
  subst h0 h1 h2 h4
  funext i
  idx_vars i
  obtain rfl : i0 = 0 := Subsingleton.elim _ _
  exact Reference.dg_eq A i1

theorem dbArr_eq (h0 : a0 = Reference.aA A) (h1 : a1 = Reference.wA A) (h2 : a2 = Reference.bA A) (h3 : a3 = Reference.gA A) (h4 : a4 = Reference.rA A) :
    AttnOutReferenceIdeal.Read.val_main_v55 (F := Ideal) a0 a1 a2 a3 a4 = Kernel.dbArr A := by
  subst h0 h1 h2 h3 h4
  funext i
  idx_vars i
  obtain rfl : i0 = 0 := Subsingleton.elim _ _
  exact Reference.db_eq A i1

/-- The real values of the arguments. -/
def args (m : (ℓ : Loc AttnOutIdeal.nD AttnOutIdeal.τ AttnOutIdeal.sig) → Buf (Elt Ideal) ℓ) (c : Dev AttnOutIdeal.nD) : Kernel.Arrays where
  a := re (s := AttnOutReferenceIdeal.S1x4096x1024) (m ((c.tc : Thread AttnOutIdeal.nD AttnOutIdeal.τ).loc AttnOutIdeal.main_arg0))
  w := re (s := AttnOutReferenceIdeal.S1x1024x1024) (m ((c.tc : Thread AttnOutIdeal.nD AttnOutIdeal.τ).loc AttnOutIdeal.main_arg1))
  b := re (s := AttnOutReferenceIdeal.S1x1024) (m ((c.tc : Thread AttnOutIdeal.nD AttnOutIdeal.τ).loc AttnOutIdeal.main_arg2))
  g := re (s := AttnOutReferenceIdeal.S2x1024) (m ((c.tc : Thread AttnOutIdeal.nD AttnOutIdeal.τ).loc AttnOutIdeal.main_arg3))
  r := re (s := AttnOutReferenceIdeal.S1x4096x1024) (m ((c.tc : Thread AttnOutIdeal.nD AttnOutIdeal.τ).loc AttnOutIdeal.main_arg4))

attribute [local instance] Cert.AttnOutIdeal.Gen.facts Cert.AttnOutReferenceIdeal.Gen.facts Cert.Pre_attn_out_finite.Gen.facts in
theorem algebraic : Cert.algebraic_AttnOutIdeal_AttnOutReferenceIdeal_pre_attn_out_finite := by
  intro m g m' g' hpre hargs
  have hA : ∀ c, Kernel.Args m c (args m c) := fun c =>
    ⟨eq_re (hpre c).1, eq_re (hpre c).2.1, eq_re (hpre c).2.2.1, eq_re (hpre c).2.2.2.1, eq_re (hpre c).2.2.2.2⟩
  refine ⟨fun c => Kernel.daArr (args m c), fun c => Kernel.dwArr (args m c), fun c => Kernel.dgArr (args m c), fun c => Kernel.dbArr (args m c),
    (θ_run _ _ _).mono (fun r h c => ⟨(h c).1.trans (Kernel.da_final (hA c)), (h c).2.1.trans (Kernel.dw_final (hA c)), (h c).2.2.1.trans (Kernel.dg_final (hA c)), (h c).2.2.2.1.trans (Kernel.db_final (hA c)), (h c).2.2.2.2⟩)
      (Cert.AttnOutIdeal.Value.run_blocks m g),
    (θ_run _ _ _).mono (fun r h c => ⟨(h c).1.trans ((AttnOutReferenceIdeal.Read.val_main_v52_eq ..).trans ?_),
      (h c).2.1.trans ((AttnOutReferenceIdeal.Read.val_main_v53_eq ..).trans ?_),
      (h c).2.2.1.trans ((AttnOutReferenceIdeal.Read.val_main_v54_eq ..).trans ?_),
      (h c).2.2.2.1.trans ((AttnOutReferenceIdeal.Read.val_main_v55_eq ..).trans ?_), (h c).2.2.2.2⟩)
      (Cert.AttnOutReferenceIdeal.Value.run m' g')⟩
  all_goals obtain ⟨a0, a1, a2, a3, a4⟩ := hargs c
  · exact daArr_eq (a0.trans (hA c).left) (a1.trans (hA c).weight) (a2.trans (hA c).bias) (a3.trans (hA c).gain) (a4.trans (hA c).res)
  · exact dwArr_eq (a0.trans (hA c).left) (a1.trans (hA c).weight) (a2.trans (hA c).bias) (a3.trans (hA c).gain) (a4.trans (hA c).res)
  · exact dgArr_eq (a0.trans (hA c).left) (a1.trans (hA c).weight) (a2.trans (hA c).bias) (a4.trans (hA c).res)
  · exact dbArr_eq (a0.trans (hA c).left) (a1.trans (hA c).weight) (a2.trans (hA c).bias) (a3.trans (hA c).gain) (a4.trans (hA c).res)

attribute [local instance] Cert.AttnOutReferenceIdeal.Gen.facts in
/-- The reference ends with its arguments as they were and, having no semaphores, with every counter at zero. -/
theorem reference_frame : Cert.quiescent_AttnOutReferenceIdeal := fun m ρ _ =>
  (θ_run _ _ _).mono (fun r h => ⟨fun c => (h c).2.2.2.2, sem_eq_zero_of_no_sems rfl r.2⟩) (Cert.AttnOutReferenceIdeal.Value.run m ρ)

end Cert.AttnOutBwd

end
-- ==== Proof.SguOutBwd.Blocks.lean ====
/- What each grid point of the gating unit's output call reads: the rows of its block, and the whole weight and gain. -/
module

public import proofs.«01_k».proof.Proof.PostBwd.Spec
public import proofs.«01_k».proof.Proof.Gen.SguOutIdeal.Value
public import Idealize.ShloMosaic.Lib.Pipeline.ValueKit
public import Idealize.ShloMosaic.Lib.StableHlo.ReadAt
public import Idealize.ShloMosaic.Lib.Claim

@[expose] public section

set_option maxRecDepth 16384

noncomputable section

namespace Cert.SguOutBwd.Kernel

open Idealize.ShloMosaic Idealize.ShloMosaic.TcCoe Cert.SguOutIdeal Cert.SguOutIdeal.Gen Cert.Reals Cert.Norm Cert.PostBwd

/-- The row of the array that row `r` of block `t` is. -/
def row (t : Fin cfg0.N) (r : Fin 512) : Fin 4096 :=
  ⟨t.val * 512 + r.val, by have h : t.val < 8 := lt_of_lt_of_eq t.isLt (show cfg0.N = 8 from N_0); omega⟩

/-- Where each window's block stands at point `t`: the row windows at block row `t`, the others at the origin. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0])

/-- The arguments as real arrays. -/
structure Arrays where
  a : SA.Idx → ℝ
  w : SW.Idx → ℝ
  g : SG.Idx → ℝ
  r : SA.Idx → ℝ

/-- Their rows. -/
def Arrays.rows (A : Arrays) : Rows := PostBwd.rows A.a A.w A.g A.r

/-- The arguments a device starts from are these real arrays. -/
structure Args (m : (ℓ : Loc nD τ sig) → Buf (Elt Ideal) ℓ) (c : Dev nD) (A : Arrays) : Prop where
  left : (m ((c : Thread nD τ).loc main_arg0) : FVec Ideal S1x4096x1024 .f32) = fun i => ((A.a i : ℝ) : EReal)
  weight : (m ((c : Thread nD τ).loc main_arg1) : FVec Ideal S1x1024x1024 .f32) = fun i => ((A.w i : ℝ) : EReal)
  gain : (m ((c : Thread nD τ).loc main_arg2) : FVec Ideal S2x1024 .f32) = fun i => ((A.g i : ℝ) : EReal)
  res : (m ((c : Thread nD τ).loc main_arg3) : FVec Ideal S1x4096x1024 .f32) = fun i => ((A.r i : ℝ) : EReal)

variable {m : (ℓ : Loc nD τ sig) → Buf (Elt Ideal) ℓ} {c : Dev nD} {A : Arrays}

theorem block_res (h : Args m c A) (t : Fin cfg0.N) (i : Fin 512) (k : Fin 1024) :
    (iblk m c 0 t : Vec Ideal S512x1024 .f32) (ix2 i k) = ((A.rows.r (row t i) k : ℝ) : EReal) := by
  refine Eq.trans ?_ (congrFun h.res (ix3 0 (row t i) k))
  blk_simp [iblk, V, idx t]
  entry_read
  pointwise
  blk_ext [iblk, V, idx t, row]

theorem block_gain (h : Args m c A) (t : Fin cfg0.N) (k : Fin 1024) :
    (iblk m c 2 t : Vec Ideal S1x1024 .f32) (ix2 0 k) = ((A.rows.g k : ℝ) : EReal) := by
  refine Eq.trans ?_ (congrFun h.gain (ix2 1 k))
  blk_simp [iblk, V, idx t]
  entry_read
  pointwise
  blk_ext [iblk, V, idx t, row]

theorem block_weight (h : Args m c A) (t : Fin cfg0.N) (k : Fin 1024) (j : Fin 1024) :
    (iblk m c 3 t : Vec Ideal S1024x1024 .bf16) (ix2 k j) = ((A.rows.w k j : ℝ) : EReal) := by
  refine Eq.trans ?_ (congrFun h.weight (ix3 0 k j))
  blk_simp [iblk, V, idx t]
  entry_read
  pointwise
  blk_ext [iblk, V, idx t, row]

theorem block_left (h : Args m c A) (t : Fin cfg0.N) (i : Fin 512) (k : Fin 1024) :
    (iblk m c 4 t : Vec Ideal S512x1024 .bf16) (ix2 i k) = ((A.rows.a (row t i) k : ℝ) : EReal) := by
  refine Eq.trans ?_ (congrFun h.left (ix3 0 (row t i) k))
  blk_simp [iblk, V, idx t]
  entry_read
  pointwise
  blk_ext [iblk, V, idx t, row]

/-- The array the call is given for the product that the forward pass saved. -/
theorem product_eq (h : Args m c A) (i : Fin 4096) (k : Fin 1024) :
    (V m c main_v8 : FVec Ideal S4096x1024 .bf16) (ix2 i k) = ((A.rows.p i k : ℝ) : EReal) := by
  simp only [V]
  entry_read
  pointwise [dot_S4096x1024_S1024x1024_S4096x1024_1_0_0_1_n_n]
  simp only [h.left, h.weight, mul_coe, coe_sum]
  rfl

theorem block_product (h : Args m c A) (t : Fin cfg0.N) (i : Fin 512) (k : Fin 1024) :
    (iblk m c 1 t : Vec Ideal S512x1024 .bf16) (ix2 i k) = ((A.rows.p (row t i) k : ℝ) : EReal) := by
  refine Eq.trans ?_ (product_eq h (row t i) k)
  blk_ext [iblk, idx t, row]

end Cert.SguOutBwd.Kernel

end
-- ==== Proof.SguOutBwd.Kernel.lean ====
/- What the gating unit's output call leaves in its three output arrays: the left factor's gradient row by row, and the weight's and the gain's gradient summed over all rows. -/
module

public import proofs.«01_k».proof.Proof.SguOutBwd.Blocks

@[expose] public section

set_option maxRecDepth 16384

noncomputable section

namespace Cert.SguOutBwd.Kernel

open Idealize.ShloMosaic Idealize.ShloMosaic.TcCoe Cert.SguOutIdeal Cert.SguOutIdeal.Gen Cert.SguOutIdeal.Facts Cert.Reals Cert.Norm Cert.PostBwd

variable {m : (ℓ : Loc nD τ sig) → Buf (Elt Ideal) ℓ} {c : Dev nD} {A : Arrays}

/-- The gradient in the product's result, as a block. -/
def dpBlk (m : (ℓ : Loc nD τ sig) → Buf (Elt Ideal) ℓ) (c : Dev nD) (t : Fin cfg0.N) : FVec Ideal S512x1024 .f32 :=
  k0_pay12 (F := Ideal) (iblk m c 0 t) (iblk m c 1 t) (iblk m c 2 t)

theorem dp_at (h : Args m c A) (t : Fin cfg0.N) (i : Fin 512) (j : Fin 1024) :
    dpBlk m c t (ix2 i j) = ((dp A.rows (row t i) j : ℝ) : EReal) := by
  unfold dpBlk
  unfold_payloads
  pointwise
  simp only [block_res h, block_product h, block_gain h]
  simp only [mul_coe, coe_sum, word_1024, div_1024, word_eps, add_coe, sub_coe, rsqrt_ms]
  rfl

/-- The left factor's gradient. -/
def daArr (A : Arrays) : FVec Ideal S4096x1024 .bf16 := fun i => ((da A.rows (i 0) (i 1) : ℝ) : EReal)
/-- The weight's gradient. -/
def dwArr (A : Arrays) : FVec Ideal S1024x1024 .bf16 := fun i => ((dw A.rows (i 0) (i 1) : ℝ) : EReal)
/-- The gain's gradient. -/
def dgArr (A : Arrays) : FVec Ideal S1x1024 .f32 := fun i => ((dg A.rows (i 1) : ℝ) : EReal)
theorem da_at (h : Args m c A) (t : Fin cfg0.N) (i : Fin 512) (k : Fin 1024) :
    k0_pay2 (F := Ideal) (dpBlk m c t) (iblk m c 3 t) (ix2 i k) = ((da A.rows (row t i) k : ℝ) : EReal) := by
  unfold_payloads
  pointwise [dot_S512x1024_S1024x1024_S512x1024_1_1_0_0_n_n]
  simp only [dp_at h, block_weight h, mul_coe, coe_sum]
  rfl

theorem da_final (h : Args m c A) : (dats m 0 c).arrAt 5 cfg0.N = daArr A := by
  refine (dats m 0 c).arrAt_eq_of_covers 5 _ (by decide +kernel) fun t hf y => ?_
  blk_simp
  rw [after0_5]
  have e : ∀ y0 y1, ((View.whole main_v10_0).slice (win0_5.rect t)).emb (ix2 y0 y1) = ix2 (row t y0) y1 := fun y0 y1 => by blk_ext [idx t, row]
  by_cases h0 : t.val % 8 = 0
  · have h1 : ¬t.val % 8 = 7 := by omega
    rw [outsAt0_A m c t h0 h1]
    frame_out
    idx_vars y
    rw [e]
    exact da_at h t y0 y1
  · by_cases h1 : t.val % 8 = 7
    · rw [outsAt0_C m c t h0 h1]
      frame_out
      idx_vars y
      rw [e]
      exact da_at h t y0 y1
    · rw [outsAt0_B m c t h0 h1]
      frame_out
      idx_vars y
      rw [e]
      exact da_at h t y0 y1

/-- What one grid point adds to the weight's gradient. -/
def partW (A : Arrays) (t : Fin cfg0.N) (j : S1024x1024.Idx) : EReal :=
  ∑ i : Fin 512, ((A.rows.a (row t i) (j 0) * dp A.rows (row t i) (j 1) : ℝ) : EReal)

/-- What one grid point adds to the gain's gradient. -/
def partG (A : Arrays) (t : Fin cfg0.N) (j : S1x1024.Idx) : EReal :=
  ∑ i : Fin 512, ((A.rows.r (row t i) (j 1) * (A.rows.p (row t i) (j 1) * rstd (A.rows.p (row t i))) : ℝ) : EReal)

theorem add_w (h : Args m c A) (t : Fin cfg0.N) (prev : Vec Ideal S1024x1024 .f32) (j : S1024x1024.Idx) :
    k0_pay3 (F := Ideal) (dpBlk m c t) prev (iblk m c 4 t) j = prev j + partW A t j := by
  unfold_payloads
  idx_vars j
  pointwise [dot_S512x1024_S512x1024_S1024x1024_0_0_1_1_n_n]
  simp only [dp_at h, block_left h, mul_coe]
  rfl

theorem add_g (h : Args m c A) (t : Fin cfg0.N) (prev : Vec Ideal S1x1024 .f32) (j : S1x1024.Idx) :
    k0_pay11 (F := Ideal) (iblk m c 0 t) (iblk m c 1 t) prev j = prev j + partG A t j := by
  unfold_payloads
  idx_vars j
  pointwise
  simp only [block_res h, block_product h]
  simp only [mul_coe, coe_sum, word_1024, div_1024, word_eps, add_coe, sub_coe, rsqrt_ms]
  rw [partG, coe_sum]
  rfl

theorem dw_final (h : Args m c A) : (dats m 0 c).arrAt 6 cfg0.N = dwArr A := by
  refine (dats m 0 c).arrAt_eq_of_after_last 6 t0_7 (by decide +kernel) _ fun j => ?_
  blk_simp
  rw [after0_6]
  refine Eq.trans (b := (outsAt0 m c t0_7.val t0_7.isLt).2.2.2 j) ?_ ?_
  · rw [outsAt0_C m c t0_7 (by decide) (by decide)]
    frame_out
    unfold_payloads
    pointwise
  refine (Pipeline.eq_sum_fin_of_reset_step_apply_last (fun n hn => (outsAt0 m c n hn).2.2.2) 8 (fun _ => 0) (partW A)
    (fun t h0 j => ?_) (fun t h0 j => ?_) (show cfg0.N = 8 from N_0).le t0_7 rfl j).trans ?_
  · rw [outsAt0_A m c t h0 (by omega)]
    frame_out
    refine (add_w h t _ j).trans ?_
    unfold_payloads
    pointwise
  · by_cases h1 : t.val % 8 = 7
    · rw [outsAt0_C m c t h0 h1]
      frame_out
      erw [Memref.IsWhole.read_unread]
      exact add_w h t _ j
    · rw [outsAt0_B m c t h0 h1]
      frame_out
      erw [Memref.IsWhole.read_unread]
      exact add_w h t _ j
  · rw [zero_add]
    unfold partW dwArr dw
    rw [← coe_sum]
    exact Fin.sum_mul_add_congr (fun s k hl => rfl)

theorem dg_final (h : Args m c A) : (dats m 0 c).arrAt 7 cfg0.N = dgArr A := by
  refine (dats m 0 c).arrAt_eq_of_after_last 7 t0_7 (by decide +kernel) _ fun j => ?_
  blk_simp
  rw [after0_7]
  refine (Pipeline.eq_sum_fin_of_reset_step_apply_last (fun n hn => (outsAt0 m c n hn).2.2.1) 8 (fun _ => 0) (partG A)
    (fun t h0 j => ?_) (fun t h0 j => ?_) (show cfg0.N = 8 from N_0).le t0_7 rfl j).trans ?_
  · rw [outsAt0_A m c t h0 (by omega)]
    frame_out
    refine (add_g h t _ j).trans ?_
    unfold_payloads
    pointwise
  · by_cases h1 : t.val % 8 = 7
    · rw [outsAt0_C m c t h0 h1]
      frame_out
      exact add_g h t _ j
    · rw [outsAt0_B m c t h0 h1]
      frame_out
      exact add_g h t _ j
  · rw [zero_add]
    unfold partG dgArr dg
    rw [← coe_sum]
    exact Fin.sum_mul_add_congr (fun s k hl => rfl)

end Cert.SguOutBwd.Kernel

end
-- ==== Proof.SguOutBwd.Reference.lean ====
/- What the reference's three results hold, read off its printed operations. -/
module

public import proofs.«01_k».proof.Proof.SguOutBwd.Blocks
public import proofs.«01_k».proof.Proof.Dots
public import proofs.«01_k».proof.Proof.Gen.SguOutReferenceIdeal.Read

@[expose] public section

set_option maxRecDepth 16384

noncomputable section

namespace Cert.SguOutBwd.Reference

open Idealize.ShloMosaic Idealize.ShloMosaic.TcCoe Cert.SguOutReferenceIdeal Cert.SguOutReferenceIdeal.Gen Cert.SguOutReferenceIdeal.Read Cert.Reals Cert.Norm Cert.PostBwd
open Cert.SguOutBwd.Kernel (Arrays)

/-- The arguments, as arrays of extended reals. -/
def aA (A : Arrays) : FVec Ideal SA .f32 := fun i => ((A.a i : ℝ) : EReal)
def wA (A : Arrays) : FVec Ideal SW .f32 := fun i => ((A.w i : ℝ) : EReal)
def gA (A : Arrays) : FVec Ideal SG .f32 := fun i => ((A.g i : ℝ) : EReal)
def rA (A : Arrays) : FVec Ideal SA .f32 := fun i => ((A.r i : ℝ) : EReal)

variable (A : Arrays)

theorem p_eq (i : Fin 4096) (j : Fin 1024) : (val_main_v3 (F := Ideal) (aA A) (wA A)) (ix3 0 i j) = ((A.rows.p i j : ℝ) : EReal) := by
  pointwise [val_main_v0, val_main_v3, aA, wA, gA, rA, dot_S1x4096x1024_S1024x1024_S1x4096x1024_2_0_01_1_n_n]
  simp only [mul_coe, coe_sum]
  rfl

/-- The gradient in the product's result, from the chain rule through the inverse root. -/
theorem dp_eq (i : Fin 4096) (j : Fin 1024) : (val_main_v40 (F := Ideal) (aA A) (wA A) (gA A) (rA A)) (ix3 0 i j) = ((dp A.rows i j : ℝ) : EReal) := by
  pointwise [hostReduceAdd_ends, val_main_cst_0, val_main_cst, val_main_cst_1, val_main_cst_2, val_main_cst_5, val_main_cst_6, val_main_cst_7, val_main_v1, val_main_v2, val_main_v4, val_main_v5, val_main_v6, val_main_v7, val_main_v8, val_main_v9, val_main_v10, val_main_v11, val_main_v12, val_main_v13, val_main_v14, val_main_v17, val_main_v23, val_main_v24, val_main_v26, val_main_v27, val_main_v28, val_main_v29, val_main_v30, val_main_v31, val_main_v32, val_main_v33, val_main_v34, val_main_v35, val_main_v36, val_main_v37, val_main_v38, val_main_v39, val_main_v40, gA, rA]
  simp only [p_eq, mul_coe, coe_sum, word_1024, div_1024, word_eps, word_neg_half, add_coe, rsqrt_ms, div_ms]
  refine congrArg (fun a : ℝ => (a : EReal)) ?_
  rw [dp, rmsBwd_eq_chain]
  rfl

theorem dg_eq (j : Fin 1024) : (val_main_v47 (F := Ideal) (aA A) (wA A) (rA A)) (ix2 0 j) = ((dg A.rows j : ℝ) : EReal) := by
  pointwise [hostReduceAdd_front, val_main_cst_0, val_main_cst, val_main_cst_1, val_main_cst_3, val_main_cst_4, val_main_v4, val_main_v5, val_main_v6, val_main_v7, val_main_v8, val_main_v9, val_main_v10, val_main_v11, val_main_v15, val_main_v16, val_main_v20, val_main_v21, val_main_v22, val_main_v25, val_main_v47, rA]
  simp only [p_eq, mul_coe, coe_sum, word_1024, div_1024, word_eps, add_coe, rsqrt_ms]
  rw [Finset.sum_const, Finset.card_univ, Fintype.card_fin, one_smul, dg]
  refine congrArg (fun a : ℝ => (a : EReal)) (Finset.sum_congr rfl fun i _ => ?_)
  exact mul_comm _ _

theorem da_eq (i : Fin 4096) (k : Fin 1024) : (val_main_v45 (F := Ideal) (aA A) (wA A) (gA A) (rA A)) (ix2 i k) = ((da A.rows i k : ℝ) : EReal) := by
  pointwise [val_main_v0, val_main_v43, val_main_v44, val_main_v45, wA, dot_S1x4096x1024_S1024x1024_S1x4096x1024_2_1_01_0_n_n]
  simp only [dp_eq, mul_coe, coe_sum]
  rfl

theorem dw_all (j k : Fin 1024) : (val_main_v41 (F := Ideal) (aA A) (wA A) (gA A) (rA A)) (ix2 j k) = ((∑ i, dp A.rows i j * A.rows.a i k : ℝ) : EReal) := by
  unfold val_main_v41
  refine (Dots.matmul_front _ _ _ _ j k).trans ?_
  pointwise [aA]
  simp only [dp_eq, mul_coe, coe_sum]
  rfl

theorem dw_eq (k j : Fin 1024) : (val_main_v46 (F := Ideal) (aA A) (wA A) (gA A) (rA A)) (ix2 k j) = ((dw A.rows k j : ℝ) : EReal) := by
  pointwise [val_main_v42, val_main_v46]
  simp only [dw_all]
  refine congrArg (fun a : ℝ => (a : EReal)) (Finset.sum_congr rfl fun i _ => ?_)
  exact mul_comm _ _

end Cert.SguOutBwd.Reference

end
-- ==== Proof.SguOutBwd.Claim.lean ====
/- The call and its reference end with the same three arrays. -/
module

public import proofs.«01_k».proof.Defs
public import proofs.«01_k».proof.Proof.SguOutBwd.Kernel
public import proofs.«01_k».proof.Proof.SguOutBwd.Reference
public import proofs.«01_k».proof.Proof.Gen.SguOutReferenceIdeal.Run
public import proofs.«01_k».proof.Proof.Gen.Pre_sgu_out_finite
public import proofs.«01_k».proof.Proof.Gen.SguOut

@[expose] public section

set_option maxRecDepth 16384

noncomputable section

namespace Cert.SguOutBwd

open Idealize.ShloMosaic Idealize.ShloMosaic.TcCoe Idealize.SL.Sem Cert.Reals

variable {A : Kernel.Arrays}

variable {a0 : FVec Ideal SguOutReferenceIdeal.S1x4096x1024 .f32}
variable {a1 : FVec Ideal SguOutReferenceIdeal.S1x1024x1024 .f32}
variable {a2 : FVec Ideal SguOutReferenceIdeal.S2x1024 .f32}
variable {a3 : FVec Ideal SguOutReferenceIdeal.S1x4096x1024 .f32}

theorem daArr_eq (h0 : a0 = Reference.aA A) (h1 : a1 = Reference.wA A) (h2 : a2 = Reference.gA A) (h3 : a3 = Reference.rA A) :
    SguOutReferenceIdeal.Read.val_main_v45 (F := Ideal) a0 a1 a2 a3 = Kernel.daArr A := by
  subst h0 h1 h2 h3
  funext i
  idx_vars i
  exact Reference.da_eq A i0 i1

theorem dwArr_eq (h0 : a0 = Reference.aA A) (h1 : a1 = Reference.wA A) (h2 : a2 = Reference.gA A) (h3 : a3 = Reference.rA A) :
    SguOutReferenceIdeal.Read.val_main_v46 (F := Ideal) a0 a1 a2 a3 = Kernel.dwArr A := by
  subst h0 h1 h2 h3
  funext i
  idx_vars i
  exact Reference.dw_eq A i0 i1

theorem dgArr_eq (h0 : a0 = Reference.aA A) (h1 : a1 = Reference.wA A) (h3 : a3 = Reference.rA A) :
    SguOutReferenceIdeal.Read.val_main_v47 (F := Ideal) a0 a1 a3 = Kernel.dgArr A := by
  subst h0 h1 h3
  funext i
  idx_vars i
  obtain rfl : i0 = 0 := Subsingleton.elim _ _
  exact Reference.dg_eq A i1

/-- The real values of the arguments. -/
def args (m : (ℓ : Loc SguOutIdeal.nD SguOutIdeal.τ SguOutIdeal.sig) → Buf (Elt Ideal) ℓ) (c : Dev SguOutIdeal.nD) : Kernel.Arrays where
  a := re (s := SguOutReferenceIdeal.S1x4096x1024) (m ((c.tc : Thread SguOutIdeal.nD SguOutIdeal.τ).loc SguOutIdeal.main_arg0))
  w := re (s := SguOutReferenceIdeal.S1x1024x1024) (m ((c.tc : Thread SguOutIdeal.nD SguOutIdeal.τ).loc SguOutIdeal.main_arg1))
  g := re (s := SguOutReferenceIdeal.S2x1024) (m ((c.tc : Thread SguOutIdeal.nD SguOutIdeal.τ).loc SguOutIdeal.main_arg2))
  r := re (s := SguOutReferenceIdeal.S1x4096x1024) (m ((c.tc : Thread SguOutIdeal.nD SguOutIdeal.τ).loc SguOutIdeal.main_arg3))

attribute [local instance] Cert.SguOutIdeal.Gen.facts Cert.SguOutReferenceIdeal.Gen.facts Cert.Pre_sgu_out_finite.Gen.facts in
theorem algebraic : Cert.algebraic_SguOutIdeal_SguOutReferenceIdeal_pre_sgu_out_finite := by
  intro m g m' g' hpre hargs
  have hA : ∀ c, Kernel.Args m c (args m c) := fun c =>
    ⟨eq_re (hpre c).1, eq_re (hpre c).2.1, eq_re (hpre c).2.2.1, eq_re (hpre c).2.2.2⟩
  refine ⟨fun c => Kernel.daArr (args m c), fun c => Kernel.dwArr (args m c), fun c => Kernel.dgArr (args m c),
    (θ_run _ _ _).mono (fun r h c => ⟨(h c).1.trans (Kernel.da_final (hA c)), (h c).2.1.trans (Kernel.dw_final (hA c)), (h c).2.2.1.trans (Kernel.dg_final (hA c)), (h c).2.2.2⟩)
      (Cert.SguOutIdeal.Value.run_blocks m g),
    (θ_run _ _ _).mono (fun r h c => ⟨(h c).1.trans ((SguOutReferenceIdeal.Read.val_main_v45_eq ..).trans ?_),
      (h c).2.1.trans ((SguOutReferenceIdeal.Read.val_main_v46_eq ..).trans ?_),
      (h c).2.2.1.trans ((SguOutReferenceIdeal.Read.val_main_v47_eq ..).trans ?_), (h c).2.2.2⟩)
      (Cert.SguOutReferenceIdeal.Value.run m' g')⟩
  all_goals obtain ⟨a0, a1, a2, a3⟩ := hargs c
  · exact daArr_eq (a0.trans (hA c).left) (a1.trans (hA c).weight) (a2.trans (hA c).gain) (a3.trans (hA c).res)
  · exact dwArr_eq (a0.trans (hA c).left) (a1.trans (hA c).weight) (a2.trans (hA c).gain) (a3.trans (hA c).res)
  · exact dgArr_eq (a0.trans (hA c).left) (a1.trans (hA c).weight) (a3.trans (hA c).res)

attribute [local instance] Cert.SguOutReferenceIdeal.Gen.facts in
/-- The reference ends with its arguments as they were and, having no semaphores, with every counter at zero. -/
theorem reference_frame : Cert.quiescent_SguOutReferenceIdeal := fun m ρ _ =>
  (θ_run _ _ _).mono (fun r h => ⟨fun c => (h c).2.2.2, sem_eq_zero_of_no_sems rfl r.2⟩) (Cert.SguOutReferenceIdeal.Value.run m ρ)

end Cert.SguOutBwd

end
-- ==== Proof.SguInBwd.Spec.lean ====
/- What the gating unit's first product sends back: the gradients in the layer's input, in the norm's gain and in the weight, as functions of the argument arrays. -/
module

public import proofs.«01_k».proof.Proof.Norm

@[expose] public section

noncomputable section

namespace Cert.SguInBwd

open Idealize.ShloMosaic Cert.Reals Cert.Norm

abbrev SZ : Shape := ⟨3, ![1, 4096, 2048]⟩
abbrev SW : Shape := ⟨3, ![1, 1024, 2048]⟩
abbrev SX : Shape := ⟨3, ![1, 4096, 1024]⟩
abbrev SG : Shape := ⟨2, ![2, 1024]⟩

/-- The arguments as real arrays: the gradient in the product, its weight, the layer's input, the gains, and what the residual brings (any extended reals). -/
structure Arrays where
  z : SZ.Idx → ℝ
  w : SW.Idx → ℝ
  x : SX.Idx → ℝ
  g : SG.Idx → ℝ
  r : SX.Idx → EReal

variable (A : Arrays)

/-- Row `i` of the layer's input. -/
def xrow (i : Fin 4096) (k : Fin 1024) : ℝ := A.x (ix3 0 i k)

/-- The second layer's gain. -/
def gain (k : Fin 1024) : ℝ := A.g (ix2 1 k)

/-- The gradient in the norm's result: one row of `z` times the transposed weight. -/
def dh (i : Fin 4096) (k : Fin 1024) : ℝ := ∑ e, A.z (ix3 0 i e) * A.w (ix3 0 k e)

/-- The norm's result. -/
def hrow (i : Fin 4096) (k : Fin 1024) : ℝ := xrow A i k * rstd (xrow A i) * gain A k

/-- The gradient in the layer's input: what the residual brings, and the norm's gradient. -/
def dx (i : Fin 4096) (j : Fin 1024) : EReal := A.r (ix3 0 i j) + ((rmsBwd (xrow A i) (gain A) (dh A i) j : ℝ) : EReal)

/-- The gradient in the gain. -/
def dg (j : Fin 1024) : ℝ := ∑ i, dh A i j * (xrow A i j * rstd (xrow A i))

/-- The gradient in the weight: the norm's result, transposed, times `z`. -/
def dw (k : Fin 1024) (e : Fin 2048) : ℝ := ∑ i, hrow A i k * A.z (ix3 0 i e)

/-- Column `e` of piece `p` of the product's 2048 columns. -/
def col (p : Fin 8) (e : Fin 256) : Fin 2048 := ⟨p.val * 256 + e.val, by omega⟩

end Cert.SguInBwd

end
-- ==== Proof.SguInBwd.Blocks.lean ====
/- What each grid point of the gating unit's input call reads: the rows of its block, and the whole weight and gain. -/
module

public import proofs.«01_k».proof.Proof.SguInBwd.Spec
public import proofs.«01_k».proof.Proof.Gen.SguInIdeal.Value
public import Idealize.ShloMosaic.Lib.Pipeline.ValueKit
public import Idealize.ShloMosaic.Lib.StableHlo.ReadAt
public import Idealize.ShloMosaic.Lib.Claim

@[expose] public section

set_option maxRecDepth 16384

noncomputable section

namespace Cert.SguInBwd.Kernel

open Idealize.ShloMosaic Idealize.ShloMosaic.TcCoe Cert.SguInIdeal Cert.SguInIdeal.Gen Cert.Reals Cert.Norm

/-- The row of the array that row `r` of block `t` is. -/
def row (t : Fin cfg0.N) (r : Fin 512) : Fin 4096 :=
  ⟨t.val * 512 + r.val, by have h : t.val < 8 := lt_of_lt_of_eq t.isLt (show cfg0.N = 8 from N_0); omega⟩

/-- Where each window's block stands at point `t`: the row windows at block row `t`, the others at the origin. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0, 0] :=
  (by decide +kernel : ∀ t : Fin grid0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0, 0])

/-- The arguments a device starts from are these real arrays. -/
structure Args (m : (ℓ : Loc nD τ sig) → Buf (Elt Ideal) ℓ) (c : Dev nD) (A : Arrays) : Prop where
  dz : (m ((c : Thread nD τ).loc main_arg0) : FVec Ideal S1x4096x2048 .f32) = fun i => ((A.z i : ℝ) : EReal)
  weight : (m ((c : Thread nD τ).loc main_arg1) : FVec Ideal S1x1024x2048 .f32) = fun i => ((A.w i : ℝ) : EReal)
  input : (m ((c : Thread nD τ).loc main_arg2) : FVec Ideal S1x4096x1024 .f32) = fun i => ((A.x i : ℝ) : EReal)
  gain : (m ((c : Thread nD τ).loc main_arg3) : FVec Ideal S2x1024 .f32) = fun i => ((A.g i : ℝ) : EReal)
  res : (m ((c : Thread nD τ).loc main_arg4) : FVec Ideal S1x4096x1024 .f32) = A.r

variable {m : (ℓ : Loc nD τ sig) → Buf (Elt Ideal) ℓ} {c : Dev nD} {A : Arrays}

theorem block_dz (h : Args m c A) (t : Fin cfg0.N) (i : Fin 512) (k : Fin 2048) :
    (iblk m c 0 t : Vec Ideal S512x2048 .bf16) (ix2 i k) = ((A.z (ix3 0 (row t i) k) : ℝ) : EReal) := by
  refine Eq.trans ?_ (congrFun h.dz (ix3 0 (row t i) k))
  blk_simp [iblk, V, idx t]
  entry_read
  pointwise
  blk_ext [iblk, V, idx t, row]

theorem weight_eq (h : Args m c A) (p : Fin 8) (k : Fin 1024) (e : Fin 256) :
    (V m c main_v3 : FVec Ideal S8x1024x256 .bf16) (ix3 p k e) = ((A.w (ix3 0 k (col p e)) : ℝ) : EReal) := by
  refine Eq.trans ?_ (congrFun h.weight (ix3 0 k (col p e)))
  simp only [V]
  entry_read
  pointwise
  blk_ext [col]

theorem block_weight (h : Args m c A) (t : Fin cfg0.N) (p : Fin 8) (k : Fin 1024) (e : Fin 256) :
    (iblk m c 1 t : Vec Ideal S8x1024x256 .bf16) (ix3 p k e) = ((A.w (ix3 0 k (col p e)) : ℝ) : EReal) := by
  refine Eq.trans ?_ (weight_eq h p k e)
  blk_ext [iblk, idx t]

theorem block_input (h : Args m c A) (t : Fin cfg0.N) (i : Fin 512) (k : Fin 1024) :
    (iblk m c 2 t : Vec Ideal S512x1024 .f32) (ix2 i k) = ((xrow A (row t i) k : ℝ) : EReal) := by
  refine Eq.trans ?_ (congrFun h.input (ix3 0 (row t i) k))
  blk_simp [iblk, V, idx t]
  entry_read
  pointwise
  blk_ext [iblk, V, idx t, row]

theorem block_gain (h : Args m c A) (t : Fin cfg0.N) (k : Fin 1024) :
    (iblk m c 3 t : Vec Ideal S1x1024 .f32) (ix2 0 k) = ((SguInBwd.gain A k : ℝ) : EReal) := by
  refine Eq.trans ?_ (congrFun h.gain (ix2 1 k))
  blk_simp [iblk, V, idx t]
  entry_read
  pointwise
  blk_ext [iblk, V, idx t, row]

theorem block_res (h : Args m c A) (t : Fin cfg0.N) (i : Fin 512) (k : Fin 1024) :
    (iblk m c 4 t : Vec Ideal S512x1024 .f32) (ix2 i k) = A.r (ix3 0 (row t i) k) := by
  refine Eq.trans ?_ (congrFun h.res (ix3 0 (row t i) k))
  blk_simp [iblk, V, idx t]
  entry_read
  pointwise
  blk_ext [iblk, V, idx t, row]

/-- The norm's result, which the host computes. -/
theorem norm_eq (h : Args m c A) (i : Fin 4096) (k : Fin 1024) :
    (V m c main_v20 : FVec Ideal S4096x1024 .bf16) (ix2 i k) = ((hrow A i k : ℝ) : EReal) := by
  simp only [V]
  entry_read
  pointwise
  simp only [h.input, h.gain]
  simp only [mul_coe, coe_sum, word_1024, div_1024, word_eps, add_coe]
  refine (congrArg₂ (fun a b : EReal => ((A.x (ix3 0 i k) : ℝ) : EReal) * a * b) (rsqrt_ms (xrow A i)) rfl).trans ?_
  simp only [mul_coe]
  rfl

theorem block_norm (h : Args m c A) (t : Fin cfg0.N) (i : Fin 512) (k : Fin 1024) :
    (iblk m c 5 t : Vec Ideal S512x1024 .bf16) (ix2 i k) = ((hrow A (row t i) k : ℝ) : EReal) := by
  refine Eq.trans ?_ (norm_eq h (row t i) k)
  blk_ext [iblk, idx t, row]

end Cert.SguInBwd.Kernel

end
-- ==== Proof.SguInBwd.Kernel.lean ====
/- What the gating unit's input call leaves in its three output arrays: the input gradient one block of rows per grid point, the gain's and the weight's gradient summed over the points. -/
module

public import proofs.«01_k».proof.Proof.SguInBwd.Blocks
public import Idealize.ShloMosaic.Lib.Pipeline.ReadBack

@[expose] public section

set_option maxRecDepth 16384

noncomputable section

namespace Cert.SguInBwd.Kernel

open Idealize.ShloMosaic Idealize.ShloMosaic.TcCoe Cert.SguInIdeal Cert.SguInIdeal.Gen Cert.SguInIdeal.Facts Cert.Reals Cert.Norm

variable {m : (ℓ : Loc nD τ sig) → Buf (Elt Ideal) ℓ} {c : Dev nD} {A : Arrays}

/-- A sum over the product's columns, piece by piece. -/
theorem sum_col (f : Fin 2048 → ℝ) : ∑ p, ∑ e, f (col p e) = ∑ e, f e := Fin.sum_mul_add_congr (fun s k hl => rfl)

/-- The columns of piece `p` of the gradient in the product, as the body loads them. -/
def zPiece (m : (ℓ : Loc nD τ sig) → Buf (Elt Ideal) ℓ) (c : Dev nD) (t : Fin cfg0.N) (p : Fin 8) : Vec Ideal S512x256 .bf16 :=
  View.ld (iblk m c 0 t) (Rect.unit (s := S512x2048) ![0, p.val * 256] ![512, 256] (by revert p; decide))

/-- The same columns of the weight. -/
def wPiece (m : (ℓ : Loc nD τ sig) → Buf (Elt Ideal) ℓ) (c : Dev nD) (t : Fin cfg0.N) (p : Fin 8) : Vec Ideal S1x1024x256 .bf16 :=
  View.ld (iblk m c 1 t) (Rect.unit (s := S8x1024x256) ![p.val, 0, 0] ![1, 1024, 256] (by revert p; decide))

theorem zPiece_at (h : Args m c A) (t : Fin cfg0.N) (p : Fin 8) (i : Fin 512) (e : Fin 256) :
    zPiece m c t p (ix2 i e) = ((A.z (ix3 0 (row t i) (col p e)) : ℝ) : EReal) := by
  refine Eq.trans (congrArg (iblk m c 0 t : Vec Ideal S512x2048 .bf16) (funext fun a => ?_)) (block_dz h t i (col p e))
  match a with
  | ⟨0, _⟩ => exact Fin.ext (by show 0 + 1 * i.val = i.val; omega)
  | ⟨1, _⟩ => exact Fin.ext (by show p.val * 256 + 1 * e.val = p.val * 256 + e.val; omega)

theorem wPiece_at (h : Args m c A) (t : Fin cfg0.N) (p : Fin 8) (k : Fin 1024) (e : Fin 256) :
    wPiece m c t p (ix3 0 k e) = ((A.w (ix3 0 k (col p e)) : ℝ) : EReal) := by
  refine Eq.trans (congrArg (iblk m c 1 t : Vec Ideal S8x1024x256 .bf16) (funext fun a => ?_)) (block_weight h t p k e)
  match a with
  | ⟨0, _⟩ => exact Fin.ext (by show p.val + 1 * 0 = p.val; omega)
  | ⟨1, _⟩ => exact Fin.ext (by show 0 + 1 * k.val = k.val; omega)
  | ⟨2, _⟩ => exact Fin.ext (by show 0 + 1 * e.val = e.val; omega)

/-- The gradient in the norm's result, as the body computes it: eight products of 256 columns each. -/
def dhOf (Z : Fin 8 → Vec Ideal S512x256 .bf16) (W : Fin 8 → Vec Ideal S1x1024x256 .bf16) : FVec Ideal S512x1024 .f32 :=
  k0_pay14 (F := Ideal) (k0_pay13 (F := Ideal) (Z 0) (W 0) (Z 1) (W 1) (Z 2) (W 2) (Z 3) (W 3)) (Z 4) (W 4) (Z 5) (W 5) (Z 6) (W 6) (Z 7) (W 7)

theorem dhOf_at (Z : Fin 8 → Vec Ideal S512x256 .bf16) (W : Fin 8 → Vec Ideal S1x1024x256 .bf16) (i : Fin 512) (k : Fin 1024) :
    dhOf Z W (ix2 i k) = ∑ p, ∑ e, Z p (ix2 i e) * W p (ix3 0 k e) := by
  unfold dhOf
  unfold_payloads
  pointwise [dot_S512x256_S1024x256_S512x1024_1_1_0_0_n_n]
  rw [Fin.sum_univ_eight]

/-- The same at a grid point. -/
def dhBlk (m : (ℓ : Loc nD τ sig) → Buf (Elt Ideal) ℓ) (c : Dev nD) (t : Fin cfg0.N) : FVec Ideal S512x1024 .f32 := dhOf (zPiece m c t) (wPiece m c t)

theorem dh_at (h : Args m c A) (t : Fin cfg0.N) (i : Fin 512) (k : Fin 1024) :
    dhBlk m c t (ix2 i k) = ((dh A (row t i) k : ℝ) : EReal) := by
  refine (dhOf_at _ _ i k).trans ?_
  simp only [zPiece_at h, wPiece_at h, mul_coe, coe_sum]
  refine congrArg (fun a : ℝ => (a : EReal)) ?_
  exact sum_col fun e => A.z (ix3 0 (row t i) e) * A.w (ix3 0 k e)

/-- The array of input gradients. -/
def dxArr (A : Arrays) : FVec Ideal S4096x1024 .f32 := fun i => dx A (i 0) (i 1)

/-- The array of gain gradients. -/
def dgArr (A : Arrays) : FVec Ideal S1x1024 .f32 := fun i => ((dg A (i 1) : ℝ) : EReal)

/-- The array of weight gradients, its columns in eight pieces. -/
def dwArr (A : Arrays) : FVec Ideal S8x1024x256 .bf16 := fun i => ((dw A (i 1) (col (i 0) (i 2)) : ℝ) : EReal)

theorem dx_at (h : Args m c A) (t : Fin cfg0.N) (i : Fin 512) (j : Fin 1024) :
    k0_pay19 (F := Ideal) (dhBlk m c t) (k0_pay15 (iblk m c 2 t)) (k0_pay16 (iblk m c 2 t)) (iblk m c 4 t) (iblk m c 3 t) (ix2 i j) = dx A (row t i) j := by
  unfold_payloads
  pointwise
  simp only [dh_at h, block_input h, block_gain h, block_res h]
  simp only [mul_coe, coe_sum, word_1024, div_1024, word_eps, add_coe, sub_coe, rsqrt_ms]
  rfl

theorem dx_final (h : Args m c A) : (dats m 0 c).arrAt 6 cfg0.N = dxArr A := by
  refine (dats m 0 c).arrAt_eq_of_covers 6 _ (by decide +kernel) fun t hf y => ?_
  blk_simp
  rw [after0_6]
  have e : ∀ (y0 : Fin 512) (y1 : Fin 1024), ((View.whole main_v24_0).slice (win0_6.rect t)).emb (ix2 y0 y1) = ix2 (row t y0) y1 := by
    intro y0 y1
    blk_ext [idx t, row]
  by_cases h0 : t.val % 8 = 0
  · rw [outsAt0_A m c t h0 (by omega)]
    frame_out
    idx_vars y
    rw [e]
    exact dx_at h t y0 y1
  · by_cases h1 : t.val % 8 = 7
    · rw [outsAt0_C m c t h0 h1]
      frame_out
      idx_vars y
      rw [e]
      exact dx_at h t y0 y1
    · rw [outsAt0_B m c t h0 h1]
      frame_out
      idx_vars y
      rw [e]
      exact dx_at h t y0 y1

/-- What one grid point adds to the gain's gradient. -/
def partG (A : Arrays) (t : Fin cfg0.N) (j : S1x1024.Idx) : EReal :=
  ∑ i : Fin 512, ((dh A (row t i) (j 1) * (xrow A (row t i) (j 1) * rstd (xrow A (row t i))) : ℝ) : EReal)

/-- What one grid point adds to the weight's gradient. -/
def partW (A : Arrays) (t : Fin cfg0.N) (j : S1024x2048.Idx) : EReal :=
  ∑ i : Fin 512, ((hrow A (row t i) (j 0) * A.z (ix3 0 (row t i) (j 1)) : ℝ) : EReal)

theorem add_g (h : Args m c A) (t : Fin cfg0.N) (prev : Vec Ideal S1x1024 .f32) (j : S1x1024.Idx) :
    k0_pay18 (F := Ideal) (dhBlk m c t) (k0_pay15 (iblk m c 2 t)) (k0_pay16 (iblk m c 2 t)) prev j = prev j + partG A t j := by
  unfold_payloads
  idx_vars j
  pointwise
  simp only [dh_at h, block_input h]
  simp only [mul_coe, coe_sum, word_1024, div_1024, word_eps, add_coe, sub_coe, rsqrt_ms]
  rw [partG, coe_sum]
  rfl

theorem add_w (h : Args m c A) (t : Fin cfg0.N) (prev : Vec Ideal S1024x2048 .f32) (j : S1024x2048.Idx) :
    k0_pay1 (F := Ideal) (k0_pay20 prev (iblk m c 5 t) (iblk m c 0 t)) j = prev j + partW A t j := by
  unfold_payloads
  idx_vars j
  pointwise [dot_S512x1024_S512x2048_S1024x2048_0_0_1_1_n_n]
  simp only [block_norm h, block_dz h, mul_coe]
  rfl

theorem dg_final (h : Args m c A) : (dats m 0 c).arrAt 7 cfg0.N = dgArr A := by
  refine (dats m 0 c).arrAt_eq_of_after_last 7 t0_7 (by decide +kernel) _ fun j => ?_
  blk_simp
  rw [after0_7]
  refine (Pipeline.eq_sum_fin_of_reset_step_apply_last (fun n hn => (outsAt0 m c n hn).2.1) 8 (fun _ => 0) (partG A)
    (fun t h0 j => ?_) (fun t h0 j => ?_) (show cfg0.N = 8 from N_0).le t0_7 rfl j).trans ?_
  · rw [outsAt0_A m c t h0 (by omega)]
    frame_out
    refine (add_g h t _ j).trans ?_
    unfold_payloads
    pointwise
  · by_cases h1 : t.val % 8 = 7
    · rw [outsAt0_C m c t h0 h1]
      frame_out
      exact add_g h t _ j
    · rw [outsAt0_B m c t h0 h1]
      frame_out
      exact add_g h t _ j
  · rw [zero_add]
    unfold partG dgArr dg
    rw [← coe_sum]
    exact Fin.sum_mul_add_congr (fun s k hl => rfl)

/-- What the carried sum holds after the last point. -/
theorem acc_last (h : Args m c A) (j : S1024x2048.Idx) :
    (outsAt0 m c t0_7.val t0_7.isLt).2.2.2 j = ((dw A (j 0) (j 1) : ℝ) : EReal) := by
  refine (Pipeline.eq_sum_fin_of_reset_step_apply_last (fun n hn => (outsAt0 m c n hn).2.2.2) 8 (fun _ => 0) (partW A)
    (fun t h0 j => ?_) (fun t h0 j => ?_) (show cfg0.N = 8 from N_0).le t0_7 rfl j).trans ?_
  · rw [outsAt0_A m c t h0 (by omega)]
    frame_out
    refine (add_w h t _ j).trans ?_
    unfold_payloads
    pointwise
  · by_cases h1 : t.val % 8 = 7
    · rw [outsAt0_C m c t h0 h1]
      frame_out
      erw [Memref.IsWhole.read_unread]
      exact add_w h t _ j
    · rw [outsAt0_B m c t h0 h1]
      frame_out
      erw [Memref.IsWhole.read_unread]
      exact add_w h t _ j
  · rw [zero_add]
    unfold partW dw
    rw [← coe_sum]
    exact Fin.sum_mul_add_congr (fun s k hl => rfl)

/-- A piece of the carried sum's columns is that piece of the weight's gradient. -/
theorem dw_close {R : FVec Ideal S1024x2048 .f32} (hR : ∀ j, R j = ((dw A (j 0) (j 1) : ℝ) : EReal)) {o p : Nat} {hp}
    {x1 : Fin 1024} {x2 : Fin 256} {y : S8x1024x256.Idx} (ho : o = p * 256)
    (h0 : (y 0).val = p + 0) (h1 : (y 1).val = x1.val) (h2 : (y 2).val = x2.val) {v : EReal}
    (hv : v = (View.whole cc0_scratch0).readCov (Val := Elt Ideal) [⟨Rect.unit (s := S1024x2048) ![0, 0] ![1024, 2048] inb_S1024x2048_S1024x2048_0_0, R⟩]
      (Rect.unit (s := S1024x2048) ![0, o] ![1024, 256] hp).toLoadRect (ix2 x1 x2)) :
    v = dwArr A y := by
  subst ho
  have hf := congrFun (View.readCov_fill (Val := Elt Ideal) (View.whole cc0_scratch0) inb_S1024x2048_S1024x2048_0_0 R []
    (Rect.unit (s := S1024x2048) ![0, p * 256] ![1024, 256] hp) (by decide)) (ix2 x1 x2)
  refine ((hv.trans hf).trans (hR _)).trans ?_
  unfold dwArr
  refine congrArg₂ (fun a b => ((dw A a b : ℝ) : EReal)) (Fin.ext ?_) (Fin.ext ?_)
  · show 0 + 1 * x1.val = (y 1).val
    omega
  · show p * 256 + 1 * x2.val = (y 0).val * 256 + (y 2).val
    rw [h0, h2]
    omega

theorem dw_final (h : Args m c A) : (dats m 0 c).arrAt 8 cfg0.N = dwArr A := by
  refine (dats m 0 c).arrAt_eq_of_after_last 8 t0_7 (by decide +kernel) _ fun y => ?_
  blk_simp
  rw [after0_8]
  have hR := acc_last h
  rw [outsAt0_C m c t0_7 (by decide) (by decide)] at hR ⊢
  frame_out
  frame_out at hR
  canon_tiles x hx using View.cover_of_tiledBy _ ![1, 1024, 256] (by sl_kernel_rfl) _
  all_goals obtain ⟨x1, x2, rfl⟩ : ∃ (x1 : Fin 1024) (x2 : Fin 256), x = ix3 0 x1 x2 :=
    ⟨x 1, x 2, funext fun a => match a with | ⟨0, _⟩ => Subsingleton.elim (α := Fin 1) _ _ | ⟨1, _⟩ => rfl | ⟨2, _⟩ => rfl⟩
  case piece7 => exact dw_close hR (p := 0) (o := 0) (hp := inb_S1024x2048_S1024x256_0_0) (by decide) (hx0.trans (Nat.zero_add _).symm) hx1 hx2 (by unfold_payloads; pointwise)
  case piece6 => exact dw_close hR (p := 1) (o := 256) (hp := inb_S1024x2048_S1024x256_0_256) (by decide) hx0 hx1 hx2 (by unfold_payloads; pointwise)
  case piece5 => exact dw_close hR (p := 2) (o := 512) (hp := inb_S1024x2048_S1024x256_0_512) (by decide) hx0 hx1 hx2 (by unfold_payloads; pointwise)
  case piece4 => exact dw_close hR (p := 3) (o := 768) (hp := inb_S1024x2048_S1024x256_0_768) (by decide) hx0 hx1 hx2 (by unfold_payloads; pointwise)
  case piece3 => exact dw_close hR (p := 4) (o := 1024) (hp := inb_S1024x2048_S1024x256_0_1024) (by decide) hx0 hx1 hx2 (by unfold_payloads; pointwise)
  case piece2 => exact dw_close hR (p := 5) (o := 1280) (hp := inb_S1024x2048_S1024x256_0_1280) (by decide) hx0 hx1 hx2 (by unfold_payloads; pointwise)
  case piece1 => exact dw_close hR (p := 6) (o := 1536) (hp := inb_S1024x2048_S1024x256_0_1536) (by decide) hx0 hx1 hx2 (by unfold_payloads; pointwise)
  case piece0 => exact dw_close hR (p := 7) (o := 1792) (hp := inb_S1024x2048_S1024x256_0_1792) (by decide) hx0 hx1 hx2 (by unfold_payloads; pointwise)

end Cert.SguInBwd.Kernel

end
-- ==== Proof.SguInBwd.Reference.lean ====
/- What the reference's three results hold, read off its printed operations. -/
module

public import proofs.«01_k».proof.Proof.SguInBwd.Kernel
public import proofs.«01_k».proof.Proof.Dots
public import proofs.«01_k».proof.Proof.Gen.SguInReferenceIdeal.Read

@[expose] public section

set_option maxRecDepth 16384

noncomputable section

namespace Cert.SguInBwd.Reference

open Idealize.ShloMosaic Idealize.ShloMosaic.TcCoe Cert.SguInReferenceIdeal Cert.SguInReferenceIdeal.Gen Cert.SguInReferenceIdeal.Read Cert.Reals Cert.Norm

/-- The arguments, as arrays of extended reals. -/
def zA (A : Arrays) : FVec Ideal SZ .f32 := fun i => ((A.z i : ℝ) : EReal)
def wA (A : Arrays) : FVec Ideal SW .f32 := fun i => ((A.w i : ℝ) : EReal)
def xA (A : Arrays) : FVec Ideal SX .f32 := fun i => ((A.x i : ℝ) : EReal)
def gA (A : Arrays) : FVec Ideal SG .f32 := fun i => ((A.g i : ℝ) : EReal)
def rA (A : Arrays) : FVec Ideal SX .f32 := A.r

variable (A : Arrays)

/-- The row over its root mean square. -/
theorem xhat_eq (i : Fin 4096) (k : Fin 1024) : (val_main_v15 (F := Ideal) (xA A)) (ix3 0 i k) = ((xrow A i k * rstd (xrow A i) : ℝ) : EReal) := by
  pointwise [hostReduceAdd_ends, val_main_cst_0, val_main_cst, val_main_cst_1, val_main_v3, val_main_v4, val_main_v5, val_main_v6, val_main_v7, val_main_v8, val_main_v9, val_main_v10, val_main_v14, val_main_v15, xA]
  simp only [mul_coe, coe_sum, word_1024, div_1024, word_eps, add_coe]
  refine (congrArg (fun a : EReal => ((A.x (ix3 0 i k) : ℝ) : EReal) * a) (rsqrt_ms (xrow A i))).trans ?_
  rw [mul_coe]
  rfl

theorem h_eq (i : Fin 4096) (k : Fin 1024) : (val_main_v18 (F := Ideal) (xA A) (gA A)) (ix3 0 i k) = ((hrow A i k : ℝ) : EReal) := by
  pointwise [val_main_v1, val_main_v2, val_main_v16, val_main_v17, val_main_v18, gA]
  simp only [xhat_eq, mul_coe]
  rfl

theorem dh_eq (i : Fin 4096) (k : Fin 1024) : (val_main_v22 (F := Ideal) (zA A) (wA A)) (ix3 0 i k) = ((dh A i k : ℝ) : EReal) := by
  pointwise [val_main_v0, val_main_v22, zA, wA, dot_S1x4096x2048_S1024x2048_S1x4096x1024_2_1_01_0_n_n]
  simp only [mul_coe, coe_sum]
  rfl

theorem dg_eq (j : Fin 1024) : (val_main_v46 (F := Ideal) (zA A) (wA A) (xA A)) (ix2 0 j) = ((dg A j : ℝ) : EReal) := by
  pointwise [hostReduceAdd_front, val_main_cst_3, val_main_cst_4, val_main_v23, val_main_v24, val_main_v25, val_main_v28, val_main_v46]
  simp only [xhat_eq, dh_eq, mul_coe, coe_sum]
  rw [Finset.sum_const, Finset.card_univ, Fintype.card_fin, one_smul, dg]
  refine congrArg (fun a : ℝ => (a : EReal)) (Finset.sum_congr rfl fun i _ => ?_)
  exact mul_comm _ _

theorem dx_eq (i : Fin 4096) (j : Fin 1024) : (val_main_v45 (F := Ideal) (zA A) (wA A) (xA A) (gA A) (rA A)) (ix2 i j) = dx A i j := by
  pointwise [hostReduceAdd_ends, val_main_cst_0, val_main_cst, val_main_cst_1, val_main_cst_2, val_main_cst_5, val_main_cst_6, val_main_cst_7, val_main_v1, val_main_v2, val_main_v3, val_main_v4, val_main_v5, val_main_v6, val_main_v7, val_main_v8, val_main_v9, val_main_v10, val_main_v11, val_main_v12, val_main_v13, val_main_v16, val_main_v26, val_main_v27, val_main_v29, val_main_v30, val_main_v31, val_main_v32, val_main_v33, val_main_v34, val_main_v35, val_main_v36, val_main_v37, val_main_v38, val_main_v39, val_main_v40, val_main_v41, val_main_v42, val_main_v43, val_main_v44, val_main_v45, xA, gA, rA]
  simp only [dh_eq, mul_coe, coe_sum, word_1024, div_1024, word_eps, word_neg_half, add_coe, rsqrt_ms, div_ms]
  rw [add_assoc, add_assoc, add_coe, add_coe]
  unfold dx
  congr 2
  rw [rmsBwd_eq_chain, add_assoc]
  rfl

theorem dw_all (e : Fin 2048) (k : Fin 1024) : (val_main_v20 (F := Ideal) (zA A) (xA A) (gA A)) (ix2 e k) = ((∑ i, A.z (ix3 0 i e) * hrow A i k : ℝ) : EReal) := by
  unfold val_main_v20
  refine (Dots.matmul_front _ _ _ _ e k).trans ?_
  pointwise [zA]
  simp only [h_eq, mul_coe, coe_sum]

theorem dw_cols (k : Fin 1024) (e : Fin 2048) : (val_main_v21 (F := Ideal) (zA A) (xA A) (gA A)) (ix2 k e) = ((dw A k e : ℝ) : EReal) := by
  pointwise [val_main_v21]
  simp only [dw_all]
  refine congrArg (fun a : ℝ => (a : EReal)) (Finset.sum_congr rfl fun i _ => ?_)
  exact mul_comm _ _

theorem dw_eq (p : Fin 8) (k : Fin 1024) (e : Fin 256) : (val_main_v49 (F := Ideal) (zA A) (xA A) (gA A)) (ix3 p k e) = ((dw A k (col p e) : ℝ) : EReal) := by
  pointwise [val_main_v47, val_main_v48, val_main_v49]
  refine Eq.trans (congrArg (val_main_v21 (F := Ideal) (zA A) (xA A) (gA A)) ?_) (dw_cols A k (col p e))
  blk_ext [col]

end Cert.SguInBwd.Reference

end
-- ==== Proof.SguInBwd.Claim.lean ====
/- The call and its reference end with the same three arrays. -/
module

public import proofs.«01_k».proof.Defs
public import proofs.«01_k».proof.Proof.SguInBwd.Kernel
public import proofs.«01_k».proof.Proof.SguInBwd.Reference
public import proofs.«01_k».proof.Proof.Gen.SguInReferenceIdeal.Run
public import proofs.«01_k».proof.Proof.Gen.Pre_sgu_in_finite
public import proofs.«01_k».proof.Proof.Gen.SguIn

@[expose] public section

set_option maxRecDepth 16384

noncomputable section

namespace Cert.SguInBwd

open Idealize.ShloMosaic Idealize.ShloMosaic.TcCoe Idealize.SL.Sem Cert.Reals

variable {A : Arrays}

variable {a0 : FVec Ideal SguInReferenceIdeal.S1x4096x2048 .f32}
variable {a1 : FVec Ideal SguInReferenceIdeal.S1x1024x2048 .f32}
variable {a2 : FVec Ideal SguInReferenceIdeal.S1x4096x1024 .f32}
variable {a3 : FVec Ideal SguInReferenceIdeal.S2x1024 .f32}
variable {a4 : FVec Ideal SguInReferenceIdeal.S1x4096x1024 .f32}

theorem dxArr_eq (h0 : a0 = Reference.zA A) (h1 : a1 = Reference.wA A) (h2 : a2 = Reference.xA A) (h3 : a3 = Reference.gA A) (h4 : a4 = Reference.rA A) :
    SguInReferenceIdeal.Read.val_main_v45 (F := Ideal) a0 a1 a2 a3 a4 = Kernel.dxArr A := by
  subst h0 h1 h2 h3 h4
  funext i
  idx_vars i
  exact Reference.dx_eq A i0 i1

theorem dgArr_eq (h0 : a0 = Reference.zA A) (h1 : a1 = Reference.wA A) (h2 : a2 = Reference.xA A) :
    SguInReferenceIdeal.Read.val_main_v46 (F := Ideal) a0 a1 a2 = Kernel.dgArr A := by
  subst h0 h1 h2
  funext i
  idx_vars i
  obtain rfl : i0 = 0 := Subsingleton.elim _ _
  exact Reference.dg_eq A i1

theorem dwArr_eq (h0 : a0 = Reference.zA A) (h2 : a2 = Reference.xA A) (h3 : a3 = Reference.gA A) :
    SguInReferenceIdeal.Read.val_main_v49 (F := Ideal) a0 a2 a3 = Kernel.dwArr A := by
  subst h0 h2 h3
  funext i
  idx_vars i
  exact Reference.dw_eq A i0 i1 i2

/-- The real values of the arguments. -/
def args (m : (ℓ : Loc SguInIdeal.nD SguInIdeal.τ SguInIdeal.sig) → Buf (Elt Ideal) ℓ) (c : Dev SguInIdeal.nD) : Arrays where
  z := re (s := SguInReferenceIdeal.S1x4096x2048) (m ((c.tc : Thread SguInIdeal.nD SguInIdeal.τ).loc SguInIdeal.main_arg0))
  w := re (s := SguInReferenceIdeal.S1x1024x2048) (m ((c.tc : Thread SguInIdeal.nD SguInIdeal.τ).loc SguInIdeal.main_arg1))
  x := re (s := SguInReferenceIdeal.S1x4096x1024) (m ((c.tc : Thread SguInIdeal.nD SguInIdeal.τ).loc SguInIdeal.main_arg2))
  g := re (s := SguInReferenceIdeal.S2x1024) (m ((c.tc : Thread SguInIdeal.nD SguInIdeal.τ).loc SguInIdeal.main_arg3))
  r := (m ((c.tc : Thread SguInIdeal.nD SguInIdeal.τ).loc SguInIdeal.main_arg4))

attribute [local instance] Cert.SguInIdeal.Gen.facts Cert.SguInReferenceIdeal.Gen.facts Cert.Pre_sgu_in_finite.Gen.facts in
theorem algebraic : Cert.algebraic_SguInIdeal_SguInReferenceIdeal_pre_sgu_in_finite := by
  intro m g m' g' hpre hargs
  have hA : ∀ c, Kernel.Args m c (args m c) := fun c =>
    ⟨eq_re (hpre c).1, eq_re (hpre c).2.1, eq_re (hpre c).2.2.1, eq_re (hpre c).2.2.2, rfl⟩
  refine ⟨fun c => Kernel.dxArr (args m c), fun c => Kernel.dgArr (args m c), fun c => Kernel.dwArr (args m c),
    (θ_run _ _ _).mono (fun r h c => ⟨(h c).1.trans (Kernel.dx_final (hA c)), (h c).2.1.trans (Kernel.dg_final (hA c)), (h c).2.2.1.trans (Kernel.dw_final (hA c)), (h c).2.2.2⟩)
      (Cert.SguInIdeal.Value.run_blocks m g),
    (θ_run _ _ _).mono (fun r h c => ⟨(h c).1.trans ((SguInReferenceIdeal.Read.val_main_v45_eq ..).trans ?_),
      (h c).2.1.trans ((SguInReferenceIdeal.Read.val_main_v46_eq ..).trans ?_),
      (h c).2.2.1.trans ((SguInReferenceIdeal.Read.val_main_v49_eq ..).trans ?_), (h c).2.2.2⟩)
      (Cert.SguInReferenceIdeal.Value.run m' g')⟩
  all_goals obtain ⟨a0, a1, a2, a3, a4⟩ := hargs c
  · exact dxArr_eq (a0.trans (hA c).dz) (a1.trans (hA c).weight) (a2.trans (hA c).input) (a3.trans (hA c).gain) (a4.trans (hA c).res)
  · exact dgArr_eq (a0.trans (hA c).dz) (a1.trans (hA c).weight) (a2.trans (hA c).input)
  · exact dwArr_eq (a0.trans (hA c).dz) (a2.trans (hA c).input) (a3.trans (hA c).gain)

attribute [local instance] Cert.SguInReferenceIdeal.Gen.facts in
/-- The reference ends with its arguments as they were and, having no semaphores, with every counter at zero. -/
theorem reference_frame : Cert.quiescent_SguInReferenceIdeal := fun m ρ _ =>
  (θ_run _ _ _).mono (fun r h => ⟨fun c => (h c).2.2.2, sem_eq_zero_of_no_sems rfl r.2⟩) (Cert.SguInReferenceIdeal.Value.run m ρ)

end Cert.SguInBwd

end
-- ==== Proof.FfnBwd.Spec.lean ====
/- What a gated feed-forward block sends back: the gradients in its two products' results, in its input and in its two gains, as functions of real arrays. -/
module

public import proofs.«01_k».proof.Proof.Norm

@[expose] public section

noncomputable section

namespace Cert.FfnBwd

open Idealize.ShloMosaic Cert.Reals Cert.Norm

abbrev SX : Shape := ⟨3, ![1, 4096, 1024]⟩
abbrev SG : Shape := ⟨2, ![2, 1024]⟩
abbrev SU : Shape := ⟨3, ![2, 1024, 5632]⟩
abbrev SD : Shape := ⟨3, ![2, 2816, 1024]⟩

/-- Gate column `e` of the first product. -/
def lo (e : Fin 2816) : Fin 5632 := ⟨e.val, by omega⟩

/-- Its partner among the columns that are gated. -/
def hi (e : Fin 2816) : Fin 5632 := ⟨2816 + e.val, by omega⟩

/-- The logistic function. -/
def logistic (a : ℝ) : ℝ := 1 / (1 + Real.exp (-a))

theorem one_add_exp_ne (a : ℝ) : 1 + Real.exp (-a) ≠ 0 := (add_pos one_pos (Real.exp_pos _)).ne'

theorem exp_coe (a : ℝ) : Ideal.exp (a : EReal) = ((Real.exp a : ℝ) : EReal) := rfl

theorem one_add_coe (a : ℝ) : (1 : EReal) + (a : EReal) = ((1 + a : ℝ) : EReal) := (EReal.coe_add 1 a).symm

theorem one_sub_coe (a : ℝ) : (1 : EReal) - (a : EReal) = ((1 - a : ℝ) : EReal) := (EReal.coe_sub 1 a).symm

/-- One over one plus an exponential, on the reals. -/
theorem div_logistic (a : ℝ) : Ideal.div 1 ((1 + Real.exp (-a) : ℝ) : EReal) = ((logistic a : ℝ) : EReal) := div_coe (one_add_exp_ne a) 1

/-- The block's input rows, its two gains and its two weights. -/
structure Rows where
  x : Fin 4096 → Fin 1024 → ℝ
  g : Fin 1024 → ℝ
  gq : Fin 1024 → ℝ
  wu : Fin 1024 → Fin 5632 → ℝ
  wd : Fin 2816 → Fin 1024 → ℝ

variable (R : Rows)

/-- The first norm's result. -/
def h (i : Fin 4096) (k : Fin 1024) : ℝ := R.x i k * rstd (R.x i) * R.g k

/-- The first product. -/
def gu (i : Fin 4096) (e : Fin 5632) : ℝ := ∑ k, h R i k * R.wu k e

/-- The logistic of a gate. -/
def sg (i : Fin 4096) (e : Fin 2816) : ℝ := logistic (gu R i (lo e))

/-- The gated columns. -/
def act (i : Fin 4096) (e : Fin 2816) : ℝ := gu R i (lo e) * sg R i e * gu R i (hi e)

/-- The second product. -/
def f (i : Fin 4096) (j : Fin 1024) : ℝ := ∑ e, act R i e * R.wd e j

/- `dv` is the gradient in the block's result. -/
variable (dv : Fin 4096 → Fin 1024 → ℝ)

/-- The gradient in the second product. -/
def df (i : Fin 4096) (j : Fin 1024) : ℝ := rmsBwd (f R i) R.gq (dv i) j

/-- The gradient in the gated columns. -/
def da (i : Fin 4096) (e : Fin 2816) : ℝ := ∑ j, df R dv i j * R.wd e j

/-- The gradient in a gate. -/
def dgate (i : Fin 4096) (e : Fin 2816) : ℝ :=
  da R dv i e * gu R i (hi e) * (sg R i e + gu R i (lo e) * sg R i e - gu R i (lo e) * sg R i e * sg R i e)

/-- The gradient in a column that is gated. -/
def dup (i : Fin 4096) (e : Fin 2816) : ℝ := da R dv i e * (gu R i (lo e) * sg R i e)

/-- The gradient in the first product: the gates' columns, then the others. -/
def dgu (i : Fin 4096) (e : Fin 5632) : ℝ :=
  if h : e.val < 2816 then dgate R dv i ⟨e.val, h⟩ else dup R dv i ⟨e.val - 2816, by omega⟩

theorem dgu_lo (i : Fin 4096) (e : Fin 2816) : dgu R dv i (lo e) = dgate R dv i e := dif_pos e.isLt

theorem dgu_hi (i : Fin 4096) (e : Fin 2816) : dgu R dv i (hi e) = dup R dv i e := by
  unfold dgu
  rw [dif_neg (by show ¬ 2816 + e.val < 2816; omega)]
  exact congrArg (dup R dv i) (Fin.ext (Nat.add_sub_cancel_left 2816 e.val))

/-- The gradient in the first norm's result. -/
def dh (i : Fin 4096) (k : Fin 1024) : ℝ := ∑ e, dgu R dv i e * R.wu k e

/-- The gradient in the block's input. -/
def dx (i : Fin 4096) (j : Fin 1024) : ℝ := dv i j + rmsBwd (R.x i) R.g (dh R dv i) j

/-- The gradient in the second norm's gain. -/
def dgp (j : Fin 1024) : ℝ := ∑ i, dv i j * (f R i j * rstd (f R i))

/-- The gradient in the first norm's gain. -/
def dg (j : Fin 1024) : ℝ := ∑ i, dh R dv i j * (R.x i j * rstd (R.x i))

/-- The arguments as real arrays: the layer's input, the gains before and after, the two weights, and the gradient that comes in (or the target). -/
structure Arrays where
  x : SX.Idx → ℝ
  g : SG.Idx → ℝ
  gq : SG.Idx → ℝ
  wu : SU.Idx → ℝ
  wd : SD.Idx → ℝ
  r : SX.Idx → ℝ

/-- Layer `l`'s rows, gains and weights. -/
def Arrays.rows (A : Arrays) (l : Fin 2) : Rows where
  x i k := A.x (ix3 0 i k)
  g k := A.g (ix2 l k)
  gq j := A.gq (ix2 l j)
  wu k e := A.wu (ix3 l k e)
  wd e j := A.wd (ix3 l e j)

/-- The rows of the last argument. -/
def Arrays.last (A : Arrays) (i : Fin 4096) (j : Fin 1024) : ℝ := A.r (ix3 0 i j)

end Cert.FfnBwd

end
-- ==== Proof.FfnLastBwd.Spec.lean ====
/- The loss over the last feed-forward block, and the gradient in the block's result that it sends back. -/
module

public import proofs.«01_k».proof.Proof.FfnBwd.Spec

@[expose] public section

noncomputable section

namespace Cert.FfnLastBwd

open Idealize.ShloMosaic Cert.Reals Cert.Norm Cert.FfnBwd

/-- The second layer's rows. -/
abbrev rows (A : Arrays) : Rows := A.rows 1

variable (A : Arrays)

/-- The block's result less the target. -/
def err (i : Fin 4096) (j : Fin 1024) : ℝ :=
  (rows A).x i j + f (rows A) i j * rstd (f (rows A) i) * (rows A).gq j - A.last i j

/-- The gradient in the block's result. -/
def dv (i : Fin 4096) (j : Fin 1024) : ℝ := err A i j * (1 / 1024)

/-- A row's mean squared error. -/
def mse (i : Fin 4096) : ℝ := (∑ j, err A i j * err A i j) / 1024

/-- The loss. -/
def loss : ℝ := ∑ i, 1 / 2 * mse A i

theorem word_inv_1024 : Ideal.ofBits .f32 0x3A800000#32 = ((1 / 1024 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

end Cert.FfnLastBwd

end
-- ==== Proof.FfnLastBwd.Blocks.lean ====
/- What each grid point of the second layer's feed-forward call reads: the rows of its block, and the whole weights and gains. -/
module

public import proofs.«01_k».proof.Proof.FfnLastBwd.Spec
public import proofs.«01_k».proof.Proof.Gen.FfnLastIdeal.Value
public import Idealize.ShloMosaic.Lib.Pipeline.ValueKit
public import Idealize.ShloMosaic.Lib.StableHlo.ReadAt
public import Idealize.ShloMosaic.Lib.Claim

@[expose] public section

set_option maxRecDepth 16384

noncomputable section

namespace Cert.FfnLastBwd.Kernel

open Idealize.ShloMosaic Idealize.ShloMosaic.TcCoe Cert.FfnLastIdeal Cert.FfnLastIdeal.Gen Cert.Reals Cert.Norm Cert.FfnBwd

/-- The row of the array that row `r` of block `t` is. -/
def row (t : Fin cfg0.N) (r : Fin 256) : Fin 4096 :=
  ⟨t.val * 256 + r.val, by have h : t.val < 16 := lt_of_lt_of_eq t.isLt (show cfg0.N = 16 from N_0); omega⟩

/-- Where each window's block stands at point `t`: the row windows at block row `t`, the others at the origin. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![0, 0] ∧ win0_6.index t = ![t.val, 0] ∧ win0_7.index t = ![t.val, 0]
    ∧ win0_8.index t = ![t.val, 0] ∧ win0_9.index t = ![0, 0] ∧ win0_10.index t = ![0, 0] ∧ win0_11.index t = ![0, 0]
    ∧ win0_12.index t = ![t.val, 0] ∧ win0_13.index t = ![t.val, 0] :=
  (by decide +kernel : ∀ t : Fin grid0.N, win0_0.index t = ![t.val, 0] ∧ win0_1.index t = ![0, 0] ∧ win0_2.index t = ![0, 0] ∧ win0_3.index t = ![0, 0]
    ∧ win0_4.index t = ![t.val, 0] ∧ win0_5.index t = ![0, 0] ∧ win0_6.index t = ![t.val, 0] ∧ win0_7.index t = ![t.val, 0]
    ∧ win0_8.index t = ![t.val, 0] ∧ win0_9.index t = ![0, 0] ∧ win0_10.index t = ![0, 0] ∧ win0_11.index t = ![0, 0]
    ∧ win0_12.index t = ![t.val, 0] ∧ win0_13.index t = ![t.val, 0])

/-- The arguments a device starts from are these real arrays. -/
structure Args (m : (ℓ : Loc nD τ sig) → Buf (Elt Ideal) ℓ) (c : Dev nD) (A : Arrays) : Prop where
  input : (m ((c : Thread nD τ).loc main_arg0) : FVec Ideal S1x4096x1024 .f32) = fun i => ((A.x i : ℝ) : EReal)
  gain : (m ((c : Thread nD τ).loc main_arg1) : FVec Ideal S2x1024 .f32) = fun i => ((A.g i : ℝ) : EReal)
  gainq : (m ((c : Thread nD τ).loc main_arg2) : FVec Ideal S2x1024 .f32) = fun i => ((A.gq i : ℝ) : EReal)
  wup : (m ((c : Thread nD τ).loc main_arg3) : FVec Ideal S2x1024x5632 .f32) = fun i => ((A.wu i : ℝ) : EReal)
  wdown : (m ((c : Thread nD τ).loc main_arg4) : FVec Ideal S2x2816x1024 .f32) = fun i => ((A.wd i : ℝ) : EReal)
  target : (m ((c : Thread nD τ).loc main_arg5) : FVec Ideal S1x4096x1024 .f32) = fun i => ((A.r i : ℝ) : EReal)

variable {m : (ℓ : Loc nD τ sig) → Buf (Elt Ideal) ℓ} {c : Dev nD} {A : Arrays}

theorem block_target (h : Args m c A) (t : Fin cfg0.N) (i : Fin 256) (k : Fin 1024) :
    (iblk m c 0 t : Vec Ideal S256x1024 .f32) (ix2 i k) = ((A.last (row t i) k : ℝ) : EReal) := by
  refine Eq.trans ?_ (congrFun h.target (ix3 0 (row t i) k))
  blk_simp [iblk, V, idx t]
  entry_read
  pointwise
  blk_ext [iblk, V, idx t, row]

theorem block_gainq (h : Args m c A) (t : Fin cfg0.N) (k : Fin 1024) :
    (iblk m c 1 t : Vec Ideal S1x1024 .f32) (ix2 0 k) = (((rows A).gq k : ℝ) : EReal) := by
  refine Eq.trans ?_ (congrFun h.gainq (ix2 1 k))
  blk_simp [iblk, V, idx t]
  entry_read
  pointwise
  blk_ext [iblk, V, idx t, row]

theorem block_wdown (h : Args m c A) (t : Fin cfg0.N) (e : Fin 2816) (j : Fin 1024) :
    (iblk m c 2 t : Vec Ideal S2816x1024 .bf16) (ix2 e j) = (((rows A).wd e j : ℝ) : EReal) := by
  refine Eq.trans ?_ (congrFun h.wdown (ix3 1 e j))
  blk_simp [iblk, V, idx t]
  entry_read
  pointwise
  blk_ext [iblk, V, idx t, row]

theorem block_wup (h : Args m c A) (t : Fin cfg0.N) (e : Fin 5632) (k : Fin 1024) :
    (iblk m c 3 t : Vec Ideal S5632x1024 .bf16) (ix2 e k) = (((rows A).wu k e : ℝ) : EReal) := by
  refine Eq.trans ?_ (congrFun h.wup (ix3 1 k e))
  blk_simp [iblk, V, idx t]
  entry_read
  pointwise
  blk_ext [iblk, V, idx t, row]

theorem block_input (h : Args m c A) (t : Fin cfg0.N) (i : Fin 256) (k : Fin 1024) :
    (iblk m c 4 t : Vec Ideal S256x1024 .f32) (ix2 i k) = (((rows A).x (row t i) k : ℝ) : EReal) := by
  refine Eq.trans ?_ (congrFun h.input (ix3 0 (row t i) k))
  blk_simp [iblk, V, idx t]
  entry_read
  pointwise
  blk_ext [iblk, V, idx t, row]

theorem block_gain (h : Args m c A) (t : Fin cfg0.N) (k : Fin 1024) :
    (iblk m c 5 t : Vec Ideal S1x1024 .f32) (ix2 0 k) = (((rows A).g k : ℝ) : EReal) := by
  refine Eq.trans ?_ (congrFun h.gain (ix2 1 k))
  blk_simp [iblk, V, idx t]
  entry_read
  pointwise
  blk_ext [iblk, V, idx t, row]

end Cert.FfnLastBwd.Kernel

end
-- ==== Proof.FfnLastBwd.Forward.lean ====
/- The forward half of the second layer's feed-forward call at one grid point: the norm, the two products around the gate, the error, and the gradient that goes back into the second product. -/
module

public import proofs.«01_k».proof.Proof.FfnLastBwd.Blocks
public import Idealize.ShloMosaic.Lib.Pipeline.ReadBack

@[expose] public section

set_option maxRecDepth 16384

noncomputable section

namespace Cert.FfnLastBwd.Kernel

open Idealize.ShloMosaic Idealize.ShloMosaic.TcCoe Cert.FfnLastIdeal Cert.FfnLastIdeal.Gen Cert.FfnLastIdeal.Facts Cert.Reals Cert.Norm Cert.FfnBwd

variable {m : (ℓ : Loc nD τ sig) → Buf (Elt Ideal) ℓ} {c : Dev nD} {A : Arrays}

/-- A column of the first product from real entries, in a piece of 1024 columns and in the last 768. -/
theorem prod_wide {H : FVec Ideal S256x1024 .bf16} {w : Vec Ideal S1024x1024 .bf16} {i : Fin 256} {e : Fin 1024} {d v : Fin 1024 → ℝ}
    (hH : ∀ k, H (ix2 i k) = ((d k : ℝ) : EReal)) (hw : ∀ k, w (ix2 e k) = ((v k : ℝ) : EReal)) :
    k0_pay14 (F := Ideal) H w (ix2 i e) = ((∑ k, d k * v k : ℝ) : EReal) := by
  unfold_payloads
  pointwise [dot_S256x1024_S1024x1024_S256x1024_1_1_0_0_n_n]
  simp only [hH, hw, mul_coe, coe_sum]

theorem prod_rest {H : FVec Ideal S256x1024 .bf16} {w : Vec Ideal S768x1024 .bf16} {i : Fin 256} {e : Fin 768} {d v : Fin 1024 → ℝ}
    (hH : ∀ k, H (ix2 i k) = ((d k : ℝ) : EReal)) (hw : ∀ k, w (ix2 e k) = ((v k : ℝ) : EReal)) :
    k0_pay19 (F := Ideal) H w (ix2 i e) = ((∑ k, d k * v k : ℝ) : EReal) := by
  unfold_payloads
  pointwise [dot_S256x1024_S768x1024_S256x768_1_1_0_0_n_n]
  simp only [hH, hw, mul_coe, coe_sum]

/-- A gated column from its gate and its partner. -/
theorem act_wide {g u : FVec Ideal S256x1024 .f32} {i : Fin 256} {e : Fin 1024} {a b : ℝ}
    (hg : g (ix2 i e) = ((a : ℝ) : EReal)) (hu : u (ix2 i e) = ((b : ℝ) : EReal)) :
    k0_pay13 (F := Ideal) g u (ix2 i e) = ((a * logistic a * b : ℝ) : EReal) := by
  unfold_payloads
  pointwise
  simp only [hg, hu, zero_sub, neg_coe, exp_coe, one_add_coe, div_logistic, mul_coe]

theorem act_rest {H : FVec Ideal S256x1024 .bf16} {w v : Vec Ideal S768x1024 .bf16} {i : Fin 256} {e : Fin 768} {a b : ℝ}
    (hg : k0_pay19 (F := Ideal) H w (ix2 i e) = ((a : ℝ) : EReal)) (hu : k0_pay20 (F := Ideal) H v (ix2 i e) = ((b : ℝ) : EReal)) :
    k0_pay23 (F := Ideal) H w v (ix2 i e) = ((a * logistic a * b : ℝ) : EReal) := by
  unfold k0_pay23
  pointwise
  simp only [hg, hu, zero_sub, neg_coe, exp_coe, one_add_coe, div_logistic, mul_coe]

/-- The first norm's result at a grid point. -/
def hBlk (m : (ℓ : Loc nD τ sig) → Buf (Elt Ideal) ℓ) (c : Dev nD) (t : Fin cfg0.N) : FVec Ideal S256x1024 .bf16 :=
  k0_pay8 (F := Ideal) (iblk m c 4 t) (iblk m c 5 t)

theorem h_at (h : Args m c A) (t : Fin cfg0.N) (i : Fin 256) (k : Fin 1024) :
    hBlk m c t (ix2 i k) = ((FfnBwd.h (rows A) (row t i) k : ℝ) : EReal) := by
  unfold hBlk
  unfold_payloads
  pointwise
  simp only [block_input h, block_gain h]
  simp only [mul_coe, coe_sum, word_1024, div_1024, word_eps, add_coe]
  simp only [rsqrt_ms ((rows A).x (row t i)), mul_coe]
  rfl

/-- Columns `o …` of the first weight, as the body loads them. -/
theorem wu_piece (h : Args m c A) (t : Fin cfg0.N) {o n : Nat} (inb : ∀ a, ![o, 0] a + ![n, 1024] a ≤ S5632x1024.size a) (e : Fin n) (k : Fin 1024) (he : o + e.val < 5632) :
    (View.ld (iblk m c 3 t : Vec Ideal S5632x1024 .bf16) (Rect.unit (s := S5632x1024) ![o, 0] ![n, 1024] inb) : (⟨2, ![n, 1024]⟩ : Shape).Idx → EReal) (ix2 e k)
      = (((rows A).wu k ⟨o + e.val, he⟩ : ℝ) : EReal) := by
  refine Eq.trans (congrArg (iblk m c 3 t : Vec Ideal S5632x1024 .bf16) (funext fun a => ?_)) (block_wup h t ⟨o + e.val, he⟩ k)
  match a with
  | ⟨0, _⟩ => exact Fin.ext (by show o + 1 * e.val = o + e.val; omega)
  | ⟨1, _⟩ => exact Fin.ext (by show 0 + 1 * k.val = k.val; omega)

/-- Rows `o …` of the second weight, as the body loads them. -/
theorem wd_piece (h : Args m c A) (t : Fin cfg0.N) {o n : Nat} (inb : ∀ a, ![o, 0] a + ![n, 1024] a ≤ S2816x1024.size a) (e : Fin n) (j : Fin 1024) (he : o + e.val < 2816) :
    (View.ld (iblk m c 2 t : Vec Ideal S2816x1024 .bf16) (Rect.unit (s := S2816x1024) ![o, 0] ![n, 1024] inb) : (⟨2, ![n, 1024]⟩ : Shape).Idx → EReal) (ix2 e j)
      = (((rows A).wd ⟨o + e.val, he⟩ j : ℝ) : EReal) := by
  refine Eq.trans (congrArg (iblk m c 2 t : Vec Ideal S2816x1024 .bf16) (funext fun a => ?_)) (block_wdown h t ⟨o + e.val, he⟩ j)
  match a with
  | ⟨0, _⟩ => exact Fin.ext (by show o + 1 * e.val = o + e.val; omega)
  | ⟨1, _⟩ => exact Fin.ext (by show 0 + 1 * j.val = j.val; omega)

/-- A column of the first product at a grid point: in a piece of 1024 columns, in the last 768, and the partner of column `o + e`. -/
theorem col_wide (h : Args m c A) (t : Fin cfg0.N) {o : Nat} (inb : ∀ a, ![o, 0] a + ![1024, 1024] a ≤ S5632x1024.size a) (i : Fin 256) (e : Fin 1024) (he : o + e.val < 5632) :
    k0_pay14 (F := Ideal) (hBlk m c t) (View.ld (iblk m c 3 t) (Rect.unit (s := S5632x1024) ![o, 0] ![1024, 1024] inb)) (ix2 i e)
      = ((gu (rows A) (row t i) ⟨o + e.val, he⟩ : ℝ) : EReal) :=
  prod_wide (h_at h t i) fun k => wu_piece h t inb e k he

theorem col_rest (h : Args m c A) (t : Fin cfg0.N) {o : Nat} (inb : ∀ a, ![o, 0] a + ![768, 1024] a ≤ S5632x1024.size a) (i : Fin 256) (e : Fin 768) (he : o + e.val < 5632) :
    k0_pay19 (F := Ideal) (hBlk m c t) (View.ld (iblk m c 3 t) (Rect.unit (s := S5632x1024) ![o, 0] ![768, 1024] inb)) (ix2 i e)
      = ((gu (rows A) (row t i) ⟨o + e.val, he⟩ : ℝ) : EReal) :=
  prod_rest (h_at h t i) fun k => wu_piece h t inb e k he

theorem col_wide_hi (h : Args m c A) (t : Fin cfg0.N) {o p : Nat} (hp : p = 2816 + o) (inb : ∀ a, ![p, 0] a + ![1024, 1024] a ≤ S5632x1024.size a) (i : Fin 256) (e : Fin 1024) (he : o + e.val < 2816) :
    k0_pay14 (F := Ideal) (hBlk m c t) (View.ld (iblk m c 3 t) (Rect.unit (s := S5632x1024) ![p, 0] ![1024, 1024] inb)) (ix2 i e)
      = ((gu (rows A) (row t i) (hi ⟨o + e.val, he⟩) : ℝ) : EReal) := by
  refine (col_wide h t inb i e (by omega)).trans (congrArg (fun a => ((gu (rows A) (row t i) a : ℝ) : EReal)) (Fin.ext ?_))
  show p + e.val = 2816 + (o + e.val)
  omega

theorem col_rest_hi (h : Args m c A) (t : Fin cfg0.N) {o p : Nat} (hp : p = 2816 + o) (inb : ∀ a, ![p, 0] a + ![768, 1024] a ≤ S5632x1024.size a) (i : Fin 256) (e : Fin 768) (he : o + e.val < 2816) :
    k0_pay19 (F := Ideal) (hBlk m c t) (View.ld (iblk m c 3 t) (Rect.unit (s := S5632x1024) ![p, 0] ![768, 1024] inb)) (ix2 i e)
      = ((gu (rows A) (row t i) (hi ⟨o + e.val, he⟩) : ℝ) : EReal) := by
  refine (col_rest h t inb i e (by omega)).trans (congrArg (fun a => ((gu (rows A) (row t i) a : ℝ) : EReal)) (Fin.ext ?_))
  show p + e.val = 2816 + (o + e.val)
  omega

/-- The first product and the gated columns at a grid point. -/
def guBlk (A : Arrays) (t : Fin cfg0.N) : Vec Ideal S256x5632 .bf16 := fun y => ((gu (rows A) (row t (y 0)) (y 1) : ℝ) : EReal)
def aBlk (A : Arrays) (t : Fin cfg0.N) : Vec Ideal S256x2816 .bf16 := fun y => ((act (rows A) (row t (y 0)) (y 1) : ℝ) : EReal)

/-- What the body stores of the first product, the last store first. -/
def guPieces (m : (ℓ : Loc nD τ sig) → Buf (Elt Ideal) ℓ) (c : Dev nD) (t : Fin cfg0.N) : List (View.Piece (Elt Ideal) S256x5632 .bf16) :=
  [⟨Rect.unit ![0, 4864] ![256, 768] inb_S256x5632_S256x768_0_4864,
      k0_pay22 (k0_pay8 (iblk m c 4 t) (iblk m c 5 t)) (View.ld (iblk m c 3 t) (Rect.unit ![4864, 0] ![768, 1024] inb_S5632x1024_S768x1024_4864_0))⟩,
    ⟨Rect.unit ![0, 2048] ![256, 768] inb_S256x5632_S256x768_0_2048,
      k0_pay21 (k0_pay8 (iblk m c 4 t) (iblk m c 5 t)) (View.ld (iblk m c 3 t) (Rect.unit ![2048, 0] ![768, 1024] inb_S5632x1024_S768x1024_2048_0))⟩,
    ⟨Rect.unit ![0, 3840] ![256, 1024] inb_S256x5632_S256x1024_0_3840,
      k0_pay17 (k0_pay8 (iblk m c 4 t) (iblk m c 5 t)) (View.ld (iblk m c 3 t) (Rect.unit ![3840, 0] ![1024, 1024] inb_S5632x1024_S1024x1024_3840_0))⟩,
    ⟨Rect.unit ![0, 1024] ![256, 1024] inb_S256x5632_S256x1024_0_1024,
      k0_pay16 (k0_pay8 (iblk m c 4 t) (iblk m c 5 t)) (View.ld (iblk m c 3 t) (Rect.unit ![1024, 0] ![1024, 1024] inb_S5632x1024_S1024x1024_1024_0))⟩,
    ⟨Rect.unit ![0, 2816] ![256, 1024] inb_S256x5632_S256x1024_0_2816,
      k0_pay12 (iblk m c 4 t) (iblk m c 5 t) (View.ld (iblk m c 3 t) (Rect.unit ![2816, 0] ![1024, 1024] inb_S5632x1024_S1024x1024_2816_0))⟩,
    ⟨Rect.unit ![0, 0] ![256, 1024] inb_S256x5632_S256x1024_0_0,
      k0_pay11 (iblk m c 4 t) (iblk m c 5 t) (View.ld (iblk m c 3 t) (Rect.unit ![0, 0] ![1024, 1024] inb_S5632x1024_S1024x1024_0_0))⟩]

/-- What it stores of the gated columns. -/
def aPieces (m : (ℓ : Loc nD τ sig) → Buf (Elt Ideal) ℓ) (c : Dev nD) (t : Fin cfg0.N) : List (View.Piece (Elt Ideal) S256x2816 .bf16) :=
  [⟨Rect.unit ![0, 2048] ![256, 768] inb_S256x2816_S256x768_0_2048,
      k0_pay23 (k0_pay8 (iblk m c 4 t) (iblk m c 5 t))
        (View.ld (iblk m c 3 t) (Rect.unit ![2048, 0] ![768, 1024] inb_S5632x1024_S768x1024_2048_0))
        (View.ld (iblk m c 3 t) (Rect.unit ![4864, 0] ![768, 1024] inb_S5632x1024_S768x1024_4864_0))⟩,
    ⟨Rect.unit ![0, 1024] ![256, 1024] inb_S256x2816_S256x1024_0_1024,
      k0_pay18 (k0_pay8 (iblk m c 4 t) (iblk m c 5 t))
        (View.ld (iblk m c 3 t) (Rect.unit ![1024, 0] ![1024, 1024] inb_S5632x1024_S1024x1024_1024_0))
        (View.ld (iblk m c 3 t) (Rect.unit ![3840, 0] ![1024, 1024] inb_S5632x1024_S1024x1024_3840_0))⟩,
    ⟨Rect.unit ![0, 0] ![256, 1024] inb_S256x2816_S256x1024_0_0,
      k0_pay13 (k0_pay9 (iblk m c 4 t) (iblk m c 5 t) (View.ld (iblk m c 3 t) (Rect.unit ![0, 0] ![1024, 1024] inb_S5632x1024_S1024x1024_0_0)))
        (k0_pay10 (iblk m c 4 t) (iblk m c 5 t) (View.ld (iblk m c 3 t) (Rect.unit ![2816, 0] ![1024, 1024] inb_S5632x1024_S1024x1024_2816_0)))⟩]

theorem gu_emb (t : Fin cfg0.N) {o n : Nat} {inb : ∀ a, ![0, o] a + ![256, n] a ≤ S256x5632.size a} (i : Fin 256) (e : Fin n) (he : o + e.val < 5632) :
    guBlk A t ((Rect.unit (s := S256x5632) ![0, o] ![256, n] inb).emb (ix2 i e)) = ((gu (rows A) (row t i) ⟨o + e.val, he⟩ : ℝ) : EReal) := by
  unfold guBlk
  refine congrArg₂ (fun a b => ((gu (rows A) (row t a) b : ℝ) : EReal)) (Fin.ext ?_) (Fin.ext ?_)
  · show 0 + 1 * i.val = i.val
    omega
  · show o + 1 * e.val = o + e.val
    omega

theorem a_emb (t : Fin cfg0.N) {o n : Nat} {inb : ∀ a, ![0, o] a + ![256, n] a ≤ S256x2816.size a} (i : Fin 256) (e : Fin n) (he : o + e.val < 2816) :
    aBlk A t ((Rect.unit (s := S256x2816) ![0, o] ![256, n] inb).emb (ix2 i e)) = ((act (rows A) (row t i) ⟨o + e.val, he⟩ : ℝ) : EReal) := by
  unfold aBlk
  refine congrArg₂ (fun a b => ((act (rows A) (row t a) b : ℝ) : EReal)) (Fin.ext ?_) (Fin.ext ?_)
  · show 0 + 1 * i.val = i.val
    omega
  · show o + 1 * e.val = o + e.val
    omega

/-- Storing a product at half width keeps it. -/
theorem stored_wide (H : FVec Ideal S256x1024 .bf16) (w : Vec Ideal S1024x1024 .bf16) (i : Fin 256) (e : Fin 1024) :
    k0_pay16 (F := Ideal) H w (ix2 i e) = k0_pay14 H w (ix2 i e) := by
  unfold k0_pay16
  pointwise

theorem stored_rest (H : FVec Ideal S256x1024 .bf16) (w : Vec Ideal S768x1024 .bf16) (i : Fin 256) (e : Fin 768) :
    k0_pay21 (F := Ideal) H w (ix2 i e) = k0_pay19 H w (ix2 i e) := by
  unfold k0_pay21
  pointwise

theorem gu_pieces (h : Args m c A) (t : Fin cfg0.N) : View.PiecesOf (guBlk A t) (guPieces m c t) := by
  refine ⟨fun x => ?_, fun x => ?_, fun x => ?_, fun x => ?_, fun x => ?_, fun x => ?_, trivial⟩
  · obtain ⟨i, e, rfl⟩ : ∃ (i : Fin 256) (e : Fin 768), x = ix2 i e := ⟨x 0, x 1, (ix2_eta x).symm⟩
    exact ((stored_rest _ _ i e).trans (col_rest h t inb_S5632x1024_S768x1024_4864_0 i e (by omega))).trans (gu_emb t (o := 4864) (inb := inb_S256x5632_S256x768_0_4864) i e (by omega)).symm
  · obtain ⟨i, e, rfl⟩ : ∃ (i : Fin 256) (e : Fin 768), x = ix2 i e := ⟨x 0, x 1, (ix2_eta x).symm⟩
    exact ((stored_rest _ _ i e).trans (col_rest h t inb_S5632x1024_S768x1024_2048_0 i e (by omega))).trans (gu_emb t (o := 2048) (inb := inb_S256x5632_S256x768_0_2048) i e (by omega)).symm
  · obtain ⟨i, e, rfl⟩ : ∃ (i : Fin 256) (e : Fin 1024), x = ix2 i e := ⟨x 0, x 1, (ix2_eta x).symm⟩
    exact ((stored_wide _ _ i e).trans (col_wide h t inb_S5632x1024_S1024x1024_3840_0 i e (by omega))).trans (gu_emb t (o := 3840) (inb := inb_S256x5632_S256x1024_0_3840) i e (by omega)).symm
  · obtain ⟨i, e, rfl⟩ : ∃ (i : Fin 256) (e : Fin 1024), x = ix2 i e := ⟨x 0, x 1, (ix2_eta x).symm⟩
    exact ((stored_wide _ _ i e).trans (col_wide h t inb_S5632x1024_S1024x1024_1024_0 i e (by omega))).trans (gu_emb t (o := 1024) (inb := inb_S256x5632_S256x1024_0_1024) i e (by omega)).symm
  · obtain ⟨i, e, rfl⟩ : ∃ (i : Fin 256) (e : Fin 1024), x = ix2 i e := ⟨x 0, x 1, (ix2_eta x).symm⟩
    exact ((stored_wide (hBlk m c t) _ i e).trans (col_wide h t inb_S5632x1024_S1024x1024_2816_0 i e (by omega))).trans (gu_emb t (o := 2816) (inb := inb_S256x5632_S256x1024_0_2816) i e (by omega)).symm
  · obtain ⟨i, e, rfl⟩ : ∃ (i : Fin 256) (e : Fin 1024), x = ix2 i e := ⟨x 0, x 1, (ix2_eta x).symm⟩
    exact ((stored_wide (hBlk m c t) _ i e).trans (col_wide h t inb_S5632x1024_S1024x1024_0_0 i e (by omega))).trans (gu_emb t (o := 0) (inb := inb_S256x5632_S256x1024_0_0) i e (by omega)).symm

theorem a_pieces (h : Args m c A) (t : Fin cfg0.N) : View.PiecesOf (aBlk A t) (aPieces m c t) := by
  refine ⟨fun x => ?_, fun x => ?_, fun x => ?_, trivial⟩
  · obtain ⟨i, e, rfl⟩ : ∃ (i : Fin 256) (e : Fin 768), x = ix2 i e := ⟨x 0, x 1, (ix2_eta x).symm⟩
    exact (act_rest (H := hBlk m c t) (col_rest h t inb_S5632x1024_S768x1024_2048_0 i e (by omega)) (col_rest_hi h t (o := 2048) rfl inb_S5632x1024_S768x1024_4864_0 i e (by omega))).trans
      (a_emb t (o := 2048) (inb := inb_S256x2816_S256x768_0_2048) i e (by omega)).symm
  · obtain ⟨i, e, rfl⟩ : ∃ (i : Fin 256) (e : Fin 1024), x = ix2 i e := ⟨x 0, x 1, (ix2_eta x).symm⟩
    exact (act_wide (col_wide h t inb_S5632x1024_S1024x1024_1024_0 i e (by omega)) (col_wide_hi h t (o := 1024) rfl inb_S5632x1024_S1024x1024_3840_0 i e (by omega))).trans
      (a_emb t (o := 1024) (inb := inb_S256x2816_S256x1024_0_1024) i e (by omega)).symm
  · obtain ⟨i, e, rfl⟩ : ∃ (i : Fin 256) (e : Fin 1024), x = ix2 i e := ⟨x 0, x 1, (ix2_eta x).symm⟩
    exact (act_wide (col_wide h t inb_S5632x1024_S1024x1024_0_0 i e (by omega)) (col_wide_hi h t (o := 0) rfl inb_S5632x1024_S1024x1024_2816_0 i e (by omega))).trans
      (a_emb t (o := 0) (inb := inb_S256x2816_S256x1024_0_0) i e (by omega)).symm

/-- The stores leave the first product and the gated columns, every column of them. -/
theorem canon_gu (h : Args m c A) (t : Fin cfg0.N) (y : S256x5632.Idx) : View.canon (guPieces m c t) y = guBlk A t y :=
  View.canon_append_of_piecesOf (guBlk A t) [] (guPieces m c t) (gu_pieces h t) y (View.cover_of_tiledBy _ ![256, 256] (by sl_kernel_rfl) y)

theorem canon_a (h : Args m c A) (t : Fin cfg0.N) (y : S256x2816.Idx) : View.canon (aPieces m c t) y = aBlk A t y :=
  View.canon_append_of_piecesOf (aBlk A t) [] (aPieces m c t) (a_pieces h t) y (View.cover_of_tiledBy _ ![256, 256] (by sl_kernel_rfl) y)

/-- Columns `o …` of the first product, as the body reads them again. -/
theorem gu_piece (h : Args m c A) (t : Fin cfg0.N) {κ : Kind} {sp : Space} (v : View sig κ sp S256x5632 .bf16) {o n : Nat}
    (inb : ∀ a, ![0, o] a + ![256, n] a ≤ S256x5632.size a) (i : Fin 256) (e : Fin n) (he : o + e.val < 5632) :
    (v.readCov (Val := Elt Ideal) (guPieces m c t) (Rect.unit (s := S256x5632) ![0, o] ![256, n] inb).toLoadRect : (⟨2, ![256, n]⟩ : Shape).Idx → EReal) (ix2 i e)
      = ((gu (rows A) (row t i) ⟨o + e.val, he⟩ : ℝ) : EReal) := by
  rw [View.readCov_eq_canon']
  refine (canon_gu h t _).trans ?_
  exact gu_emb t (inb := inb) i e he

theorem gu_piece_hi (h : Args m c A) (t : Fin cfg0.N) {κ : Kind} {sp : Space} (v : View sig κ sp S256x5632 .bf16) {o p n : Nat} (hp : p = 2816 + o)
    (inb : ∀ a, ![0, p] a + ![256, n] a ≤ S256x5632.size a) (i : Fin 256) (e : Fin n) (he : o + e.val < 2816) :
    (v.readCov (Val := Elt Ideal) (guPieces m c t) (Rect.unit (s := S256x5632) ![0, p] ![256, n] inb).toLoadRect : (⟨2, ![256, n]⟩ : Shape).Idx → EReal) (ix2 i e)
      = ((gu (rows A) (row t i) (hi ⟨o + e.val, he⟩) : ℝ) : EReal) := by
  refine (gu_piece h t v inb i e (by omega)).trans (congrArg (fun a => ((gu (rows A) (row t i) a : ℝ) : EReal)) (Fin.ext ?_))
  show p + e.val = 2816 + (o + e.val)
  omega

/-- The gated columns, as the body reads them again. -/
theorem read_a (h : Args m c A) (t : Fin cfg0.N) {κ : Kind} {sp : Space} (v : View sig κ sp S256x2816 .bf16) :
    v.readCov (Val := Elt Ideal) (aPieces m c t) (Rect.unit ![0, 0] ![256, 2816] inb_S256x2816_S256x2816_0_0).toLoadRect = aBlk A t := by
  rw [View.readCov_eq_canon']
  funext y
  refine (canon_a h t _).trans (congrArg (aBlk A t) (funext fun a => ?_))
  match a with
  | ⟨0, _⟩ => exact Fin.ext (by show 0 + 1 * (y 0).val = (y 0).val; omega)
  | ⟨1, _⟩ => exact Fin.ext (by show 0 + 1 * (y 1).val = (y 1).val; omega)

theorem f_at (h : Args m c A) (t : Fin cfg0.N) (i : Fin 256) (j : Fin 1024) :
    k0_pay24 (F := Ideal) (aBlk A t) (iblk m c 2 t) (ix2 i j) = ((f (rows A) (row t i) j : ℝ) : EReal) := by
  unfold_payloads
  pointwise [dot_S256x2816_S2816x1024_S256x1024_1_0_0_1_n_n]
  simp only [block_wdown h, aBlk, mul_coe, coe_sum]
  rfl

/-- The second norm's denominator, and what it makes of the second product. -/
def rstdBlk (m : (ℓ : Loc nD τ sig) → Buf (Elt Ideal) ℓ) (c : Dev nD) (t : Fin cfg0.N) (U : Vec Ideal S256x2816 .bf16) : FVec Ideal S256x1 .f32 :=
  k0_pay27 (F := Ideal) (k0_pay25 U (iblk m c 2 t)) k0_pay26
def normBlk (m : (ℓ : Loc nD τ sig) → Buf (Elt Ideal) ℓ) (c : Dev nD) (t : Fin cfg0.N) (U : Vec Ideal S256x2816 .bf16) : FVec Ideal S256x1024 .f32 :=
  k0_pay28 (F := Ideal) (k0_pay24 U (iblk m c 2 t)) (k0_pay25 U (iblk m c 2 t)) k0_pay26

/-- The error, the gradient in the block's result and the gradient in the second product. -/
def errBlk (m : (ℓ : Loc nD τ sig) → Buf (Elt Ideal) ℓ) (c : Dev nD) (t : Fin cfg0.N) (U : Vec Ideal S256x2816 .bf16) : FVec Ideal S256x1024 .f32 :=
  k0_pay29 (F := Ideal) (k0_pay5 (iblk m c 4 t)) (k0_pay24 U (iblk m c 2 t)) (k0_pay25 U (iblk m c 2 t)) k0_pay26 (iblk m c 1 t) (iblk m c 0 t)
def dvBlk (m : (ℓ : Loc nD τ sig) → Buf (Elt Ideal) ℓ) (c : Dev nD) (t : Fin cfg0.N) (U : Vec Ideal S256x2816 .bf16) : FVec Ideal S256x1024 .f32 :=
  k0_pay30 (F := Ideal) (k0_pay5 (iblk m c 4 t)) (k0_pay24 U (iblk m c 2 t)) (k0_pay25 U (iblk m c 2 t)) k0_pay26 (iblk m c 1 t) (iblk m c 0 t)
def dfBlk (m : (ℓ : Loc nD τ sig) → Buf (Elt Ideal) ℓ) (c : Dev nD) (t : Fin cfg0.N) (U : Vec Ideal S256x2816 .bf16) : FVec Ideal S256x1024 .bf16 :=
  k0_pay33 (F := Ideal) (rstdBlk m c t U) (normBlk m c t U) (dvBlk m c t U) (iblk m c 1 t)

theorem rstd_at (h : Args m c A) (t : Fin cfg0.N) (i : Fin 256) :
    rstdBlk m c t (aBlk A t) (ix2 i 0) = ((rstd (f (rows A) (row t i)) : ℝ) : EReal) := by
  unfold rstdBlk k0_pay27 k0_pay26 k0_pay25
  pointwise
  simp only [f_at h]
  simp only [mul_coe, coe_sum, word_1024, div_1024, word_eps, add_coe]
  simp only [rsqrt_ms (f (rows A) (row t i))]

theorem norm_at (h : Args m c A) (t : Fin cfg0.N) (i : Fin 256) (j : Fin 1024) :
    normBlk m c t (aBlk A t) (ix2 i j) = ((f (rows A) (row t i) j * rstd (f (rows A) (row t i)) : ℝ) : EReal) := by
  unfold normBlk k0_pay28 k0_pay27 k0_pay26 k0_pay25
  pointwise
  simp only [f_at h]
  simp only [mul_coe, coe_sum, word_1024, div_1024, word_eps, add_coe]
  simp only [rsqrt_ms (f (rows A) (row t i)), mul_coe]

theorem err_at (h : Args m c A) (t : Fin cfg0.N) (i : Fin 256) (j : Fin 1024) :
    errBlk m c t (aBlk A t) (ix2 i j) = ((err A (row t i) j : ℝ) : EReal) := by
  have e := norm_at h t
  unfold normBlk at e
  unfold errBlk k0_pay29 k0_pay5
  pointwise
  simp only [e, block_input h, block_gainq h, block_target h, mul_coe, add_coe, sub_coe]
  rfl

theorem dv_at (h : Args m c A) (t : Fin cfg0.N) (i : Fin 256) (j : Fin 1024) :
    dvBlk m c t (aBlk A t) (ix2 i j) = ((dv A (row t i) j : ℝ) : EReal) := by
  have e := err_at h t
  unfold errBlk at e
  unfold dvBlk k0_pay30
  pointwise
  simp only [e, word_inv_1024, mul_coe]
  rfl

theorem df_at (h : Args m c A) (t : Fin cfg0.N) (i : Fin 256) (j : Fin 1024) :
    dfBlk m c t (aBlk A t) (ix2 i j) = ((df (rows A) (dv A) (row t i) j : ℝ) : EReal) := by
  unfold dfBlk k0_pay33
  pointwise
  simp only [rstd_at h, norm_at h, dv_at h, block_gainq h]
  simp only [mul_coe, coe_sum, word_1024, div_1024, sub_coe]
  rfl

end Cert.FfnLastBwd.Kernel

end
-- ==== Proof.FfnLastBwd.Kernel.lean ====
/- What the second layer's feed-forward call leaves in its eight output arrays: five of one block of rows per grid point, and the two gains' gradients and the loss, summed over the points. -/
module

public import proofs.«01_k».proof.Proof.FfnLastBwd.Forward
public import Idealize.ShloMosaic.Lib.Pipeline.ReadBack

@[expose] public section

set_option maxRecDepth 16384

noncomputable section

namespace Cert.FfnLastBwd.Kernel

open Idealize.ShloMosaic Idealize.ShloMosaic.TcCoe Cert.FfnLastIdeal Cert.FfnLastIdeal.Gen Cert.FfnLastIdeal.Facts Cert.Reals Cert.Norm Cert.FfnBwd

variable {m : (ℓ : Loc nD τ sig) → Buf (Elt Ideal) ℓ} {c : Dev nD} {A : Arrays}

/-- A gate's gradient from real entries, in a piece of 1024 columns. -/
theorem gate_wide {D : FVec Ideal S256x1024 .bf16} {w : Vec Ideal S1024x1024 .bf16} {g u : Vec Ideal S256x1024 .bf16} {i : Fin 256} {e : Fin 1024}
    {d v : Fin 1024 → ℝ} {a b : ℝ} (hD : ∀ j, D (ix2 i j) = ((d j : ℝ) : EReal)) (hw : ∀ j, w (ix2 e j) = ((v j : ℝ) : EReal))
    (hg : g (ix2 i e) = ((a : ℝ) : EReal)) (hu : u (ix2 i e) = ((b : ℝ) : EReal)) :
    k0_pay42 (F := Ideal) D w g u (ix2 i e) = (((∑ j, d j * v j) * b * (logistic a + a * logistic a - a * logistic a * logistic a) : ℝ) : EReal) := by
  unfold_payloads
  pointwise [dot_S256x1024_S1024x1024_S256x1024_1_1_0_0_n_n]
  simp only [hD, hw, hg, hu, mul_coe, coe_sum, zero_sub, neg_coe, exp_coe, one_add_coe, div_logistic, add_coe, sub_coe]

theorem up_wide {D : FVec Ideal S256x1024 .bf16} {w : Vec Ideal S1024x1024 .bf16} {g : Vec Ideal S256x1024 .bf16} {i : Fin 256} {e : Fin 1024}
    {d v : Fin 1024 → ℝ} {a : ℝ} (hD : ∀ j, D (ix2 i j) = ((d j : ℝ) : EReal)) (hw : ∀ j, w (ix2 e j) = ((v j : ℝ) : EReal))
    (hg : g (ix2 i e) = ((a : ℝ) : EReal)) :
    k0_pay43 (F := Ideal) D w g (ix2 i e) = (((∑ j, d j * v j) * (a * logistic a) : ℝ) : EReal) := by
  unfold_payloads
  pointwise [dot_S256x1024_S1024x1024_S256x1024_1_1_0_0_n_n]
  simp only [hD, hw, hg, mul_coe, coe_sum, zero_sub, neg_coe, exp_coe, one_add_coe, div_logistic, add_coe, sub_coe]

/-- The same in the last 768 columns. -/
theorem gate_rest {D : FVec Ideal S256x1024 .bf16} {w : Vec Ideal S768x1024 .bf16} {g u : Vec Ideal S256x768 .bf16} {i : Fin 256} {e : Fin 768}
    {d v : Fin 1024 → ℝ} {a b : ℝ} (hD : ∀ j, D (ix2 i j) = ((d j : ℝ) : EReal)) (hw : ∀ j, w (ix2 e j) = ((v j : ℝ) : EReal))
    (hg : g (ix2 i e) = ((a : ℝ) : EReal)) (hu : u (ix2 i e) = ((b : ℝ) : EReal)) :
    k0_pay48 (F := Ideal) (k0_pay44 D w) g u (k0_pay45 g) (Scalar.ofBits .f32 0x3F800000#32) (ix2 i e) = (((∑ j, d j * v j) * b * (logistic a + a * logistic a - a * logistic a * logistic a) : ℝ) : EReal) := by
  unfold_payloads
  pointwise [dot_S256x1024_S768x1024_S256x768_1_1_0_0_n_n]
  simp only [hD, hw, hg, hu, mul_coe, coe_sum, zero_sub, neg_coe, exp_coe, one_add_coe, div_logistic, add_coe, sub_coe]

theorem up_rest {D : FVec Ideal S256x1024 .bf16} {w : Vec Ideal S768x1024 .bf16} {g : Vec Ideal S256x768 .bf16} {i : Fin 256} {e : Fin 768}
    {d v : Fin 1024 → ℝ} {a : ℝ} (hD : ∀ j, D (ix2 i j) = ((d j : ℝ) : EReal)) (hw : ∀ j, w (ix2 e j) = ((v j : ℝ) : EReal))
    (hg : g (ix2 i e) = ((a : ℝ) : EReal)) :
    k0_pay49 (F := Ideal) (k0_pay44 D w) g (k0_pay45 g) (Scalar.ofBits .f32 0x3F800000#32) (ix2 i e) = (((∑ j, d j * v j) * (a * logistic a) : ℝ) : EReal) := by
  unfold_payloads
  pointwise [dot_S256x1024_S768x1024_S256x768_1_1_0_0_n_n]
  simp only [hD, hw, hg, mul_coe, coe_sum, zero_sub, neg_coe, exp_coe, one_add_coe, div_logistic, add_coe, sub_coe]

/-- The gradient in the first product at a grid point. -/
def dguBlk (A : Arrays) (t : Fin cfg0.N) : Vec Ideal S256x5632 .bf16 := fun y => ((dgu (rows A) (dv A) (row t (y 0)) (y 1) : ℝ) : EReal)

/-- The array of gradients in the second product. -/
def dfArr (A : Arrays) : FVec Ideal S4096x1024 .bf16 := fun i => ((df (rows A) (dv A) (i 0) (i 1) : ℝ) : EReal)

/-- The array of gradients in the first product. -/
def dguArr (A : Arrays) : FVec Ideal S4096x5632 .bf16 := fun i => ((dgu (rows A) (dv A) (i 0) (i 1) : ℝ) : EReal)

/-- The loss, in every place. -/
def lossArr (A : Arrays) : FVec Ideal S8x128 .f32 := fun _ => ((loss A : ℝ) : EReal)

/-- The arrays of the first norm's results and of the gated columns. -/
def hArr (A : Arrays) : FVec Ideal S4096x1024 .bf16 := fun i => ((FfnBwd.h (rows A) (i 0) (i 1) : ℝ) : EReal)
def aArr (A : Arrays) : FVec Ideal S4096x2816 .bf16 := fun i => ((act (rows A) (i 0) (i 1) : ℝ) : EReal)

/-- The array of input gradients. -/
def dxArr (A : Arrays) : FVec Ideal S4096x1024 .f32 := fun i => ((dx (rows A) (dv A) (i 0) (i 1) : ℝ) : EReal)

/-- The arrays of the two gains' gradients. -/
def dgpArr (A : Arrays) : FVec Ideal S1x1024 .f32 := fun i => ((dgp (rows A) (dv A) (i 1) : ℝ) : EReal)
def dgArr (A : Arrays) : FVec Ideal S1x1024 .f32 := fun i => ((dg (rows A) (dv A) (i 1) : ℝ) : EReal)

theorem df_at' (h : Args m c A) (t : Fin cfg0.N) (i : Fin 256) (j : Fin 1024) {U : Vec Ideal S256x2816 .bf16} (hU : U = aBlk A t) :
    dfBlk m c t U (ix2 i j) = ((df (rows A) (dv A) (row t i) j : ℝ) : EReal) := by
  subst hU
  exact df_at h t i j

theorem df_final (h : Args m c A) : (dats m 0 c).arrAt 6 cfg0.N = dfArr A := by
  refine (dats m 0 c).arrAt_eq_of_covers 6 _ (by decide +kernel) fun t hf y => ?_
  blk_simp
  rw [after0_6]
  have e : ∀ (y0 : Fin 256) (y1 : Fin 1024), ((View.whole main_v15_0).slice (win0_6.rect t)).emb (ix2 y0 y1) = ix2 (row t y0) y1 := by
    intro y0 y1
    blk_ext [idx t, row]
  by_cases h0 : t.val % 16 = 0
  · rw [outsAt0_A m c t h0]
    frame_out
    idx_vars y
    rw [e]
    exact df_at' h t y0 y1 (read_a h t _)
  · rw [outsAt0_B m c t h0]
    frame_out
    idx_vars y
    rw [e]
    exact df_at' h t y0 y1 (read_a h t _)

/-- Columns of the first product, as the body reads them from its scratch. -/
def guRead (m : (ℓ : Loc nD τ sig) → Buf (Elt Ideal) ℓ) (c : Dev nD) (t : Fin cfg0.N) (r : Rect S256x5632) : r.shape.Idx → EReal :=
  (View.whole cc0_scratch0).readCov (Val := Elt Ideal) (guPieces m c t) r.toLoadRect

/-- What the body stores of the gradient in the first product, the last store first; `U` are the gated columns it works from. -/
def dguPieces (m : (ℓ : Loc nD τ sig) → Buf (Elt Ideal) ℓ) (c : Dev nD) (t : Fin cfg0.N) (U : Vec Ideal S256x2816 .bf16) : List (View.Piece (Elt Ideal) S256x5632 .bf16) :=
  [⟨Rect.unit ![0, 4864] ![256, 768] inb_S256x5632_S256x768_0_4864,
      k0_pay49 (k0_pay44 (dfBlk m c t U) (View.ld (iblk m c 2 t) (Rect.unit ![2048, 0] ![768, 1024] inb_S2816x1024_S768x1024_2048_0)))
        (guRead m c t (Rect.unit ![0, 2048] ![256, 768] inb_S256x5632_S256x768_0_2048))
        (k0_pay45 (guRead m c t (Rect.unit ![0, 2048] ![256, 768] inb_S256x5632_S256x768_0_2048))) (Scalar.ofBits .f32 0x3F800000#32)⟩,
    ⟨Rect.unit ![0, 2048] ![256, 768] inb_S256x5632_S256x768_0_2048,
      k0_pay48 (k0_pay44 (dfBlk m c t U) (View.ld (iblk m c 2 t) (Rect.unit ![2048, 0] ![768, 1024] inb_S2816x1024_S768x1024_2048_0)))
        (guRead m c t (Rect.unit ![0, 2048] ![256, 768] inb_S256x5632_S256x768_0_2048))
        (guRead m c t (Rect.unit ![0, 4864] ![256, 768] inb_S256x5632_S256x768_0_4864))
        (k0_pay45 (guRead m c t (Rect.unit ![0, 2048] ![256, 768] inb_S256x5632_S256x768_0_2048))) (Scalar.ofBits .f32 0x3F800000#32)⟩,
    ⟨Rect.unit ![0, 3840] ![256, 1024] inb_S256x5632_S256x1024_0_3840,
      k0_pay43 (dfBlk m c t U) (View.ld (iblk m c 2 t) (Rect.unit ![1024, 0] ![1024, 1024] inb_S2816x1024_S1024x1024_1024_0))
        (guRead m c t (Rect.unit ![0, 1024] ![256, 1024] inb_S256x5632_S256x1024_0_1024))⟩,
    ⟨Rect.unit ![0, 1024] ![256, 1024] inb_S256x5632_S256x1024_0_1024,
      k0_pay42 (dfBlk m c t U) (View.ld (iblk m c 2 t) (Rect.unit ![1024, 0] ![1024, 1024] inb_S2816x1024_S1024x1024_1024_0))
        (guRead m c t (Rect.unit ![0, 1024] ![256, 1024] inb_S256x5632_S256x1024_0_1024))
        (guRead m c t (Rect.unit ![0, 3840] ![256, 1024] inb_S256x5632_S256x1024_0_3840))⟩,
    ⟨Rect.unit ![0, 2816] ![256, 1024] inb_S256x5632_S256x1024_0_2816,
      k0_pay38 (rstdBlk m c t U) (normBlk m c t U) (dvBlk m c t U) (iblk m c 1 t)
        (View.ld (iblk m c 2 t) (Rect.unit ![0, 0] ![1024, 1024] inb_S2816x1024_S1024x1024_0_0))
        (guRead m c t (Rect.unit ![0, 0] ![256, 1024] inb_S256x5632_S256x1024_0_0))⟩,
    ⟨Rect.unit ![0, 0] ![256, 1024] inb_S256x5632_S256x1024_0_0,
      k0_pay37 (rstdBlk m c t U) (normBlk m c t U) (dvBlk m c t U) (iblk m c 1 t)
        (View.ld (iblk m c 2 t) (Rect.unit ![0, 0] ![1024, 1024] inb_S2816x1024_S1024x1024_0_0))
        (guRead m c t (Rect.unit ![0, 0] ![256, 1024] inb_S256x5632_S256x1024_0_0))
        (guRead m c t (Rect.unit ![0, 2816] ![256, 1024] inb_S256x5632_S256x1024_0_2816))⟩]

/-- Column `o + e` of the gates, whose gradient is stored at `o`, and that of its partner, stored 2816 columns on. -/
theorem blk_lo (t : Fin cfg0.N) {o n : Nat} {inb : ∀ a, ![0, o] a + ![256, n] a ≤ S256x5632.size a} (i : Fin 256) (e : Fin n) (he : o + e.val < 2816) :
    dguBlk A t ((Rect.unit (s := S256x5632) ![0, o] ![256, n] inb).emb (ix2 i e)) = ((dgate (rows A) (dv A) (row t i) ⟨o + e.val, he⟩ : ℝ) : EReal) := by
  rw [← dgu_lo]
  unfold dguBlk
  refine congrArg₂ (fun a b => ((dgu (rows A) (dv A) (row t a) b : ℝ) : EReal)) (Fin.ext ?_) (Fin.ext ?_)
  · show 0 + 1 * i.val = i.val
    omega
  · show o + 1 * e.val = o + e.val
    omega

theorem blk_hi (t : Fin cfg0.N) {o p n : Nat} {inb : ∀ a, ![0, p] a + ![256, n] a ≤ S256x5632.size a} (i : Fin 256) (e : Fin n) (he : o + e.val < 2816) (hp : p = 2816 + o) :
    dguBlk A t ((Rect.unit (s := S256x5632) ![0, p] ![256, n] inb).emb (ix2 i e)) = ((dup (rows A) (dv A) (row t i) ⟨o + e.val, he⟩ : ℝ) : EReal) := by
  rw [← dgu_hi]
  unfold dguBlk
  refine congrArg₂ (fun a b => ((dgu (rows A) (dv A) (row t a) b : ℝ) : EReal)) (Fin.ext ?_) (Fin.ext ?_)
  · show 0 + 1 * i.val = i.val
    omega
  · show p + 1 * e.val = 2816 + (o + e.val)
    omega

theorem dgu_pieces (h : Args m c A) (t : Fin cfg0.N) : View.PiecesOf (dguBlk A t) (dguPieces m c t (aBlk A t)) := by
  refine ⟨fun x => ?_, fun x => ?_, fun x => ?_, fun x => ?_, fun x => ?_, fun x => ?_, trivial⟩
  · obtain ⟨i, e, rfl⟩ : ∃ (i : Fin 256) (e : Fin 768), x = ix2 i e := ⟨x 0, x 1, (ix2_eta x).symm⟩
    exact (up_rest (df_at h t i) (fun j => wd_piece h t inb_S2816x1024_S768x1024_2048_0 e j (by omega)) (gu_piece h t _ inb_S256x5632_S256x768_0_2048 i e (by omega))).trans
      (blk_hi t (o := 2048) (p := 4864) (inb := inb_S256x5632_S256x768_0_4864) i e (by omega) rfl).symm
  · obtain ⟨i, e, rfl⟩ : ∃ (i : Fin 256) (e : Fin 768), x = ix2 i e := ⟨x 0, x 1, (ix2_eta x).symm⟩
    exact (gate_rest (df_at h t i) (fun j => wd_piece h t inb_S2816x1024_S768x1024_2048_0 e j (by omega)) (gu_piece h t _ inb_S256x5632_S256x768_0_2048 i e (by omega)) (gu_piece_hi h t _ (o := 2048) rfl inb_S256x5632_S256x768_0_4864 i e (by omega))).trans
      (blk_lo t (o := 2048) (inb := inb_S256x5632_S256x768_0_2048) i e (by omega)).symm
  · obtain ⟨i, e, rfl⟩ : ∃ (i : Fin 256) (e : Fin 1024), x = ix2 i e := ⟨x 0, x 1, (ix2_eta x).symm⟩
    exact (up_wide (df_at h t i) (fun j => wd_piece h t inb_S2816x1024_S1024x1024_1024_0 e j (by omega)) (gu_piece h t _ inb_S256x5632_S256x1024_0_1024 i e (by omega))).trans
      (blk_hi t (o := 1024) (p := 3840) (inb := inb_S256x5632_S256x1024_0_3840) i e (by omega) rfl).symm
  · obtain ⟨i, e, rfl⟩ : ∃ (i : Fin 256) (e : Fin 1024), x = ix2 i e := ⟨x 0, x 1, (ix2_eta x).symm⟩
    exact (gate_wide (df_at h t i) (fun j => wd_piece h t inb_S2816x1024_S1024x1024_1024_0 e j (by omega)) (gu_piece h t _ inb_S256x5632_S256x1024_0_1024 i e (by omega)) (gu_piece_hi h t _ (o := 1024) rfl inb_S256x5632_S256x1024_0_3840 i e (by omega))).trans
      (blk_lo t (o := 1024) (inb := inb_S256x5632_S256x1024_0_1024) i e (by omega)).symm
  · obtain ⟨i, e, rfl⟩ : ∃ (i : Fin 256) (e : Fin 1024), x = ix2 i e := ⟨x 0, x 1, (ix2_eta x).symm⟩
    exact (up_wide (df_at h t i) (fun j => wd_piece h t inb_S2816x1024_S1024x1024_0_0 e j (by omega)) (gu_piece h t _ inb_S256x5632_S256x1024_0_0 i e (by omega))).trans
      (blk_hi t (o := 0) (p := 2816) (inb := inb_S256x5632_S256x1024_0_2816) i e (by omega) rfl).symm
  · obtain ⟨i, e, rfl⟩ : ∃ (i : Fin 256) (e : Fin 1024), x = ix2 i e := ⟨x 0, x 1, (ix2_eta x).symm⟩
    exact (gate_wide (df_at h t i) (fun j => wd_piece h t inb_S2816x1024_S1024x1024_0_0 e j (by omega)) (gu_piece h t _ inb_S256x5632_S256x1024_0_0 i e (by omega)) (gu_piece_hi h t _ (o := 0) rfl inb_S256x5632_S256x1024_0_2816 i e (by omega))).trans
      (blk_lo t (o := 0) (inb := inb_S256x5632_S256x1024_0_0) i e (by omega)).symm

/-- The stores leave the gradient in the first product, every column of it. -/
theorem canon_dgu (h : Args m c A) (t : Fin cfg0.N) {U : Vec Ideal S256x2816 .bf16} (hU : U = aBlk A t) (y : S256x5632.Idx) : View.canon (dguPieces m c t U) y = dguBlk A t y := by
  subst hU
  exact View.canon_append_of_piecesOf (dguBlk A t) [] (dguPieces m c t (aBlk A t)) (dgu_pieces h t) y (View.cover_of_tiledBy _ ![256, 256] (by sl_kernel_rfl) y)

/-- What the body reads of it again. -/
theorem read_dgu (h : Args m c A) (t : Fin cfg0.N) {κ : Kind} {sp : Space} (v : View sig κ sp S256x5632 .bf16) {U : Vec Ideal S256x2816 .bf16} (hU : U = aBlk A t) :
    v.readCov (Val := Elt Ideal) (dguPieces m c t U) (Rect.unit ![0, 0] ![256, 5632] inb_S256x5632_S256x5632_0_0).toLoadRect = dguBlk A t := by
  rw [View.readCov_eq_canon']
  funext y
  refine (canon_dgu h t hU _).trans (congrArg (dguBlk A t) (funext fun a => ?_))
  match a with
  | ⟨0, _⟩ => exact Fin.ext (by show 0 + 1 * (y 0).val = (y 0).val; omega)
  | ⟨1, _⟩ => exact Fin.ext (by show 0 + 1 * (y 1).val = (y 1).val; omega)

theorem dgu_final (h : Args m c A) : (dats m 0 c).arrAt 7 cfg0.N = dguArr A := by
  refine (dats m 0 c).arrAt_eq_of_covers 7 _ (by decide +kernel) fun t hf y => ?_
  blk_simp
  rw [after0_7]
  have e : ∀ (y0 : Fin 256) (y1 : Fin 5632), ((View.whole main_v15_1).slice (win0_7.rect t)).emb (ix2 y0 y1) = ix2 (row t y0) y1 := by
    intro y0 y1
    blk_ext [idx t, row]
  by_cases h0 : t.val % 16 = 0
  · rw [outsAt0_A m c t h0]
    frame_out
    idx_vars y
    rw [e]
    exact canon_dgu h t (read_a h t _) (ix2 y0 y1)
  · rw [outsAt0_B m c t h0]
    frame_out
    idx_vars y
    rw [e]
    exact canon_dgu h t (read_a h t _) (ix2 y0 y1)

/-- The gradient in the first norm's result at a grid point. -/
theorem dh_at (h : Args m c A) (t : Fin cfg0.N) (i : Fin 256) (k : Fin 1024) :
    k0_pay50 (F := Ideal) (dguBlk A t) (iblk m c 3 t) (ix2 i k) = ((dh (rows A) (dv A) (row t i) k : ℝ) : EReal) := by
  unfold_payloads
  pointwise [dot_S256x5632_S5632x1024_S256x1024_1_0_0_1_n_n]
  simp only [block_wup h, dguBlk, mul_coe, coe_sum]
  rfl

/-- The first norm's denominator and its result before the gain, at a grid point. -/
theorem rstd_x_at (h : Args m c A) (t : Fin cfg0.N) (i : Fin 256) :
    k0_pay6 (F := Ideal) (iblk m c 4 t) (ix2 i 0) = ((rstd ((rows A).x (row t i)) : ℝ) : EReal) := by
  unfold_payloads
  pointwise
  simp only [block_input h]
  simp only [mul_coe, coe_sum, word_1024, div_1024, word_eps, add_coe]
  simp only [rsqrt_ms ((rows A).x (row t i))]

theorem norm_x_at (h : Args m c A) (t : Fin cfg0.N) (i : Fin 256) (k : Fin 1024) :
    k0_pay7 (F := Ideal) (iblk m c 4 t) (ix2 i k) = (((rows A).x (row t i) k * rstd ((rows A).x (row t i)) : ℝ) : EReal) := by
  unfold k0_pay7 k0_pay5
  pointwise
  simp only [rstd_x_at h, block_input h, mul_coe]

theorem dx_at (h : Args m c A) (t : Fin cfg0.N) (i : Fin 256) (j : Fin 1024) {U : Vec Ideal S256x2816 .bf16} {D : Vec Ideal S256x5632 .bf16} (hU : U = aBlk A t) (hD : D = dguBlk A t) :
    k0_pay1 (F := Ideal) (k0_pay6 (iblk m c 4 t)) (dvBlk m c t U) (k0_pay52 (k0_pay7 (iblk m c 4 t)) D (iblk m c 3 t) (iblk m c 5 t)) (ix2 i j)
      = ((dx (rows A) (dv A) (row t i) j : ℝ) : EReal) := by
  subst hU hD
  have e := dh_at h t
  unfold k0_pay1 k0_pay52
  pointwise
  simp only [e, rstd_x_at h, norm_x_at h, dv_at h, block_gain h]
  simp only [mul_coe, coe_sum, word_1024, div_1024, sub_coe, add_coe]
  rfl

theorem dx_final (h : Args m c A) : (dats m 0 c).arrAt 8 cfg0.N = dxArr A := by
  refine (dats m 0 c).arrAt_eq_of_covers 8 _ (by decide +kernel) fun t hf y => ?_
  blk_simp
  rw [after0_8]
  have e : ∀ (y0 : Fin 256) (y1 : Fin 1024), ((View.whole main_v15_2).slice (win0_8.rect t)).emb (ix2 y0 y1) = ix2 (row t y0) y1 := by
    intro y0 y1
    blk_ext [idx t, row]
  by_cases h0 : t.val % 16 = 0
  · rw [outsAt0_A m c t h0]
    frame_out
    idx_vars y
    rw [e]
    exact dx_at h t y0 y1 (read_a h t _) (read_dgu h t _ (read_a h t _))
  · rw [outsAt0_B m c t h0]
    frame_out
    idx_vars y
    rw [e]
    exact dx_at h t y0 y1 (read_a h t _) (read_dgu h t _ (read_a h t _))

/-- What one grid point adds to each gain's gradient, and to the loss. -/
def partP (A : Arrays) (t : Fin cfg0.N) (j : S1x1024.Idx) : EReal :=
  ∑ i : Fin 256, ((dv A (row t i) (j 1) * (f (rows A) (row t i) (j 1) * rstd (f (rows A) (row t i))) : ℝ) : EReal)
def partG (A : Arrays) (t : Fin cfg0.N) (j : S1x1024.Idx) : EReal :=
  ∑ i : Fin 256, ((dh (rows A) (dv A) (row t i) (j 1) * ((rows A).x (row t i) (j 1) * rstd ((rows A).x (row t i))) : ℝ) : EReal)

def partL (A : Arrays) (t : Fin cfg0.N) (_ : S8x128.Idx) : EReal :=
  ∑ i : Fin 256, ((1 / 2 * mse A (row t i) : ℝ) : EReal)

theorem add_p (h : Args m c A) (t : Fin cfg0.N) (prev : Vec Ideal S1x1024 .f32) (j : S1x1024.Idx) {U : Vec Ideal S256x2816 .bf16} (hU : U = aBlk A t) :
    k0_pay32 (F := Ideal) (k0_pay5 (iblk m c 4 t)) (k0_pay24 U (iblk m c 2 t)) (k0_pay25 U (iblk m c 2 t)) k0_pay26 (iblk m c 1 t) (iblk m c 0 t) prev j = prev j + partP A t j := by
  subst hU
  have e := dv_at h t
  have e' := norm_at h t
  unfold dvBlk at e
  unfold normBlk at e'
  unfold k0_pay32
  idx_vars j
  pointwise
  simp only [e, e', mul_coe]
  rfl

theorem add_l (h : Args m c A) (t : Fin cfg0.N) (prev : Vec Ideal S8x128 .f32) (j : S8x128.Idx) {U : Vec Ideal S256x2816 .bf16} (hU : U = aBlk A t) :
    k0_pay31 (F := Ideal) (k0_pay5 (iblk m c 4 t)) (k0_pay24 U (iblk m c 2 t)) (k0_pay25 U (iblk m c 2 t)) k0_pay26 (iblk m c 1 t) (iblk m c 0 t) prev j = prev j + partL A t j := by
  subst hU
  have e := err_at h t
  unfold errBlk at e
  unfold k0_pay31
  idx_vars j
  pointwise
  simp only [e, word_half, word_1024, mul_coe, coe_sum, div_1024]
  unfold partL
  rw [coe_sum]
  refine congrArg (fun a : ℝ => prev _ + (a : EReal)) ?_
  exact Finset.mul_sum _ _ _

theorem add_g (h : Args m c A) (t : Fin cfg0.N) (prev : Vec Ideal S1x1024 .f32) (j : S1x1024.Idx) {D : Vec Ideal S256x5632 .bf16} (hD : D = dguBlk A t) :
    k0_pay51 (F := Ideal) (k0_pay7 (iblk m c 4 t)) D (iblk m c 3 t) prev j = prev j + partG A t j := by
  subst hD
  have e := dh_at h t
  unfold k0_pay51
  idx_vars j
  pointwise
  simp only [e, norm_x_at h, mul_coe]
  rfl

theorem dgp_final (h : Args m c A) : (dats m 0 c).arrAt 9 cfg0.N = dgpArr A := by
  refine (dats m 0 c).arrAt_eq_of_after_last 9 t0_15 (by decide +kernel) _ fun j => ?_
  blk_simp
  rw [after0_9]
  refine (Pipeline.eq_sum_fin_of_reset_step_apply_last (fun n hn => (outsAt0 m c n hn).2.2.2.1) 16 (fun _ => 0) (partP A)
    (fun t h0 j => ?_) (fun t h0 j => ?_) (show cfg0.N = 16 from N_0).le t0_15 rfl j).trans ?_
  · rw [outsAt0_A m c t h0]
    frame_out
    refine (add_p h t _ j (read_a h t _)).trans ?_
    unfold_payloads
    pointwise
  · rw [outsAt0_B m c t h0]
    frame_out
    exact add_p h t _ j (read_a h t _)
  · rw [zero_add]
    unfold partP dgpArr dgp
    rw [← coe_sum]
    exact Fin.sum_mul_add_congr (fun s k hl => rfl)

theorem dg_final (h : Args m c A) : (dats m 0 c).arrAt 10 cfg0.N = dgArr A := by
  refine (dats m 0 c).arrAt_eq_of_after_last 10 t0_15 (by decide +kernel) _ fun j => ?_
  blk_simp
  rw [after0_10]
  refine (Pipeline.eq_sum_fin_of_reset_step_apply_last (fun n hn => (outsAt0 m c n hn).2.2.2.2.1) 16 (fun _ => 0) (partG A)
    (fun t h0 j => ?_) (fun t h0 j => ?_) (show cfg0.N = 16 from N_0).le t0_15 rfl j).trans ?_
  · rw [outsAt0_A m c t h0]
    frame_out
    refine (add_g h t _ j (read_dgu h t _ (read_a h t _))).trans ?_
    unfold_payloads
    pointwise
  · rw [outsAt0_B m c t h0]
    frame_out
    exact add_g h t _ j (read_dgu h t _ (read_a h t _))
  · rw [zero_add]
    unfold partG dgArr dg
    rw [← coe_sum]
    exact Fin.sum_mul_add_congr (fun s k hl => rfl)

theorem loss_final (h : Args m c A) : (dats m 0 c).arrAt 11 cfg0.N = lossArr A := by
  refine (dats m 0 c).arrAt_eq_of_after_last 11 t0_15 (by decide +kernel) _ fun j => ?_
  blk_simp
  rw [after0_11]
  refine (Pipeline.eq_sum_fin_of_reset_step_apply_last (fun n hn => (outsAt0 m c n hn).2.2.2.2.2.1) 16 (fun _ => 0) (partL A)
    (fun t h0 j => ?_) (fun t h0 j => ?_) (show cfg0.N = 16 from N_0).le t0_15 rfl j).trans ?_
  · rw [outsAt0_A m c t h0]
    frame_out
    refine (add_l h t _ j (read_a h t _)).trans ?_
    unfold_payloads
    pointwise
  · rw [outsAt0_B m c t h0]
    frame_out
    exact add_l h t _ j (read_a h t _)
  · rw [zero_add]
    unfold partL lossArr loss
    rw [← coe_sum]
    exact Fin.sum_mul_add_congr (fun s k hl => rfl)

theorem h_final (h : Args m c A) : (dats m 0 c).arrAt 12 cfg0.N = hArr A := by
  refine (dats m 0 c).arrAt_eq_of_covers 12 _ (by decide +kernel) fun t hf y => ?_
  blk_simp
  rw [after0_12]
  have e : ∀ (y0 : Fin 256) (y1 : Fin 1024), ((View.whole main_v15_6).slice (win0_12.rect t)).emb (ix2 y0 y1) = ix2 (row t y0) y1 := by
    intro y0 y1
    blk_ext [idx t, row]
  by_cases h0 : t.val % 16 = 0
  · rw [outsAt0_A m c t h0]
    frame_out
    idx_vars y
    rw [e]
    exact h_at h t y0 y1
  · rw [outsAt0_B m c t h0]
    frame_out
    idx_vars y
    rw [e]
    exact h_at h t y0 y1

theorem a_final (h : Args m c A) : (dats m 0 c).arrAt 13 cfg0.N = aArr A := by
  refine (dats m 0 c).arrAt_eq_of_covers 13 _ (by decide +kernel) fun t hf y => ?_
  blk_simp
  rw [after0_13]
  have e : ∀ (y0 : Fin 256) (y1 : Fin 2816), ((View.whole main_v15_7).slice (win0_13.rect t)).emb (ix2 y0 y1) = ix2 (row t y0) y1 := by
    intro y0 y1
    blk_ext [idx t, row]
  by_cases h0 : t.val % 16 = 0
  · rw [outsAt0_A m c t h0]
    frame_out
    idx_vars y
    rw [e]
    exact canon_a h t (ix2 y0 y1)
  · rw [outsAt0_B m c t h0]
    frame_out
    idx_vars y
    rw [e]
    exact canon_a h t (ix2 y0 y1)

end Cert.FfnLastBwd.Kernel

end
-- ==== Proof.FfnLastBwd.Reference.lean ====
/- What the reference's results hold, read off its printed operations. -/
module

public import proofs.«01_k».proof.Proof.FfnLastBwd.Kernel
public import proofs.«01_k».proof.Proof.Gen.FfnLastReferenceIdeal.Read

@[expose] public section

set_option maxRecDepth 16384

noncomputable section

namespace Cert.FfnLastBwd.Reference

open Idealize.ShloMosaic Idealize.ShloMosaic.TcCoe Cert.FfnLastReferenceIdeal Cert.FfnLastReferenceIdeal.Gen Cert.FfnLastReferenceIdeal.Read Cert.Reals Cert.Norm Cert.FfnBwd

/-- The arguments, as arrays of extended reals. -/
def xA (A : Arrays) : FVec Ideal SX .f32 := fun i => ((A.x i : ℝ) : EReal)
def gA (A : Arrays) : FVec Ideal SG .f32 := fun i => ((A.g i : ℝ) : EReal)
def gqA (A : Arrays) : FVec Ideal SG .f32 := fun i => ((A.gq i : ℝ) : EReal)
def wuA (A : Arrays) : FVec Ideal SU .f32 := fun i => ((A.wu i : ℝ) : EReal)
def wdA (A : Arrays) : FVec Ideal SD .f32 := fun i => ((A.wd i : ℝ) : EReal)
def rA (A : Arrays) : FVec Ideal SX .f32 := fun i => ((A.r i : ℝ) : EReal)

variable (A : Arrays)

/-- The row over its root mean square. -/
theorem xhat_eq (i : Fin 4096) (k : Fin 1024) : (val_main_v22 (F := Ideal) (xA A)) (ix3 0 i k) = (((rows A).x i k * rstd ((rows A).x i) : ℝ) : EReal) := by
  pointwise [hostReduceAdd_ends, val_main_cst_1, val_main_cst_2, val_main_cst_3, val_main_v10, val_main_v11, val_main_v12, val_main_v13, val_main_v14, val_main_v15, val_main_v16, val_main_v17, val_main_v21, val_main_v22, xA]
  simp only [mul_coe, coe_sum, word_1024, div_1024, word_eps, add_coe]
  refine (congrArg (fun a : EReal => ((A.x (ix3 0 i k) : ℝ) : EReal) * a) (rsqrt_ms ((rows A).x i))).trans ?_
  rw [mul_coe]
  rfl

theorem h_eq (i : Fin 4096) (k : Fin 1024) : (val_main_v25 (F := Ideal) (xA A) (gA A)) (ix3 0 i k) = ((h (rows A) i k : ℝ) : EReal) := by
  pointwise [val_main_v2, val_main_v3, val_main_v23, val_main_v24, val_main_v25, gA]
  simp only [xhat_eq, mul_coe]
  rfl

theorem gu_eq (i : Fin 4096) (e : Fin 5632) : (val_main_v27 (F := Ideal) (xA A) (gA A) (wuA A)) (ix3 0 i e) = ((gu (rows A) i e : ℝ) : EReal) := by
  pointwise [val_main_cst, val_main_v0, val_main_v6, val_main_v7, val_main_v26, val_main_v27, wuA, dot_S1x4096x1024_S1024x5632_S1x4096x5632_2_0_01_1_n_n]
  simp only [h_eq, mul_coe, coe_sum]
  rfl

theorem gate_eq (i : Fin 4096) (e : Fin 2816) : (val_main_v28 (F := Ideal) (xA A) (gA A) (wuA A)) (ix3 0 i e) = ((gu (rows A) i (lo e) : ℝ) : EReal) := by
  pointwise [val_main_v28]
  refine Eq.trans (congrArg (val_main_v27 (F := Ideal) (xA A) (gA A) (wuA A)) ?_) (gu_eq A i (lo e))
  blk_ext [lo]

theorem up_eq (i : Fin 4096) (e : Fin 2816) : (val_main_v30 (F := Ideal) (xA A) (gA A) (wuA A)) (ix3 0 i e) = ((gu (rows A) i (hi e) : ℝ) : EReal) := by
  pointwise [val_main_v30]
  refine Eq.trans (congrArg (val_main_v27 (F := Ideal) (xA A) (gA A) (wuA A)) ?_) (gu_eq A i (hi e))
  blk_ext [hi]

theorem sg_eq (i : Fin 4096) (e : Fin 2816) : (val_main_v29_2 (F := Ideal) (xA A) (gA A) (wuA A)) (ix3 0 i e) = ((sg (rows A) i e : ℝ) : EReal) := by
  pointwise [val_main_call0_v0, val_main_call0_cst, val_main_call0_cst_0, val_main_call0_v1, val_main_call0_v2, val_main_call0_v3, val_main_call0_v4, val_main_v29_2]
  simp only [gate_eq, neg_coe, exp_coe, one_add_coe, div_logistic]
  rfl

theorem act_eq (i : Fin 4096) (e : Fin 2816) : (val_main_v31 (F := Ideal) (xA A) (gA A) (wuA A)) (ix3 0 i e) = ((act (rows A) i e : ℝ) : EReal) := by
  pointwise [val_main_v31, val_main_v29_0]
  simp only [gate_eq, sg_eq, up_eq, mul_coe]
  rfl

theorem f_eq (i : Fin 4096) (j : Fin 1024) : (val_main_v33 (F := Ideal) (xA A) (gA A) (wuA A) (wdA A)) (ix3 0 i j) = ((f (rows A) i j : ℝ) : EReal) := by
  pointwise [val_main_cst_0, val_main_v1, val_main_v8, val_main_v9, val_main_v32, val_main_v33, wdA, dot_S1x4096x2816_S2816x1024_S1x4096x1024_2_0_01_1_n_n]
  simp only [act_eq, mul_coe, coe_sum]
  rfl

theorem fhat_eq (i : Fin 4096) (j : Fin 1024) : (val_main_v46 (F := Ideal) (xA A) (gA A) (wuA A) (wdA A)) (ix3 0 i j) = ((f (rows A) i j * rstd (f (rows A) i) : ℝ) : EReal) := by
  pointwise [hostReduceAdd_ends, val_main_cst_5, val_main_cst_6, val_main_cst_7, val_main_v34, val_main_v35, val_main_v36, val_main_v37, val_main_v38, val_main_v39, val_main_v40, val_main_v41, val_main_v45, val_main_v46]
  simp only [f_eq, mul_coe, coe_sum, word_1024, div_1024, word_eps, add_coe]
  simp only [rsqrt_ms (f (rows A) i), mul_coe]

/-- The block's result less the target. -/
theorem err_eq (i : Fin 4096) (j : Fin 1024) : (val_main_v51 (F := Ideal) (xA A) (gA A) (gqA A) (wuA A) (wdA A) (rA A)) (ix3 0 i j) = ((err A i j : ℝ) : EReal) := by
  pointwise [val_main_v4, val_main_v5, val_main_v47, val_main_v48, val_main_v49, val_main_v50, val_main_v51, xA, gqA, rA]
  simp only [fhat_eq, mul_coe, add_coe, sub_coe]
  rfl

/-- The gradient in the block's result. -/
theorem dv_eq (i : Fin 4096) (j : Fin 1024) : (val_main_v65 (F := Ideal) (xA A) (gA A) (gqA A) (wuA A) (wdA A) (rA A)) (ix3 0 i j) = ((dv A i j : ℝ) : EReal) := by
  pointwise [val_main_cst_9, val_main_cst_14, val_main_cst_15, val_main_cst_16, val_main_v53, val_main_v54, val_main_v60, val_main_v61, val_main_v62, val_main_v63, val_main_v64, val_main_v65]
  simp only [err_eq, word_half, word_two, word_1024, mul_one, div_1024, mul_coe]
  refine congrArg (fun a : ℝ => (a : EReal)) ?_
  unfold dv
  ring

/-- A row's mean squared error. -/
theorem mse_eq (i : Fin 4096) : (val_main_v57 (F := Ideal) (xA A) (gA A) (gqA A) (wuA A) (wdA A) (rA A)) (ix2 0 i) = ((mse A i : ℝ) : EReal) := by
  pointwise [val_main_cst_10, val_main_cst_11, val_main_v52, val_main_v55, val_main_v56, val_main_v57]
  simp only [err_eq, word_1024, mul_coe, coe_sum, div_1024]
  rfl

/-- The host's sum of a row of numbers. -/
theorem hostReduceAdd_row {n : Nat} (h : (⟨2, ![1, n]⟩ : Shape).ReducesTo [0, 1] ⟨0, ![]⟩) (x : (⟨2, ![1, n]⟩ : Shape).Idx → EReal)
    (init : EReal) (i : (⟨0, ![]⟩ : Shape).Idx) : Ideal.hostReduceAdd h x init i = init + ∑ k : Fin n, x (ix2 0 k) := by
  unfold Ideal.hostReduceAdd
  congr 1
  refine Finset.sum_filter_eq_sum_of_fiber _ (fun k : Fin n => ix2 (0 : Fin 1) k) (fun _ _ e => congrFun e (1 : Fin 2)) (fun k => ?_) x
  constructor
  · intro e
    refine ⟨k 1, ?_⟩
    funext a
    match a with
    | ⟨0, _⟩ => exact Subsingleton.elim (α := Fin 1) _ _
    | ⟨1, _⟩ => rfl
  · rintro ⟨k, rfl⟩
    funext b
    exact b.elim0

/-- The loss, one number in every place. -/
theorem loss_eq (i : Fin 8) (j : Fin 128) : (val_main_v124 (F := Ideal) (xA A) (gA A) (gqA A) (wuA A) (wdA A) (rA A)) (ix2 i j) = ((loss A : ℝ) : EReal) := by
  pointwise [hostReduceAdd_row, val_main_cst_12, val_main_cst_13, val_main_v58, val_main_v59, val_main_v124]
  simp only [mse_eq, word_half, coe_sum, mul_coe]
  refine congrArg (fun a : ℝ => (a : EReal)) ?_
  unfold loss
  exact Finset.mul_sum _ _ _

theorem dgp_eq (j : Fin 1024) : (val_main_v122 (F := Ideal) (xA A) (gA A) (gqA A) (wuA A) (wdA A) (rA A)) (ix2 0 j) = ((dgp (rows A) (dv A) j : ℝ) : EReal) := by
  pointwise [hostReduceAdd_front, val_main_cst_17, val_main_cst_18, val_main_v66, val_main_v67, val_main_v68, val_main_v71, val_main_v122, rA]
  simp only [fhat_eq, dv_eq, mul_coe, coe_sum]
  rw [Finset.sum_const, Finset.card_univ, Fintype.card_fin, one_smul, dgp]
  refine congrArg (fun a : ℝ => (a : EReal)) (Finset.sum_congr rfl fun i _ => ?_)
  exact mul_comm _ _

theorem df_eq (i : Fin 4096) (j : Fin 1024) : (val_main_v86 (F := Ideal) (xA A) (gA A) (gqA A) (wuA A) (wdA A) (rA A)) (ix3 0 i j) = ((df (rows A) (dv A) i j : ℝ) : EReal) := by
  pointwise [hostReduceAdd_ends, val_main_cst_5, val_main_cst_6, val_main_cst_7, val_main_cst_8, val_main_cst_19, val_main_cst_20, val_main_cst_21, val_main_v4, val_main_v5, val_main_v34, val_main_v35, val_main_v36, val_main_v37, val_main_v38, val_main_v39, val_main_v40, val_main_v41, val_main_v42, val_main_v43, val_main_v44, val_main_v47, val_main_v69, val_main_v70, val_main_v72, val_main_v73, val_main_v74, val_main_v75, val_main_v76, val_main_v77, val_main_v78, val_main_v79, val_main_v80, val_main_v81, val_main_v82, val_main_v83, val_main_v84, val_main_v85, val_main_v86, rA, gqA]
  simp only [f_eq, dv_eq, mul_coe, coe_sum, word_1024, div_1024, word_eps, word_neg_half, add_coe]
  simp only [rsqrt_ms (f (rows A) i), div_ms (f (rows A) i), mul_coe, coe_sum, div_1024, add_coe]
  refine congrArg (fun a : ℝ => (a : EReal)) ?_
  rw [df, rmsBwd_eq_chain]
  rfl

theorem da_eq (i : Fin 4096) (e : Fin 2816) : (val_main_v87 (F := Ideal) (xA A) (gA A) (gqA A) (wuA A) (wdA A) (rA A)) (ix3 0 i e) = ((da (rows A) (dv A) i e : ℝ) : EReal) := by
  pointwise [val_main_v8, val_main_v9, val_main_v87, wdA, dot_S1x4096x1024_S2816x1024_S1x4096x2816_2_1_01_0_n_n]
  simp only [df_eq, mul_coe, coe_sum]
  rfl

theorem dgate_eq (i : Fin 4096) (e : Fin 2816) : (val_main_v91 (F := Ideal) (xA A) (gA A) (gqA A) (wuA A) (wdA A) (rA A)) (ix3 0 i e) = ((dgate (rows A) (dv A) i e : ℝ) : EReal) := by
  pointwise [val_main_call0_cst_1, val_main_call0_v6, val_main_call0_v7, val_main_call1_v0, val_main_call1_v1, val_main_call1_v2, val_main_v89, val_main_v91, val_main_v29_1]
  simp only [da_eq, gate_eq, up_eq, sg_eq, mul_coe, one_sub_coe, add_coe]
  refine congrArg (fun a : ℝ => (a : EReal)) ?_
  unfold dgate
  ring

theorem dgu_eq (i : Fin 4096) (e : Fin 5632) : (val_main_v93 (F := Ideal) (xA A) (gA A) (gqA A) (wuA A) (wdA A) (rA A)) (ix3 0 i e) = ((dgu (rows A) (dv A) i e : ℝ) : EReal) := by
  have hu : ∀ e : Fin 2816, (val_main_v88 (F := Ideal) (xA A) (gA A) (gqA A) (wuA A) (wdA A) (rA A)) (ix3 0 i e) = ((dup (rows A) (dv A) i e : ℝ) : EReal) := by
    intro e
    pointwise [val_main_v88, val_main_v29_0]
    simp only [da_eq, gate_eq, sg_eq, mul_coe]
    refine congrArg (fun a : ℝ => (a : EReal)) ?_
    unfold dup
    ring
  pointwise [val_main_cst_22, val_main_cst_23, val_main_v90, val_main_v92, val_main_v93]
  by_cases he : e.val < 2816
  · rw [dif_neg (fun hh => absurd hh.1 (by omega)), dif_pos he, zero_add]
    refine (dgate_eq A i ⟨e.val, he⟩).trans ?_
    unfold dgu
    rw [dif_pos he]
  · rw [dif_pos ⟨by omega, by omega⟩, dif_neg he, add_zero]
    refine (hu ⟨e.val - 2816, by omega⟩).trans ?_
    unfold dgu
    rw [dif_neg he]

theorem dh_eq (i : Fin 4096) (k : Fin 1024) : (val_main_v94 (F := Ideal) (xA A) (gA A) (gqA A) (wuA A) (wdA A) (rA A)) (ix3 0 i k) = ((dh (rows A) (dv A) i k : ℝ) : EReal) := by
  pointwise [val_main_v6, val_main_v7, val_main_v94, wuA, dot_S1x4096x5632_S1024x5632_S1x4096x1024_2_1_01_0_n_n]
  simp only [dgu_eq, mul_coe, coe_sum]
  rfl

theorem dg_eq (j : Fin 1024) : (val_main_v123 (F := Ideal) (xA A) (gA A) (gqA A) (wuA A) (wdA A) (rA A)) (ix2 0 j) = ((dg (rows A) (dv A) j : ℝ) : EReal) := by
  pointwise [hostReduceAdd_front, val_main_cst_24, val_main_cst_25, val_main_v95, val_main_v96, val_main_v97, val_main_v100, val_main_v123]
  simp only [xhat_eq, dh_eq, mul_coe, coe_sum]
  rw [Finset.sum_const, Finset.card_univ, Fintype.card_fin, one_smul, dg]
  refine congrArg (fun a : ℝ => (a : EReal)) (Finset.sum_congr rfl fun i _ => ?_)
  exact mul_comm _ _

theorem dx_eq (i : Fin 4096) (j : Fin 1024) : (val_main_v121 (F := Ideal) (xA A) (gA A) (gqA A) (wuA A) (wdA A) (rA A)) (ix2 i j) = ((dx (rows A) (dv A) i j : ℝ) : EReal) := by
  pointwise [hostReduceAdd_ends, val_main_cst_1, val_main_cst_2, val_main_cst_3, val_main_cst_4, val_main_cst_26, val_main_cst_27, val_main_cst_28, val_main_v2, val_main_v3, val_main_v10, val_main_v11, val_main_v12, val_main_v13, val_main_v14, val_main_v15, val_main_v16, val_main_v17, val_main_v18, val_main_v19, val_main_v20, val_main_v23, val_main_v98, val_main_v99, val_main_v101, val_main_v102, val_main_v103, val_main_v104, val_main_v105, val_main_v106, val_main_v107, val_main_v108, val_main_v109, val_main_v110, val_main_v111, val_main_v112, val_main_v113, val_main_v114, val_main_v115, val_main_v116, val_main_v121, xA, gA, rA]
  simp only [dh_eq, dv_eq, mul_coe, coe_sum, word_1024, div_1024, word_eps, word_neg_half, add_coe]
  simp only [rsqrt_ms fun k => A.x (ix3 0 i k), div_ms fun k => A.x (ix3 0 i k), mul_coe, coe_sum, div_1024, add_coe]
  refine congrArg (fun a : ℝ => (a : EReal)) ?_
  rw [dx, rmsBwd_eq_chain, ← add_assoc, ← add_assoc]
  rfl

/-- The two gradients that are handed on in the narrower format. -/
theorem df_out (i : Fin 4096) (j : Fin 1024) : (val_main_v118 (F := Ideal) (xA A) (gA A) (gqA A) (wuA A) (wdA A) (rA A)) (ix2 i j) = ((df (rows A) (dv A) i j : ℝ) : EReal) := by
  pointwise [val_main_v117, val_main_v118]
  exact df_eq A i j

theorem dgu_out (i : Fin 4096) (e : Fin 5632) : (val_main_v120 (F := Ideal) (xA A) (gA A) (gqA A) (wuA A) (wdA A) (rA A)) (ix2 i e) = ((dgu (rows A) (dv A) i e : ℝ) : EReal) := by
  pointwise [val_main_v119, val_main_v120]
  exact dgu_eq A i e

/-- The norm's result and the gated columns, handed on in the narrower format. -/
theorem h_out (i : Fin 4096) (k : Fin 1024) : (val_main_v126 (F := Ideal) (xA A) (gA A)) (ix2 i k) = ((h (rows A) i k : ℝ) : EReal) := by
  pointwise [val_main_v125, val_main_v126]
  exact h_eq A i k

theorem a_out (i : Fin 4096) (e : Fin 2816) : (val_main_v128 (F := Ideal) (xA A) (gA A) (wuA A)) (ix2 i e) = ((act (rows A) i e : ℝ) : EReal) := by
  pointwise [val_main_v127, val_main_v128]
  exact act_eq A i e

end Cert.FfnLastBwd.Reference

end
-- ==== Proof.FfnLastBwd.Claim.lean ====
/- The call and its reference end with the same eight arrays. -/
module

public import proofs.«01_k».proof.Defs
public import proofs.«01_k».proof.Proof.FfnLastBwd.Kernel
public import proofs.«01_k».proof.Proof.FfnLastBwd.Reference
public import proofs.«01_k».proof.Proof.Gen.FfnLastReferenceIdeal.Run
public import proofs.«01_k».proof.Proof.Gen.Pre_ffn_last_finite
public import proofs.«01_k».proof.Proof.Gen.FfnLast

@[expose] public section

set_option maxRecDepth 16384

noncomputable section

namespace Cert.FfnLastBwd

open Idealize.ShloMosaic Idealize.ShloMosaic.TcCoe Idealize.SL.Sem Cert.Reals Cert.FfnBwd

variable {A : Arrays}

variable {a0 : FVec Ideal FfnLastReferenceIdeal.S1x4096x1024 .f32}
variable {a1 : FVec Ideal FfnLastReferenceIdeal.S2x1024 .f32}
variable {a2 : FVec Ideal FfnLastReferenceIdeal.S2x1024 .f32}
variable {a3 : FVec Ideal FfnLastReferenceIdeal.S2x1024x5632 .f32}
variable {a4 : FVec Ideal FfnLastReferenceIdeal.S2x2816x1024 .f32}
variable {a5 : FVec Ideal FfnLastReferenceIdeal.S1x4096x1024 .f32}

theorem dfArr_eq (h0 : a0 = Reference.xA A) (h1 : a1 = Reference.gA A) (h2 : a2 = Reference.gqA A) (h3 : a3 = Reference.wuA A) (h4 : a4 = Reference.wdA A) (h5 : a5 = Reference.rA A) :
    FfnLastReferenceIdeal.Read.val_main_v118 (F := Ideal) a0 a1 a2 a3 a4 a5 = Kernel.dfArr A := by
  subst h0 h1 h2 h3 h4 h5
  funext i
  idx_vars i
  exact Reference.df_out A i0 i1

theorem dguArr_eq (h0 : a0 = Reference.xA A) (h1 : a1 = Reference.gA A) (h2 : a2 = Reference.gqA A) (h3 : a3 = Reference.wuA A) (h4 : a4 = Reference.wdA A) (h5 : a5 = Reference.rA A) :
    FfnLastReferenceIdeal.Read.val_main_v120 (F := Ideal) a0 a1 a2 a3 a4 a5 = Kernel.dguArr A := by
  subst h0 h1 h2 h3 h4 h5
  funext i
  idx_vars i
  exact Reference.dgu_out A i0 i1

theorem dxArr_eq (h0 : a0 = Reference.xA A) (h1 : a1 = Reference.gA A) (h2 : a2 = Reference.gqA A) (h3 : a3 = Reference.wuA A) (h4 : a4 = Reference.wdA A) (h5 : a5 = Reference.rA A) :
    FfnLastReferenceIdeal.Read.val_main_v121 (F := Ideal) a0 a1 a2 a3 a4 a5 = Kernel.dxArr A := by
  subst h0 h1 h2 h3 h4 h5
  funext i
  idx_vars i
  exact Reference.dx_eq A i0 i1

theorem dgpArr_eq (h0 : a0 = Reference.xA A) (h1 : a1 = Reference.gA A) (h2 : a2 = Reference.gqA A) (h3 : a3 = Reference.wuA A) (h4 : a4 = Reference.wdA A) (h5 : a5 = Reference.rA A) :
    FfnLastReferenceIdeal.Read.val_main_v122 (F := Ideal) a0 a1 a2 a3 a4 a5 = Kernel.dgpArr A := by
  subst h0 h1 h2 h3 h4 h5
  funext i
  idx_vars i
  obtain rfl : i0 = 0 := Subsingleton.elim _ _
  exact Reference.dgp_eq A i1

theorem dgArr_eq (h0 : a0 = Reference.xA A) (h1 : a1 = Reference.gA A) (h2 : a2 = Reference.gqA A) (h3 : a3 = Reference.wuA A) (h4 : a4 = Reference.wdA A) (h5 : a5 = Reference.rA A) :
    FfnLastReferenceIdeal.Read.val_main_v123 (F := Ideal) a0 a1 a2 a3 a4 a5 = Kernel.dgArr A := by
  subst h0 h1 h2 h3 h4 h5
  funext i
  idx_vars i
  obtain rfl : i0 = 0 := Subsingleton.elim _ _
  exact Reference.dg_eq A i1

theorem lossArr_eq (h0 : a0 = Reference.xA A) (h1 : a1 = Reference.gA A) (h2 : a2 = Reference.gqA A) (h3 : a3 = Reference.wuA A) (h4 : a4 = Reference.wdA A) (h5 : a5 = Reference.rA A) :
    FfnLastReferenceIdeal.Read.val_main_v124 (F := Ideal) a0 a1 a2 a3 a4 a5 = Kernel.lossArr A := by
  subst h0 h1 h2 h3 h4 h5
  funext i
  idx_vars i
  exact Reference.loss_eq A i0 i1

theorem hArr_eq (h0 : a0 = Reference.xA A) (h1 : a1 = Reference.gA A) :
    FfnLastReferenceIdeal.Read.val_main_v126 (F := Ideal) a0 a1 = Kernel.hArr A := by
  subst h0 h1
  funext i
  idx_vars i
  exact Reference.h_out A i0 i1

theorem aArr_eq (h0 : a0 = Reference.xA A) (h1 : a1 = Reference.gA A) (h3 : a3 = Reference.wuA A) :
    FfnLastReferenceIdeal.Read.val_main_v128 (F := Ideal) a0 a1 a3 = Kernel.aArr A := by
  subst h0 h1 h3
  funext i
  idx_vars i
  exact Reference.a_out A i0 i1

/-- The real values of the arguments. -/
def args (m : (ℓ : Loc FfnLastIdeal.nD FfnLastIdeal.τ FfnLastIdeal.sig) → Buf (Elt Ideal) ℓ) (c : Dev FfnLastIdeal.nD) : Arrays where
  x := re (s := FfnLastReferenceIdeal.S1x4096x1024) (m ((c.tc : Thread FfnLastIdeal.nD FfnLastIdeal.τ).loc FfnLastIdeal.main_arg0))
  g := re (s := FfnLastReferenceIdeal.S2x1024) (m ((c.tc : Thread FfnLastIdeal.nD FfnLastIdeal.τ).loc FfnLastIdeal.main_arg1))
  gq := re (s := FfnLastReferenceIdeal.S2x1024) (m ((c.tc : Thread FfnLastIdeal.nD FfnLastIdeal.τ).loc FfnLastIdeal.main_arg2))
  wu := re (s := FfnLastReferenceIdeal.S2x1024x5632) (m ((c.tc : Thread FfnLastIdeal.nD FfnLastIdeal.τ).loc FfnLastIdeal.main_arg3))
  wd := re (s := FfnLastReferenceIdeal.S2x2816x1024) (m ((c.tc : Thread FfnLastIdeal.nD FfnLastIdeal.τ).loc FfnLastIdeal.main_arg4))
  r := re (s := FfnLastReferenceIdeal.S1x4096x1024) (m ((c.tc : Thread FfnLastIdeal.nD FfnLastIdeal.τ).loc FfnLastIdeal.main_arg5))

attribute [local instance] Cert.FfnLastIdeal.Gen.facts Cert.FfnLastReferenceIdeal.Gen.facts Cert.Pre_ffn_last_finite.Gen.facts in
theorem algebraic : Cert.algebraic_FfnLastIdeal_FfnLastReferenceIdeal_pre_ffn_last_finite := by
  intro m g m' g' hpre hargs
  have hA : ∀ c, Kernel.Args m c (args m c) := fun c =>
    ⟨eq_re (hpre c).1, eq_re (hpre c).2.1, eq_re (hpre c).2.2.1, eq_re (hpre c).2.2.2.1, eq_re (hpre c).2.2.2.2.1, eq_re (hpre c).2.2.2.2.2⟩
  refine ⟨fun c => Kernel.dfArr (args m c), fun c => Kernel.dguArr (args m c), fun c => Kernel.dxArr (args m c), fun c => Kernel.dgpArr (args m c), fun c => Kernel.dgArr (args m c), fun c => Kernel.lossArr (args m c), fun c => Kernel.hArr (args m c), fun c => Kernel.aArr (args m c),
    (θ_run _ _ _).mono (fun r h c => ⟨(h c).1.trans (Kernel.df_final (hA c)), (h c).2.1.trans (Kernel.dgu_final (hA c)), (h c).2.2.1.trans (Kernel.dx_final (hA c)), (h c).2.2.2.1.trans (Kernel.dgp_final (hA c)), (h c).2.2.2.2.1.trans (Kernel.dg_final (hA c)), (h c).2.2.2.2.2.1.trans (Kernel.loss_final (hA c)), (h c).2.2.2.2.2.2.1.trans (Kernel.h_final (hA c)), (h c).2.2.2.2.2.2.2.1.trans (Kernel.a_final (hA c)), (h c).2.2.2.2.2.2.2.2⟩)
      (Cert.FfnLastIdeal.Value.run_blocks m g),
    (θ_run _ _ _).mono (fun r h c => ⟨(h c).1.trans ((FfnLastReferenceIdeal.Read.val_main_v118_eq ..).trans ?_),
      (h c).2.1.trans ((FfnLastReferenceIdeal.Read.val_main_v120_eq ..).trans ?_),
      (h c).2.2.1.trans ((FfnLastReferenceIdeal.Read.val_main_v121_eq ..).trans ?_),
      (h c).2.2.2.1.trans ((FfnLastReferenceIdeal.Read.val_main_v122_eq ..).trans ?_),
      (h c).2.2.2.2.1.trans ((FfnLastReferenceIdeal.Read.val_main_v123_eq ..).trans ?_),
      (h c).2.2.2.2.2.1.trans ((FfnLastReferenceIdeal.Read.val_main_v124_eq ..).trans ?_),
      (h c).2.2.2.2.2.2.1.trans ((FfnLastReferenceIdeal.Read.val_main_v126_eq ..).trans ?_),
      (h c).2.2.2.2.2.2.2.1.trans ((FfnLastReferenceIdeal.Read.val_main_v128_eq ..).trans ?_), (h c).2.2.2.2.2.2.2.2⟩)
      (Cert.FfnLastReferenceIdeal.Value.run m' g')⟩
  all_goals obtain ⟨a0, a1, a2, a3, a4, a5⟩ := hargs c
  · exact dfArr_eq (a0.trans (hA c).input) (a1.trans (hA c).gain) (a2.trans (hA c).gainq) (a3.trans (hA c).wup) (a4.trans (hA c).wdown) (a5.trans (hA c).target)
  · exact dguArr_eq (a0.trans (hA c).input) (a1.trans (hA c).gain) (a2.trans (hA c).gainq) (a3.trans (hA c).wup) (a4.trans (hA c).wdown) (a5.trans (hA c).target)
  · exact dxArr_eq (a0.trans (hA c).input) (a1.trans (hA c).gain) (a2.trans (hA c).gainq) (a3.trans (hA c).wup) (a4.trans (hA c).wdown) (a5.trans (hA c).target)
  · exact dgpArr_eq (a0.trans (hA c).input) (a1.trans (hA c).gain) (a2.trans (hA c).gainq) (a3.trans (hA c).wup) (a4.trans (hA c).wdown) (a5.trans (hA c).target)
  · exact dgArr_eq (a0.trans (hA c).input) (a1.trans (hA c).gain) (a2.trans (hA c).gainq) (a3.trans (hA c).wup) (a4.trans (hA c).wdown) (a5.trans (hA c).target)
  · exact lossArr_eq (a0.trans (hA c).input) (a1.trans (hA c).gain) (a2.trans (hA c).gainq) (a3.trans (hA c).wup) (a4.trans (hA c).wdown) (a5.trans (hA c).target)
  · exact hArr_eq (a0.trans (hA c).input) (a1.trans (hA c).gain)
  · exact aArr_eq (a0.trans (hA c).input) (a1.trans (hA c).gain) (a3.trans (hA c).wup)

attribute [local instance] Cert.FfnLastReferenceIdeal.Gen.facts in
/-- The reference ends with its arguments as they were and, having no semaphores, with every counter at zero. -/
theorem reference_frame : Cert.quiescent_FfnLastReferenceIdeal := fun m ρ _ =>
  (θ_run _ _ _).mono (fun r h => ⟨fun c => (h c).2.2.2.2.2.2.2.2, sem_eq_zero_of_no_sems rfl r.2⟩) (Cert.FfnLastReferenceIdeal.Value.run m ρ)

end Cert.FfnLastBwd

end
-- ==== Proof.FfnBwd.Blocks.lean ====
/- What each grid point of the first layer's feed-forward call reads: the rows of its block, and the whole weights and gains. -/
module

public import proofs.«01_k».proof.Proof.FfnBwd.Spec
public import proofs.«01_k».proof.Proof.Gen.FfnIdeal.Value
public import Idealize.ShloMosaic.Lib.Pipeline.ValueKit
public import Idealize.ShloMosaic.Lib.StableHlo.ReadAt
public import Idealize.ShloMosaic.Lib.Claim

@[expose] public section

set_option maxRecDepth 16384

noncomputable section

namespace Cert.FfnBwd.Kernel

open Idealize.ShloMosaic Idealize.ShloMosaic.TcCoe Cert.FfnIdeal Cert.FfnIdeal.Gen Cert.Reals Cert.Norm

/-- The row of the array that row `r` of block `t` is. -/
def row (t : Fin cfg0.N) (r : Fin 256) : Fin 4096 :=
  ⟨t.val * 256 + r.val, by have h : t.val < 16 := lt_of_lt_of_eq t.isLt (show cfg0.N = 16 from N_0); omega⟩

/-- Where each window's block stands at point `t`: the row windows at block row `t`, the others at the origin. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![0, 0] ∧ win0_8.index t = ![t.val, 0] ∧ win0_9.index t = ![t.val, 0] ∧ win0_10.index t = ![t.val, 0]
    ∧ win0_11.index t = ![0, 0] ∧ win0_12.index t = ![0, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![0, 0] ∧ win0_8.index t = ![t.val, 0] ∧ win0_9.index t = ![t.val, 0] ∧ win0_10.index t = ![t.val, 0]
    ∧ win0_11.index t = ![0, 0] ∧ win0_12.index t = ![0, 0])

/-- The arguments a device starts from are these real arrays. -/
structure Args (m : (ℓ : Loc nD τ sig) → Buf (Elt Ideal) ℓ) (c : Dev nD) (A : Arrays) : Prop where
  input : (m ((c : Thread nD τ).loc main_arg0) : FVec Ideal S1x4096x1024 .f32) = fun i => ((A.x i : ℝ) : EReal)
  gain : (m ((c : Thread nD τ).loc main_arg1) : FVec Ideal S2x1024 .f32) = fun i => ((A.g i : ℝ) : EReal)
  gainq : (m ((c : Thread nD τ).loc main_arg2) : FVec Ideal S2x1024 .f32) = fun i => ((A.gq i : ℝ) : EReal)
  wup : (m ((c : Thread nD τ).loc main_arg3) : FVec Ideal S2x1024x5632 .f32) = fun i => ((A.wu i : ℝ) : EReal)
  wdown : (m ((c : Thread nD τ).loc main_arg4) : FVec Ideal S2x2816x1024 .f32) = fun i => ((A.wd i : ℝ) : EReal)
  dres : (m ((c : Thread nD τ).loc main_arg5) : FVec Ideal S1x4096x1024 .f32) = fun i => ((A.r i : ℝ) : EReal)

/-- The first layer's rows. -/
abbrev rows (A : Arrays) : Rows := A.rows 0

variable {m : (ℓ : Loc nD τ sig) → Buf (Elt Ideal) ℓ} {c : Dev nD} {A : Arrays}

theorem block_dres (h : Args m c A) (t : Fin cfg0.N) (i : Fin 256) (k : Fin 1024) :
    (iblk m c 0 t : Vec Ideal S256x1024 .f32) (ix2 i k) = ((A.last (row t i) k : ℝ) : EReal) := by
  refine Eq.trans ?_ (congrFun h.dres (ix3 0 (row t i) k))
  blk_simp [iblk, V, idx t]
  entry_read
  pointwise
  blk_ext [iblk, V, idx t, row]

theorem block_gainq (h : Args m c A) (t : Fin cfg0.N) (k : Fin 1024) :
    (iblk m c 2 t : Vec Ideal S1x1024 .f32) (ix2 0 k) = (((rows A).gq k : ℝ) : EReal) := by
  refine Eq.trans ?_ (congrFun h.gainq (ix2 0 k))
  blk_simp [iblk, V, idx t]
  entry_read
  pointwise
  blk_ext [iblk, V, idx t, row]

theorem block_wdown (h : Args m c A) (t : Fin cfg0.N) (e : Fin 2816) (j : Fin 1024) :
    (iblk m c 3 t : Vec Ideal S2816x1024 .bf16) (ix2 e j) = (((rows A).wd e j : ℝ) : EReal) := by
  refine Eq.trans ?_ (congrFun h.wdown (ix3 0 e j))
  blk_simp [iblk, V, idx t]
  entry_read
  pointwise
  blk_ext [iblk, V, idx t, row]

theorem block_wup (h : Args m c A) (t : Fin cfg0.N) (e : Fin 5632) (k : Fin 1024) :
    (iblk m c 5 t : Vec Ideal S5632x1024 .bf16) (ix2 e k) = (((rows A).wu k e : ℝ) : EReal) := by
  refine Eq.trans ?_ (congrFun h.wup (ix3 0 k e))
  blk_simp [iblk, V, idx t]
  entry_read
  pointwise
  blk_ext [iblk, V, idx t, row]

theorem block_input (h : Args m c A) (t : Fin cfg0.N) (i : Fin 256) (k : Fin 1024) :
    (iblk m c 6 t : Vec Ideal S256x1024 .f32) (ix2 i k) = (((rows A).x (row t i) k : ℝ) : EReal) := by
  refine Eq.trans ?_ (congrFun h.input (ix3 0 (row t i) k))
  blk_simp [iblk, V, idx t]
  entry_read
  pointwise
  blk_ext [iblk, V, idx t, row]

theorem block_gain (h : Args m c A) (t : Fin cfg0.N) (k : Fin 1024) :
    (iblk m c 7 t : Vec Ideal S1x1024 .f32) (ix2 0 k) = (((rows A).g k : ℝ) : EReal) := by
  refine Eq.trans ?_ (congrFun h.gain (ix2 0 k))
  blk_simp [iblk, V, idx t]
  entry_read
  pointwise
  blk_ext [iblk, V, idx t, row]

/-- The first product, which the host computes. -/
theorem gu_eq (h : Args m c A) (i : Fin 4096) (e : Fin 5632) :
    (V m c main_v42 : FVec Ideal S4096x5632 .bf16) (ix2 i e) = ((gu (rows A) i e : ℝ) : EReal) := by
  simp only [V]
  entry_read
  pointwise [dot_S4096x1024_S5632x1024_S4096x5632_1_1_0_0_n_n]
  simp only [h.input, h.gain, h.wup]
  simp only [mul_coe, coe_sum, word_1024, div_1024, word_eps, add_coe]
  simp only [rsqrt_ms fun k => A.x (ix3 0 i k), mul_coe, coe_sum]
  rfl

theorem block_gu (h : Args m c A) (t : Fin cfg0.N) (i : Fin 256) (e : Fin 5632) :
    (iblk m c 4 t : Vec Ideal S256x5632 .bf16) (ix2 i e) = ((gu (rows A) (row t i) e : ℝ) : EReal) := by
  refine Eq.trans ?_ (gu_eq h (row t i) e)
  blk_ext [iblk, idx t, row]

/-- The second product, which the host computes. -/
theorem f_eq (h : Args m c A) (i : Fin 4096) (j : Fin 1024) :
    (V m c main_v37 : FVec Ideal S4096x1024 .bf16) (ix2 i j) = ((f (rows A) i j : ℝ) : EReal) := by
  simp only [V]
  entry_read
  pointwise [dot_S4096x1024_S5632x1024_S4096x5632_1_1_0_0_n_n, dot_S4096x2816_S2816x1024_S4096x1024_1_0_0_1_n_n]
  simp only [h.input, h.gain, h.wup, h.wdown]
  simp only [mul_coe, coe_sum, word_1024, div_1024, word_eps, add_coe]
  simp only [rsqrt_ms fun k => A.x (ix3 0 i k), mul_coe, coe_sum, neg_coe, exp_coe, one_add_coe, div_logistic]
  rfl

theorem block_f (h : Args m c A) (t : Fin cfg0.N) (i : Fin 256) (j : Fin 1024) :
    (iblk m c 1 t : Vec Ideal S256x1024 .bf16) (ix2 i j) = ((f (rows A) (row t i) j : ℝ) : EReal) := by
  refine Eq.trans ?_ (f_eq h (row t i) j)
  blk_ext [iblk, idx t, row]

end Cert.FfnBwd.Kernel

end
-- ==== Proof.FfnBwd.Kernel.lean ====
/- What the first layer's feed-forward call leaves in its five output arrays: three of one block of rows per grid point, and the two gains' gradients summed over the points. -/
module

public import proofs.«01_k».proof.Proof.FfnBwd.Blocks
public import Idealize.ShloMosaic.Lib.Pipeline.ReadBack

@[expose] public section

set_option maxRecDepth 16384

noncomputable section

namespace Cert.FfnBwd.Kernel

open Idealize.ShloMosaic Idealize.ShloMosaic.TcCoe Cert.FfnIdeal Cert.FfnIdeal.Gen Cert.FfnIdeal.Facts Cert.Reals Cert.Norm

variable {m : (ℓ : Loc nD τ sig) → Buf (Elt Ideal) ℓ} {c : Dev nD} {A : Arrays}

/-- A gate's gradient from real entries, in a piece of 1024 columns. -/
theorem gate_wide {D : FVec Ideal S256x1024 .bf16} {w : Vec Ideal S1024x1024 .bf16} {g u : Vec Ideal S256x1024 .bf16} {i : Fin 256} {e : Fin 1024}
    {d v : Fin 1024 → ℝ} {a b : ℝ} (hD : ∀ j, D (ix2 i j) = ((d j : ℝ) : EReal)) (hw : ∀ j, w (ix2 e j) = ((v j : ℝ) : EReal))
    (hg : g (ix2 i e) = ((a : ℝ) : EReal)) (hu : u (ix2 i e) = ((b : ℝ) : EReal)) :
    k0_pay23 (F := Ideal) D w g u (ix2 i e) = (((∑ j, d j * v j) * b * (logistic a + a * logistic a - a * logistic a * logistic a) : ℝ) : EReal) := by
  unfold_payloads
  pointwise [dot_S256x1024_S1024x1024_S256x1024_1_1_0_0_n_n]
  simp only [hD, hw, hg, hu, mul_coe, coe_sum, zero_sub, neg_coe, exp_coe, one_add_coe, div_logistic, add_coe, sub_coe]

theorem up_wide {D : FVec Ideal S256x1024 .bf16} {w : Vec Ideal S1024x1024 .bf16} {g : Vec Ideal S256x1024 .bf16} {i : Fin 256} {e : Fin 1024}
    {d v : Fin 1024 → ℝ} {a : ℝ} (hD : ∀ j, D (ix2 i j) = ((d j : ℝ) : EReal)) (hw : ∀ j, w (ix2 e j) = ((v j : ℝ) : EReal))
    (hg : g (ix2 i e) = ((a : ℝ) : EReal)) :
    k0_pay24 (F := Ideal) D w g (ix2 i e) = (((∑ j, d j * v j) * (a * logistic a) : ℝ) : EReal) := by
  unfold_payloads
  pointwise [dot_S256x1024_S1024x1024_S256x1024_1_1_0_0_n_n]
  simp only [hD, hw, hg, mul_coe, coe_sum, zero_sub, neg_coe, exp_coe, one_add_coe, div_logistic, add_coe, sub_coe]

/-- The same in the last 768 columns. -/
theorem gate_rest {D : FVec Ideal S256x1024 .bf16} {w : Vec Ideal S768x1024 .bf16} {g u : Vec Ideal S256x768 .bf16} {i : Fin 256} {e : Fin 768}
    {d v : Fin 1024 → ℝ} {a b : ℝ} (hD : ∀ j, D (ix2 i j) = ((d j : ℝ) : EReal)) (hw : ∀ j, w (ix2 e j) = ((v j : ℝ) : EReal))
    (hg : g (ix2 i e) = ((a : ℝ) : EReal)) (hu : u (ix2 i e) = ((b : ℝ) : EReal)) :
    k0_pay29 (F := Ideal) (k0_pay25 D w) (k0_pay26 g) u (ix2 i e) = (((∑ j, d j * v j) * b * (logistic a + a * logistic a - a * logistic a * logistic a) : ℝ) : EReal) := by
  unfold_payloads
  pointwise [dot_S256x1024_S768x1024_S256x768_1_1_0_0_n_n]
  simp only [hD, hw, hg, hu, mul_coe, coe_sum, zero_sub, neg_coe, exp_coe, one_add_coe, div_logistic, add_coe, sub_coe]

theorem up_rest {D : FVec Ideal S256x1024 .bf16} {w : Vec Ideal S768x1024 .bf16} {g : Vec Ideal S256x768 .bf16} {i : Fin 256} {e : Fin 768}
    {d v : Fin 1024 → ℝ} {a : ℝ} (hD : ∀ j, D (ix2 i j) = ((d j : ℝ) : EReal)) (hw : ∀ j, w (ix2 e j) = ((v j : ℝ) : EReal))
    (hg : g (ix2 i e) = ((a : ℝ) : EReal)) :
    k0_pay30 (F := Ideal) (k0_pay25 D w) (k0_pay26 g) (ix2 i e) = (((∑ j, d j * v j) * (a * logistic a) : ℝ) : EReal) := by
  unfold_payloads
  pointwise [dot_S256x1024_S768x1024_S256x768_1_1_0_0_n_n]
  simp only [hD, hw, hg, mul_coe, coe_sum, zero_sub, neg_coe, exp_coe, one_add_coe, div_logistic, add_coe, sub_coe]

/-- Rows `o …` of the second weight, as the body loads them. -/
theorem wd_piece (h : Args m c A) (t : Fin cfg0.N) {o n : Nat} (inb : ∀ a, ![o, 0] a + ![n, 1024] a ≤ S2816x1024.size a) (e : Fin n) (j : Fin 1024) (he : o + e.val < 2816) :
    (View.ld (iblk m c 3 t : Vec Ideal S2816x1024 .bf16) (Rect.unit (s := S2816x1024) ![o, 0] ![n, 1024] inb) : (⟨2, ![n, 1024]⟩ : Shape).Idx → EReal) (ix2 e j)
      = (((rows A).wd ⟨o + e.val, he⟩ j : ℝ) : EReal) := by
  refine Eq.trans (congrArg (iblk m c 3 t : Vec Ideal S2816x1024 .bf16) (funext fun a => ?_)) (block_wdown h t ⟨o + e.val, he⟩ j)
  match a with
  | ⟨0, _⟩ => exact Fin.ext (by show o + 1 * e.val = o + e.val; omega)
  | ⟨1, _⟩ => exact Fin.ext (by show 0 + 1 * j.val = j.val; omega)

/-- Columns `o …` of the first product, as the body loads them. -/
theorem gu_piece (h : Args m c A) (t : Fin cfg0.N) {o n : Nat} (inb : ∀ a, ![0, o] a + ![256, n] a ≤ S256x5632.size a) (i : Fin 256) (e : Fin n) (he : o + e.val < 5632) :
    (View.ld (iblk m c 4 t : Vec Ideal S256x5632 .bf16) (Rect.unit (s := S256x5632) ![0, o] ![256, n] inb) : (⟨2, ![256, n]⟩ : Shape).Idx → EReal) (ix2 i e)
      = ((gu (rows A) (row t i) ⟨o + e.val, he⟩ : ℝ) : EReal) := by
  refine Eq.trans (congrArg (iblk m c 4 t : Vec Ideal S256x5632 .bf16) (funext fun a => ?_)) (block_gu h t i ⟨o + e.val, he⟩)
  match a with
  | ⟨0, _⟩ => exact Fin.ext (by show 0 + 1 * i.val = i.val; omega)
  | ⟨1, _⟩ => exact Fin.ext (by show o + 1 * e.val = o + e.val; omega)

/-- The same columns' partners. -/
theorem gu_piece_hi (h : Args m c A) (t : Fin cfg0.N) {o p n : Nat} (hp : p = 2816 + o) (inb : ∀ a, ![0, p] a + ![256, n] a ≤ S256x5632.size a) (i : Fin 256) (e : Fin n) (he : o + e.val < 2816) :
    (View.ld (iblk m c 4 t : Vec Ideal S256x5632 .bf16) (Rect.unit (s := S256x5632) ![0, p] ![256, n] inb) : (⟨2, ![256, n]⟩ : Shape).Idx → EReal) (ix2 i e)
      = ((gu (rows A) (row t i) (hi ⟨o + e.val, he⟩) : ℝ) : EReal) := by
  refine (gu_piece h t inb i e (by omega)).trans (congrArg (fun a => ((gu (rows A) (row t i) a : ℝ) : EReal)) (Fin.ext ?_))
  show p + e.val = 2816 + (o + e.val)
  omega

/-- The gradient in the second product at a grid point. -/
def dfBlk (m : (ℓ : Loc nD τ sig) → Buf (Elt Ideal) ℓ) (c : Dev nD) (t : Fin cfg0.N) : FVec Ideal S256x1024 .bf16 :=
  k0_pay12 (F := Ideal) (k0_pay7 (iblk m c 0 t)) (k0_pay9 (iblk m c 1 t)) (k0_pay10 (iblk m c 1 t)) (iblk m c 2 t)

theorem df_at (h : Args m c A) (t : Fin cfg0.N) (i : Fin 256) (j : Fin 1024) :
    dfBlk m c t (ix2 i j) = ((df (rows A) A.last (row t i) j : ℝ) : EReal) := by
  unfold dfBlk
  unfold_payloads
  pointwise
  simp only [block_dres h, block_f h, block_gainq h]
  simp only [mul_coe, coe_sum, word_1024, div_1024, word_eps, add_coe, sub_coe]
  simp only [rsqrt_ms (f (rows A) (row t i)), mul_coe, coe_sum, div_1024, sub_coe]
  rfl

/-- The gradient in the first product at a grid point. -/
def dguBlk (A : Arrays) (t : Fin cfg0.N) : Vec Ideal S256x5632 .bf16 := fun y => ((dgu (rows A) A.last (row t (y 0)) (y 1) : ℝ) : EReal)

/-- The array of gradients in the second product. -/
def dfArr (A : Arrays) : FVec Ideal S4096x1024 .bf16 := fun i => ((df (rows A) A.last (i 0) (i 1) : ℝ) : EReal)

/-- The array of gradients in the first product. -/
def dguArr (A : Arrays) : FVec Ideal S4096x5632 .bf16 := fun i => ((dgu (rows A) A.last (i 0) (i 1) : ℝ) : EReal)

/-- The array of input gradients. -/
def dxArr (A : Arrays) : FVec Ideal S4096x1024 .f32 := fun i => ((dx (rows A) A.last (i 0) (i 1) : ℝ) : EReal)

/-- The arrays of the two gains' gradients. -/
def dgpArr (A : Arrays) : FVec Ideal S1x1024 .f32 := fun i => ((dgp (rows A) A.last (i 1) : ℝ) : EReal)
def dgArr (A : Arrays) : FVec Ideal S1x1024 .f32 := fun i => ((dg (rows A) A.last (i 1) : ℝ) : EReal)

theorem df_final (h : Args m c A) : (dats m 0 c).arrAt 8 cfg0.N = dfArr A := by
  refine (dats m 0 c).arrAt_eq_of_covers 8 _ (by decide +kernel) fun t hf y => ?_
  blk_simp
  rw [after0_8]
  have e : ∀ (y0 : Fin 256) (y1 : Fin 1024), ((View.whole main_v47_0).slice (win0_8.rect t)).emb (ix2 y0 y1) = ix2 (row t y0) y1 := by
    intro y0 y1
    blk_ext [idx t, row]
  by_cases h0 : t.val % 16 = 0
  · rw [outsAt0_A m c t h0]
    frame_out
    idx_vars y
    rw [e]
    exact df_at h t y0 y1
  · rw [outsAt0_B m c t h0]
    frame_out
    idx_vars y
    rw [e]
    exact df_at h t y0 y1

/-- What the body stores of the gradient in the first product, the last store first. -/
def dguPieces (m : (ℓ : Loc nD τ sig) → Buf (Elt Ideal) ℓ) (c : Dev nD) (t : Fin cfg0.N) : List (View.Piece (Elt Ideal) S256x5632 .bf16) :=
  [⟨Rect.unit ![0, 4864] ![256, 768] inb_S256x5632_S256x768_0_4864,
      k0_pay30 (k0_pay25 (dfBlk m c t) (View.ld (iblk m c 3 t) (Rect.unit ![2048, 0] ![768, 1024] inb_S2816x1024_S768x1024_2048_0)))
        (k0_pay26 (View.ld (iblk m c 4 t) (Rect.unit ![0, 2048] ![256, 768] inb_S256x5632_S256x768_0_2048)))⟩,
    ⟨Rect.unit ![0, 2048] ![256, 768] inb_S256x5632_S256x768_0_2048,
      k0_pay29 (k0_pay25 (dfBlk m c t) (View.ld (iblk m c 3 t) (Rect.unit ![2048, 0] ![768, 1024] inb_S2816x1024_S768x1024_2048_0)))
        (k0_pay26 (View.ld (iblk m c 4 t) (Rect.unit ![0, 2048] ![256, 768] inb_S256x5632_S256x768_0_2048)))
        (View.ld (iblk m c 4 t) (Rect.unit ![0, 4864] ![256, 768] inb_S256x5632_S256x768_0_4864))⟩,
    ⟨Rect.unit ![0, 3840] ![256, 1024] inb_S256x5632_S256x1024_0_3840,
      k0_pay24 (dfBlk m c t) (View.ld (iblk m c 3 t) (Rect.unit ![1024, 0] ![1024, 1024] inb_S2816x1024_S1024x1024_1024_0))
        (View.ld (iblk m c 4 t) (Rect.unit ![0, 1024] ![256, 1024] inb_S256x5632_S256x1024_0_1024))⟩,
    ⟨Rect.unit ![0, 1024] ![256, 1024] inb_S256x5632_S256x1024_0_1024,
      k0_pay23 (dfBlk m c t) (View.ld (iblk m c 3 t) (Rect.unit ![1024, 0] ![1024, 1024] inb_S2816x1024_S1024x1024_1024_0))
        (View.ld (iblk m c 4 t) (Rect.unit ![0, 1024] ![256, 1024] inb_S256x5632_S256x1024_0_1024))
        (View.ld (iblk m c 4 t) (Rect.unit ![0, 3840] ![256, 1024] inb_S256x5632_S256x1024_0_3840))⟩,
    ⟨Rect.unit ![0, 2816] ![256, 1024] inb_S256x5632_S256x1024_0_2816,
      k0_pay18 (k0_pay7 (iblk m c 0 t)) (k0_pay9 (iblk m c 1 t)) (k0_pay10 (iblk m c 1 t)) (iblk m c 2 t)
        (View.ld (iblk m c 3 t) (Rect.unit ![0, 0] ![1024, 1024] inb_S2816x1024_S1024x1024_0_0))
        (View.ld (iblk m c 4 t) (Rect.unit ![0, 0] ![256, 1024] inb_S256x5632_S256x1024_0_0))⟩,
    ⟨Rect.unit ![0, 0] ![256, 1024] inb_S256x5632_S256x1024_0_0,
      k0_pay17 (k0_pay7 (iblk m c 0 t)) (k0_pay9 (iblk m c 1 t)) (k0_pay10 (iblk m c 1 t)) (iblk m c 2 t)
        (View.ld (iblk m c 3 t) (Rect.unit ![0, 0] ![1024, 1024] inb_S2816x1024_S1024x1024_0_0))
        (View.ld (iblk m c 4 t) (Rect.unit ![0, 0] ![256, 1024] inb_S256x5632_S256x1024_0_0))
        (View.ld (iblk m c 4 t) (Rect.unit ![0, 2816] ![256, 1024] inb_S256x5632_S256x1024_0_2816))⟩]

/-- Column `o + e` of the gates, whose gradient is stored at `o`, and that of its partner, stored 2816 columns on. -/
theorem blk_lo (t : Fin cfg0.N) {o n : Nat} {inb : ∀ a, ![0, o] a + ![256, n] a ≤ S256x5632.size a} (i : Fin 256) (e : Fin n) (he : o + e.val < 2816) :
    dguBlk A t ((Rect.unit (s := S256x5632) ![0, o] ![256, n] inb).emb (ix2 i e)) = ((dgate (rows A) A.last (row t i) ⟨o + e.val, he⟩ : ℝ) : EReal) := by
  rw [← dgu_lo]
  unfold dguBlk
  refine congrArg₂ (fun a b => ((dgu (rows A) A.last (row t a) b : ℝ) : EReal)) (Fin.ext ?_) (Fin.ext ?_)
  · show 0 + 1 * i.val = i.val
    omega
  · show o + 1 * e.val = o + e.val
    omega

theorem blk_hi (t : Fin cfg0.N) {o p n : Nat} {inb : ∀ a, ![0, p] a + ![256, n] a ≤ S256x5632.size a} (i : Fin 256) (e : Fin n) (he : o + e.val < 2816) (hp : p = 2816 + o) :
    dguBlk A t ((Rect.unit (s := S256x5632) ![0, p] ![256, n] inb).emb (ix2 i e)) = ((dup (rows A) A.last (row t i) ⟨o + e.val, he⟩ : ℝ) : EReal) := by
  rw [← dgu_hi]
  unfold dguBlk
  refine congrArg₂ (fun a b => ((dgu (rows A) A.last (row t a) b : ℝ) : EReal)) (Fin.ext ?_) (Fin.ext ?_)
  · show 0 + 1 * i.val = i.val
    omega
  · show p + 1 * e.val = 2816 + (o + e.val)
    omega

theorem dgu_pieces (h : Args m c A) (t : Fin cfg0.N) : View.PiecesOf (dguBlk A t) (dguPieces m c t) := by
  refine ⟨fun x => ?_, fun x => ?_, fun x => ?_, fun x => ?_, fun x => ?_, fun x => ?_, trivial⟩
  · obtain ⟨i, e, rfl⟩ : ∃ (i : Fin 256) (e : Fin 768), x = ix2 i e := ⟨x 0, x 1, (ix2_eta x).symm⟩
    exact (up_rest (df_at h t i) (fun j => wd_piece h t inb_S2816x1024_S768x1024_2048_0 e j (by omega)) (gu_piece h t inb_S256x5632_S256x768_0_2048 i e (by omega))).trans
      (blk_hi t (o := 2048) (p := 4864) (inb := inb_S256x5632_S256x768_0_4864) i e (by omega) rfl).symm
  · obtain ⟨i, e, rfl⟩ : ∃ (i : Fin 256) (e : Fin 768), x = ix2 i e := ⟨x 0, x 1, (ix2_eta x).symm⟩
    exact (gate_rest (df_at h t i) (fun j => wd_piece h t inb_S2816x1024_S768x1024_2048_0 e j (by omega)) (gu_piece h t inb_S256x5632_S256x768_0_2048 i e (by omega)) (gu_piece_hi h t (o := 2048) rfl inb_S256x5632_S256x768_0_4864 i e (by omega))).trans
      (blk_lo t (o := 2048) (inb := inb_S256x5632_S256x768_0_2048) i e (by omega)).symm
  · obtain ⟨i, e, rfl⟩ : ∃ (i : Fin 256) (e : Fin 1024), x = ix2 i e := ⟨x 0, x 1, (ix2_eta x).symm⟩
    exact (up_wide (df_at h t i) (fun j => wd_piece h t inb_S2816x1024_S1024x1024_1024_0 e j (by omega)) (gu_piece h t inb_S256x5632_S256x1024_0_1024 i e (by omega))).trans
      (blk_hi t (o := 1024) (p := 3840) (inb := inb_S256x5632_S256x1024_0_3840) i e (by omega) rfl).symm
  · obtain ⟨i, e, rfl⟩ : ∃ (i : Fin 256) (e : Fin 1024), x = ix2 i e := ⟨x 0, x 1, (ix2_eta x).symm⟩
    exact (gate_wide (df_at h t i) (fun j => wd_piece h t inb_S2816x1024_S1024x1024_1024_0 e j (by omega)) (gu_piece h t inb_S256x5632_S256x1024_0_1024 i e (by omega)) (gu_piece_hi h t (o := 1024) rfl inb_S256x5632_S256x1024_0_3840 i e (by omega))).trans
      (blk_lo t (o := 1024) (inb := inb_S256x5632_S256x1024_0_1024) i e (by omega)).symm
  · obtain ⟨i, e, rfl⟩ : ∃ (i : Fin 256) (e : Fin 1024), x = ix2 i e := ⟨x 0, x 1, (ix2_eta x).symm⟩
    exact (up_wide (df_at h t i) (fun j => wd_piece h t inb_S2816x1024_S1024x1024_0_0 e j (by omega)) (gu_piece h t inb_S256x5632_S256x1024_0_0 i e (by omega))).trans
      (blk_hi t (o := 0) (p := 2816) (inb := inb_S256x5632_S256x1024_0_2816) i e (by omega) rfl).symm
  · obtain ⟨i, e, rfl⟩ : ∃ (i : Fin 256) (e : Fin 1024), x = ix2 i e := ⟨x 0, x 1, (ix2_eta x).symm⟩
    exact (gate_wide (df_at h t i) (fun j => wd_piece h t inb_S2816x1024_S1024x1024_0_0 e j (by omega)) (gu_piece h t inb_S256x5632_S256x1024_0_0 i e (by omega)) (gu_piece_hi h t (o := 0) rfl inb_S256x5632_S256x1024_0_2816 i e (by omega))).trans
      (blk_lo t (o := 0) (inb := inb_S256x5632_S256x1024_0_0) i e (by omega)).symm

/-- The stores leave the gradient in the first product, every column of it. -/
theorem canon_dgu (h : Args m c A) (t : Fin cfg0.N) (y : S256x5632.Idx) : View.canon (dguPieces m c t) y = dguBlk A t y :=
  View.canon_append_of_piecesOf (dguBlk A t) [] (dguPieces m c t) (dgu_pieces h t) y (View.cover_of_tiledBy _ ![256, 256] (by sl_kernel_rfl) y)

/-- What the body reads of it again. -/
theorem read_dgu (h : Args m c A) (t : Fin cfg0.N) {κ : Kind} {sp : Space} (v : View sig κ sp S256x5632 .bf16) :
    v.readCov (Val := Elt Ideal) (dguPieces m c t) (Rect.unit ![0, 0] ![256, 5632] inb_S256x5632_S256x5632_0_0).toLoadRect = dguBlk A t := by
  rw [View.readCov_eq_canon']
  funext y
  refine (canon_dgu h t _).trans (congrArg (dguBlk A t) (funext fun a => ?_))
  match a with
  | ⟨0, _⟩ => exact Fin.ext (by show 0 + 1 * (y 0).val = (y 0).val; omega)
  | ⟨1, _⟩ => exact Fin.ext (by show 0 + 1 * (y 1).val = (y 1).val; omega)

theorem dgu_final (h : Args m c A) : (dats m 0 c).arrAt 9 cfg0.N = dguArr A := by
  refine (dats m 0 c).arrAt_eq_of_covers 9 _ (by decide +kernel) fun t hf y => ?_
  blk_simp
  rw [after0_9]
  have e : ∀ (y0 : Fin 256) (y1 : Fin 5632), ((View.whole main_v47_1).slice (win0_9.rect t)).emb (ix2 y0 y1) = ix2 (row t y0) y1 := by
    intro y0 y1
    blk_ext [idx t, row]
  by_cases h0 : t.val % 16 = 0
  · rw [outsAt0_A m c t h0]
    frame_out
    idx_vars y
    rw [e]
    exact canon_dgu h t (ix2 y0 y1)
  · rw [outsAt0_B m c t h0]
    frame_out
    idx_vars y
    rw [e]
    exact canon_dgu h t (ix2 y0 y1)

/-- The gradient in the first norm's result at a grid point. -/
theorem dh_at (h : Args m c A) (t : Fin cfg0.N) (i : Fin 256) (k : Fin 1024) :
    k0_pay31 (F := Ideal) (dguBlk A t) (iblk m c 5 t) (ix2 i k) = ((dh (rows A) A.last (row t i) k : ℝ) : EReal) := by
  unfold_payloads
  pointwise [dot_S256x5632_S5632x1024_S256x1024_1_0_0_1_n_n]
  simp only [block_wup h, dguBlk, mul_coe, coe_sum]
  rfl

theorem dx_at (h : Args m c A) (t : Fin cfg0.N) (i : Fin 256) (j : Fin 1024) {U : Vec Ideal S256x5632 .bf16} (hU : U = dguBlk A t) :
    k0_pay1 (F := Ideal) (k0_pay5 (iblk m c 6 t)) (k0_pay6 (iblk m c 6 t)) (k0_pay7 (iblk m c 0 t)) (k0_pay33 U (iblk m c 5 t) (iblk m c 7 t))
      (k0_pay34 (k0_pay6 (iblk m c 6 t)) U (iblk m c 5 t) (iblk m c 7 t)) (ix2 i j) = ((dx (rows A) A.last (row t i) j : ℝ) : EReal) := by
  subst hU
  have e := dh_at h t
  unfold k0_pay1 k0_pay34 k0_pay33 k0_pay6 k0_pay5 k0_pay4 k0_pay7
  pointwise
  simp only [e, block_input h, block_gain h, block_dres h]
  simp only [mul_coe, coe_sum, word_1024, div_1024, word_eps, add_coe, sub_coe]
  simp only [rsqrt_ms ((rows A).x (row t i)), mul_coe, coe_sum, div_1024, sub_coe, add_coe]
  rfl

theorem dx_final (h : Args m c A) : (dats m 0 c).arrAt 10 cfg0.N = dxArr A := by
  refine (dats m 0 c).arrAt_eq_of_covers 10 _ (by decide +kernel) fun t hf y => ?_
  blk_simp
  rw [after0_10]
  have e : ∀ (y0 : Fin 256) (y1 : Fin 1024), ((View.whole main_v47_2).slice (win0_10.rect t)).emb (ix2 y0 y1) = ix2 (row t y0) y1 := by
    intro y0 y1
    blk_ext [idx t, row]
  by_cases h0 : t.val % 16 = 0
  · rw [outsAt0_A m c t h0]
    frame_out
    idx_vars y
    rw [e]
    exact dx_at h t y0 y1 (read_dgu h t _)
  · rw [outsAt0_B m c t h0]
    frame_out
    idx_vars y
    rw [e]
    exact dx_at h t y0 y1 (read_dgu h t _)

/-- What one grid point adds to each gain's gradient. -/
def partP (A : Arrays) (t : Fin cfg0.N) (j : S1x1024.Idx) : EReal :=
  ∑ i : Fin 256, ((A.last (row t i) (j 1) * (f (rows A) (row t i) (j 1) * rstd (f (rows A) (row t i))) : ℝ) : EReal)
def partG (A : Arrays) (t : Fin cfg0.N) (j : S1x1024.Idx) : EReal :=
  ∑ i : Fin 256, ((dh (rows A) A.last (row t i) (j 1) * ((rows A).x (row t i) (j 1) * rstd ((rows A).x (row t i))) : ℝ) : EReal)

theorem add_p (h : Args m c A) (t : Fin cfg0.N) (prev : Vec Ideal S1x1024 .f32) (j : S1x1024.Idx) :
    k0_pay11 (F := Ideal) (iblk m c 0 t) (iblk m c 1 t) prev j = prev j + partP A t j := by
  unfold_payloads
  idx_vars j
  pointwise
  simp only [block_dres h, block_f h]
  simp only [mul_coe, coe_sum, word_1024, div_1024, word_eps, add_coe]
  simp only [rsqrt_ms (f (rows A) (row t _)), mul_coe]
  rfl

theorem add_g (h : Args m c A) (t : Fin cfg0.N) (prev : Vec Ideal S1x1024 .f32) (j : S1x1024.Idx) {U : Vec Ideal S256x5632 .bf16} (hU : U = dguBlk A t) :
    k0_pay32 (F := Ideal) (k0_pay6 (iblk m c 6 t)) U (iblk m c 5 t) prev j = prev j + partG A t j := by
  subst hU
  have e := dh_at h t
  unfold k0_pay32 k0_pay6 k0_pay5 k0_pay4
  idx_vars j
  pointwise
  simp only [e, block_input h]
  simp only [mul_coe, coe_sum, word_1024, div_1024, word_eps, add_coe]
  simp only [rsqrt_ms ((rows A).x (row t _)), mul_coe]
  rfl

theorem dgp_final (h : Args m c A) : (dats m 0 c).arrAt 11 cfg0.N = dgpArr A := by
  refine (dats m 0 c).arrAt_eq_of_after_last 11 t0_15 (by decide +kernel) _ fun j => ?_
  blk_simp
  rw [after0_11]
  refine (Pipeline.eq_sum_fin_of_reset_step_apply_last (fun n hn => (outsAt0 m c n hn).2.2.2.1) 16 (fun _ => 0) (partP A)
    (fun t h0 j => ?_) (fun t h0 j => ?_) (show cfg0.N = 16 from N_0).le t0_15 rfl j).trans ?_
  · rw [outsAt0_A m c t h0]
    frame_out
    refine (add_p h t _ j).trans ?_
    unfold_payloads
    pointwise
  · rw [outsAt0_B m c t h0]
    frame_out
    exact add_p h t _ j
  · rw [zero_add]
    unfold partP dgpArr dgp
    rw [← coe_sum]
    exact Fin.sum_mul_add_congr (fun s k hl => rfl)

theorem dg_final (h : Args m c A) : (dats m 0 c).arrAt 12 cfg0.N = dgArr A := by
  refine (dats m 0 c).arrAt_eq_of_after_last 12 t0_15 (by decide +kernel) _ fun j => ?_
  blk_simp
  rw [after0_12]
  refine (Pipeline.eq_sum_fin_of_reset_step_apply_last (fun n hn => (outsAt0 m c n hn).2.2.2.2) 16 (fun _ => 0) (partG A)
    (fun t h0 j => ?_) (fun t h0 j => ?_) (show cfg0.N = 16 from N_0).le t0_15 rfl j).trans ?_
  · rw [outsAt0_A m c t h0]
    frame_out
    refine (add_g h t _ j (read_dgu h t _)).trans ?_
    unfold_payloads
    pointwise
  · rw [outsAt0_B m c t h0]
    frame_out
    exact add_g h t _ j (read_dgu h t _)
  · rw [zero_add]
    unfold partG dgArr dg
    rw [← coe_sum]
    exact Fin.sum_mul_add_congr (fun s k hl => rfl)

end Cert.FfnBwd.Kernel

end
-- ==== Proof.FfnBwd.Reference.lean ====
/- What the reference's results hold, read off its printed operations. -/
module

public import proofs.«01_k».proof.Proof.FfnBwd.Kernel
public import proofs.«01_k».proof.Proof.Gen.FfnReferenceIdeal.Read

@[expose] public section

set_option maxRecDepth 16384

noncomputable section

namespace Cert.FfnBwd.Reference

open Idealize.ShloMosaic Idealize.ShloMosaic.TcCoe Cert.FfnReferenceIdeal Cert.FfnReferenceIdeal.Gen Cert.FfnReferenceIdeal.Read Cert.Reals Cert.Norm

/-- The arguments, as arrays of extended reals. -/
def xA (A : Arrays) : FVec Ideal SX .f32 := fun i => ((A.x i : ℝ) : EReal)
def gA (A : Arrays) : FVec Ideal SG .f32 := fun i => ((A.g i : ℝ) : EReal)
def gqA (A : Arrays) : FVec Ideal SG .f32 := fun i => ((A.gq i : ℝ) : EReal)
def wuA (A : Arrays) : FVec Ideal SU .f32 := fun i => ((A.wu i : ℝ) : EReal)
def wdA (A : Arrays) : FVec Ideal SD .f32 := fun i => ((A.wd i : ℝ) : EReal)
def rA (A : Arrays) : FVec Ideal SX .f32 := fun i => ((A.r i : ℝ) : EReal)

/-- The layer's rows. -/
abbrev rows (A : Arrays) : Rows := A.rows 0

variable (A : Arrays)

/-- The row over its root mean square. -/
theorem xhat_eq (i : Fin 4096) (k : Fin 1024) : (val_main_v22 (F := Ideal) (xA A)) (ix3 0 i k) = (((rows A).x i k * rstd ((rows A).x i) : ℝ) : EReal) := by
  pointwise [hostReduceAdd_ends, val_main_cst_1, val_main_cst_2, val_main_cst_3, val_main_v10, val_main_v11, val_main_v12, val_main_v13, val_main_v14, val_main_v15, val_main_v16, val_main_v17, val_main_v21, val_main_v22, xA]
  simp only [mul_coe, coe_sum, word_1024, div_1024, word_eps, add_coe]
  refine (congrArg (fun a : EReal => ((A.x (ix3 0 i k) : ℝ) : EReal) * a) (rsqrt_ms ((rows A).x i))).trans ?_
  rw [mul_coe]
  rfl

theorem h_eq (i : Fin 4096) (k : Fin 1024) : (val_main_v25 (F := Ideal) (xA A) (gA A)) (ix3 0 i k) = ((h (rows A) i k : ℝ) : EReal) := by
  pointwise [val_main_v2, val_main_v3, val_main_v23, val_main_v24, val_main_v25, gA]
  simp only [xhat_eq, mul_coe]
  rfl

theorem gu_eq (i : Fin 4096) (e : Fin 5632) : (val_main_v27 (F := Ideal) (xA A) (gA A) (wuA A)) (ix3 0 i e) = ((gu (rows A) i e : ℝ) : EReal) := by
  pointwise [val_main_cst, val_main_v0, val_main_v6, val_main_v7, val_main_v26, val_main_v27, wuA, dot_S1x4096x1024_S1024x5632_S1x4096x5632_2_0_01_1_n_n]
  simp only [h_eq, mul_coe, coe_sum]
  rfl

theorem gate_eq (i : Fin 4096) (e : Fin 2816) : (val_main_v28 (F := Ideal) (xA A) (gA A) (wuA A)) (ix3 0 i e) = ((gu (rows A) i (lo e) : ℝ) : EReal) := by
  pointwise [val_main_v28]
  refine Eq.trans (congrArg (val_main_v27 (F := Ideal) (xA A) (gA A) (wuA A)) ?_) (gu_eq A i (lo e))
  blk_ext [lo]

theorem up_eq (i : Fin 4096) (e : Fin 2816) : (val_main_v30 (F := Ideal) (xA A) (gA A) (wuA A)) (ix3 0 i e) = ((gu (rows A) i (hi e) : ℝ) : EReal) := by
  pointwise [val_main_v30]
  refine Eq.trans (congrArg (val_main_v27 (F := Ideal) (xA A) (gA A) (wuA A)) ?_) (gu_eq A i (hi e))
  blk_ext [hi]

theorem sg_eq (i : Fin 4096) (e : Fin 2816) : (val_main_v29_2 (F := Ideal) (xA A) (gA A) (wuA A)) (ix3 0 i e) = ((sg (rows A) i e : ℝ) : EReal) := by
  pointwise [val_main_call0_v0, val_main_call0_cst, val_main_call0_cst_0, val_main_call0_v1, val_main_call0_v2, val_main_call0_v3, val_main_call0_v4, val_main_v29_2]
  simp only [gate_eq, neg_coe, exp_coe, one_add_coe, div_logistic]
  rfl

theorem act_eq (i : Fin 4096) (e : Fin 2816) : (val_main_v31 (F := Ideal) (xA A) (gA A) (wuA A)) (ix3 0 i e) = ((act (rows A) i e : ℝ) : EReal) := by
  pointwise [val_main_v31, val_main_v29_0]
  simp only [gate_eq, sg_eq, up_eq, mul_coe]
  rfl

theorem f_eq (i : Fin 4096) (j : Fin 1024) : (val_main_v33 (F := Ideal) (xA A) (gA A) (wuA A) (wdA A)) (ix3 0 i j) = ((f (rows A) i j : ℝ) : EReal) := by
  pointwise [val_main_cst_0, val_main_v1, val_main_v8, val_main_v9, val_main_v32, val_main_v33, wdA, dot_S1x4096x2816_S2816x1024_S1x4096x1024_2_0_01_1_n_n]
  simp only [act_eq, mul_coe, coe_sum]
  rfl

theorem fhat_eq (i : Fin 4096) (j : Fin 1024) : (val_main_v46 (F := Ideal) (xA A) (gA A) (wuA A) (wdA A)) (ix3 0 i j) = ((f (rows A) i j * rstd (f (rows A) i) : ℝ) : EReal) := by
  pointwise [hostReduceAdd_ends, val_main_cst_5, val_main_cst_6, val_main_cst_7, val_main_v34, val_main_v35, val_main_v36, val_main_v37, val_main_v38, val_main_v39, val_main_v40, val_main_v41, val_main_v45, val_main_v46]
  simp only [f_eq, mul_coe, coe_sum, word_1024, div_1024, word_eps, add_coe]
  simp only [rsqrt_ms (f (rows A) i), mul_coe]

theorem dgp_eq (j : Fin 1024) : (val_main_v108 (F := Ideal) (xA A) (gA A) (wuA A) (wdA A) (rA A)) (ix2 0 j) = ((dgp (rows A) A.last j : ℝ) : EReal) := by
  pointwise [hostReduceAdd_front, val_main_cst_9, val_main_cst_10, val_main_v51, val_main_v52, val_main_v53, val_main_v54, val_main_v57, val_main_v108, rA]
  simp only [fhat_eq, mul_coe, coe_sum]
  rw [Finset.sum_const, Finset.card_univ, Fintype.card_fin, one_smul, dgp]
  refine congrArg (fun a : ℝ => (a : EReal)) (Finset.sum_congr rfl fun i _ => ?_)
  exact mul_comm _ _

theorem df_eq (i : Fin 4096) (j : Fin 1024) : (val_main_v72 (F := Ideal) (xA A) (gA A) (gqA A) (wuA A) (wdA A) (rA A)) (ix3 0 i j) = ((df (rows A) A.last i j : ℝ) : EReal) := by
  pointwise [hostReduceAdd_ends, val_main_cst_5, val_main_cst_6, val_main_cst_7, val_main_cst_8, val_main_cst_11, val_main_cst_12, val_main_cst_13, val_main_v4, val_main_v5, val_main_v34, val_main_v35, val_main_v36, val_main_v37, val_main_v38, val_main_v39, val_main_v40, val_main_v41, val_main_v42, val_main_v43, val_main_v44, val_main_v47, val_main_v51, val_main_v55, val_main_v56, val_main_v58, val_main_v59, val_main_v60, val_main_v61, val_main_v62, val_main_v63, val_main_v64, val_main_v65, val_main_v66, val_main_v67, val_main_v68, val_main_v69, val_main_v70, val_main_v71, val_main_v72, rA, gqA]
  simp only [f_eq, mul_coe, coe_sum, word_1024, div_1024, word_eps, word_neg_half, add_coe]
  simp only [rsqrt_ms (f (rows A) i), div_ms (f (rows A) i), mul_coe, coe_sum, div_1024, add_coe]
  refine congrArg (fun a : ℝ => (a : EReal)) ?_
  rw [df, rmsBwd_eq_chain]
  rfl

theorem da_eq (i : Fin 4096) (e : Fin 2816) : (val_main_v73 (F := Ideal) (xA A) (gA A) (gqA A) (wuA A) (wdA A) (rA A)) (ix3 0 i e) = ((da (rows A) A.last i e : ℝ) : EReal) := by
  pointwise [val_main_v8, val_main_v9, val_main_v73, wdA, dot_S1x4096x1024_S2816x1024_S1x4096x2816_2_1_01_0_n_n]
  simp only [df_eq, mul_coe, coe_sum]
  rfl

theorem dgate_eq (i : Fin 4096) (e : Fin 2816) : (val_main_v77 (F := Ideal) (xA A) (gA A) (gqA A) (wuA A) (wdA A) (rA A)) (ix3 0 i e) = ((dgate (rows A) A.last i e : ℝ) : EReal) := by
  pointwise [val_main_call0_cst_1, val_main_call0_v6, val_main_call0_v7, val_main_call1_v0, val_main_call1_v1, val_main_call1_v2, val_main_v75, val_main_v77, val_main_v29_1]
  simp only [da_eq, gate_eq, up_eq, sg_eq, mul_coe, one_sub_coe, add_coe]
  refine congrArg (fun a : ℝ => (a : EReal)) ?_
  unfold dgate
  ring

theorem dgu_eq (i : Fin 4096) (e : Fin 5632) : (val_main_v79 (F := Ideal) (xA A) (gA A) (gqA A) (wuA A) (wdA A) (rA A)) (ix3 0 i e) = ((dgu (rows A) A.last i e : ℝ) : EReal) := by
  have hu : ∀ e : Fin 2816, (val_main_v74 (F := Ideal) (xA A) (gA A) (gqA A) (wuA A) (wdA A) (rA A)) (ix3 0 i e) = ((dup (rows A) A.last i e : ℝ) : EReal) := by
    intro e
    pointwise [val_main_v74, val_main_v29_0]
    simp only [da_eq, gate_eq, sg_eq, mul_coe]
    refine congrArg (fun a : ℝ => (a : EReal)) ?_
    unfold dup
    ring
  pointwise [val_main_cst_14, val_main_cst_15, val_main_v76, val_main_v78, val_main_v79]
  by_cases he : e.val < 2816
  · rw [dif_neg (fun hh => absurd hh.1 (by omega)), dif_pos he, zero_add]
    refine (dgate_eq A i ⟨e.val, he⟩).trans ?_
    unfold dgu
    rw [dif_pos he]
  · rw [dif_pos ⟨by omega, by omega⟩, dif_neg he, add_zero]
    refine (hu ⟨e.val - 2816, by omega⟩).trans ?_
    unfold dgu
    rw [dif_neg he]

theorem dh_eq (i : Fin 4096) (k : Fin 1024) : (val_main_v80 (F := Ideal) (xA A) (gA A) (gqA A) (wuA A) (wdA A) (rA A)) (ix3 0 i k) = ((dh (rows A) A.last i k : ℝ) : EReal) := by
  pointwise [val_main_v6, val_main_v7, val_main_v80, wuA, dot_S1x4096x5632_S1024x5632_S1x4096x1024_2_1_01_0_n_n]
  simp only [dgu_eq, mul_coe, coe_sum]
  rfl

theorem dg_eq (j : Fin 1024) : (val_main_v109 (F := Ideal) (xA A) (gA A) (gqA A) (wuA A) (wdA A) (rA A)) (ix2 0 j) = ((dg (rows A) A.last j : ℝ) : EReal) := by
  pointwise [hostReduceAdd_front, val_main_cst_16, val_main_cst_17, val_main_v81, val_main_v82, val_main_v83, val_main_v86, val_main_v109]
  simp only [xhat_eq, dh_eq, mul_coe, coe_sum]
  rw [Finset.sum_const, Finset.card_univ, Fintype.card_fin, one_smul, dg]
  refine congrArg (fun a : ℝ => (a : EReal)) (Finset.sum_congr rfl fun i _ => ?_)
  exact mul_comm _ _

theorem dx_eq (i : Fin 4096) (j : Fin 1024) : (val_main_v107 (F := Ideal) (xA A) (gA A) (gqA A) (wuA A) (wdA A) (rA A)) (ix2 i j) = ((dx (rows A) A.last i j : ℝ) : EReal) := by
  pointwise [hostReduceAdd_ends, val_main_cst_1, val_main_cst_2, val_main_cst_3, val_main_cst_4, val_main_cst_18, val_main_cst_19, val_main_cst_20, val_main_v2, val_main_v3, val_main_v10, val_main_v11, val_main_v12, val_main_v13, val_main_v14, val_main_v15, val_main_v16, val_main_v17, val_main_v18, val_main_v19, val_main_v20, val_main_v23, val_main_v84, val_main_v85, val_main_v87, val_main_v88, val_main_v89, val_main_v90, val_main_v91, val_main_v92, val_main_v93, val_main_v94, val_main_v95, val_main_v96, val_main_v97, val_main_v98, val_main_v99, val_main_v100, val_main_v101, val_main_v102, val_main_v107, xA, gA, rA]
  simp only [dh_eq, mul_coe, coe_sum, word_1024, div_1024, word_eps, word_neg_half, add_coe]
  simp only [rsqrt_ms fun k => A.x (ix3 0 i k), div_ms fun k => A.x (ix3 0 i k), mul_coe, coe_sum, div_1024, add_coe]
  refine congrArg (fun a : ℝ => (a : EReal)) ?_
  rw [dx, rmsBwd_eq_chain, ← add_assoc, ← add_assoc]
  rfl

/-- The two gradients that are handed on in the narrower format. -/
theorem df_out (i : Fin 4096) (j : Fin 1024) : (val_main_v104 (F := Ideal) (xA A) (gA A) (gqA A) (wuA A) (wdA A) (rA A)) (ix2 i j) = ((df (rows A) A.last i j : ℝ) : EReal) := by
  pointwise [val_main_v103, val_main_v104]
  exact df_eq A i j

theorem dgu_out (i : Fin 4096) (e : Fin 5632) : (val_main_v106 (F := Ideal) (xA A) (gA A) (gqA A) (wuA A) (wdA A) (rA A)) (ix2 i e) = ((dgu (rows A) A.last i e : ℝ) : EReal) := by
  pointwise [val_main_v105, val_main_v106]
  exact dgu_eq A i e
end Cert.FfnBwd.Reference

end
-- ==== Proof.FfnBwd.Claim.lean ====
/- The call and its reference end with the same five arrays. -/
module

public import proofs.«01_k».proof.Defs
public import proofs.«01_k».proof.Proof.FfnBwd.Kernel
public import proofs.«01_k».proof.Proof.FfnBwd.Reference
public import proofs.«01_k».proof.Proof.Gen.FfnReferenceIdeal.Run
public import proofs.«01_k».proof.Proof.Gen.Pre_ffn_finite
public import proofs.«01_k».proof.Proof.Gen.Ffn

@[expose] public section

set_option maxRecDepth 16384

noncomputable section

namespace Cert.FfnBwd

open Idealize.ShloMosaic Idealize.ShloMosaic.TcCoe Idealize.SL.Sem Cert.Reals

variable {A : Arrays}

variable {a0 : FVec Ideal FfnReferenceIdeal.S1x4096x1024 .f32}
variable {a1 : FVec Ideal FfnReferenceIdeal.S2x1024 .f32}
variable {a2 : FVec Ideal FfnReferenceIdeal.S2x1024 .f32}
variable {a3 : FVec Ideal FfnReferenceIdeal.S2x1024x5632 .f32}
variable {a4 : FVec Ideal FfnReferenceIdeal.S2x2816x1024 .f32}
variable {a5 : FVec Ideal FfnReferenceIdeal.S1x4096x1024 .f32}

theorem dfArr_eq (h0 : a0 = Reference.xA A) (h1 : a1 = Reference.gA A) (h2 : a2 = Reference.gqA A) (h3 : a3 = Reference.wuA A) (h4 : a4 = Reference.wdA A) (h5 : a5 = Reference.rA A) :
    FfnReferenceIdeal.Read.val_main_v104 (F := Ideal) a0 a1 a2 a3 a4 a5 = Kernel.dfArr A := by
  subst h0 h1 h2 h3 h4 h5
  funext i
  idx_vars i
  exact Reference.df_out A i0 i1

theorem dguArr_eq (h0 : a0 = Reference.xA A) (h1 : a1 = Reference.gA A) (h2 : a2 = Reference.gqA A) (h3 : a3 = Reference.wuA A) (h4 : a4 = Reference.wdA A) (h5 : a5 = Reference.rA A) :
    FfnReferenceIdeal.Read.val_main_v106 (F := Ideal) a0 a1 a2 a3 a4 a5 = Kernel.dguArr A := by
  subst h0 h1 h2 h3 h4 h5
  funext i
  idx_vars i
  exact Reference.dgu_out A i0 i1

theorem dxArr_eq (h0 : a0 = Reference.xA A) (h1 : a1 = Reference.gA A) (h2 : a2 = Reference.gqA A) (h3 : a3 = Reference.wuA A) (h4 : a4 = Reference.wdA A) (h5 : a5 = Reference.rA A) :
    FfnReferenceIdeal.Read.val_main_v107 (F := Ideal) a0 a1 a2 a3 a4 a5 = Kernel.dxArr A := by
  subst h0 h1 h2 h3 h4 h5
  funext i
  idx_vars i
  exact Reference.dx_eq A i0 i1

theorem dgpArr_eq (h0 : a0 = Reference.xA A) (h1 : a1 = Reference.gA A) (h3 : a3 = Reference.wuA A) (h4 : a4 = Reference.wdA A) (h5 : a5 = Reference.rA A) :
    FfnReferenceIdeal.Read.val_main_v108 (F := Ideal) a0 a1 a3 a4 a5 = Kernel.dgpArr A := by
  subst h0 h1 h3 h4 h5
  funext i
  idx_vars i
  obtain rfl : i0 = 0 := Subsingleton.elim _ _
  exact Reference.dgp_eq A i1

theorem dgArr_eq (h0 : a0 = Reference.xA A) (h1 : a1 = Reference.gA A) (h2 : a2 = Reference.gqA A) (h3 : a3 = Reference.wuA A) (h4 : a4 = Reference.wdA A) (h5 : a5 = Reference.rA A) :
    FfnReferenceIdeal.Read.val_main_v109 (F := Ideal) a0 a1 a2 a3 a4 a5 = Kernel.dgArr A := by
  subst h0 h1 h2 h3 h4 h5
  funext i
  idx_vars i
  obtain rfl : i0 = 0 := Subsingleton.elim _ _
  exact Reference.dg_eq A i1

/-- The real values of the arguments. -/
def args (m : (ℓ : Loc FfnIdeal.nD FfnIdeal.τ FfnIdeal.sig) → Buf (Elt Ideal) ℓ) (c : Dev FfnIdeal.nD) : Arrays where
  x := re (s := FfnReferenceIdeal.S1x4096x1024) (m ((c.tc : Thread FfnIdeal.nD FfnIdeal.τ).loc FfnIdeal.main_arg0))
  g := re (s := FfnReferenceIdeal.S2x1024) (m ((c.tc : Thread FfnIdeal.nD FfnIdeal.τ).loc FfnIdeal.main_arg1))
  gq := re (s := FfnReferenceIdeal.S2x1024) (m ((c.tc : Thread FfnIdeal.nD FfnIdeal.τ).loc FfnIdeal.main_arg2))
  wu := re (s := FfnReferenceIdeal.S2x1024x5632) (m ((c.tc : Thread FfnIdeal.nD FfnIdeal.τ).loc FfnIdeal.main_arg3))
  wd := re (s := FfnReferenceIdeal.S2x2816x1024) (m ((c.tc : Thread FfnIdeal.nD FfnIdeal.τ).loc FfnIdeal.main_arg4))
  r := re (s := FfnReferenceIdeal.S1x4096x1024) (m ((c.tc : Thread FfnIdeal.nD FfnIdeal.τ).loc FfnIdeal.main_arg5))

attribute [local instance] Cert.FfnIdeal.Gen.facts Cert.FfnReferenceIdeal.Gen.facts Cert.Pre_ffn_finite.Gen.facts in
theorem algebraic : Cert.algebraic_FfnIdeal_FfnReferenceIdeal_pre_ffn_finite := by
  intro m g m' g' hpre hargs
  have hA : ∀ c, Kernel.Args m c (args m c) := fun c =>
    ⟨eq_re (hpre c).1, eq_re (hpre c).2.1, eq_re (hpre c).2.2.1, eq_re (hpre c).2.2.2.1, eq_re (hpre c).2.2.2.2.1, eq_re (hpre c).2.2.2.2.2⟩
  refine ⟨fun c => Kernel.dfArr (args m c), fun c => Kernel.dguArr (args m c), fun c => Kernel.dxArr (args m c), fun c => Kernel.dgpArr (args m c), fun c => Kernel.dgArr (args m c),
    (θ_run _ _ _).mono (fun r h c => ⟨(h c).1.trans (Kernel.df_final (hA c)), (h c).2.1.trans (Kernel.dgu_final (hA c)), (h c).2.2.1.trans (Kernel.dx_final (hA c)), (h c).2.2.2.1.trans (Kernel.dgp_final (hA c)), (h c).2.2.2.2.1.trans (Kernel.dg_final (hA c)), (h c).2.2.2.2.2⟩)
      (Cert.FfnIdeal.Value.run_blocks m g),
    (θ_run _ _ _).mono (fun r h c => ⟨(h c).1.trans ((FfnReferenceIdeal.Read.val_main_v104_eq ..).trans ?_),
      (h c).2.1.trans ((FfnReferenceIdeal.Read.val_main_v106_eq ..).trans ?_),
      (h c).2.2.1.trans ((FfnReferenceIdeal.Read.val_main_v107_eq ..).trans ?_),
      (h c).2.2.2.1.trans ((FfnReferenceIdeal.Read.val_main_v108_eq ..).trans ?_),
      (h c).2.2.2.2.1.trans ((FfnReferenceIdeal.Read.val_main_v109_eq ..).trans ?_), (h c).2.2.2.2.2⟩)
      (Cert.FfnReferenceIdeal.Value.run m' g')⟩
  all_goals obtain ⟨a0, a1, a2, a3, a4, a5⟩ := hargs c
  · exact dfArr_eq (a0.trans (hA c).input) (a1.trans (hA c).gain) (a2.trans (hA c).gainq) (a3.trans (hA c).wup) (a4.trans (hA c).wdown) (a5.trans (hA c).dres)
  · exact dguArr_eq (a0.trans (hA c).input) (a1.trans (hA c).gain) (a2.trans (hA c).gainq) (a3.trans (hA c).wup) (a4.trans (hA c).wdown) (a5.trans (hA c).dres)
  · exact dxArr_eq (a0.trans (hA c).input) (a1.trans (hA c).gain) (a2.trans (hA c).gainq) (a3.trans (hA c).wup) (a4.trans (hA c).wdown) (a5.trans (hA c).dres)
  · exact dgpArr_eq (a0.trans (hA c).input) (a1.trans (hA c).gain) (a3.trans (hA c).wup) (a4.trans (hA c).wdown) (a5.trans (hA c).dres)
  · exact dgArr_eq (a0.trans (hA c).input) (a1.trans (hA c).gain) (a2.trans (hA c).gainq) (a3.trans (hA c).wup) (a4.trans (hA c).wdown) (a5.trans (hA c).dres)

attribute [local instance] Cert.FfnReferenceIdeal.Gen.facts in
/-- The reference ends with its arguments as they were and, having no semaphores, with every counter at zero. -/
theorem reference_frame : Cert.quiescent_FfnReferenceIdeal := fun m ρ _ =>
  (θ_run _ _ _).mono (fun r h => ⟨fun c => (h c).2.2.2.2.2, sem_eq_zero_of_no_sems rfl r.2⟩) (Cert.FfnReferenceIdeal.Value.run m ρ)

end Cert.FfnBwd

end
-- ==== Proof.AttnFwd.Spec.lean ====
/- What banded attention with a sink gives, block by block of 128 rows, as functions of real arrays. -/
module

public import proofs.«01_k».proof.Proof.AttnBwd.Spec

@[expose] public section

noncomputable section

namespace Cert.AttnFwd

open Idealize.ShloMosaic Cert.AttnBwd Cert.Reals

/-- A row's result in one query head: its probabilities times the values it sees. -/
def o (A : Arrays) (n : ℕ) (h g : Fin 4) (a : Fin 128) (d : Fin 64) : ℝ := ∑ c, A.P n h g a c * keys (A.v h) n c d

/-- The same in the columns of block `n`'s rows: 64 columns of each of the 16 query heads. -/
def cols (A : Arrays) (n : ℕ) (a : Fin 128) (j : Fin 1024) : ℝ :=
  o A n ⟨j.val / 256, by omega⟩ ⟨j.val / 64 % 4, by omega⟩ a ⟨j.val % 64, by omega⟩

/-- The whole result. -/
def out (A : Arrays) : (⟨2, ![4096, 1024]⟩ : Shape).Idx → EReal := fun i =>
  ((cols A ((i 0).val / 128) ⟨(i 0).val % 128, by omega⟩ (i 1) : ℝ) : EReal)

/-- The keys a block is given: the block before (the first block's own before the first), then its own. -/
def given (k : Fin 4096 → Fin 64 → ℝ) (n : ℕ) (c : Fin 256) (d : Fin 64) : ℝ :=
  if h : c.val < 128 then k (row (n - 1) ⟨c.val, h⟩) d else k (row n ⟨c.val - 128, by omega⟩) d

/-- Where a row sees a key, the keys given are the keys. -/
theorem given_eq (k : Fin 4096 → Fin 64 → ℝ) {n : ℕ} {a : Fin 128} {c : Fin 256} (hv : valid n a c = true) (d : Fin 64) : given k n c d = keys k n c d := by
  unfold given keys
  split
  · have : n ≠ 0 := by
      rintro rfl
      simp only [valid, decide_eq_true_eq] at hv
      omega
    rw [if_neg this]
  · rfl

/-- A probability depends on the scores that are kept only, and it is zero elsewhere. -/
theorem prob_congr {v : Fin 256 → Bool} {S S' : Fin 256 → ℝ} (σ : ℝ) (h : ∀ c, v c = true → S c = S' c) (c : Fin 256) : prob v S σ c = prob v S' σ c := by
  have e : wt v S = wt v S' := by
    funext c
    unfold wt
    split
    · rename_i hc
      rw [h c hc]
    · rfl
  unfold prob tot
  rw [e]

theorem prob_masked {v : Fin 256 → Bool} (S : Fin 256 → ℝ) (σ : ℝ) {c : Fin 256} (h : ¬ v c = true) : prob v S σ c = 0 := by
  unfold prob wt
  rw [if_neg h, zero_div]

end Cert.AttnFwd

end
-- ==== Proof.AttnFwd.Blocks.lean ====
/- What each grid point of the forward call reads: its 128 rows of the turned queries, and the keys and values of its block and of the block before. -/
module

public import proofs.«01_k».proof.Proof.AttnFwd.Spec
public import proofs.«01_k».proof.Proof.AttnBwd.Blocks
public import proofs.«01_k».proof.Proof.Gen.AttnFwdIdeal.Value

@[expose] public section

set_option maxRecDepth 16384

noncomputable section

namespace Cert.AttnFwd.Kernel

open Idealize.ShloMosaic Idealize.ShloMosaic.TcCoe Cert.AttnFwdIdeal Cert.AttnFwdIdeal.Gen Cert.AttnFwdIdeal.Facts Cert.Reals Cert.Norm
open Cert.AttnBwd (Arrays keys row rot cosT sinT)
open Cert.AttnBwd.Kernel (rot_lo rot_hi cos_at sin_at word_eighth')

variable {m : (ℓ : Loc nD τ sig) → Buf (Elt Ideal) ℓ} {c : Dev nD} {A : Arrays}

theorem count : cfg0.N = 32 := N_0

/-- Where each window's block stands at point `t`. -/
theorem idx : ∀ t : Fin cfg0.N, win0_0.index t = ![0, 0] ∧ win0_1.index t = ![t.val, 0] ∧ win0_2.index t = ![t.val, 0]
    ∧ win0_3.index t = ![t.val - 1, 0] ∧ win0_4.index t = ![t.val, 0] ∧ win0_5.index t = ![t.val - 1, 0] ∧ win0_6.index t = ![t.val, 0] :=
  (by decide +kernel : ∀ t : Fin grid0.N, win0_0.index t = ![0, 0] ∧ win0_1.index t = ![t.val, 0] ∧ win0_2.index t = ![t.val, 0]
    ∧ win0_3.index t = ![t.val - 1, 0] ∧ win0_4.index t = ![t.val, 0] ∧ win0_5.index t = ![t.val - 1, 0] ∧ win0_6.index t = ![t.val, 0])

/-- The arguments a device starts from are these real arrays. -/
structure Args (m : (ℓ : Loc nD τ sig) → Buf (Elt Ideal) ℓ) (c : Dev nD) (A : Arrays) : Prop where
  x : (m ((c : Thread nD τ).loc main_arg0) : FVec Ideal S1x4096x1024 .f32) = fun i => ((A.x i : ℝ) : EReal)
  g : (m ((c : Thread nD τ).loc main_arg1) : FVec Ideal S2x1024 .f32) = fun i => ((A.g i : ℝ) : EReal)
  w : (m ((c : Thread nD τ).loc main_arg2) : FVec Ideal S1x1024x1536 .f32) = fun i => ((A.w i : ℝ) : EReal)
  b : (m ((c : Thread nD τ).loc main_arg3) : FVec Ideal S1x1536 .f32) = fun i => ((A.b i : ℝ) : EReal)
  sink : (m ((c : Thread nD τ).loc main_arg4) : FVec Ideal S1x16 .f32) = fun i => ((A.sink i : ℝ) : EReal)

theorem q_eq (h : Args m c A) (i : Fin 4096) (l : Fin 1024) :
    (V m c main_v60 : FVec Ideal S4096x1024 .bf16) (ix2 i l)
      = ((A.q ⟨l.val / 64, by omega⟩ i ⟨l.val % 64, by omega⟩ * (1 / 8) : ℝ) : EReal) := by
  simp only [V]
  entry_read
  pointwise [dot_S4096x1024_S1024x1536_S4096x1536_1_0_0_1_n_n]
  simp only [h.x, h.g, h.w, h.b, mul_coe, coe_sum, word_1024, div_1024, word_eps, add_coe, rsqrt_ms, word_eighth', A.qkv_fold]
  unfold Arrays.q
  by_cases hl : l.val % 64 < 32
  · simp only [dif_pos hl, cos_at i _ hl, sin_at i _ hl, mul_coe, sub_coe, add_coe, Nat.add_comm 32 (l.val % 64)]
    exact congrArg (fun z : ℝ => ((z * (1 / 8) : ℝ) : EReal)) (rot_lo (fun e : Fin 64 => A.qkv i ⟨l.val / 64 * 64 + e.val, by omega⟩) i hl).symm
  · simp only [dif_neg hl, cos_at i _ (show l.val % 64 - 32 < 32 by omega), sin_at i _ (show l.val % 64 - 32 < 32 by omega), mul_coe, sub_coe, add_coe, show 32 + (l.val % 64 - 32) = l.val % 64 by omega]
    exact congrArg (fun z : ℝ => ((z * (1 / 8) : ℝ) : EReal)) (rot_hi (fun e : Fin 64 => A.qkv i ⟨l.val / 64 * 64 + e.val, by omega⟩) i _ hl).symm

set_option maxHeartbeats 1000000 in
theorem k_eq (h : Args m c A) (i : Fin 4096) (l : Fin 512) :
    (V m c main_v100 : FVec Ideal S4096x512 .bf16) (ix2 i l)
      = ((A.k ⟨l.val / 128, by omega⟩ i ⟨l.val % 64, by omega⟩ : ℝ) : EReal) := by
  have key : ∀ d (hm : d < 64), (⟨d, hm⟩ : Fin 64) = ⟨l.val % 64, by omega⟩ →
      ((rot (fun e => A.qkv i ⟨1024 + (l.val / 128 * 64 + e.val), by omega⟩) i ⟨d, hm⟩ : ℝ) : EReal)
        = ((A.k ⟨l.val / 128, by omega⟩ i ⟨l.val % 64, by omega⟩ : ℝ) : EReal) := fun d hm he => by rw [he]; rfl
  simp only [V]
  entry_read
  pointwise [dot_S4096x1024_S1024x1536_S4096x1536_1_0_0_1_n_n]
  simp only [h.x, h.g, h.w, h.b, mul_coe, coe_sum, word_1024, div_1024, word_eps, add_coe, rsqrt_ms, A.qkv_fold]
  split
  · refine Eq.trans ?_ (key (l.val % 128) (by omega) (Fin.ext (by dsimp only; omega)))
    by_cases hl : l.val % 128 < 32
    · simp only [dif_pos hl, cos_at i _ hl, sin_at i _ hl, mul_coe, sub_coe, add_coe, Nat.add_comm 32 (l.val % 128)]
      exact congrArg (fun z : ℝ => (z : EReal)) (rot_lo (fun e : Fin 64 => A.qkv i ⟨1024 + (l.val / 128 * 64 + e.val), by omega⟩) i hl).symm
    · simp only [dif_neg hl, cos_at i _ (show l.val % 128 - 32 < 32 by omega), sin_at i _ (show l.val % 128 - 32 < 32 by omega), mul_coe, sub_coe, add_coe, show 32 + (l.val % 128 - 32) = l.val % 128 by omega]
      exact congrArg (fun z : ℝ => (z : EReal)) (rot_hi (fun e : Fin 64 => A.qkv i ⟨1024 + (l.val / 128 * 64 + e.val), by omega⟩) i _ hl).symm
  · refine Eq.trans ?_ (key (l.val % 128 - 64) (by omega) (Fin.ext (by dsimp only; omega)))
    by_cases hl : l.val % 128 - 64 < 32
    · simp only [dif_pos hl, cos_at i _ hl, sin_at i _ hl, mul_coe, sub_coe, add_coe, Nat.add_comm 32 (l.val % 128 - 64)]
      exact congrArg (fun z : ℝ => (z : EReal)) (rot_lo (fun e : Fin 64 => A.qkv i ⟨1024 + (l.val / 128 * 64 + e.val), by omega⟩) i hl).symm
    · simp only [dif_neg hl, cos_at i _ (show l.val % 128 - 64 - 32 < 32 by omega), sin_at i _ (show l.val % 128 - 64 - 32 < 32 by omega), mul_coe, sub_coe, add_coe, show 32 + (l.val % 128 - 64 - 32) = l.val % 128 - 64 by omega]
      exact congrArg (fun z : ℝ => (z : EReal)) (rot_hi (fun e : Fin 64 => A.qkv i ⟨1024 + (l.val / 128 * 64 + e.val), by omega⟩) i _ hl).symm

theorem v_eq (h : Args m c A) (i : Fin 4096) (l : Fin 512) :
    (V m c main_v103 : FVec Ideal S4096x512 .bf16) (ix2 i l)
      = ((A.v ⟨l.val / 128, by omega⟩ i ⟨l.val % 64, by omega⟩ : ℝ) : EReal) := by
  have hd : l.val / 128 < 4 := by omega
  have key : ∀ d (hm : d < 64), (⟨1280 + (l.val / 128 * 64 + d), by omega⟩ : Fin 1536) = ⟨1280 + (l.val / 128 * 64 + l.val % 64), by omega⟩ → ((A.qkv i ⟨1280 + (l.val / 128 * 64 + d), by omega⟩ : ℝ) : EReal)
      = ((A.v ⟨l.val / 128, by omega⟩ i ⟨l.val % 64, by omega⟩ : ℝ) : EReal) := fun d hm he => by
    rw [he]; rfl
  simp only [V]
  entry_read
  pointwise [dot_S4096x1024_S1024x1536_S4096x1536_1_0_0_1_n_n]
  simp only [h.x, h.g, h.w, h.b, mul_coe, coe_sum, word_1024, div_1024, word_eps, add_coe, rsqrt_ms]
  split
  · exact key _ (by omega) (Fin.ext (by dsimp only; omega))
  · exact key _ (by omega) (Fin.ext (by dsimp only; omega))

theorem block_sinks (h : Args m c A) (t : Fin cfg0.N) (u : Fin 16) :
    (iblk m c 0 t : Vec Ideal S1x16 .f32) (ix2 0 u) = ((A.sinks u : ℝ) : EReal) := by
  refine Eq.trans ?_ (congrFun h.sink (ix2 0 u))
  blk_simp [iblk, V, idx t]
  entry_read
  blk_ext [iblk, V, idx t, row]

theorem block_q (h : Args m c A) (t : Fin cfg0.N) (a : Fin 128) (l : Fin 1024) :
    (iblk m c 1 t : Vec Ideal S128x1024 .bf16) (ix2 a l)
      = ((A.q ⟨l.val / 64, by omega⟩ (row t.val a) ⟨l.val % 64, by omega⟩ * (1 / 8) : ℝ) : EReal) := by
  have ht : t.val < 32 := lt_of_lt_of_eq t.isLt count
  refine Eq.trans ?_ (q_eq h (row t.val a) l)
  blk_ext [iblk, idx t, row]

theorem block_kc (h : Args m c A) (t : Fin cfg0.N) (a : Fin 128) (l : Fin 512) :
    (iblk m c 2 t : Vec Ideal S128x512 .bf16) (ix2 a l)
      = ((A.k ⟨l.val / 128, by omega⟩ (row t.val a) ⟨l.val % 64, by omega⟩ : ℝ) : EReal) := by
  have ht : t.val < 32 := lt_of_lt_of_eq t.isLt count
  refine Eq.trans ?_ (k_eq h (row t.val a) l)
  blk_ext [iblk, idx t, row]

theorem block_kp (h : Args m c A) (t : Fin cfg0.N) (a : Fin 128) (l : Fin 512) :
    (iblk m c 3 t : Vec Ideal S128x512 .bf16) (ix2 a l)
      = ((A.k ⟨l.val / 128, by omega⟩ (row (t.val - 1) a) ⟨l.val % 64, by omega⟩ : ℝ) : EReal) := by
  have ht : t.val < 32 := lt_of_lt_of_eq t.isLt count
  refine Eq.trans ?_ (k_eq h (row (t.val - 1) a) l)
  blk_ext [iblk, idx t, row]

theorem block_vc (h : Args m c A) (t : Fin cfg0.N) (a : Fin 128) (l : Fin 512) :
    (iblk m c 4 t : Vec Ideal S128x512 .bf16) (ix2 a l)
      = ((A.v ⟨l.val / 128, by omega⟩ (row t.val a) ⟨l.val % 64, by omega⟩ : ℝ) : EReal) := by
  have ht : t.val < 32 := lt_of_lt_of_eq t.isLt count
  refine Eq.trans ?_ (v_eq h (row t.val a) l)
  blk_ext [iblk, idx t, row]

theorem block_vp (h : Args m c A) (t : Fin cfg0.N) (a : Fin 128) (l : Fin 512) :
    (iblk m c 5 t : Vec Ideal S128x512 .bf16) (ix2 a l)
      = ((A.v ⟨l.val / 128, by omega⟩ (row (t.val - 1) a) ⟨l.val % 64, by omega⟩ : ℝ) : EReal) := by
  have ht : t.val < 32 := lt_of_lt_of_eq t.isLt count
  refine Eq.trans ?_ (v_eq h (row (t.val - 1) a) l)
  blk_ext [iblk, idx t, row]

end Cert.AttnFwd.Kernel

end
-- ==== Proof.AttnFwd.Head.lean ====
/- One key head of the forward call: which keys its rows see, and two query heads' probabilities times the values. -/
module

public import proofs.«01_k».proof.Proof.AttnFwd.Spec
public import proofs.«01_k».proof.Proof.AttnBwd.Points
public import proofs.«01_k».proof.Proof.Gen.AttnFwdIdeal.Value

@[expose] public section

set_option maxRecDepth 16384

noncomputable section

namespace Cert.AttnFwd.Kernel

open Idealize.ShloMosaic Idealize.ShloMosaic.TcCoe Cert.AttnFwdIdeal Cert.AttnFwdIdeal.Gen Cert.AttnFwdIdeal.Facts Cert.Reals Cert.Norm Idealize.ShloMosaic.WordCmp
open Cert.AttnBwd (Arrays valid)
open Cert.AttnBwd.Kernel (rw4 half place gOf lo_word hi_word)

/-- The same point of the gradient's grid, which has one more. -/
def up (n : ℕ) (h : n < 33) : Cert.AttnIdeal.grid0.Coords := fun k => match k with
  | ⟨0, _⟩ => ⟨n, h⟩

/-- Which rows and columns a head's block of scores keeps: as in the gradient's call, which also asks whether it stands past the end. -/
theorem mask_at (i : grid0.Coords) (hi : (i 0).val < 32) (g : Fin 4) (a : Fin 128) (q : Fin 256) :
    k0_pay4 i (ix2 (rw4 g a) q) = BitVec.ofBool (valid (i 0).val a q) := by
  have e := Cert.AttnBwd.Kernel.mask_at (up (i 0).val (by omega)) (show (i 0).val < 33 by omega) g a q
  have k : Cert.AttnIdeal.Gen.k0_pay14 (up (i 0).val (by omega)) (ix2 (rw4 g a) q)
      = IntOp.andi (k0_pay4 i (ix2 (rw4 g a) q)) (Scalar.cmpi CmpIPredicate.slt (BitVec.ofNat 32 (i 0).val) 32#32) := rfl
  have h4 : Scalar.cmpi CmpIPredicate.slt (BitVec.ofNat 32 (i 0).val) 32#32 = 1#1 := by
    have all : ∀ n : ℕ, n < 32 → Scalar.cmpi CmpIPredicate.slt (BitVec.ofNat 32 n) 32#32 = 1#1 := by
      intro n hn
      interval_cases n <;> rfl
    exact all _ hi
  rw [k, h4] at e
  refine Eq.trans ?_ e
  generalize k0_pay4 i (ix2 (rw4 g a) q) = b
  revert b
  decide

/-- The values of a pair of heads, once for each head and zero in the other head's lanes. -/
def valuesV (p c : FVec Ideal S128x128 .bf16) : FVec Ideal S512x128 .bf16 := k0_pay37 (F := Ideal) k0_pay5 k0_pay6 p c

section Values

variable {p c : FVec Ideal S128x128 .bf16} {V : Fin 256 → Fin 64 → ℝ} (hp : ∀ a l, p (ix2 a l) = ((V (Arrays.old a) (place l) : ℝ) : EReal))
  (hc : ∀ a l, c (ix2 a l) = ((V (Arrays.own a) (place l) : ℝ) : EReal))
include hp hc

theorem values_lo (j : Fin 256) (l : Fin 128) (hr : j.val < 512) :
    valuesV p c (ix2 ⟨j.val, hr⟩ l) = ((if half l = 0 then V j (place l) else 0 : ℝ) : EReal) := by
  have hb : half l = 0 ↔ l.val < 64 := ⟨fun h => by have := congrArg Fin.val h; simp only [half, Fin.val_zero] at this; omega,
    fun h => Fin.ext (by simp only [half, Fin.val_zero]; omega)⟩
  have own : ∀ r (hr : r < 128), r + 128 = j.val → Arrays.own ⟨r, hr⟩ = j := fun r _ h => Fin.ext (by simp only [Arrays.own]; omega)
  have old : ∀ r (hr : r < 128), r = j.val → Arrays.old ⟨r, hr⟩ = j := fun r _ h => Fin.ext h
  have hj := j.isLt
  unfold valuesV
  unfold_payloads
  pointwise
  simp only [lo_word, hi_word, select_ofBool, decide_eq_true_eq, hp, hc, hb]
  split
  · split
    · rw [old _ _ rfl]
    · rw [own _ _ (by omega)]
  · rfl

theorem values_hi (j : Fin 256) (l : Fin 128) (hr : 256 + j.val < 512) :
    valuesV p c (ix2 ⟨256 + j.val, hr⟩ l) = ((if half l = 1 then V j (place l) else 0 : ℝ) : EReal) := by
  have hb : half l = 1 ↔ 64 ≤ l.val := ⟨fun h => by have := congrArg Fin.val h; simp only [half, Fin.val_one] at this; omega,
    fun h => Fin.ext (by simp only [half, Fin.val_one]; omega)⟩
  have own : ∀ r (hr : r < 128), r + 128 = j.val → Arrays.own ⟨r, hr⟩ = j := fun r _ h => Fin.ext (by simp only [Arrays.own]; omega)
  have old : ∀ r (hr : r < 128), r = j.val → Arrays.old ⟨r, hr⟩ = j := fun r _ h => Fin.ext h
  have hj := j.isLt
  unfold valuesV
  unfold_payloads
  pointwise
  simp only [lo_word, hi_word, select_ofBool, decide_eq_true_eq, hp, hc, hb]
  split
  · split
    · rw [old _ _ rfl]
    · rw [own _ _ (by omega)]
  · rfl

end Values

/-- Two query heads' probabilities times the values, side by side: the first pair of a key head, and the second. -/
def outV (p : Fin 2) (pr : FVec Ideal S512x256 .bf16) (vp vc : FVec Ideal S128x128 .bf16) : FVec Ideal S128x128 .bf16 := match p with
  | 0 => k0_pay38 (F := Ideal) k0_pay5 k0_pay6 pr vp vc
  | 1 => k0_pay39 (F := Ideal) k0_pay5 k0_pay6 pr vp vc

/-- A sum over two heads' keys that sees one of the two heads. -/
theorem sum_pair (l : Fin 128) (P : Fin 2 → Fin 256 → ℝ) (V : Fin 256 → ℝ) {f0 f1 : Fin 256 → EReal}
    (h0 : ∀ j, f0 j = ((P 0 j : ℝ) : EReal) * ((if half l = 0 then V j else 0 : ℝ) : EReal))
    (h1 : ∀ j, f1 j = ((P 1 j : ℝ) : EReal) * ((if half l = 1 then V j else 0 : ℝ) : EReal)) :
    ∑ j, f0 j + ∑ j, f1 j = ((∑ j, P (half l) j * V j : ℝ) : EReal) := by
  simp only [h0, h1, mul_coe, coe_sum, add_coe]
  refine congrArg (fun r : ℝ => (r : EReal)) ?_
  generalize half l = e
  fin_cases e <;> simp

theorem out_at {pr : FVec Ideal S512x256 .bf16} {vp vc : FVec Ideal S128x128 .bf16} {P : Fin 4 → Fin 128 → Fin 256 → ℝ} {V : Fin 256 → Fin 64 → ℝ}
    (hP : ∀ g a j, pr (ix2 (rw4 g a) j) = ((P g a j : ℝ) : EReal)) (hp : ∀ a l, vp (ix2 a l) = ((V (Arrays.old a) (place l) : ℝ) : EReal))
    (hc : ∀ a l, vc (ix2 a l) = ((V (Arrays.own a) (place l) : ℝ) : EReal)) (p : Fin 2) (a l : Fin 128) :
    outV p pr vp vc (ix2 a l) = ((∑ j, P (gOf p (half l)) a j * V j (place l) : ℝ) : EReal) := by
  have r0 : ∀ h : a.val < 512, (⟨a.val, h⟩ : Fin 512) = rw4 (gOf 0 0) a := fun h => Fin.ext (by simp [rw4, gOf])
  have r1 : ∀ h : 128 + a.val < 512, (⟨128 + a.val, h⟩ : Fin 512) = rw4 (gOf 0 1) a := fun h => Fin.ext (by simp [rw4, gOf])
  have r2 : ∀ h : 256 + a.val < 512, (⟨256 + a.val, h⟩ : Fin 512) = rw4 (gOf 1 0) a := fun h => Fin.ext (by simp [rw4, gOf])
  have r3 : ∀ h : 384 + a.val < 512, (⟨384 + a.val, h⟩ : Fin 512) = rw4 (gOf 1 1) a := fun h => Fin.ext (by simp [rw4, gOf])
  match p with
  | 0 =>
    unfold outV k0_pay38
    dsimp only
    pointwise [dot_S128x512_S512x128_S128x128_1_0_0_1_n_n]
    refine sum_pair l (fun e j => P (gOf 0 e) a j) (fun j => V j (place l)) (fun j => ?_) (fun j => ?_)
    · rw [r0, hP]
      exact congrArg _ (values_lo hp hc j l _)
    · rw [r1, hP]
      exact congrArg _ (values_hi hp hc j l _)
  | 1 =>
    unfold outV k0_pay39
    dsimp only
    pointwise [dot_S128x512_S512x128_S128x128_1_0_0_1_n_n]
    refine sum_pair l (fun e j => P (gOf 1 e) a j) (fun j => V j (place l)) (fun j => ?_) (fun j => ?_)
    · rw [r2, hP]
      exact congrArg _ (values_lo hp hc j l _)
    · rw [r3, hP]
      exact congrArg _ (values_hi hp hc j l _)

end Cert.AttnFwd.Kernel

end
-- ==== Proof.AttnFwd.Kernel.lean ====
/- What a point of the forward call writes, and the array it leaves. -/
module

public import proofs.«01_k».proof.Proof.AttnFwd.Blocks
public import proofs.«01_k».proof.Proof.AttnFwd.Head

@[expose] public section

set_option maxRecDepth 16384

noncomputable section

namespace Cert.AttnFwd.Kernel

open Idealize.ShloMosaic Idealize.ShloMosaic.TcCoe Cert.AttnFwdIdeal Cert.AttnFwdIdeal.Gen Cert.AttnFwdIdeal.Facts Cert.Reals Cert.Norm
open Cert.AttnBwd (Arrays keys row valid)
open Cert.AttnBwd.Kernel (rw4 half place gOf inb ld_at stackV catV scoreV prV stack_at cat_at score_at pr_entry)

variable {m : (ℓ : Loc nD τ sig) → Buf (Elt Ideal) ℓ} {c : Dev nD} {A : Arrays}

/-- One key head's tile of 128 columns, the first and second pair of its query heads, and its four sinks. -/
def tile (X : Vec Ideal S128x512 .bf16) (h : Fin 4) : FVec Ideal S128x128 .bf16 :=
  View.ld X (Rect.unit (s := S128x512) ![0, h.val * 128] ![128, 128] (inb (by omega)))
def pair0 (X : Vec Ideal S128x1024 .bf16) (h : Fin 4) : FVec Ideal S128x128 .bf16 :=
  View.ld X (Rect.unit (s := S128x1024) ![0, h.val * 256] ![128, 128] (inb (by omega)))
def pair1 (X : Vec Ideal S128x1024 .bf16) (h : Fin 4) : FVec Ideal S128x128 .bf16 :=
  View.ld X (Rect.unit (s := S128x1024) ![0, h.val * 256 + 128] ![128, 128] (inb (by omega)))
def sinkOf (X : Vec Ideal S1x16 .f32) (h g : Fin 4) : Elt Ideal .f32 :=
  View.ld X (Rect.unit (s := S1x16) ![0, h.val * 4 + g.val] ![1, 1] (inb (by omega))) (Shape.Idx.first (show 0 < (⟨2, ![1, 1]⟩ : Shape).numel by decide))

/-- A key head's probabilities, and its two tiles of the result, out of a point's blocks. -/
def prF (i : grid0.Coords) (sk : Vec Ideal S1x16 .f32) (Q : Vec Ideal S128x1024 .bf16) (K K' : Vec Ideal S128x512 .bf16) (h : Fin 4) : FVec Ideal S512x256 .bf16 :=
  prV (k0_pay4 i) (scoreV (stackV (pair0 Q h) (pair1 Q h)) (catV (k0_pay30 (F := Ideal) (tile K' h)) (tile K h))) (sinkOf sk h)
def outF (i : grid0.Coords) (sk : Vec Ideal S1x16 .f32) (Q : Vec Ideal S128x1024 .bf16) (K K' V V' : Vec Ideal S128x512 .bf16) (h : Fin 4) (p : Fin 2) : FVec Ideal S128x128 .bf16 :=
  outV p (prF i sk Q K K' h) (tile V' h) (tile V h)

theorem tile_own {X : Vec Ideal S128x512 .bf16} {k : Fin 4 → Fin 4096 → Fin 64 → ℝ} {n : ℕ}
    (hX : ∀ (a : Fin 128) (l : Fin 512), X (ix2 a l) = ((k ⟨l.val / 128, by omega⟩ (row n a) ⟨l.val % 64, by omega⟩ : ℝ) : EReal)) (h : Fin 4) (a l : Fin 128) :
    tile X h (ix2 a l) = ((given (k h) n (Arrays.own a) (place l) : ℝ) : EReal) := by
  refine ((ld_at X (by omega) a l).trans (hX a _)).trans ?_
  have e1 : (⟨(h.val * 128 + l.val) / 128, by omega⟩ : Fin 4) = h := Fin.ext (by dsimp only; omega)
  have e2 : (⟨(h.val * 128 + l.val) % 64, by omega⟩ : Fin 64) = place l := Fin.ext (by simp only [place]; omega)
  simp only [e1, e2]
  unfold given
  rw [dif_neg (by simp only [Arrays.own]; omega)]
  exact congrArg (fun r => ((k h (row n r) (place l) : ℝ) : EReal)) (Fin.ext (by simp only [Arrays.own]; omega))

theorem tile_old {X : Vec Ideal S128x512 .bf16} {k : Fin 4 → Fin 4096 → Fin 64 → ℝ} {n : ℕ}
    (hX : ∀ (a : Fin 128) (l : Fin 512), X (ix2 a l) = ((k ⟨l.val / 128, by omega⟩ (row (n - 1) a) ⟨l.val % 64, by omega⟩ : ℝ) : EReal)) (h : Fin 4) (a l : Fin 128) :
    tile X h (ix2 a l) = ((given (k h) n (Arrays.old a) (place l) : ℝ) : EReal) := by
  refine ((ld_at X (by omega) a l).trans (hX a _)).trans ?_
  have e1 : (⟨(h.val * 128 + l.val) / 128, by omega⟩ : Fin 4) = h := Fin.ext (by dsimp only; omega)
  have e2 : (⟨(h.val * 128 + l.val) % 64, by omega⟩ : Fin 64) = place l := Fin.ext (by simp only [place]; omega)
  simp only [e1, e2]
  unfold given
  rw [dif_pos (by simp only [Arrays.old]; omega)]
  rfl

/-- A tile read under its own shape is the tile. -/
theorem cast_at {x : FVec Ideal S128x128 .bf16} {f : Fin 128 → Fin 128 → EReal} (hx : ∀ a l, x (ix2 a l) = f a l) (a l : Fin 128) :
    k0_pay30 (F := Ideal) x (ix2 a l) = f a l :=
  (congrFun (shapeCast_self x shapeCasts_S128x128_S128x128) (ix2 a l)).trans (hx a l)

section Point

variable {n : ℕ} {i : grid0.Coords} {sk : Vec Ideal S1x16 .f32} {Q : Vec Ideal S128x1024 .bf16} {K K' V V' : Vec Ideal S128x512 .bf16}

/-- The blocks hold block `n` of the real arrays, and the keys and values of the block before. -/
structure Reads (A : Arrays) (n : ℕ) (i : grid0.Coords) (sk : Vec Ideal S1x16 .f32) (Q : Vec Ideal S128x1024 .bf16) (K K' V V' : Vec Ideal S128x512 .bf16) : Prop where
  lt : n < 32
  i : (i 0).val = n
  sk : ∀ u, sk (ix2 0 u) = ((A.sinks u : ℝ) : EReal)
  Q : ∀ (a : Fin 128) (l : Fin 1024), Q (ix2 a l) = ((A.q ⟨l.val / 64, by omega⟩ (row n a) ⟨l.val % 64, by omega⟩ * (1 / 8) : ℝ) : EReal)
  K : ∀ (a : Fin 128) (l : Fin 512), K (ix2 a l) = ((A.k ⟨l.val / 128, by omega⟩ (row n a) ⟨l.val % 64, by omega⟩ : ℝ) : EReal)
  K' : ∀ (a : Fin 128) (l : Fin 512), K' (ix2 a l) = ((A.k ⟨l.val / 128, by omega⟩ (row (n - 1) a) ⟨l.val % 64, by omega⟩ : ℝ) : EReal)
  V : ∀ (a : Fin 128) (l : Fin 512), V (ix2 a l) = ((A.v ⟨l.val / 128, by omega⟩ (row n a) ⟨l.val % 64, by omega⟩ : ℝ) : EReal)
  V' : ∀ (a : Fin 128) (l : Fin 512), V' (ix2 a l) = ((A.v ⟨l.val / 128, by omega⟩ (row (n - 1) a) ⟨l.val % 64, by omega⟩ : ℝ) : EReal)

variable (R : Reads A n i sk Q K K' V V')
include R

theorem pair0_at (h : Fin 4) (a l : Fin 128) : pair0 Q h (ix2 a l) = ((A.qs n h (gOf 0 (half l)) a (place l) : ℝ) : EReal) := by
  refine ((ld_at Q (by omega) a l).trans (R.Q a _)).trans ?_
  have e1 : (⟨(h.val * 256 + l.val) / 64, by omega⟩ : Fin 16) = Arrays.head h (gOf 0 (half l)) := Fin.ext (by simp only [Arrays.head, gOf, half, Fin.val_zero]; omega)
  have e2 : (⟨(h.val * 256 + l.val) % 64, by omega⟩ : Fin 64) = place l := Fin.ext (by simp only [place]; omega)
  simp only [e1, e2]
  rfl

theorem pair1_at (h : Fin 4) (a l : Fin 128) : pair1 Q h (ix2 a l) = ((A.qs n h (gOf 1 (half l)) a (place l) : ℝ) : EReal) := by
  refine ((ld_at Q (by omega) a l).trans (R.Q a _)).trans ?_
  have e1 : (⟨(h.val * 256 + 128 + l.val) / 64, by omega⟩ : Fin 16) = Arrays.head h (gOf 1 (half l)) := Fin.ext (by simp only [Arrays.head, gOf, half, Fin.val_one]; omega)
  have e2 : (⟨(h.val * 256 + 128 + l.val) % 64, by omega⟩ : Fin 64) = place l := Fin.ext (by simp only [place]; omega)
  simp only [e1, e2]
  rfl

theorem sink_at (h g : Fin 4) : sinkOf sk h g = ((A.sinks (Arrays.head h g) : ℝ) : EReal) := by
  refine Eq.trans ?_ (R.sk (Arrays.head h g))
  refine congrArg sk (funext fun k => ?_)
  fin_cases k
  · exact Subsingleton.elim (α := Fin 1) _ _
  · exact Fin.ext (by show h.val * 4 + g.val + 1 * 0 = h.val * 4 + g.val; omega)

theorem pr_at (h g : Fin 4) (a : Fin 128) (j : Fin 256) : prF i sk Q K K' h (ix2 (rw4 g a) j) = ((A.P n h g a j : ℝ) : EReal) := by
  have hw : ∀ g a j, k0_pay4 i (ix2 (rw4 g a) j) = BitVec.ofBool (valid n a j) := fun g a j =>
    R.i ▸ mask_at i (by rw [R.i]; exact R.lt) g a j
  refine (pr_entry (v := valid n) hw (fun g a j => score_at (Q := A.qs n h) (K := given (A.k h) n)
    (stack_at (pair0_at R h) (pair1_at R h)) (cat_at (cast_at (tile_old R.K' h)) (tile_own R.K h)) g a j) (sink_at R h) g a j).trans ?_
  refine congrArg (fun r : ℝ => (r : EReal)) (prob_congr _ (fun j hj => ?_) j)
  unfold Arrays.score
  rw [Finset.sum_mul]
  exact Finset.sum_congr rfl fun d _ => by rw [given_eq _ hj]; unfold Arrays.qs; ring

theorem tile_at (h : Fin 4) (p : Fin 2) (a l : Fin 128) : outF i sk Q K K' V V' h p (ix2 a l) = ((o A n h (gOf p (half l)) a (place l) : ℝ) : EReal) := by
  refine (out_at (pr_at R h) (tile_old R.V' h) (tile_own R.V h) p a l).trans ?_
  refine congrArg (fun r : ℝ => (r : EReal)) (Finset.sum_congr rfl fun j _ => ?_)
  by_cases hj : valid n a j = true
  · rw [given_eq _ hj]
  · have z : A.P n h (gOf p (half l)) a j = 0 := prob_masked _ _ hj
    rw [z, zero_mul, zero_mul]

theorem close {h : Fin 4} {p : Fin 2} {y : S128x1024.Idx} {x : S128x128.Idx} {u : ℕ} (h0 : (y 0).val = (x 0).val) (h1 : (y 1).val = u + (x 1).val)
    (hu : u = (h.val * 2 + p.val) * 128) {X : EReal} (e : X = outF i sk Q K K' V V' h p x) : X = ((cols A n (y 0) (y 1) : ℝ) : EReal) := by
  have e0 : y 0 = x 0 := Fin.ext h0
  have hx : (x 1).val < 128 := (x 1).isLt
  have hy : (y 1).val < 1024 := (y 1).isLt
  have e1 : ∀ hb, (⟨(y 1).val / 256, hb⟩ : Fin 4) = h := fun _ => Fin.ext (by dsimp only; omega)
  have e2 : ∀ hb, (⟨(y 1).val / 64 % 4, hb⟩ : Fin 4) = gOf p (half (x 1)) := fun _ => Fin.ext (by simp only [gOf, half]; omega)
  have e3 : ∀ hb, (⟨(y 1).val % 64, hb⟩ : Fin 64) = place (x 1) := fun _ => Fin.ext (by simp only [place]; omega)
  unfold cols
  rw [e, e0, e1, e2, e3]
  idx_vars x
  exact tile_at R h p x0 x1

end Point

theorem reads (ha : Args m c A) (t : Fin cfg0.N) :
    Reads A t.val (grid0.coords t) (iblk m c 0 t) (iblk m c 1 t) (iblk m c 2 t) (iblk m c 3 t) (iblk m c 4 t) (iblk m c 5 t) := by
  exact ⟨lt_of_lt_of_eq t.isLt count, (by decide +kernel : ∀ t : Fin grid0.N, (grid0.coords t 0).val = t.val) t, block_sinks ha t, block_q ha t, block_kc ha t, block_kp ha t,
    block_vc ha t, block_vp ha t⟩

set_option maxHeartbeats 4000000 in
/-- A point writes its block of the result. -/
theorem point_out (ha : Args m c A) (t : Fin cfg0.N) (y : S128x1024.Idx) : outsAt0 m c t y = ((cols A t.val (y 0) (y 1) : ℝ) : EReal) := by
  have R := reads ha t
  unfold outsAt0
  frame_open
  frame_out
  canon_tiles x hx using View.cover_of_tiledBy _ ![128,128] (by sl_kernel_rfl) _
  case piece0 => exact close R (h := 3) (p := 1) hx0 hx1 rfl (by sl_kernel_rfl)
  case piece1 => exact close R (h := 3) (p := 0) hx0 hx1 rfl (by sl_kernel_rfl)
  case piece2 => exact close R (h := 2) (p := 1) hx0 hx1 rfl (by sl_kernel_rfl)
  case piece3 => exact close R (h := 2) (p := 0) hx0 hx1 rfl (by sl_kernel_rfl)
  case piece4 => exact close R (h := 1) (p := 1) hx0 hx1 rfl (by sl_kernel_rfl)
  case piece5 => exact close R (h := 1) (p := 0) hx0 hx1 rfl (by sl_kernel_rfl)
  case piece6 => exact close R (h := 0) (p := 1) hx0 hx1 rfl (by sl_kernel_rfl)
  case piece7 => exact close R (h := 0) (p := 0) hx0 (hx1.trans (Nat.zero_add _).symm) rfl (by sl_kernel_rfl)

theorem out_final (ha : Args m c A) : (dats m 0 c).arrAt 6 cfg0.N = out A := by
  refine (dats m 0 c).arrAt_eq_of_covers 6 _ (by decide +kernel) fun t hf y => ?_
  have ht : t.val < 32 := lt_of_lt_of_eq t.isLt count
  blk_simp
  rw [after0_6, point_out ha t y]
  idx_vars y
  have e : ((View.whole main_v104).slice (win0_6.rect t)).emb (ix2 y0 y1) = ix2 (row t.val y0) y1 := by blk_ext [idx t, row]
  rw [e]
  have e1 : (row t.val y0).val / 128 = t.val := by simp only [row]; omega
  have e2 : (⟨(row t.val y0).val % 128, by omega⟩ : Fin 128) = y0 := Fin.ext (by simp only [row]; omega)
  show ((cols A t.val y0 y1 : ℝ) : EReal) = ((cols A ((row t.val y0).val / 128) ⟨(row t.val y0).val % 128, _⟩ y1 : ℝ) : EReal)
  rw [e1, e2]

end Cert.AttnFwd.Kernel

end
-- ==== Proof.AttnFwd.Reference.lean ====
/- The reference read: its probabilities are those the gradient's reference computes, and its result is these times the values. -/
module

public import proofs.«01_k».proof.Proof.AttnFwd.Spec
public import proofs.«01_k».proof.Proof.AttnBwd.RefSoft
public import proofs.«01_k».proof.Proof.Gen.AttnFwdReferenceIdeal.Read

@[expose] public section

set_option maxRecDepth 16384

noncomputable section

namespace Cert.AttnFwd.Reference

open Idealize.ShloMosaic Idealize.ShloMosaic.TcCoe Cert.AttnFwdReferenceIdeal Cert.AttnFwdReferenceIdeal.Gen Cert.AttnFwdReferenceIdeal.Read Cert.Reals Cert.Norm
open Cert.AttnBwd (Arrays keys)
open Cert.AttnBwd.Reference (xA gA wA bA sinkA)

/-- The two references compute the same values and the same probabilities. -/
theorem same_v (x : FVec Ideal S1x4096x1024 .f32) (g : FVec Ideal S2x1024 .f32) (w : FVec Ideal S1x1024x1536 .f32) (b : FVec Ideal S1x1536 .f32) :
    val_main_v103 (F := Ideal) x g w b = AttnReferenceIdeal.Read.val_main_v105 (F := Ideal) x g w b := by sl_kernel_rfl

theorem same_p (x : FVec Ideal S1x4096x1024 .f32) (g : FVec Ideal S2x1024 .f32) (w : FVec Ideal S1x1024x1536 .f32) (b : FVec Ideal S1x1536 .f32)
    (s : FVec Ideal S1x16 .f32) : val_main_v156 (F := Ideal) x g w b s = AttnReferenceIdeal.Read.val_main_v181 (F := Ideal) x g w b s := by sl_kernel_rfl

variable (A : Arrays)

theorem v_eq (n : Fin 32) (c : Fin 256) (h : Fin 4) (d : Fin 64) :
    (val_main_v103 (F := Ideal) (xA A) (gA A) (wA A) (bA A)) (ix5 0 n c h d) = ((keys (A.v h) n c d : ℝ) : EReal) :=
  (congrFun (same_v _ _ _ _) _).trans (Cert.AttnBwd.Reference.vv_eq A n c h d)

theorem p_eq (n : Fin 32) (h g : Fin 4) (a : Fin 128) (c : Fin 256) :
    (val_main_v156 (F := Ideal) (xA A) (gA A) (wA A) (bA A) (sinkA A)) (ix6 0 n h g a c) = ((A.P n h g a c : ℝ) : EReal) :=
  (congrFun (same_p _ _ _ _ _) _).trans (Cert.AttnBwd.Reference.prob_eq n h g a c)

theorem o_eq (n : Fin 32) (a : Fin 128) (h g : Fin 4) (d : Fin 64) :
    (val_main_v158 (F := Ideal) (xA A) (gA A) (wA A) (bA A) (sinkA A)) (ix6 0 n a h g d) = ((o A n h g a d : ℝ) : EReal) := by
  pointwise [val_main_v157, val_main_v158, dot_S1x32x256x4x64_S1x32x4x4x128x256_S1x32x4x64x4x128_2_5_4_34_013_012]
  simp only [v_eq, p_eq, mul_coe, coe_sum]
  exact congrArg (fun r : ℝ => (r : EReal)) (Finset.sum_congr rfl fun c _ => mul_comm _ _)

variable {A} {a0 : FVec Ideal S1x4096x1024 .f32} {a1 : FVec Ideal S2x1024 .f32} {a2 : FVec Ideal S1x1024x1536 .f32} {a3 : FVec Ideal S1x1536 .f32} {a4 : FVec Ideal S1x16 .f32}

theorem out_eq (h0 : a0 = xA A) (h1 : a1 = gA A) (h2 : a2 = wA A) (h3 : a3 = bA A) (h4 : a4 = sinkA A) : val_main_v161 (F := Ideal) a0 a1 a2 a3 a4 = out A := by
  subst h0 h1 h2 h3 h4
  funext i
  idx_vars i
  pointwise [val_main_v159, val_main_v160, val_main_v161]
  rw [o_eq]
  rfl

end Cert.AttnFwd.Reference

end
-- ==== Proof.AttnFwd.Claim.lean ====
/- The forward call and its reference end with the same array. -/
module

public import proofs.«01_k».proof.Defs
public import proofs.«01_k».proof.Proof.AttnFwd.Kernel
public import proofs.«01_k».proof.Proof.AttnFwd.Reference
public import proofs.«01_k».proof.Proof.Gen.AttnFwdReferenceIdeal.Run
public import proofs.«01_k».proof.Proof.Gen.Pre_attn_fwd_finite
public import proofs.«01_k».proof.Proof.Gen.AttnFwd

@[expose] public section

set_option maxRecDepth 16384

noncomputable section

namespace Cert.AttnFwd

open Idealize.ShloMosaic Idealize.ShloMosaic.TcCoe Idealize.SL.Sem Cert.Reals Cert.AttnBwd

/-- The real values of the five arguments; there is no gradient that comes in. -/
def args (m : (ℓ : Loc AttnFwdIdeal.nD AttnFwdIdeal.τ AttnFwdIdeal.sig) → Buf (Elt Ideal) ℓ) (c : Dev AttnFwdIdeal.nD) : Arrays where
  dy := fun _ => 0
  x := re (s := SX) (m ((c.tc : Thread AttnFwdIdeal.nD AttnFwdIdeal.τ).loc AttnFwdIdeal.main_arg0))
  g := re (s := SG) (m ((c.tc : Thread AttnFwdIdeal.nD AttnFwdIdeal.τ).loc AttnFwdIdeal.main_arg1))
  w := re (s := SW) (m ((c.tc : Thread AttnFwdIdeal.nD AttnFwdIdeal.τ).loc AttnFwdIdeal.main_arg2))
  b := re (s := SB) (m ((c.tc : Thread AttnFwdIdeal.nD AttnFwdIdeal.τ).loc AttnFwdIdeal.main_arg3))
  sink := re (s := SS) (m ((c.tc : Thread AttnFwdIdeal.nD AttnFwdIdeal.τ).loc AttnFwdIdeal.main_arg4))

attribute [local instance] Cert.AttnFwdIdeal.Gen.facts Cert.AttnFwdReferenceIdeal.Gen.facts Cert.Pre_attn_fwd_finite.Gen.facts in
theorem algebraic : Cert.algebraic_AttnFwdIdeal_AttnFwdReferenceIdeal_pre_attn_fwd_finite := by
  intro m g m' g' hpre hargs
  have hA : ∀ c, Kernel.Args m c (args m c) := fun c =>
    ⟨eq_re (hpre c).1, eq_re (hpre c).2.1, eq_re (hpre c).2.2.1, eq_re (hpre c).2.2.2.1, eq_re (hpre c).2.2.2.2⟩
  refine ⟨fun c => out (args m c),
    (θ_run _ _ _).mono (fun r h c => ⟨(h c).1.trans (Kernel.out_final (hA c)), (h c).2⟩) (Cert.AttnFwdIdeal.Value.run_blocks m g),
    (θ_run _ _ _).mono (fun r h c => ⟨(h c).1.trans ((AttnFwdReferenceIdeal.Read.val_main_v161_eq _).trans ?_), (h c).2⟩)
      (Cert.AttnFwdReferenceIdeal.Value.run m' g')⟩
  obtain ⟨a0, a1, a2, a3, a4⟩ := hargs c
  exact Reference.out_eq (a0.trans (hA c).x) (a1.trans (hA c).g) (a2.trans (hA c).w) (a3.trans (hA c).b) (a4.trans (hA c).sink)

attribute [local instance] Cert.AttnFwdReferenceIdeal.Gen.facts in
/-- The reference ends with its arguments as they were and, having no semaphores, with every counter at zero. -/
theorem reference_frame : Cert.quiescent_AttnFwdReferenceIdeal := fun m ρ _ =>
  (θ_run _ _ _).mono (fun r h => ⟨fun c => (h c).2, sem_eq_zero_of_no_sems rfl r.2⟩) (Cert.AttnFwdReferenceIdeal.Value.run m ρ)

end Cert.AttnFwd

end
-- ==== Proof.lean ====
/- The claims: each frame is the run of the program that the generated modules give, each value claim the theorem of the module named after its call. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.QkvBwd.Claim
public import proofs.«01_k».proof.Proof.Gen.SguMix
public import proofs.«01_k».proof.Proof.Gen.SguMix.Frame
public import proofs.«01_k».proof.Proof.Gen.SguMixIdeal
public import proofs.«01_k».proof.Proof.Gen.SguMixIdeal.Value
public import proofs.«01_k».proof.Proof.Gen.SguMixReferenceIdeal
public import proofs.«01_k».proof.Proof.Gen.SguMixReferenceIdeal.Run
public import proofs.«01_k».proof.Proof.Gen.SguMixReferenceIdeal.Read
public import proofs.«01_k».proof.Proof.Gen.Pre_sgu_finite
public import proofs.«01_k».proof.Proof.SguBwd.Claim
public import proofs.«01_k».proof.Proof.Gen.Attn
public import proofs.«01_k».proof.Proof.Gen.Attn.Frame
public import proofs.«01_k».proof.Proof.Gen.AttnIdeal
public import proofs.«01_k».proof.Proof.Gen.AttnIdeal.Value
public import proofs.«01_k».proof.Proof.Gen.AttnReferenceIdeal
public import proofs.«01_k».proof.Proof.Gen.AttnReferenceIdeal.Run
public import proofs.«01_k».proof.Proof.Gen.AttnReferenceIdeal.Read
public import proofs.«01_k».proof.Proof.Gen.Pre_attn_finite
public import proofs.«01_k».proof.Proof.AttnBwd.Claim
public import proofs.«01_k».proof.Proof.Gen.AttnOut
public import proofs.«01_k».proof.Proof.Gen.AttnOut.Frame
public import proofs.«01_k».proof.Proof.Gen.AttnOutIdeal
public import proofs.«01_k».proof.Proof.Gen.AttnOutIdeal.Value
public import proofs.«01_k».proof.Proof.Gen.AttnOutReferenceIdeal
public import proofs.«01_k».proof.Proof.Gen.AttnOutReferenceIdeal.Run
public import proofs.«01_k».proof.Proof.Gen.AttnOutReferenceIdeal.Read
public import proofs.«01_k».proof.Proof.Gen.Pre_attn_out_finite
public import proofs.«01_k».proof.Proof.AttnOutBwd.Claim
public import proofs.«01_k».proof.Proof.Gen.SguOut
public import proofs.«01_k».proof.Proof.Gen.SguOut.Frame
public import proofs.«01_k».proof.Proof.Gen.SguOutIdeal
public import proofs.«01_k».proof.Proof.Gen.SguOutIdeal.Value
public import proofs.«01_k».proof.Proof.Gen.SguOutReferenceIdeal
public import proofs.«01_k».proof.Proof.Gen.SguOutReferenceIdeal.Run
public import proofs.«01_k».proof.Proof.Gen.SguOutReferenceIdeal.Read
public import proofs.«01_k».proof.Proof.Gen.Pre_sgu_out_finite
public import proofs.«01_k».proof.Proof.SguOutBwd.Claim
public import proofs.«01_k».proof.Proof.Gen.SguIn
public import proofs.«01_k».proof.Proof.Gen.SguIn.Frame
public import proofs.«01_k».proof.Proof.Gen.SguInIdeal
public import proofs.«01_k».proof.Proof.Gen.SguInIdeal.Value
public import proofs.«01_k».proof.Proof.Gen.SguInReferenceIdeal
public import proofs.«01_k».proof.Proof.Gen.SguInReferenceIdeal.Run
public import proofs.«01_k».proof.Proof.Gen.SguInReferenceIdeal.Read
public import proofs.«01_k».proof.Proof.Gen.Pre_sgu_in_finite
public import proofs.«01_k».proof.Proof.SguInBwd.Claim
public import proofs.«01_k».proof.Proof.Gen.FfnLast
public import proofs.«01_k».proof.Proof.Gen.FfnLast.Frame
public import proofs.«01_k».proof.Proof.Gen.FfnLastIdeal
public import proofs.«01_k».proof.Proof.Gen.FfnLastIdeal.Value
public import proofs.«01_k».proof.Proof.Gen.FfnLastReferenceIdeal
public import proofs.«01_k».proof.Proof.Gen.FfnLastReferenceIdeal.Run
public import proofs.«01_k».proof.Proof.Gen.FfnLastReferenceIdeal.Read
public import proofs.«01_k».proof.Proof.Gen.Pre_ffn_last_finite
public import proofs.«01_k».proof.Proof.FfnLastBwd.Claim
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_ffn_finite
public import proofs.«01_k».proof.Proof.FfnBwd.Claim
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Value
public import proofs.«01_k».proof.Proof.Gen.AttnFwdReferenceIdeal
public import proofs.«01_k».proof.Proof.Gen.AttnFwdReferenceIdeal.Run
public import proofs.«01_k».proof.Proof.Gen.AttnFwdReferenceIdeal.Read
public import proofs.«01_k».proof.Proof.Gen.Pre_attn_fwd_finite
public import proofs.«01_k».proof.Proof.AttnFwd.Claim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts,
  Cert.KernelIdeal.Gen.facts,
  Cert.ReferenceIdeal.Gen.facts,
  Cert.SguMix.Gen.facts,
  Cert.SguMixIdeal.Gen.facts,
  Cert.SguMixReferenceIdeal.Gen.facts,
  Cert.Attn.Gen.facts,
  Cert.AttnIdeal.Gen.facts,
  Cert.AttnReferenceIdeal.Gen.facts,
  Cert.AttnOut.Gen.facts,
  Cert.AttnOutIdeal.Gen.facts,
  Cert.AttnOutReferenceIdeal.Gen.facts,
  Cert.SguOut.Gen.facts,
  Cert.SguOutIdeal.Gen.facts,
  Cert.SguOutReferenceIdeal.Gen.facts,
  Cert.SguIn.Gen.facts,
  Cert.SguInIdeal.Gen.facts,
  Cert.SguInReferenceIdeal.Gen.facts,
  Cert.FfnLast.Gen.facts,
  Cert.FfnLastIdeal.Gen.facts,
  Cert.FfnLastReferenceIdeal.Gen.facts,
  Cert.Ffn.Gen.facts,
  Cert.FfnIdeal.Gen.facts,
  Cert.FfnReferenceIdeal.Gen.facts,
  Cert.AttnFwd.Gen.facts,
  Cert.AttnFwdIdeal.Gen.facts,
  Cert.AttnFwdReferenceIdeal.Gen.facts,
  Cert.Pre_finite.Gen.facts,
  Cert.Pre_sgu_finite.Gen.facts,
  Cert.Pre_attn_finite.Gen.facts,
  Cert.Pre_attn_out_finite.Gen.facts,
  Cert.Pre_sgu_out_finite.Gen.facts,
  Cert.Pre_sgu_in_finite.Gen.facts,
  Cert.Pre_ffn_last_finite.Gen.facts,
  Cert.Pre_ffn_finite.Gen.facts,
  Cert.Pre_attn_fwd_finite.Gen.facts, by
  exact ⟨fun m ρ _ => Cert.Kernel.Gen.frame m ρ,
    fun m ρ _ => Cert.KernelIdeal.Gen.frame m ρ,
    fun m ρ _ => Cert.KernelIdeal.Gen.frame m ρ,
    fun m ρ _ => Cert.QkvBwd.reference_frame m ρ,
    fun m ρ _ => Cert.QkvBwd.reference_frame m ρ,
    fun m ρ _ => Cert.SguMix.Gen.frame m ρ,
    fun m ρ _ => Cert.SguMixIdeal.Gen.frame m ρ,
    fun m ρ _ => Cert.SguMixIdeal.Gen.frame m ρ,
    fun m ρ _ => Cert.SguBwd.reference_frame m ρ trivial,
    fun m ρ _ => Cert.SguBwd.reference_frame m ρ trivial,
    fun m ρ _ => Cert.Attn.Gen.frame m ρ,
    fun m ρ _ => Cert.AttnIdeal.Gen.frame m ρ,
    fun m ρ _ => Cert.AttnIdeal.Gen.frame m ρ,
    fun m ρ _ => Cert.AttnBwd.reference_frame m ρ trivial,
    fun m ρ _ => Cert.AttnBwd.reference_frame m ρ trivial,
    fun m ρ _ => Cert.AttnOut.Gen.frame m ρ,
    fun m ρ _ => Cert.AttnOutIdeal.Gen.frame m ρ,
    fun m ρ _ => Cert.AttnOutIdeal.Gen.frame m ρ,
    fun m ρ _ => Cert.AttnOutBwd.reference_frame m ρ trivial,
    fun m ρ _ => Cert.AttnOutBwd.reference_frame m ρ trivial,
    fun m ρ _ => Cert.SguOut.Gen.frame m ρ,
    fun m ρ _ => Cert.SguOutIdeal.Gen.frame m ρ,
    fun m ρ _ => Cert.SguOutIdeal.Gen.frame m ρ,
    fun m ρ _ => Cert.SguOutBwd.reference_frame m ρ trivial,
    fun m ρ _ => Cert.SguOutBwd.reference_frame m ρ trivial,
    fun m ρ _ => Cert.SguIn.Gen.frame m ρ,
    fun m ρ _ => Cert.SguInIdeal.Gen.frame m ρ,
    fun m ρ _ => Cert.SguInIdeal.Gen.frame m ρ,
    fun m ρ _ => Cert.SguInBwd.reference_frame m ρ trivial,
    fun m ρ _ => Cert.SguInBwd.reference_frame m ρ trivial,
    fun m ρ _ => Cert.FfnLast.Gen.frame m ρ,
    fun m ρ _ => Cert.FfnLastIdeal.Gen.frame m ρ,
    fun m ρ _ => Cert.FfnLastIdeal.Gen.frame m ρ,
    fun m ρ _ => Cert.FfnLastBwd.reference_frame m ρ trivial,
    fun m ρ _ => Cert.FfnLastBwd.reference_frame m ρ trivial,
    fun m ρ _ => Cert.Ffn.Gen.frame m ρ,
    fun m ρ _ => Cert.FfnIdeal.Gen.frame m ρ,
    fun m ρ _ => Cert.FfnIdeal.Gen.frame m ρ,
    fun m ρ _ => Cert.FfnBwd.reference_frame m ρ trivial,
    fun m ρ _ => Cert.FfnBwd.reference_frame m ρ trivial,
    fun m ρ _ => Cert.AttnFwd.Gen.frame m ρ,
    fun m ρ _ => Cert.AttnFwdIdeal.Gen.frame m ρ,
    fun m ρ _ => Cert.AttnFwdIdeal.Gen.frame m ρ,
    fun m ρ _ => Cert.AttnFwd.reference_frame m ρ trivial,
    fun m ρ _ => Cert.AttnFwd.reference_frame m ρ trivial,
    trivial,
    Cert.QkvBwd.algebraic,
    ⟨IdealRules.named_const.statement Cert.SguMixIdeal.κ "gelu_cubic" .f32 0x3D372713#32 ((8943 / 200000 : ℝ) : EReal) rfl, IdealRules.named_const.statement Cert.SguMixIdeal.κ "gelu_slope" .f32 0x3E095D4F#32 ((26829 / 200000 : ℝ) : EReal) rfl⟩,
    Cert.SguBwd.algebraic,
    IdealRules.named_const.statement Cert.AttnIdeal.κ "mask" .f32 0xF149F2CA#32 (⊥ : EReal) rfl,
    Cert.AttnBwd.algebraic,
    trivial,
    Cert.AttnOutBwd.algebraic,
    trivial,
    Cert.SguOutBwd.algebraic,
    trivial,
    Cert.SguInBwd.algebraic,
    trivial,
    Cert.FfnLastBwd.algebraic,
    trivial,
    Cert.FfnBwd.algebraic,
    IdealRules.named_const.statement Cert.AttnFwdIdeal.κ "mask" .f32 0xF149F2CA#32 (⊥ : EReal) rfl,
    Cert.AttnFwd.algebraic⟩⟩

end Cert.Proof

end
